-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_RefFfnInIdeal (m : (ℓ : Loc Cert.RefFfnInIdeal.nD Cert.RefFfnInIdeal.τ Cert.RefFfnInIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_RefFfnOutIdeal (m : (ℓ : Loc Cert.RefFfnOutIdeal.nD Cert.RefFfnOutIdeal.τ Cert.RefFfnOutIdeal.sig) → Buf (Elt Ideal) ℓ) : Prop :=
  True

def Pre_FfnDa (m : (ℓ : Loc Cert.FfnDa.nD Cert.FfnDa.τ Cert.FfnDa.sig) → Buf (Elt Bits) ℓ) : Prop :=
  True

def Pre_FfnDaIdeal (m : (ℓ : Loc Cert.FfnDaIdeal.nD Cert.FfnDaIdeal.τ Cert.FfnDaIdeal.sig) → Buf (Elt Ideal) ℓ) : Prop :=
  True

def Pre_FfnDaIdeal_finite [hPre_finite : Cert.Pre_finite.Facts] (m : (ℓ : Loc Cert.FfnDaIdeal.nD Cert.FfnDaIdeal.τ Cert.FfnDaIdeal.sig) → Buf (Elt Ideal) ℓ) : Prop :=
  ∀ c : Dev Cert.FfnDaIdeal.nD,
    (Cert.Pre_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).1 = (fun _ => 1#1)
    ∧ (Cert.Pre_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.1 = (fun _ => 1#1)
    ∧ (Cert.Pre_finite.fn (F := Ideal) (m ((c.tc : Thread Cert.FfnDaIdeal.nD Cert.FfnDaIdeal.τ).loc Cert.FfnDaIdeal.main_arg0)) (m ((c.tc : Thread Cert.FfnDaIdeal.nD Cert.FfnDaIdeal.τ).loc Cert.FfnDaIdeal.main_arg1)) (m ((c.tc : Thread Cert.FfnDaIdeal.nD Cert.FfnDaIdeal.τ).loc Cert.FfnDaIdeal.main_arg2)) (m ((c.tc : Thread Cert.FfnDaIdeal.nD Cert.FfnDaIdeal.τ).loc Cert.FfnDaIdeal.main_arg3))).2.2 = (fun _ => 1#1)

def Pre_RefFfnDaIdeal (m : (ℓ : Loc Cert.RefFfnDaIdeal.nD Cert.RefFfnDaIdeal.τ Cert.RefFfnDaIdeal.sig) → Buf (Elt Ideal) ℓ) : Prop :=
  True

def Pre_RefFfnDaIdeal_finite [hPre_finite : Cert.Pre_finite.Facts] (m : (ℓ : Loc Cert.RefFfnDaIdeal.nD Cert.RefFfnDaIdeal.τ Cert.RefFfnDaIdeal.sig) → Buf (Elt Ideal) ℓ) : Prop :=
  ∀ c : Dev Cert.RefFfnDaIdeal.nD,
    (Cert.Pre_finite.fn (F := Ideal) (m ((c.tc : Thread Cert.RefFfnDaIdeal.nD Cert.RefFfnDaIdeal.τ).loc Cert.RefFfnDaIdeal.main_arg0)) (m ((c.tc : Thread Cert.RefFfnDaIdeal.nD Cert.RefFfnDaIdeal.τ).loc Cert.RefFfnDaIdeal.main_arg1)) (m ((c.tc : Thread Cert.RefFfnDaIdeal.nD Cert.RefFfnDaIdeal.τ).loc Cert.RefFfnDaIdeal.main_arg2)) (m ((c.tc : Thread Cert.RefFfnDaIdeal.nD Cert.RefFfnDaIdeal.τ).loc Cert.RefFfnDaIdeal.main_arg3))).1 = (fun _ => 1#1)
    ∧ (Cert.Pre_finite.fn (F := Ideal) (m ((c.tc : Thread Cert.RefFfnDaIdeal.nD Cert.RefFfnDaIdeal.τ).loc Cert.RefFfnDaIdeal.main_arg0)) (m ((c.tc : Thread Cert.RefFfnDaIdeal.nD Cert.RefFfnDaIdeal.τ).loc Cert.RefFfnDaIdeal.main_arg1)) (m ((c.tc : Thread Cert.RefFfnDaIdeal.nD Cert.RefFfnDaIdeal.τ).loc Cert.RefFfnDaIdeal.main_arg2)) (m ((c.tc : Thread Cert.RefFfnDaIdeal.nD Cert.RefFfnDaIdeal.τ).loc Cert.RefFfnDaIdeal.main_arg3))).2.1 = (fun _ => 1#1)
    ∧ (Cert.Pre_finite.fn (F := Ideal) (m ((c.tc : Thread Cert.RefFfnDaIdeal.nD Cert.RefFfnDaIdeal.τ).loc Cert.RefFfnDaIdeal.main_arg0)) (m ((c.tc : Thread Cert.RefFfnDaIdeal.nD Cert.RefFfnDaIdeal.τ).loc Cert.RefFfnDaIdeal.main_arg1)) (m ((c.tc : Thread Cert.RefFfnDaIdeal.nD Cert.RefFfnDaIdeal.τ).loc Cert.RefFfnDaIdeal.main_arg2)) (m ((c.tc : Thread Cert.RefFfnDaIdeal.nD Cert.RefFfnDaIdeal.τ).loc Cert.RefFfnDaIdeal.main_arg3))).2.2 = (fun _ => 1#1)

def Pre_FfnDwout (m : (ℓ : Loc Cert.FfnDwout.nD Cert.FfnDwout.τ Cert.FfnDwout.sig) → Buf (Elt Bits) ℓ) : Prop :=
  True

def Pre_FfnDwoutIdeal (m : (ℓ : Loc Cert.FfnDwoutIdeal.nD Cert.FfnDwoutIdeal.τ Cert.FfnDwoutIdeal.sig) → Buf (Elt Ideal) ℓ) : Prop :=
  True

def Pre_RefFfnDwoutIdeal (m : (ℓ : Loc Cert.RefFfnDwoutIdeal.nD Cert.RefFfnDwoutIdeal.τ Cert.RefFfnDwoutIdeal.sig) → Buf (Elt Ideal) ℓ) : Prop :=
  True

def Pre_FfnDf (m : (ℓ : Loc Cert.FfnDf.nD Cert.FfnDf.τ Cert.FfnDf.sig) → Buf (Elt Bits) ℓ) : Prop :=
  True

def Pre_FfnDfIdeal (m : (ℓ : Loc Cert.FfnDfIdeal.nD Cert.FfnDfIdeal.τ Cert.FfnDfIdeal.sig) → Buf (Elt Ideal) ℓ) : Prop :=
  True

def Pre_RefFfnDfIdeal (m : (ℓ : Loc Cert.RefFfnDfIdeal.nD Cert.RefFfnDfIdeal.τ Cert.RefFfnDfIdeal.sig) → Buf (Elt Ideal) ℓ) : Prop :=
  True

def Pre_FfnDwin (m : (ℓ : Loc Cert.FfnDwin.nD Cert.FfnDwin.τ Cert.FfnDwin.sig) → Buf (Elt Bits) ℓ) : Prop :=
  True

def Pre_FfnDwinIdeal (m : (ℓ : Loc Cert.FfnDwinIdeal.nD Cert.FfnDwinIdeal.τ Cert.FfnDwinIdeal.sig) → Buf (Elt Ideal) ℓ) : Prop :=
  True

def Pre_RefFfnDwinIdeal (m : (ℓ : Loc Cert.RefFfnDwinIdeal.nD Cert.RefFfnDwinIdeal.τ Cert.RefFfnDwinIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_RefGluIdeal (m : (ℓ : Loc Cert.RefGluIdeal.nD Cert.RefGluIdeal.τ Cert.RefGluIdeal.sig) → Buf (Elt Ideal) ℓ) : Prop :=
  True

def Pre_GluDz (m : (ℓ : Loc Cert.GluDz.nD Cert.GluDz.τ Cert.GluDz.sig) → Buf (Elt Bits) ℓ) : Prop :=
  True

def Pre_GluDzIdeal (m : (ℓ : Loc Cert.GluDzIdeal.nD Cert.GluDzIdeal.τ Cert.GluDzIdeal.sig) → Buf (Elt Ideal) ℓ) : Prop :=
  True

def Pre_RefGluDzIdeal (m : (ℓ : Loc Cert.RefGluDzIdeal.nD Cert.RefGluDzIdeal.τ Cert.RefGluDzIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_RefGluDwIdeal (m : (ℓ : Loc Cert.RefGluDwIdeal.nD Cert.RefGluDwIdeal.τ Cert.RefGluDwIdeal.sig) → Buf (Elt Ideal) ℓ) : Prop :=
  True

def Pre_AttnKv (m : (ℓ : Loc Cert.AttnKv.nD Cert.AttnKv.τ Cert.AttnKv.sig) → Buf (Elt Bits) ℓ) : Prop :=
  True

def Pre_AttnKvIdeal (m : (ℓ : Loc Cert.AttnKvIdeal.nD Cert.AttnKvIdeal.τ Cert.AttnKvIdeal.sig) → Buf (Elt Ideal) ℓ) : Prop :=
  True

def Pre_RefAttnKvIdeal (m : (ℓ : Loc Cert.RefAttnKvIdeal.nD Cert.RefAttnKvIdeal.τ Cert.RefAttnKvIdeal.sig) → Buf (Elt Ideal) ℓ) : Prop :=
  True

def Pre_AttnQ (m : (ℓ : Loc Cert.AttnQ.nD Cert.AttnQ.τ Cert.AttnQ.sig) → Buf (Elt Bits) ℓ) : Prop :=
  True

def Pre_AttnQIdeal (m : (ℓ : Loc Cert.AttnQIdeal.nD Cert.AttnQIdeal.τ Cert.AttnQIdeal.sig) → Buf (Elt Ideal) ℓ) : Prop :=
  True

def Pre_RefAttnQIdeal (m : (ℓ : Loc Cert.RefAttnQIdeal.nD Cert.RefAttnQIdeal.τ Cert.RefAttnQIdeal.sig) → Buf (Elt Ideal) ℓ) : Prop :=
  True

def Pre_AttnKvt (m : (ℓ : Loc Cert.AttnKvt.nD Cert.AttnKvt.τ Cert.AttnKvt.sig) → Buf (Elt Bits) ℓ) : Prop :=
  True

def Pre_AttnKvtIdeal (m : (ℓ : Loc Cert.AttnKvtIdeal.nD Cert.AttnKvtIdeal.τ Cert.AttnKvtIdeal.sig) → Buf (Elt Ideal) ℓ) : Prop :=
  True

def Pre_RefAttnKvtIdeal (m : (ℓ : Loc Cert.RefAttnKvtIdeal.nD Cert.RefAttnKvtIdeal.τ Cert.RefAttnKvtIdeal.sig) → Buf (Elt Ideal) ℓ) : Prop :=
  True

def Pre_AttnO (m : (ℓ : Loc Cert.AttnO.nD Cert.AttnO.τ Cert.AttnO.sig) → Buf (Elt Bits) ℓ) : Prop :=
  True

def Pre_AttnOIdeal (m : (ℓ : Loc Cert.AttnOIdeal.nD Cert.AttnOIdeal.τ Cert.AttnOIdeal.sig) → Buf (Elt Ideal) ℓ) : Prop :=
  True

def Pre_RefAttnOIdeal (m : (ℓ : Loc Cert.RefAttnOIdeal.nD Cert.RefAttnOIdeal.τ Cert.RefAttnOIdeal.sig) → Buf (Elt Ideal) ℓ) : Prop :=
  True

def Pre_AttnDo (m : (ℓ : Loc Cert.AttnDo.nD Cert.AttnDo.τ Cert.AttnDo.sig) → Buf (Elt Bits) ℓ) : Prop :=
  True

def Pre_AttnDoIdeal (m : (ℓ : Loc Cert.AttnDoIdeal.nD Cert.AttnDoIdeal.τ Cert.AttnDoIdeal.sig) → Buf (Elt Ideal) ℓ) : Prop :=
  True

def Pre_RefAttnDoIdeal (m : (ℓ : Loc Cert.RefAttnDoIdeal.nD Cert.RefAttnDoIdeal.τ Cert.RefAttnDoIdeal.sig) → Buf (Elt Ideal) ℓ) : Prop :=
  True

def Pre_AttnDwo (m : (ℓ : Loc Cert.AttnDwo.nD Cert.AttnDwo.τ Cert.AttnDwo.sig) → Buf (Elt Bits) ℓ) : Prop :=
  True

def Pre_AttnDwoIdeal (m : (ℓ : Loc Cert.AttnDwoIdeal.nD Cert.AttnDwoIdeal.τ Cert.AttnDwoIdeal.sig) → Buf (Elt Ideal) ℓ) : Prop :=
  True

def Pre_RefAttnDwoIdeal (m : (ℓ : Loc Cert.RefAttnDwoIdeal.nD Cert.RefAttnDwoIdeal.τ Cert.RefAttnDwoIdeal.sig) → Buf (Elt Ideal) ℓ) : Prop :=
  True

def Pre_AttnDqn (m : (ℓ : Loc Cert.AttnDqn.nD Cert.AttnDqn.τ Cert.AttnDqn.sig) → Buf (Elt Bits) ℓ) : Prop :=
  True

def Pre_AttnDqnIdeal (m : (ℓ : Loc Cert.AttnDqnIdeal.nD Cert.AttnDqnIdeal.τ Cert.AttnDqnIdeal.sig) → Buf (Elt Ideal) ℓ) : Prop :=
  True

def Pre_RefAttnDqnIdeal (m : (ℓ : Loc Cert.RefAttnDqnIdeal.nD Cert.RefAttnDqnIdeal.τ Cert.RefAttnDqnIdeal.sig) → Buf (Elt Ideal) ℓ) : Prop :=
  True

def Pre_AttnDwq (m : (ℓ : Loc Cert.AttnDwq.nD Cert.AttnDwq.τ Cert.AttnDwq.sig) → Buf (Elt Bits) ℓ) : Prop :=
  True

def Pre_AttnDwqIdeal (m : (ℓ : Loc Cert.AttnDwqIdeal.nD Cert.AttnDwqIdeal.τ Cert.AttnDwqIdeal.sig) → Buf (Elt Ideal) ℓ) : Prop :=
  True

def Pre_RefAttnDwqIdeal (m : (ℓ : Loc Cert.RefAttnDwqIdeal.nD Cert.RefAttnDwqIdeal.τ Cert.RefAttnDwqIdeal.sig) → Buf (Elt Ideal) ℓ) : Prop :=
  True

def Pre_AttnDkvn (m : (ℓ : Loc Cert.AttnDkvn.nD Cert.AttnDkvn.τ Cert.AttnDkvn.sig) → Buf (Elt Bits) ℓ) : Prop :=
  True

def Pre_AttnDkvnIdeal (m : (ℓ : Loc Cert.AttnDkvnIdeal.nD Cert.AttnDkvnIdeal.τ Cert.AttnDkvnIdeal.sig) → Buf (Elt Ideal) ℓ) : Prop :=
  True

def Pre_RefAttnDkvnIdeal (m : (ℓ : Loc Cert.RefAttnDkvnIdeal.nD Cert.RefAttnDkvnIdeal.τ Cert.RefAttnDkvnIdeal.sig) → Buf (Elt Ideal) ℓ) : Prop :=
  True

def Pre_AttnDwk (m : (ℓ : Loc Cert.AttnDwk.nD Cert.AttnDwk.τ Cert.AttnDwk.sig) → Buf (Elt Bits) ℓ) : Prop :=
  True

def Pre_AttnDwkIdeal (m : (ℓ : Loc Cert.AttnDwkIdeal.nD Cert.AttnDwkIdeal.τ Cert.AttnDwkIdeal.sig) → Buf (Elt Ideal) ℓ) : Prop :=
  True

def Pre_RefAttnDwkIdeal (m : (ℓ : Loc Cert.RefAttnDwkIdeal.nD Cert.RefAttnDwkIdeal.τ Cert.RefAttnDwkIdeal.sig) → Buf (Elt Ideal) ℓ) : Prop :=
  True

def Pre_AdamGlu (m : (ℓ : Loc Cert.AdamGlu.nD Cert.AdamGlu.τ Cert.AdamGlu.sig) → Buf (Elt Bits) ℓ) : Prop :=
  True

def Pre_AdamGluIdeal (m : (ℓ : Loc Cert.AdamGluIdeal.nD Cert.AdamGluIdeal.τ Cert.AdamGluIdeal.sig) → Buf (Elt Ideal) ℓ) : Prop :=
  True

def Pre_RefAdamGluIdeal (m : (ℓ : Loc Cert.RefAdamGluIdeal.nD Cert.RefAdamGluIdeal.τ Cert.RefAdamGluIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_RefAdamQIdeal (m : (ℓ : Loc Cert.RefAdamQIdeal.nD Cert.RefAdamQIdeal.τ Cert.RefAdamQIdeal.sig) → Buf (Elt Ideal) ℓ) : Prop :=
  True

def Pre_AdamFfnIn (m : (ℓ : Loc Cert.AdamFfnIn.nD Cert.AdamFfnIn.τ Cert.AdamFfnIn.sig) → Buf (Elt Bits) ℓ) : Prop :=
  True

def Pre_AdamFfnInIdeal (m : (ℓ : Loc Cert.AdamFfnInIdeal.nD Cert.AdamFfnInIdeal.τ Cert.AdamFfnInIdeal.sig) → Buf (Elt Ideal) ℓ) : Prop :=
  True

def Pre_RefAdamFfnInIdeal (m : (ℓ : Loc Cert.RefAdamFfnInIdeal.nD Cert.RefAdamFfnInIdeal.τ Cert.RefAdamFfnInIdeal.sig) → Buf (Elt Ideal) ℓ) : Prop :=
  True

def Pre_AdamFfnOut (m : (ℓ : Loc Cert.AdamFfnOut.nD Cert.AdamFfnOut.τ Cert.AdamFfnOut.sig) → Buf (Elt Bits) ℓ) : Prop :=
  True

def Pre_AdamFfnOutIdeal (m : (ℓ : Loc Cert.AdamFfnOutIdeal.nD Cert.AdamFfnOutIdeal.τ Cert.AdamFfnOutIdeal.sig) → Buf (Elt Ideal) ℓ) : Prop :=
  True

def Pre_RefAdamFfnOutIdeal (m : (ℓ : Loc Cert.RefAdamFfnOutIdeal.nD Cert.RefAdamFfnOutIdeal.τ Cert.RefAdamFfnOutIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_RefAdamSmallIdeal (m : (ℓ : Loc Cert.RefAdamSmallIdeal.nD Cert.RefAdamSmallIdeal.τ Cert.RefAdamSmallIdeal.sig) → Buf (Elt Ideal) ℓ) : Prop :=
  True

def Pre_AdamCols (m : (ℓ : Loc Cert.AdamCols.nD Cert.AdamCols.τ Cert.AdamCols.sig) → Buf (Elt Bits) ℓ) : Prop :=
  True

def Pre_AdamColsIdeal (m : (ℓ : Loc Cert.AdamColsIdeal.nD Cert.AdamColsIdeal.τ Cert.AdamColsIdeal.sig) → Buf (Elt Ideal) ℓ) : Prop :=
  True

def Pre_RefAdamColsIdeal (m : (ℓ : Loc Cert.RefAdamColsIdeal.nD Cert.RefAdamColsIdeal.τ Cert.RefAdamColsIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_RefNormIdeal (m : (ℓ : Loc Cert.RefNormIdeal.nD Cert.RefNormIdeal.τ Cert.RefNormIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_RefNormBwdIdeal (m : (ℓ : Loc Cert.RefNormBwdIdeal.nD Cert.RefNormBwdIdeal.τ Cert.RefNormBwdIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_RefLossIdeal (m : (ℓ : Loc Cert.RefLossIdeal.nD Cert.RefLossIdeal.τ Cert.RefLossIdeal.sig) → Buf (Elt Ideal) ℓ) : Prop :=
  True

def Pre_GluGates (m : (ℓ : Loc Cert.GluGates.nD Cert.GluGates.τ Cert.GluGates.sig) → Buf (Elt Bits) ℓ) : Prop :=
  True

def Pre_GluGatesIdeal (m : (ℓ : Loc Cert.GluGatesIdeal.nD Cert.GluGatesIdeal.τ Cert.GluGatesIdeal.sig) → Buf (Elt Ideal) ℓ) : Prop :=
  True

def Pre_RefGluGatesIdeal (m : (ℓ : Loc Cert.RefGluGatesIdeal.nD Cert.RefGluGatesIdeal.τ Cert.RefGluGatesIdeal.sig) → Buf (Elt Ideal) ℓ) : Prop :=
  True

def Pre_Gelu (m : (ℓ : Loc Cert.Gelu.nD Cert.Gelu.τ Cert.Gelu.sig) → Buf (Elt Bits) ℓ) : Prop :=
  True

def Pre_GeluIdeal (m : (ℓ : Loc Cert.GeluIdeal.nD Cert.GeluIdeal.τ Cert.GeluIdeal.sig) → Buf (Elt Ideal) ℓ) : Prop :=
  True

def Pre_RefGeluIdeal (m : (ℓ : Loc Cert.RefGeluIdeal.nD Cert.RefGeluIdeal.τ Cert.RefGeluIdeal.sig) → Buf (Elt Ideal) ℓ) : Prop :=
  True

def Pre_GeluBwd (m : (ℓ : Loc Cert.GeluBwd.nD Cert.GeluBwd.τ Cert.GeluBwd.sig) → Buf (Elt Bits) ℓ) : Prop :=
  True

def Pre_GeluBwdIdeal (m : (ℓ : Loc Cert.GeluBwdIdeal.nD Cert.GeluBwdIdeal.τ Cert.GeluBwdIdeal.sig) → Buf (Elt Ideal) ℓ) : Prop :=
  True

def Pre_GeluBwdIdeal_finite_dz [hPre_finite_dz : Cert.Pre_finite_dz.Facts] (m : (ℓ : Loc Cert.GeluBwdIdeal.nD Cert.GeluBwdIdeal.τ Cert.GeluBwdIdeal.sig) → Buf (Elt Ideal) ℓ) : Prop :=
  ∀ c : Dev Cert.GeluBwdIdeal.nD,
    (Cert.Pre_finite_dz.fn (F := Ideal) (m ((c.tc : Thread Cert.GeluBwdIdeal.nD Cert.GeluBwdIdeal.τ).loc Cert.GeluBwdIdeal.main_arg0)) (m ((c.tc : Thread Cert.GeluBwdIdeal.nD Cert.GeluBwdIdeal.τ).loc Cert.GeluBwdIdeal.main_arg1)) (m ((c.tc : Thread Cert.GeluBwdIdeal.nD Cert.GeluBwdIdeal.τ).loc Cert.GeluBwdIdeal.main_arg2)) (m ((c.tc : Thread Cert.GeluBwdIdeal.nD Cert.GeluBwdIdeal.τ).loc Cert.GeluBwdIdeal.main_arg3))) = (fun _ => 1#1)

def Pre_RefGeluBwdIdeal (m : (ℓ : Loc Cert.RefGeluBwdIdeal.nD Cert.RefGeluBwdIdeal.τ Cert.RefGeluBwdIdeal.sig) → Buf (Elt Ideal) ℓ) : Prop :=
  True

def Pre_RefGeluBwdIdeal_finite_dz [hPre_finite_dz : Cert.Pre_finite_dz.Facts] (m : (ℓ : Loc Cert.RefGeluBwdIdeal.nD Cert.RefGeluBwdIdeal.τ Cert.RefGeluBwdIdeal.sig) → Buf (Elt Ideal) ℓ) : Prop :=
  ∀ c : Dev Cert.RefGeluBwdIdeal.nD,
    (Cert.Pre_finite_dz.fn (F := Ideal) (m ((c.tc : Thread Cert.RefGeluBwdIdeal.nD Cert.RefGeluBwdIdeal.τ).loc Cert.RefGeluBwdIdeal.main_arg0)) (m ((c.tc : Thread Cert.RefGeluBwdIdeal.nD Cert.RefGeluBwdIdeal.τ).loc Cert.RefGeluBwdIdeal.main_arg1)) (m ((c.tc : Thread Cert.RefGeluBwdIdeal.nD Cert.RefGeluBwdIdeal.τ).loc Cert.RefGeluBwdIdeal.main_arg2)) (m ((c.tc : Thread Cert.RefGeluBwdIdeal.nD Cert.RefGeluBwdIdeal.τ).loc Cert.RefGeluBwdIdeal.main_arg3))) = (fun _ => 1#1)

def Pre_BProd (m : (ℓ : Loc Cert.BProd.nD Cert.BProd.τ Cert.BProd.sig) → Buf (Elt Bits) ℓ) : Prop :=
  True

def Pre_BProdIdeal (m : (ℓ : Loc Cert.BProdIdeal.nD Cert.BProdIdeal.τ Cert.BProdIdeal.sig) → Buf (Elt Ideal) ℓ) : Prop :=
  True

def Pre_RefBProdIdeal (m : (ℓ : Loc Cert.RefBProdIdeal.nD Cert.RefBProdIdeal.τ Cert.RefBProdIdeal.sig) → Buf (Elt Ideal) ℓ) : Prop :=
  True

def Pre_CProd (m : (ℓ : Loc Cert.CProd.nD Cert.CProd.τ Cert.CProd.sig) → Buf (Elt Bits) ℓ) : Prop :=
  True

def Pre_CProdIdeal (m : (ℓ : Loc Cert.CProdIdeal.nD Cert.CProdIdeal.τ Cert.CProdIdeal.sig) → Buf (Elt Ideal) ℓ) : Prop :=
  True

def Pre_CProdIdeal_finite_imag [hPre_finite_imag : Cert.Pre_finite_imag.Facts] (m : (ℓ : Loc Cert.CProdIdeal.nD Cert.CProdIdeal.τ Cert.CProdIdeal.sig) → Buf (Elt Ideal) ℓ) : Prop :=
  ∀ c : Dev Cert.CProdIdeal.nD,
    (Cert.Pre_finite_imag.fn (F := Ideal) (m ((c.tc : Thread Cert.CProdIdeal.nD Cert.CProdIdeal.τ).loc Cert.CProdIdeal.main_arg0)) (m ((c.tc : Thread Cert.CProdIdeal.nD Cert.CProdIdeal.τ).loc Cert.CProdIdeal.main_arg1)) (m ((c.tc : Thread Cert.CProdIdeal.nD Cert.CProdIdeal.τ).loc Cert.CProdIdeal.main_arg2)) (m ((c.tc : Thread Cert.CProdIdeal.nD Cert.CProdIdeal.τ).loc Cert.CProdIdeal.main_arg3))).1 = (fun _ => 1#1)
    ∧ (Cert.Pre_finite_imag.fn (F := Ideal) (m ((c.tc : Thread Cert.CProdIdeal.nD Cert.CProdIdeal.τ).loc Cert.CProdIdeal.main_arg0)) (m ((c.tc : Thread Cert.CProdIdeal.nD Cert.CProdIdeal.τ).loc Cert.CProdIdeal.main_arg1)) (m ((c.tc : Thread Cert.CProdIdeal.nD Cert.CProdIdeal.τ).loc Cert.CProdIdeal.main_arg2)) (m ((c.tc : Thread Cert.CProdIdeal.nD Cert.CProdIdeal.τ).loc Cert.CProdIdeal.main_arg3))).2 = (fun _ => 1#1)

def Pre_RefCProdIdeal (m : (ℓ : Loc Cert.RefCProdIdeal.nD Cert.RefCProdIdeal.τ Cert.RefCProdIdeal.sig) → Buf (Elt Ideal) ℓ) : Prop :=
  True

def Pre_RefCProdIdeal_finite_imag [hPre_finite_imag : Cert.Pre_finite_imag.Facts] (m : (ℓ : Loc Cert.RefCProdIdeal.nD Cert.RefCProdIdeal.τ Cert.RefCProdIdeal.sig) → Buf (Elt Ideal) ℓ) : Prop :=
  ∀ c : Dev Cert.RefCProdIdeal.nD,
    (Cert.Pre_finite_imag.fn (F := Ideal) (m ((c.tc : Thread Cert.RefCProdIdeal.nD Cert.RefCProdIdeal.τ).loc Cert.RefCProdIdeal.main_arg0)) (m ((c.tc : Thread Cert.RefCProdIdeal.nD Cert.RefCProdIdeal.τ).loc Cert.RefCProdIdeal.main_arg1)) (m ((c.tc : Thread Cert.RefCProdIdeal.nD Cert.RefCProdIdeal.τ).loc Cert.RefCProdIdeal.main_arg2)) (m ((c.tc : Thread Cert.RefCProdIdeal.nD Cert.RefCProdIdeal.τ).loc Cert.RefCProdIdeal.main_arg3))).1 = (fun _ => 1#1)
    ∧ (Cert.Pre_finite_imag.fn (F := Ideal) (m ((c.tc : Thread Cert.RefCProdIdeal.nD Cert.RefCProdIdeal.τ).loc Cert.RefCProdIdeal.main_arg0)) (m ((c.tc : Thread Cert.RefCProdIdeal.nD Cert.RefCProdIdeal.τ).loc Cert.RefCProdIdeal.main_arg1)) (m ((c.tc : Thread Cert.RefCProdIdeal.nD Cert.RefCProdIdeal.τ).loc Cert.RefCProdIdeal.main_arg2)) (m ((c.tc : Thread Cert.RefCProdIdeal.nD Cert.RefCProdIdeal.τ).loc Cert.RefCProdIdeal.main_arg3))).2 = (fun _ => 1#1)

def Pre_CGrad (m : (ℓ : Loc Cert.CGrad.nD Cert.CGrad.τ Cert.CGrad.sig) → Buf (Elt Bits) ℓ) : Prop :=
  True

def Pre_CGradIdeal (m : (ℓ : Loc Cert.CGradIdeal.nD Cert.CGradIdeal.τ Cert.CGradIdeal.sig) → Buf (Elt Ideal) ℓ) : Prop :=
  True

def Pre_RefCGradIdeal (m : (ℓ : Loc Cert.RefCGradIdeal.nD Cert.RefCGradIdeal.τ Cert.RefCGradIdeal.sig) → Buf (Elt Ideal) ℓ) : Prop :=
  True

def Pre_BGrad (m : (ℓ : Loc Cert.BGrad.nD Cert.BGrad.τ Cert.BGrad.sig) → Buf (Elt Bits) ℓ) : Prop :=
  True

def Pre_BGradIdeal (m : (ℓ : Loc Cert.BGradIdeal.nD Cert.BGradIdeal.τ Cert.BGradIdeal.sig) → Buf (Elt Ideal) ℓ) : Prop :=
  True

def Pre_RefBGradIdeal (m : (ℓ : Loc Cert.RefBGradIdeal.nD Cert.RefBGradIdeal.τ Cert.RefBGradIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_RefFfnInIdeal [hRefFfnInIdeal : Cert.RefFfnInIdeal.Facts] : Prop :=
  ∀ (m : (ℓ : Loc Cert.RefFfnInIdeal.nD Cert.RefFfnInIdeal.τ Cert.RefFfnInIdeal.sig) → Buf (Elt Ideal) ℓ) (g : Dev Cert.RefFfnInIdeal.nD → PrngReg), Pre_RefFfnInIdeal m →
    θ_run (Cert.RefFfnInIdeal.defs (F := Ideal)) (onTc (τ := Cert.RefFfnInIdeal.τ) (Cert.RefFfnInIdeal.main (F := Ideal))) ⟨m, fun _ => 0, g⟩ (fun r => (∀ c : Dev Cert.RefFfnInIdeal.nD,
      r.2.mem ((c.tc : Thread Cert.RefFfnInIdeal.nD Cert.RefFfnInIdeal.τ).loc Cert.RefFfnInIdeal.main_arg0) = m ((c.tc : Thread Cert.RefFfnInIdeal.nD Cert.RefFfnInIdeal.τ).loc Cert.RefFfnInIdeal.main_arg0)
      ∧ r.2.mem ((c.tc : Thread Cert.RefFfnInIdeal.nD Cert.RefFfnInIdeal.τ).loc Cert.RefFfnInIdeal.main_arg1) = m ((c.tc : Thread Cert.RefFfnInIdeal.nD Cert.RefFfnInIdeal.τ).loc Cert.RefFfnInIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_RefFfnOutIdeal [hRefFfnOutIdeal : Cert.RefFfnOutIdeal.Facts] : Prop :=
  ∀ (m : (ℓ : Loc Cert.RefFfnOutIdeal.nD Cert.RefFfnOutIdeal.τ Cert.RefFfnOutIdeal.sig) → Buf (Elt Ideal) ℓ) (g : Dev Cert.RefFfnOutIdeal.nD → PrngReg), Pre_RefFfnOutIdeal m →
    θ_run (Cert.RefFfnOutIdeal.defs (F := Ideal)) (onTc (τ := Cert.RefFfnOutIdeal.τ) (Cert.RefFfnOutIdeal.main (F := Ideal))) ⟨m, fun _ => 0, g⟩ (fun r => (∀ c : Dev Cert.RefFfnOutIdeal.nD,
      r.2.mem ((c.tc : Thread Cert.RefFfnOutIdeal.nD Cert.RefFfnOutIdeal.τ).loc Cert.RefFfnOutIdeal.main_arg0) = m ((c.tc : Thread Cert.RefFfnOutIdeal.nD Cert.RefFfnOutIdeal.τ).loc Cert.RefFfnOutIdeal.main_arg0)
      ∧ r.2.mem ((c.tc : Thread Cert.RefFfnOutIdeal.nD Cert.RefFfnOutIdeal.τ).loc Cert.RefFfnOutIdeal.main_arg1) = m ((c.tc : Thread Cert.RefFfnOutIdeal.nD Cert.RefFfnOutIdeal.τ).loc Cert.RefFfnOutIdeal.main_arg1)
      ∧ r.2.mem ((c.tc : Thread Cert.RefFfnOutIdeal.nD Cert.RefFfnOutIdeal.τ).loc Cert.RefFfnOutIdeal.main_arg2) = m ((c.tc : Thread Cert.RefFfnOutIdeal.nD Cert.RefFfnOutIdeal.τ).loc Cert.RefFfnOutIdeal.main_arg2))
      ∧ r.2.sem = fun _ => 0)

def quiescent_FfnDa [hFfnDa : Cert.FfnDa.Facts] : Prop :=
  ∀ (m : (ℓ : Loc Cert.FfnDa.nD Cert.FfnDa.τ Cert.FfnDa.sig) → Buf (Elt Bits) ℓ) (g : Dev Cert.FfnDa.nD → PrngReg), Pre_FfnDa m →
    θ_run (Cert.FfnDa.defs (F := Bits)) (onTc (τ := Cert.FfnDa.τ) (Cert.FfnDa.main (F := Bits))) ⟨m, fun _ => 0, g⟩ (fun r => (∀ c : Dev Cert.FfnDa.nD,
      r.2.mem ((c.tc : Thread Cert.FfnDa.nD Cert.FfnDa.τ).loc Cert.FfnDa.main_arg0) = m ((c.tc : Thread Cert.FfnDa.nD Cert.FfnDa.τ).loc Cert.FfnDa.main_arg0)
      ∧ r.2.mem ((c.tc : Thread Cert.FfnDa.nD Cert.FfnDa.τ).loc Cert.FfnDa.main_arg1) = m ((c.tc : Thread Cert.FfnDa.nD Cert.FfnDa.τ).loc Cert.FfnDa.main_arg1)
      ∧ r.2.mem ((c.tc : Thread Cert.FfnDa.nD Cert.FfnDa.τ).loc Cert.FfnDa.main_arg2) = m ((c.tc : Thread Cert.FfnDa.nD Cert.FfnDa.τ).loc Cert.FfnDa.main_arg2)
      ∧ r.2.mem ((c.tc : Thread Cert.FfnDa.nD Cert.FfnDa.τ).loc Cert.FfnDa.main_arg3) = m ((c.tc : Thread Cert.FfnDa.nD Cert.FfnDa.τ).loc Cert.FfnDa.main_arg3))
      ∧ r.2.sem = fun _ => 0)

def quiescent_FfnDaIdeal [hFfnDaIdeal : Cert.FfnDaIdeal.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_FfnDaIdeal_pre_finite [hFfnDaIdeal : Cert.FfnDaIdeal.Facts] [hPre_finite : Cert.Pre_finite.Facts] : Prop :=
  ∀ (m : (ℓ : Loc Cert.FfnDaIdeal.nD Cert.FfnDaIdeal.τ Cert.FfnDaIdeal.sig) → Buf (Elt Ideal) ℓ) (g : Dev Cert.FfnDaIdeal.nD → PrngReg), Pre_FfnDaIdeal_finite m →
    θ_run (Cert.FfnDaIdeal.defs (F := Ideal)) (onTc (τ := Cert.FfnDaIdeal.τ) (Cert.FfnDaIdeal.main (F := Ideal))) ⟨m, fun _ => 0, g⟩ (fun r => (∀ c : Dev Cert.FfnDaIdeal.nD,
      r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
      ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
      ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
      ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ r.2.sem = fun _ => 0)

def quiescent_RefFfnDaIdeal [hRefFfnDaIdeal : Cert.RefFfnDaIdeal.Facts] : Prop :=
  ∀ (m : (ℓ : Loc Cert.RefFfnDaIdeal.nD Cert.RefFfnDaIdeal.τ Cert.RefFfnDaIdeal.sig) → Buf (Elt Ideal) ℓ) (g : Dev Cert.RefFfnDaIdeal.nD → PrngReg), Pre_RefFfnDaIdeal m →
    θ_run (Cert.RefFfnDaIdeal.defs (F := Ideal)) (onTc (τ := Cert.RefFfnDaIdeal.τ) (Cert.RefFfnDaIdeal.main (F := Ideal))) ⟨m, fun _ => 0, g⟩ (fun r => (∀ c : Dev Cert.RefFfnDaIdeal.nD,
      r.2.mem ((c.tc : Thread Cert.RefFfnDaIdeal.nD Cert.RefFfnDaIdeal.τ).loc Cert.RefFfnDaIdeal.main_arg0) = m ((c.tc : Thread Cert.RefFfnDaIdeal.nD Cert.RefFfnDaIdeal.τ).loc Cert.RefFfnDaIdeal.main_arg0)
      ∧ r.2.mem ((c.tc : Thread Cert.RefFfnDaIdeal.nD Cert.RefFfnDaIdeal.τ).loc Cert.RefFfnDaIdeal.main_arg1) = m ((c.tc : Thread Cert.RefFfnDaIdeal.nD Cert.RefFfnDaIdeal.τ).loc Cert.RefFfnDaIdeal.main_arg1)
      ∧ r.2.mem ((c.tc : Thread Cert.RefFfnDaIdeal.nD Cert.RefFfnDaIdeal.τ).loc Cert.RefFfnDaIdeal.main_arg2) = m ((c.tc : Thread Cert.RefFfnDaIdeal.nD Cert.RefFfnDaIdeal.τ).loc Cert.RefFfnDaIdeal.main_arg2)
      ∧ r.2.mem ((c.tc : Thread Cert.RefFfnDaIdeal.nD Cert.RefFfnDaIdeal.τ).loc Cert.RefFfnDaIdeal.main_arg3) = m ((c.tc : Thread Cert.RefFfnDaIdeal.nD Cert.RefFfnDaIdeal.τ).loc Cert.RefFfnDaIdeal.main_arg3))
      ∧ r.2.sem = fun _ => 0)

def quiescent_RefFfnDaIdeal_pre_finite [hRefFfnDaIdeal : Cert.RefFfnDaIdeal.Facts] [hPre_finite : Cert.Pre_finite.Facts] : Prop :=
  ∀ (m : (ℓ : Loc Cert.RefFfnDaIdeal.nD Cert.RefFfnDaIdeal.τ Cert.RefFfnDaIdeal.sig) → Buf (Elt Ideal) ℓ) (g : Dev Cert.RefFfnDaIdeal.nD → PrngReg), Pre_RefFfnDaIdeal_finite m →
    θ_run (Cert.RefFfnDaIdeal.defs (F := Ideal)) (onTc (τ := Cert.RefFfnDaIdeal.τ) (Cert.RefFfnDaIdeal.main (F := Ideal))) ⟨m, fun _ => 0, g⟩ (fun r => (∀ c : Dev Cert.RefFfnDaIdeal.nD,
      r.2.mem ((c.tc : Thread Cert.RefFfnDaIdeal.nD Cert.RefFfnDaIdeal.τ).loc Cert.RefFfnDaIdeal.main_arg0) = m ((c.tc : Thread Cert.RefFfnDaIdeal.nD Cert.RefFfnDaIdeal.τ).loc Cert.RefFfnDaIdeal.main_arg0)
      ∧ r.2.mem ((c.tc : Thread Cert.RefFfnDaIdeal.nD Cert.RefFfnDaIdeal.τ).loc Cert.RefFfnDaIdeal.main_arg1) = m ((c.tc : Thread Cert.RefFfnDaIdeal.nD Cert.RefFfnDaIdeal.τ).loc Cert.RefFfnDaIdeal.main_arg1)
      ∧ r.2.mem ((c.tc : Thread Cert.RefFfnDaIdeal.nD Cert.RefFfnDaIdeal.τ).loc Cert.RefFfnDaIdeal.main_arg2) = m ((c.tc : Thread Cert.RefFfnDaIdeal.nD Cert.RefFfnDaIdeal.τ).loc Cert.RefFfnDaIdeal.main_arg2)
      ∧ r.2.mem ((c.tc : Thread Cert.RefFfnDaIdeal.nD Cert.RefFfnDaIdeal.τ).loc Cert.RefFfnDaIdeal.main_arg3) = m ((c.tc : Thread Cert.RefFfnDaIdeal.nD Cert.RefFfnDaIdeal.τ).loc Cert.RefFfnDaIdeal.main_arg3))
      ∧ r.2.sem = fun _ => 0)

def quiescent_FfnDwout [hFfnDwout : Cert.FfnDwout.Facts] : Prop :=
  ∀ (m : (ℓ : Loc Cert.FfnDwout.nD Cert.FfnDwout.τ Cert.FfnDwout.sig) → Buf (Elt Bits) ℓ) (g : Dev Cert.FfnDwout.nD → PrngReg), Pre_FfnDwout m →
    θ_run (Cert.FfnDwout.defs (F := Bits)) (onTc (τ := Cert.FfnDwout.τ) (Cert.FfnDwout.main (F := Bits))) ⟨m, fun _ => 0, g⟩ (fun r => (∀ c : Dev Cert.FfnDwout.nD,
      r.2.mem ((c.tc : Thread Cert.FfnDwout.nD Cert.FfnDwout.τ).loc Cert.FfnDwout.main_arg0) = m ((c.tc : Thread Cert.FfnDwout.nD Cert.FfnDwout.τ).loc Cert.FfnDwout.main_arg0)
      ∧ r.2.mem ((c.tc : Thread Cert.FfnDwout.nD Cert.FfnDwout.τ).loc Cert.FfnDwout.main_arg1) = m ((c.tc : Thread Cert.FfnDwout.nD Cert.FfnDwout.τ).loc Cert.FfnDwout.main_arg1))
      ∧ r.2.sem = fun _ => 0)

def quiescent_FfnDwoutIdeal [hFfnDwoutIdeal : Cert.FfnDwoutIdeal.Facts] : Prop :=
  ∀ (m : (ℓ : Loc Cert.FfnDwoutIdeal.nD Cert.FfnDwoutIdeal.τ Cert.FfnDwoutIdeal.sig) → Buf (Elt Ideal) ℓ) (g : Dev Cert.FfnDwoutIdeal.nD → PrngReg), Pre_FfnDwoutIdeal m →
    θ_run (Cert.FfnDwoutIdeal.defs (F := Ideal)) (onTc (τ := Cert.FfnDwoutIdeal.τ) (Cert.FfnDwoutIdeal.main (F := Ideal))) ⟨m, fun _ => 0, g⟩ (fun r => (∀ c : Dev Cert.FfnDwoutIdeal.nD,
      r.2.mem ((c.tc : Thread Cert.FfnDwoutIdeal.nD Cert.FfnDwoutIdeal.τ).loc Cert.FfnDwoutIdeal.main_arg0) = m ((c.tc : Thread Cert.FfnDwoutIdeal.nD Cert.FfnDwoutIdeal.τ).loc Cert.FfnDwoutIdeal.main_arg0)
      ∧ r.2.mem ((c.tc : Thread Cert.FfnDwoutIdeal.nD Cert.FfnDwoutIdeal.τ).loc Cert.FfnDwoutIdeal.main_arg1) = m ((c.tc : Thread Cert.FfnDwoutIdeal.nD Cert.FfnDwoutIdeal.τ).loc Cert.FfnDwoutIdeal.main_arg1))
      ∧ r.2.sem = fun _ => 0)

def quiescent_RefFfnDwoutIdeal [hRefFfnDwoutIdeal : Cert.RefFfnDwoutIdeal.Facts] : Prop :=
  ∀ (m : (ℓ : Loc Cert.RefFfnDwoutIdeal.nD Cert.RefFfnDwoutIdeal.τ Cert.RefFfnDwoutIdeal.sig) → Buf (Elt Ideal) ℓ) (g : Dev Cert.RefFfnDwoutIdeal.nD → PrngReg), Pre_RefFfnDwoutIdeal m →
    θ_run (Cert.RefFfnDwoutIdeal.defs (F := Ideal)) (onTc (τ := Cert.RefFfnDwoutIdeal.τ) (Cert.RefFfnDwoutIdeal.main (F := Ideal))) ⟨m, fun _ => 0, g⟩ (fun r => (∀ c : Dev Cert.RefFfnDwoutIdeal.nD,
      r.2.mem ((c.tc : Thread Cert.RefFfnDwoutIdeal.nD Cert.RefFfnDwoutIdeal.τ).loc Cert.RefFfnDwoutIdeal.main_arg0) = m ((c.tc : Thread Cert.RefFfnDwoutIdeal.nD Cert.RefFfnDwoutIdeal.τ).loc Cert.RefFfnDwoutIdeal.main_arg0)
      ∧ r.2.mem ((c.tc : Thread Cert.RefFfnDwoutIdeal.nD Cert.RefFfnDwoutIdeal.τ).loc Cert.RefFfnDwoutIdeal.main_arg1) = m ((c.tc : Thread Cert.RefFfnDwoutIdeal.nD Cert.RefFfnDwoutIdeal.τ).loc Cert.RefFfnDwoutIdeal.main_arg1))
      ∧ r.2.sem = fun _ => 0)

def quiescent_FfnDf [hFfnDf : Cert.FfnDf.Facts] : Prop :=
  ∀ (m : (ℓ : Loc Cert.FfnDf.nD Cert.FfnDf.τ Cert.FfnDf.sig) → Buf (Elt Bits) ℓ) (g : Dev Cert.FfnDf.nD → PrngReg), Pre_FfnDf m →
    θ_run (Cert.FfnDf.defs (F := Bits)) (onTc (τ := Cert.FfnDf.τ) (Cert.FfnDf.main (F := Bits))) ⟨m, fun _ => 0, g⟩ (fun r => (∀ c : Dev Cert.FfnDf.nD,
      r.2.mem ((c.tc : Thread Cert.FfnDf.nD Cert.FfnDf.τ).loc Cert.FfnDf.main_arg0) = m ((c.tc : Thread Cert.FfnDf.nD Cert.FfnDf.τ).loc Cert.FfnDf.main_arg0)
      ∧ r.2.mem ((c.tc : Thread Cert.FfnDf.nD Cert.FfnDf.τ).loc Cert.FfnDf.main_arg1) = m ((c.tc : Thread Cert.FfnDf.nD Cert.FfnDf.τ).loc Cert.FfnDf.main_arg1)
      ∧ r.2.mem ((c.tc : Thread Cert.FfnDf.nD Cert.FfnDf.τ).loc Cert.FfnDf.main_arg2) = m ((c.tc : Thread Cert.FfnDf.nD Cert.FfnDf.τ).loc Cert.FfnDf.main_arg2))
      ∧ r.2.sem = fun _ => 0)

def quiescent_FfnDfIdeal [hFfnDfIdeal : Cert.FfnDfIdeal.Facts] : Prop :=
  ∀ (m : (ℓ : Loc Cert.FfnDfIdeal.nD Cert.FfnDfIdeal.τ Cert.FfnDfIdeal.sig) → Buf (Elt Ideal) ℓ) (g : Dev Cert.FfnDfIdeal.nD → PrngReg), Pre_FfnDfIdeal m →
    θ_run (Cert.FfnDfIdeal.defs (F := Ideal)) (onTc (τ := Cert.FfnDfIdeal.τ) (Cert.FfnDfIdeal.main (F := Ideal))) ⟨m, fun _ => 0, g⟩ (fun r => (∀ c : Dev Cert.FfnDfIdeal.nD,
      r.2.mem ((c.tc : Thread Cert.FfnDfIdeal.nD Cert.FfnDfIdeal.τ).loc Cert.FfnDfIdeal.main_arg0) = m ((c.tc : Thread Cert.FfnDfIdeal.nD Cert.FfnDfIdeal.τ).loc Cert.FfnDfIdeal.main_arg0)
      ∧ r.2.mem ((c.tc : Thread Cert.FfnDfIdeal.nD Cert.FfnDfIdeal.τ).loc Cert.FfnDfIdeal.main_arg1) = m ((c.tc : Thread Cert.FfnDfIdeal.nD Cert.FfnDfIdeal.τ).loc Cert.FfnDfIdeal.main_arg1)
      ∧ r.2.mem ((c.tc : Thread Cert.FfnDfIdeal.nD Cert.FfnDfIdeal.τ).loc Cert.FfnDfIdeal.main_arg2) = m ((c.tc : Thread Cert.FfnDfIdeal.nD Cert.FfnDfIdeal.τ).loc Cert.FfnDfIdeal.main_arg2))
      ∧ r.2.sem = fun _ => 0)

def quiescent_RefFfnDfIdeal [hRefFfnDfIdeal : Cert.RefFfnDfIdeal.Facts] : Prop :=
  ∀ (m : (ℓ : Loc Cert.RefFfnDfIdeal.nD Cert.RefFfnDfIdeal.τ Cert.RefFfnDfIdeal.sig) → Buf (Elt Ideal) ℓ) (g : Dev Cert.RefFfnDfIdeal.nD → PrngReg), Pre_RefFfnDfIdeal m →
    θ_run (Cert.RefFfnDfIdeal.defs (F := Ideal)) (onTc (τ := Cert.RefFfnDfIdeal.τ) (Cert.RefFfnDfIdeal.main (F := Ideal))) ⟨m, fun _ => 0, g⟩ (fun r => (∀ c : Dev Cert.RefFfnDfIdeal.nD,
      r.2.mem ((c.tc : Thread Cert.RefFfnDfIdeal.nD Cert.RefFfnDfIdeal.τ).loc Cert.RefFfnDfIdeal.main_arg0) = m ((c.tc : Thread Cert.RefFfnDfIdeal.nD Cert.RefFfnDfIdeal.τ).loc Cert.RefFfnDfIdeal.main_arg0)
      ∧ r.2.mem ((c.tc : Thread Cert.RefFfnDfIdeal.nD Cert.RefFfnDfIdeal.τ).loc Cert.RefFfnDfIdeal.main_arg1) = m ((c.tc : Thread Cert.RefFfnDfIdeal.nD Cert.RefFfnDfIdeal.τ).loc Cert.RefFfnDfIdeal.main_arg1)
      ∧ r.2.mem ((c.tc : Thread Cert.RefFfnDfIdeal.nD Cert.RefFfnDfIdeal.τ).loc Cert.RefFfnDfIdeal.main_arg2) = m ((c.tc : Thread Cert.RefFfnDfIdeal.nD Cert.RefFfnDfIdeal.τ).loc Cert.RefFfnDfIdeal.main_arg2))
      ∧ r.2.sem = fun _ => 0)

def quiescent_FfnDwin [hFfnDwin : Cert.FfnDwin.Facts] : Prop :=
  ∀ (m : (ℓ : Loc Cert.FfnDwin.nD Cert.FfnDwin.τ Cert.FfnDwin.sig) → Buf (Elt Bits) ℓ) (g : Dev Cert.FfnDwin.nD → PrngReg), Pre_FfnDwin m →
    θ_run (Cert.FfnDwin.defs (F := Bits)) (onTc (τ := Cert.FfnDwin.τ) (Cert.FfnDwin.main (F := Bits))) ⟨m, fun _ => 0, g⟩ (fun r => (∀ c : Dev Cert.FfnDwin.nD,
      r.2.mem ((c.tc : Thread Cert.FfnDwin.nD Cert.FfnDwin.τ).loc Cert.FfnDwin.main_arg0) = m ((c.tc : Thread Cert.FfnDwin.nD Cert.FfnDwin.τ).loc Cert.FfnDwin.main_arg0)
      ∧ r.2.mem ((c.tc : Thread Cert.FfnDwin.nD Cert.FfnDwin.τ).loc Cert.FfnDwin.main_arg1) = m ((c.tc : Thread Cert.FfnDwin.nD Cert.FfnDwin.τ).loc Cert.FfnDwin.main_arg1))
      ∧ r.2.sem = fun _ => 0)

def quiescent_FfnDwinIdeal [hFfnDwinIdeal : Cert.FfnDwinIdeal.Facts] : Prop :=
  ∀ (m : (ℓ : Loc Cert.FfnDwinIdeal.nD Cert.FfnDwinIdeal.τ Cert.FfnDwinIdeal.sig) → Buf (Elt Ideal) ℓ) (g : Dev Cert.FfnDwinIdeal.nD → PrngReg), Pre_FfnDwinIdeal m →
    θ_run (Cert.FfnDwinIdeal.defs (F := Ideal)) (onTc (τ := Cert.FfnDwinIdeal.τ) (Cert.FfnDwinIdeal.main (F := Ideal))) ⟨m, fun _ => 0, g⟩ (fun r => (∀ c : Dev Cert.FfnDwinIdeal.nD,
      r.2.mem ((c.tc : Thread Cert.FfnDwinIdeal.nD Cert.FfnDwinIdeal.τ).loc Cert.FfnDwinIdeal.main_arg0) = m ((c.tc : Thread Cert.FfnDwinIdeal.nD Cert.FfnDwinIdeal.τ).loc Cert.FfnDwinIdeal.main_arg0)
      ∧ r.2.mem ((c.tc : Thread Cert.FfnDwinIdeal.nD Cert.FfnDwinIdeal.τ).loc Cert.FfnDwinIdeal.main_arg1) = m ((c.tc : Thread Cert.FfnDwinIdeal.nD Cert.FfnDwinIdeal.τ).loc Cert.FfnDwinIdeal.main_arg1))
      ∧ r.2.sem = fun _ => 0)

def quiescent_RefFfnDwinIdeal [hRefFfnDwinIdeal : Cert.RefFfnDwinIdeal.Facts] : Prop :=
  ∀ (m : (ℓ : Loc Cert.RefFfnDwinIdeal.nD Cert.RefFfnDwinIdeal.τ Cert.RefFfnDwinIdeal.sig) → Buf (Elt Ideal) ℓ) (g : Dev Cert.RefFfnDwinIdeal.nD → PrngReg), Pre_RefFfnDwinIdeal m →
    θ_run (Cert.RefFfnDwinIdeal.defs (F := Ideal)) (onTc (τ := Cert.RefFfnDwinIdeal.τ) (Cert.RefFfnDwinIdeal.main (F := Ideal))) ⟨m, fun _ => 0, g⟩ (fun r => (∀ c : Dev Cert.RefFfnDwinIdeal.nD,
      r.2.mem ((c.tc : Thread Cert.RefFfnDwinIdeal.nD Cert.RefFfnDwinIdeal.τ).loc Cert.RefFfnDwinIdeal.main_arg0) = m ((c.tc : Thread Cert.RefFfnDwinIdeal.nD Cert.RefFfnDwinIdeal.τ).loc Cert.RefFfnDwinIdeal.main_arg0)
      ∧ r.2.mem ((c.tc : Thread Cert.RefFfnDwinIdeal.nD Cert.RefFfnDwinIdeal.τ).loc Cert.RefFfnDwinIdeal.main_arg1) = m ((c.tc : Thread Cert.RefFfnDwinIdeal.nD Cert.RefFfnDwinIdeal.τ).loc Cert.RefFfnDwinIdeal.main_arg1))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_RefGluIdeal [hRefGluIdeal : Cert.RefGluIdeal.Facts] : Prop :=
  ∀ (m : (ℓ : Loc Cert.RefGluIdeal.nD Cert.RefGluIdeal.τ Cert.RefGluIdeal.sig) → Buf (Elt Ideal) ℓ) (g : Dev Cert.RefGluIdeal.nD → PrngReg), Pre_RefGluIdeal m →
    θ_run (Cert.RefGluIdeal.defs (F := Ideal)) (onTc (τ := Cert.RefGluIdeal.τ) (Cert.RefGluIdeal.main (F := Ideal))) ⟨m, fun _ => 0, g⟩ (fun r => (∀ c : Dev Cert.RefGluIdeal.nD,
      r.2.mem ((c.tc : Thread Cert.RefGluIdeal.nD Cert.RefGluIdeal.τ).loc Cert.RefGluIdeal.main_arg0) = m ((c.tc : Thread Cert.RefGluIdeal.nD Cert.RefGluIdeal.τ).loc Cert.RefGluIdeal.main_arg0)
      ∧ r.2.mem ((c.tc : Thread Cert.RefGluIdeal.nD Cert.RefGluIdeal.τ).loc Cert.RefGluIdeal.main_arg1) = m ((c.tc : Thread Cert.RefGluIdeal.nD Cert.RefGluIdeal.τ).loc Cert.RefGluIdeal.main_arg1)
      ∧ r.2.mem ((c.tc : Thread Cert.RefGluIdeal.nD Cert.RefGluIdeal.τ).loc Cert.RefGluIdeal.main_arg2) = m ((c.tc : Thread Cert.RefGluIdeal.nD Cert.RefGluIdeal.τ).loc Cert.RefGluIdeal.main_arg2))
      ∧ r.2.sem = fun _ => 0)

def quiescent_GluDz [hGluDz : Cert.GluDz.Facts] : Prop :=
  ∀ (m : (ℓ : Loc Cert.GluDz.nD Cert.GluDz.τ Cert.GluDz.sig) → Buf (Elt Bits) ℓ) (g : Dev Cert.GluDz.nD → PrngReg), Pre_GluDz m →
    θ_run (Cert.GluDz.defs (F := Bits)) (onTc (τ := Cert.GluDz.τ) (Cert.GluDz.main (F := Bits))) ⟨m, fun _ => 0, g⟩ (fun r => (∀ c : Dev Cert.GluDz.nD,
      r.2.mem ((c.tc : Thread Cert.GluDz.nD Cert.GluDz.τ).loc Cert.GluDz.main_arg0) = m ((c.tc : Thread Cert.GluDz.nD Cert.GluDz.τ).loc Cert.GluDz.main_arg0)
      ∧ r.2.mem ((c.tc : Thread Cert.GluDz.nD Cert.GluDz.τ).loc Cert.GluDz.main_arg1) = m ((c.tc : Thread Cert.GluDz.nD Cert.GluDz.τ).loc Cert.GluDz.main_arg1)
      ∧ r.2.mem ((c.tc : Thread Cert.GluDz.nD Cert.GluDz.τ).loc Cert.GluDz.main_arg2) = m ((c.tc : Thread Cert.GluDz.nD Cert.GluDz.τ).loc Cert.GluDz.main_arg2))
      ∧ r.2.sem = fun _ => 0)

def quiescent_GluDzIdeal [hGluDzIdeal : Cert.GluDzIdeal.Facts] : Prop :=
  ∀ (m : (ℓ : Loc Cert.GluDzIdeal.nD Cert.GluDzIdeal.τ Cert.GluDzIdeal.sig) → Buf (Elt Ideal) ℓ) (g : Dev Cert.GluDzIdeal.nD → PrngReg), Pre_GluDzIdeal m →
    θ_run (Cert.GluDzIdeal.defs (F := Ideal)) (onTc (τ := Cert.GluDzIdeal.τ) (Cert.GluDzIdeal.main (F := Ideal))) ⟨m, fun _ => 0, g⟩ (fun r => (∀ c : Dev Cert.GluDzIdeal.nD,
      r.2.mem ((c.tc : Thread Cert.GluDzIdeal.nD Cert.GluDzIdeal.τ).loc Cert.GluDzIdeal.main_arg0) = m ((c.tc : Thread Cert.GluDzIdeal.nD Cert.GluDzIdeal.τ).loc Cert.GluDzIdeal.main_arg0)
      ∧ r.2.mem ((c.tc : Thread Cert.GluDzIdeal.nD Cert.GluDzIdeal.τ).loc Cert.GluDzIdeal.main_arg1) = m ((c.tc : Thread Cert.GluDzIdeal.nD Cert.GluDzIdeal.τ).loc Cert.GluDzIdeal.main_arg1)
      ∧ r.2.mem ((c.tc : Thread Cert.GluDzIdeal.nD Cert.GluDzIdeal.τ).loc Cert.GluDzIdeal.main_arg2) = m ((c.tc : Thread Cert.GluDzIdeal.nD Cert.GluDzIdeal.τ).loc Cert.GluDzIdeal.main_arg2))
      ∧ r.2.sem = fun _ => 0)

def quiescent_RefGluDzIdeal [hRefGluDzIdeal : Cert.RefGluDzIdeal.Facts] : Prop :=
  ∀ (m : (ℓ : Loc Cert.RefGluDzIdeal.nD Cert.RefGluDzIdeal.τ Cert.RefGluDzIdeal.sig) → Buf (Elt Ideal) ℓ) (g : Dev Cert.RefGluDzIdeal.nD → PrngReg), Pre_RefGluDzIdeal m →
    θ_run (Cert.RefGluDzIdeal.defs (F := Ideal)) (onTc (τ := Cert.RefGluDzIdeal.τ) (Cert.RefGluDzIdeal.main (F := Ideal))) ⟨m, fun _ => 0, g⟩ (fun r => (∀ c : Dev Cert.RefGluDzIdeal.nD,
      r.2.mem ((c.tc : Thread Cert.RefGluDzIdeal.nD Cert.RefGluDzIdeal.τ).loc Cert.RefGluDzIdeal.main_arg0) = m ((c.tc : Thread Cert.RefGluDzIdeal.nD Cert.RefGluDzIdeal.τ).loc Cert.RefGluDzIdeal.main_arg0)
      ∧ r.2.mem ((c.tc : Thread Cert.RefGluDzIdeal.nD Cert.RefGluDzIdeal.τ).loc Cert.RefGluDzIdeal.main_arg1) = m ((c.tc : Thread Cert.RefGluDzIdeal.nD Cert.RefGluDzIdeal.τ).loc Cert.RefGluDzIdeal.main_arg1)
      ∧ r.2.mem ((c.tc : Thread Cert.RefGluDzIdeal.nD Cert.RefGluDzIdeal.τ).loc Cert.RefGluDzIdeal.main_arg2) = m ((c.tc : Thread Cert.RefGluDzIdeal.nD Cert.RefGluDzIdeal.τ).loc Cert.RefGluDzIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_RefGluDwIdeal [hRefGluDwIdeal : Cert.RefGluDwIdeal.Facts] : Prop :=
  ∀ (m : (ℓ : Loc Cert.RefGluDwIdeal.nD Cert.RefGluDwIdeal.τ Cert.RefGluDwIdeal.sig) → Buf (Elt Ideal) ℓ) (g : Dev Cert.RefGluDwIdeal.nD → PrngReg), Pre_RefGluDwIdeal m →
    θ_run (Cert.RefGluDwIdeal.defs (F := Ideal)) (onTc (τ := Cert.RefGluDwIdeal.τ) (Cert.RefGluDwIdeal.main (F := Ideal))) ⟨m, fun _ => 0, g⟩ (fun r => (∀ c : Dev Cert.RefGluDwIdeal.nD,
      r.2.mem ((c.tc : Thread Cert.RefGluDwIdeal.nD Cert.RefGluDwIdeal.τ).loc Cert.RefGluDwIdeal.main_arg0) = m ((c.tc : Thread Cert.RefGluDwIdeal.nD Cert.RefGluDwIdeal.τ).loc Cert.RefGluDwIdeal.main_arg0)
      ∧ r.2.mem ((c.tc : Thread Cert.RefGluDwIdeal.nD Cert.RefGluDwIdeal.τ).loc Cert.RefGluDwIdeal.main_arg1) = m ((c.tc : Thread Cert.RefGluDwIdeal.nD Cert.RefGluDwIdeal.τ).loc Cert.RefGluDwIdeal.main_arg1))
      ∧ r.2.sem = fun _ => 0)

def quiescent_AttnKv [hAttnKv : Cert.AttnKv.Facts] : Prop :=
  ∀ (m : (ℓ : Loc Cert.AttnKv.nD Cert.AttnKv.τ Cert.AttnKv.sig) → Buf (Elt Bits) ℓ) (g : Dev Cert.AttnKv.nD → PrngReg), Pre_AttnKv m →
    θ_run (Cert.AttnKv.defs (F := Bits)) (onTc (τ := Cert.AttnKv.τ) (Cert.AttnKv.main (F := Bits))) ⟨m, fun _ => 0, g⟩ (fun r => (∀ c : Dev Cert.AttnKv.nD,
      r.2.mem ((c.tc : Thread Cert.AttnKv.nD Cert.AttnKv.τ).loc Cert.AttnKv.main_arg0) = m ((c.tc : Thread Cert.AttnKv.nD Cert.AttnKv.τ).loc Cert.AttnKv.main_arg0)
      ∧ r.2.mem ((c.tc : Thread Cert.AttnKv.nD Cert.AttnKv.τ).loc Cert.AttnKv.main_arg1) = m ((c.tc : Thread Cert.AttnKv.nD Cert.AttnKv.τ).loc Cert.AttnKv.main_arg1)
      ∧ r.2.mem ((c.tc : Thread Cert.AttnKv.nD Cert.AttnKv.τ).loc Cert.AttnKv.main_arg2) = m ((c.tc : Thread Cert.AttnKv.nD Cert.AttnKv.τ).loc Cert.AttnKv.main_arg2))
      ∧ r.2.sem = fun _ => 0)

def quiescent_AttnKvIdeal [hAttnKvIdeal : Cert.AttnKvIdeal.Facts] : Prop :=
  ∀ (m : (ℓ : Loc Cert.AttnKvIdeal.nD Cert.AttnKvIdeal.τ Cert.AttnKvIdeal.sig) → Buf (Elt Ideal) ℓ) (g : Dev Cert.AttnKvIdeal.nD → PrngReg), Pre_AttnKvIdeal m →
    θ_run (Cert.AttnKvIdeal.defs (F := Ideal)) (onTc (τ := Cert.AttnKvIdeal.τ) (Cert.AttnKvIdeal.main (F := Ideal))) ⟨m, fun _ => 0, g⟩ (fun r => (∀ c : Dev Cert.AttnKvIdeal.nD,
      r.2.mem ((c.tc : Thread Cert.AttnKvIdeal.nD Cert.AttnKvIdeal.τ).loc Cert.AttnKvIdeal.main_arg0) = m ((c.tc : Thread Cert.AttnKvIdeal.nD Cert.AttnKvIdeal.τ).loc Cert.AttnKvIdeal.main_arg0)
      ∧ r.2.mem ((c.tc : Thread Cert.AttnKvIdeal.nD Cert.AttnKvIdeal.τ).loc Cert.AttnKvIdeal.main_arg1) = m ((c.tc : Thread Cert.AttnKvIdeal.nD Cert.AttnKvIdeal.τ).loc Cert.AttnKvIdeal.main_arg1)
      ∧ r.2.mem ((c.tc : Thread Cert.AttnKvIdeal.nD Cert.AttnKvIdeal.τ).loc Cert.AttnKvIdeal.main_arg2) = m ((c.tc : Thread Cert.AttnKvIdeal.nD Cert.AttnKvIdeal.τ).loc Cert.AttnKvIdeal.main_arg2))
      ∧ r.2.sem = fun _ => 0)

def quiescent_RefAttnKvIdeal [hRefAttnKvIdeal : Cert.RefAttnKvIdeal.Facts] : Prop :=
  ∀ (m : (ℓ : Loc Cert.RefAttnKvIdeal.nD Cert.RefAttnKvIdeal.τ Cert.RefAttnKvIdeal.sig) → Buf (Elt Ideal) ℓ) (g : Dev Cert.RefAttnKvIdeal.nD → PrngReg), Pre_RefAttnKvIdeal m →
    θ_run (Cert.RefAttnKvIdeal.defs (F := Ideal)) (onTc (τ := Cert.RefAttnKvIdeal.τ) (Cert.RefAttnKvIdeal.main (F := Ideal))) ⟨m, fun _ => 0, g⟩ (fun r => (∀ c : Dev Cert.RefAttnKvIdeal.nD,
      r.2.mem ((c.tc : Thread Cert.RefAttnKvIdeal.nD Cert.RefAttnKvIdeal.τ).loc Cert.RefAttnKvIdeal.main_arg0) = m ((c.tc : Thread Cert.RefAttnKvIdeal.nD Cert.RefAttnKvIdeal.τ).loc Cert.RefAttnKvIdeal.main_arg0)
      ∧ r.2.mem ((c.tc : Thread Cert.RefAttnKvIdeal.nD Cert.RefAttnKvIdeal.τ).loc Cert.RefAttnKvIdeal.main_arg1) = m ((c.tc : Thread Cert.RefAttnKvIdeal.nD Cert.RefAttnKvIdeal.τ).loc Cert.RefAttnKvIdeal.main_arg1)
      ∧ r.2.mem ((c.tc : Thread Cert.RefAttnKvIdeal.nD Cert.RefAttnKvIdeal.τ).loc Cert.RefAttnKvIdeal.main_arg2) = m ((c.tc : Thread Cert.RefAttnKvIdeal.nD Cert.RefAttnKvIdeal.τ).loc Cert.RefAttnKvIdeal.main_arg2))
      ∧ r.2.sem = fun _ => 0)

def quiescent_AttnQ [hAttnQ : Cert.AttnQ.Facts] : Prop :=
  ∀ (m : (ℓ : Loc Cert.AttnQ.nD Cert.AttnQ.τ Cert.AttnQ.sig) → Buf (Elt Bits) ℓ) (g : Dev Cert.AttnQ.nD → PrngReg), Pre_AttnQ m →
    θ_run (Cert.AttnQ.defs (F := Bits)) (onTc (τ := Cert.AttnQ.τ) (Cert.AttnQ.main (F := Bits))) ⟨m, fun _ => 0, g⟩ (fun r => (∀ c : Dev Cert.AttnQ.nD,
      r.2.mem ((c.tc : Thread Cert.AttnQ.nD Cert.AttnQ.τ).loc Cert.AttnQ.main_arg0) = m ((c.tc : Thread Cert.AttnQ.nD Cert.AttnQ.τ).loc Cert.AttnQ.main_arg0)
      ∧ r.2.mem ((c.tc : Thread Cert.AttnQ.nD Cert.AttnQ.τ).loc Cert.AttnQ.main_arg1) = m ((c.tc : Thread Cert.AttnQ.nD Cert.AttnQ.τ).loc Cert.AttnQ.main_arg1))
      ∧ r.2.sem = fun _ => 0)

def quiescent_AttnQIdeal [hAttnQIdeal : Cert.AttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ r.2.sem = fun _ => 0)

def quiescent_RefAttnQIdeal [hRefAttnQIdeal : Cert.RefAttnQIdeal.Facts] : Prop :=
  ∀ (m : (ℓ : Loc Cert.RefAttnQIdeal.nD Cert.RefAttnQIdeal.τ Cert.RefAttnQIdeal.sig) → Buf (Elt Ideal) ℓ) (g : Dev Cert.RefAttnQIdeal.nD → PrngReg), Pre_RefAttnQIdeal m →
    θ_run (Cert.RefAttnQIdeal.defs (F := Ideal)) (onTc (τ := Cert.RefAttnQIdeal.τ) (Cert.RefAttnQIdeal.main (F := Ideal))) ⟨m, fun _ => 0, g⟩ (fun r => (∀ c : Dev Cert.RefAttnQIdeal.nD,
      r.2.mem ((c.tc : Thread Cert.RefAttnQIdeal.nD Cert.RefAttnQIdeal.τ).loc Cert.RefAttnQIdeal.main_arg0) = m ((c.tc : Thread Cert.RefAttnQIdeal.nD Cert.RefAttnQIdeal.τ).loc Cert.RefAttnQIdeal.main_arg0)
      ∧ r.2.mem ((c.tc : Thread Cert.RefAttnQIdeal.nD Cert.RefAttnQIdeal.τ).loc Cert.RefAttnQIdeal.main_arg1) = m ((c.tc : Thread Cert.RefAttnQIdeal.nD Cert.RefAttnQIdeal.τ).loc Cert.RefAttnQIdeal.main_arg1))
      ∧ r.2.sem = fun _ => 0)

def quiescent_AttnKvt [hAttnKvt : Cert.AttnKvt.Facts] : Prop :=
  ∀ (m : (ℓ : Loc Cert.AttnKvt.nD Cert.AttnKvt.τ Cert.AttnKvt.sig) → Buf (Elt Bits) ℓ) (g : Dev Cert.AttnKvt.nD → PrngReg), Pre_AttnKvt m →
    θ_run (Cert.AttnKvt.defs (F := Bits)) (onTc (τ := Cert.AttnKvt.τ) (Cert.AttnKvt.main (F := Bits))) ⟨m, fun _ => 0, g⟩ (fun r => (∀ c : Dev Cert.AttnKvt.nD,
      r.2.mem ((c.tc : Thread Cert.AttnKvt.nD Cert.AttnKvt.τ).loc Cert.AttnKvt.main_arg0) = m ((c.tc : Thread Cert.AttnKvt.nD Cert.AttnKvt.τ).loc Cert.AttnKvt.main_arg0)
      ∧ r.2.mem ((c.tc : Thread Cert.AttnKvt.nD Cert.AttnKvt.τ).loc Cert.AttnKvt.main_arg1) = m ((c.tc : Thread Cert.AttnKvt.nD Cert.AttnKvt.τ).loc Cert.AttnKvt.main_arg1)
      ∧ r.2.mem ((c.tc : Thread Cert.AttnKvt.nD Cert.AttnKvt.τ).loc Cert.AttnKvt.main_arg2) = m ((c.tc : Thread Cert.AttnKvt.nD Cert.AttnKvt.τ).loc Cert.AttnKvt.main_arg2))
      ∧ r.2.sem = fun _ => 0)

def quiescent_AttnKvtIdeal [hAttnKvtIdeal : Cert.AttnKvtIdeal.Facts] : Prop :=
  ∀ (m : (ℓ : Loc Cert.AttnKvtIdeal.nD Cert.AttnKvtIdeal.τ Cert.AttnKvtIdeal.sig) → Buf (Elt Ideal) ℓ) (g : Dev Cert.AttnKvtIdeal.nD → PrngReg), Pre_AttnKvtIdeal m →
    θ_run (Cert.AttnKvtIdeal.defs (F := Ideal)) (onTc (τ := Cert.AttnKvtIdeal.τ) (Cert.AttnKvtIdeal.main (F := Ideal))) ⟨m, fun _ => 0, g⟩ (fun r => (∀ c : Dev Cert.AttnKvtIdeal.nD,
      r.2.mem ((c.tc : Thread Cert.AttnKvtIdeal.nD Cert.AttnKvtIdeal.τ).loc Cert.AttnKvtIdeal.main_arg0) = m ((c.tc : Thread Cert.AttnKvtIdeal.nD Cert.AttnKvtIdeal.τ).loc Cert.AttnKvtIdeal.main_arg0)
      ∧ r.2.mem ((c.tc : Thread Cert.AttnKvtIdeal.nD Cert.AttnKvtIdeal.τ).loc Cert.AttnKvtIdeal.main_arg1) = m ((c.tc : Thread Cert.AttnKvtIdeal.nD Cert.AttnKvtIdeal.τ).loc Cert.AttnKvtIdeal.main_arg1)
      ∧ r.2.mem ((c.tc : Thread Cert.AttnKvtIdeal.nD Cert.AttnKvtIdeal.τ).loc Cert.AttnKvtIdeal.main_arg2) = m ((c.tc : Thread Cert.AttnKvtIdeal.nD Cert.AttnKvtIdeal.τ).loc Cert.AttnKvtIdeal.main_arg2))
      ∧ r.2.sem = fun _ => 0)

def quiescent_RefAttnKvtIdeal [hRefAttnKvtIdeal : Cert.RefAttnKvtIdeal.Facts] : Prop :=
  ∀ (m : (ℓ : Loc Cert.RefAttnKvtIdeal.nD Cert.RefAttnKvtIdeal.τ Cert.RefAttnKvtIdeal.sig) → Buf (Elt Ideal) ℓ) (g : Dev Cert.RefAttnKvtIdeal.nD → PrngReg), Pre_RefAttnKvtIdeal m →
    θ_run (Cert.RefAttnKvtIdeal.defs (F := Ideal)) (onTc (τ := Cert.RefAttnKvtIdeal.τ) (Cert.RefAttnKvtIdeal.main (F := Ideal))) ⟨m, fun _ => 0, g⟩ (fun r => (∀ c : Dev Cert.RefAttnKvtIdeal.nD,
      r.2.mem ((c.tc : Thread Cert.RefAttnKvtIdeal.nD Cert.RefAttnKvtIdeal.τ).loc Cert.RefAttnKvtIdeal.main_arg0) = m ((c.tc : Thread Cert.RefAttnKvtIdeal.nD Cert.RefAttnKvtIdeal.τ).loc Cert.RefAttnKvtIdeal.main_arg0)
      ∧ r.2.mem ((c.tc : Thread Cert.RefAttnKvtIdeal.nD Cert.RefAttnKvtIdeal.τ).loc Cert.RefAttnKvtIdeal.main_arg1) = m ((c.tc : Thread Cert.RefAttnKvtIdeal.nD Cert.RefAttnKvtIdeal.τ).loc Cert.RefAttnKvtIdeal.main_arg1)
      ∧ r.2.mem ((c.tc : Thread Cert.RefAttnKvtIdeal.nD Cert.RefAttnKvtIdeal.τ).loc Cert.RefAttnKvtIdeal.main_arg2) = m ((c.tc : Thread Cert.RefAttnKvtIdeal.nD Cert.RefAttnKvtIdeal.τ).loc Cert.RefAttnKvtIdeal.main_arg2))
      ∧ r.2.sem = fun _ => 0)

def quiescent_AttnO [hAttnO : Cert.AttnO.Facts] : Prop :=
  ∀ (m : (ℓ : Loc Cert.AttnO.nD Cert.AttnO.τ Cert.AttnO.sig) → Buf (Elt Bits) ℓ) (g : Dev Cert.AttnO.nD → PrngReg), Pre_AttnO m →
    θ_run (Cert.AttnO.defs (F := Bits)) (onTc (τ := Cert.AttnO.τ) (Cert.AttnO.main (F := Bits))) ⟨m, fun _ => 0, g⟩ (fun r => (∀ c : Dev Cert.AttnO.nD,
      r.2.mem ((c.tc : Thread Cert.AttnO.nD Cert.AttnO.τ).loc Cert.AttnO.main_arg0) = m ((c.tc : Thread Cert.AttnO.nD Cert.AttnO.τ).loc Cert.AttnO.main_arg0)
      ∧ r.2.mem ((c.tc : Thread Cert.AttnO.nD Cert.AttnO.τ).loc Cert.AttnO.main_arg1) = m ((c.tc : Thread Cert.AttnO.nD Cert.AttnO.τ).loc Cert.AttnO.main_arg1)
      ∧ r.2.mem ((c.tc : Thread Cert.AttnO.nD Cert.AttnO.τ).loc Cert.AttnO.main_arg2) = m ((c.tc : Thread Cert.AttnO.nD Cert.AttnO.τ).loc Cert.AttnO.main_arg2))
      ∧ r.2.sem = fun _ => 0)

def quiescent_AttnOIdeal [hAttnOIdeal : Cert.AttnOIdeal.Facts] : Prop :=
  ∀ (m : (ℓ : Loc Cert.AttnOIdeal.nD Cert.AttnOIdeal.τ Cert.AttnOIdeal.sig) → Buf (Elt Ideal) ℓ) (g : Dev Cert.AttnOIdeal.nD → PrngReg), Pre_AttnOIdeal m →
    θ_run (Cert.AttnOIdeal.defs (F := Ideal)) (onTc (τ := Cert.AttnOIdeal.τ) (Cert.AttnOIdeal.main (F := Ideal))) ⟨m, fun _ => 0, g⟩ (fun r => (∀ c : Dev Cert.AttnOIdeal.nD,
      r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
      ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1)
      ∧ r.2.mem ((c.tc : Thread Cert.AttnOIdeal.nD Cert.AttnOIdeal.τ).loc Cert.AttnOIdeal.main_arg2) = m ((c.tc : Thread Cert.AttnOIdeal.nD Cert.AttnOIdeal.τ).loc Cert.AttnOIdeal.main_arg2))
      ∧ r.2.sem = fun _ => 0)

def quiescent_RefAttnOIdeal [hRefAttnOIdeal : Cert.RefAttnOIdeal.Facts] : Prop :=
  ∀ (m : (ℓ : Loc Cert.RefAttnOIdeal.nD Cert.RefAttnOIdeal.τ Cert.RefAttnOIdeal.sig) → Buf (Elt Ideal) ℓ) (g : Dev Cert.RefAttnOIdeal.nD → PrngReg), Pre_RefAttnOIdeal m →
    θ_run (Cert.RefAttnOIdeal.defs (F := Ideal)) (onTc (τ := Cert.RefAttnOIdeal.τ) (Cert.RefAttnOIdeal.main (F := Ideal))) ⟨m, fun _ => 0, g⟩ (fun r => (∀ c : Dev Cert.RefAttnOIdeal.nD,
      r.2.mem ((c.tc : Thread Cert.RefAttnOIdeal.nD Cert.RefAttnOIdeal.τ).loc Cert.RefAttnOIdeal.main_arg0) = m ((c.tc : Thread Cert.RefAttnOIdeal.nD Cert.RefAttnOIdeal.τ).loc Cert.RefAttnOIdeal.main_arg0)
      ∧ r.2.mem ((c.tc : Thread Cert.RefAttnOIdeal.nD Cert.RefAttnOIdeal.τ).loc Cert.RefAttnOIdeal.main_arg1) = m ((c.tc : Thread Cert.RefAttnOIdeal.nD Cert.RefAttnOIdeal.τ).loc Cert.RefAttnOIdeal.main_arg1)
      ∧ r.2.mem ((c.tc : Thread Cert.RefAttnOIdeal.nD Cert.RefAttnOIdeal.τ).loc Cert.RefAttnOIdeal.main_arg2) = m ((c.tc : Thread Cert.RefAttnOIdeal.nD Cert.RefAttnOIdeal.τ).loc Cert.RefAttnOIdeal.main_arg2))
      ∧ r.2.sem = fun _ => 0)

def quiescent_AttnDo [hAttnDo : Cert.AttnDo.Facts] : Prop :=
  ∀ (m : (ℓ : Loc Cert.AttnDo.nD Cert.AttnDo.τ Cert.AttnDo.sig) → Buf (Elt Bits) ℓ) (g : Dev Cert.AttnDo.nD → PrngReg), Pre_AttnDo m →
    θ_run (Cert.AttnDo.defs (F := Bits)) (onTc (τ := Cert.AttnDo.τ) (Cert.AttnDo.main (F := Bits))) ⟨m, fun _ => 0, g⟩ (fun r => (∀ c : Dev Cert.AttnDo.nD,
      r.2.mem ((c.tc : Thread Cert.AttnDo.nD Cert.AttnDo.τ).loc Cert.AttnDo.main_arg0) = m ((c.tc : Thread Cert.AttnDo.nD Cert.AttnDo.τ).loc Cert.AttnDo.main_arg0)
      ∧ r.2.mem ((c.tc : Thread Cert.AttnDo.nD Cert.AttnDo.τ).loc Cert.AttnDo.main_arg1) = m ((c.tc : Thread Cert.AttnDo.nD Cert.AttnDo.τ).loc Cert.AttnDo.main_arg1))
      ∧ r.2.sem = fun _ => 0)

def quiescent_AttnDoIdeal [hAttnDoIdeal : Cert.AttnDoIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg), Pre_AttnDoIdeal m →
    θ_run (Cert.AttnDoIdeal.defs (F := Ideal)) (onTc (τ := Cert.AttnDoIdeal.τ) (Cert.AttnDoIdeal.main (F := Ideal))) ⟨m, fun _ => 0, g⟩ (fun r => (∀ c : Dev Cert.AttnDoIdeal.nD,
      r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
      ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ r.2.sem = fun _ => 0)

def quiescent_RefAttnDoIdeal [hRefAttnDoIdeal : Cert.RefAttnDoIdeal.Facts] : Prop :=
  ∀ (m : (ℓ : Loc Cert.RefAttnDoIdeal.nD Cert.RefAttnDoIdeal.τ Cert.RefAttnDoIdeal.sig) → Buf (Elt Ideal) ℓ) (g : Dev Cert.RefAttnDoIdeal.nD → PrngReg), Pre_RefAttnDoIdeal m →
    θ_run (Cert.RefAttnDoIdeal.defs (F := Ideal)) (onTc (τ := Cert.RefAttnDoIdeal.τ) (Cert.RefAttnDoIdeal.main (F := Ideal))) ⟨m, fun _ => 0, g⟩ (fun r => (∀ c : Dev Cert.RefAttnDoIdeal.nD,
      r.2.mem ((c.tc : Thread Cert.RefAttnDoIdeal.nD Cert.RefAttnDoIdeal.τ).loc Cert.RefAttnDoIdeal.main_arg0) = m ((c.tc : Thread Cert.RefAttnDoIdeal.nD Cert.RefAttnDoIdeal.τ).loc Cert.RefAttnDoIdeal.main_arg0)
      ∧ r.2.mem ((c.tc : Thread Cert.RefAttnDoIdeal.nD Cert.RefAttnDoIdeal.τ).loc Cert.RefAttnDoIdeal.main_arg1) = m ((c.tc : Thread Cert.RefAttnDoIdeal.nD Cert.RefAttnDoIdeal.τ).loc Cert.RefAttnDoIdeal.main_arg1))
      ∧ r.2.sem = fun _ => 0)

def quiescent_AttnDwo [hAttnDwo : Cert.AttnDwo.Facts] : Prop :=
  ∀ (m : (ℓ : Loc Cert.AttnDwo.nD Cert.AttnDwo.τ Cert.AttnDwo.sig) → Buf (Elt Bits) ℓ) (g : Dev Cert.AttnDwo.nD → PrngReg), Pre_AttnDwo m →
    θ_run (Cert.AttnDwo.defs (F := Bits)) (onTc (τ := Cert.AttnDwo.τ) (Cert.AttnDwo.main (F := Bits))) ⟨m, fun _ => 0, g⟩ (fun r => (∀ c : Dev Cert.AttnDwo.nD,
      r.2.mem ((c.tc : Thread Cert.AttnDwo.nD Cert.AttnDwo.τ).loc Cert.AttnDwo.main_arg0) = m ((c.tc : Thread Cert.AttnDwo.nD Cert.AttnDwo.τ).loc Cert.AttnDwo.main_arg0)
      ∧ r.2.mem ((c.tc : Thread Cert.AttnDwo.nD Cert.AttnDwo.τ).loc Cert.AttnDwo.main_arg1) = m ((c.tc : Thread Cert.AttnDwo.nD Cert.AttnDwo.τ).loc Cert.AttnDwo.main_arg1))
      ∧ r.2.sem = fun _ => 0)

def quiescent_AttnDwoIdeal [hAttnDwoIdeal : Cert.AttnDwoIdeal.Facts] : Prop :=
  ∀ (m : (ℓ : Loc Cert.AttnDwoIdeal.nD Cert.AttnDwoIdeal.τ Cert.AttnDwoIdeal.sig) → Buf (Elt Ideal) ℓ) (g : Dev Cert.AttnDwoIdeal.nD → PrngReg), Pre_AttnDwoIdeal m →
    θ_run (Cert.AttnDwoIdeal.defs (F := Ideal)) (onTc (τ := Cert.AttnDwoIdeal.τ) (Cert.AttnDwoIdeal.main (F := Ideal))) ⟨m, fun _ => 0, g⟩ (fun r => (∀ c : Dev Cert.AttnDwoIdeal.nD,
      r.2.mem ((c.tc : Thread Cert.AttnDwoIdeal.nD Cert.AttnDwoIdeal.τ).loc Cert.AttnDwoIdeal.main_arg0) = m ((c.tc : Thread Cert.AttnDwoIdeal.nD Cert.AttnDwoIdeal.τ).loc Cert.AttnDwoIdeal.main_arg0)
      ∧ r.2.mem ((c.tc : Thread Cert.AttnDwoIdeal.nD Cert.AttnDwoIdeal.τ).loc Cert.AttnDwoIdeal.main_arg1) = m ((c.tc : Thread Cert.AttnDwoIdeal.nD Cert.AttnDwoIdeal.τ).loc Cert.AttnDwoIdeal.main_arg1))
      ∧ r.2.sem = fun _ => 0)

def quiescent_RefAttnDwoIdeal [hRefAttnDwoIdeal : Cert.RefAttnDwoIdeal.Facts] : Prop :=
  ∀ (m : (ℓ : Loc Cert.RefAttnDwoIdeal.nD Cert.RefAttnDwoIdeal.τ Cert.RefAttnDwoIdeal.sig) → Buf (Elt Ideal) ℓ) (g : Dev Cert.RefAttnDwoIdeal.nD → PrngReg), Pre_RefAttnDwoIdeal m →
    θ_run (Cert.RefAttnDwoIdeal.defs (F := Ideal)) (onTc (τ := Cert.RefAttnDwoIdeal.τ) (Cert.RefAttnDwoIdeal.main (F := Ideal))) ⟨m, fun _ => 0, g⟩ (fun r => (∀ c : Dev Cert.RefAttnDwoIdeal.nD,
      r.2.mem ((c.tc : Thread Cert.RefAttnDwoIdeal.nD Cert.RefAttnDwoIdeal.τ).loc Cert.RefAttnDwoIdeal.main_arg0) = m ((c.tc : Thread Cert.RefAttnDwoIdeal.nD Cert.RefAttnDwoIdeal.τ).loc Cert.RefAttnDwoIdeal.main_arg0)
      ∧ r.2.mem ((c.tc : Thread Cert.RefAttnDwoIdeal.nD Cert.RefAttnDwoIdeal.τ).loc Cert.RefAttnDwoIdeal.main_arg1) = m ((c.tc : Thread Cert.RefAttnDwoIdeal.nD Cert.RefAttnDwoIdeal.τ).loc Cert.RefAttnDwoIdeal.main_arg1))
      ∧ r.2.sem = fun _ => 0)

def quiescent_AttnDqn [hAttnDqn : Cert.AttnDqn.Facts] : Prop :=
  ∀ (m : (ℓ : Loc Cert.AttnDqn.nD Cert.AttnDqn.τ Cert.AttnDqn.sig) → Buf (Elt Bits) ℓ) (g : Dev Cert.AttnDqn.nD → PrngReg), Pre_AttnDqn m →
    θ_run (Cert.AttnDqn.defs (F := Bits)) (onTc (τ := Cert.AttnDqn.τ) (Cert.AttnDqn.main (F := Bits))) ⟨m, fun _ => 0, g⟩ (fun r => (∀ c : Dev Cert.AttnDqn.nD,
      r.2.mem ((c.tc : Thread Cert.AttnDqn.nD Cert.AttnDqn.τ).loc Cert.AttnDqn.main_arg0) = m ((c.tc : Thread Cert.AttnDqn.nD Cert.AttnDqn.τ).loc Cert.AttnDqn.main_arg0)
      ∧ r.2.mem ((c.tc : Thread Cert.AttnDqn.nD Cert.AttnDqn.τ).loc Cert.AttnDqn.main_arg1) = m ((c.tc : Thread Cert.AttnDqn.nD Cert.AttnDqn.τ).loc Cert.AttnDqn.main_arg1))
      ∧ r.2.sem = fun _ => 0)

def quiescent_AttnDqnIdeal [hAttnDqnIdeal : Cert.AttnDqnIdeal.Facts] : Prop :=
  ∀ (m : (ℓ : Loc Cert.AttnDqnIdeal.nD Cert.AttnDqnIdeal.τ Cert.AttnDqnIdeal.sig) → Buf (Elt Ideal) ℓ) (g : Dev Cert.AttnDqnIdeal.nD → PrngReg), Pre_AttnDqnIdeal m →
    θ_run (Cert.AttnDqnIdeal.defs (F := Ideal)) (onTc (τ := Cert.AttnDqnIdeal.τ) (Cert.AttnDqnIdeal.main (F := Ideal))) ⟨m, fun _ => 0, g⟩ (fun r => (∀ c : Dev Cert.AttnDqnIdeal.nD,
      r.2.mem ((c.tc : Thread Cert.AttnDqnIdeal.nD Cert.AttnDqnIdeal.τ).loc Cert.AttnDqnIdeal.main_arg0) = m ((c.tc : Thread Cert.AttnDqnIdeal.nD Cert.AttnDqnIdeal.τ).loc Cert.AttnDqnIdeal.main_arg0)
      ∧ r.2.mem ((c.tc : Thread Cert.AttnDqnIdeal.nD Cert.AttnDqnIdeal.τ).loc Cert.AttnDqnIdeal.main_arg1) = m ((c.tc : Thread Cert.AttnDqnIdeal.nD Cert.AttnDqnIdeal.τ).loc Cert.AttnDqnIdeal.main_arg1))
      ∧ r.2.sem = fun _ => 0)

def quiescent_RefAttnDqnIdeal [hRefAttnDqnIdeal : Cert.RefAttnDqnIdeal.Facts] : Prop :=
  ∀ (m : (ℓ : Loc Cert.RefAttnDqnIdeal.nD Cert.RefAttnDqnIdeal.τ Cert.RefAttnDqnIdeal.sig) → Buf (Elt Ideal) ℓ) (g : Dev Cert.RefAttnDqnIdeal.nD → PrngReg), Pre_RefAttnDqnIdeal m →
    θ_run (Cert.RefAttnDqnIdeal.defs (F := Ideal)) (onTc (τ := Cert.RefAttnDqnIdeal.τ) (Cert.RefAttnDqnIdeal.main (F := Ideal))) ⟨m, fun _ => 0, g⟩ (fun r => (∀ c : Dev Cert.RefAttnDqnIdeal.nD,
      r.2.mem ((c.tc : Thread Cert.RefAttnDqnIdeal.nD Cert.RefAttnDqnIdeal.τ).loc Cert.RefAttnDqnIdeal.main_arg0) = m ((c.tc : Thread Cert.RefAttnDqnIdeal.nD Cert.RefAttnDqnIdeal.τ).loc Cert.RefAttnDqnIdeal.main_arg0)
      ∧ r.2.mem ((c.tc : Thread Cert.RefAttnDqnIdeal.nD Cert.RefAttnDqnIdeal.τ).loc Cert.RefAttnDqnIdeal.main_arg1) = m ((c.tc : Thread Cert.RefAttnDqnIdeal.nD Cert.RefAttnDqnIdeal.τ).loc Cert.RefAttnDqnIdeal.main_arg1))
      ∧ r.2.sem = fun _ => 0)

def quiescent_AttnDwq [hAttnDwq : Cert.AttnDwq.Facts] : Prop :=
  ∀ (m : (ℓ : Loc Cert.AttnDwq.nD Cert.AttnDwq.τ Cert.AttnDwq.sig) → Buf (Elt Bits) ℓ) (g : Dev Cert.AttnDwq.nD → PrngReg), Pre_AttnDwq m →
    θ_run (Cert.AttnDwq.defs (F := Bits)) (onTc (τ := Cert.AttnDwq.τ) (Cert.AttnDwq.main (F := Bits))) ⟨m, fun _ => 0, g⟩ (fun r => (∀ c : Dev Cert.AttnDwq.nD,
      r.2.mem ((c.tc : Thread Cert.AttnDwq.nD Cert.AttnDwq.τ).loc Cert.AttnDwq.main_arg0) = m ((c.tc : Thread Cert.AttnDwq.nD Cert.AttnDwq.τ).loc Cert.AttnDwq.main_arg0)
      ∧ r.2.mem ((c.tc : Thread Cert.AttnDwq.nD Cert.AttnDwq.τ).loc Cert.AttnDwq.main_arg1) = m ((c.tc : Thread Cert.AttnDwq.nD Cert.AttnDwq.τ).loc Cert.AttnDwq.main_arg1))
      ∧ r.2.sem = fun _ => 0)

def quiescent_AttnDwqIdeal [hAttnDwqIdeal : Cert.AttnDwqIdeal.Facts] : Prop :=
  ∀ (m : (ℓ : Loc Cert.AttnDwqIdeal.nD Cert.AttnDwqIdeal.τ Cert.AttnDwqIdeal.sig) → Buf (Elt Ideal) ℓ) (g : Dev Cert.AttnDwqIdeal.nD → PrngReg), Pre_AttnDwqIdeal m →
    θ_run (Cert.AttnDwqIdeal.defs (F := Ideal)) (onTc (τ := Cert.AttnDwqIdeal.τ) (Cert.AttnDwqIdeal.main (F := Ideal))) ⟨m, fun _ => 0, g⟩ (fun r => (∀ c : Dev Cert.AttnDwqIdeal.nD,
      r.2.mem ((c.tc : Thread Cert.AttnDwqIdeal.nD Cert.AttnDwqIdeal.τ).loc Cert.AttnDwqIdeal.main_arg0) = m ((c.tc : Thread Cert.AttnDwqIdeal.nD Cert.AttnDwqIdeal.τ).loc Cert.AttnDwqIdeal.main_arg0)
      ∧ r.2.mem ((c.tc : Thread Cert.AttnDwqIdeal.nD Cert.AttnDwqIdeal.τ).loc Cert.AttnDwqIdeal.main_arg1) = m ((c.tc : Thread Cert.AttnDwqIdeal.nD Cert.AttnDwqIdeal.τ).loc Cert.AttnDwqIdeal.main_arg1))
      ∧ r.2.sem = fun _ => 0)

def quiescent_RefAttnDwqIdeal [hRefAttnDwqIdeal : Cert.RefAttnDwqIdeal.Facts] : Prop :=
  ∀ (m : (ℓ : Loc Cert.RefAttnDwqIdeal.nD Cert.RefAttnDwqIdeal.τ Cert.RefAttnDwqIdeal.sig) → Buf (Elt Ideal) ℓ) (g : Dev Cert.RefAttnDwqIdeal.nD → PrngReg), Pre_RefAttnDwqIdeal m →
    θ_run (Cert.RefAttnDwqIdeal.defs (F := Ideal)) (onTc (τ := Cert.RefAttnDwqIdeal.τ) (Cert.RefAttnDwqIdeal.main (F := Ideal))) ⟨m, fun _ => 0, g⟩ (fun r => (∀ c : Dev Cert.RefAttnDwqIdeal.nD,
      r.2.mem ((c.tc : Thread Cert.RefAttnDwqIdeal.nD Cert.RefAttnDwqIdeal.τ).loc Cert.RefAttnDwqIdeal.main_arg0) = m ((c.tc : Thread Cert.RefAttnDwqIdeal.nD Cert.RefAttnDwqIdeal.τ).loc Cert.RefAttnDwqIdeal.main_arg0)
      ∧ r.2.mem ((c.tc : Thread Cert.RefAttnDwqIdeal.nD Cert.RefAttnDwqIdeal.τ).loc Cert.RefAttnDwqIdeal.main_arg1) = m ((c.tc : Thread Cert.RefAttnDwqIdeal.nD Cert.RefAttnDwqIdeal.τ).loc Cert.RefAttnDwqIdeal.main_arg1))
      ∧ r.2.sem = fun _ => 0)

def quiescent_AttnDkvn [hAttnDkvn : Cert.AttnDkvn.Facts] : Prop :=
  ∀ (m : (ℓ : Loc Cert.AttnDkvn.nD Cert.AttnDkvn.τ Cert.AttnDkvn.sig) → Buf (Elt Bits) ℓ) (g : Dev Cert.AttnDkvn.nD → PrngReg), Pre_AttnDkvn m →
    θ_run (Cert.AttnDkvn.defs (F := Bits)) (onTc (τ := Cert.AttnDkvn.τ) (Cert.AttnDkvn.main (F := Bits))) ⟨m, fun _ => 0, g⟩ (fun r => (∀ c : Dev Cert.AttnDkvn.nD,
      r.2.mem ((c.tc : Thread Cert.AttnDkvn.nD Cert.AttnDkvn.τ).loc Cert.AttnDkvn.main_arg0) = m ((c.tc : Thread Cert.AttnDkvn.nD Cert.AttnDkvn.τ).loc Cert.AttnDkvn.main_arg0)
      ∧ r.2.mem ((c.tc : Thread Cert.AttnDkvn.nD Cert.AttnDkvn.τ).loc Cert.AttnDkvn.main_arg1) = m ((c.tc : Thread Cert.AttnDkvn.nD Cert.AttnDkvn.τ).loc Cert.AttnDkvn.main_arg1)
      ∧ r.2.mem ((c.tc : Thread Cert.AttnDkvn.nD Cert.AttnDkvn.τ).loc Cert.AttnDkvn.main_arg2) = m ((c.tc : Thread Cert.AttnDkvn.nD Cert.AttnDkvn.τ).loc Cert.AttnDkvn.main_arg2)
      ∧ r.2.mem ((c.tc : Thread Cert.AttnDkvn.nD Cert.AttnDkvn.τ).loc Cert.AttnDkvn.main_arg3) = m ((c.tc : Thread Cert.AttnDkvn.nD Cert.AttnDkvn.τ).loc Cert.AttnDkvn.main_arg3))
      ∧ r.2.sem = fun _ => 0)

def quiescent_AttnDkvnIdeal [hAttnDkvnIdeal : Cert.AttnDkvnIdeal.Facts] : Prop :=
  ∀ (m : (ℓ : Loc Cert.AttnDkvnIdeal.nD Cert.AttnDkvnIdeal.τ Cert.AttnDkvnIdeal.sig) → Buf (Elt Ideal) ℓ) (g : Dev Cert.AttnDkvnIdeal.nD → PrngReg), Pre_AttnDkvnIdeal m →
    θ_run (Cert.AttnDkvnIdeal.defs (F := Ideal)) (onTc (τ := Cert.AttnDkvnIdeal.τ) (Cert.AttnDkvnIdeal.main (F := Ideal))) ⟨m, fun _ => 0, g⟩ (fun r => (∀ c : Dev Cert.AttnDkvnIdeal.nD,
      r.2.mem ((c.tc : Thread Cert.AttnDkvnIdeal.nD Cert.AttnDkvnIdeal.τ).loc Cert.AttnDkvnIdeal.main_arg0) = m ((c.tc : Thread Cert.AttnDkvnIdeal.nD Cert.AttnDkvnIdeal.τ).loc Cert.AttnDkvnIdeal.main_arg0)
      ∧ r.2.mem ((c.tc : Thread Cert.AttnDkvnIdeal.nD Cert.AttnDkvnIdeal.τ).loc Cert.AttnDkvnIdeal.main_arg1) = m ((c.tc : Thread Cert.AttnDkvnIdeal.nD Cert.AttnDkvnIdeal.τ).loc Cert.AttnDkvnIdeal.main_arg1)
      ∧ r.2.mem ((c.tc : Thread Cert.AttnDkvnIdeal.nD Cert.AttnDkvnIdeal.τ).loc Cert.AttnDkvnIdeal.main_arg2) = m ((c.tc : Thread Cert.AttnDkvnIdeal.nD Cert.AttnDkvnIdeal.τ).loc Cert.AttnDkvnIdeal.main_arg2)
      ∧ r.2.mem ((c.tc : Thread Cert.AttnDkvnIdeal.nD Cert.AttnDkvnIdeal.τ).loc Cert.AttnDkvnIdeal.main_arg3) = m ((c.tc : Thread Cert.AttnDkvnIdeal.nD Cert.AttnDkvnIdeal.τ).loc Cert.AttnDkvnIdeal.main_arg3))
      ∧ r.2.sem = fun _ => 0)

def quiescent_RefAttnDkvnIdeal [hRefAttnDkvnIdeal : Cert.RefAttnDkvnIdeal.Facts] : Prop :=
  ∀ (m : (ℓ : Loc Cert.RefAttnDkvnIdeal.nD Cert.RefAttnDkvnIdeal.τ Cert.RefAttnDkvnIdeal.sig) → Buf (Elt Ideal) ℓ) (g : Dev Cert.RefAttnDkvnIdeal.nD → PrngReg), Pre_RefAttnDkvnIdeal m →
    θ_run (Cert.RefAttnDkvnIdeal.defs (F := Ideal)) (onTc (τ := Cert.RefAttnDkvnIdeal.τ) (Cert.RefAttnDkvnIdeal.main (F := Ideal))) ⟨m, fun _ => 0, g⟩ (fun r => (∀ c : Dev Cert.RefAttnDkvnIdeal.nD,
      r.2.mem ((c.tc : Thread Cert.RefAttnDkvnIdeal.nD Cert.RefAttnDkvnIdeal.τ).loc Cert.RefAttnDkvnIdeal.main_arg0) = m ((c.tc : Thread Cert.RefAttnDkvnIdeal.nD Cert.RefAttnDkvnIdeal.τ).loc Cert.RefAttnDkvnIdeal.main_arg0)
      ∧ r.2.mem ((c.tc : Thread Cert.RefAttnDkvnIdeal.nD Cert.RefAttnDkvnIdeal.τ).loc Cert.RefAttnDkvnIdeal.main_arg1) = m ((c.tc : Thread Cert.RefAttnDkvnIdeal.nD Cert.RefAttnDkvnIdeal.τ).loc Cert.RefAttnDkvnIdeal.main_arg1)
      ∧ r.2.mem ((c.tc : Thread Cert.RefAttnDkvnIdeal.nD Cert.RefAttnDkvnIdeal.τ).loc Cert.RefAttnDkvnIdeal.main_arg2) = m ((c.tc : Thread Cert.RefAttnDkvnIdeal.nD Cert.RefAttnDkvnIdeal.τ).loc Cert.RefAttnDkvnIdeal.main_arg2)
      ∧ r.2.mem ((c.tc : Thread Cert.RefAttnDkvnIdeal.nD Cert.RefAttnDkvnIdeal.τ).loc Cert.RefAttnDkvnIdeal.main_arg3) = m ((c.tc : Thread Cert.RefAttnDkvnIdeal.nD Cert.RefAttnDkvnIdeal.τ).loc Cert.RefAttnDkvnIdeal.main_arg3))
      ∧ r.2.sem = fun _ => 0)

def quiescent_AttnDwk [hAttnDwk : Cert.AttnDwk.Facts] : Prop :=
  ∀ (m : (ℓ : Loc Cert.AttnDwk.nD Cert.AttnDwk.τ Cert.AttnDwk.sig) → Buf (Elt Bits) ℓ) (g : Dev Cert.AttnDwk.nD → PrngReg), Pre_AttnDwk m →
    θ_run (Cert.AttnDwk.defs (F := Bits)) (onTc (τ := Cert.AttnDwk.τ) (Cert.AttnDwk.main (F := Bits))) ⟨m, fun _ => 0, g⟩ (fun r => (∀ c : Dev Cert.AttnDwk.nD,
      r.2.mem ((c.tc : Thread Cert.AttnDwk.nD Cert.AttnDwk.τ).loc Cert.AttnDwk.main_arg0) = m ((c.tc : Thread Cert.AttnDwk.nD Cert.AttnDwk.τ).loc Cert.AttnDwk.main_arg0)
      ∧ r.2.mem ((c.tc : Thread Cert.AttnDwk.nD Cert.AttnDwk.τ).loc Cert.AttnDwk.main_arg1) = m ((c.tc : Thread Cert.AttnDwk.nD Cert.AttnDwk.τ).loc Cert.AttnDwk.main_arg1))
      ∧ r.2.sem = fun _ => 0)

def quiescent_AttnDwkIdeal [hAttnDwkIdeal : Cert.AttnDwkIdeal.Facts] : Prop :=
  ∀ (m : (ℓ : Loc Cert.AttnDwkIdeal.nD Cert.AttnDwkIdeal.τ Cert.AttnDwkIdeal.sig) → Buf (Elt Ideal) ℓ) (g : Dev Cert.AttnDwkIdeal.nD → PrngReg), Pre_AttnDwkIdeal m →
    θ_run (Cert.AttnDwkIdeal.defs (F := Ideal)) (onTc (τ := Cert.AttnDwkIdeal.τ) (Cert.AttnDwkIdeal.main (F := Ideal))) ⟨m, fun _ => 0, g⟩ (fun r => (∀ c : Dev Cert.AttnDwkIdeal.nD,
      r.2.mem ((c.tc : Thread Cert.AttnDwkIdeal.nD Cert.AttnDwkIdeal.τ).loc Cert.AttnDwkIdeal.main_arg0) = m ((c.tc : Thread Cert.AttnDwkIdeal.nD Cert.AttnDwkIdeal.τ).loc Cert.AttnDwkIdeal.main_arg0)
      ∧ r.2.mem ((c.tc : Thread Cert.AttnDwkIdeal.nD Cert.AttnDwkIdeal.τ).loc Cert.AttnDwkIdeal.main_arg1) = m ((c.tc : Thread Cert.AttnDwkIdeal.nD Cert.AttnDwkIdeal.τ).loc Cert.AttnDwkIdeal.main_arg1))
      ∧ r.2.sem = fun _ => 0)

def quiescent_RefAttnDwkIdeal [hRefAttnDwkIdeal : Cert.RefAttnDwkIdeal.Facts] : Prop :=
  ∀ (m : (ℓ : Loc Cert.RefAttnDwkIdeal.nD Cert.RefAttnDwkIdeal.τ Cert.RefAttnDwkIdeal.sig) → Buf (Elt Ideal) ℓ) (g : Dev Cert.RefAttnDwkIdeal.nD → PrngReg), Pre_RefAttnDwkIdeal m →
    θ_run (Cert.RefAttnDwkIdeal.defs (F := Ideal)) (onTc (τ := Cert.RefAttnDwkIdeal.τ) (Cert.RefAttnDwkIdeal.main (F := Ideal))) ⟨m, fun _ => 0, g⟩ (fun r => (∀ c : Dev Cert.RefAttnDwkIdeal.nD,
      r.2.mem ((c.tc : Thread Cert.RefAttnDwkIdeal.nD Cert.RefAttnDwkIdeal.τ).loc Cert.RefAttnDwkIdeal.main_arg0) = m ((c.tc : Thread Cert.RefAttnDwkIdeal.nD Cert.RefAttnDwkIdeal.τ).loc Cert.RefAttnDwkIdeal.main_arg0)
      ∧ r.2.mem ((c.tc : Thread Cert.RefAttnDwkIdeal.nD Cert.RefAttnDwkIdeal.τ).loc Cert.RefAttnDwkIdeal.main_arg1) = m ((c.tc : Thread Cert.RefAttnDwkIdeal.nD Cert.RefAttnDwkIdeal.τ).loc Cert.RefAttnDwkIdeal.main_arg1))
      ∧ r.2.sem = fun _ => 0)

def quiescent_AdamGlu [hAdamGlu : Cert.AdamGlu.Facts] : Prop :=
  ∀ (m : (ℓ : Loc Cert.AdamGlu.nD Cert.AdamGlu.τ Cert.AdamGlu.sig) → Buf (Elt Bits) ℓ) (g : Dev Cert.AdamGlu.nD → PrngReg), Pre_AdamGlu m →
    θ_run (Cert.AdamGlu.defs (F := Bits)) (onTc (τ := Cert.AdamGlu.τ) (Cert.AdamGlu.main (F := Bits))) ⟨m, fun _ => 0, g⟩ (fun r => (∀ c : Dev Cert.AdamGlu.nD,
      r.2.mem ((c.tc : Thread Cert.AdamGlu.nD Cert.AdamGlu.τ).loc Cert.AdamGlu.main_arg0) = m ((c.tc : Thread Cert.AdamGlu.nD Cert.AdamGlu.τ).loc Cert.AdamGlu.main_arg0)
      ∧ r.2.mem ((c.tc : Thread Cert.AdamGlu.nD Cert.AdamGlu.τ).loc Cert.AdamGlu.main_arg1) = m ((c.tc : Thread Cert.AdamGlu.nD Cert.AdamGlu.τ).loc Cert.AdamGlu.main_arg1)
      ∧ r.2.mem ((c.tc : Thread Cert.AdamGlu.nD Cert.AdamGlu.τ).loc Cert.AdamGlu.main_arg2) = m ((c.tc : Thread Cert.AdamGlu.nD Cert.AdamGlu.τ).loc Cert.AdamGlu.main_arg2)
      ∧ r.2.mem ((c.tc : Thread Cert.AdamGlu.nD Cert.AdamGlu.τ).loc Cert.AdamGlu.main_arg3) = m ((c.tc : Thread Cert.AdamGlu.nD Cert.AdamGlu.τ).loc Cert.AdamGlu.main_arg3)
      ∧ r.2.mem ((c.tc : Thread Cert.AdamGlu.nD Cert.AdamGlu.τ).loc Cert.AdamGlu.main_arg4) = m ((c.tc : Thread Cert.AdamGlu.nD Cert.AdamGlu.τ).loc Cert.AdamGlu.main_arg4))
      ∧ r.2.sem = fun _ => 0)

def quiescent_AdamGluIdeal [hAdamGluIdeal : Cert.AdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg), Pre_AdamGluIdeal m →
    θ_run (Cert.AdamGluIdeal.defs (F := Ideal)) (onTc (τ := Cert.AdamGluIdeal.τ) (Cert.AdamGluIdeal.main (F := Ideal))) ⟨m, fun _ => 0, g⟩ (fun r => (∀ c : Dev Cert.AdamGluIdeal.nD,
      r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
      ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
      ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
      ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
      ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ r.2.sem = fun _ => 0)

def quiescent_RefAdamGluIdeal [hRefAdamGluIdeal : Cert.RefAdamGluIdeal.Facts] : Prop :=
  ∀ (m : (ℓ : Loc Cert.RefAdamGluIdeal.nD Cert.RefAdamGluIdeal.τ Cert.RefAdamGluIdeal.sig) → Buf (Elt Ideal) ℓ) (g : Dev Cert.RefAdamGluIdeal.nD → PrngReg), Pre_RefAdamGluIdeal m →
    θ_run (Cert.RefAdamGluIdeal.defs (F := Ideal)) (onTc (τ := Cert.RefAdamGluIdeal.τ) (Cert.RefAdamGluIdeal.main (F := Ideal))) ⟨m, fun _ => 0, g⟩ (fun r => (∀ c : Dev Cert.RefAdamGluIdeal.nD,
      r.2.mem ((c.tc : Thread Cert.RefAdamGluIdeal.nD Cert.RefAdamGluIdeal.τ).loc Cert.RefAdamGluIdeal.main_arg0) = m ((c.tc : Thread Cert.RefAdamGluIdeal.nD Cert.RefAdamGluIdeal.τ).loc Cert.RefAdamGluIdeal.main_arg0)
      ∧ r.2.mem ((c.tc : Thread Cert.RefAdamGluIdeal.nD Cert.RefAdamGluIdeal.τ).loc Cert.RefAdamGluIdeal.main_arg1) = m ((c.tc : Thread Cert.RefAdamGluIdeal.nD Cert.RefAdamGluIdeal.τ).loc Cert.RefAdamGluIdeal.main_arg1)
      ∧ r.2.mem ((c.tc : Thread Cert.RefAdamGluIdeal.nD Cert.RefAdamGluIdeal.τ).loc Cert.RefAdamGluIdeal.main_arg2) = m ((c.tc : Thread Cert.RefAdamGluIdeal.nD Cert.RefAdamGluIdeal.τ).loc Cert.RefAdamGluIdeal.main_arg2)
      ∧ r.2.mem ((c.tc : Thread Cert.RefAdamGluIdeal.nD Cert.RefAdamGluIdeal.τ).loc Cert.RefAdamGluIdeal.main_arg3) = m ((c.tc : Thread Cert.RefAdamGluIdeal.nD Cert.RefAdamGluIdeal.τ).loc Cert.RefAdamGluIdeal.main_arg3)
      ∧ r.2.mem ((c.tc : Thread Cert.RefAdamGluIdeal.nD Cert.RefAdamGluIdeal.τ).loc Cert.RefAdamGluIdeal.main_arg4) = m ((c.tc : Thread Cert.RefAdamGluIdeal.nD Cert.RefAdamGluIdeal.τ).loc Cert.RefAdamGluIdeal.main_arg4))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3)
      ∧ r.2.mem ((c.tc : Thread Cert.AdamQ.nD Cert.AdamQ.τ).loc Cert.AdamQ.main_arg4) = m ((c.tc : Thread Cert.AdamQ.nD Cert.AdamQ.τ).loc Cert.AdamQ.main_arg4))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3)
      ∧ r.2.mem ((c.tc : Thread Cert.AdamQIdeal.nD Cert.AdamQIdeal.τ).loc Cert.AdamQIdeal.main_arg4) = m ((c.tc : Thread Cert.AdamQIdeal.nD Cert.AdamQIdeal.τ).loc Cert.AdamQIdeal.main_arg4))
      ∧ r.2.sem = fun _ => 0)

def quiescent_RefAdamQIdeal [hRefAdamQIdeal : Cert.RefAdamQIdeal.Facts] : Prop :=
  ∀ (m : (ℓ : Loc Cert.RefAdamQIdeal.nD Cert.RefAdamQIdeal.τ Cert.RefAdamQIdeal.sig) → Buf (Elt Ideal) ℓ) (g : Dev Cert.RefAdamQIdeal.nD → PrngReg), Pre_RefAdamQIdeal m →
    θ_run (Cert.RefAdamQIdeal.defs (F := Ideal)) (onTc (τ := Cert.RefAdamQIdeal.τ) (Cert.RefAdamQIdeal.main (F := Ideal))) ⟨m, fun _ => 0, g⟩ (fun r => (∀ c : Dev Cert.RefAdamQIdeal.nD,
      r.2.mem ((c.tc : Thread Cert.RefAdamQIdeal.nD Cert.RefAdamQIdeal.τ).loc Cert.RefAdamQIdeal.main_arg0) = m ((c.tc : Thread Cert.RefAdamQIdeal.nD Cert.RefAdamQIdeal.τ).loc Cert.RefAdamQIdeal.main_arg0)
      ∧ r.2.mem ((c.tc : Thread Cert.RefAdamQIdeal.nD Cert.RefAdamQIdeal.τ).loc Cert.RefAdamQIdeal.main_arg1) = m ((c.tc : Thread Cert.RefAdamQIdeal.nD Cert.RefAdamQIdeal.τ).loc Cert.RefAdamQIdeal.main_arg1)
      ∧ r.2.mem ((c.tc : Thread Cert.RefAdamQIdeal.nD Cert.RefAdamQIdeal.τ).loc Cert.RefAdamQIdeal.main_arg2) = m ((c.tc : Thread Cert.RefAdamQIdeal.nD Cert.RefAdamQIdeal.τ).loc Cert.RefAdamQIdeal.main_arg2)
      ∧ r.2.mem ((c.tc : Thread Cert.RefAdamQIdeal.nD Cert.RefAdamQIdeal.τ).loc Cert.RefAdamQIdeal.main_arg3) = m ((c.tc : Thread Cert.RefAdamQIdeal.nD Cert.RefAdamQIdeal.τ).loc Cert.RefAdamQIdeal.main_arg3)
      ∧ r.2.mem ((c.tc : Thread Cert.RefAdamQIdeal.nD Cert.RefAdamQIdeal.τ).loc Cert.RefAdamQIdeal.main_arg4) = m ((c.tc : Thread Cert.RefAdamQIdeal.nD Cert.RefAdamQIdeal.τ).loc Cert.RefAdamQIdeal.main_arg4))
      ∧ r.2.sem = fun _ => 0)

def quiescent_AdamFfnIn [hAdamFfnIn : Cert.AdamFfnIn.Facts] : Prop :=
  ∀ (m : (ℓ : Loc Cert.AdamFfnIn.nD Cert.AdamFfnIn.τ Cert.AdamFfnIn.sig) → Buf (Elt Bits) ℓ) (g : Dev Cert.AdamFfnIn.nD → PrngReg), Pre_AdamFfnIn m →
    θ_run (Cert.AdamFfnIn.defs (F := Bits)) (onTc (τ := Cert.AdamFfnIn.τ) (Cert.AdamFfnIn.main (F := Bits))) ⟨m, fun _ => 0, g⟩ (fun r => (∀ c : Dev Cert.AdamFfnIn.nD,
      r.2.mem ((c.tc : Thread Cert.AdamFfnIn.nD Cert.AdamFfnIn.τ).loc Cert.AdamFfnIn.main_arg0) = m ((c.tc : Thread Cert.AdamFfnIn.nD Cert.AdamFfnIn.τ).loc Cert.AdamFfnIn.main_arg0)
      ∧ r.2.mem ((c.tc : Thread Cert.AdamFfnIn.nD Cert.AdamFfnIn.τ).loc Cert.AdamFfnIn.main_arg1) = m ((c.tc : Thread Cert.AdamFfnIn.nD Cert.AdamFfnIn.τ).loc Cert.AdamFfnIn.main_arg1)
      ∧ r.2.mem ((c.tc : Thread Cert.AdamFfnIn.nD Cert.AdamFfnIn.τ).loc Cert.AdamFfnIn.main_arg2) = m ((c.tc : Thread Cert.AdamFfnIn.nD Cert.AdamFfnIn.τ).loc Cert.AdamFfnIn.main_arg2)
      ∧ r.2.mem ((c.tc : Thread Cert.AdamFfnIn.nD Cert.AdamFfnIn.τ).loc Cert.AdamFfnIn.main_arg3) = m ((c.tc : Thread Cert.AdamFfnIn.nD Cert.AdamFfnIn.τ).loc Cert.AdamFfnIn.main_arg3)
      ∧ r.2.mem ((c.tc : Thread Cert.AdamFfnIn.nD Cert.AdamFfnIn.τ).loc Cert.AdamFfnIn.main_arg4) = m ((c.tc : Thread Cert.AdamFfnIn.nD Cert.AdamFfnIn.τ).loc Cert.AdamFfnIn.main_arg4))
      ∧ r.2.sem = fun _ => 0)

def quiescent_AdamFfnInIdeal [hAdamFfnInIdeal : Cert.AdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg), Pre_AdamFfnInIdeal m →
    θ_run (Cert.AdamFfnInIdeal.defs (F := Ideal)) (onTc (τ := Cert.AdamFfnInIdeal.τ) (Cert.AdamFfnInIdeal.main (F := Ideal))) ⟨m, fun _ => 0, g⟩ (fun r => (∀ c : Dev Cert.AdamFfnInIdeal.nD,
      r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
      ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
      ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
      ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
      ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ r.2.sem = fun _ => 0)

def quiescent_RefAdamFfnInIdeal [hRefAdamFfnInIdeal : Cert.RefAdamFfnInIdeal.Facts] : Prop :=
  ∀ (m : (ℓ : Loc Cert.RefAdamFfnInIdeal.nD Cert.RefAdamFfnInIdeal.τ Cert.RefAdamFfnInIdeal.sig) → Buf (Elt Ideal) ℓ) (g : Dev Cert.RefAdamFfnInIdeal.nD → PrngReg), Pre_RefAdamFfnInIdeal m →
    θ_run (Cert.RefAdamFfnInIdeal.defs (F := Ideal)) (onTc (τ := Cert.RefAdamFfnInIdeal.τ) (Cert.RefAdamFfnInIdeal.main (F := Ideal))) ⟨m, fun _ => 0, g⟩ (fun r => (∀ c : Dev Cert.RefAdamFfnInIdeal.nD,
      r.2.mem ((c.tc : Thread Cert.RefAdamFfnInIdeal.nD Cert.RefAdamFfnInIdeal.τ).loc Cert.RefAdamFfnInIdeal.main_arg0) = m ((c.tc : Thread Cert.RefAdamFfnInIdeal.nD Cert.RefAdamFfnInIdeal.τ).loc Cert.RefAdamFfnInIdeal.main_arg0)
      ∧ r.2.mem ((c.tc : Thread Cert.RefAdamFfnInIdeal.nD Cert.RefAdamFfnInIdeal.τ).loc Cert.RefAdamFfnInIdeal.main_arg1) = m ((c.tc : Thread Cert.RefAdamFfnInIdeal.nD Cert.RefAdamFfnInIdeal.τ).loc Cert.RefAdamFfnInIdeal.main_arg1)
      ∧ r.2.mem ((c.tc : Thread Cert.RefAdamFfnInIdeal.nD Cert.RefAdamFfnInIdeal.τ).loc Cert.RefAdamFfnInIdeal.main_arg2) = m ((c.tc : Thread Cert.RefAdamFfnInIdeal.nD Cert.RefAdamFfnInIdeal.τ).loc Cert.RefAdamFfnInIdeal.main_arg2)
      ∧ r.2.mem ((c.tc : Thread Cert.RefAdamFfnInIdeal.nD Cert.RefAdamFfnInIdeal.τ).loc Cert.RefAdamFfnInIdeal.main_arg3) = m ((c.tc : Thread Cert.RefAdamFfnInIdeal.nD Cert.RefAdamFfnInIdeal.τ).loc Cert.RefAdamFfnInIdeal.main_arg3)
      ∧ r.2.mem ((c.tc : Thread Cert.RefAdamFfnInIdeal.nD Cert.RefAdamFfnInIdeal.τ).loc Cert.RefAdamFfnInIdeal.main_arg4) = m ((c.tc : Thread Cert.RefAdamFfnInIdeal.nD Cert.RefAdamFfnInIdeal.τ).loc Cert.RefAdamFfnInIdeal.main_arg4))
      ∧ r.2.sem = fun _ => 0)

def quiescent_AdamFfnOut [hAdamFfnOut : Cert.AdamFfnOut.Facts] : Prop :=
  ∀ (m : (ℓ : Loc Cert.AdamFfnOut.nD Cert.AdamFfnOut.τ Cert.AdamFfnOut.sig) → Buf (Elt Bits) ℓ) (g : Dev Cert.AdamFfnOut.nD → PrngReg), Pre_AdamFfnOut m →
    θ_run (Cert.AdamFfnOut.defs (F := Bits)) (onTc (τ := Cert.AdamFfnOut.τ) (Cert.AdamFfnOut.main (F := Bits))) ⟨m, fun _ => 0, g⟩ (fun r => (∀ c : Dev Cert.AdamFfnOut.nD,
      r.2.mem ((c.tc : Thread Cert.AdamFfnOut.nD Cert.AdamFfnOut.τ).loc Cert.AdamFfnOut.main_arg0) = m ((c.tc : Thread Cert.AdamFfnOut.nD Cert.AdamFfnOut.τ).loc Cert.AdamFfnOut.main_arg0)
      ∧ r.2.mem ((c.tc : Thread Cert.AdamFfnOut.nD Cert.AdamFfnOut.τ).loc Cert.AdamFfnOut.main_arg1) = m ((c.tc : Thread Cert.AdamFfnOut.nD Cert.AdamFfnOut.τ).loc Cert.AdamFfnOut.main_arg1)
      ∧ r.2.mem ((c.tc : Thread Cert.AdamFfnOut.nD Cert.AdamFfnOut.τ).loc Cert.AdamFfnOut.main_arg2) = m ((c.tc : Thread Cert.AdamFfnOut.nD Cert.AdamFfnOut.τ).loc Cert.AdamFfnOut.main_arg2)
      ∧ r.2.mem ((c.tc : Thread Cert.AdamFfnOut.nD Cert.AdamFfnOut.τ).loc Cert.AdamFfnOut.main_arg3) = m ((c.tc : Thread Cert.AdamFfnOut.nD Cert.AdamFfnOut.τ).loc Cert.AdamFfnOut.main_arg3)
      ∧ r.2.mem ((c.tc : Thread Cert.AdamFfnOut.nD Cert.AdamFfnOut.τ).loc Cert.AdamFfnOut.main_arg4) = m ((c.tc : Thread Cert.AdamFfnOut.nD Cert.AdamFfnOut.τ).loc Cert.AdamFfnOut.main_arg4))
      ∧ r.2.sem = fun _ => 0)

def quiescent_AdamFfnOutIdeal [hAdamFfnOutIdeal : Cert.AdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg), Pre_AdamFfnOutIdeal m →
    θ_run (Cert.AdamFfnOutIdeal.defs (F := Ideal)) (onTc (τ := Cert.AdamFfnOutIdeal.τ) (Cert.AdamFfnOutIdeal.main (F := Ideal))) ⟨m, fun _ => 0, g⟩ (fun r => (∀ c : Dev Cert.AdamFfnOutIdeal.nD,
      r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
      ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
      ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
      ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
      ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ r.2.sem = fun _ => 0)

def quiescent_RefAdamFfnOutIdeal [hRefAdamFfnOutIdeal : Cert.RefAdamFfnOutIdeal.Facts] : Prop :=
  ∀ (m : (ℓ : Loc Cert.RefAdamFfnOutIdeal.nD Cert.RefAdamFfnOutIdeal.τ Cert.RefAdamFfnOutIdeal.sig) → Buf (Elt Ideal) ℓ) (g : Dev Cert.RefAdamFfnOutIdeal.nD → PrngReg), Pre_RefAdamFfnOutIdeal m →
    θ_run (Cert.RefAdamFfnOutIdeal.defs (F := Ideal)) (onTc (τ := Cert.RefAdamFfnOutIdeal.τ) (Cert.RefAdamFfnOutIdeal.main (F := Ideal))) ⟨m, fun _ => 0, g⟩ (fun r => (∀ c : Dev Cert.RefAdamFfnOutIdeal.nD,
      r.2.mem ((c.tc : Thread Cert.RefAdamFfnOutIdeal.nD Cert.RefAdamFfnOutIdeal.τ).loc Cert.RefAdamFfnOutIdeal.main_arg0) = m ((c.tc : Thread Cert.RefAdamFfnOutIdeal.nD Cert.RefAdamFfnOutIdeal.τ).loc Cert.RefAdamFfnOutIdeal.main_arg0)
      ∧ r.2.mem ((c.tc : Thread Cert.RefAdamFfnOutIdeal.nD Cert.RefAdamFfnOutIdeal.τ).loc Cert.RefAdamFfnOutIdeal.main_arg1) = m ((c.tc : Thread Cert.RefAdamFfnOutIdeal.nD Cert.RefAdamFfnOutIdeal.τ).loc Cert.RefAdamFfnOutIdeal.main_arg1)
      ∧ r.2.mem ((c.tc : Thread Cert.RefAdamFfnOutIdeal.nD Cert.RefAdamFfnOutIdeal.τ).loc Cert.RefAdamFfnOutIdeal.main_arg2) = m ((c.tc : Thread Cert.RefAdamFfnOutIdeal.nD Cert.RefAdamFfnOutIdeal.τ).loc Cert.RefAdamFfnOutIdeal.main_arg2)
      ∧ r.2.mem ((c.tc : Thread Cert.RefAdamFfnOutIdeal.nD Cert.RefAdamFfnOutIdeal.τ).loc Cert.RefAdamFfnOutIdeal.main_arg3) = m ((c.tc : Thread Cert.RefAdamFfnOutIdeal.nD Cert.RefAdamFfnOutIdeal.τ).loc Cert.RefAdamFfnOutIdeal.main_arg3)
      ∧ r.2.mem ((c.tc : Thread Cert.RefAdamFfnOutIdeal.nD Cert.RefAdamFfnOutIdeal.τ).loc Cert.RefAdamFfnOutIdeal.main_arg4) = m ((c.tc : Thread Cert.RefAdamFfnOutIdeal.nD Cert.RefAdamFfnOutIdeal.τ).loc Cert.RefAdamFfnOutIdeal.main_arg4))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_RefAdamSmallIdeal [hRefAdamSmallIdeal : Cert.RefAdamSmallIdeal.Facts] : Prop :=
  ∀ (m : (ℓ : Loc Cert.RefAdamSmallIdeal.nD Cert.RefAdamSmallIdeal.τ Cert.RefAdamSmallIdeal.sig) → Buf (Elt Ideal) ℓ) (g : Dev Cert.RefAdamSmallIdeal.nD → PrngReg), Pre_RefAdamSmallIdeal m →
    θ_run (Cert.RefAdamSmallIdeal.defs (F := Ideal)) (onTc (τ := Cert.RefAdamSmallIdeal.τ) (Cert.RefAdamSmallIdeal.main (F := Ideal))) ⟨m, fun _ => 0, g⟩ (fun r => (∀ c : Dev Cert.RefAdamSmallIdeal.nD,
      r.2.mem ((c.tc : Thread Cert.RefAdamSmallIdeal.nD Cert.RefAdamSmallIdeal.τ).loc Cert.RefAdamSmallIdeal.main_arg0) = m ((c.tc : Thread Cert.RefAdamSmallIdeal.nD Cert.RefAdamSmallIdeal.τ).loc Cert.RefAdamSmallIdeal.main_arg0)
      ∧ r.2.mem ((c.tc : Thread Cert.RefAdamSmallIdeal.nD Cert.RefAdamSmallIdeal.τ).loc Cert.RefAdamSmallIdeal.main_arg1) = m ((c.tc : Thread Cert.RefAdamSmallIdeal.nD Cert.RefAdamSmallIdeal.τ).loc Cert.RefAdamSmallIdeal.main_arg1)
      ∧ r.2.mem ((c.tc : Thread Cert.RefAdamSmallIdeal.nD Cert.RefAdamSmallIdeal.τ).loc Cert.RefAdamSmallIdeal.main_arg2) = m ((c.tc : Thread Cert.RefAdamSmallIdeal.nD Cert.RefAdamSmallIdeal.τ).loc Cert.RefAdamSmallIdeal.main_arg2)
      ∧ r.2.mem ((c.tc : Thread Cert.RefAdamSmallIdeal.nD Cert.RefAdamSmallIdeal.τ).loc Cert.RefAdamSmallIdeal.main_arg3) = m ((c.tc : Thread Cert.RefAdamSmallIdeal.nD Cert.RefAdamSmallIdeal.τ).loc Cert.RefAdamSmallIdeal.main_arg3))
      ∧ r.2.sem = fun _ => 0)

def quiescent_AdamCols [hAdamCols : Cert.AdamCols.Facts] : Prop :=
  ∀ (m : (ℓ : Loc Cert.AdamCols.nD Cert.AdamCols.τ Cert.AdamCols.sig) → Buf (Elt Bits) ℓ) (g : Dev Cert.AdamCols.nD → PrngReg), Pre_AdamCols m →
    θ_run (Cert.AdamCols.defs (F := Bits)) (onTc (τ := Cert.AdamCols.τ) (Cert.AdamCols.main (F := Bits))) ⟨m, fun _ => 0, g⟩ (fun r => (∀ c : Dev Cert.AdamCols.nD,
      r.2.mem ((c.tc : Thread Cert.AdamCols.nD Cert.AdamCols.τ).loc Cert.AdamCols.main_arg0) = m ((c.tc : Thread Cert.AdamCols.nD Cert.AdamCols.τ).loc Cert.AdamCols.main_arg0)
      ∧ r.2.mem ((c.tc : Thread Cert.AdamCols.nD Cert.AdamCols.τ).loc Cert.AdamCols.main_arg1) = m ((c.tc : Thread Cert.AdamCols.nD Cert.AdamCols.τ).loc Cert.AdamCols.main_arg1)
      ∧ r.2.mem ((c.tc : Thread Cert.AdamCols.nD Cert.AdamCols.τ).loc Cert.AdamCols.main_arg2) = m ((c.tc : Thread Cert.AdamCols.nD Cert.AdamCols.τ).loc Cert.AdamCols.main_arg2)
      ∧ r.2.mem ((c.tc : Thread Cert.AdamCols.nD Cert.AdamCols.τ).loc Cert.AdamCols.main_arg3) = m ((c.tc : Thread Cert.AdamCols.nD Cert.AdamCols.τ).loc Cert.AdamCols.main_arg3))
      ∧ r.2.sem = fun _ => 0)

def quiescent_AdamColsIdeal [hAdamColsIdeal : Cert.AdamColsIdeal.Facts] : Prop :=
  ∀ (m : (ℓ : Loc Cert.AdamColsIdeal.nD Cert.AdamColsIdeal.τ Cert.AdamColsIdeal.sig) → Buf (Elt Ideal) ℓ) (g : Dev Cert.AdamColsIdeal.nD → PrngReg), Pre_AdamColsIdeal m →
    θ_run (Cert.AdamColsIdeal.defs (F := Ideal)) (onTc (τ := Cert.AdamColsIdeal.τ) (Cert.AdamColsIdeal.main (F := Ideal))) ⟨m, fun _ => 0, g⟩ (fun r => (∀ c : Dev Cert.AdamColsIdeal.nD,
      r.2.mem ((c.tc : Thread Cert.AdamColsIdeal.nD Cert.AdamColsIdeal.τ).loc Cert.AdamColsIdeal.main_arg0) = m ((c.tc : Thread Cert.AdamColsIdeal.nD Cert.AdamColsIdeal.τ).loc Cert.AdamColsIdeal.main_arg0)
      ∧ r.2.mem ((c.tc : Thread Cert.AdamColsIdeal.nD Cert.AdamColsIdeal.τ).loc Cert.AdamColsIdeal.main_arg1) = m ((c.tc : Thread Cert.AdamColsIdeal.nD Cert.AdamColsIdeal.τ).loc Cert.AdamColsIdeal.main_arg1)
      ∧ r.2.mem ((c.tc : Thread Cert.AdamColsIdeal.nD Cert.AdamColsIdeal.τ).loc Cert.AdamColsIdeal.main_arg2) = m ((c.tc : Thread Cert.AdamColsIdeal.nD Cert.AdamColsIdeal.τ).loc Cert.AdamColsIdeal.main_arg2)
      ∧ r.2.mem ((c.tc : Thread Cert.AdamColsIdeal.nD Cert.AdamColsIdeal.τ).loc Cert.AdamColsIdeal.main_arg3) = m ((c.tc : Thread Cert.AdamColsIdeal.nD Cert.AdamColsIdeal.τ).loc Cert.AdamColsIdeal.main_arg3))
      ∧ r.2.sem = fun _ => 0)

def quiescent_RefAdamColsIdeal [hRefAdamColsIdeal : Cert.RefAdamColsIdeal.Facts] : Prop :=
  ∀ (m : (ℓ : Loc Cert.RefAdamColsIdeal.nD Cert.RefAdamColsIdeal.τ Cert.RefAdamColsIdeal.sig) → Buf (Elt Ideal) ℓ) (g : Dev Cert.RefAdamColsIdeal.nD → PrngReg), Pre_RefAdamColsIdeal m →
    θ_run (Cert.RefAdamColsIdeal.defs (F := Ideal)) (onTc (τ := Cert.RefAdamColsIdeal.τ) (Cert.RefAdamColsIdeal.main (F := Ideal))) ⟨m, fun _ => 0, g⟩ (fun r => (∀ c : Dev Cert.RefAdamColsIdeal.nD,
      r.2.mem ((c.tc : Thread Cert.RefAdamColsIdeal.nD Cert.RefAdamColsIdeal.τ).loc Cert.RefAdamColsIdeal.main_arg0) = m ((c.tc : Thread Cert.RefAdamColsIdeal.nD Cert.RefAdamColsIdeal.τ).loc Cert.RefAdamColsIdeal.main_arg0)
      ∧ r.2.mem ((c.tc : Thread Cert.RefAdamColsIdeal.nD Cert.RefAdamColsIdeal.τ).loc Cert.RefAdamColsIdeal.main_arg1) = m ((c.tc : Thread Cert.RefAdamColsIdeal.nD Cert.RefAdamColsIdeal.τ).loc Cert.RefAdamColsIdeal.main_arg1)
      ∧ r.2.mem ((c.tc : Thread Cert.RefAdamColsIdeal.nD Cert.RefAdamColsIdeal.τ).loc Cert.RefAdamColsIdeal.main_arg2) = m ((c.tc : Thread Cert.RefAdamColsIdeal.nD Cert.RefAdamColsIdeal.τ).loc Cert.RefAdamColsIdeal.main_arg2)
      ∧ r.2.mem ((c.tc : Thread Cert.RefAdamColsIdeal.nD Cert.RefAdamColsIdeal.τ).loc Cert.RefAdamColsIdeal.main_arg3) = m ((c.tc : Thread Cert.RefAdamColsIdeal.nD Cert.RefAdamColsIdeal.τ).loc Cert.RefAdamColsIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_RefNormIdeal [hRefNormIdeal : Cert.RefNormIdeal.Facts] : Prop :=
  ∀ (m : (ℓ : Loc Cert.RefNormIdeal.nD Cert.RefNormIdeal.τ Cert.RefNormIdeal.sig) → Buf (Elt Ideal) ℓ) (g : Dev Cert.RefNormIdeal.nD → PrngReg), Pre_RefNormIdeal m →
    θ_run (Cert.RefNormIdeal.defs (F := Ideal)) (onTc (τ := Cert.RefNormIdeal.τ) (Cert.RefNormIdeal.main (F := Ideal))) ⟨m, fun _ => 0, g⟩ (fun r => (∀ c : Dev Cert.RefNormIdeal.nD,
      r.2.mem ((c.tc : Thread Cert.RefNormIdeal.nD Cert.RefNormIdeal.τ).loc Cert.RefNormIdeal.main_arg0) = m ((c.tc : Thread Cert.RefNormIdeal.nD Cert.RefNormIdeal.τ).loc Cert.RefNormIdeal.main_arg0)
      ∧ r.2.mem ((c.tc : Thread Cert.RefNormIdeal.nD Cert.RefNormIdeal.τ).loc Cert.RefNormIdeal.main_arg1) = m ((c.tc : Thread Cert.RefNormIdeal.nD Cert.RefNormIdeal.τ).loc Cert.RefNormIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_RefNormBwdIdeal [hRefNormBwdIdeal : Cert.RefNormBwdIdeal.Facts] : Prop :=
  ∀ (m : (ℓ : Loc Cert.RefNormBwdIdeal.nD Cert.RefNormBwdIdeal.τ Cert.RefNormBwdIdeal.sig) → Buf (Elt Ideal) ℓ) (g : Dev Cert.RefNormBwdIdeal.nD → PrngReg), Pre_RefNormBwdIdeal m →
    θ_run (Cert.RefNormBwdIdeal.defs (F := Ideal)) (onTc (τ := Cert.RefNormBwdIdeal.τ) (Cert.RefNormBwdIdeal.main (F := Ideal))) ⟨m, fun _ => 0, g⟩ (fun r => (∀ c : Dev Cert.RefNormBwdIdeal.nD,
      r.2.mem ((c.tc : Thread Cert.RefNormBwdIdeal.nD Cert.RefNormBwdIdeal.τ).loc Cert.RefNormBwdIdeal.main_arg0) = m ((c.tc : Thread Cert.RefNormBwdIdeal.nD Cert.RefNormBwdIdeal.τ).loc Cert.RefNormBwdIdeal.main_arg0)
      ∧ r.2.mem ((c.tc : Thread Cert.RefNormBwdIdeal.nD Cert.RefNormBwdIdeal.τ).loc Cert.RefNormBwdIdeal.main_arg1) = m ((c.tc : Thread Cert.RefNormBwdIdeal.nD Cert.RefNormBwdIdeal.τ).loc Cert.RefNormBwdIdeal.main_arg1)
      ∧ r.2.mem ((c.tc : Thread Cert.RefNormBwdIdeal.nD Cert.RefNormBwdIdeal.τ).loc Cert.RefNormBwdIdeal.main_arg2) = m ((c.tc : Thread Cert.RefNormBwdIdeal.nD Cert.RefNormBwdIdeal.τ).loc Cert.RefNormBwdIdeal.main_arg2)
      ∧ r.2.mem ((c.tc : Thread Cert.RefNormBwdIdeal.nD Cert.RefNormBwdIdeal.τ).loc Cert.RefNormBwdIdeal.main_arg3) = m ((c.tc : Thread Cert.RefNormBwdIdeal.nD Cert.RefNormBwdIdeal.τ).loc Cert.RefNormBwdIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_RefLossIdeal [hRefLossIdeal : Cert.RefLossIdeal.Facts] : Prop :=
  ∀ (m : (ℓ : Loc Cert.RefLossIdeal.nD Cert.RefLossIdeal.τ Cert.RefLossIdeal.sig) → Buf (Elt Ideal) ℓ) (g : Dev Cert.RefLossIdeal.nD → PrngReg), Pre_RefLossIdeal m →
    θ_run (Cert.RefLossIdeal.defs (F := Ideal)) (onTc (τ := Cert.RefLossIdeal.τ) (Cert.RefLossIdeal.main (F := Ideal))) ⟨m, fun _ => 0, g⟩ (fun r => (∀ c : Dev Cert.RefLossIdeal.nD,
      r.2.mem ((c.tc : Thread Cert.RefLossIdeal.nD Cert.RefLossIdeal.τ).loc Cert.RefLossIdeal.main_arg0) = m ((c.tc : Thread Cert.RefLossIdeal.nD Cert.RefLossIdeal.τ).loc Cert.RefLossIdeal.main_arg0)
      ∧ r.2.mem ((c.tc : Thread Cert.RefLossIdeal.nD Cert.RefLossIdeal.τ).loc Cert.RefLossIdeal.main_arg1) = m ((c.tc : Thread Cert.RefLossIdeal.nD Cert.RefLossIdeal.τ).loc Cert.RefLossIdeal.main_arg1)
      ∧ r.2.mem ((c.tc : Thread Cert.RefLossIdeal.nD Cert.RefLossIdeal.τ).loc Cert.RefLossIdeal.main_arg2) = m ((c.tc : Thread Cert.RefLossIdeal.nD Cert.RefLossIdeal.τ).loc Cert.RefLossIdeal.main_arg2))
      ∧ r.2.sem = fun _ => 0)

def quiescent_GluGates [hGluGates : Cert.GluGates.Facts] : Prop :=
  ∀ (m : (ℓ : Loc Cert.GluGates.nD Cert.GluGates.τ Cert.GluGates.sig) → Buf (Elt Bits) ℓ) (g : Dev Cert.GluGates.nD → PrngReg), Pre_GluGates m →
    θ_run (Cert.GluGates.defs (F := Bits)) (onTc (τ := Cert.GluGates.τ) (Cert.GluGates.main (F := Bits))) ⟨m, fun _ => 0, g⟩ (fun r => (∀ c : Dev Cert.GluGates.nD,
      r.2.mem ((c.tc : Thread Cert.GluGates.nD Cert.GluGates.τ).loc Cert.GluGates.main_arg0) = m ((c.tc : Thread Cert.GluGates.nD Cert.GluGates.τ).loc Cert.GluGates.main_arg0)
      ∧ r.2.mem ((c.tc : Thread Cert.GluGates.nD Cert.GluGates.τ).loc Cert.GluGates.main_arg1) = m ((c.tc : Thread Cert.GluGates.nD Cert.GluGates.τ).loc Cert.GluGates.main_arg1)
      ∧ r.2.mem ((c.tc : Thread Cert.GluGates.nD Cert.GluGates.τ).loc Cert.GluGates.main_arg2) = m ((c.tc : Thread Cert.GluGates.nD Cert.GluGates.τ).loc Cert.GluGates.main_arg2))
      ∧ r.2.sem = fun _ => 0)

def quiescent_GluGatesIdeal [hGluGatesIdeal : Cert.GluGatesIdeal.Facts] : Prop :=
  ∀ (m : (ℓ : Loc Cert.GluGatesIdeal.nD Cert.GluGatesIdeal.τ Cert.GluGatesIdeal.sig) → Buf (Elt Ideal) ℓ) (g : Dev Cert.GluGatesIdeal.nD → PrngReg), Pre_GluGatesIdeal m →
    θ_run (Cert.GluGatesIdeal.defs (F := Ideal)) (onTc (τ := Cert.GluGatesIdeal.τ) (Cert.GluGatesIdeal.main (F := Ideal))) ⟨m, fun _ => 0, g⟩ (fun r => (∀ c : Dev Cert.GluGatesIdeal.nD,
      r.2.mem ((c.tc : Thread Cert.GluGatesIdeal.nD Cert.GluGatesIdeal.τ).loc Cert.GluGatesIdeal.main_arg0) = m ((c.tc : Thread Cert.GluGatesIdeal.nD Cert.GluGatesIdeal.τ).loc Cert.GluGatesIdeal.main_arg0)
      ∧ r.2.mem ((c.tc : Thread Cert.GluGatesIdeal.nD Cert.GluGatesIdeal.τ).loc Cert.GluGatesIdeal.main_arg1) = m ((c.tc : Thread Cert.GluGatesIdeal.nD Cert.GluGatesIdeal.τ).loc Cert.GluGatesIdeal.main_arg1)
      ∧ r.2.mem ((c.tc : Thread Cert.GluGatesIdeal.nD Cert.GluGatesIdeal.τ).loc Cert.GluGatesIdeal.main_arg2) = m ((c.tc : Thread Cert.GluGatesIdeal.nD Cert.GluGatesIdeal.τ).loc Cert.GluGatesIdeal.main_arg2))
      ∧ r.2.sem = fun _ => 0)

def quiescent_RefGluGatesIdeal [hRefGluGatesIdeal : Cert.RefGluGatesIdeal.Facts] : Prop :=
  ∀ (m : (ℓ : Loc Cert.RefGluGatesIdeal.nD Cert.RefGluGatesIdeal.τ Cert.RefGluGatesIdeal.sig) → Buf (Elt Ideal) ℓ) (g : Dev Cert.RefGluGatesIdeal.nD → PrngReg), Pre_RefGluGatesIdeal m →
    θ_run (Cert.RefGluGatesIdeal.defs (F := Ideal)) (onTc (τ := Cert.RefGluGatesIdeal.τ) (Cert.RefGluGatesIdeal.main (F := Ideal))) ⟨m, fun _ => 0, g⟩ (fun r => (∀ c : Dev Cert.RefGluGatesIdeal.nD,
      r.2.mem ((c.tc : Thread Cert.RefGluGatesIdeal.nD Cert.RefGluGatesIdeal.τ).loc Cert.RefGluGatesIdeal.main_arg0) = m ((c.tc : Thread Cert.RefGluGatesIdeal.nD Cert.RefGluGatesIdeal.τ).loc Cert.RefGluGatesIdeal.main_arg0)
      ∧ r.2.mem ((c.tc : Thread Cert.RefGluGatesIdeal.nD Cert.RefGluGatesIdeal.τ).loc Cert.RefGluGatesIdeal.main_arg1) = m ((c.tc : Thread Cert.RefGluGatesIdeal.nD Cert.RefGluGatesIdeal.τ).loc Cert.RefGluGatesIdeal.main_arg1)
      ∧ r.2.mem ((c.tc : Thread Cert.RefGluGatesIdeal.nD Cert.RefGluGatesIdeal.τ).loc Cert.RefGluGatesIdeal.main_arg2) = m ((c.tc : Thread Cert.RefGluGatesIdeal.nD Cert.RefGluGatesIdeal.τ).loc Cert.RefGluGatesIdeal.main_arg2))
      ∧ r.2.sem = fun _ => 0)

def quiescent_Gelu [hGelu : Cert.Gelu.Facts] : Prop :=
  ∀ (m : (ℓ : Loc Cert.Gelu.nD Cert.Gelu.τ Cert.Gelu.sig) → Buf (Elt Bits) ℓ) (g : Dev Cert.Gelu.nD → PrngReg), Pre_Gelu m →
    θ_run (Cert.Gelu.defs (F := Bits)) (onTc (τ := Cert.Gelu.τ) (Cert.Gelu.main (F := Bits))) ⟨m, fun _ => 0, g⟩ (fun r => (∀ c : Dev Cert.Gelu.nD,
      r.2.mem ((c.tc : Thread Cert.Gelu.nD Cert.Gelu.τ).loc Cert.Gelu.main_arg0) = m ((c.tc : Thread Cert.Gelu.nD Cert.Gelu.τ).loc Cert.Gelu.main_arg0)
      ∧ r.2.mem ((c.tc : Thread Cert.Gelu.nD Cert.Gelu.τ).loc Cert.Gelu.main_arg1) = m ((c.tc : Thread Cert.Gelu.nD Cert.Gelu.τ).loc Cert.Gelu.main_arg1)
      ∧ r.2.mem ((c.tc : Thread Cert.Gelu.nD Cert.Gelu.τ).loc Cert.Gelu.main_arg2) = m ((c.tc : Thread Cert.Gelu.nD Cert.Gelu.τ).loc Cert.Gelu.main_arg2))
      ∧ r.2.sem = fun _ => 0)

def quiescent_GeluIdeal [hGeluIdeal : Cert.GeluIdeal.Facts] : Prop :=
  ∀ (m : (ℓ : Loc Cert.GeluIdeal.nD Cert.GeluIdeal.τ Cert.GeluIdeal.sig) → Buf (Elt Ideal) ℓ) (g : Dev Cert.GeluIdeal.nD → PrngReg), Pre_GeluIdeal m →
    θ_run (Cert.GeluIdeal.defs (F := Ideal)) (onTc (τ := Cert.GeluIdeal.τ) (Cert.GeluIdeal.main (F := Ideal))) ⟨m, fun _ => 0, g⟩ (fun r => (∀ c : Dev Cert.GeluIdeal.nD,
      r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
      ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
      ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ r.2.sem = fun _ => 0)

def quiescent_RefGeluIdeal [hRefGeluIdeal : Cert.RefGeluIdeal.Facts] : Prop :=
  ∀ (m : (ℓ : Loc Cert.RefGeluIdeal.nD Cert.RefGeluIdeal.τ Cert.RefGeluIdeal.sig) → Buf (Elt Ideal) ℓ) (g : Dev Cert.RefGeluIdeal.nD → PrngReg), Pre_RefGeluIdeal m →
    θ_run (Cert.RefGeluIdeal.defs (F := Ideal)) (onTc (τ := Cert.RefGeluIdeal.τ) (Cert.RefGeluIdeal.main (F := Ideal))) ⟨m, fun _ => 0, g⟩ (fun r => (∀ c : Dev Cert.RefGeluIdeal.nD,
      r.2.mem ((c.tc : Thread Cert.RefGeluIdeal.nD Cert.RefGeluIdeal.τ).loc Cert.RefGeluIdeal.main_arg0) = m ((c.tc : Thread Cert.RefGeluIdeal.nD Cert.RefGeluIdeal.τ).loc Cert.RefGeluIdeal.main_arg0)
      ∧ r.2.mem ((c.tc : Thread Cert.RefGeluIdeal.nD Cert.RefGeluIdeal.τ).loc Cert.RefGeluIdeal.main_arg1) = m ((c.tc : Thread Cert.RefGeluIdeal.nD Cert.RefGeluIdeal.τ).loc Cert.RefGeluIdeal.main_arg1)
      ∧ r.2.mem ((c.tc : Thread Cert.RefGeluIdeal.nD Cert.RefGeluIdeal.τ).loc Cert.RefGeluIdeal.main_arg2) = m ((c.tc : Thread Cert.RefGeluIdeal.nD Cert.RefGeluIdeal.τ).loc Cert.RefGeluIdeal.main_arg2))
      ∧ r.2.sem = fun _ => 0)

def quiescent_GeluBwd [hGeluBwd : Cert.GeluBwd.Facts] : Prop :=
  ∀ (m : (ℓ : Loc Cert.GeluBwd.nD Cert.GeluBwd.τ Cert.GeluBwd.sig) → Buf (Elt Bits) ℓ) (g : Dev Cert.GeluBwd.nD → PrngReg), Pre_GeluBwd m →
    θ_run (Cert.GeluBwd.defs (F := Bits)) (onTc (τ := Cert.GeluBwd.τ) (Cert.GeluBwd.main (F := Bits))) ⟨m, fun _ => 0, g⟩ (fun r => (∀ c : Dev Cert.GeluBwd.nD,
      r.2.mem ((c.tc : Thread Cert.GeluBwd.nD Cert.GeluBwd.τ).loc Cert.GeluBwd.main_arg0) = m ((c.tc : Thread Cert.GeluBwd.nD Cert.GeluBwd.τ).loc Cert.GeluBwd.main_arg0)
      ∧ r.2.mem ((c.tc : Thread Cert.GeluBwd.nD Cert.GeluBwd.τ).loc Cert.GeluBwd.main_arg1) = m ((c.tc : Thread Cert.GeluBwd.nD Cert.GeluBwd.τ).loc Cert.GeluBwd.main_arg1)
      ∧ r.2.mem ((c.tc : Thread Cert.GeluBwd.nD Cert.GeluBwd.τ).loc Cert.GeluBwd.main_arg2) = m ((c.tc : Thread Cert.GeluBwd.nD Cert.GeluBwd.τ).loc Cert.GeluBwd.main_arg2)
      ∧ r.2.mem ((c.tc : Thread Cert.GeluBwd.nD Cert.GeluBwd.τ).loc Cert.GeluBwd.main_arg3) = m ((c.tc : Thread Cert.GeluBwd.nD Cert.GeluBwd.τ).loc Cert.GeluBwd.main_arg3))
      ∧ r.2.sem = fun _ => 0)

def quiescent_GeluBwdIdeal [hGeluBwdIdeal : Cert.GeluBwdIdeal.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
      ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3))
      ∧ r.2.sem = fun _ => 0)

def quiescent_GeluBwdIdeal_pre_finite_dz [hGeluBwdIdeal : Cert.GeluBwdIdeal.Facts] [hPre_finite_dz : Cert.Pre_finite_dz.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg), Pre_GeluBwdIdeal_finite_dz m →
    θ_run (Cert.GeluBwdIdeal.defs (F := Ideal)) (onTc (τ := Cert.GeluBwdIdeal.τ) (Cert.GeluBwdIdeal.main (F := Ideal))) ⟨m, fun _ => 0, g⟩ (fun r => (∀ c : Dev Cert.GeluBwdIdeal.nD,
      r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
      ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
      ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
      ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3))
      ∧ r.2.sem = fun _ => 0)

def quiescent_RefGeluBwdIdeal [hRefGeluBwdIdeal : Cert.RefGeluBwdIdeal.Facts] : Prop :=
  ∀ (m : (ℓ : Loc Cert.RefGeluBwdIdeal.nD Cert.RefGeluBwdIdeal.τ Cert.RefGeluBwdIdeal.sig) → Buf (Elt Ideal) ℓ) (g : Dev Cert.RefGeluBwdIdeal.nD → PrngReg), Pre_RefGeluBwdIdeal m →
    θ_run (Cert.RefGeluBwdIdeal.defs (F := Ideal)) (onTc (τ := Cert.RefGeluBwdIdeal.τ) (Cert.RefGeluBwdIdeal.main (F := Ideal))) ⟨m, fun _ => 0, g⟩ (fun r => (∀ c : Dev Cert.RefGeluBwdIdeal.nD,
      r.2.mem ((c.tc : Thread Cert.RefGeluBwdIdeal.nD Cert.RefGeluBwdIdeal.τ).loc Cert.RefGeluBwdIdeal.main_arg0) = m ((c.tc : Thread Cert.RefGeluBwdIdeal.nD Cert.RefGeluBwdIdeal.τ).loc Cert.RefGeluBwdIdeal.main_arg0)
      ∧ r.2.mem ((c.tc : Thread Cert.RefGeluBwdIdeal.nD Cert.RefGeluBwdIdeal.τ).loc Cert.RefGeluBwdIdeal.main_arg1) = m ((c.tc : Thread Cert.RefGeluBwdIdeal.nD Cert.RefGeluBwdIdeal.τ).loc Cert.RefGeluBwdIdeal.main_arg1)
      ∧ r.2.mem ((c.tc : Thread Cert.RefGeluBwdIdeal.nD Cert.RefGeluBwdIdeal.τ).loc Cert.RefGeluBwdIdeal.main_arg2) = m ((c.tc : Thread Cert.RefGeluBwdIdeal.nD Cert.RefGeluBwdIdeal.τ).loc Cert.RefGeluBwdIdeal.main_arg2)
      ∧ r.2.mem ((c.tc : Thread Cert.RefGeluBwdIdeal.nD Cert.RefGeluBwdIdeal.τ).loc Cert.RefGeluBwdIdeal.main_arg3) = m ((c.tc : Thread Cert.RefGeluBwdIdeal.nD Cert.RefGeluBwdIdeal.τ).loc Cert.RefGeluBwdIdeal.main_arg3))
      ∧ r.2.sem = fun _ => 0)

def quiescent_RefGeluBwdIdeal_pre_finite_dz [hRefGeluBwdIdeal : Cert.RefGeluBwdIdeal.Facts] [hPre_finite_dz : Cert.Pre_finite_dz.Facts] : Prop :=
  ∀ (m : (ℓ : Loc Cert.RefGeluBwdIdeal.nD Cert.RefGeluBwdIdeal.τ Cert.RefGeluBwdIdeal.sig) → Buf (Elt Ideal) ℓ) (g : Dev Cert.RefGeluBwdIdeal.nD → PrngReg), Pre_RefGeluBwdIdeal_finite_dz m →
    θ_run (Cert.RefGeluBwdIdeal.defs (F := Ideal)) (onTc (τ := Cert.RefGeluBwdIdeal.τ) (Cert.RefGeluBwdIdeal.main (F := Ideal))) ⟨m, fun _ => 0, g⟩ (fun r => (∀ c : Dev Cert.RefGeluBwdIdeal.nD,
      r.2.mem ((c.tc : Thread Cert.RefGeluBwdIdeal.nD Cert.RefGeluBwdIdeal.τ).loc Cert.RefGeluBwdIdeal.main_arg0) = m ((c.tc : Thread Cert.RefGeluBwdIdeal.nD Cert.RefGeluBwdIdeal.τ).loc Cert.RefGeluBwdIdeal.main_arg0)
      ∧ r.2.mem ((c.tc : Thread Cert.RefGeluBwdIdeal.nD Cert.RefGeluBwdIdeal.τ).loc Cert.RefGeluBwdIdeal.main_arg1) = m ((c.tc : Thread Cert.RefGeluBwdIdeal.nD Cert.RefGeluBwdIdeal.τ).loc Cert.RefGeluBwdIdeal.main_arg1)
      ∧ r.2.mem ((c.tc : Thread Cert.RefGeluBwdIdeal.nD Cert.RefGeluBwdIdeal.τ).loc Cert.RefGeluBwdIdeal.main_arg2) = m ((c.tc : Thread Cert.RefGeluBwdIdeal.nD Cert.RefGeluBwdIdeal.τ).loc Cert.RefGeluBwdIdeal.main_arg2)
      ∧ r.2.mem ((c.tc : Thread Cert.RefGeluBwdIdeal.nD Cert.RefGeluBwdIdeal.τ).loc Cert.RefGeluBwdIdeal.main_arg3) = m ((c.tc : Thread Cert.RefGeluBwdIdeal.nD Cert.RefGeluBwdIdeal.τ).loc Cert.RefGeluBwdIdeal.main_arg3))
      ∧ r.2.sem = fun _ => 0)

def quiescent_BProd [hBProd : Cert.BProd.Facts] : Prop :=
  ∀ (m : (ℓ : Loc Cert.BProd.nD Cert.BProd.τ Cert.BProd.sig) → Buf (Elt Bits) ℓ) (g : Dev Cert.BProd.nD → PrngReg), Pre_BProd m →
    θ_run (Cert.BProd.defs (F := Bits)) (onTc (τ := Cert.BProd.τ) (Cert.BProd.main (F := Bits))) ⟨m, fun _ => 0, g⟩ (fun r => (∀ c : Dev Cert.BProd.nD,
      r.2.mem ((c.tc : Thread Cert.BProd.nD Cert.BProd.τ).loc Cert.BProd.main_arg0) = m ((c.tc : Thread Cert.BProd.nD Cert.BProd.τ).loc Cert.BProd.main_arg0)
      ∧ r.2.mem ((c.tc : Thread Cert.BProd.nD Cert.BProd.τ).loc Cert.BProd.main_arg1) = m ((c.tc : Thread Cert.BProd.nD Cert.BProd.τ).loc Cert.BProd.main_arg1)
      ∧ r.2.mem ((c.tc : Thread Cert.BProd.nD Cert.BProd.τ).loc Cert.BProd.main_arg2) = m ((c.tc : Thread Cert.BProd.nD Cert.BProd.τ).loc Cert.BProd.main_arg2))
      ∧ r.2.sem = fun _ => 0)

def quiescent_BProdIdeal [hBProdIdeal : Cert.BProdIdeal.Facts] : Prop :=
  ∀ (m : (ℓ : Loc Cert.BProdIdeal.nD Cert.BProdIdeal.τ Cert.BProdIdeal.sig) → Buf (Elt Ideal) ℓ) (g : Dev Cert.BProdIdeal.nD → PrngReg), Pre_BProdIdeal m →
    θ_run (Cert.BProdIdeal.defs (F := Ideal)) (onTc (τ := Cert.BProdIdeal.τ) (Cert.BProdIdeal.main (F := Ideal))) ⟨m, fun _ => 0, g⟩ (fun r => (∀ c : Dev Cert.BProdIdeal.nD,
      r.2.mem ((c.tc : Thread Cert.BProdIdeal.nD Cert.BProdIdeal.τ).loc Cert.BProdIdeal.main_arg0) = m ((c.tc : Thread Cert.BProdIdeal.nD Cert.BProdIdeal.τ).loc Cert.BProdIdeal.main_arg0)
      ∧ r.2.mem ((c.tc : Thread Cert.BProdIdeal.nD Cert.BProdIdeal.τ).loc Cert.BProdIdeal.main_arg1) = m ((c.tc : Thread Cert.BProdIdeal.nD Cert.BProdIdeal.τ).loc Cert.BProdIdeal.main_arg1)
      ∧ r.2.mem ((c.tc : Thread Cert.BProdIdeal.nD Cert.BProdIdeal.τ).loc Cert.BProdIdeal.main_arg2) = m ((c.tc : Thread Cert.BProdIdeal.nD Cert.BProdIdeal.τ).loc Cert.BProdIdeal.main_arg2))
      ∧ r.2.sem = fun _ => 0)

def quiescent_RefBProdIdeal [hRefBProdIdeal : Cert.RefBProdIdeal.Facts] : Prop :=
  ∀ (m : (ℓ : Loc Cert.RefBProdIdeal.nD Cert.RefBProdIdeal.τ Cert.RefBProdIdeal.sig) → Buf (Elt Ideal) ℓ) (g : Dev Cert.RefBProdIdeal.nD → PrngReg), Pre_RefBProdIdeal m →
    θ_run (Cert.RefBProdIdeal.defs (F := Ideal)) (onTc (τ := Cert.RefBProdIdeal.τ) (Cert.RefBProdIdeal.main (F := Ideal))) ⟨m, fun _ => 0, g⟩ (fun r => (∀ c : Dev Cert.RefBProdIdeal.nD,
      r.2.mem ((c.tc : Thread Cert.RefBProdIdeal.nD Cert.RefBProdIdeal.τ).loc Cert.RefBProdIdeal.main_arg0) = m ((c.tc : Thread Cert.RefBProdIdeal.nD Cert.RefBProdIdeal.τ).loc Cert.RefBProdIdeal.main_arg0)
      ∧ r.2.mem ((c.tc : Thread Cert.RefBProdIdeal.nD Cert.RefBProdIdeal.τ).loc Cert.RefBProdIdeal.main_arg1) = m ((c.tc : Thread Cert.RefBProdIdeal.nD Cert.RefBProdIdeal.τ).loc Cert.RefBProdIdeal.main_arg1)
      ∧ r.2.mem ((c.tc : Thread Cert.RefBProdIdeal.nD Cert.RefBProdIdeal.τ).loc Cert.RefBProdIdeal.main_arg2) = m ((c.tc : Thread Cert.RefBProdIdeal.nD Cert.RefBProdIdeal.τ).loc Cert.RefBProdIdeal.main_arg2))
      ∧ r.2.sem = fun _ => 0)

def quiescent_CProd [hCProd : Cert.CProd.Facts] : Prop :=
  ∀ (m : (ℓ : Loc Cert.CProd.nD Cert.CProd.τ Cert.CProd.sig) → Buf (Elt Bits) ℓ) (g : Dev Cert.CProd.nD → PrngReg), Pre_CProd m →
    θ_run (Cert.CProd.defs (F := Bits)) (onTc (τ := Cert.CProd.τ) (Cert.CProd.main (F := Bits))) ⟨m, fun _ => 0, g⟩ (fun r => (∀ c : Dev Cert.CProd.nD,
      r.2.mem ((c.tc : Thread Cert.CProd.nD Cert.CProd.τ).loc Cert.CProd.main_arg0) = m ((c.tc : Thread Cert.CProd.nD Cert.CProd.τ).loc Cert.CProd.main_arg0)
      ∧ r.2.mem ((c.tc : Thread Cert.CProd.nD Cert.CProd.τ).loc Cert.CProd.main_arg1) = m ((c.tc : Thread Cert.CProd.nD Cert.CProd.τ).loc Cert.CProd.main_arg1)
      ∧ r.2.mem ((c.tc : Thread Cert.CProd.nD Cert.CProd.τ).loc Cert.CProd.main_arg2) = m ((c.tc : Thread Cert.CProd.nD Cert.CProd.τ).loc Cert.CProd.main_arg2)
      ∧ r.2.mem ((c.tc : Thread Cert.CProd.nD Cert.CProd.τ).loc Cert.CProd.main_arg3) = m ((c.tc : Thread Cert.CProd.nD Cert.CProd.τ).loc Cert.CProd.main_arg3))
      ∧ r.2.sem = fun _ => 0)

def quiescent_CProdIdeal [hCProdIdeal : Cert.CProdIdeal.Facts] : Prop :=
  ∀ (m : (ℓ : Loc Cert.CProdIdeal.nD Cert.CProdIdeal.τ Cert.CProdIdeal.sig) → Buf (Elt Ideal) ℓ) (g : Dev Cert.CProdIdeal.nD → PrngReg), Pre_CProdIdeal m →
    θ_run (Cert.CProdIdeal.defs (F := Ideal)) (onTc (τ := Cert.CProdIdeal.τ) (Cert.CProdIdeal.main (F := Ideal))) ⟨m, fun _ => 0, g⟩ (fun r => (∀ c : Dev Cert.CProdIdeal.nD,
      r.2.mem ((c.tc : Thread Cert.CProdIdeal.nD Cert.CProdIdeal.τ).loc Cert.CProdIdeal.main_arg0) = m ((c.tc : Thread Cert.CProdIdeal.nD Cert.CProdIdeal.τ).loc Cert.CProdIdeal.main_arg0)
      ∧ r.2.mem ((c.tc : Thread Cert.CProdIdeal.nD Cert.CProdIdeal.τ).loc Cert.CProdIdeal.main_arg1) = m ((c.tc : Thread Cert.CProdIdeal.nD Cert.CProdIdeal.τ).loc Cert.CProdIdeal.main_arg1)
      ∧ r.2.mem ((c.tc : Thread Cert.CProdIdeal.nD Cert.CProdIdeal.τ).loc Cert.CProdIdeal.main_arg2) = m ((c.tc : Thread Cert.CProdIdeal.nD Cert.CProdIdeal.τ).loc Cert.CProdIdeal.main_arg2)
      ∧ r.2.mem ((c.tc : Thread Cert.CProdIdeal.nD Cert.CProdIdeal.τ).loc Cert.CProdIdeal.main_arg3) = m ((c.tc : Thread Cert.CProdIdeal.nD Cert.CProdIdeal.τ).loc Cert.CProdIdeal.main_arg3))
      ∧ r.2.sem = fun _ => 0)

def quiescent_CProdIdeal_pre_finite_imag [hCProdIdeal : Cert.CProdIdeal.Facts] [hPre_finite_imag : Cert.Pre_finite_imag.Facts] : Prop :=
  ∀ (m : (ℓ : Loc Cert.CProdIdeal.nD Cert.CProdIdeal.τ Cert.CProdIdeal.sig) → Buf (Elt Ideal) ℓ) (g : Dev Cert.CProdIdeal.nD → PrngReg), Pre_CProdIdeal_finite_imag m →
    θ_run (Cert.CProdIdeal.defs (F := Ideal)) (onTc (τ := Cert.CProdIdeal.τ) (Cert.CProdIdeal.main (F := Ideal))) ⟨m, fun _ => 0, g⟩ (fun r => (∀ c : Dev Cert.CProdIdeal.nD,
      r.2.mem ((c.tc : Thread Cert.CProdIdeal.nD Cert.CProdIdeal.τ).loc Cert.CProdIdeal.main_arg0) = m ((c.tc : Thread Cert.CProdIdeal.nD Cert.CProdIdeal.τ).loc Cert.CProdIdeal.main_arg0)
      ∧ r.2.mem ((c.tc : Thread Cert.CProdIdeal.nD Cert.CProdIdeal.τ).loc Cert.CProdIdeal.main_arg1) = m ((c.tc : Thread Cert.CProdIdeal.nD Cert.CProdIdeal.τ).loc Cert.CProdIdeal.main_arg1)
      ∧ r.2.mem ((c.tc : Thread Cert.CProdIdeal.nD Cert.CProdIdeal.τ).loc Cert.CProdIdeal.main_arg2) = m ((c.tc : Thread Cert.CProdIdeal.nD Cert.CProdIdeal.τ).loc Cert.CProdIdeal.main_arg2)
      ∧ r.2.mem ((c.tc : Thread Cert.CProdIdeal.nD Cert.CProdIdeal.τ).loc Cert.CProdIdeal.main_arg3) = m ((c.tc : Thread Cert.CProdIdeal.nD Cert.CProdIdeal.τ).loc Cert.CProdIdeal.main_arg3))
      ∧ r.2.sem = fun _ => 0)

def quiescent_RefCProdIdeal [hRefCProdIdeal : Cert.RefCProdIdeal.Facts] : Prop :=
  ∀ (m : (ℓ : Loc Cert.RefCProdIdeal.nD Cert.RefCProdIdeal.τ Cert.RefCProdIdeal.sig) → Buf (Elt Ideal) ℓ) (g : Dev Cert.RefCProdIdeal.nD → PrngReg), Pre_RefCProdIdeal m →
    θ_run (Cert.RefCProdIdeal.defs (F := Ideal)) (onTc (τ := Cert.RefCProdIdeal.τ) (Cert.RefCProdIdeal.main (F := Ideal))) ⟨m, fun _ => 0, g⟩ (fun r => (∀ c : Dev Cert.RefCProdIdeal.nD,
      r.2.mem ((c.tc : Thread Cert.RefCProdIdeal.nD Cert.RefCProdIdeal.τ).loc Cert.RefCProdIdeal.main_arg0) = m ((c.tc : Thread Cert.RefCProdIdeal.nD Cert.RefCProdIdeal.τ).loc Cert.RefCProdIdeal.main_arg0)
      ∧ r.2.mem ((c.tc : Thread Cert.RefCProdIdeal.nD Cert.RefCProdIdeal.τ).loc Cert.RefCProdIdeal.main_arg1) = m ((c.tc : Thread Cert.RefCProdIdeal.nD Cert.RefCProdIdeal.τ).loc Cert.RefCProdIdeal.main_arg1)
      ∧ r.2.mem ((c.tc : Thread Cert.RefCProdIdeal.nD Cert.RefCProdIdeal.τ).loc Cert.RefCProdIdeal.main_arg2) = m ((c.tc : Thread Cert.RefCProdIdeal.nD Cert.RefCProdIdeal.τ).loc Cert.RefCProdIdeal.main_arg2)
      ∧ r.2.mem ((c.tc : Thread Cert.RefCProdIdeal.nD Cert.RefCProdIdeal.τ).loc Cert.RefCProdIdeal.main_arg3) = m ((c.tc : Thread Cert.RefCProdIdeal.nD Cert.RefCProdIdeal.τ).loc Cert.RefCProdIdeal.main_arg3))
      ∧ r.2.sem = fun _ => 0)

def quiescent_RefCProdIdeal_pre_finite_imag [hRefCProdIdeal : Cert.RefCProdIdeal.Facts] [hPre_finite_imag : Cert.Pre_finite_imag.Facts] : Prop :=
  ∀ (m : (ℓ : Loc Cert.RefCProdIdeal.nD Cert.RefCProdIdeal.τ Cert.RefCProdIdeal.sig) → Buf (Elt Ideal) ℓ) (g : Dev Cert.RefCProdIdeal.nD → PrngReg), Pre_RefCProdIdeal_finite_imag m →
    θ_run (Cert.RefCProdIdeal.defs (F := Ideal)) (onTc (τ := Cert.RefCProdIdeal.τ) (Cert.RefCProdIdeal.main (F := Ideal))) ⟨m, fun _ => 0, g⟩ (fun r => (∀ c : Dev Cert.RefCProdIdeal.nD,
      r.2.mem ((c.tc : Thread Cert.RefCProdIdeal.nD Cert.RefCProdIdeal.τ).loc Cert.RefCProdIdeal.main_arg0) = m ((c.tc : Thread Cert.RefCProdIdeal.nD Cert.RefCProdIdeal.τ).loc Cert.RefCProdIdeal.main_arg0)
      ∧ r.2.mem ((c.tc : Thread Cert.RefCProdIdeal.nD Cert.RefCProdIdeal.τ).loc Cert.RefCProdIdeal.main_arg1) = m ((c.tc : Thread Cert.RefCProdIdeal.nD Cert.RefCProdIdeal.τ).loc Cert.RefCProdIdeal.main_arg1)
      ∧ r.2.mem ((c.tc : Thread Cert.RefCProdIdeal.nD Cert.RefCProdIdeal.τ).loc Cert.RefCProdIdeal.main_arg2) = m ((c.tc : Thread Cert.RefCProdIdeal.nD Cert.RefCProdIdeal.τ).loc Cert.RefCProdIdeal.main_arg2)
      ∧ r.2.mem ((c.tc : Thread Cert.RefCProdIdeal.nD Cert.RefCProdIdeal.τ).loc Cert.RefCProdIdeal.main_arg3) = m ((c.tc : Thread Cert.RefCProdIdeal.nD Cert.RefCProdIdeal.τ).loc Cert.RefCProdIdeal.main_arg3))
      ∧ r.2.sem = fun _ => 0)

def quiescent_CGrad [hCGrad : Cert.CGrad.Facts] : Prop :=
  ∀ (m : (ℓ : Loc Cert.CGrad.nD Cert.CGrad.τ Cert.CGrad.sig) → Buf (Elt Bits) ℓ) (g : Dev Cert.CGrad.nD → PrngReg), Pre_CGrad m →
    θ_run (Cert.CGrad.defs (F := Bits)) (onTc (τ := Cert.CGrad.τ) (Cert.CGrad.main (F := Bits))) ⟨m, fun _ => 0, g⟩ (fun r => (∀ c : Dev Cert.CGrad.nD,
      r.2.mem ((c.tc : Thread Cert.CGrad.nD Cert.CGrad.τ).loc Cert.CGrad.main_arg0) = m ((c.tc : Thread Cert.CGrad.nD Cert.CGrad.τ).loc Cert.CGrad.main_arg0)
      ∧ r.2.mem ((c.tc : Thread Cert.CGrad.nD Cert.CGrad.τ).loc Cert.CGrad.main_arg1) = m ((c.tc : Thread Cert.CGrad.nD Cert.CGrad.τ).loc Cert.CGrad.main_arg1)
      ∧ r.2.mem ((c.tc : Thread Cert.CGrad.nD Cert.CGrad.τ).loc Cert.CGrad.main_arg2) = m ((c.tc : Thread Cert.CGrad.nD Cert.CGrad.τ).loc Cert.CGrad.main_arg2))
      ∧ r.2.sem = fun _ => 0)

def quiescent_CGradIdeal [hCGradIdeal : Cert.CGradIdeal.Facts] : Prop :=
  ∀ (m : (ℓ : Loc Cert.CGradIdeal.nD Cert.CGradIdeal.τ Cert.CGradIdeal.sig) → Buf (Elt Ideal) ℓ) (g : Dev Cert.CGradIdeal.nD → PrngReg), Pre_CGradIdeal m →
    θ_run (Cert.CGradIdeal.defs (F := Ideal)) (onTc (τ := Cert.CGradIdeal.τ) (Cert.CGradIdeal.main (F := Ideal))) ⟨m, fun _ => 0, g⟩ (fun r => (∀ c : Dev Cert.CGradIdeal.nD,
      r.2.mem ((c.tc : Thread Cert.CGradIdeal.nD Cert.CGradIdeal.τ).loc Cert.CGradIdeal.main_arg0) = m ((c.tc : Thread Cert.CGradIdeal.nD Cert.CGradIdeal.τ).loc Cert.CGradIdeal.main_arg0)
      ∧ r.2.mem ((c.tc : Thread Cert.CGradIdeal.nD Cert.CGradIdeal.τ).loc Cert.CGradIdeal.main_arg1) = m ((c.tc : Thread Cert.CGradIdeal.nD Cert.CGradIdeal.τ).loc Cert.CGradIdeal.main_arg1)
      ∧ r.2.mem ((c.tc : Thread Cert.CGradIdeal.nD Cert.CGradIdeal.τ).loc Cert.CGradIdeal.main_arg2) = m ((c.tc : Thread Cert.CGradIdeal.nD Cert.CGradIdeal.τ).loc Cert.CGradIdeal.main_arg2))
      ∧ r.2.sem = fun _ => 0)

def quiescent_RefCGradIdeal [hRefCGradIdeal : Cert.RefCGradIdeal.Facts] : Prop :=
  ∀ (m : (ℓ : Loc Cert.RefCGradIdeal.nD Cert.RefCGradIdeal.τ Cert.RefCGradIdeal.sig) → Buf (Elt Ideal) ℓ) (g : Dev Cert.RefCGradIdeal.nD → PrngReg), Pre_RefCGradIdeal m →
    θ_run (Cert.RefCGradIdeal.defs (F := Ideal)) (onTc (τ := Cert.RefCGradIdeal.τ) (Cert.RefCGradIdeal.main (F := Ideal))) ⟨m, fun _ => 0, g⟩ (fun r => (∀ c : Dev Cert.RefCGradIdeal.nD,
      r.2.mem ((c.tc : Thread Cert.RefCGradIdeal.nD Cert.RefCGradIdeal.τ).loc Cert.RefCGradIdeal.main_arg0) = m ((c.tc : Thread Cert.RefCGradIdeal.nD Cert.RefCGradIdeal.τ).loc Cert.RefCGradIdeal.main_arg0)
      ∧ r.2.mem ((c.tc : Thread Cert.RefCGradIdeal.nD Cert.RefCGradIdeal.τ).loc Cert.RefCGradIdeal.main_arg1) = m ((c.tc : Thread Cert.RefCGradIdeal.nD Cert.RefCGradIdeal.τ).loc Cert.RefCGradIdeal.main_arg1)
      ∧ r.2.mem ((c.tc : Thread Cert.RefCGradIdeal.nD Cert.RefCGradIdeal.τ).loc Cert.RefCGradIdeal.main_arg2) = m ((c.tc : Thread Cert.RefCGradIdeal.nD Cert.RefCGradIdeal.τ).loc Cert.RefCGradIdeal.main_arg2))
      ∧ r.2.sem = fun _ => 0)

def quiescent_BGrad [hBGrad : Cert.BGrad.Facts] : Prop :=
  ∀ (m : (ℓ : Loc Cert.BGrad.nD Cert.BGrad.τ Cert.BGrad.sig) → Buf (Elt Bits) ℓ) (g : Dev Cert.BGrad.nD → PrngReg), Pre_BGrad m →
    θ_run (Cert.BGrad.defs (F := Bits)) (onTc (τ := Cert.BGrad.τ) (Cert.BGrad.main (F := Bits))) ⟨m, fun _ => 0, g⟩ (fun r => (∀ c : Dev Cert.BGrad.nD,
      r.2.mem ((c.tc : Thread Cert.BGrad.nD Cert.BGrad.τ).loc Cert.BGrad.main_arg0) = m ((c.tc : Thread Cert.BGrad.nD Cert.BGrad.τ).loc Cert.BGrad.main_arg0)
      ∧ r.2.mem ((c.tc : Thread Cert.BGrad.nD Cert.BGrad.τ).loc Cert.BGrad.main_arg1) = m ((c.tc : Thread Cert.BGrad.nD Cert.BGrad.τ).loc Cert.BGrad.main_arg1)
      ∧ r.2.mem ((c.tc : Thread Cert.BGrad.nD Cert.BGrad.τ).loc Cert.BGrad.main_arg2) = m ((c.tc : Thread Cert.BGrad.nD Cert.BGrad.τ).loc Cert.BGrad.main_arg2)
      ∧ r.2.mem ((c.tc : Thread Cert.BGrad.nD Cert.BGrad.τ).loc Cert.BGrad.main_arg3) = m ((c.tc : Thread Cert.BGrad.nD Cert.BGrad.τ).loc Cert.BGrad.main_arg3))
      ∧ r.2.sem = fun _ => 0)

def quiescent_BGradIdeal [hBGradIdeal : Cert.BGradIdeal.Facts] : Prop :=
  ∀ (m : (ℓ : Loc Cert.BGradIdeal.nD Cert.BGradIdeal.τ Cert.BGradIdeal.sig) → Buf (Elt Ideal) ℓ) (g : Dev Cert.BGradIdeal.nD → PrngReg), Pre_BGradIdeal m →
    θ_run (Cert.BGradIdeal.defs (F := Ideal)) (onTc (τ := Cert.BGradIdeal.τ) (Cert.BGradIdeal.main (F := Ideal))) ⟨m, fun _ => 0, g⟩ (fun r => (∀ c : Dev Cert.BGradIdeal.nD,
      r.2.mem ((c.tc : Thread Cert.BGradIdeal.nD Cert.BGradIdeal.τ).loc Cert.BGradIdeal.main_arg0) = m ((c.tc : Thread Cert.BGradIdeal.nD Cert.BGradIdeal.τ).loc Cert.BGradIdeal.main_arg0)
      ∧ r.2.mem ((c.tc : Thread Cert.BGradIdeal.nD Cert.BGradIdeal.τ).loc Cert.BGradIdeal.main_arg1) = m ((c.tc : Thread Cert.BGradIdeal.nD Cert.BGradIdeal.τ).loc Cert.BGradIdeal.main_arg1)
      ∧ r.2.mem ((c.tc : Thread Cert.BGradIdeal.nD Cert.BGradIdeal.τ).loc Cert.BGradIdeal.main_arg2) = m ((c.tc : Thread Cert.BGradIdeal.nD Cert.BGradIdeal.τ).loc Cert.BGradIdeal.main_arg2)
      ∧ r.2.mem ((c.tc : Thread Cert.BGradIdeal.nD Cert.BGradIdeal.τ).loc Cert.BGradIdeal.main_arg3) = m ((c.tc : Thread Cert.BGradIdeal.nD Cert.BGradIdeal.τ).loc Cert.BGradIdeal.main_arg3))
      ∧ r.2.sem = fun _ => 0)

def quiescent_RefBGradIdeal [hRefBGradIdeal : Cert.RefBGradIdeal.Facts] : Prop :=
  ∀ (m : (ℓ : Loc Cert.RefBGradIdeal.nD Cert.RefBGradIdeal.τ Cert.RefBGradIdeal.sig) → Buf (Elt Ideal) ℓ) (g : Dev Cert.RefBGradIdeal.nD → PrngReg), Pre_RefBGradIdeal m →
    θ_run (Cert.RefBGradIdeal.defs (F := Ideal)) (onTc (τ := Cert.RefBGradIdeal.τ) (Cert.RefBGradIdeal.main (F := Ideal))) ⟨m, fun _ => 0, g⟩ (fun r => (∀ c : Dev Cert.RefBGradIdeal.nD,
      r.2.mem ((c.tc : Thread Cert.RefBGradIdeal.nD Cert.RefBGradIdeal.τ).loc Cert.RefBGradIdeal.main_arg0) = m ((c.tc : Thread Cert.RefBGradIdeal.nD Cert.RefBGradIdeal.τ).loc Cert.RefBGradIdeal.main_arg0)
      ∧ r.2.mem ((c.tc : Thread Cert.RefBGradIdeal.nD Cert.RefBGradIdeal.τ).loc Cert.RefBGradIdeal.main_arg1) = m ((c.tc : Thread Cert.RefBGradIdeal.nD Cert.RefBGradIdeal.τ).loc Cert.RefBGradIdeal.main_arg1)
      ∧ r.2.mem ((c.tc : Thread Cert.RefBGradIdeal.nD Cert.RefBGradIdeal.τ).loc Cert.RefBGradIdeal.main_arg2) = m ((c.tc : Thread Cert.RefBGradIdeal.nD Cert.RefBGradIdeal.τ).loc Cert.RefBGradIdeal.main_arg2)
      ∧ r.2.mem ((c.tc : Thread Cert.RefBGradIdeal.nD Cert.RefBGradIdeal.τ).loc Cert.RefBGradIdeal.main_arg3) = m ((c.tc : Thread Cert.RefBGradIdeal.nD Cert.RefBGradIdeal.τ).loc Cert.RefBGradIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14_11) = v0 c
          ∧ r.2.mem ((c.tc : Thread Cert.ReferenceIdeal.nD Cert.ReferenceIdeal.τ).loc Cert.ReferenceIdeal.main_v14_12) = v1 c
          ∧ r.2.mem ((c.tc : Thread Cert.ReferenceIdeal.nD Cert.ReferenceIdeal.τ).loc Cert.ReferenceIdeal.main_v14_7) = v2 c
          ∧ r.2.mem ((c.tc : Thread Cert.ReferenceIdeal.nD Cert.ReferenceIdeal.τ).loc Cert.ReferenceIdeal.main_v14_8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_FfnIn_FfnInIdeal : Prop :=
  True

def algebraic_FfnInIdeal_RefFfnInIdeal [hFfnInIdeal : Cert.FfnInIdeal.Facts] [hRefFfnInIdeal : Cert.RefFfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.RefFfnInIdeal.nD Cert.RefFfnInIdeal.τ Cert.RefFfnInIdeal.sig) → Buf (Elt Ideal) ℓ) (g' : Dev Cert.RefFfnInIdeal.nD → PrngReg), Pre_FfnInIdeal m →
    (∀ c : Dev Cert.FfnInIdeal.nD,
      m' ((c.tc : Thread Cert.RefFfnInIdeal.nD Cert.RefFfnInIdeal.τ).loc Cert.RefFfnInIdeal.main_arg0) = m ((c.tc : Thread Cert.FfnInIdeal.nD Cert.FfnInIdeal.τ).loc Cert.FfnInIdeal.main_arg0)
      ∧ m' ((c.tc : Thread Cert.RefFfnInIdeal.nD Cert.RefFfnInIdeal.τ).loc Cert.RefFfnInIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0_0)) (v1 : (c : Dev Cert.FfnInIdeal.nD) → Buf (Elt Ideal) ((c.tc : Thread Cert.FfnInIdeal.nD Cert.FfnInIdeal.τ).loc Cert.FfnInIdeal.main_v0_1)) (v2 : (c : Dev Cert.FfnInIdeal.nD) → Buf (Elt Ideal) ((c.tc : Thread Cert.FfnInIdeal.nD Cert.FfnInIdeal.τ).loc Cert.FfnInIdeal.main_v0_2)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0_0) = v0 c
          ∧ r.2.mem ((c.tc : Thread Cert.FfnInIdeal.nD Cert.FfnInIdeal.τ).loc Cert.FfnInIdeal.main_v0_1) = v1 c
          ∧ r.2.mem ((c.tc : Thread Cert.FfnInIdeal.nD Cert.FfnInIdeal.τ).loc Cert.FfnInIdeal.main_v0_2) = v2 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.RefFfnInIdeal.defs (F := Ideal)) (onTc (τ := Cert.RefFfnInIdeal.τ) (Cert.RefFfnInIdeal.main (F := Ideal))) ⟨m', fun _ => 0, g'⟩ (fun r => ∀ c : Dev Cert.RefFfnInIdeal.nD,
          r.2.mem ((c.tc : Thread Cert.RefFfnInIdeal.nD Cert.RefFfnInIdeal.τ).loc Cert.RefFfnInIdeal.main_v7) = v0 c
          ∧ r.2.mem ((c.tc : Thread Cert.RefFfnInIdeal.nD Cert.RefFfnInIdeal.τ).loc Cert.RefFfnInIdeal.main_v8) = v1 c
          ∧ r.2.mem ((c.tc : Thread Cert.RefFfnInIdeal.nD Cert.RefFfnInIdeal.τ).loc Cert.RefFfnInIdeal.main_v9) = v2 c
          ∧ r.2.mem ((c.tc : Thread Cert.RefFfnInIdeal.nD Cert.RefFfnInIdeal.τ).loc Cert.RefFfnInIdeal.main_arg0) = m' ((c.tc : Thread Cert.RefFfnInIdeal.nD Cert.RefFfnInIdeal.τ).loc Cert.RefFfnInIdeal.main_arg0)
          ∧ r.2.mem ((c.tc : Thread Cert.RefFfnInIdeal.nD Cert.RefFfnInIdeal.τ).loc Cert.RefFfnInIdeal.main_arg1) = m' ((c.tc : Thread Cert.RefFfnInIdeal.nD Cert.RefFfnInIdeal.τ).loc Cert.RefFfnInIdeal.main_arg1))

def preserves_FfnOut_FfnOutIdeal : Prop :=
  True

def algebraic_FfnOutIdeal_RefFfnOutIdeal [hFfnOutIdeal : Cert.FfnOutIdeal.Facts] [hRefFfnOutIdeal : Cert.RefFfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.RefFfnOutIdeal.nD Cert.RefFfnOutIdeal.τ Cert.RefFfnOutIdeal.sig) → Buf (Elt Ideal) ℓ) (g' : Dev Cert.RefFfnOutIdeal.nD → PrngReg), Pre_FfnOutIdeal m →
    (∀ c : Dev Cert.FfnOutIdeal.nD,
      m' ((c.tc : Thread Cert.RefFfnOutIdeal.nD Cert.RefFfnOutIdeal.τ).loc Cert.RefFfnOutIdeal.main_arg0) = m ((c.tc : Thread Cert.FfnOutIdeal.nD Cert.FfnOutIdeal.τ).loc Cert.FfnOutIdeal.main_arg0)
      ∧ m' ((c.tc : Thread Cert.RefFfnOutIdeal.nD Cert.RefFfnOutIdeal.τ).loc Cert.RefFfnOutIdeal.main_arg1) = m ((c.tc : Thread Cert.FfnOutIdeal.nD Cert.FfnOutIdeal.τ).loc Cert.FfnOutIdeal.main_arg1)
      ∧ m' ((c.tc : Thread Cert.RefFfnOutIdeal.nD Cert.RefFfnOutIdeal.τ).loc Cert.RefFfnOutIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.RefFfnOutIdeal.defs (F := Ideal)) (onTc (τ := Cert.RefFfnOutIdeal.τ) (Cert.RefFfnOutIdeal.main (F := Ideal))) ⟨m', fun _ => 0, g'⟩ (fun r => ∀ c : Dev Cert.RefFfnOutIdeal.nD,
          r.2.mem ((c.tc : Thread Cert.RefFfnOutIdeal.nD Cert.RefFfnOutIdeal.τ).loc Cert.RefFfnOutIdeal.main_v3) = v0 c
          ∧ r.2.mem ((c.tc : Thread Cert.RefFfnOutIdeal.nD Cert.RefFfnOutIdeal.τ).loc Cert.RefFfnOutIdeal.main_arg0) = m' ((c.tc : Thread Cert.RefFfnOutIdeal.nD Cert.RefFfnOutIdeal.τ).loc Cert.RefFfnOutIdeal.main_arg0)
          ∧ r.2.mem ((c.tc : Thread Cert.RefFfnOutIdeal.nD Cert.RefFfnOutIdeal.τ).loc Cert.RefFfnOutIdeal.main_arg1) = m' ((c.tc : Thread Cert.RefFfnOutIdeal.nD Cert.RefFfnOutIdeal.τ).loc Cert.RefFfnOutIdeal.main_arg1)
          ∧ r.2.mem ((c.tc : Thread Cert.RefFfnOutIdeal.nD Cert.RefFfnOutIdeal.τ).loc Cert.RefFfnOutIdeal.main_arg2) = m' ((c.tc : Thread Cert.RefFfnOutIdeal.nD Cert.RefFfnOutIdeal.τ).loc Cert.RefFfnOutIdeal.main_arg2))

def preserves_FfnDa_FfnDaIdeal : Prop :=
  True

def algebraic_FfnDaIdeal_RefFfnDaIdeal_pre_finite [hFfnDaIdeal : Cert.FfnDaIdeal.Facts] [hRefFfnDaIdeal : Cert.RefFfnDaIdeal.Facts] [hPre_finite : Cert.Pre_finite.Facts] : Prop :=
  ∀ (m : (ℓ : Loc Cert.FfnDaIdeal.nD Cert.FfnDaIdeal.τ Cert.FfnDaIdeal.sig) → Buf (Elt Ideal) ℓ) (g : Dev Cert.FfnDaIdeal.nD → PrngReg)
    (m' : (ℓ : Loc Cert.RefFfnDaIdeal.nD Cert.RefFfnDaIdeal.τ Cert.RefFfnDaIdeal.sig) → Buf (Elt Ideal) ℓ) (g' : Dev Cert.RefFfnDaIdeal.nD → PrngReg), Pre_FfnDaIdeal_finite m →
    (∀ c : Dev Cert.FfnDaIdeal.nD,
      m' ((c.tc : Thread Cert.RefFfnDaIdeal.nD Cert.RefFfnDaIdeal.τ).loc Cert.RefFfnDaIdeal.main_arg0) = m ((c.tc : Thread Cert.FfnDaIdeal.nD Cert.FfnDaIdeal.τ).loc Cert.FfnDaIdeal.main_arg0)
      ∧ m' ((c.tc : Thread Cert.RefFfnDaIdeal.nD Cert.RefFfnDaIdeal.τ).loc Cert.RefFfnDaIdeal.main_arg1) = m ((c.tc : Thread Cert.FfnDaIdeal.nD Cert.FfnDaIdeal.τ).loc Cert.FfnDaIdeal.main_arg1)
      ∧ m' ((c.tc : Thread Cert.RefFfnDaIdeal.nD Cert.RefFfnDaIdeal.τ).loc Cert.RefFfnDaIdeal.main_arg2) = m ((c.tc : Thread Cert.FfnDaIdeal.nD Cert.FfnDaIdeal.τ).loc Cert.FfnDaIdeal.main_arg2)
      ∧ m' ((c.tc : Thread Cert.RefFfnDaIdeal.nD Cert.RefFfnDaIdeal.τ).loc Cert.RefFfnDaIdeal.main_arg3) = m ((c.tc : Thread Cert.FfnDaIdeal.nD Cert.FfnDaIdeal.τ).loc Cert.FfnDaIdeal.main_arg3)) →
    ∃ (v0 : (c : Dev Cert.FfnDaIdeal.nD) → Buf (Elt Ideal) ((c.tc : Thread Cert.FfnDaIdeal.nD Cert.FfnDaIdeal.τ).loc Cert.FfnDaIdeal.main_v0_0)) (v1 : (c : Dev Cert.FfnDaIdeal.nD) → Buf (Elt Ideal) ((c.tc : Thread Cert.FfnDaIdeal.nD Cert.FfnDaIdeal.τ).loc Cert.FfnDaIdeal.main_v0_1)),
      θ_run (Cert.FfnDaIdeal.defs (F := Ideal)) (onTc (τ := Cert.FfnDaIdeal.τ) (Cert.FfnDaIdeal.main (F := Ideal))) ⟨m, fun _ => 0, g⟩ (fun r => ∀ c : Dev Cert.FfnDaIdeal.nD,
          r.2.mem ((c.tc : Thread Cert.FfnDaIdeal.nD Cert.FfnDaIdeal.τ).loc Cert.FfnDaIdeal.main_v0_0) = v0 c
          ∧ r.2.mem ((c.tc : Thread Cert.FfnDaIdeal.nD Cert.FfnDaIdeal.τ).loc Cert.FfnDaIdeal.main_v0_1) = v1 c
          ∧ r.2.mem ((c.tc : Thread Cert.FfnDaIdeal.nD Cert.FfnDaIdeal.τ).loc Cert.FfnDaIdeal.main_arg0) = m ((c.tc : Thread Cert.FfnDaIdeal.nD Cert.FfnDaIdeal.τ).loc Cert.FfnDaIdeal.main_arg0)
          ∧ r.2.mem ((c.tc : Thread Cert.FfnDaIdeal.nD Cert.FfnDaIdeal.τ).loc Cert.FfnDaIdeal.main_arg1) = m ((c.tc : Thread Cert.FfnDaIdeal.nD Cert.FfnDaIdeal.τ).loc Cert.FfnDaIdeal.main_arg1)
          ∧ r.2.mem ((c.tc : Thread Cert.FfnDaIdeal.nD Cert.FfnDaIdeal.τ).loc Cert.FfnDaIdeal.main_arg2) = m ((c.tc : Thread Cert.FfnDaIdeal.nD Cert.FfnDaIdeal.τ).loc Cert.FfnDaIdeal.main_arg2)
          ∧ r.2.mem ((c.tc : Thread Cert.FfnDaIdeal.nD Cert.FfnDaIdeal.τ).loc Cert.FfnDaIdeal.main_arg3) = m ((c.tc : Thread Cert.FfnDaIdeal.nD Cert.FfnDaIdeal.τ).loc Cert.FfnDaIdeal.main_arg3))
      ∧ θ_run (Cert.RefFfnDaIdeal.defs (F := Ideal)) (onTc (τ := Cert.RefFfnDaIdeal.τ) (Cert.RefFfnDaIdeal.main (F := Ideal))) ⟨m', fun _ => 0, g'⟩ (fun r => ∀ c : Dev Cert.RefFfnDaIdeal.nD,
          r.2.mem ((c.tc : Thread Cert.RefFfnDaIdeal.nD Cert.RefFfnDaIdeal.τ).loc Cert.RefFfnDaIdeal.main_v10) = v0 c
          ∧ r.2.mem ((c.tc : Thread Cert.RefFfnDaIdeal.nD Cert.RefFfnDaIdeal.τ).loc Cert.RefFfnDaIdeal.main_v11) = v1 c
          ∧ r.2.mem ((c.tc : Thread Cert.RefFfnDaIdeal.nD Cert.RefFfnDaIdeal.τ).loc Cert.RefFfnDaIdeal.main_arg0) = m' ((c.tc : Thread Cert.RefFfnDaIdeal.nD Cert.RefFfnDaIdeal.τ).loc Cert.RefFfnDaIdeal.main_arg0)
          ∧ r.2.mem ((c.tc : Thread Cert.RefFfnDaIdeal.nD Cert.RefFfnDaIdeal.τ).loc Cert.RefFfnDaIdeal.main_arg1) = m' ((c.tc : Thread Cert.RefFfnDaIdeal.nD Cert.RefFfnDaIdeal.τ).loc Cert.RefFfnDaIdeal.main_arg1)
          ∧ r.2.mem ((c.tc : Thread Cert.RefFfnDaIdeal.nD Cert.RefFfnDaIdeal.τ).loc Cert.RefFfnDaIdeal.main_arg2) = m' ((c.tc : Thread Cert.RefFfnDaIdeal.nD Cert.RefFfnDaIdeal.τ).loc Cert.RefFfnDaIdeal.main_arg2)
          ∧ r.2.mem ((c.tc : Thread Cert.RefFfnDaIdeal.nD Cert.RefFfnDaIdeal.τ).loc Cert.RefFfnDaIdeal.main_arg3) = m' ((c.tc : Thread Cert.RefFfnDaIdeal.nD Cert.RefFfnDaIdeal.τ).loc Cert.RefFfnDaIdeal.main_arg3))

def preserves_FfnDwout_FfnDwoutIdeal : Prop :=
  True

def algebraic_FfnDwoutIdeal_RefFfnDwoutIdeal [hFfnDwoutIdeal : Cert.FfnDwoutIdeal.Facts] [hRefFfnDwoutIdeal : Cert.RefFfnDwoutIdeal.Facts] : Prop :=
  ∀ (m : (ℓ : Loc Cert.FfnDwoutIdeal.nD Cert.FfnDwoutIdeal.τ Cert.FfnDwoutIdeal.sig) → Buf (Elt Ideal) ℓ) (g : Dev Cert.FfnDwoutIdeal.nD → PrngReg)
    (m' : (ℓ : Loc Cert.RefFfnDwoutIdeal.nD Cert.RefFfnDwoutIdeal.τ Cert.RefFfnDwoutIdeal.sig) → Buf (Elt Ideal) ℓ) (g' : Dev Cert.RefFfnDwoutIdeal.nD → PrngReg), Pre_FfnDwoutIdeal m →
    (∀ c : Dev Cert.FfnDwoutIdeal.nD,
      m' ((c.tc : Thread Cert.RefFfnDwoutIdeal.nD Cert.RefFfnDwoutIdeal.τ).loc Cert.RefFfnDwoutIdeal.main_arg0) = m ((c.tc : Thread Cert.FfnDwoutIdeal.nD Cert.FfnDwoutIdeal.τ).loc Cert.FfnDwoutIdeal.main_arg0)
      ∧ m' ((c.tc : Thread Cert.RefFfnDwoutIdeal.nD Cert.RefFfnDwoutIdeal.τ).loc Cert.RefFfnDwoutIdeal.main_arg1) = m ((c.tc : Thread Cert.FfnDwoutIdeal.nD Cert.FfnDwoutIdeal.τ).loc Cert.FfnDwoutIdeal.main_arg1)) →
    ∃ (v0 : (c : Dev Cert.FfnDwoutIdeal.nD) → Buf (Elt Ideal) ((c.tc : Thread Cert.FfnDwoutIdeal.nD Cert.FfnDwoutIdeal.τ).loc Cert.FfnDwoutIdeal.main_v0)),
      θ_run (Cert.FfnDwoutIdeal.defs (F := Ideal)) (onTc (τ := Cert.FfnDwoutIdeal.τ) (Cert.FfnDwoutIdeal.main (F := Ideal))) ⟨m, fun _ => 0, g⟩ (fun r => ∀ c : Dev Cert.FfnDwoutIdeal.nD,
          r.2.mem ((c.tc : Thread Cert.FfnDwoutIdeal.nD Cert.FfnDwoutIdeal.τ).loc Cert.FfnDwoutIdeal.main_v0) = v0 c
          ∧ r.2.mem ((c.tc : Thread Cert.FfnDwoutIdeal.nD Cert.FfnDwoutIdeal.τ).loc Cert.FfnDwoutIdeal.main_arg0) = m ((c.tc : Thread Cert.FfnDwoutIdeal.nD Cert.FfnDwoutIdeal.τ).loc Cert.FfnDwoutIdeal.main_arg0)
          ∧ r.2.mem ((c.tc : Thread Cert.FfnDwoutIdeal.nD Cert.FfnDwoutIdeal.τ).loc Cert.FfnDwoutIdeal.main_arg1) = m ((c.tc : Thread Cert.FfnDwoutIdeal.nD Cert.FfnDwoutIdeal.τ).loc Cert.FfnDwoutIdeal.main_arg1))
      ∧ θ_run (Cert.RefFfnDwoutIdeal.defs (F := Ideal)) (onTc (τ := Cert.RefFfnDwoutIdeal.τ) (Cert.RefFfnDwoutIdeal.main (F := Ideal))) ⟨m', fun _ => 0, g'⟩ (fun r => ∀ c : Dev Cert.RefFfnDwoutIdeal.nD,
          r.2.mem ((c.tc : Thread Cert.RefFfnDwoutIdeal.nD Cert.RefFfnDwoutIdeal.τ).loc Cert.RefFfnDwoutIdeal.main_v4) = v0 c
          ∧ r.2.mem ((c.tc : Thread Cert.RefFfnDwoutIdeal.nD Cert.RefFfnDwoutIdeal.τ).loc Cert.RefFfnDwoutIdeal.main_arg0) = m' ((c.tc : Thread Cert.RefFfnDwoutIdeal.nD Cert.RefFfnDwoutIdeal.τ).loc Cert.RefFfnDwoutIdeal.main_arg0)
          ∧ r.2.mem ((c.tc : Thread Cert.RefFfnDwoutIdeal.nD Cert.RefFfnDwoutIdeal.τ).loc Cert.RefFfnDwoutIdeal.main_arg1) = m' ((c.tc : Thread Cert.RefFfnDwoutIdeal.nD Cert.RefFfnDwoutIdeal.τ).loc Cert.RefFfnDwoutIdeal.main_arg1))

def preserves_FfnDf_FfnDfIdeal : Prop :=
  True

def algebraic_FfnDfIdeal_RefFfnDfIdeal [hFfnDfIdeal : Cert.FfnDfIdeal.Facts] [hRefFfnDfIdeal : Cert.RefFfnDfIdeal.Facts] : Prop :=
  ∀ (m : (ℓ : Loc Cert.FfnDfIdeal.nD Cert.FfnDfIdeal.τ Cert.FfnDfIdeal.sig) → Buf (Elt Ideal) ℓ) (g : Dev Cert.FfnDfIdeal.nD → PrngReg)
    (m' : (ℓ : Loc Cert.RefFfnDfIdeal.nD Cert.RefFfnDfIdeal.τ Cert.RefFfnDfIdeal.sig) → Buf (Elt Ideal) ℓ) (g' : Dev Cert.RefFfnDfIdeal.nD → PrngReg), Pre_FfnDfIdeal m →
    (∀ c : Dev Cert.FfnDfIdeal.nD,
      m' ((c.tc : Thread Cert.RefFfnDfIdeal.nD Cert.RefFfnDfIdeal.τ).loc Cert.RefFfnDfIdeal.main_arg0) = m ((c.tc : Thread Cert.FfnDfIdeal.nD Cert.FfnDfIdeal.τ).loc Cert.FfnDfIdeal.main_arg0)
      ∧ m' ((c.tc : Thread Cert.RefFfnDfIdeal.nD Cert.RefFfnDfIdeal.τ).loc Cert.RefFfnDfIdeal.main_arg1) = m ((c.tc : Thread Cert.FfnDfIdeal.nD Cert.FfnDfIdeal.τ).loc Cert.FfnDfIdeal.main_arg1)
      ∧ m' ((c.tc : Thread Cert.RefFfnDfIdeal.nD Cert.RefFfnDfIdeal.τ).loc Cert.RefFfnDfIdeal.main_arg2) = m ((c.tc : Thread Cert.FfnDfIdeal.nD Cert.FfnDfIdeal.τ).loc Cert.FfnDfIdeal.main_arg2)) →
    ∃ (v0 : (c : Dev Cert.FfnDfIdeal.nD) → Buf (Elt Ideal) ((c.tc : Thread Cert.FfnDfIdeal.nD Cert.FfnDfIdeal.τ).loc Cert.FfnDfIdeal.main_v0)),
      θ_run (Cert.FfnDfIdeal.defs (F := Ideal)) (onTc (τ := Cert.FfnDfIdeal.τ) (Cert.FfnDfIdeal.main (F := Ideal))) ⟨m, fun _ => 0, g⟩ (fun r => ∀ c : Dev Cert.FfnDfIdeal.nD,
          r.2.mem ((c.tc : Thread Cert.FfnDfIdeal.nD Cert.FfnDfIdeal.τ).loc Cert.FfnDfIdeal.main_v0) = v0 c
          ∧ r.2.mem ((c.tc : Thread Cert.FfnDfIdeal.nD Cert.FfnDfIdeal.τ).loc Cert.FfnDfIdeal.main_arg0) = m ((c.tc : Thread Cert.FfnDfIdeal.nD Cert.FfnDfIdeal.τ).loc Cert.FfnDfIdeal.main_arg0)
          ∧ r.2.mem ((c.tc : Thread Cert.FfnDfIdeal.nD Cert.FfnDfIdeal.τ).loc Cert.FfnDfIdeal.main_arg1) = m ((c.tc : Thread Cert.FfnDfIdeal.nD Cert.FfnDfIdeal.τ).loc Cert.FfnDfIdeal.main_arg1)
          ∧ r.2.mem ((c.tc : Thread Cert.FfnDfIdeal.nD Cert.FfnDfIdeal.τ).loc Cert.FfnDfIdeal.main_arg2) = m ((c.tc : Thread Cert.FfnDfIdeal.nD Cert.FfnDfIdeal.τ).loc Cert.FfnDfIdeal.main_arg2))
      ∧ θ_run (Cert.RefFfnDfIdeal.defs (F := Ideal)) (onTc (τ := Cert.RefFfnDfIdeal.τ) (Cert.RefFfnDfIdeal.main (F := Ideal))) ⟨m', fun _ => 0, g'⟩ (fun r => ∀ c : Dev Cert.RefFfnDfIdeal.nD,
          r.2.mem ((c.tc : Thread Cert.RefFfnDfIdeal.nD Cert.RefFfnDfIdeal.τ).loc Cert.RefFfnDfIdeal.main_v8) = v0 c
          ∧ r.2.mem ((c.tc : Thread Cert.RefFfnDfIdeal.nD Cert.RefFfnDfIdeal.τ).loc Cert.RefFfnDfIdeal.main_arg0) = m' ((c.tc : Thread Cert.RefFfnDfIdeal.nD Cert.RefFfnDfIdeal.τ).loc Cert.RefFfnDfIdeal.main_arg0)
          ∧ r.2.mem ((c.tc : Thread Cert.RefFfnDfIdeal.nD Cert.RefFfnDfIdeal.τ).loc Cert.RefFfnDfIdeal.main_arg1) = m' ((c.tc : Thread Cert.RefFfnDfIdeal.nD Cert.RefFfnDfIdeal.τ).loc Cert.RefFfnDfIdeal.main_arg1)
          ∧ r.2.mem ((c.tc : Thread Cert.RefFfnDfIdeal.nD Cert.RefFfnDfIdeal.τ).loc Cert.RefFfnDfIdeal.main_arg2) = m' ((c.tc : Thread Cert.RefFfnDfIdeal.nD Cert.RefFfnDfIdeal.τ).loc Cert.RefFfnDfIdeal.main_arg2))

def preserves_FfnDwin_FfnDwinIdeal : Prop :=
  True

def algebraic_FfnDwinIdeal_RefFfnDwinIdeal [hFfnDwinIdeal : Cert.FfnDwinIdeal.Facts] [hRefFfnDwinIdeal : Cert.RefFfnDwinIdeal.Facts] : Prop :=
  ∀ (m : (ℓ : Loc Cert.FfnDwinIdeal.nD Cert.FfnDwinIdeal.τ Cert.FfnDwinIdeal.sig) → Buf (Elt Ideal) ℓ) (g : Dev Cert.FfnDwinIdeal.nD → PrngReg)
    (m' : (ℓ : Loc Cert.RefFfnDwinIdeal.nD Cert.RefFfnDwinIdeal.τ Cert.RefFfnDwinIdeal.sig) → Buf (Elt Ideal) ℓ) (g' : Dev Cert.RefFfnDwinIdeal.nD → PrngReg), Pre_FfnDwinIdeal m →
    (∀ c : Dev Cert.FfnDwinIdeal.nD,
      m' ((c.tc : Thread Cert.RefFfnDwinIdeal.nD Cert.RefFfnDwinIdeal.τ).loc Cert.RefFfnDwinIdeal.main_arg0) = m ((c.tc : Thread Cert.FfnDwinIdeal.nD Cert.FfnDwinIdeal.τ).loc Cert.FfnDwinIdeal.main_arg0)
      ∧ m' ((c.tc : Thread Cert.RefFfnDwinIdeal.nD Cert.RefFfnDwinIdeal.τ).loc Cert.RefFfnDwinIdeal.main_arg1) = m ((c.tc : Thread Cert.FfnDwinIdeal.nD Cert.FfnDwinIdeal.τ).loc Cert.FfnDwinIdeal.main_arg1)) →
    ∃ (v0 : (c : Dev Cert.FfnDwinIdeal.nD) → Buf (Elt Ideal) ((c.tc : Thread Cert.FfnDwinIdeal.nD Cert.FfnDwinIdeal.τ).loc Cert.FfnDwinIdeal.main_v0)),
      θ_run (Cert.FfnDwinIdeal.defs (F := Ideal)) (onTc (τ := Cert.FfnDwinIdeal.τ) (Cert.FfnDwinIdeal.main (F := Ideal))) ⟨m, fun _ => 0, g⟩ (fun r => ∀ c : Dev Cert.FfnDwinIdeal.nD,
          r.2.mem ((c.tc : Thread Cert.FfnDwinIdeal.nD Cert.FfnDwinIdeal.τ).loc Cert.FfnDwinIdeal.main_v0) = v0 c
          ∧ r.2.mem ((c.tc : Thread Cert.FfnDwinIdeal.nD Cert.FfnDwinIdeal.τ).loc Cert.FfnDwinIdeal.main_arg0) = m ((c.tc : Thread Cert.FfnDwinIdeal.nD Cert.FfnDwinIdeal.τ).loc Cert.FfnDwinIdeal.main_arg0)
          ∧ r.2.mem ((c.tc : Thread Cert.FfnDwinIdeal.nD Cert.FfnDwinIdeal.τ).loc Cert.FfnDwinIdeal.main_arg1) = m ((c.tc : Thread Cert.FfnDwinIdeal.nD Cert.FfnDwinIdeal.τ).loc Cert.FfnDwinIdeal.main_arg1))
      ∧ θ_run (Cert.RefFfnDwinIdeal.defs (F := Ideal)) (onTc (τ := Cert.RefFfnDwinIdeal.τ) (Cert.RefFfnDwinIdeal.main (F := Ideal))) ⟨m', fun _ => 0, g'⟩ (fun r => ∀ c : Dev Cert.RefFfnDwinIdeal.nD,
          r.2.mem ((c.tc : Thread Cert.RefFfnDwinIdeal.nD Cert.RefFfnDwinIdeal.τ).loc Cert.RefFfnDwinIdeal.main_v5) = v0 c
          ∧ r.2.mem ((c.tc : Thread Cert.RefFfnDwinIdeal.nD Cert.RefFfnDwinIdeal.τ).loc Cert.RefFfnDwinIdeal.main_arg0) = m' ((c.tc : Thread Cert.RefFfnDwinIdeal.nD Cert.RefFfnDwinIdeal.τ).loc Cert.RefFfnDwinIdeal.main_arg0)
          ∧ r.2.mem ((c.tc : Thread Cert.RefFfnDwinIdeal.nD Cert.RefFfnDwinIdeal.τ).loc Cert.RefFfnDwinIdeal.main_arg1) = m' ((c.tc : Thread Cert.RefFfnDwinIdeal.nD Cert.RefFfnDwinIdeal.τ).loc Cert.RefFfnDwinIdeal.main_arg1))

def preserves_Glu_GluIdeal : Prop :=
  True

def algebraic_GluIdeal_RefGluIdeal [hGluIdeal : Cert.GluIdeal.Facts] [hRefGluIdeal : Cert.RefGluIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.RefGluIdeal.nD Cert.RefGluIdeal.τ Cert.RefGluIdeal.sig) → Buf (Elt Ideal) ℓ) (g' : Dev Cert.RefGluIdeal.nD → PrngReg), Pre_GluIdeal m →
    (∀ c : Dev Cert.GluIdeal.nD,
      m' ((c.tc : Thread Cert.RefGluIdeal.nD Cert.RefGluIdeal.τ).loc Cert.RefGluIdeal.main_arg0) = m ((c.tc : Thread Cert.GluIdeal.nD Cert.GluIdeal.τ).loc Cert.GluIdeal.main_arg0)
      ∧ m' ((c.tc : Thread Cert.RefGluIdeal.nD Cert.RefGluIdeal.τ).loc Cert.RefGluIdeal.main_arg1) = m ((c.tc : Thread Cert.GluIdeal.nD Cert.GluIdeal.τ).loc Cert.GluIdeal.main_arg1)
      ∧ m' ((c.tc : Thread Cert.RefGluIdeal.nD Cert.RefGluIdeal.τ).loc Cert.RefGluIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)) (v2 : (c : Dev Cert.GluIdeal.nD) → Buf (Elt Ideal) ((c.tc : Thread Cert.GluIdeal.nD Cert.GluIdeal.τ).loc Cert.GluIdeal.main_v0_2)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_v0_2) = v2 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.RefGluIdeal.defs (F := Ideal)) (onTc (τ := Cert.RefGluIdeal.τ) (Cert.RefGluIdeal.main (F := Ideal))) ⟨m', fun _ => 0, g'⟩ (fun r => ∀ c : Dev Cert.RefGluIdeal.nD,
          r.2.mem ((c.tc : Thread Cert.RefGluIdeal.nD Cert.RefGluIdeal.τ).loc Cert.RefGluIdeal.main_v12) = v0 c
          ∧ r.2.mem ((c.tc : Thread Cert.RefGluIdeal.nD Cert.RefGluIdeal.τ).loc Cert.RefGluIdeal.main_v13) = v1 c
          ∧ r.2.mem ((c.tc : Thread Cert.RefGluIdeal.nD Cert.RefGluIdeal.τ).loc Cert.RefGluIdeal.main_v14) = v2 c
          ∧ r.2.mem ((c.tc : Thread Cert.RefGluIdeal.nD Cert.RefGluIdeal.τ).loc Cert.RefGluIdeal.main_arg0) = m' ((c.tc : Thread Cert.RefGluIdeal.nD Cert.RefGluIdeal.τ).loc Cert.RefGluIdeal.main_arg0)
          ∧ r.2.mem ((c.tc : Thread Cert.RefGluIdeal.nD Cert.RefGluIdeal.τ).loc Cert.RefGluIdeal.main_arg1) = m' ((c.tc : Thread Cert.RefGluIdeal.nD Cert.RefGluIdeal.τ).loc Cert.RefGluIdeal.main_arg1)
          ∧ r.2.mem ((c.tc : Thread Cert.RefGluIdeal.nD Cert.RefGluIdeal.τ).loc Cert.RefGluIdeal.main_arg2) = m' ((c.tc : Thread Cert.RefGluIdeal.nD Cert.RefGluIdeal.τ).loc Cert.RefGluIdeal.main_arg2))

def preserves_GluDz_GluDzIdeal : Prop :=
  True

def algebraic_GluDzIdeal_RefGluDzIdeal [hGluDzIdeal : Cert.GluDzIdeal.Facts] [hRefGluDzIdeal : Cert.RefGluDzIdeal.Facts] : Prop :=
  ∀ (m : (ℓ : Loc Cert.GluDzIdeal.nD Cert.GluDzIdeal.τ Cert.GluDzIdeal.sig) → Buf (Elt Ideal) ℓ) (g : Dev Cert.GluDzIdeal.nD → PrngReg)
    (m' : (ℓ : Loc Cert.RefGluDzIdeal.nD Cert.RefGluDzIdeal.τ Cert.RefGluDzIdeal.sig) → Buf (Elt Ideal) ℓ) (g' : Dev Cert.RefGluDzIdeal.nD → PrngReg), Pre_GluDzIdeal m →
    (∀ c : Dev Cert.GluDzIdeal.nD,
      m' ((c.tc : Thread Cert.RefGluDzIdeal.nD Cert.RefGluDzIdeal.τ).loc Cert.RefGluDzIdeal.main_arg0) = m ((c.tc : Thread Cert.GluDzIdeal.nD Cert.GluDzIdeal.τ).loc Cert.GluDzIdeal.main_arg0)
      ∧ m' ((c.tc : Thread Cert.RefGluDzIdeal.nD Cert.RefGluDzIdeal.τ).loc Cert.RefGluDzIdeal.main_arg1) = m ((c.tc : Thread Cert.GluDzIdeal.nD Cert.GluDzIdeal.τ).loc Cert.GluDzIdeal.main_arg1)
      ∧ m' ((c.tc : Thread Cert.RefGluDzIdeal.nD Cert.RefGluDzIdeal.τ).loc Cert.RefGluDzIdeal.main_arg2) = m ((c.tc : Thread Cert.GluDzIdeal.nD Cert.GluDzIdeal.τ).loc Cert.GluDzIdeal.main_arg2)) →
    ∃ (v0 : (c : Dev Cert.GluDzIdeal.nD) → Buf (Elt Ideal) ((c.tc : Thread Cert.GluDzIdeal.nD Cert.GluDzIdeal.τ).loc Cert.GluDzIdeal.main_v0)),
      θ_run (Cert.GluDzIdeal.defs (F := Ideal)) (onTc (τ := Cert.GluDzIdeal.τ) (Cert.GluDzIdeal.main (F := Ideal))) ⟨m, fun _ => 0, g⟩ (fun r => ∀ c : Dev Cert.GluDzIdeal.nD,
          r.2.mem ((c.tc : Thread Cert.GluDzIdeal.nD Cert.GluDzIdeal.τ).loc Cert.GluDzIdeal.main_v0) = v0 c
          ∧ r.2.mem ((c.tc : Thread Cert.GluDzIdeal.nD Cert.GluDzIdeal.τ).loc Cert.GluDzIdeal.main_arg0) = m ((c.tc : Thread Cert.GluDzIdeal.nD Cert.GluDzIdeal.τ).loc Cert.GluDzIdeal.main_arg0)
          ∧ r.2.mem ((c.tc : Thread Cert.GluDzIdeal.nD Cert.GluDzIdeal.τ).loc Cert.GluDzIdeal.main_arg1) = m ((c.tc : Thread Cert.GluDzIdeal.nD Cert.GluDzIdeal.τ).loc Cert.GluDzIdeal.main_arg1)
          ∧ r.2.mem ((c.tc : Thread Cert.GluDzIdeal.nD Cert.GluDzIdeal.τ).loc Cert.GluDzIdeal.main_arg2) = m ((c.tc : Thread Cert.GluDzIdeal.nD Cert.GluDzIdeal.τ).loc Cert.GluDzIdeal.main_arg2))
      ∧ θ_run (Cert.RefGluDzIdeal.defs (F := Ideal)) (onTc (τ := Cert.RefGluDzIdeal.τ) (Cert.RefGluDzIdeal.main (F := Ideal))) ⟨m', fun _ => 0, g'⟩ (fun r => ∀ c : Dev Cert.RefGluDzIdeal.nD,
          r.2.mem ((c.tc : Thread Cert.RefGluDzIdeal.nD Cert.RefGluDzIdeal.τ).loc Cert.RefGluDzIdeal.main_v8) = v0 c
          ∧ r.2.mem ((c.tc : Thread Cert.RefGluDzIdeal.nD Cert.RefGluDzIdeal.τ).loc Cert.RefGluDzIdeal.main_arg0) = m' ((c.tc : Thread Cert.RefGluDzIdeal.nD Cert.RefGluDzIdeal.τ).loc Cert.RefGluDzIdeal.main_arg0)
          ∧ r.2.mem ((c.tc : Thread Cert.RefGluDzIdeal.nD Cert.RefGluDzIdeal.τ).loc Cert.RefGluDzIdeal.main_arg1) = m' ((c.tc : Thread Cert.RefGluDzIdeal.nD Cert.RefGluDzIdeal.τ).loc Cert.RefGluDzIdeal.main_arg1)
          ∧ r.2.mem ((c.tc : Thread Cert.RefGluDzIdeal.nD Cert.RefGluDzIdeal.τ).loc Cert.RefGluDzIdeal.main_arg2) = m' ((c.tc : Thread Cert.RefGluDzIdeal.nD Cert.RefGluDzIdeal.τ).loc Cert.RefGluDzIdeal.main_arg2))

def preserves_GluDw_GluDwIdeal : Prop :=
  True

def algebraic_GluDwIdeal_RefGluDwIdeal [hGluDwIdeal : Cert.GluDwIdeal.Facts] [hRefGluDwIdeal : Cert.RefGluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.RefGluDwIdeal.nD Cert.RefGluDwIdeal.τ Cert.RefGluDwIdeal.sig) → Buf (Elt Ideal) ℓ) (g' : Dev Cert.RefGluDwIdeal.nD → PrngReg), Pre_GluDwIdeal m →
    (∀ c : Dev Cert.GluDwIdeal.nD,
      m' ((c.tc : Thread Cert.RefGluDwIdeal.nD Cert.RefGluDwIdeal.τ).loc Cert.RefGluDwIdeal.main_arg0) = m ((c.tc : Thread Cert.GluDwIdeal.nD Cert.GluDwIdeal.τ).loc Cert.GluDwIdeal.main_arg0)
      ∧ m' ((c.tc : Thread Cert.RefGluDwIdeal.nD Cert.RefGluDwIdeal.τ).loc Cert.RefGluDwIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.RefGluDwIdeal.defs (F := Ideal)) (onTc (τ := Cert.RefGluDwIdeal.τ) (Cert.RefGluDwIdeal.main (F := Ideal))) ⟨m', fun _ => 0, g'⟩ (fun r => ∀ c : Dev Cert.RefGluDwIdeal.nD,
          r.2.mem ((c.tc : Thread Cert.RefGluDwIdeal.nD Cert.RefGluDwIdeal.τ).loc Cert.RefGluDwIdeal.main_v5) = v0 c
          ∧ r.2.mem ((c.tc : Thread Cert.RefGluDwIdeal.nD Cert.RefGluDwIdeal.τ).loc Cert.RefGluDwIdeal.main_arg0) = m' ((c.tc : Thread Cert.RefGluDwIdeal.nD Cert.RefGluDwIdeal.τ).loc Cert.RefGluDwIdeal.main_arg0)
          ∧ r.2.mem ((c.tc : Thread Cert.RefGluDwIdeal.nD Cert.RefGluDwIdeal.τ).loc Cert.RefGluDwIdeal.main_arg1) = m' ((c.tc : Thread Cert.RefGluDwIdeal.nD Cert.RefGluDwIdeal.τ).loc Cert.RefGluDwIdeal.main_arg1))

def preserves_AttnKv_AttnKvIdeal : Prop :=
  True

def algebraic_AttnKvIdeal_RefAttnKvIdeal [hAttnKvIdeal : Cert.AttnKvIdeal.Facts] [hRefAttnKvIdeal : Cert.RefAttnKvIdeal.Facts] : Prop :=
  ∀ (m : (ℓ : Loc Cert.AttnKvIdeal.nD Cert.AttnKvIdeal.τ Cert.AttnKvIdeal.sig) → Buf (Elt Ideal) ℓ) (g : Dev Cert.AttnKvIdeal.nD → PrngReg)
    (m' : (ℓ : Loc Cert.RefAttnKvIdeal.nD Cert.RefAttnKvIdeal.τ Cert.RefAttnKvIdeal.sig) → Buf (Elt Ideal) ℓ) (g' : Dev Cert.RefAttnKvIdeal.nD → PrngReg), Pre_AttnKvIdeal m →
    (∀ c : Dev Cert.AttnKvIdeal.nD,
      m' ((c.tc : Thread Cert.RefAttnKvIdeal.nD Cert.RefAttnKvIdeal.τ).loc Cert.RefAttnKvIdeal.main_arg0) = m ((c.tc : Thread Cert.AttnKvIdeal.nD Cert.AttnKvIdeal.τ).loc Cert.AttnKvIdeal.main_arg0)
      ∧ m' ((c.tc : Thread Cert.RefAttnKvIdeal.nD Cert.RefAttnKvIdeal.τ).loc Cert.RefAttnKvIdeal.main_arg1) = m ((c.tc : Thread Cert.AttnKvIdeal.nD Cert.AttnKvIdeal.τ).loc Cert.AttnKvIdeal.main_arg1)
      ∧ m' ((c.tc : Thread Cert.RefAttnKvIdeal.nD Cert.RefAttnKvIdeal.τ).loc Cert.RefAttnKvIdeal.main_arg2) = m ((c.tc : Thread Cert.AttnKvIdeal.nD Cert.AttnKvIdeal.τ).loc Cert.AttnKvIdeal.main_arg2)) →
    ∃ (v0 : (c : Dev Cert.AttnKvIdeal.nD) → Buf (Elt Ideal) ((c.tc : Thread Cert.AttnKvIdeal.nD Cert.AttnKvIdeal.τ).loc Cert.AttnKvIdeal.main_v0_0)) (v1 : (c : Dev Cert.AttnKvIdeal.nD) → Buf (Elt Ideal) ((c.tc : Thread Cert.AttnKvIdeal.nD Cert.AttnKvIdeal.τ).loc Cert.AttnKvIdeal.main_v0_1)),
      θ_run (Cert.AttnKvIdeal.defs (F := Ideal)) (onTc (τ := Cert.AttnKvIdeal.τ) (Cert.AttnKvIdeal.main (F := Ideal))) ⟨m, fun _ => 0, g⟩ (fun r => ∀ c : Dev Cert.AttnKvIdeal.nD,
          r.2.mem ((c.tc : Thread Cert.AttnKvIdeal.nD Cert.AttnKvIdeal.τ).loc Cert.AttnKvIdeal.main_v0_0) = v0 c
          ∧ r.2.mem ((c.tc : Thread Cert.AttnKvIdeal.nD Cert.AttnKvIdeal.τ).loc Cert.AttnKvIdeal.main_v0_1) = v1 c
          ∧ r.2.mem ((c.tc : Thread Cert.AttnKvIdeal.nD Cert.AttnKvIdeal.τ).loc Cert.AttnKvIdeal.main_arg0) = m ((c.tc : Thread Cert.AttnKvIdeal.nD Cert.AttnKvIdeal.τ).loc Cert.AttnKvIdeal.main_arg0)
          ∧ r.2.mem ((c.tc : Thread Cert.AttnKvIdeal.nD Cert.AttnKvIdeal.τ).loc Cert.AttnKvIdeal.main_arg1) = m ((c.tc : Thread Cert.AttnKvIdeal.nD Cert.AttnKvIdeal.τ).loc Cert.AttnKvIdeal.main_arg1)
          ∧ r.2.mem ((c.tc : Thread Cert.AttnKvIdeal.nD Cert.AttnKvIdeal.τ).loc Cert.AttnKvIdeal.main_arg2) = m ((c.tc : Thread Cert.AttnKvIdeal.nD Cert.AttnKvIdeal.τ).loc Cert.AttnKvIdeal.main_arg2))
      ∧ θ_run (Cert.RefAttnKvIdeal.defs (F := Ideal)) (onTc (τ := Cert.RefAttnKvIdeal.τ) (Cert.RefAttnKvIdeal.main (F := Ideal))) ⟨m', fun _ => 0, g'⟩ (fun r => ∀ c : Dev Cert.RefAttnKvIdeal.nD,
          r.2.mem ((c.tc : Thread Cert.RefAttnKvIdeal.nD Cert.RefAttnKvIdeal.τ).loc Cert.RefAttnKvIdeal.main_v3) = v0 c
          ∧ r.2.mem ((c.tc : Thread Cert.RefAttnKvIdeal.nD Cert.RefAttnKvIdeal.τ).loc Cert.RefAttnKvIdeal.main_v7) = v1 c
          ∧ r.2.mem ((c.tc : Thread Cert.RefAttnKvIdeal.nD Cert.RefAttnKvIdeal.τ).loc Cert.RefAttnKvIdeal.main_arg0) = m' ((c.tc : Thread Cert.RefAttnKvIdeal.nD Cert.RefAttnKvIdeal.τ).loc Cert.RefAttnKvIdeal.main_arg0)
          ∧ r.2.mem ((c.tc : Thread Cert.RefAttnKvIdeal.nD Cert.RefAttnKvIdeal.τ).loc Cert.RefAttnKvIdeal.main_arg1) = m' ((c.tc : Thread Cert.RefAttnKvIdeal.nD Cert.RefAttnKvIdeal.τ).loc Cert.RefAttnKvIdeal.main_arg1)
          ∧ r.2.mem ((c.tc : Thread Cert.RefAttnKvIdeal.nD Cert.RefAttnKvIdeal.τ).loc Cert.RefAttnKvIdeal.main_arg2) = m' ((c.tc : Thread Cert.RefAttnKvIdeal.nD Cert.RefAttnKvIdeal.τ).loc Cert.RefAttnKvIdeal.main_arg2))

def preserves_AttnQ_AttnQIdeal : Prop :=
  True

def algebraic_AttnQIdeal_RefAttnQIdeal [hAttnQIdeal : Cert.AttnQIdeal.Facts] [hRefAttnQIdeal : Cert.RefAttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg)
    (m' : (ℓ : Loc Cert.RefAttnQIdeal.nD Cert.RefAttnQIdeal.τ Cert.RefAttnQIdeal.sig) → Buf (Elt Ideal) ℓ) (g' : Dev Cert.RefAttnQIdeal.nD → PrngReg), Pre_AttnQIdeal m →
    (∀ c : Dev Cert.AttnQIdeal.nD,
      m' ((c.tc : Thread Cert.RefAttnQIdeal.nD Cert.RefAttnQIdeal.τ).loc Cert.RefAttnQIdeal.main_arg0) = m ((c.tc : Thread Cert.AttnQIdeal.nD Cert.AttnQIdeal.τ).loc Cert.AttnQIdeal.main_arg0)
      ∧ m' ((c.tc : Thread Cert.RefAttnQIdeal.nD Cert.RefAttnQIdeal.τ).loc Cert.RefAttnQIdeal.main_arg1) = m ((c.tc : Thread Cert.AttnQIdeal.nD Cert.AttnQIdeal.τ).loc Cert.AttnQIdeal.main_arg1)) →
    ∃ (v0 : (c : Dev Cert.AttnQIdeal.nD) → Buf (Elt Ideal) ((c.tc : Thread Cert.AttnQIdeal.nD Cert.AttnQIdeal.τ).loc Cert.AttnQIdeal.main_v0)),
      θ_run (Cert.AttnQIdeal.defs (F := Ideal)) (onTc (τ := Cert.AttnQIdeal.τ) (Cert.AttnQIdeal.main (F := Ideal))) ⟨m, fun _ => 0, g⟩ (fun r => ∀ c : Dev Cert.AttnQIdeal.nD,
          r.2.mem ((c.tc : Thread Cert.AttnQIdeal.nD Cert.AttnQIdeal.τ).loc Cert.AttnQIdeal.main_v0) = v0 c
          ∧ r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
          ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ θ_run (Cert.RefAttnQIdeal.defs (F := Ideal)) (onTc (τ := Cert.RefAttnQIdeal.τ) (Cert.RefAttnQIdeal.main (F := Ideal))) ⟨m', fun _ => 0, g'⟩ (fun r => ∀ c : Dev Cert.RefAttnQIdeal.nD,
          r.2.mem ((c.tc : Thread Cert.RefAttnQIdeal.nD Cert.RefAttnQIdeal.τ).loc Cert.RefAttnQIdeal.main_v3) = v0 c
          ∧ r.2.mem ((c.tc : Thread Cert.RefAttnQIdeal.nD Cert.RefAttnQIdeal.τ).loc Cert.RefAttnQIdeal.main_arg0) = m' ((c.tc : Thread Cert.RefAttnQIdeal.nD Cert.RefAttnQIdeal.τ).loc Cert.RefAttnQIdeal.main_arg0)
          ∧ r.2.mem ((c.tc : Thread Cert.RefAttnQIdeal.nD Cert.RefAttnQIdeal.τ).loc Cert.RefAttnQIdeal.main_arg1) = m' ((c.tc : Thread Cert.RefAttnQIdeal.nD Cert.RefAttnQIdeal.τ).loc Cert.RefAttnQIdeal.main_arg1))

def preserves_AttnKvt_AttnKvtIdeal : Prop :=
  True

def algebraic_AttnKvtIdeal_RefAttnKvtIdeal [hAttnKvtIdeal : Cert.AttnKvtIdeal.Facts] [hRefAttnKvtIdeal : Cert.RefAttnKvtIdeal.Facts] : Prop :=
  ∀ (m : (ℓ : Loc Cert.AttnKvtIdeal.nD Cert.AttnKvtIdeal.τ Cert.AttnKvtIdeal.sig) → Buf (Elt Ideal) ℓ) (g : Dev Cert.AttnKvtIdeal.nD → PrngReg)
    (m' : (ℓ : Loc Cert.RefAttnKvtIdeal.nD Cert.RefAttnKvtIdeal.τ Cert.RefAttnKvtIdeal.sig) → Buf (Elt Ideal) ℓ) (g' : Dev Cert.RefAttnKvtIdeal.nD → PrngReg), Pre_AttnKvtIdeal m →
    (∀ c : Dev Cert.AttnKvtIdeal.nD,
      m' ((c.tc : Thread Cert.RefAttnKvtIdeal.nD Cert.RefAttnKvtIdeal.τ).loc Cert.RefAttnKvtIdeal.main_arg0) = m ((c.tc : Thread Cert.AttnKvtIdeal.nD Cert.AttnKvtIdeal.τ).loc Cert.AttnKvtIdeal.main_arg0)
      ∧ m' ((c.tc : Thread Cert.RefAttnKvtIdeal.nD Cert.RefAttnKvtIdeal.τ).loc Cert.RefAttnKvtIdeal.main_arg1) = m ((c.tc : Thread Cert.AttnKvtIdeal.nD Cert.AttnKvtIdeal.τ).loc Cert.AttnKvtIdeal.main_arg1)
      ∧ m' ((c.tc : Thread Cert.RefAttnKvtIdeal.nD Cert.RefAttnKvtIdeal.τ).loc Cert.RefAttnKvtIdeal.main_arg2) = m ((c.tc : Thread Cert.AttnKvtIdeal.nD Cert.AttnKvtIdeal.τ).loc Cert.AttnKvtIdeal.main_arg2)) →
    ∃ (v0 : (c : Dev Cert.AttnKvtIdeal.nD) → Buf (Elt Ideal) ((c.tc : Thread Cert.AttnKvtIdeal.nD Cert.AttnKvtIdeal.τ).loc Cert.AttnKvtIdeal.main_v0_0)) (v1 : (c : Dev Cert.AttnKvtIdeal.nD) → Buf (Elt Ideal) ((c.tc : Thread Cert.AttnKvtIdeal.nD Cert.AttnKvtIdeal.τ).loc Cert.AttnKvtIdeal.main_v0_1)),
      θ_run (Cert.AttnKvtIdeal.defs (F := Ideal)) (onTc (τ := Cert.AttnKvtIdeal.τ) (Cert.AttnKvtIdeal.main (F := Ideal))) ⟨m, fun _ => 0, g⟩ (fun r => ∀ c : Dev Cert.AttnKvtIdeal.nD,
          r.2.mem ((c.tc : Thread Cert.AttnKvtIdeal.nD Cert.AttnKvtIdeal.τ).loc Cert.AttnKvtIdeal.main_v0_0) = v0 c
          ∧ r.2.mem ((c.tc : Thread Cert.AttnKvtIdeal.nD Cert.AttnKvtIdeal.τ).loc Cert.AttnKvtIdeal.main_v0_1) = v1 c
          ∧ r.2.mem ((c.tc : Thread Cert.AttnKvtIdeal.nD Cert.AttnKvtIdeal.τ).loc Cert.AttnKvtIdeal.main_arg0) = m ((c.tc : Thread Cert.AttnKvtIdeal.nD Cert.AttnKvtIdeal.τ).loc Cert.AttnKvtIdeal.main_arg0)
          ∧ r.2.mem ((c.tc : Thread Cert.AttnKvtIdeal.nD Cert.AttnKvtIdeal.τ).loc Cert.AttnKvtIdeal.main_arg1) = m ((c.tc : Thread Cert.AttnKvtIdeal.nD Cert.AttnKvtIdeal.τ).loc Cert.AttnKvtIdeal.main_arg1)
          ∧ r.2.mem ((c.tc : Thread Cert.AttnKvtIdeal.nD Cert.AttnKvtIdeal.τ).loc Cert.AttnKvtIdeal.main_arg2) = m ((c.tc : Thread Cert.AttnKvtIdeal.nD Cert.AttnKvtIdeal.τ).loc Cert.AttnKvtIdeal.main_arg2))
      ∧ θ_run (Cert.RefAttnKvtIdeal.defs (F := Ideal)) (onTc (τ := Cert.RefAttnKvtIdeal.τ) (Cert.RefAttnKvtIdeal.main (F := Ideal))) ⟨m', fun _ => 0, g'⟩ (fun r => ∀ c : Dev Cert.RefAttnKvtIdeal.nD,
          r.2.mem ((c.tc : Thread Cert.RefAttnKvtIdeal.nD Cert.RefAttnKvtIdeal.τ).loc Cert.RefAttnKvtIdeal.main_v7) = v0 c
          ∧ r.2.mem ((c.tc : Thread Cert.RefAttnKvtIdeal.nD Cert.RefAttnKvtIdeal.τ).loc Cert.RefAttnKvtIdeal.main_v9) = v1 c
          ∧ r.2.mem ((c.tc : Thread Cert.RefAttnKvtIdeal.nD Cert.RefAttnKvtIdeal.τ).loc Cert.RefAttnKvtIdeal.main_arg0) = m' ((c.tc : Thread Cert.RefAttnKvtIdeal.nD Cert.RefAttnKvtIdeal.τ).loc Cert.RefAttnKvtIdeal.main_arg0)
          ∧ r.2.mem ((c.tc : Thread Cert.RefAttnKvtIdeal.nD Cert.RefAttnKvtIdeal.τ).loc Cert.RefAttnKvtIdeal.main_arg1) = m' ((c.tc : Thread Cert.RefAttnKvtIdeal.nD Cert.RefAttnKvtIdeal.τ).loc Cert.RefAttnKvtIdeal.main_arg1)
          ∧ r.2.mem ((c.tc : Thread Cert.RefAttnKvtIdeal.nD Cert.RefAttnKvtIdeal.τ).loc Cert.RefAttnKvtIdeal.main_arg2) = m' ((c.tc : Thread Cert.RefAttnKvtIdeal.nD Cert.RefAttnKvtIdeal.τ).loc Cert.RefAttnKvtIdeal.main_arg2))

def preserves_AttnO_AttnOIdeal : Prop :=
  True

def algebraic_AttnOIdeal_RefAttnOIdeal [hAttnOIdeal : Cert.AttnOIdeal.Facts] [hRefAttnOIdeal : Cert.RefAttnOIdeal.Facts] : Prop :=
  ∀ (m : (ℓ : Loc Cert.AttnOIdeal.nD Cert.AttnOIdeal.τ Cert.AttnOIdeal.sig) → Buf (Elt Ideal) ℓ) (g : Dev Cert.AttnOIdeal.nD → PrngReg)
    (m' : (ℓ : Loc Cert.RefAttnOIdeal.nD Cert.RefAttnOIdeal.τ Cert.RefAttnOIdeal.sig) → Buf (Elt Ideal) ℓ) (g' : Dev Cert.RefAttnOIdeal.nD → PrngReg), Pre_AttnOIdeal m →
    (∀ c : Dev Cert.AttnOIdeal.nD,
      m' ((c.tc : Thread Cert.RefAttnOIdeal.nD Cert.RefAttnOIdeal.τ).loc Cert.RefAttnOIdeal.main_arg0) = m ((c.tc : Thread Cert.AttnOIdeal.nD Cert.AttnOIdeal.τ).loc Cert.AttnOIdeal.main_arg0)
      ∧ m' ((c.tc : Thread Cert.RefAttnOIdeal.nD Cert.RefAttnOIdeal.τ).loc Cert.RefAttnOIdeal.main_arg1) = m ((c.tc : Thread Cert.AttnOIdeal.nD Cert.AttnOIdeal.τ).loc Cert.AttnOIdeal.main_arg1)
      ∧ m' ((c.tc : Thread Cert.RefAttnOIdeal.nD Cert.RefAttnOIdeal.τ).loc Cert.RefAttnOIdeal.main_arg2) = m ((c.tc : Thread Cert.AttnOIdeal.nD Cert.AttnOIdeal.τ).loc Cert.AttnOIdeal.main_arg2)) →
    ∃ (v0 : (c : Dev Cert.AttnOIdeal.nD) → Buf (Elt Ideal) ((c.tc : Thread Cert.AttnOIdeal.nD Cert.AttnOIdeal.τ).loc Cert.AttnOIdeal.main_v0)),
      θ_run (Cert.AttnOIdeal.defs (F := Ideal)) (onTc (τ := Cert.AttnOIdeal.τ) (Cert.AttnOIdeal.main (F := Ideal))) ⟨m, fun _ => 0, g⟩ (fun r => ∀ c : Dev Cert.AttnOIdeal.nD,
          r.2.mem ((c.tc : Thread Cert.AttnOIdeal.nD Cert.AttnOIdeal.τ).loc Cert.AttnOIdeal.main_v0) = v0 c
          ∧ r.2.mem ((c.tc : Thread Cert.AttnOIdeal.nD Cert.AttnOIdeal.τ).loc Cert.AttnOIdeal.main_arg0) = m ((c.tc : Thread Cert.AttnOIdeal.nD Cert.AttnOIdeal.τ).loc Cert.AttnOIdeal.main_arg0)
          ∧ r.2.mem ((c.tc : Thread Cert.AttnOIdeal.nD Cert.AttnOIdeal.τ).loc Cert.AttnOIdeal.main_arg1) = m ((c.tc : Thread Cert.AttnOIdeal.nD Cert.AttnOIdeal.τ).loc Cert.AttnOIdeal.main_arg1)
          ∧ r.2.mem ((c.tc : Thread Cert.AttnOIdeal.nD Cert.AttnOIdeal.τ).loc Cert.AttnOIdeal.main_arg2) = m ((c.tc : Thread Cert.AttnOIdeal.nD Cert.AttnOIdeal.τ).loc Cert.AttnOIdeal.main_arg2))
      ∧ θ_run (Cert.RefAttnOIdeal.defs (F := Ideal)) (onTc (τ := Cert.RefAttnOIdeal.τ) (Cert.RefAttnOIdeal.main (F := Ideal))) ⟨m', fun _ => 0, g'⟩ (fun r => ∀ c : Dev Cert.RefAttnOIdeal.nD,
          r.2.mem ((c.tc : Thread Cert.RefAttnOIdeal.nD Cert.RefAttnOIdeal.τ).loc Cert.RefAttnOIdeal.main_v3) = v0 c
          ∧ r.2.mem ((c.tc : Thread Cert.RefAttnOIdeal.nD Cert.RefAttnOIdeal.τ).loc Cert.RefAttnOIdeal.main_arg0) = m' ((c.tc : Thread Cert.RefAttnOIdeal.nD Cert.RefAttnOIdeal.τ).loc Cert.RefAttnOIdeal.main_arg0)
          ∧ r.2.mem ((c.tc : Thread Cert.RefAttnOIdeal.nD Cert.RefAttnOIdeal.τ).loc Cert.RefAttnOIdeal.main_arg1) = m' ((c.tc : Thread Cert.RefAttnOIdeal.nD Cert.RefAttnOIdeal.τ).loc Cert.RefAttnOIdeal.main_arg1)
          ∧ r.2.mem ((c.tc : Thread Cert.RefAttnOIdeal.nD Cert.RefAttnOIdeal.τ).loc Cert.RefAttnOIdeal.main_arg2) = m' ((c.tc : Thread Cert.RefAttnOIdeal.nD Cert.RefAttnOIdeal.τ).loc Cert.RefAttnOIdeal.main_arg2))

def preserves_AttnDo_AttnDoIdeal : Prop :=
  True

def algebraic_AttnDoIdeal_RefAttnDoIdeal [hAttnDoIdeal : Cert.AttnDoIdeal.Facts] [hRefAttnDoIdeal : Cert.RefAttnDoIdeal.Facts] : Prop :=
  ∀ (m : (ℓ : Loc Cert.AttnDoIdeal.nD Cert.AttnDoIdeal.τ Cert.AttnDoIdeal.sig) → Buf (Elt Ideal) ℓ) (g : Dev Cert.AttnDoIdeal.nD → PrngReg)
    (m' : (ℓ : Loc Cert.RefAttnDoIdeal.nD Cert.RefAttnDoIdeal.τ Cert.RefAttnDoIdeal.sig) → Buf (Elt Ideal) ℓ) (g' : Dev Cert.RefAttnDoIdeal.nD → PrngReg), Pre_AttnDoIdeal m →
    (∀ c : Dev Cert.AttnDoIdeal.nD,
      m' ((c.tc : Thread Cert.RefAttnDoIdeal.nD Cert.RefAttnDoIdeal.τ).loc Cert.RefAttnDoIdeal.main_arg0) = m ((c.tc : Thread Cert.AttnDoIdeal.nD Cert.AttnDoIdeal.τ).loc Cert.AttnDoIdeal.main_arg0)
      ∧ m' ((c.tc : Thread Cert.RefAttnDoIdeal.nD Cert.RefAttnDoIdeal.τ).loc Cert.RefAttnDoIdeal.main_arg1) = m ((c.tc : Thread Cert.AttnDoIdeal.nD Cert.AttnDoIdeal.τ).loc Cert.AttnDoIdeal.main_arg1)) →
    ∃ (v0 : (c : Dev Cert.AttnDoIdeal.nD) → Buf (Elt Ideal) ((c.tc : Thread Cert.AttnDoIdeal.nD Cert.AttnDoIdeal.τ).loc Cert.AttnDoIdeal.main_v0)),
      θ_run (Cert.AttnDoIdeal.defs (F := Ideal)) (onTc (τ := Cert.AttnDoIdeal.τ) (Cert.AttnDoIdeal.main (F := Ideal))) ⟨m, fun _ => 0, g⟩ (fun r => ∀ c : Dev Cert.AttnDoIdeal.nD,
          r.2.mem ((c.tc : Thread Cert.AttnDoIdeal.nD Cert.AttnDoIdeal.τ).loc Cert.AttnDoIdeal.main_v0) = v0 c
          ∧ r.2.mem ((c.tc : Thread Cert.AttnDoIdeal.nD Cert.AttnDoIdeal.τ).loc Cert.AttnDoIdeal.main_arg0) = m ((c.tc : Thread Cert.AttnDoIdeal.nD Cert.AttnDoIdeal.τ).loc Cert.AttnDoIdeal.main_arg0)
          ∧ r.2.mem ((c.tc : Thread Cert.AttnDoIdeal.nD Cert.AttnDoIdeal.τ).loc Cert.AttnDoIdeal.main_arg1) = m ((c.tc : Thread Cert.AttnDoIdeal.nD Cert.AttnDoIdeal.τ).loc Cert.AttnDoIdeal.main_arg1))
      ∧ θ_run (Cert.RefAttnDoIdeal.defs (F := Ideal)) (onTc (τ := Cert.RefAttnDoIdeal.τ) (Cert.RefAttnDoIdeal.main (F := Ideal))) ⟨m', fun _ => 0, g'⟩ (fun r => ∀ c : Dev Cert.RefAttnDoIdeal.nD,
          r.2.mem ((c.tc : Thread Cert.RefAttnDoIdeal.nD Cert.RefAttnDoIdeal.τ).loc Cert.RefAttnDoIdeal.main_v4) = v0 c
          ∧ r.2.mem ((c.tc : Thread Cert.RefAttnDoIdeal.nD Cert.RefAttnDoIdeal.τ).loc Cert.RefAttnDoIdeal.main_arg0) = m' ((c.tc : Thread Cert.RefAttnDoIdeal.nD Cert.RefAttnDoIdeal.τ).loc Cert.RefAttnDoIdeal.main_arg0)
          ∧ r.2.mem ((c.tc : Thread Cert.RefAttnDoIdeal.nD Cert.RefAttnDoIdeal.τ).loc Cert.RefAttnDoIdeal.main_arg1) = m' ((c.tc : Thread Cert.RefAttnDoIdeal.nD Cert.RefAttnDoIdeal.τ).loc Cert.RefAttnDoIdeal.main_arg1))

def preserves_AttnDwo_AttnDwoIdeal : Prop :=
  True

def algebraic_AttnDwoIdeal_RefAttnDwoIdeal [hAttnDwoIdeal : Cert.AttnDwoIdeal.Facts] [hRefAttnDwoIdeal : Cert.RefAttnDwoIdeal.Facts] : Prop :=
  ∀ (m : (ℓ : Loc Cert.AttnDwoIdeal.nD Cert.AttnDwoIdeal.τ Cert.AttnDwoIdeal.sig) → Buf (Elt Ideal) ℓ) (g : Dev Cert.AttnDwoIdeal.nD → PrngReg)
    (m' : (ℓ : Loc Cert.RefAttnDwoIdeal.nD Cert.RefAttnDwoIdeal.τ Cert.RefAttnDwoIdeal.sig) → Buf (Elt Ideal) ℓ) (g' : Dev Cert.RefAttnDwoIdeal.nD → PrngReg), Pre_AttnDwoIdeal m →
    (∀ c : Dev Cert.AttnDwoIdeal.nD,
      m' ((c.tc : Thread Cert.RefAttnDwoIdeal.nD Cert.RefAttnDwoIdeal.τ).loc Cert.RefAttnDwoIdeal.main_arg0) = m ((c.tc : Thread Cert.AttnDwoIdeal.nD Cert.AttnDwoIdeal.τ).loc Cert.AttnDwoIdeal.main_arg0)
      ∧ m' ((c.tc : Thread Cert.RefAttnDwoIdeal.nD Cert.RefAttnDwoIdeal.τ).loc Cert.RefAttnDwoIdeal.main_arg1) = m ((c.tc : Thread Cert.AttnDwoIdeal.nD Cert.AttnDwoIdeal.τ).loc Cert.AttnDwoIdeal.main_arg1)) →
    ∃ (v0 : (c : Dev Cert.AttnDwoIdeal.nD) → Buf (Elt Ideal) ((c.tc : Thread Cert.AttnDwoIdeal.nD Cert.AttnDwoIdeal.τ).loc Cert.AttnDwoIdeal.main_v0)),
      θ_run (Cert.AttnDwoIdeal.defs (F := Ideal)) (onTc (τ := Cert.AttnDwoIdeal.τ) (Cert.AttnDwoIdeal.main (F := Ideal))) ⟨m, fun _ => 0, g⟩ (fun r => ∀ c : Dev Cert.AttnDwoIdeal.nD,
          r.2.mem ((c.tc : Thread Cert.AttnDwoIdeal.nD Cert.AttnDwoIdeal.τ).loc Cert.AttnDwoIdeal.main_v0) = v0 c
          ∧ r.2.mem ((c.tc : Thread Cert.AttnDwoIdeal.nD Cert.AttnDwoIdeal.τ).loc Cert.AttnDwoIdeal.main_arg0) = m ((c.tc : Thread Cert.AttnDwoIdeal.nD Cert.AttnDwoIdeal.τ).loc Cert.AttnDwoIdeal.main_arg0)
          ∧ r.2.mem ((c.tc : Thread Cert.AttnDwoIdeal.nD Cert.AttnDwoIdeal.τ).loc Cert.AttnDwoIdeal.main_arg1) = m ((c.tc : Thread Cert.AttnDwoIdeal.nD Cert.AttnDwoIdeal.τ).loc Cert.AttnDwoIdeal.main_arg1))
      ∧ θ_run (Cert.RefAttnDwoIdeal.defs (F := Ideal)) (onTc (τ := Cert.RefAttnDwoIdeal.τ) (Cert.RefAttnDwoIdeal.main (F := Ideal))) ⟨m', fun _ => 0, g'⟩ (fun r => ∀ c : Dev Cert.RefAttnDwoIdeal.nD,
          r.2.mem ((c.tc : Thread Cert.RefAttnDwoIdeal.nD Cert.RefAttnDwoIdeal.τ).loc Cert.RefAttnDwoIdeal.main_v4) = v0 c
          ∧ r.2.mem ((c.tc : Thread Cert.RefAttnDwoIdeal.nD Cert.RefAttnDwoIdeal.τ).loc Cert.RefAttnDwoIdeal.main_arg0) = m' ((c.tc : Thread Cert.RefAttnDwoIdeal.nD Cert.RefAttnDwoIdeal.τ).loc Cert.RefAttnDwoIdeal.main_arg0)
          ∧ r.2.mem ((c.tc : Thread Cert.RefAttnDwoIdeal.nD Cert.RefAttnDwoIdeal.τ).loc Cert.RefAttnDwoIdeal.main_arg1) = m' ((c.tc : Thread Cert.RefAttnDwoIdeal.nD Cert.RefAttnDwoIdeal.τ).loc Cert.RefAttnDwoIdeal.main_arg1))

def preserves_AttnDqn_AttnDqnIdeal : Prop :=
  True

def algebraic_AttnDqnIdeal_RefAttnDqnIdeal [hAttnDqnIdeal : Cert.AttnDqnIdeal.Facts] [hRefAttnDqnIdeal : Cert.RefAttnDqnIdeal.Facts] : Prop :=
  ∀ (m : (ℓ : Loc Cert.AttnDqnIdeal.nD Cert.AttnDqnIdeal.τ Cert.AttnDqnIdeal.sig) → Buf (Elt Ideal) ℓ) (g : Dev Cert.AttnDqnIdeal.nD → PrngReg)
    (m' : (ℓ : Loc Cert.RefAttnDqnIdeal.nD Cert.RefAttnDqnIdeal.τ Cert.RefAttnDqnIdeal.sig) → Buf (Elt Ideal) ℓ) (g' : Dev Cert.RefAttnDqnIdeal.nD → PrngReg), Pre_AttnDqnIdeal m →
    (∀ c : Dev Cert.AttnDqnIdeal.nD,
      m' ((c.tc : Thread Cert.RefAttnDqnIdeal.nD Cert.RefAttnDqnIdeal.τ).loc Cert.RefAttnDqnIdeal.main_arg0) = m ((c.tc : Thread Cert.AttnDqnIdeal.nD Cert.AttnDqnIdeal.τ).loc Cert.AttnDqnIdeal.main_arg0)
      ∧ m' ((c.tc : Thread Cert.RefAttnDqnIdeal.nD Cert.RefAttnDqnIdeal.τ).loc Cert.RefAttnDqnIdeal.main_arg1) = m ((c.tc : Thread Cert.AttnDqnIdeal.nD Cert.AttnDqnIdeal.τ).loc Cert.AttnDqnIdeal.main_arg1)) →
    ∃ (v0 : (c : Dev Cert.AttnDqnIdeal.nD) → Buf (Elt Ideal) ((c.tc : Thread Cert.AttnDqnIdeal.nD Cert.AttnDqnIdeal.τ).loc Cert.AttnDqnIdeal.main_v0)),
      θ_run (Cert.AttnDqnIdeal.defs (F := Ideal)) (onTc (τ := Cert.AttnDqnIdeal.τ) (Cert.AttnDqnIdeal.main (F := Ideal))) ⟨m, fun _ => 0, g⟩ (fun r => ∀ c : Dev Cert.AttnDqnIdeal.nD,
          r.2.mem ((c.tc : Thread Cert.AttnDqnIdeal.nD Cert.AttnDqnIdeal.τ).loc Cert.AttnDqnIdeal.main_v0) = v0 c
          ∧ r.2.mem ((c.tc : Thread Cert.AttnDqnIdeal.nD Cert.AttnDqnIdeal.τ).loc Cert.AttnDqnIdeal.main_arg0) = m ((c.tc : Thread Cert.AttnDqnIdeal.nD Cert.AttnDqnIdeal.τ).loc Cert.AttnDqnIdeal.main_arg0)
          ∧ r.2.mem ((c.tc : Thread Cert.AttnDqnIdeal.nD Cert.AttnDqnIdeal.τ).loc Cert.AttnDqnIdeal.main_arg1) = m ((c.tc : Thread Cert.AttnDqnIdeal.nD Cert.AttnDqnIdeal.τ).loc Cert.AttnDqnIdeal.main_arg1))
      ∧ θ_run (Cert.RefAttnDqnIdeal.defs (F := Ideal)) (onTc (τ := Cert.RefAttnDqnIdeal.τ) (Cert.RefAttnDqnIdeal.main (F := Ideal))) ⟨m', fun _ => 0, g'⟩ (fun r => ∀ c : Dev Cert.RefAttnDqnIdeal.nD,
          r.2.mem ((c.tc : Thread Cert.RefAttnDqnIdeal.nD Cert.RefAttnDqnIdeal.τ).loc Cert.RefAttnDqnIdeal.main_v4) = v0 c
          ∧ r.2.mem ((c.tc : Thread Cert.RefAttnDqnIdeal.nD Cert.RefAttnDqnIdeal.τ).loc Cert.RefAttnDqnIdeal.main_arg0) = m' ((c.tc : Thread Cert.RefAttnDqnIdeal.nD Cert.RefAttnDqnIdeal.τ).loc Cert.RefAttnDqnIdeal.main_arg0)
          ∧ r.2.mem ((c.tc : Thread Cert.RefAttnDqnIdeal.nD Cert.RefAttnDqnIdeal.τ).loc Cert.RefAttnDqnIdeal.main_arg1) = m' ((c.tc : Thread Cert.RefAttnDqnIdeal.nD Cert.RefAttnDqnIdeal.τ).loc Cert.RefAttnDqnIdeal.main_arg1))

def preserves_AttnDwq_AttnDwqIdeal : Prop :=
  True

def algebraic_AttnDwqIdeal_RefAttnDwqIdeal [hAttnDwqIdeal : Cert.AttnDwqIdeal.Facts] [hRefAttnDwqIdeal : Cert.RefAttnDwqIdeal.Facts] : Prop :=
  ∀ (m : (ℓ : Loc Cert.AttnDwqIdeal.nD Cert.AttnDwqIdeal.τ Cert.AttnDwqIdeal.sig) → Buf (Elt Ideal) ℓ) (g : Dev Cert.AttnDwqIdeal.nD → PrngReg)
    (m' : (ℓ : Loc Cert.RefAttnDwqIdeal.nD Cert.RefAttnDwqIdeal.τ Cert.RefAttnDwqIdeal.sig) → Buf (Elt Ideal) ℓ) (g' : Dev Cert.RefAttnDwqIdeal.nD → PrngReg), Pre_AttnDwqIdeal m →
    (∀ c : Dev Cert.AttnDwqIdeal.nD,
      m' ((c.tc : Thread Cert.RefAttnDwqIdeal.nD Cert.RefAttnDwqIdeal.τ).loc Cert.RefAttnDwqIdeal.main_arg0) = m ((c.tc : Thread Cert.AttnDwqIdeal.nD Cert.AttnDwqIdeal.τ).loc Cert.AttnDwqIdeal.main_arg0)
      ∧ m' ((c.tc : Thread Cert.RefAttnDwqIdeal.nD Cert.RefAttnDwqIdeal.τ).loc Cert.RefAttnDwqIdeal.main_arg1) = m ((c.tc : Thread Cert.AttnDwqIdeal.nD Cert.AttnDwqIdeal.τ).loc Cert.AttnDwqIdeal.main_arg1)) →
    ∃ (v0 : (c : Dev Cert.AttnDwqIdeal.nD) → Buf (Elt Ideal) ((c.tc : Thread Cert.AttnDwqIdeal.nD Cert.AttnDwqIdeal.τ).loc Cert.AttnDwqIdeal.main_v0)),
      θ_run (Cert.AttnDwqIdeal.defs (F := Ideal)) (onTc (τ := Cert.AttnDwqIdeal.τ) (Cert.AttnDwqIdeal.main (F := Ideal))) ⟨m, fun _ => 0, g⟩ (fun r => ∀ c : Dev Cert.AttnDwqIdeal.nD,
          r.2.mem ((c.tc : Thread Cert.AttnDwqIdeal.nD Cert.AttnDwqIdeal.τ).loc Cert.AttnDwqIdeal.main_v0) = v0 c
          ∧ r.2.mem ((c.tc : Thread Cert.AttnDwqIdeal.nD Cert.AttnDwqIdeal.τ).loc Cert.AttnDwqIdeal.main_arg0) = m ((c.tc : Thread Cert.AttnDwqIdeal.nD Cert.AttnDwqIdeal.τ).loc Cert.AttnDwqIdeal.main_arg0)
          ∧ r.2.mem ((c.tc : Thread Cert.AttnDwqIdeal.nD Cert.AttnDwqIdeal.τ).loc Cert.AttnDwqIdeal.main_arg1) = m ((c.tc : Thread Cert.AttnDwqIdeal.nD Cert.AttnDwqIdeal.τ).loc Cert.AttnDwqIdeal.main_arg1))
      ∧ θ_run (Cert.RefAttnDwqIdeal.defs (F := Ideal)) (onTc (τ := Cert.RefAttnDwqIdeal.τ) (Cert.RefAttnDwqIdeal.main (F := Ideal))) ⟨m', fun _ => 0, g'⟩ (fun r => ∀ c : Dev Cert.RefAttnDwqIdeal.nD,
          r.2.mem ((c.tc : Thread Cert.RefAttnDwqIdeal.nD Cert.RefAttnDwqIdeal.τ).loc Cert.RefAttnDwqIdeal.main_v5) = v0 c
          ∧ r.2.mem ((c.tc : Thread Cert.RefAttnDwqIdeal.nD Cert.RefAttnDwqIdeal.τ).loc Cert.RefAttnDwqIdeal.main_arg0) = m' ((c.tc : Thread Cert.RefAttnDwqIdeal.nD Cert.RefAttnDwqIdeal.τ).loc Cert.RefAttnDwqIdeal.main_arg0)
          ∧ r.2.mem ((c.tc : Thread Cert.RefAttnDwqIdeal.nD Cert.RefAttnDwqIdeal.τ).loc Cert.RefAttnDwqIdeal.main_arg1) = m' ((c.tc : Thread Cert.RefAttnDwqIdeal.nD Cert.RefAttnDwqIdeal.τ).loc Cert.RefAttnDwqIdeal.main_arg1))

def preserves_AttnDkvn_AttnDkvnIdeal : Prop :=
  True

def algebraic_AttnDkvnIdeal_RefAttnDkvnIdeal [hAttnDkvnIdeal : Cert.AttnDkvnIdeal.Facts] [hRefAttnDkvnIdeal : Cert.RefAttnDkvnIdeal.Facts] : Prop :=
  ∀ (m : (ℓ : Loc Cert.AttnDkvnIdeal.nD Cert.AttnDkvnIdeal.τ Cert.AttnDkvnIdeal.sig) → Buf (Elt Ideal) ℓ) (g : Dev Cert.AttnDkvnIdeal.nD → PrngReg)
    (m' : (ℓ : Loc Cert.RefAttnDkvnIdeal.nD Cert.RefAttnDkvnIdeal.τ Cert.RefAttnDkvnIdeal.sig) → Buf (Elt Ideal) ℓ) (g' : Dev Cert.RefAttnDkvnIdeal.nD → PrngReg), Pre_AttnDkvnIdeal m →
    (∀ c : Dev Cert.AttnDkvnIdeal.nD,
      m' ((c.tc : Thread Cert.RefAttnDkvnIdeal.nD Cert.RefAttnDkvnIdeal.τ).loc Cert.RefAttnDkvnIdeal.main_arg0) = m ((c.tc : Thread Cert.AttnDkvnIdeal.nD Cert.AttnDkvnIdeal.τ).loc Cert.AttnDkvnIdeal.main_arg0)
      ∧ m' ((c.tc : Thread Cert.RefAttnDkvnIdeal.nD Cert.RefAttnDkvnIdeal.τ).loc Cert.RefAttnDkvnIdeal.main_arg1) = m ((c.tc : Thread Cert.AttnDkvnIdeal.nD Cert.AttnDkvnIdeal.τ).loc Cert.AttnDkvnIdeal.main_arg1)
      ∧ m' ((c.tc : Thread Cert.RefAttnDkvnIdeal.nD Cert.RefAttnDkvnIdeal.τ).loc Cert.RefAttnDkvnIdeal.main_arg2) = m ((c.tc : Thread Cert.AttnDkvnIdeal.nD Cert.AttnDkvnIdeal.τ).loc Cert.AttnDkvnIdeal.main_arg2)
      ∧ m' ((c.tc : Thread Cert.RefAttnDkvnIdeal.nD Cert.RefAttnDkvnIdeal.τ).loc Cert.RefAttnDkvnIdeal.main_arg3) = m ((c.tc : Thread Cert.AttnDkvnIdeal.nD Cert.AttnDkvnIdeal.τ).loc Cert.AttnDkvnIdeal.main_arg3)) →
    ∃ (v0 : (c : Dev Cert.AttnDkvnIdeal.nD) → Buf (Elt Ideal) ((c.tc : Thread Cert.AttnDkvnIdeal.nD Cert.AttnDkvnIdeal.τ).loc Cert.AttnDkvnIdeal.main_v0)),
      θ_run (Cert.AttnDkvnIdeal.defs (F := Ideal)) (onTc (τ := Cert.AttnDkvnIdeal.τ) (Cert.AttnDkvnIdeal.main (F := Ideal))) ⟨m, fun _ => 0, g⟩ (fun r => ∀ c : Dev Cert.AttnDkvnIdeal.nD,
          r.2.mem ((c.tc : Thread Cert.AttnDkvnIdeal.nD Cert.AttnDkvnIdeal.τ).loc Cert.AttnDkvnIdeal.main_v0) = v0 c
          ∧ r.2.mem ((c.tc : Thread Cert.AttnDkvnIdeal.nD Cert.AttnDkvnIdeal.τ).loc Cert.AttnDkvnIdeal.main_arg0) = m ((c.tc : Thread Cert.AttnDkvnIdeal.nD Cert.AttnDkvnIdeal.τ).loc Cert.AttnDkvnIdeal.main_arg0)
          ∧ r.2.mem ((c.tc : Thread Cert.AttnDkvnIdeal.nD Cert.AttnDkvnIdeal.τ).loc Cert.AttnDkvnIdeal.main_arg1) = m ((c.tc : Thread Cert.AttnDkvnIdeal.nD Cert.AttnDkvnIdeal.τ).loc Cert.AttnDkvnIdeal.main_arg1)
          ∧ r.2.mem ((c.tc : Thread Cert.AttnDkvnIdeal.nD Cert.AttnDkvnIdeal.τ).loc Cert.AttnDkvnIdeal.main_arg2) = m ((c.tc : Thread Cert.AttnDkvnIdeal.nD Cert.AttnDkvnIdeal.τ).loc Cert.AttnDkvnIdeal.main_arg2)
          ∧ r.2.mem ((c.tc : Thread Cert.AttnDkvnIdeal.nD Cert.AttnDkvnIdeal.τ).loc Cert.AttnDkvnIdeal.main_arg3) = m ((c.tc : Thread Cert.AttnDkvnIdeal.nD Cert.AttnDkvnIdeal.τ).loc Cert.AttnDkvnIdeal.main_arg3))
      ∧ θ_run (Cert.RefAttnDkvnIdeal.defs (F := Ideal)) (onTc (τ := Cert.RefAttnDkvnIdeal.τ) (Cert.RefAttnDkvnIdeal.main (F := Ideal))) ⟨m', fun _ => 0, g'⟩ (fun r => ∀ c : Dev Cert.RefAttnDkvnIdeal.nD,
          r.2.mem ((c.tc : Thread Cert.RefAttnDkvnIdeal.nD Cert.RefAttnDkvnIdeal.τ).loc Cert.RefAttnDkvnIdeal.main_v11) = v0 c
          ∧ r.2.mem ((c.tc : Thread Cert.RefAttnDkvnIdeal.nD Cert.RefAttnDkvnIdeal.τ).loc Cert.RefAttnDkvnIdeal.main_arg0) = m' ((c.tc : Thread Cert.RefAttnDkvnIdeal.nD Cert.RefAttnDkvnIdeal.τ).loc Cert.RefAttnDkvnIdeal.main_arg0)
          ∧ r.2.mem ((c.tc : Thread Cert.RefAttnDkvnIdeal.nD Cert.RefAttnDkvnIdeal.τ).loc Cert.RefAttnDkvnIdeal.main_arg1) = m' ((c.tc : Thread Cert.RefAttnDkvnIdeal.nD Cert.RefAttnDkvnIdeal.τ).loc Cert.RefAttnDkvnIdeal.main_arg1)
          ∧ r.2.mem ((c.tc : Thread Cert.RefAttnDkvnIdeal.nD Cert.RefAttnDkvnIdeal.τ).loc Cert.RefAttnDkvnIdeal.main_arg2) = m' ((c.tc : Thread Cert.RefAttnDkvnIdeal.nD Cert.RefAttnDkvnIdeal.τ).loc Cert.RefAttnDkvnIdeal.main_arg2)
          ∧ r.2.mem ((c.tc : Thread Cert.RefAttnDkvnIdeal.nD Cert.RefAttnDkvnIdeal.τ).loc Cert.RefAttnDkvnIdeal.main_arg3) = m' ((c.tc : Thread Cert.RefAttnDkvnIdeal.nD Cert.RefAttnDkvnIdeal.τ).loc Cert.RefAttnDkvnIdeal.main_arg3))

def preserves_AttnDwk_AttnDwkIdeal : Prop :=
  True

def algebraic_AttnDwkIdeal_RefAttnDwkIdeal [hAttnDwkIdeal : Cert.AttnDwkIdeal.Facts] [hRefAttnDwkIdeal : Cert.RefAttnDwkIdeal.Facts] : Prop :=
  ∀ (m : (ℓ : Loc Cert.AttnDwkIdeal.nD Cert.AttnDwkIdeal.τ Cert.AttnDwkIdeal.sig) → Buf (Elt Ideal) ℓ) (g : Dev Cert.AttnDwkIdeal.nD → PrngReg)
    (m' : (ℓ : Loc Cert.RefAttnDwkIdeal.nD Cert.RefAttnDwkIdeal.τ Cert.RefAttnDwkIdeal.sig) → Buf (Elt Ideal) ℓ) (g' : Dev Cert.RefAttnDwkIdeal.nD → PrngReg), Pre_AttnDwkIdeal m →
    (∀ c : Dev Cert.AttnDwkIdeal.nD,
      m' ((c.tc : Thread Cert.RefAttnDwkIdeal.nD Cert.RefAttnDwkIdeal.τ).loc Cert.RefAttnDwkIdeal.main_arg0) = m ((c.tc : Thread Cert.AttnDwkIdeal.nD Cert.AttnDwkIdeal.τ).loc Cert.AttnDwkIdeal.main_arg0)
      ∧ m' ((c.tc : Thread Cert.RefAttnDwkIdeal.nD Cert.RefAttnDwkIdeal.τ).loc Cert.RefAttnDwkIdeal.main_arg1) = m ((c.tc : Thread Cert.AttnDwkIdeal.nD Cert.AttnDwkIdeal.τ).loc Cert.AttnDwkIdeal.main_arg1)) →
    ∃ (v0 : (c : Dev Cert.AttnDwkIdeal.nD) → Buf (Elt Ideal) ((c.tc : Thread Cert.AttnDwkIdeal.nD Cert.AttnDwkIdeal.τ).loc Cert.AttnDwkIdeal.main_v0)),
      θ_run (Cert.AttnDwkIdeal.defs (F := Ideal)) (onTc (τ := Cert.AttnDwkIdeal.τ) (Cert.AttnDwkIdeal.main (F := Ideal))) ⟨m, fun _ => 0, g⟩ (fun r => ∀ c : Dev Cert.AttnDwkIdeal.nD,
          r.2.mem ((c.tc : Thread Cert.AttnDwkIdeal.nD Cert.AttnDwkIdeal.τ).loc Cert.AttnDwkIdeal.main_v0) = v0 c
          ∧ r.2.mem ((c.tc : Thread Cert.AttnDwkIdeal.nD Cert.AttnDwkIdeal.τ).loc Cert.AttnDwkIdeal.main_arg0) = m ((c.tc : Thread Cert.AttnDwkIdeal.nD Cert.AttnDwkIdeal.τ).loc Cert.AttnDwkIdeal.main_arg0)
          ∧ r.2.mem ((c.tc : Thread Cert.AttnDwkIdeal.nD Cert.AttnDwkIdeal.τ).loc Cert.AttnDwkIdeal.main_arg1) = m ((c.tc : Thread Cert.AttnDwkIdeal.nD Cert.AttnDwkIdeal.τ).loc Cert.AttnDwkIdeal.main_arg1))
      ∧ θ_run (Cert.RefAttnDwkIdeal.defs (F := Ideal)) (onTc (τ := Cert.RefAttnDwkIdeal.τ) (Cert.RefAttnDwkIdeal.main (F := Ideal))) ⟨m', fun _ => 0, g'⟩ (fun r => ∀ c : Dev Cert.RefAttnDwkIdeal.nD,
          r.2.mem ((c.tc : Thread Cert.RefAttnDwkIdeal.nD Cert.RefAttnDwkIdeal.τ).loc Cert.RefAttnDwkIdeal.main_v6) = v0 c
          ∧ r.2.mem ((c.tc : Thread Cert.RefAttnDwkIdeal.nD Cert.RefAttnDwkIdeal.τ).loc Cert.RefAttnDwkIdeal.main_arg0) = m' ((c.tc : Thread Cert.RefAttnDwkIdeal.nD Cert.RefAttnDwkIdeal.τ).loc Cert.RefAttnDwkIdeal.main_arg0)
          ∧ r.2.mem ((c.tc : Thread Cert.RefAttnDwkIdeal.nD Cert.RefAttnDwkIdeal.τ).loc Cert.RefAttnDwkIdeal.main_arg1) = m' ((c.tc : Thread Cert.RefAttnDwkIdeal.nD Cert.RefAttnDwkIdeal.τ).loc Cert.RefAttnDwkIdeal.main_arg1))

def preserves_AdamGlu_AdamGluIdeal : Prop :=
  True

def algebraic_AdamGluIdeal_RefAdamGluIdeal [hAdamGluIdeal : Cert.AdamGluIdeal.Facts] [hRefAdamGluIdeal : Cert.RefAdamGluIdeal.Facts] : Prop :=
  ∀ (m : (ℓ : Loc Cert.AdamGluIdeal.nD Cert.AdamGluIdeal.τ Cert.AdamGluIdeal.sig) → Buf (Elt Ideal) ℓ) (g : Dev Cert.AdamGluIdeal.nD → PrngReg)
    (m' : (ℓ : Loc Cert.RefAdamGluIdeal.nD Cert.RefAdamGluIdeal.τ Cert.RefAdamGluIdeal.sig) → Buf (Elt Ideal) ℓ) (g' : Dev Cert.RefAdamGluIdeal.nD → PrngReg), Pre_AdamGluIdeal m →
    (∀ c : Dev Cert.AdamGluIdeal.nD,
      m' ((c.tc : Thread Cert.RefAdamGluIdeal.nD Cert.RefAdamGluIdeal.τ).loc Cert.RefAdamGluIdeal.main_arg0) = m ((c.tc : Thread Cert.AdamGluIdeal.nD Cert.AdamGluIdeal.τ).loc Cert.AdamGluIdeal.main_arg0)
      ∧ m' ((c.tc : Thread Cert.RefAdamGluIdeal.nD Cert.RefAdamGluIdeal.τ).loc Cert.RefAdamGluIdeal.main_arg1) = m ((c.tc : Thread Cert.AdamGluIdeal.nD Cert.AdamGluIdeal.τ).loc Cert.AdamGluIdeal.main_arg1)
      ∧ m' ((c.tc : Thread Cert.RefAdamGluIdeal.nD Cert.RefAdamGluIdeal.τ).loc Cert.RefAdamGluIdeal.main_arg2) = m ((c.tc : Thread Cert.AdamGluIdeal.nD Cert.AdamGluIdeal.τ).loc Cert.AdamGluIdeal.main_arg2)
      ∧ m' ((c.tc : Thread Cert.RefAdamGluIdeal.nD Cert.RefAdamGluIdeal.τ).loc Cert.RefAdamGluIdeal.main_arg3) = m ((c.tc : Thread Cert.AdamGluIdeal.nD Cert.AdamGluIdeal.τ).loc Cert.AdamGluIdeal.main_arg3)
      ∧ m' ((c.tc : Thread Cert.RefAdamGluIdeal.nD Cert.RefAdamGluIdeal.τ).loc Cert.RefAdamGluIdeal.main_arg4) = m ((c.tc : Thread Cert.AdamGluIdeal.nD Cert.AdamGluIdeal.τ).loc Cert.AdamGluIdeal.main_arg4)) →
    ∃ (v0 : (c : Dev Cert.AdamGluIdeal.nD) → Buf (Elt Ideal) ((c.tc : Thread Cert.AdamGluIdeal.nD Cert.AdamGluIdeal.τ).loc Cert.AdamGluIdeal.main_v0_0)) (v1 : (c : Dev Cert.AdamGluIdeal.nD) → Buf (Elt Ideal) ((c.tc : Thread Cert.AdamGluIdeal.nD Cert.AdamGluIdeal.τ).loc Cert.AdamGluIdeal.main_v0_1)) (v2 : (c : Dev Cert.AdamGluIdeal.nD) → Buf (Elt Ideal) ((c.tc : Thread Cert.AdamGluIdeal.nD Cert.AdamGluIdeal.τ).loc Cert.AdamGluIdeal.main_v0_2)) (v3 : (c : Dev Cert.AdamGluIdeal.nD) → Buf (Elt Ideal) ((c.tc : Thread Cert.AdamGluIdeal.nD Cert.AdamGluIdeal.τ).loc Cert.AdamGluIdeal.main_v0_3)),
      θ_run (Cert.AdamGluIdeal.defs (F := Ideal)) (onTc (τ := Cert.AdamGluIdeal.τ) (Cert.AdamGluIdeal.main (F := Ideal))) ⟨m, fun _ => 0, g⟩ (fun r => ∀ c : Dev Cert.AdamGluIdeal.nD,
          r.2.mem ((c.tc : Thread Cert.AdamGluIdeal.nD Cert.AdamGluIdeal.τ).loc Cert.AdamGluIdeal.main_v0_0) = v0 c
          ∧ r.2.mem ((c.tc : Thread Cert.AdamGluIdeal.nD Cert.AdamGluIdeal.τ).loc Cert.AdamGluIdeal.main_v0_1) = v1 c
          ∧ r.2.mem ((c.tc : Thread Cert.AdamGluIdeal.nD Cert.AdamGluIdeal.τ).loc Cert.AdamGluIdeal.main_v0_2) = v2 c
          ∧ r.2.mem ((c.tc : Thread Cert.AdamGluIdeal.nD Cert.AdamGluIdeal.τ).loc Cert.AdamGluIdeal.main_v0_3) = v3 c
          ∧ r.2.mem ((c.tc : Thread Cert.AdamGluIdeal.nD Cert.AdamGluIdeal.τ).loc Cert.AdamGluIdeal.main_arg0) = m ((c.tc : Thread Cert.AdamGluIdeal.nD Cert.AdamGluIdeal.τ).loc Cert.AdamGluIdeal.main_arg0)
          ∧ r.2.mem ((c.tc : Thread Cert.AdamGluIdeal.nD Cert.AdamGluIdeal.τ).loc Cert.AdamGluIdeal.main_arg1) = m ((c.tc : Thread Cert.AdamGluIdeal.nD Cert.AdamGluIdeal.τ).loc Cert.AdamGluIdeal.main_arg1)
          ∧ r.2.mem ((c.tc : Thread Cert.AdamGluIdeal.nD Cert.AdamGluIdeal.τ).loc Cert.AdamGluIdeal.main_arg2) = m ((c.tc : Thread Cert.AdamGluIdeal.nD Cert.AdamGluIdeal.τ).loc Cert.AdamGluIdeal.main_arg2)
          ∧ r.2.mem ((c.tc : Thread Cert.AdamGluIdeal.nD Cert.AdamGluIdeal.τ).loc Cert.AdamGluIdeal.main_arg3) = m ((c.tc : Thread Cert.AdamGluIdeal.nD Cert.AdamGluIdeal.τ).loc Cert.AdamGluIdeal.main_arg3)
          ∧ r.2.mem ((c.tc : Thread Cert.AdamGluIdeal.nD Cert.AdamGluIdeal.τ).loc Cert.AdamGluIdeal.main_arg4) = m ((c.tc : Thread Cert.AdamGluIdeal.nD Cert.AdamGluIdeal.τ).loc Cert.AdamGluIdeal.main_arg4))
      ∧ θ_run (Cert.RefAdamGluIdeal.defs (F := Ideal)) (onTc (τ := Cert.RefAdamGluIdeal.τ) (Cert.RefAdamGluIdeal.main (F := Ideal))) ⟨m', fun _ => 0, g'⟩ (fun r => ∀ c : Dev Cert.RefAdamGluIdeal.nD,
          r.2.mem ((c.tc : Thread Cert.RefAdamGluIdeal.nD Cert.RefAdamGluIdeal.τ).loc Cert.RefAdamGluIdeal.main_v2) = v0 c
          ∧ r.2.mem ((c.tc : Thread Cert.RefAdamGluIdeal.nD Cert.RefAdamGluIdeal.τ).loc Cert.RefAdamGluIdeal.main_v26) = v1 c
          ∧ r.2.mem ((c.tc : Thread Cert.RefAdamGluIdeal.nD Cert.RefAdamGluIdeal.τ).loc Cert.RefAdamGluIdeal.main_v7) = v2 c
          ∧ r.2.mem ((c.tc : Thread Cert.RefAdamGluIdeal.nD Cert.RefAdamGluIdeal.τ).loc Cert.RefAdamGluIdeal.main_v13) = v3 c
          ∧ r.2.mem ((c.tc : Thread Cert.RefAdamGluIdeal.nD Cert.RefAdamGluIdeal.τ).loc Cert.RefAdamGluIdeal.main_arg0) = m' ((c.tc : Thread Cert.RefAdamGluIdeal.nD Cert.RefAdamGluIdeal.τ).loc Cert.RefAdamGluIdeal.main_arg0)
          ∧ r.2.mem ((c.tc : Thread Cert.RefAdamGluIdeal.nD Cert.RefAdamGluIdeal.τ).loc Cert.RefAdamGluIdeal.main_arg1) = m' ((c.tc : Thread Cert.RefAdamGluIdeal.nD Cert.RefAdamGluIdeal.τ).loc Cert.RefAdamGluIdeal.main_arg1)
          ∧ r.2.mem ((c.tc : Thread Cert.RefAdamGluIdeal.nD Cert.RefAdamGluIdeal.τ).loc Cert.RefAdamGluIdeal.main_arg2) = m' ((c.tc : Thread Cert.RefAdamGluIdeal.nD Cert.RefAdamGluIdeal.τ).loc Cert.RefAdamGluIdeal.main_arg2)
          ∧ r.2.mem ((c.tc : Thread Cert.RefAdamGluIdeal.nD Cert.RefAdamGluIdeal.τ).loc Cert.RefAdamGluIdeal.main_arg3) = m' ((c.tc : Thread Cert.RefAdamGluIdeal.nD Cert.RefAdamGluIdeal.τ).loc Cert.RefAdamGluIdeal.main_arg3)
          ∧ r.2.mem ((c.tc : Thread Cert.RefAdamGluIdeal.nD Cert.RefAdamGluIdeal.τ).loc Cert.RefAdamGluIdeal.main_arg4) = m' ((c.tc : Thread Cert.RefAdamGluIdeal.nD Cert.RefAdamGluIdeal.τ).loc Cert.RefAdamGluIdeal.main_arg4))

def preserves_AdamQ_AdamQIdeal : Prop :=
  True

def algebraic_AdamQIdeal_RefAdamQIdeal [hAdamQIdeal : Cert.AdamQIdeal.Facts] [hRefAdamQIdeal : Cert.RefAdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.RefAdamQIdeal.nD Cert.RefAdamQIdeal.τ Cert.RefAdamQIdeal.sig) → Buf (Elt Ideal) ℓ) (g' : Dev Cert.RefAdamQIdeal.nD → PrngReg), Pre_AdamQIdeal m →
    (∀ c : Dev Cert.AdamQIdeal.nD,
      m' ((c.tc : Thread Cert.RefAdamQIdeal.nD Cert.RefAdamQIdeal.τ).loc Cert.RefAdamQIdeal.main_arg0) = m ((c.tc : Thread Cert.AdamQIdeal.nD Cert.AdamQIdeal.τ).loc Cert.AdamQIdeal.main_arg0)
      ∧ m' ((c.tc : Thread Cert.RefAdamQIdeal.nD Cert.RefAdamQIdeal.τ).loc Cert.RefAdamQIdeal.main_arg1) = m ((c.tc : Thread Cert.AdamQIdeal.nD Cert.AdamQIdeal.τ).loc Cert.AdamQIdeal.main_arg1)
      ∧ m' ((c.tc : Thread Cert.RefAdamQIdeal.nD Cert.RefAdamQIdeal.τ).loc Cert.RefAdamQIdeal.main_arg2) = m ((c.tc : Thread Cert.AdamQIdeal.nD Cert.AdamQIdeal.τ).loc Cert.AdamQIdeal.main_arg2)
      ∧ m' ((c.tc : Thread Cert.RefAdamQIdeal.nD Cert.RefAdamQIdeal.τ).loc Cert.RefAdamQIdeal.main_arg3) = m ((c.tc : Thread Cert.AdamQIdeal.nD Cert.AdamQIdeal.τ).loc Cert.AdamQIdeal.main_arg3)
      ∧ m' ((c.tc : Thread Cert.RefAdamQIdeal.nD Cert.RefAdamQIdeal.τ).loc Cert.RefAdamQIdeal.main_arg4) = m ((c.tc : Thread Cert.AdamQIdeal.nD Cert.AdamQIdeal.τ).loc Cert.AdamQIdeal.main_arg4)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)) (v3 : (c : Dev Cert.AdamQIdeal.nD) → Buf (Elt Ideal) ((c.tc : Thread Cert.AdamQIdeal.nD Cert.AdamQIdeal.τ).loc Cert.AdamQIdeal.main_v0_3)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_v0_3) = v3 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3)
          ∧ r.2.mem ((c.tc : Thread Cert.AdamQIdeal.nD Cert.AdamQIdeal.τ).loc Cert.AdamQIdeal.main_arg4) = m ((c.tc : Thread Cert.AdamQIdeal.nD Cert.AdamQIdeal.τ).loc Cert.AdamQIdeal.main_arg4))
      ∧ θ_run (Cert.RefAdamQIdeal.defs (F := Ideal)) (onTc (τ := Cert.RefAdamQIdeal.τ) (Cert.RefAdamQIdeal.main (F := Ideal))) ⟨m', fun _ => 0, g'⟩ (fun r => ∀ c : Dev Cert.RefAdamQIdeal.nD,
          r.2.mem ((c.tc : Thread Cert.RefAdamQIdeal.nD Cert.RefAdamQIdeal.τ).loc Cert.RefAdamQIdeal.main_v2) = v0 c
          ∧ r.2.mem ((c.tc : Thread Cert.RefAdamQIdeal.nD Cert.RefAdamQIdeal.τ).loc Cert.RefAdamQIdeal.main_v26) = v1 c
          ∧ r.2.mem ((c.tc : Thread Cert.RefAdamQIdeal.nD Cert.RefAdamQIdeal.τ).loc Cert.RefAdamQIdeal.main_v7) = v2 c
          ∧ r.2.mem ((c.tc : Thread Cert.RefAdamQIdeal.nD Cert.RefAdamQIdeal.τ).loc Cert.RefAdamQIdeal.main_v13) = v3 c
          ∧ r.2.mem ((c.tc : Thread Cert.RefAdamQIdeal.nD Cert.RefAdamQIdeal.τ).loc Cert.RefAdamQIdeal.main_arg0) = m' ((c.tc : Thread Cert.RefAdamQIdeal.nD Cert.RefAdamQIdeal.τ).loc Cert.RefAdamQIdeal.main_arg0)
          ∧ r.2.mem ((c.tc : Thread Cert.RefAdamQIdeal.nD Cert.RefAdamQIdeal.τ).loc Cert.RefAdamQIdeal.main_arg1) = m' ((c.tc : Thread Cert.RefAdamQIdeal.nD Cert.RefAdamQIdeal.τ).loc Cert.RefAdamQIdeal.main_arg1)
          ∧ r.2.mem ((c.tc : Thread Cert.RefAdamQIdeal.nD Cert.RefAdamQIdeal.τ).loc Cert.RefAdamQIdeal.main_arg2) = m' ((c.tc : Thread Cert.RefAdamQIdeal.nD Cert.RefAdamQIdeal.τ).loc Cert.RefAdamQIdeal.main_arg2)
          ∧ r.2.mem ((c.tc : Thread Cert.RefAdamQIdeal.nD Cert.RefAdamQIdeal.τ).loc Cert.RefAdamQIdeal.main_arg3) = m' ((c.tc : Thread Cert.RefAdamQIdeal.nD Cert.RefAdamQIdeal.τ).loc Cert.RefAdamQIdeal.main_arg3)
          ∧ r.2.mem ((c.tc : Thread Cert.RefAdamQIdeal.nD Cert.RefAdamQIdeal.τ).loc Cert.RefAdamQIdeal.main_arg4) = m' ((c.tc : Thread Cert.RefAdamQIdeal.nD Cert.RefAdamQIdeal.τ).loc Cert.RefAdamQIdeal.main_arg4))

def preserves_AdamFfnIn_AdamFfnInIdeal : Prop :=
  True

def algebraic_AdamFfnInIdeal_RefAdamFfnInIdeal [hAdamFfnInIdeal : Cert.AdamFfnInIdeal.Facts] [hRefAdamFfnInIdeal : Cert.RefAdamFfnInIdeal.Facts] : Prop :=
  ∀ (m : (ℓ : Loc Cert.AdamFfnInIdeal.nD Cert.AdamFfnInIdeal.τ Cert.AdamFfnInIdeal.sig) → Buf (Elt Ideal) ℓ) (g : Dev Cert.AdamFfnInIdeal.nD → PrngReg)
    (m' : (ℓ : Loc Cert.RefAdamFfnInIdeal.nD Cert.RefAdamFfnInIdeal.τ Cert.RefAdamFfnInIdeal.sig) → Buf (Elt Ideal) ℓ) (g' : Dev Cert.RefAdamFfnInIdeal.nD → PrngReg), Pre_AdamFfnInIdeal m →
    (∀ c : Dev Cert.AdamFfnInIdeal.nD,
      m' ((c.tc : Thread Cert.RefAdamFfnInIdeal.nD Cert.RefAdamFfnInIdeal.τ).loc Cert.RefAdamFfnInIdeal.main_arg0) = m ((c.tc : Thread Cert.AdamFfnInIdeal.nD Cert.AdamFfnInIdeal.τ).loc Cert.AdamFfnInIdeal.main_arg0)
      ∧ m' ((c.tc : Thread Cert.RefAdamFfnInIdeal.nD Cert.RefAdamFfnInIdeal.τ).loc Cert.RefAdamFfnInIdeal.main_arg1) = m ((c.tc : Thread Cert.AdamFfnInIdeal.nD Cert.AdamFfnInIdeal.τ).loc Cert.AdamFfnInIdeal.main_arg1)
      ∧ m' ((c.tc : Thread Cert.RefAdamFfnInIdeal.nD Cert.RefAdamFfnInIdeal.τ).loc Cert.RefAdamFfnInIdeal.main_arg2) = m ((c.tc : Thread Cert.AdamFfnInIdeal.nD Cert.AdamFfnInIdeal.τ).loc Cert.AdamFfnInIdeal.main_arg2)
      ∧ m' ((c.tc : Thread Cert.RefAdamFfnInIdeal.nD Cert.RefAdamFfnInIdeal.τ).loc Cert.RefAdamFfnInIdeal.main_arg3) = m ((c.tc : Thread Cert.AdamFfnInIdeal.nD Cert.AdamFfnInIdeal.τ).loc Cert.AdamFfnInIdeal.main_arg3)
      ∧ m' ((c.tc : Thread Cert.RefAdamFfnInIdeal.nD Cert.RefAdamFfnInIdeal.τ).loc Cert.RefAdamFfnInIdeal.main_arg4) = m ((c.tc : Thread Cert.AdamFfnInIdeal.nD Cert.AdamFfnInIdeal.τ).loc Cert.AdamFfnInIdeal.main_arg4)) →
    ∃ (v0 : (c : Dev Cert.AdamFfnInIdeal.nD) → Buf (Elt Ideal) ((c.tc : Thread Cert.AdamFfnInIdeal.nD Cert.AdamFfnInIdeal.τ).loc Cert.AdamFfnInIdeal.main_v0_0)) (v1 : (c : Dev Cert.AdamFfnInIdeal.nD) → Buf (Elt Ideal) ((c.tc : Thread Cert.AdamFfnInIdeal.nD Cert.AdamFfnInIdeal.τ).loc Cert.AdamFfnInIdeal.main_v0_1)) (v2 : (c : Dev Cert.AdamFfnInIdeal.nD) → Buf (Elt Ideal) ((c.tc : Thread Cert.AdamFfnInIdeal.nD Cert.AdamFfnInIdeal.τ).loc Cert.AdamFfnInIdeal.main_v0_2)) (v3 : (c : Dev Cert.AdamFfnInIdeal.nD) → Buf (Elt Ideal) ((c.tc : Thread Cert.AdamFfnInIdeal.nD Cert.AdamFfnInIdeal.τ).loc Cert.AdamFfnInIdeal.main_v0_3)),
      θ_run (Cert.AdamFfnInIdeal.defs (F := Ideal)) (onTc (τ := Cert.AdamFfnInIdeal.τ) (Cert.AdamFfnInIdeal.main (F := Ideal))) ⟨m, fun _ => 0, g⟩ (fun r => ∀ c : Dev Cert.AdamFfnInIdeal.nD,
          r.2.mem ((c.tc : Thread Cert.AdamFfnInIdeal.nD Cert.AdamFfnInIdeal.τ).loc Cert.AdamFfnInIdeal.main_v0_0) = v0 c
          ∧ r.2.mem ((c.tc : Thread Cert.AdamFfnInIdeal.nD Cert.AdamFfnInIdeal.τ).loc Cert.AdamFfnInIdeal.main_v0_1) = v1 c
          ∧ r.2.mem ((c.tc : Thread Cert.AdamFfnInIdeal.nD Cert.AdamFfnInIdeal.τ).loc Cert.AdamFfnInIdeal.main_v0_2) = v2 c
          ∧ r.2.mem ((c.tc : Thread Cert.AdamFfnInIdeal.nD Cert.AdamFfnInIdeal.τ).loc Cert.AdamFfnInIdeal.main_v0_3) = v3 c
          ∧ r.2.mem ((c.tc : Thread Cert.AdamFfnInIdeal.nD Cert.AdamFfnInIdeal.τ).loc Cert.AdamFfnInIdeal.main_arg0) = m ((c.tc : Thread Cert.AdamFfnInIdeal.nD Cert.AdamFfnInIdeal.τ).loc Cert.AdamFfnInIdeal.main_arg0)
          ∧ r.2.mem ((c.tc : Thread Cert.AdamFfnInIdeal.nD Cert.AdamFfnInIdeal.τ).loc Cert.AdamFfnInIdeal.main_arg1) = m ((c.tc : Thread Cert.AdamFfnInIdeal.nD Cert.AdamFfnInIdeal.τ).loc Cert.AdamFfnInIdeal.main_arg1)
          ∧ r.2.mem ((c.tc : Thread Cert.AdamFfnInIdeal.nD Cert.AdamFfnInIdeal.τ).loc Cert.AdamFfnInIdeal.main_arg2) = m ((c.tc : Thread Cert.AdamFfnInIdeal.nD Cert.AdamFfnInIdeal.τ).loc Cert.AdamFfnInIdeal.main_arg2)
          ∧ r.2.mem ((c.tc : Thread Cert.AdamFfnInIdeal.nD Cert.AdamFfnInIdeal.τ).loc Cert.AdamFfnInIdeal.main_arg3) = m ((c.tc : Thread Cert.AdamFfnInIdeal.nD Cert.AdamFfnInIdeal.τ).loc Cert.AdamFfnInIdeal.main_arg3)
          ∧ r.2.mem ((c.tc : Thread Cert.AdamFfnInIdeal.nD Cert.AdamFfnInIdeal.τ).loc Cert.AdamFfnInIdeal.main_arg4) = m ((c.tc : Thread Cert.AdamFfnInIdeal.nD Cert.AdamFfnInIdeal.τ).loc Cert.AdamFfnInIdeal.main_arg4))
      ∧ θ_run (Cert.RefAdamFfnInIdeal.defs (F := Ideal)) (onTc (τ := Cert.RefAdamFfnInIdeal.τ) (Cert.RefAdamFfnInIdeal.main (F := Ideal))) ⟨m', fun _ => 0, g'⟩ (fun r => ∀ c : Dev Cert.RefAdamFfnInIdeal.nD,
          r.2.mem ((c.tc : Thread Cert.RefAdamFfnInIdeal.nD Cert.RefAdamFfnInIdeal.τ).loc Cert.RefAdamFfnInIdeal.main_v2) = v0 c
          ∧ r.2.mem ((c.tc : Thread Cert.RefAdamFfnInIdeal.nD Cert.RefAdamFfnInIdeal.τ).loc Cert.RefAdamFfnInIdeal.main_v26) = v1 c
          ∧ r.2.mem ((c.tc : Thread Cert.RefAdamFfnInIdeal.nD Cert.RefAdamFfnInIdeal.τ).loc Cert.RefAdamFfnInIdeal.main_v7) = v2 c
          ∧ r.2.mem ((c.tc : Thread Cert.RefAdamFfnInIdeal.nD Cert.RefAdamFfnInIdeal.τ).loc Cert.RefAdamFfnInIdeal.main_v13) = v3 c
          ∧ r.2.mem ((c.tc : Thread Cert.RefAdamFfnInIdeal.nD Cert.RefAdamFfnInIdeal.τ).loc Cert.RefAdamFfnInIdeal.main_arg0) = m' ((c.tc : Thread Cert.RefAdamFfnInIdeal.nD Cert.RefAdamFfnInIdeal.τ).loc Cert.RefAdamFfnInIdeal.main_arg0)
          ∧ r.2.mem ((c.tc : Thread Cert.RefAdamFfnInIdeal.nD Cert.RefAdamFfnInIdeal.τ).loc Cert.RefAdamFfnInIdeal.main_arg1) = m' ((c.tc : Thread Cert.RefAdamFfnInIdeal.nD Cert.RefAdamFfnInIdeal.τ).loc Cert.RefAdamFfnInIdeal.main_arg1)
          ∧ r.2.mem ((c.tc : Thread Cert.RefAdamFfnInIdeal.nD Cert.RefAdamFfnInIdeal.τ).loc Cert.RefAdamFfnInIdeal.main_arg2) = m' ((c.tc : Thread Cert.RefAdamFfnInIdeal.nD Cert.RefAdamFfnInIdeal.τ).loc Cert.RefAdamFfnInIdeal.main_arg2)
          ∧ r.2.mem ((c.tc : Thread Cert.RefAdamFfnInIdeal.nD Cert.RefAdamFfnInIdeal.τ).loc Cert.RefAdamFfnInIdeal.main_arg3) = m' ((c.tc : Thread Cert.RefAdamFfnInIdeal.nD Cert.RefAdamFfnInIdeal.τ).loc Cert.RefAdamFfnInIdeal.main_arg3)
          ∧ r.2.mem ((c.tc : Thread Cert.RefAdamFfnInIdeal.nD Cert.RefAdamFfnInIdeal.τ).loc Cert.RefAdamFfnInIdeal.main_arg4) = m' ((c.tc : Thread Cert.RefAdamFfnInIdeal.nD Cert.RefAdamFfnInIdeal.τ).loc Cert.RefAdamFfnInIdeal.main_arg4))

def preserves_AdamFfnOut_AdamFfnOutIdeal : Prop :=
  True

def algebraic_AdamFfnOutIdeal_RefAdamFfnOutIdeal [hAdamFfnOutIdeal : Cert.AdamFfnOutIdeal.Facts] [hRefAdamFfnOutIdeal : Cert.RefAdamFfnOutIdeal.Facts] : Prop :=
  ∀ (m : (ℓ : Loc Cert.AdamFfnOutIdeal.nD Cert.AdamFfnOutIdeal.τ Cert.AdamFfnOutIdeal.sig) → Buf (Elt Ideal) ℓ) (g : Dev Cert.AdamFfnOutIdeal.nD → PrngReg)
    (m' : (ℓ : Loc Cert.RefAdamFfnOutIdeal.nD Cert.RefAdamFfnOutIdeal.τ Cert.RefAdamFfnOutIdeal.sig) → Buf (Elt Ideal) ℓ) (g' : Dev Cert.RefAdamFfnOutIdeal.nD → PrngReg), Pre_AdamFfnOutIdeal m →
    (∀ c : Dev Cert.AdamFfnOutIdeal.nD,
      m' ((c.tc : Thread Cert.RefAdamFfnOutIdeal.nD Cert.RefAdamFfnOutIdeal.τ).loc Cert.RefAdamFfnOutIdeal.main_arg0) = m ((c.tc : Thread Cert.AdamFfnOutIdeal.nD Cert.AdamFfnOutIdeal.τ).loc Cert.AdamFfnOutIdeal.main_arg0)
      ∧ m' ((c.tc : Thread Cert.RefAdamFfnOutIdeal.nD Cert.RefAdamFfnOutIdeal.τ).loc Cert.RefAdamFfnOutIdeal.main_arg1) = m ((c.tc : Thread Cert.AdamFfnOutIdeal.nD Cert.AdamFfnOutIdeal.τ).loc Cert.AdamFfnOutIdeal.main_arg1)
      ∧ m' ((c.tc : Thread Cert.RefAdamFfnOutIdeal.nD Cert.RefAdamFfnOutIdeal.τ).loc Cert.RefAdamFfnOutIdeal.main_arg2) = m ((c.tc : Thread Cert.AdamFfnOutIdeal.nD Cert.AdamFfnOutIdeal.τ).loc Cert.AdamFfnOutIdeal.main_arg2)
      ∧ m' ((c.tc : Thread Cert.RefAdamFfnOutIdeal.nD Cert.RefAdamFfnOutIdeal.τ).loc Cert.RefAdamFfnOutIdeal.main_arg3) = m ((c.tc : Thread Cert.AdamFfnOutIdeal.nD Cert.AdamFfnOutIdeal.τ).loc Cert.AdamFfnOutIdeal.main_arg3)
      ∧ m' ((c.tc : Thread Cert.RefAdamFfnOutIdeal.nD Cert.RefAdamFfnOutIdeal.τ).loc Cert.RefAdamFfnOutIdeal.main_arg4) = m ((c.tc : Thread Cert.AdamFfnOutIdeal.nD Cert.AdamFfnOutIdeal.τ).loc Cert.AdamFfnOutIdeal.main_arg4)) →
    ∃ (v0 : (c : Dev Cert.AdamFfnOutIdeal.nD) → Buf (Elt Ideal) ((c.tc : Thread Cert.AdamFfnOutIdeal.nD Cert.AdamFfnOutIdeal.τ).loc Cert.AdamFfnOutIdeal.main_v0_0)) (v1 : (c : Dev Cert.AdamFfnOutIdeal.nD) → Buf (Elt Ideal) ((c.tc : Thread Cert.AdamFfnOutIdeal.nD Cert.AdamFfnOutIdeal.τ).loc Cert.AdamFfnOutIdeal.main_v0_1)) (v2 : (c : Dev Cert.AdamFfnOutIdeal.nD) → Buf (Elt Ideal) ((c.tc : Thread Cert.AdamFfnOutIdeal.nD Cert.AdamFfnOutIdeal.τ).loc Cert.AdamFfnOutIdeal.main_v0_2)) (v3 : (c : Dev Cert.AdamFfnOutIdeal.nD) → Buf (Elt Ideal) ((c.tc : Thread Cert.AdamFfnOutIdeal.nD Cert.AdamFfnOutIdeal.τ).loc Cert.AdamFfnOutIdeal.main_v0_3)),
      θ_run (Cert.AdamFfnOutIdeal.defs (F := Ideal)) (onTc (τ := Cert.AdamFfnOutIdeal.τ) (Cert.AdamFfnOutIdeal.main (F := Ideal))) ⟨m, fun _ => 0, g⟩ (fun r => ∀ c : Dev Cert.AdamFfnOutIdeal.nD,
          r.2.mem ((c.tc : Thread Cert.AdamFfnOutIdeal.nD Cert.AdamFfnOutIdeal.τ).loc Cert.AdamFfnOutIdeal.main_v0_0) = v0 c
          ∧ r.2.mem ((c.tc : Thread Cert.AdamFfnOutIdeal.nD Cert.AdamFfnOutIdeal.τ).loc Cert.AdamFfnOutIdeal.main_v0_1) = v1 c
          ∧ r.2.mem ((c.tc : Thread Cert.AdamFfnOutIdeal.nD Cert.AdamFfnOutIdeal.τ).loc Cert.AdamFfnOutIdeal.main_v0_2) = v2 c
          ∧ r.2.mem ((c.tc : Thread Cert.AdamFfnOutIdeal.nD Cert.AdamFfnOutIdeal.τ).loc Cert.AdamFfnOutIdeal.main_v0_3) = v3 c
          ∧ r.2.mem ((c.tc : Thread Cert.AdamFfnOutIdeal.nD Cert.AdamFfnOutIdeal.τ).loc Cert.AdamFfnOutIdeal.main_arg0) = m ((c.tc : Thread Cert.AdamFfnOutIdeal.nD Cert.AdamFfnOutIdeal.τ).loc Cert.AdamFfnOutIdeal.main_arg0)
          ∧ r.2.mem ((c.tc : Thread Cert.AdamFfnOutIdeal.nD Cert.AdamFfnOutIdeal.τ).loc Cert.AdamFfnOutIdeal.main_arg1) = m ((c.tc : Thread Cert.AdamFfnOutIdeal.nD Cert.AdamFfnOutIdeal.τ).loc Cert.AdamFfnOutIdeal.main_arg1)
          ∧ r.2.mem ((c.tc : Thread Cert.AdamFfnOutIdeal.nD Cert.AdamFfnOutIdeal.τ).loc Cert.AdamFfnOutIdeal.main_arg2) = m ((c.tc : Thread Cert.AdamFfnOutIdeal.nD Cert.AdamFfnOutIdeal.τ).loc Cert.AdamFfnOutIdeal.main_arg2)
          ∧ r.2.mem ((c.tc : Thread Cert.AdamFfnOutIdeal.nD Cert.AdamFfnOutIdeal.τ).loc Cert.AdamFfnOutIdeal.main_arg3) = m ((c.tc : Thread Cert.AdamFfnOutIdeal.nD Cert.AdamFfnOutIdeal.τ).loc Cert.AdamFfnOutIdeal.main_arg3)
          ∧ r.2.mem ((c.tc : Thread Cert.AdamFfnOutIdeal.nD Cert.AdamFfnOutIdeal.τ).loc Cert.AdamFfnOutIdeal.main_arg4) = m ((c.tc : Thread Cert.AdamFfnOutIdeal.nD Cert.AdamFfnOutIdeal.τ).loc Cert.AdamFfnOutIdeal.main_arg4))
      ∧ θ_run (Cert.RefAdamFfnOutIdeal.defs (F := Ideal)) (onTc (τ := Cert.RefAdamFfnOutIdeal.τ) (Cert.RefAdamFfnOutIdeal.main (F := Ideal))) ⟨m', fun _ => 0, g'⟩ (fun r => ∀ c : Dev Cert.RefAdamFfnOutIdeal.nD,
          r.2.mem ((c.tc : Thread Cert.RefAdamFfnOutIdeal.nD Cert.RefAdamFfnOutIdeal.τ).loc Cert.RefAdamFfnOutIdeal.main_v2) = v0 c
          ∧ r.2.mem ((c.tc : Thread Cert.RefAdamFfnOutIdeal.nD Cert.RefAdamFfnOutIdeal.τ).loc Cert.RefAdamFfnOutIdeal.main_v26) = v1 c
          ∧ r.2.mem ((c.tc : Thread Cert.RefAdamFfnOutIdeal.nD Cert.RefAdamFfnOutIdeal.τ).loc Cert.RefAdamFfnOutIdeal.main_v7) = v2 c
          ∧ r.2.mem ((c.tc : Thread Cert.RefAdamFfnOutIdeal.nD Cert.RefAdamFfnOutIdeal.τ).loc Cert.RefAdamFfnOutIdeal.main_v13) = v3 c
          ∧ r.2.mem ((c.tc : Thread Cert.RefAdamFfnOutIdeal.nD Cert.RefAdamFfnOutIdeal.τ).loc Cert.RefAdamFfnOutIdeal.main_arg0) = m' ((c.tc : Thread Cert.RefAdamFfnOutIdeal.nD Cert.RefAdamFfnOutIdeal.τ).loc Cert.RefAdamFfnOutIdeal.main_arg0)
          ∧ r.2.mem ((c.tc : Thread Cert.RefAdamFfnOutIdeal.nD Cert.RefAdamFfnOutIdeal.τ).loc Cert.RefAdamFfnOutIdeal.main_arg1) = m' ((c.tc : Thread Cert.RefAdamFfnOutIdeal.nD Cert.RefAdamFfnOutIdeal.τ).loc Cert.RefAdamFfnOutIdeal.main_arg1)
          ∧ r.2.mem ((c.tc : Thread Cert.RefAdamFfnOutIdeal.nD Cert.RefAdamFfnOutIdeal.τ).loc Cert.RefAdamFfnOutIdeal.main_arg2) = m' ((c.tc : Thread Cert.RefAdamFfnOutIdeal.nD Cert.RefAdamFfnOutIdeal.τ).loc Cert.RefAdamFfnOutIdeal.main_arg2)
          ∧ r.2.mem ((c.tc : Thread Cert.RefAdamFfnOutIdeal.nD Cert.RefAdamFfnOutIdeal.τ).loc Cert.RefAdamFfnOutIdeal.main_arg3) = m' ((c.tc : Thread Cert.RefAdamFfnOutIdeal.nD Cert.RefAdamFfnOutIdeal.τ).loc Cert.RefAdamFfnOutIdeal.main_arg3)
          ∧ r.2.mem ((c.tc : Thread Cert.RefAdamFfnOutIdeal.nD Cert.RefAdamFfnOutIdeal.τ).loc Cert.RefAdamFfnOutIdeal.main_arg4) = m' ((c.tc : Thread Cert.RefAdamFfnOutIdeal.nD Cert.RefAdamFfnOutIdeal.τ).loc Cert.RefAdamFfnOutIdeal.main_arg4))

def preserves_AdamSmall_AdamSmallIdeal : Prop :=
  True

def algebraic_AdamSmallIdeal_RefAdamSmallIdeal [hAdamSmallIdeal : Cert.AdamSmallIdeal.Facts] [hRefAdamSmallIdeal : Cert.RefAdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.RefAdamSmallIdeal.nD Cert.RefAdamSmallIdeal.τ Cert.RefAdamSmallIdeal.sig) → Buf (Elt Ideal) ℓ) (g' : Dev Cert.RefAdamSmallIdeal.nD → PrngReg), Pre_AdamSmallIdeal m →
    (∀ c : Dev Cert.AdamSmallIdeal.nD,
      m' ((c.tc : Thread Cert.RefAdamSmallIdeal.nD Cert.RefAdamSmallIdeal.τ).loc Cert.RefAdamSmallIdeal.main_arg0) = m ((c.tc : Thread Cert.AdamSmallIdeal.nD Cert.AdamSmallIdeal.τ).loc Cert.AdamSmallIdeal.main_arg0)
      ∧ m' ((c.tc : Thread Cert.RefAdamSmallIdeal.nD Cert.RefAdamSmallIdeal.τ).loc Cert.RefAdamSmallIdeal.main_arg1) = m ((c.tc : Thread Cert.AdamSmallIdeal.nD Cert.AdamSmallIdeal.τ).loc Cert.AdamSmallIdeal.main_arg1)
      ∧ m' ((c.tc : Thread Cert.RefAdamSmallIdeal.nD Cert.RefAdamSmallIdeal.τ).loc Cert.RefAdamSmallIdeal.main_arg2) = m ((c.tc : Thread Cert.AdamSmallIdeal.nD Cert.AdamSmallIdeal.τ).loc Cert.AdamSmallIdeal.main_arg2)
      ∧ m' ((c.tc : Thread Cert.RefAdamSmallIdeal.nD Cert.RefAdamSmallIdeal.τ).loc Cert.RefAdamSmallIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.RefAdamSmallIdeal.defs (F := Ideal)) (onTc (τ := Cert.RefAdamSmallIdeal.τ) (Cert.RefAdamSmallIdeal.main (F := Ideal))) ⟨m', fun _ => 0, g'⟩ (fun r => ∀ c : Dev Cert.RefAdamSmallIdeal.nD,
          r.2.mem ((c.tc : Thread Cert.RefAdamSmallIdeal.nD Cert.RefAdamSmallIdeal.τ).loc Cert.RefAdamSmallIdeal.main_v0) = v0 c
          ∧ r.2.mem ((c.tc : Thread Cert.RefAdamSmallIdeal.nD Cert.RefAdamSmallIdeal.τ).loc Cert.RefAdamSmallIdeal.main_v24) = v1 c
          ∧ r.2.mem ((c.tc : Thread Cert.RefAdamSmallIdeal.nD Cert.RefAdamSmallIdeal.τ).loc Cert.RefAdamSmallIdeal.main_v5) = v2 c
          ∧ r.2.mem ((c.tc : Thread Cert.RefAdamSmallIdeal.nD Cert.RefAdamSmallIdeal.τ).loc Cert.RefAdamSmallIdeal.main_v11) = v3 c
          ∧ r.2.mem ((c.tc : Thread Cert.RefAdamSmallIdeal.nD Cert.RefAdamSmallIdeal.τ).loc Cert.RefAdamSmallIdeal.main_arg0) = m' ((c.tc : Thread Cert.RefAdamSmallIdeal.nD Cert.RefAdamSmallIdeal.τ).loc Cert.RefAdamSmallIdeal.main_arg0)
          ∧ r.2.mem ((c.tc : Thread Cert.RefAdamSmallIdeal.nD Cert.RefAdamSmallIdeal.τ).loc Cert.RefAdamSmallIdeal.main_arg1) = m' ((c.tc : Thread Cert.RefAdamSmallIdeal.nD Cert.RefAdamSmallIdeal.τ).loc Cert.RefAdamSmallIdeal.main_arg1)
          ∧ r.2.mem ((c.tc : Thread Cert.RefAdamSmallIdeal.nD Cert.RefAdamSmallIdeal.τ).loc Cert.RefAdamSmallIdeal.main_arg2) = m' ((c.tc : Thread Cert.RefAdamSmallIdeal.nD Cert.RefAdamSmallIdeal.τ).loc Cert.RefAdamSmallIdeal.main_arg2)
          ∧ r.2.mem ((c.tc : Thread Cert.RefAdamSmallIdeal.nD Cert.RefAdamSmallIdeal.τ).loc Cert.RefAdamSmallIdeal.main_arg3) = m' ((c.tc : Thread Cert.RefAdamSmallIdeal.nD Cert.RefAdamSmallIdeal.τ).loc Cert.RefAdamSmallIdeal.main_arg3))

def preserves_AdamCols_AdamColsIdeal : Prop :=
  True

def algebraic_AdamColsIdeal_RefAdamColsIdeal [hAdamColsIdeal : Cert.AdamColsIdeal.Facts] [hRefAdamColsIdeal : Cert.RefAdamColsIdeal.Facts] : Prop :=
  ∀ (m : (ℓ : Loc Cert.AdamColsIdeal.nD Cert.AdamColsIdeal.τ Cert.AdamColsIdeal.sig) → Buf (Elt Ideal) ℓ) (g : Dev Cert.AdamColsIdeal.nD → PrngReg)
    (m' : (ℓ : Loc Cert.RefAdamColsIdeal.nD Cert.RefAdamColsIdeal.τ Cert.RefAdamColsIdeal.sig) → Buf (Elt Ideal) ℓ) (g' : Dev Cert.RefAdamColsIdeal.nD → PrngReg), Pre_AdamColsIdeal m →
    (∀ c : Dev Cert.AdamColsIdeal.nD,
      m' ((c.tc : Thread Cert.RefAdamColsIdeal.nD Cert.RefAdamColsIdeal.τ).loc Cert.RefAdamColsIdeal.main_arg0) = m ((c.tc : Thread Cert.AdamColsIdeal.nD Cert.AdamColsIdeal.τ).loc Cert.AdamColsIdeal.main_arg0)
      ∧ m' ((c.tc : Thread Cert.RefAdamColsIdeal.nD Cert.RefAdamColsIdeal.τ).loc Cert.RefAdamColsIdeal.main_arg1) = m ((c.tc : Thread Cert.AdamColsIdeal.nD Cert.AdamColsIdeal.τ).loc Cert.AdamColsIdeal.main_arg1)
      ∧ m' ((c.tc : Thread Cert.RefAdamColsIdeal.nD Cert.RefAdamColsIdeal.τ).loc Cert.RefAdamColsIdeal.main_arg2) = m ((c.tc : Thread Cert.AdamColsIdeal.nD Cert.AdamColsIdeal.τ).loc Cert.AdamColsIdeal.main_arg2)
      ∧ m' ((c.tc : Thread Cert.RefAdamColsIdeal.nD Cert.RefAdamColsIdeal.τ).loc Cert.RefAdamColsIdeal.main_arg3) = m ((c.tc : Thread Cert.AdamColsIdeal.nD Cert.AdamColsIdeal.τ).loc Cert.AdamColsIdeal.main_arg3)) →
    ∃ (v0 : (c : Dev Cert.AdamColsIdeal.nD) → Buf (Elt Ideal) ((c.tc : Thread Cert.AdamColsIdeal.nD Cert.AdamColsIdeal.τ).loc Cert.AdamColsIdeal.main_v0_0)) (v1 : (c : Dev Cert.AdamColsIdeal.nD) → Buf (Elt Ideal) ((c.tc : Thread Cert.AdamColsIdeal.nD Cert.AdamColsIdeal.τ).loc Cert.AdamColsIdeal.main_v0_1)) (v2 : (c : Dev Cert.AdamColsIdeal.nD) → Buf (Elt Ideal) ((c.tc : Thread Cert.AdamColsIdeal.nD Cert.AdamColsIdeal.τ).loc Cert.AdamColsIdeal.main_v0_2)),
      θ_run (Cert.AdamColsIdeal.defs (F := Ideal)) (onTc (τ := Cert.AdamColsIdeal.τ) (Cert.AdamColsIdeal.main (F := Ideal))) ⟨m, fun _ => 0, g⟩ (fun r => ∀ c : Dev Cert.AdamColsIdeal.nD,
          r.2.mem ((c.tc : Thread Cert.AdamColsIdeal.nD Cert.AdamColsIdeal.τ).loc Cert.AdamColsIdeal.main_v0_0) = v0 c
          ∧ r.2.mem ((c.tc : Thread Cert.AdamColsIdeal.nD Cert.AdamColsIdeal.τ).loc Cert.AdamColsIdeal.main_v0_1) = v1 c
          ∧ r.2.mem ((c.tc : Thread Cert.AdamColsIdeal.nD Cert.AdamColsIdeal.τ).loc Cert.AdamColsIdeal.main_v0_2) = v2 c
          ∧ r.2.mem ((c.tc : Thread Cert.AdamColsIdeal.nD Cert.AdamColsIdeal.τ).loc Cert.AdamColsIdeal.main_arg0) = m ((c.tc : Thread Cert.AdamColsIdeal.nD Cert.AdamColsIdeal.τ).loc Cert.AdamColsIdeal.main_arg0)
          ∧ r.2.mem ((c.tc : Thread Cert.AdamColsIdeal.nD Cert.AdamColsIdeal.τ).loc Cert.AdamColsIdeal.main_arg1) = m ((c.tc : Thread Cert.AdamColsIdeal.nD Cert.AdamColsIdeal.τ).loc Cert.AdamColsIdeal.main_arg1)
          ∧ r.2.mem ((c.tc : Thread Cert.AdamColsIdeal.nD Cert.AdamColsIdeal.τ).loc Cert.AdamColsIdeal.main_arg2) = m ((c.tc : Thread Cert.AdamColsIdeal.nD Cert.AdamColsIdeal.τ).loc Cert.AdamColsIdeal.main_arg2)
          ∧ r.2.mem ((c.tc : Thread Cert.AdamColsIdeal.nD Cert.AdamColsIdeal.τ).loc Cert.AdamColsIdeal.main_arg3) = m ((c.tc : Thread Cert.AdamColsIdeal.nD Cert.AdamColsIdeal.τ).loc Cert.AdamColsIdeal.main_arg3))
      ∧ θ_run (Cert.RefAdamColsIdeal.defs (F := Ideal)) (onTc (τ := Cert.RefAdamColsIdeal.τ) (Cert.RefAdamColsIdeal.main (F := Ideal))) ⟨m', fun _ => 0, g'⟩ (fun r => ∀ c : Dev Cert.RefAdamColsIdeal.nD,
          r.2.mem ((c.tc : Thread Cert.RefAdamColsIdeal.nD Cert.RefAdamColsIdeal.τ).loc Cert.RefAdamColsIdeal.main_v23) = v0 c
          ∧ r.2.mem ((c.tc : Thread Cert.RefAdamColsIdeal.nD Cert.RefAdamColsIdeal.τ).loc Cert.RefAdamColsIdeal.main_v4) = v1 c
          ∧ r.2.mem ((c.tc : Thread Cert.RefAdamColsIdeal.nD Cert.RefAdamColsIdeal.τ).loc Cert.RefAdamColsIdeal.main_v10) = v2 c
          ∧ r.2.mem ((c.tc : Thread Cert.RefAdamColsIdeal.nD Cert.RefAdamColsIdeal.τ).loc Cert.RefAdamColsIdeal.main_arg0) = m' ((c.tc : Thread Cert.RefAdamColsIdeal.nD Cert.RefAdamColsIdeal.τ).loc Cert.RefAdamColsIdeal.main_arg0)
          ∧ r.2.mem ((c.tc : Thread Cert.RefAdamColsIdeal.nD Cert.RefAdamColsIdeal.τ).loc Cert.RefAdamColsIdeal.main_arg1) = m' ((c.tc : Thread Cert.RefAdamColsIdeal.nD Cert.RefAdamColsIdeal.τ).loc Cert.RefAdamColsIdeal.main_arg1)
          ∧ r.2.mem ((c.tc : Thread Cert.RefAdamColsIdeal.nD Cert.RefAdamColsIdeal.τ).loc Cert.RefAdamColsIdeal.main_arg2) = m' ((c.tc : Thread Cert.RefAdamColsIdeal.nD Cert.RefAdamColsIdeal.τ).loc Cert.RefAdamColsIdeal.main_arg2)
          ∧ r.2.mem ((c.tc : Thread Cert.RefAdamColsIdeal.nD Cert.RefAdamColsIdeal.τ).loc Cert.RefAdamColsIdeal.main_arg3) = m' ((c.tc : Thread Cert.RefAdamColsIdeal.nD Cert.RefAdamColsIdeal.τ).loc Cert.RefAdamColsIdeal.main_arg3))

def preserves_Norm_NormIdeal : Prop :=
  True

def algebraic_NormIdeal_RefNormIdeal [hNormIdeal : Cert.NormIdeal.Facts] [hRefNormIdeal : Cert.RefNormIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.RefNormIdeal.nD Cert.RefNormIdeal.τ Cert.RefNormIdeal.sig) → Buf (Elt Ideal) ℓ) (g' : Dev Cert.RefNormIdeal.nD → PrngReg), Pre_NormIdeal m →
    (∀ c : Dev Cert.NormIdeal.nD,
      m' ((c.tc : Thread Cert.RefNormIdeal.nD Cert.RefNormIdeal.τ).loc Cert.RefNormIdeal.main_arg0) = m ((c.tc : Thread Cert.NormIdeal.nD Cert.NormIdeal.τ).loc Cert.NormIdeal.main_arg0)
      ∧ m' ((c.tc : Thread Cert.RefNormIdeal.nD Cert.RefNormIdeal.τ).loc Cert.RefNormIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.RefNormIdeal.defs (F := Ideal)) (onTc (τ := Cert.RefNormIdeal.τ) (Cert.RefNormIdeal.main (F := Ideal))) ⟨m', fun _ => 0, g'⟩ (fun r => ∀ c : Dev Cert.RefNormIdeal.nD,
          r.2.mem ((c.tc : Thread Cert.RefNormIdeal.nD Cert.RefNormIdeal.τ).loc Cert.RefNormIdeal.main_v12) = v0 c
          ∧ r.2.mem ((c.tc : Thread Cert.RefNormIdeal.nD Cert.RefNormIdeal.τ).loc Cert.RefNormIdeal.main_arg0) = m' ((c.tc : Thread Cert.RefNormIdeal.nD Cert.RefNormIdeal.τ).loc Cert.RefNormIdeal.main_arg0)
          ∧ r.2.mem ((c.tc : Thread Cert.RefNormIdeal.nD Cert.RefNormIdeal.τ).loc Cert.RefNormIdeal.main_arg1) = m' ((c.tc : Thread Cert.RefNormIdeal.nD Cert.RefNormIdeal.τ).loc Cert.RefNormIdeal.main_arg1))

def preserves_NormBwd_NormBwdIdeal : Prop :=
  True

def algebraic_NormBwdIdeal_RefNormBwdIdeal [hNormBwdIdeal : Cert.NormBwdIdeal.Facts] [hRefNormBwdIdeal : Cert.RefNormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.RefNormBwdIdeal.nD Cert.RefNormBwdIdeal.τ Cert.RefNormBwdIdeal.sig) → Buf (Elt Ideal) ℓ) (g' : Dev Cert.RefNormBwdIdeal.nD → PrngReg), Pre_NormBwdIdeal m →
    (∀ c : Dev Cert.NormBwdIdeal.nD,
      m' ((c.tc : Thread Cert.RefNormBwdIdeal.nD Cert.RefNormBwdIdeal.τ).loc Cert.RefNormBwdIdeal.main_arg0) = m ((c.tc : Thread Cert.NormBwdIdeal.nD Cert.NormBwdIdeal.τ).loc Cert.NormBwdIdeal.main_arg0)
      ∧ m' ((c.tc : Thread Cert.RefNormBwdIdeal.nD Cert.RefNormBwdIdeal.τ).loc Cert.RefNormBwdIdeal.main_arg1) = m ((c.tc : Thread Cert.NormBwdIdeal.nD Cert.NormBwdIdeal.τ).loc Cert.NormBwdIdeal.main_arg1)
      ∧ m' ((c.tc : Thread Cert.RefNormBwdIdeal.nD Cert.RefNormBwdIdeal.τ).loc Cert.RefNormBwdIdeal.main_arg2) = m ((c.tc : Thread Cert.NormBwdIdeal.nD Cert.NormBwdIdeal.τ).loc Cert.NormBwdIdeal.main_arg2)
      ∧ m' ((c.tc : Thread Cert.RefNormBwdIdeal.nD Cert.RefNormBwdIdeal.τ).loc Cert.RefNormBwdIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.RefNormBwdIdeal.defs (F := Ideal)) (onTc (τ := Cert.RefNormBwdIdeal.τ) (Cert.RefNormBwdIdeal.main (F := Ideal))) ⟨m', fun _ => 0, g'⟩ (fun r => ∀ c : Dev Cert.RefNormBwdIdeal.nD,
          r.2.mem ((c.tc : Thread Cert.RefNormBwdIdeal.nD Cert.RefNormBwdIdeal.τ).loc Cert.RefNormBwdIdeal.main_v34) = v0 c
          ∧ r.2.mem ((c.tc : Thread Cert.RefNormBwdIdeal.nD Cert.RefNormBwdIdeal.τ).loc Cert.RefNormBwdIdeal.main_v17) = v1 c
          ∧ r.2.mem ((c.tc : Thread Cert.RefNormBwdIdeal.nD Cert.RefNormBwdIdeal.τ).loc Cert.RefNormBwdIdeal.main_arg0) = m' ((c.tc : Thread Cert.RefNormBwdIdeal.nD Cert.RefNormBwdIdeal.τ).loc Cert.RefNormBwdIdeal.main_arg0)
          ∧ r.2.mem ((c.tc : Thread Cert.RefNormBwdIdeal.nD Cert.RefNormBwdIdeal.τ).loc Cert.RefNormBwdIdeal.main_arg1) = m' ((c.tc : Thread Cert.RefNormBwdIdeal.nD Cert.RefNormBwdIdeal.τ).loc Cert.RefNormBwdIdeal.main_arg1)
          ∧ r.2.mem ((c.tc : Thread Cert.RefNormBwdIdeal.nD Cert.RefNormBwdIdeal.τ).loc Cert.RefNormBwdIdeal.main_arg2) = m' ((c.tc : Thread Cert.RefNormBwdIdeal.nD Cert.RefNormBwdIdeal.τ).loc Cert.RefNormBwdIdeal.main_arg2)
          ∧ r.2.mem ((c.tc : Thread Cert.RefNormBwdIdeal.nD Cert.RefNormBwdIdeal.τ).loc Cert.RefNormBwdIdeal.main_arg3) = m' ((c.tc : Thread Cert.RefNormBwdIdeal.nD Cert.RefNormBwdIdeal.τ).loc Cert.RefNormBwdIdeal.main_arg3))

def preserves_Loss_LossIdeal : Prop :=
  True

def algebraic_LossIdeal_RefLossIdeal [hLossIdeal : Cert.LossIdeal.Facts] [hRefLossIdeal : Cert.RefLossIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.RefLossIdeal.nD Cert.RefLossIdeal.τ Cert.RefLossIdeal.sig) → Buf (Elt Ideal) ℓ) (g' : Dev Cert.RefLossIdeal.nD → PrngReg), Pre_LossIdeal m →
    (∀ c : Dev Cert.LossIdeal.nD,
      m' ((c.tc : Thread Cert.RefLossIdeal.nD Cert.RefLossIdeal.τ).loc Cert.RefLossIdeal.main_arg0) = m ((c.tc : Thread Cert.LossIdeal.nD Cert.LossIdeal.τ).loc Cert.LossIdeal.main_arg0)
      ∧ m' ((c.tc : Thread Cert.RefLossIdeal.nD Cert.RefLossIdeal.τ).loc Cert.RefLossIdeal.main_arg1) = m ((c.tc : Thread Cert.LossIdeal.nD Cert.LossIdeal.τ).loc Cert.LossIdeal.main_arg1)
      ∧ m' ((c.tc : Thread Cert.RefLossIdeal.nD Cert.RefLossIdeal.τ).loc Cert.RefLossIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)) (v2 : (c : Dev Cert.LossIdeal.nD) → Buf (Elt Ideal) ((c.tc : Thread Cert.LossIdeal.nD Cert.LossIdeal.τ).loc Cert.LossIdeal.main_v0_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_v0_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.RefLossIdeal.defs (F := Ideal)) (onTc (τ := Cert.RefLossIdeal.τ) (Cert.RefLossIdeal.main (F := Ideal))) ⟨m', fun _ => 0, g'⟩ (fun r => ∀ c : Dev Cert.RefLossIdeal.nD,
          r.2.mem ((c.tc : Thread Cert.RefLossIdeal.nD Cert.RefLossIdeal.τ).loc Cert.RefLossIdeal.main_v52) = v0 c
          ∧ r.2.mem ((c.tc : Thread Cert.RefLossIdeal.nD Cert.RefLossIdeal.τ).loc Cert.RefLossIdeal.main_v51) = v1 c
          ∧ r.2.mem ((c.tc : Thread Cert.RefLossIdeal.nD Cert.RefLossIdeal.τ).loc Cert.RefLossIdeal.main_v35) = v2 c
          ∧ r.2.mem ((c.tc : Thread Cert.RefLossIdeal.nD Cert.RefLossIdeal.τ).loc Cert.RefLossIdeal.main_arg0) = m' ((c.tc : Thread Cert.RefLossIdeal.nD Cert.RefLossIdeal.τ).loc Cert.RefLossIdeal.main_arg0)
          ∧ r.2.mem ((c.tc : Thread Cert.RefLossIdeal.nD Cert.RefLossIdeal.τ).loc Cert.RefLossIdeal.main_arg1) = m' ((c.tc : Thread Cert.RefLossIdeal.nD Cert.RefLossIdeal.τ).loc Cert.RefLossIdeal.main_arg1)
          ∧ r.2.mem ((c.tc : Thread Cert.RefLossIdeal.nD Cert.RefLossIdeal.τ).loc Cert.RefLossIdeal.main_arg2) = m' ((c.tc : Thread Cert.RefLossIdeal.nD Cert.RefLossIdeal.τ).loc Cert.RefLossIdeal.main_arg2))

def preserves_GluGates_GluGatesIdeal : Prop :=
  True

def algebraic_GluGatesIdeal_RefGluGatesIdeal [hGluGatesIdeal : Cert.GluGatesIdeal.Facts] [hRefGluGatesIdeal : Cert.RefGluGatesIdeal.Facts] : Prop :=
  ∀ (m : (ℓ : Loc Cert.GluGatesIdeal.nD Cert.GluGatesIdeal.τ Cert.GluGatesIdeal.sig) → Buf (Elt Ideal) ℓ) (g : Dev Cert.GluGatesIdeal.nD → PrngReg)
    (m' : (ℓ : Loc Cert.RefGluGatesIdeal.nD Cert.RefGluGatesIdeal.τ Cert.RefGluGatesIdeal.sig) → Buf (Elt Ideal) ℓ) (g' : Dev Cert.RefGluGatesIdeal.nD → PrngReg), Pre_GluGatesIdeal m →
    (∀ c : Dev Cert.GluGatesIdeal.nD,
      m' ((c.tc : Thread Cert.RefGluGatesIdeal.nD Cert.RefGluGatesIdeal.τ).loc Cert.RefGluGatesIdeal.main_arg0) = m ((c.tc : Thread Cert.GluGatesIdeal.nD Cert.GluGatesIdeal.τ).loc Cert.GluGatesIdeal.main_arg0)
      ∧ m' ((c.tc : Thread Cert.RefGluGatesIdeal.nD Cert.RefGluGatesIdeal.τ).loc Cert.RefGluGatesIdeal.main_arg1) = m ((c.tc : Thread Cert.GluGatesIdeal.nD Cert.GluGatesIdeal.τ).loc Cert.GluGatesIdeal.main_arg1)
      ∧ m' ((c.tc : Thread Cert.RefGluGatesIdeal.nD Cert.RefGluGatesIdeal.τ).loc Cert.RefGluGatesIdeal.main_arg2) = m ((c.tc : Thread Cert.GluGatesIdeal.nD Cert.GluGatesIdeal.τ).loc Cert.GluGatesIdeal.main_arg2)) →
    ∃ (v0 : (c : Dev Cert.GluGatesIdeal.nD) → Buf (Elt Ideal) ((c.tc : Thread Cert.GluGatesIdeal.nD Cert.GluGatesIdeal.τ).loc Cert.GluGatesIdeal.main_v0_0)) (v1 : (c : Dev Cert.GluGatesIdeal.nD) → Buf (Elt Ideal) ((c.tc : Thread Cert.GluGatesIdeal.nD Cert.GluGatesIdeal.τ).loc Cert.GluGatesIdeal.main_v0_1)),
      θ_run (Cert.GluGatesIdeal.defs (F := Ideal)) (onTc (τ := Cert.GluGatesIdeal.τ) (Cert.GluGatesIdeal.main (F := Ideal))) ⟨m, fun _ => 0, g⟩ (fun r => ∀ c : Dev Cert.GluGatesIdeal.nD,
          r.2.mem ((c.tc : Thread Cert.GluGatesIdeal.nD Cert.GluGatesIdeal.τ).loc Cert.GluGatesIdeal.main_v0_0) = v0 c
          ∧ r.2.mem ((c.tc : Thread Cert.GluGatesIdeal.nD Cert.GluGatesIdeal.τ).loc Cert.GluGatesIdeal.main_v0_1) = v1 c
          ∧ r.2.mem ((c.tc : Thread Cert.GluGatesIdeal.nD Cert.GluGatesIdeal.τ).loc Cert.GluGatesIdeal.main_arg0) = m ((c.tc : Thread Cert.GluGatesIdeal.nD Cert.GluGatesIdeal.τ).loc Cert.GluGatesIdeal.main_arg0)
          ∧ r.2.mem ((c.tc : Thread Cert.GluGatesIdeal.nD Cert.GluGatesIdeal.τ).loc Cert.GluGatesIdeal.main_arg1) = m ((c.tc : Thread Cert.GluGatesIdeal.nD Cert.GluGatesIdeal.τ).loc Cert.GluGatesIdeal.main_arg1)
          ∧ r.2.mem ((c.tc : Thread Cert.GluGatesIdeal.nD Cert.GluGatesIdeal.τ).loc Cert.GluGatesIdeal.main_arg2) = m ((c.tc : Thread Cert.GluGatesIdeal.nD Cert.GluGatesIdeal.τ).loc Cert.GluGatesIdeal.main_arg2))
      ∧ θ_run (Cert.RefGluGatesIdeal.defs (F := Ideal)) (onTc (τ := Cert.RefGluGatesIdeal.τ) (Cert.RefGluGatesIdeal.main (F := Ideal))) ⟨m', fun _ => 0, g'⟩ (fun r => ∀ c : Dev Cert.RefGluGatesIdeal.nD,
          r.2.mem ((c.tc : Thread Cert.RefGluGatesIdeal.nD Cert.RefGluGatesIdeal.τ).loc Cert.RefGluGatesIdeal.main_v16) = v0 c
          ∧ r.2.mem ((c.tc : Thread Cert.RefGluGatesIdeal.nD Cert.RefGluGatesIdeal.τ).loc Cert.RefGluGatesIdeal.main_v15) = v1 c
          ∧ r.2.mem ((c.tc : Thread Cert.RefGluGatesIdeal.nD Cert.RefGluGatesIdeal.τ).loc Cert.RefGluGatesIdeal.main_arg0) = m' ((c.tc : Thread Cert.RefGluGatesIdeal.nD Cert.RefGluGatesIdeal.τ).loc Cert.RefGluGatesIdeal.main_arg0)
          ∧ r.2.mem ((c.tc : Thread Cert.RefGluGatesIdeal.nD Cert.RefGluGatesIdeal.τ).loc Cert.RefGluGatesIdeal.main_arg1) = m' ((c.tc : Thread Cert.RefGluGatesIdeal.nD Cert.RefGluGatesIdeal.τ).loc Cert.RefGluGatesIdeal.main_arg1)
          ∧ r.2.mem ((c.tc : Thread Cert.RefGluGatesIdeal.nD Cert.RefGluGatesIdeal.τ).loc Cert.RefGluGatesIdeal.main_arg2) = m' ((c.tc : Thread Cert.RefGluGatesIdeal.nD Cert.RefGluGatesIdeal.τ).loc Cert.RefGluGatesIdeal.main_arg2))

def preserves_Gelu_GeluIdeal : Prop :=
  True

def algebraic_GeluIdeal_RefGeluIdeal [hGeluIdeal : Cert.GeluIdeal.Facts] [hRefGeluIdeal : Cert.RefGeluIdeal.Facts] : Prop :=
  ∀ (m : (ℓ : Loc Cert.GeluIdeal.nD Cert.GeluIdeal.τ Cert.GeluIdeal.sig) → Buf (Elt Ideal) ℓ) (g : Dev Cert.GeluIdeal.nD → PrngReg)
    (m' : (ℓ : Loc Cert.RefGeluIdeal.nD Cert.RefGeluIdeal.τ Cert.RefGeluIdeal.sig) → Buf (Elt Ideal) ℓ) (g' : Dev Cert.RefGeluIdeal.nD → PrngReg), Pre_GeluIdeal m →
    (∀ c : Dev Cert.GeluIdeal.nD,
      m' ((c.tc : Thread Cert.RefGeluIdeal.nD Cert.RefGeluIdeal.τ).loc Cert.RefGeluIdeal.main_arg0) = m ((c.tc : Thread Cert.GeluIdeal.nD Cert.GeluIdeal.τ).loc Cert.GeluIdeal.main_arg0)
      ∧ m' ((c.tc : Thread Cert.RefGeluIdeal.nD Cert.RefGeluIdeal.τ).loc Cert.RefGeluIdeal.main_arg1) = m ((c.tc : Thread Cert.GeluIdeal.nD Cert.GeluIdeal.τ).loc Cert.GeluIdeal.main_arg1)
      ∧ m' ((c.tc : Thread Cert.RefGeluIdeal.nD Cert.RefGeluIdeal.τ).loc Cert.RefGeluIdeal.main_arg2) = m ((c.tc : Thread Cert.GeluIdeal.nD Cert.GeluIdeal.τ).loc Cert.GeluIdeal.main_arg2)) →
    ∃ (v0 : (c : Dev Cert.GeluIdeal.nD) → Buf (Elt Ideal) ((c.tc : Thread Cert.GeluIdeal.nD Cert.GeluIdeal.τ).loc Cert.GeluIdeal.main_v0)),
      θ_run (Cert.GeluIdeal.defs (F := Ideal)) (onTc (τ := Cert.GeluIdeal.τ) (Cert.GeluIdeal.main (F := Ideal))) ⟨m, fun _ => 0, g⟩ (fun r => ∀ c : Dev Cert.GeluIdeal.nD,
          r.2.mem ((c.tc : Thread Cert.GeluIdeal.nD Cert.GeluIdeal.τ).loc Cert.GeluIdeal.main_v0) = v0 c
          ∧ r.2.mem ((c.tc : Thread Cert.GeluIdeal.nD Cert.GeluIdeal.τ).loc Cert.GeluIdeal.main_arg0) = m ((c.tc : Thread Cert.GeluIdeal.nD Cert.GeluIdeal.τ).loc Cert.GeluIdeal.main_arg0)
          ∧ r.2.mem ((c.tc : Thread Cert.GeluIdeal.nD Cert.GeluIdeal.τ).loc Cert.GeluIdeal.main_arg1) = m ((c.tc : Thread Cert.GeluIdeal.nD Cert.GeluIdeal.τ).loc Cert.GeluIdeal.main_arg1)
          ∧ r.2.mem ((c.tc : Thread Cert.GeluIdeal.nD Cert.GeluIdeal.τ).loc Cert.GeluIdeal.main_arg2) = m ((c.tc : Thread Cert.GeluIdeal.nD Cert.GeluIdeal.τ).loc Cert.GeluIdeal.main_arg2))
      ∧ θ_run (Cert.RefGeluIdeal.defs (F := Ideal)) (onTc (τ := Cert.RefGeluIdeal.τ) (Cert.RefGeluIdeal.main (F := Ideal))) ⟨m', fun _ => 0, g'⟩ (fun r => ∀ c : Dev Cert.RefGeluIdeal.nD,
          r.2.mem ((c.tc : Thread Cert.RefGeluIdeal.nD Cert.RefGeluIdeal.τ).loc Cert.RefGeluIdeal.main_v16) = v0 c
          ∧ r.2.mem ((c.tc : Thread Cert.RefGeluIdeal.nD Cert.RefGeluIdeal.τ).loc Cert.RefGeluIdeal.main_arg0) = m' ((c.tc : Thread Cert.RefGeluIdeal.nD Cert.RefGeluIdeal.τ).loc Cert.RefGeluIdeal.main_arg0)
          ∧ r.2.mem ((c.tc : Thread Cert.RefGeluIdeal.nD Cert.RefGeluIdeal.τ).loc Cert.RefGeluIdeal.main_arg1) = m' ((c.tc : Thread Cert.RefGeluIdeal.nD Cert.RefGeluIdeal.τ).loc Cert.RefGeluIdeal.main_arg1)
          ∧ r.2.mem ((c.tc : Thread Cert.RefGeluIdeal.nD Cert.RefGeluIdeal.τ).loc Cert.RefGeluIdeal.main_arg2) = m' ((c.tc : Thread Cert.RefGeluIdeal.nD Cert.RefGeluIdeal.τ).loc Cert.RefGeluIdeal.main_arg2))

def preserves_GeluBwd_GeluBwdIdeal : Prop :=
  IdealRules.named_const.Statement Cert.GeluBwdIdeal.κ "cube" .f32 0x3D372713#32 ((8943 / 200000 : ℝ) : EReal)
  ∧ IdealRules.named_const.Statement Cert.GeluBwdIdeal.κ "slope" .f32 0x3E095D4F#32 ((26829 / 200000 : ℝ) : EReal)

def algebraic_GeluBwdIdeal_RefGeluBwdIdeal_pre_finite_dz [hGeluBwdIdeal : Cert.GeluBwdIdeal.Facts] [hRefGeluBwdIdeal : Cert.RefGeluBwdIdeal.Facts] [hPre_finite_dz : Cert.Pre_finite_dz.Facts] : Prop :=
  ∀ (m : (ℓ : Loc Cert.GeluBwdIdeal.nD Cert.GeluBwdIdeal.τ Cert.GeluBwdIdeal.sig) → Buf (Elt Ideal) ℓ) (g : Dev Cert.GeluBwdIdeal.nD → PrngReg)
    (m' : (ℓ : Loc Cert.RefGeluBwdIdeal.nD Cert.RefGeluBwdIdeal.τ Cert.RefGeluBwdIdeal.sig) → Buf (Elt Ideal) ℓ) (g' : Dev Cert.RefGeluBwdIdeal.nD → PrngReg), Pre_GeluBwdIdeal_finite_dz m →
    (∀ c : Dev Cert.GeluBwdIdeal.nD,
      m' ((c.tc : Thread Cert.RefGeluBwdIdeal.nD Cert.RefGeluBwdIdeal.τ).loc Cert.RefGeluBwdIdeal.main_arg0) = m ((c.tc : Thread Cert.GeluBwdIdeal.nD Cert.GeluBwdIdeal.τ).loc Cert.GeluBwdIdeal.main_arg0)
      ∧ m' ((c.tc : Thread Cert.RefGeluBwdIdeal.nD Cert.RefGeluBwdIdeal.τ).loc Cert.RefGeluBwdIdeal.main_arg1) = m ((c.tc : Thread Cert.GeluBwdIdeal.nD Cert.GeluBwdIdeal.τ).loc Cert.GeluBwdIdeal.main_arg1)
      ∧ m' ((c.tc : Thread Cert.RefGeluBwdIdeal.nD Cert.RefGeluBwdIdeal.τ).loc Cert.RefGeluBwdIdeal.main_arg2) = m ((c.tc : Thread Cert.GeluBwdIdeal.nD Cert.GeluBwdIdeal.τ).loc Cert.GeluBwdIdeal.main_arg2)
      ∧ m' ((c.tc : Thread Cert.RefGeluBwdIdeal.nD Cert.RefGeluBwdIdeal.τ).loc Cert.RefGeluBwdIdeal.main_arg3) = m ((c.tc : Thread Cert.GeluBwdIdeal.nD Cert.GeluBwdIdeal.τ).loc Cert.GeluBwdIdeal.main_arg3)) →
    ∃ (v0 : (c : Dev Cert.GeluBwdIdeal.nD) → Buf (Elt Ideal) ((c.tc : Thread Cert.GeluBwdIdeal.nD Cert.GeluBwdIdeal.τ).loc Cert.GeluBwdIdeal.main_v0_0)) (v1 : (c : Dev Cert.GeluBwdIdeal.nD) → Buf (Elt Ideal) ((c.tc : Thread Cert.GeluBwdIdeal.nD Cert.GeluBwdIdeal.τ).loc Cert.GeluBwdIdeal.main_v0_1)) (v2 : (c : Dev Cert.GeluBwdIdeal.nD) → Buf (Elt Ideal) ((c.tc : Thread Cert.GeluBwdIdeal.nD Cert.GeluBwdIdeal.τ).loc Cert.GeluBwdIdeal.main_v0_2)),
      θ_run (Cert.GeluBwdIdeal.defs (F := Ideal)) (onTc (τ := Cert.GeluBwdIdeal.τ) (Cert.GeluBwdIdeal.main (F := Ideal))) ⟨m, fun _ => 0, g⟩ (fun r => ∀ c : Dev Cert.GeluBwdIdeal.nD,
          r.2.mem ((c.tc : Thread Cert.GeluBwdIdeal.nD Cert.GeluBwdIdeal.τ).loc Cert.GeluBwdIdeal.main_v0_0) = v0 c
          ∧ r.2.mem ((c.tc : Thread Cert.GeluBwdIdeal.nD Cert.GeluBwdIdeal.τ).loc Cert.GeluBwdIdeal.main_v0_1) = v1 c
          ∧ r.2.mem ((c.tc : Thread Cert.GeluBwdIdeal.nD Cert.GeluBwdIdeal.τ).loc Cert.GeluBwdIdeal.main_v0_2) = v2 c
          ∧ r.2.mem ((c.tc : Thread Cert.GeluBwdIdeal.nD Cert.GeluBwdIdeal.τ).loc Cert.GeluBwdIdeal.main_arg0) = m ((c.tc : Thread Cert.GeluBwdIdeal.nD Cert.GeluBwdIdeal.τ).loc Cert.GeluBwdIdeal.main_arg0)
          ∧ r.2.mem ((c.tc : Thread Cert.GeluBwdIdeal.nD Cert.GeluBwdIdeal.τ).loc Cert.GeluBwdIdeal.main_arg1) = m ((c.tc : Thread Cert.GeluBwdIdeal.nD Cert.GeluBwdIdeal.τ).loc Cert.GeluBwdIdeal.main_arg1)
          ∧ r.2.mem ((c.tc : Thread Cert.GeluBwdIdeal.nD Cert.GeluBwdIdeal.τ).loc Cert.GeluBwdIdeal.main_arg2) = m ((c.tc : Thread Cert.GeluBwdIdeal.nD Cert.GeluBwdIdeal.τ).loc Cert.GeluBwdIdeal.main_arg2)
          ∧ r.2.mem ((c.tc : Thread Cert.GeluBwdIdeal.nD Cert.GeluBwdIdeal.τ).loc Cert.GeluBwdIdeal.main_arg3) = m ((c.tc : Thread Cert.GeluBwdIdeal.nD Cert.GeluBwdIdeal.τ).loc Cert.GeluBwdIdeal.main_arg3))
      ∧ θ_run (Cert.RefGeluBwdIdeal.defs (F := Ideal)) (onTc (τ := Cert.RefGeluBwdIdeal.τ) (Cert.RefGeluBwdIdeal.main (F := Ideal))) ⟨m', fun _ => 0, g'⟩ (fun r => ∀ c : Dev Cert.RefGeluBwdIdeal.nD,
          r.2.mem ((c.tc : Thread Cert.RefGeluBwdIdeal.nD Cert.RefGeluBwdIdeal.τ).loc Cert.RefGeluBwdIdeal.main_v36) = v0 c
          ∧ r.2.mem ((c.tc : Thread Cert.RefGeluBwdIdeal.nD Cert.RefGeluBwdIdeal.τ).loc Cert.RefGeluBwdIdeal.main_v38) = v1 c
          ∧ r.2.mem ((c.tc : Thread Cert.RefGeluBwdIdeal.nD Cert.RefGeluBwdIdeal.τ).loc Cert.RefGeluBwdIdeal.main_v41) = v2 c
          ∧ r.2.mem ((c.tc : Thread Cert.RefGeluBwdIdeal.nD Cert.RefGeluBwdIdeal.τ).loc Cert.RefGeluBwdIdeal.main_arg0) = m' ((c.tc : Thread Cert.RefGeluBwdIdeal.nD Cert.RefGeluBwdIdeal.τ).loc Cert.RefGeluBwdIdeal.main_arg0)
          ∧ r.2.mem ((c.tc : Thread Cert.RefGeluBwdIdeal.nD Cert.RefGeluBwdIdeal.τ).loc Cert.RefGeluBwdIdeal.main_arg1) = m' ((c.tc : Thread Cert.RefGeluBwdIdeal.nD Cert.RefGeluBwdIdeal.τ).loc Cert.RefGeluBwdIdeal.main_arg1)
          ∧ r.2.mem ((c.tc : Thread Cert.RefGeluBwdIdeal.nD Cert.RefGeluBwdIdeal.τ).loc Cert.RefGeluBwdIdeal.main_arg2) = m' ((c.tc : Thread Cert.RefGeluBwdIdeal.nD Cert.RefGeluBwdIdeal.τ).loc Cert.RefGeluBwdIdeal.main_arg2)
          ∧ r.2.mem ((c.tc : Thread Cert.RefGeluBwdIdeal.nD Cert.RefGeluBwdIdeal.τ).loc Cert.RefGeluBwdIdeal.main_arg3) = m' ((c.tc : Thread Cert.RefGeluBwdIdeal.nD Cert.RefGeluBwdIdeal.τ).loc Cert.RefGeluBwdIdeal.main_arg3))

def preserves_BProd_BProdIdeal : Prop :=
  True

def algebraic_BProdIdeal_RefBProdIdeal [hBProdIdeal : Cert.BProdIdeal.Facts] [hRefBProdIdeal : Cert.RefBProdIdeal.Facts] : Prop :=
  ∀ (m : (ℓ : Loc Cert.BProdIdeal.nD Cert.BProdIdeal.τ Cert.BProdIdeal.sig) → Buf (Elt Ideal) ℓ) (g : Dev Cert.BProdIdeal.nD → PrngReg)
    (m' : (ℓ : Loc Cert.RefBProdIdeal.nD Cert.RefBProdIdeal.τ Cert.RefBProdIdeal.sig) → Buf (Elt Ideal) ℓ) (g' : Dev Cert.RefBProdIdeal.nD → PrngReg), Pre_BProdIdeal m →
    (∀ c : Dev Cert.BProdIdeal.nD,
      m' ((c.tc : Thread Cert.RefBProdIdeal.nD Cert.RefBProdIdeal.τ).loc Cert.RefBProdIdeal.main_arg0) = m ((c.tc : Thread Cert.BProdIdeal.nD Cert.BProdIdeal.τ).loc Cert.BProdIdeal.main_arg0)
      ∧ m' ((c.tc : Thread Cert.RefBProdIdeal.nD Cert.RefBProdIdeal.τ).loc Cert.RefBProdIdeal.main_arg1) = m ((c.tc : Thread Cert.BProdIdeal.nD Cert.BProdIdeal.τ).loc Cert.BProdIdeal.main_arg1)
      ∧ m' ((c.tc : Thread Cert.RefBProdIdeal.nD Cert.RefBProdIdeal.τ).loc Cert.RefBProdIdeal.main_arg2) = m ((c.tc : Thread Cert.BProdIdeal.nD Cert.BProdIdeal.τ).loc Cert.BProdIdeal.main_arg2)) →
    ∃ (v0 : (c : Dev Cert.BProdIdeal.nD) → Buf (Elt Ideal) ((c.tc : Thread Cert.BProdIdeal.nD Cert.BProdIdeal.τ).loc Cert.BProdIdeal.main_v28_0)) (v1 : (c : Dev Cert.BProdIdeal.nD) → Buf (Elt Ideal) ((c.tc : Thread Cert.BProdIdeal.nD Cert.BProdIdeal.τ).loc Cert.BProdIdeal.main_v28_1)),
      θ_run (Cert.BProdIdeal.defs (F := Ideal)) (onTc (τ := Cert.BProdIdeal.τ) (Cert.BProdIdeal.main (F := Ideal))) ⟨m, fun _ => 0, g⟩ (fun r => ∀ c : Dev Cert.BProdIdeal.nD,
          r.2.mem ((c.tc : Thread Cert.BProdIdeal.nD Cert.BProdIdeal.τ).loc Cert.BProdIdeal.main_v28_0) = v0 c
          ∧ r.2.mem ((c.tc : Thread Cert.BProdIdeal.nD Cert.BProdIdeal.τ).loc Cert.BProdIdeal.main_v28_1) = v1 c
          ∧ r.2.mem ((c.tc : Thread Cert.BProdIdeal.nD Cert.BProdIdeal.τ).loc Cert.BProdIdeal.main_arg0) = m ((c.tc : Thread Cert.BProdIdeal.nD Cert.BProdIdeal.τ).loc Cert.BProdIdeal.main_arg0)
          ∧ r.2.mem ((c.tc : Thread Cert.BProdIdeal.nD Cert.BProdIdeal.τ).loc Cert.BProdIdeal.main_arg1) = m ((c.tc : Thread Cert.BProdIdeal.nD Cert.BProdIdeal.τ).loc Cert.BProdIdeal.main_arg1)
          ∧ r.2.mem ((c.tc : Thread Cert.BProdIdeal.nD Cert.BProdIdeal.τ).loc Cert.BProdIdeal.main_arg2) = m ((c.tc : Thread Cert.BProdIdeal.nD Cert.BProdIdeal.τ).loc Cert.BProdIdeal.main_arg2))
      ∧ θ_run (Cert.RefBProdIdeal.defs (F := Ideal)) (onTc (τ := Cert.RefBProdIdeal.τ) (Cert.RefBProdIdeal.main (F := Ideal))) ⟨m', fun _ => 0, g'⟩ (fun r => ∀ c : Dev Cert.RefBProdIdeal.nD,
          r.2.mem ((c.tc : Thread Cert.RefBProdIdeal.nD Cert.RefBProdIdeal.τ).loc Cert.RefBProdIdeal.main_v7) = v0 c
          ∧ r.2.mem ((c.tc : Thread Cert.RefBProdIdeal.nD Cert.RefBProdIdeal.τ).loc Cert.RefBProdIdeal.main_v8) = v1 c
          ∧ r.2.mem ((c.tc : Thread Cert.RefBProdIdeal.nD Cert.RefBProdIdeal.τ).loc Cert.RefBProdIdeal.main_arg0) = m' ((c.tc : Thread Cert.RefBProdIdeal.nD Cert.RefBProdIdeal.τ).loc Cert.RefBProdIdeal.main_arg0)
          ∧ r.2.mem ((c.tc : Thread Cert.RefBProdIdeal.nD Cert.RefBProdIdeal.τ).loc Cert.RefBProdIdeal.main_arg1) = m' ((c.tc : Thread Cert.RefBProdIdeal.nD Cert.RefBProdIdeal.τ).loc Cert.RefBProdIdeal.main_arg1)
          ∧ r.2.mem ((c.tc : Thread Cert.RefBProdIdeal.nD Cert.RefBProdIdeal.τ).loc Cert.RefBProdIdeal.main_arg2) = m' ((c.tc : Thread Cert.RefBProdIdeal.nD Cert.RefBProdIdeal.τ).loc Cert.RefBProdIdeal.main_arg2))

def preserves_CProd_CProdIdeal : Prop :=
  True

def algebraic_CProdIdeal_RefCProdIdeal_pre_finite_imag [hCProdIdeal : Cert.CProdIdeal.Facts] [hRefCProdIdeal : Cert.RefCProdIdeal.Facts] [hPre_finite_imag : Cert.Pre_finite_imag.Facts] : Prop :=
  ∀ (m : (ℓ : Loc Cert.CProdIdeal.nD Cert.CProdIdeal.τ Cert.CProdIdeal.sig) → Buf (Elt Ideal) ℓ) (g : Dev Cert.CProdIdeal.nD → PrngReg)
    (m' : (ℓ : Loc Cert.RefCProdIdeal.nD Cert.RefCProdIdeal.τ Cert.RefCProdIdeal.sig) → Buf (Elt Ideal) ℓ) (g' : Dev Cert.RefCProdIdeal.nD → PrngReg), Pre_CProdIdeal_finite_imag m →
    (∀ c : Dev Cert.CProdIdeal.nD,
      m' ((c.tc : Thread Cert.RefCProdIdeal.nD Cert.RefCProdIdeal.τ).loc Cert.RefCProdIdeal.main_arg0) = m ((c.tc : Thread Cert.CProdIdeal.nD Cert.CProdIdeal.τ).loc Cert.CProdIdeal.main_arg0)
      ∧ m' ((c.tc : Thread Cert.RefCProdIdeal.nD Cert.RefCProdIdeal.τ).loc Cert.RefCProdIdeal.main_arg1) = m ((c.tc : Thread Cert.CProdIdeal.nD Cert.CProdIdeal.τ).loc Cert.CProdIdeal.main_arg1)
      ∧ m' ((c.tc : Thread Cert.RefCProdIdeal.nD Cert.RefCProdIdeal.τ).loc Cert.RefCProdIdeal.main_arg2) = m ((c.tc : Thread Cert.CProdIdeal.nD Cert.CProdIdeal.τ).loc Cert.CProdIdeal.main_arg2)
      ∧ m' ((c.tc : Thread Cert.RefCProdIdeal.nD Cert.RefCProdIdeal.τ).loc Cert.RefCProdIdeal.main_arg3) = m ((c.tc : Thread Cert.CProdIdeal.nD Cert.CProdIdeal.τ).loc Cert.CProdIdeal.main_arg3)) →
    ∃ (v0 : (c : Dev Cert.CProdIdeal.nD) → Buf (Elt Ideal) ((c.tc : Thread Cert.CProdIdeal.nD Cert.CProdIdeal.τ).loc Cert.CProdIdeal.main_v29)),
      θ_run (Cert.CProdIdeal.defs (F := Ideal)) (onTc (τ := Cert.CProdIdeal.τ) (Cert.CProdIdeal.main (F := Ideal))) ⟨m, fun _ => 0, g⟩ (fun r => ∀ c : Dev Cert.CProdIdeal.nD,
          r.2.mem ((c.tc : Thread Cert.CProdIdeal.nD Cert.CProdIdeal.τ).loc Cert.CProdIdeal.main_v29) = v0 c
          ∧ r.2.mem ((c.tc : Thread Cert.CProdIdeal.nD Cert.CProdIdeal.τ).loc Cert.CProdIdeal.main_arg0) = m ((c.tc : Thread Cert.CProdIdeal.nD Cert.CProdIdeal.τ).loc Cert.CProdIdeal.main_arg0)
          ∧ r.2.mem ((c.tc : Thread Cert.CProdIdeal.nD Cert.CProdIdeal.τ).loc Cert.CProdIdeal.main_arg1) = m ((c.tc : Thread Cert.CProdIdeal.nD Cert.CProdIdeal.τ).loc Cert.CProdIdeal.main_arg1)
          ∧ r.2.mem ((c.tc : Thread Cert.CProdIdeal.nD Cert.CProdIdeal.τ).loc Cert.CProdIdeal.main_arg2) = m ((c.tc : Thread Cert.CProdIdeal.nD Cert.CProdIdeal.τ).loc Cert.CProdIdeal.main_arg2)
          ∧ r.2.mem ((c.tc : Thread Cert.CProdIdeal.nD Cert.CProdIdeal.τ).loc Cert.CProdIdeal.main_arg3) = m ((c.tc : Thread Cert.CProdIdeal.nD Cert.CProdIdeal.τ).loc Cert.CProdIdeal.main_arg3))
      ∧ θ_run (Cert.RefCProdIdeal.defs (F := Ideal)) (onTc (τ := Cert.RefCProdIdeal.τ) (Cert.RefCProdIdeal.main (F := Ideal))) ⟨m', fun _ => 0, g'⟩ (fun r => ∀ c : Dev Cert.RefCProdIdeal.nD,
          r.2.mem ((c.tc : Thread Cert.RefCProdIdeal.nD Cert.RefCProdIdeal.τ).loc Cert.RefCProdIdeal.main_v9) = v0 c
          ∧ r.2.mem ((c.tc : Thread Cert.RefCProdIdeal.nD Cert.RefCProdIdeal.τ).loc Cert.RefCProdIdeal.main_arg0) = m' ((c.tc : Thread Cert.RefCProdIdeal.nD Cert.RefCProdIdeal.τ).loc Cert.RefCProdIdeal.main_arg0)
          ∧ r.2.mem ((c.tc : Thread Cert.RefCProdIdeal.nD Cert.RefCProdIdeal.τ).loc Cert.RefCProdIdeal.main_arg1) = m' ((c.tc : Thread Cert.RefCProdIdeal.nD Cert.RefCProdIdeal.τ).loc Cert.RefCProdIdeal.main_arg1)
          ∧ r.2.mem ((c.tc : Thread Cert.RefCProdIdeal.nD Cert.RefCProdIdeal.τ).loc Cert.RefCProdIdeal.main_arg2) = m' ((c.tc : Thread Cert.RefCProdIdeal.nD Cert.RefCProdIdeal.τ).loc Cert.RefCProdIdeal.main_arg2)
          ∧ r.2.mem ((c.tc : Thread Cert.RefCProdIdeal.nD Cert.RefCProdIdeal.τ).loc Cert.RefCProdIdeal.main_arg3) = m' ((c.tc : Thread Cert.RefCProdIdeal.nD Cert.RefCProdIdeal.τ).loc Cert.RefCProdIdeal.main_arg3))

def preserves_CGrad_CGradIdeal : Prop :=
  True

def algebraic_CGradIdeal_RefCGradIdeal [hCGradIdeal : Cert.CGradIdeal.Facts] [hRefCGradIdeal : Cert.RefCGradIdeal.Facts] : Prop :=
  ∀ (m : (ℓ : Loc Cert.CGradIdeal.nD Cert.CGradIdeal.τ Cert.CGradIdeal.sig) → Buf (Elt Ideal) ℓ) (g : Dev Cert.CGradIdeal.nD → PrngReg)
    (m' : (ℓ : Loc Cert.RefCGradIdeal.nD Cert.RefCGradIdeal.τ Cert.RefCGradIdeal.sig) → Buf (Elt Ideal) ℓ) (g' : Dev Cert.RefCGradIdeal.nD → PrngReg), Pre_CGradIdeal m →
    (∀ c : Dev Cert.CGradIdeal.nD,
      m' ((c.tc : Thread Cert.RefCGradIdeal.nD Cert.RefCGradIdeal.τ).loc Cert.RefCGradIdeal.main_arg0) = m ((c.tc : Thread Cert.CGradIdeal.nD Cert.CGradIdeal.τ).loc Cert.CGradIdeal.main_arg0)
      ∧ m' ((c.tc : Thread Cert.RefCGradIdeal.nD Cert.RefCGradIdeal.τ).loc Cert.RefCGradIdeal.main_arg1) = m ((c.tc : Thread Cert.CGradIdeal.nD Cert.CGradIdeal.τ).loc Cert.CGradIdeal.main_arg1)
      ∧ m' ((c.tc : Thread Cert.RefCGradIdeal.nD Cert.RefCGradIdeal.τ).loc Cert.RefCGradIdeal.main_arg2) = m ((c.tc : Thread Cert.CGradIdeal.nD Cert.CGradIdeal.τ).loc Cert.CGradIdeal.main_arg2)) →
    ∃ (v0 : (c : Dev Cert.CGradIdeal.nD) → Buf (Elt Ideal) ((c.tc : Thread Cert.CGradIdeal.nD Cert.CGradIdeal.τ).loc Cert.CGradIdeal.main_v31_0)) (v1 : (c : Dev Cert.CGradIdeal.nD) → Buf (Elt Ideal) ((c.tc : Thread Cert.CGradIdeal.nD Cert.CGradIdeal.τ).loc Cert.CGradIdeal.main_v31_1)),
      θ_run (Cert.CGradIdeal.defs (F := Ideal)) (onTc (τ := Cert.CGradIdeal.τ) (Cert.CGradIdeal.main (F := Ideal))) ⟨m, fun _ => 0, g⟩ (fun r => ∀ c : Dev Cert.CGradIdeal.nD,
          r.2.mem ((c.tc : Thread Cert.CGradIdeal.nD Cert.CGradIdeal.τ).loc Cert.CGradIdeal.main_v31_0) = v0 c
          ∧ r.2.mem ((c.tc : Thread Cert.CGradIdeal.nD Cert.CGradIdeal.τ).loc Cert.CGradIdeal.main_v31_1) = v1 c
          ∧ r.2.mem ((c.tc : Thread Cert.CGradIdeal.nD Cert.CGradIdeal.τ).loc Cert.CGradIdeal.main_arg0) = m ((c.tc : Thread Cert.CGradIdeal.nD Cert.CGradIdeal.τ).loc Cert.CGradIdeal.main_arg0)
          ∧ r.2.mem ((c.tc : Thread Cert.CGradIdeal.nD Cert.CGradIdeal.τ).loc Cert.CGradIdeal.main_arg1) = m ((c.tc : Thread Cert.CGradIdeal.nD Cert.CGradIdeal.τ).loc Cert.CGradIdeal.main_arg1)
          ∧ r.2.mem ((c.tc : Thread Cert.CGradIdeal.nD Cert.CGradIdeal.τ).loc Cert.CGradIdeal.main_arg2) = m ((c.tc : Thread Cert.CGradIdeal.nD Cert.CGradIdeal.τ).loc Cert.CGradIdeal.main_arg2))
      ∧ θ_run (Cert.RefCGradIdeal.defs (F := Ideal)) (onTc (τ := Cert.RefCGradIdeal.τ) (Cert.RefCGradIdeal.main (F := Ideal))) ⟨m', fun _ => 0, g'⟩ (fun r => ∀ c : Dev Cert.RefCGradIdeal.nD,
          r.2.mem ((c.tc : Thread Cert.RefCGradIdeal.nD Cert.RefCGradIdeal.τ).loc Cert.RefCGradIdeal.main_v19) = v0 c
          ∧ r.2.mem ((c.tc : Thread Cert.RefCGradIdeal.nD Cert.RefCGradIdeal.τ).loc Cert.RefCGradIdeal.main_v20) = v1 c
          ∧ r.2.mem ((c.tc : Thread Cert.RefCGradIdeal.nD Cert.RefCGradIdeal.τ).loc Cert.RefCGradIdeal.main_arg0) = m' ((c.tc : Thread Cert.RefCGradIdeal.nD Cert.RefCGradIdeal.τ).loc Cert.RefCGradIdeal.main_arg0)
          ∧ r.2.mem ((c.tc : Thread Cert.RefCGradIdeal.nD Cert.RefCGradIdeal.τ).loc Cert.RefCGradIdeal.main_arg1) = m' ((c.tc : Thread Cert.RefCGradIdeal.nD Cert.RefCGradIdeal.τ).loc Cert.RefCGradIdeal.main_arg1)
          ∧ r.2.mem ((c.tc : Thread Cert.RefCGradIdeal.nD Cert.RefCGradIdeal.τ).loc Cert.RefCGradIdeal.main_arg2) = m' ((c.tc : Thread Cert.RefCGradIdeal.nD Cert.RefCGradIdeal.τ).loc Cert.RefCGradIdeal.main_arg2))

def preserves_BGrad_BGradIdeal : Prop :=
  True

def algebraic_BGradIdeal_RefBGradIdeal [hBGradIdeal : Cert.BGradIdeal.Facts] [hRefBGradIdeal : Cert.RefBGradIdeal.Facts] : Prop :=
  ∀ (m : (ℓ : Loc Cert.BGradIdeal.nD Cert.BGradIdeal.τ Cert.BGradIdeal.sig) → Buf (Elt Ideal) ℓ) (g : Dev Cert.BGradIdeal.nD → PrngReg)
    (m' : (ℓ : Loc Cert.RefBGradIdeal.nD Cert.RefBGradIdeal.τ Cert.RefBGradIdeal.sig) → Buf (Elt Ideal) ℓ) (g' : Dev Cert.RefBGradIdeal.nD → PrngReg), Pre_BGradIdeal m →
    (∀ c : Dev Cert.BGradIdeal.nD,
      m' ((c.tc : Thread Cert.RefBGradIdeal.nD Cert.RefBGradIdeal.τ).loc Cert.RefBGradIdeal.main_arg0) = m ((c.tc : Thread Cert.BGradIdeal.nD Cert.BGradIdeal.τ).loc Cert.BGradIdeal.main_arg0)
      ∧ m' ((c.tc : Thread Cert.RefBGradIdeal.nD Cert.RefBGradIdeal.τ).loc Cert.RefBGradIdeal.main_arg1) = m ((c.tc : Thread Cert.BGradIdeal.nD Cert.BGradIdeal.τ).loc Cert.BGradIdeal.main_arg1)
      ∧ m' ((c.tc : Thread Cert.RefBGradIdeal.nD Cert.RefBGradIdeal.τ).loc Cert.RefBGradIdeal.main_arg2) = m ((c.tc : Thread Cert.BGradIdeal.nD Cert.BGradIdeal.τ).loc Cert.BGradIdeal.main_arg2)
      ∧ m' ((c.tc : Thread Cert.RefBGradIdeal.nD Cert.RefBGradIdeal.τ).loc Cert.RefBGradIdeal.main_arg3) = m ((c.tc : Thread Cert.BGradIdeal.nD Cert.BGradIdeal.τ).loc Cert.BGradIdeal.main_arg3)) →
    ∃ (v0 : (c : Dev Cert.BGradIdeal.nD) → Buf (Elt Ideal) ((c.tc : Thread Cert.BGradIdeal.nD Cert.BGradIdeal.τ).loc Cert.BGradIdeal.main_v30)),
      θ_run (Cert.BGradIdeal.defs (F := Ideal)) (onTc (τ := Cert.BGradIdeal.τ) (Cert.BGradIdeal.main (F := Ideal))) ⟨m, fun _ => 0, g⟩ (fun r => ∀ c : Dev Cert.BGradIdeal.nD,
          r.2.mem ((c.tc : Thread Cert.BGradIdeal.nD Cert.BGradIdeal.τ).loc Cert.BGradIdeal.main_v30) = v0 c
          ∧ r.2.mem ((c.tc : Thread Cert.BGradIdeal.nD Cert.BGradIdeal.τ).loc Cert.BGradIdeal.main_arg0) = m ((c.tc : Thread Cert.BGradIdeal.nD Cert.BGradIdeal.τ).loc Cert.BGradIdeal.main_arg0)
          ∧ r.2.mem ((c.tc : Thread Cert.BGradIdeal.nD Cert.BGradIdeal.τ).loc Cert.BGradIdeal.main_arg1) = m ((c.tc : Thread Cert.BGradIdeal.nD Cert.BGradIdeal.τ).loc Cert.BGradIdeal.main_arg1)
          ∧ r.2.mem ((c.tc : Thread Cert.BGradIdeal.nD Cert.BGradIdeal.τ).loc Cert.BGradIdeal.main_arg2) = m ((c.tc : Thread Cert.BGradIdeal.nD Cert.BGradIdeal.τ).loc Cert.BGradIdeal.main_arg2)
          ∧ r.2.mem ((c.tc : Thread Cert.BGradIdeal.nD Cert.BGradIdeal.τ).loc Cert.BGradIdeal.main_arg3) = m ((c.tc : Thread Cert.BGradIdeal.nD Cert.BGradIdeal.τ).loc Cert.BGradIdeal.main_arg3))
      ∧ θ_run (Cert.RefBGradIdeal.defs (F := Ideal)) (onTc (τ := Cert.RefBGradIdeal.τ) (Cert.RefBGradIdeal.main (F := Ideal))) ⟨m', fun _ => 0, g'⟩ (fun r => ∀ c : Dev Cert.RefBGradIdeal.nD,
          r.2.mem ((c.tc : Thread Cert.RefBGradIdeal.nD Cert.RefBGradIdeal.τ).loc Cert.RefBGradIdeal.main_v19) = v0 c
          ∧ r.2.mem ((c.tc : Thread Cert.RefBGradIdeal.nD Cert.RefBGradIdeal.τ).loc Cert.RefBGradIdeal.main_arg0) = m' ((c.tc : Thread Cert.RefBGradIdeal.nD Cert.RefBGradIdeal.τ).loc Cert.RefBGradIdeal.main_arg0)
          ∧ r.2.mem ((c.tc : Thread Cert.RefBGradIdeal.nD Cert.RefBGradIdeal.τ).loc Cert.RefBGradIdeal.main_arg1) = m' ((c.tc : Thread Cert.RefBGradIdeal.nD Cert.RefBGradIdeal.τ).loc Cert.RefBGradIdeal.main_arg1)
          ∧ r.2.mem ((c.tc : Thread Cert.RefBGradIdeal.nD Cert.RefBGradIdeal.τ).loc Cert.RefBGradIdeal.main_arg2) = m' ((c.tc : Thread Cert.RefBGradIdeal.nD Cert.RefBGradIdeal.τ).loc Cert.RefBGradIdeal.main_arg2)
          ∧ r.2.mem ((c.tc : Thread Cert.RefBGradIdeal.nD Cert.RefBGradIdeal.τ).loc Cert.RefBGradIdeal.main_arg3) = m' ((c.tc : Thread Cert.RefBGradIdeal.nD Cert.RefBGradIdeal.τ).loc Cert.RefBGradIdeal.main_arg3))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hRefFfnInIdeal : Cert.RefFfnInIdeal.Facts) (hFfnOut : Cert.FfnOut.Facts) (hFfnOutIdeal : Cert.FfnOutIdeal.Facts) (hRefFfnOutIdeal : Cert.RefFfnOutIdeal.Facts) (hFfnDa : Cert.FfnDa.Facts) (hFfnDaIdeal : Cert.FfnDaIdeal.Facts) (hRefFfnDaIdeal : Cert.RefFfnDaIdeal.Facts) (hFfnDwout : Cert.FfnDwout.Facts) (hFfnDwoutIdeal : Cert.FfnDwoutIdeal.Facts) (hRefFfnDwoutIdeal : Cert.RefFfnDwoutIdeal.Facts) (hFfnDf : Cert.FfnDf.Facts) (hFfnDfIdeal : Cert.FfnDfIdeal.Facts) (hRefFfnDfIdeal : Cert.RefFfnDfIdeal.Facts) (hFfnDwin : Cert.FfnDwin.Facts) (hFfnDwinIdeal : Cert.FfnDwinIdeal.Facts) (hRefFfnDwinIdeal : Cert.RefFfnDwinIdeal.Facts) (hGlu : Cert.Glu.Facts) (hGluIdeal : Cert.GluIdeal.Facts) (hRefGluIdeal : Cert.RefGluIdeal.Facts) (hGluDz : Cert.GluDz.Facts) (hGluDzIdeal : Cert.GluDzIdeal.Facts) (hRefGluDzIdeal : Cert.RefGluDzIdeal.Facts) (hGluDw : Cert.GluDw.Facts) (hGluDwIdeal : Cert.GluDwIdeal.Facts) (hRefGluDwIdeal : Cert.RefGluDwIdeal.Facts) (hAttnKv : Cert.AttnKv.Facts) (hAttnKvIdeal : Cert.AttnKvIdeal.Facts) (hRefAttnKvIdeal : Cert.RefAttnKvIdeal.Facts) (hAttnQ : Cert.AttnQ.Facts) (hAttnQIdeal : Cert.AttnQIdeal.Facts) (hRefAttnQIdeal : Cert.RefAttnQIdeal.Facts) (hAttnKvt : Cert.AttnKvt.Facts) (hAttnKvtIdeal : Cert.AttnKvtIdeal.Facts) (hRefAttnKvtIdeal : Cert.RefAttnKvtIdeal.Facts) (hAttnO : Cert.AttnO.Facts) (hAttnOIdeal : Cert.AttnOIdeal.Facts) (hRefAttnOIdeal : Cert.RefAttnOIdeal.Facts) (hAttnDo : Cert.AttnDo.Facts) (hAttnDoIdeal : Cert.AttnDoIdeal.Facts) (hRefAttnDoIdeal : Cert.RefAttnDoIdeal.Facts) (hAttnDwo : Cert.AttnDwo.Facts) (hAttnDwoIdeal : Cert.AttnDwoIdeal.Facts) (hRefAttnDwoIdeal : Cert.RefAttnDwoIdeal.Facts) (hAttnDqn : Cert.AttnDqn.Facts) (hAttnDqnIdeal : Cert.AttnDqnIdeal.Facts) (hRefAttnDqnIdeal : Cert.RefAttnDqnIdeal.Facts) (hAttnDwq : Cert.AttnDwq.Facts) (hAttnDwqIdeal : Cert.AttnDwqIdeal.Facts) (hRefAttnDwqIdeal : Cert.RefAttnDwqIdeal.Facts) (hAttnDkvn : Cert.AttnDkvn.Facts) (hAttnDkvnIdeal : Cert.AttnDkvnIdeal.Facts) (hRefAttnDkvnIdeal : Cert.RefAttnDkvnIdeal.Facts) (hAttnDwk : Cert.AttnDwk.Facts) (hAttnDwkIdeal : Cert.AttnDwkIdeal.Facts) (hRefAttnDwkIdeal : Cert.RefAttnDwkIdeal.Facts) (hAdamGlu : Cert.AdamGlu.Facts) (hAdamGluIdeal : Cert.AdamGluIdeal.Facts) (hRefAdamGluIdeal : Cert.RefAdamGluIdeal.Facts) (hAdamQ : Cert.AdamQ.Facts) (hAdamQIdeal : Cert.AdamQIdeal.Facts) (hRefAdamQIdeal : Cert.RefAdamQIdeal.Facts) (hAdamFfnIn : Cert.AdamFfnIn.Facts) (hAdamFfnInIdeal : Cert.AdamFfnInIdeal.Facts) (hRefAdamFfnInIdeal : Cert.RefAdamFfnInIdeal.Facts) (hAdamFfnOut : Cert.AdamFfnOut.Facts) (hAdamFfnOutIdeal : Cert.AdamFfnOutIdeal.Facts) (hRefAdamFfnOutIdeal : Cert.RefAdamFfnOutIdeal.Facts) (hAdamSmall : Cert.AdamSmall.Facts) (hAdamSmallIdeal : Cert.AdamSmallIdeal.Facts) (hRefAdamSmallIdeal : Cert.RefAdamSmallIdeal.Facts) (hAdamCols : Cert.AdamCols.Facts) (hAdamColsIdeal : Cert.AdamColsIdeal.Facts) (hRefAdamColsIdeal : Cert.RefAdamColsIdeal.Facts) (hNorm : Cert.Norm.Facts) (hNormIdeal : Cert.NormIdeal.Facts) (hRefNormIdeal : Cert.RefNormIdeal.Facts) (hNormBwd : Cert.NormBwd.Facts) (hNormBwdIdeal : Cert.NormBwdIdeal.Facts) (hRefNormBwdIdeal : Cert.RefNormBwdIdeal.Facts) (hLoss : Cert.Loss.Facts) (hLossIdeal : Cert.LossIdeal.Facts) (hRefLossIdeal : Cert.RefLossIdeal.Facts) (hGluGates : Cert.GluGates.Facts) (hGluGatesIdeal : Cert.GluGatesIdeal.Facts) (hRefGluGatesIdeal : Cert.RefGluGatesIdeal.Facts) (hGelu : Cert.Gelu.Facts) (hGeluIdeal : Cert.GeluIdeal.Facts) (hRefGeluIdeal : Cert.RefGeluIdeal.Facts) (hGeluBwd : Cert.GeluBwd.Facts) (hGeluBwdIdeal : Cert.GeluBwdIdeal.Facts) (hRefGeluBwdIdeal : Cert.RefGeluBwdIdeal.Facts) (hBProd : Cert.BProd.Facts) (hBProdIdeal : Cert.BProdIdeal.Facts) (hRefBProdIdeal : Cert.RefBProdIdeal.Facts) (hCProd : Cert.CProd.Facts) (hCProdIdeal : Cert.CProdIdeal.Facts) (hRefCProdIdeal : Cert.RefCProdIdeal.Facts) (hCGrad : Cert.CGrad.Facts) (hCGradIdeal : Cert.CGradIdeal.Facts) (hRefCGradIdeal : Cert.RefCGradIdeal.Facts) (hBGrad : Cert.BGrad.Facts) (hBGradIdeal : Cert.BGradIdeal.Facts) (hRefBGradIdeal : Cert.RefBGradIdeal.Facts) (hPre_finite : Cert.Pre_finite.Facts) (hPre_finite_dz : Cert.Pre_finite_dz.Facts) (hPre_finite_imag : Cert.Pre_finite_imag.Facts),
    quiescent_Kernel (hKernel := hKernel)
    ∧ quiescent_KernelIdeal (hKernelIdeal := hKernelIdeal)
    ∧ quiescent_ReferenceIdeal (hReferenceIdeal := hReferenceIdeal)
    ∧ quiescent_FfnIn (hFfnIn := hFfnIn)
    ∧ quiescent_FfnInIdeal (hFfnInIdeal := hFfnInIdeal)
    ∧ quiescent_RefFfnInIdeal (hRefFfnInIdeal := hRefFfnInIdeal)
    ∧ quiescent_FfnOut (hFfnOut := hFfnOut)
    ∧ quiescent_FfnOutIdeal (hFfnOutIdeal := hFfnOutIdeal)
    ∧ quiescent_RefFfnOutIdeal (hRefFfnOutIdeal := hRefFfnOutIdeal)
    ∧ quiescent_FfnDa (hFfnDa := hFfnDa)
    ∧ quiescent_FfnDaIdeal (hFfnDaIdeal := hFfnDaIdeal)
    ∧ quiescent_FfnDaIdeal_pre_finite (hFfnDaIdeal := hFfnDaIdeal) (hPre_finite := hPre_finite)
    ∧ quiescent_RefFfnDaIdeal (hRefFfnDaIdeal := hRefFfnDaIdeal)
    ∧ quiescent_RefFfnDaIdeal_pre_finite (hRefFfnDaIdeal := hRefFfnDaIdeal) (hPre_finite := hPre_finite)
    ∧ quiescent_FfnDwout (hFfnDwout := hFfnDwout)
    ∧ quiescent_FfnDwoutIdeal (hFfnDwoutIdeal := hFfnDwoutIdeal)
    ∧ quiescent_RefFfnDwoutIdeal (hRefFfnDwoutIdeal := hRefFfnDwoutIdeal)
    ∧ quiescent_FfnDf (hFfnDf := hFfnDf)
    ∧ quiescent_FfnDfIdeal (hFfnDfIdeal := hFfnDfIdeal)
    ∧ quiescent_RefFfnDfIdeal (hRefFfnDfIdeal := hRefFfnDfIdeal)
    ∧ quiescent_FfnDwin (hFfnDwin := hFfnDwin)
    ∧ quiescent_FfnDwinIdeal (hFfnDwinIdeal := hFfnDwinIdeal)
    ∧ quiescent_RefFfnDwinIdeal (hRefFfnDwinIdeal := hRefFfnDwinIdeal)
    ∧ quiescent_Glu (hGlu := hGlu)
    ∧ quiescent_GluIdeal (hGluIdeal := hGluIdeal)
    ∧ quiescent_RefGluIdeal (hRefGluIdeal := hRefGluIdeal)
    ∧ quiescent_GluDz (hGluDz := hGluDz)
    ∧ quiescent_GluDzIdeal (hGluDzIdeal := hGluDzIdeal)
    ∧ quiescent_RefGluDzIdeal (hRefGluDzIdeal := hRefGluDzIdeal)
    ∧ quiescent_GluDw (hGluDw := hGluDw)
    ∧ quiescent_GluDwIdeal (hGluDwIdeal := hGluDwIdeal)
    ∧ quiescent_RefGluDwIdeal (hRefGluDwIdeal := hRefGluDwIdeal)
    ∧ quiescent_AttnKv (hAttnKv := hAttnKv)
    ∧ quiescent_AttnKvIdeal (hAttnKvIdeal := hAttnKvIdeal)
    ∧ quiescent_RefAttnKvIdeal (hRefAttnKvIdeal := hRefAttnKvIdeal)
    ∧ quiescent_AttnQ (hAttnQ := hAttnQ)
    ∧ quiescent_AttnQIdeal (hAttnQIdeal := hAttnQIdeal)
    ∧ quiescent_RefAttnQIdeal (hRefAttnQIdeal := hRefAttnQIdeal)
    ∧ quiescent_AttnKvt (hAttnKvt := hAttnKvt)
    ∧ quiescent_AttnKvtIdeal (hAttnKvtIdeal := hAttnKvtIdeal)
    ∧ quiescent_RefAttnKvtIdeal (hRefAttnKvtIdeal := hRefAttnKvtIdeal)
    ∧ quiescent_AttnO (hAttnO := hAttnO)
    ∧ quiescent_AttnOIdeal (hAttnOIdeal := hAttnOIdeal)
    ∧ quiescent_RefAttnOIdeal (hRefAttnOIdeal := hRefAttnOIdeal)
    ∧ quiescent_AttnDo (hAttnDo := hAttnDo)
    ∧ quiescent_AttnDoIdeal (hAttnDoIdeal := hAttnDoIdeal)
    ∧ quiescent_RefAttnDoIdeal (hRefAttnDoIdeal := hRefAttnDoIdeal)
    ∧ quiescent_AttnDwo (hAttnDwo := hAttnDwo)
    ∧ quiescent_AttnDwoIdeal (hAttnDwoIdeal := hAttnDwoIdeal)
    ∧ quiescent_RefAttnDwoIdeal (hRefAttnDwoIdeal := hRefAttnDwoIdeal)
    ∧ quiescent_AttnDqn (hAttnDqn := hAttnDqn)
    ∧ quiescent_AttnDqnIdeal (hAttnDqnIdeal := hAttnDqnIdeal)
    ∧ quiescent_RefAttnDqnIdeal (hRefAttnDqnIdeal := hRefAttnDqnIdeal)
    ∧ quiescent_AttnDwq (hAttnDwq := hAttnDwq)
    ∧ quiescent_AttnDwqIdeal (hAttnDwqIdeal := hAttnDwqIdeal)
    ∧ quiescent_RefAttnDwqIdeal (hRefAttnDwqIdeal := hRefAttnDwqIdeal)
    ∧ quiescent_AttnDkvn (hAttnDkvn := hAttnDkvn)
    ∧ quiescent_AttnDkvnIdeal (hAttnDkvnIdeal := hAttnDkvnIdeal)
    ∧ quiescent_RefAttnDkvnIdeal (hRefAttnDkvnIdeal := hRefAttnDkvnIdeal)
    ∧ quiescent_AttnDwk (hAttnDwk := hAttnDwk)
    ∧ quiescent_AttnDwkIdeal (hAttnDwkIdeal := hAttnDwkIdeal)
    ∧ quiescent_RefAttnDwkIdeal (hRefAttnDwkIdeal := hRefAttnDwkIdeal)
    ∧ quiescent_AdamGlu (hAdamGlu := hAdamGlu)
    ∧ quiescent_AdamGluIdeal (hAdamGluIdeal := hAdamGluIdeal)
    ∧ quiescent_RefAdamGluIdeal (hRefAdamGluIdeal := hRefAdamGluIdeal)
    ∧ quiescent_AdamQ (hAdamQ := hAdamQ)
    ∧ quiescent_AdamQIdeal (hAdamQIdeal := hAdamQIdeal)
    ∧ quiescent_RefAdamQIdeal (hRefAdamQIdeal := hRefAdamQIdeal)
    ∧ quiescent_AdamFfnIn (hAdamFfnIn := hAdamFfnIn)
    ∧ quiescent_AdamFfnInIdeal (hAdamFfnInIdeal := hAdamFfnInIdeal)
    ∧ quiescent_RefAdamFfnInIdeal (hRefAdamFfnInIdeal := hRefAdamFfnInIdeal)
    ∧ quiescent_AdamFfnOut (hAdamFfnOut := hAdamFfnOut)
    ∧ quiescent_AdamFfnOutIdeal (hAdamFfnOutIdeal := hAdamFfnOutIdeal)
    ∧ quiescent_RefAdamFfnOutIdeal (hRefAdamFfnOutIdeal := hRefAdamFfnOutIdeal)
    ∧ quiescent_AdamSmall (hAdamSmall := hAdamSmall)
    ∧ quiescent_AdamSmallIdeal (hAdamSmallIdeal := hAdamSmallIdeal)
    ∧ quiescent_RefAdamSmallIdeal (hRefAdamSmallIdeal := hRefAdamSmallIdeal)
    ∧ quiescent_AdamCols (hAdamCols := hAdamCols)
    ∧ quiescent_AdamColsIdeal (hAdamColsIdeal := hAdamColsIdeal)
    ∧ quiescent_RefAdamColsIdeal (hRefAdamColsIdeal := hRefAdamColsIdeal)
    ∧ quiescent_Norm (hNorm := hNorm)
    ∧ quiescent_NormIdeal (hNormIdeal := hNormIdeal)
    ∧ quiescent_RefNormIdeal (hRefNormIdeal := hRefNormIdeal)
    ∧ quiescent_NormBwd (hNormBwd := hNormBwd)
    ∧ quiescent_NormBwdIdeal (hNormBwdIdeal := hNormBwdIdeal)
    ∧ quiescent_RefNormBwdIdeal (hRefNormBwdIdeal := hRefNormBwdIdeal)
    ∧ quiescent_Loss (hLoss := hLoss)
    ∧ quiescent_LossIdeal (hLossIdeal := hLossIdeal)
    ∧ quiescent_RefLossIdeal (hRefLossIdeal := hRefLossIdeal)
    ∧ quiescent_GluGates (hGluGates := hGluGates)
    ∧ quiescent_GluGatesIdeal (hGluGatesIdeal := hGluGatesIdeal)
    ∧ quiescent_RefGluGatesIdeal (hRefGluGatesIdeal := hRefGluGatesIdeal)
    ∧ quiescent_Gelu (hGelu := hGelu)
    ∧ quiescent_GeluIdeal (hGeluIdeal := hGeluIdeal)
    ∧ quiescent_RefGeluIdeal (hRefGeluIdeal := hRefGeluIdeal)
    ∧ quiescent_GeluBwd (hGeluBwd := hGeluBwd)
    ∧ quiescent_GeluBwdIdeal (hGeluBwdIdeal := hGeluBwdIdeal)
    ∧ quiescent_GeluBwdIdeal_pre_finite_dz (hGeluBwdIdeal := hGeluBwdIdeal) (hPre_finite_dz := hPre_finite_dz)
    ∧ quiescent_RefGeluBwdIdeal (hRefGeluBwdIdeal := hRefGeluBwdIdeal)
    ∧ quiescent_RefGeluBwdIdeal_pre_finite_dz (hRefGeluBwdIdeal := hRefGeluBwdIdeal) (hPre_finite_dz := hPre_finite_dz)
    ∧ quiescent_BProd (hBProd := hBProd)
    ∧ quiescent_BProdIdeal (hBProdIdeal := hBProdIdeal)
    ∧ quiescent_RefBProdIdeal (hRefBProdIdeal := hRefBProdIdeal)
    ∧ quiescent_CProd (hCProd := hCProd)
    ∧ quiescent_CProdIdeal (hCProdIdeal := hCProdIdeal)
    ∧ quiescent_CProdIdeal_pre_finite_imag (hCProdIdeal := hCProdIdeal) (hPre_finite_imag := hPre_finite_imag)
    ∧ quiescent_RefCProdIdeal (hRefCProdIdeal := hRefCProdIdeal)
    ∧ quiescent_RefCProdIdeal_pre_finite_imag (hRefCProdIdeal := hRefCProdIdeal) (hPre_finite_imag := hPre_finite_imag)
    ∧ quiescent_CGrad (hCGrad := hCGrad)
    ∧ quiescent_CGradIdeal (hCGradIdeal := hCGradIdeal)
    ∧ quiescent_RefCGradIdeal (hRefCGradIdeal := hRefCGradIdeal)
    ∧ quiescent_BGrad (hBGrad := hBGrad)
    ∧ quiescent_BGradIdeal (hBGradIdeal := hBGradIdeal)
    ∧ quiescent_RefBGradIdeal (hRefBGradIdeal := hRefBGradIdeal)
    ∧ preserves_Kernel_KernelIdeal
    ∧ algebraic_KernelIdeal_ReferenceIdeal (hKernelIdeal := hKernelIdeal) (hReferenceIdeal := hReferenceIdeal)
    ∧ preserves_FfnIn_FfnInIdeal
    ∧ algebraic_FfnInIdeal_RefFfnInIdeal (hFfnInIdeal := hFfnInIdeal) (hRefFfnInIdeal := hRefFfnInIdeal)
    ∧ preserves_FfnOut_FfnOutIdeal
    ∧ algebraic_FfnOutIdeal_RefFfnOutIdeal (hFfnOutIdeal := hFfnOutIdeal) (hRefFfnOutIdeal := hRefFfnOutIdeal)
    ∧ preserves_FfnDa_FfnDaIdeal
    ∧ algebraic_FfnDaIdeal_RefFfnDaIdeal_pre_finite (hFfnDaIdeal := hFfnDaIdeal) (hRefFfnDaIdeal := hRefFfnDaIdeal) (hPre_finite := hPre_finite)
    ∧ preserves_FfnDwout_FfnDwoutIdeal
    ∧ algebraic_FfnDwoutIdeal_RefFfnDwoutIdeal (hFfnDwoutIdeal := hFfnDwoutIdeal) (hRefFfnDwoutIdeal := hRefFfnDwoutIdeal)
    ∧ preserves_FfnDf_FfnDfIdeal
    ∧ algebraic_FfnDfIdeal_RefFfnDfIdeal (hFfnDfIdeal := hFfnDfIdeal) (hRefFfnDfIdeal := hRefFfnDfIdeal)
    ∧ preserves_FfnDwin_FfnDwinIdeal
    ∧ algebraic_FfnDwinIdeal_RefFfnDwinIdeal (hFfnDwinIdeal := hFfnDwinIdeal) (hRefFfnDwinIdeal := hRefFfnDwinIdeal)
    ∧ preserves_Glu_GluIdeal
    ∧ algebraic_GluIdeal_RefGluIdeal (hGluIdeal := hGluIdeal) (hRefGluIdeal := hRefGluIdeal)
    ∧ preserves_GluDz_GluDzIdeal
    ∧ algebraic_GluDzIdeal_RefGluDzIdeal (hGluDzIdeal := hGluDzIdeal) (hRefGluDzIdeal := hRefGluDzIdeal)
    ∧ preserves_GluDw_GluDwIdeal
    ∧ algebraic_GluDwIdeal_RefGluDwIdeal (hGluDwIdeal := hGluDwIdeal) (hRefGluDwIdeal := hRefGluDwIdeal)
    ∧ preserves_AttnKv_AttnKvIdeal
    ∧ algebraic_AttnKvIdeal_RefAttnKvIdeal (hAttnKvIdeal := hAttnKvIdeal) (hRefAttnKvIdeal := hRefAttnKvIdeal)
    ∧ preserves_AttnQ_AttnQIdeal
    ∧ algebraic_AttnQIdeal_RefAttnQIdeal (hAttnQIdeal := hAttnQIdeal) (hRefAttnQIdeal := hRefAttnQIdeal)
    ∧ preserves_AttnKvt_AttnKvtIdeal
    ∧ algebraic_AttnKvtIdeal_RefAttnKvtIdeal (hAttnKvtIdeal := hAttnKvtIdeal) (hRefAttnKvtIdeal := hRefAttnKvtIdeal)
    ∧ preserves_AttnO_AttnOIdeal
    ∧ algebraic_AttnOIdeal_RefAttnOIdeal (hAttnOIdeal := hAttnOIdeal) (hRefAttnOIdeal := hRefAttnOIdeal)
    ∧ preserves_AttnDo_AttnDoIdeal
    ∧ algebraic_AttnDoIdeal_RefAttnDoIdeal (hAttnDoIdeal := hAttnDoIdeal) (hRefAttnDoIdeal := hRefAttnDoIdeal)
    ∧ preserves_AttnDwo_AttnDwoIdeal
    ∧ algebraic_AttnDwoIdeal_RefAttnDwoIdeal (hAttnDwoIdeal := hAttnDwoIdeal) (hRefAttnDwoIdeal := hRefAttnDwoIdeal)
    ∧ preserves_AttnDqn_AttnDqnIdeal
    ∧ algebraic_AttnDqnIdeal_RefAttnDqnIdeal (hAttnDqnIdeal := hAttnDqnIdeal) (hRefAttnDqnIdeal := hRefAttnDqnIdeal)
    ∧ preserves_AttnDwq_AttnDwqIdeal
    ∧ algebraic_AttnDwqIdeal_RefAttnDwqIdeal (hAttnDwqIdeal := hAttnDwqIdeal) (hRefAttnDwqIdeal := hRefAttnDwqIdeal)
    ∧ preserves_AttnDkvn_AttnDkvnIdeal
    ∧ algebraic_AttnDkvnIdeal_RefAttnDkvnIdeal (hAttnDkvnIdeal := hAttnDkvnIdeal) (hRefAttnDkvnIdeal := hRefAttnDkvnIdeal)
    ∧ preserves_AttnDwk_AttnDwkIdeal
    ∧ algebraic_AttnDwkIdeal_RefAttnDwkIdeal (hAttnDwkIdeal := hAttnDwkIdeal) (hRefAttnDwkIdeal := hRefAttnDwkIdeal)
    ∧ preserves_AdamGlu_AdamGluIdeal
    ∧ algebraic_AdamGluIdeal_RefAdamGluIdeal (hAdamGluIdeal := hAdamGluIdeal) (hRefAdamGluIdeal := hRefAdamGluIdeal)
    ∧ preserves_AdamQ_AdamQIdeal
    ∧ algebraic_AdamQIdeal_RefAdamQIdeal (hAdamQIdeal := hAdamQIdeal) (hRefAdamQIdeal := hRefAdamQIdeal)
    ∧ preserves_AdamFfnIn_AdamFfnInIdeal
    ∧ algebraic_AdamFfnInIdeal_RefAdamFfnInIdeal (hAdamFfnInIdeal := hAdamFfnInIdeal) (hRefAdamFfnInIdeal := hRefAdamFfnInIdeal)
    ∧ preserves_AdamFfnOut_AdamFfnOutIdeal
    ∧ algebraic_AdamFfnOutIdeal_RefAdamFfnOutIdeal (hAdamFfnOutIdeal := hAdamFfnOutIdeal) (hRefAdamFfnOutIdeal := hRefAdamFfnOutIdeal)
    ∧ preserves_AdamSmall_AdamSmallIdeal
    ∧ algebraic_AdamSmallIdeal_RefAdamSmallIdeal (hAdamSmallIdeal := hAdamSmallIdeal) (hRefAdamSmallIdeal := hRefAdamSmallIdeal)
    ∧ preserves_AdamCols_AdamColsIdeal
    ∧ algebraic_AdamColsIdeal_RefAdamColsIdeal (hAdamColsIdeal := hAdamColsIdeal) (hRefAdamColsIdeal := hRefAdamColsIdeal)
    ∧ preserves_Norm_NormIdeal
    ∧ algebraic_NormIdeal_RefNormIdeal (hNormIdeal := hNormIdeal) (hRefNormIdeal := hRefNormIdeal)
    ∧ preserves_NormBwd_NormBwdIdeal
    ∧ algebraic_NormBwdIdeal_RefNormBwdIdeal (hNormBwdIdeal := hNormBwdIdeal) (hRefNormBwdIdeal := hRefNormBwdIdeal)
    ∧ preserves_Loss_LossIdeal
    ∧ algebraic_LossIdeal_RefLossIdeal (hLossIdeal := hLossIdeal) (hRefLossIdeal := hRefLossIdeal)
    ∧ preserves_GluGates_GluGatesIdeal
    ∧ algebraic_GluGatesIdeal_RefGluGatesIdeal (hGluGatesIdeal := hGluGatesIdeal) (hRefGluGatesIdeal := hRefGluGatesIdeal)
    ∧ preserves_Gelu_GeluIdeal
    ∧ algebraic_GeluIdeal_RefGeluIdeal (hGeluIdeal := hGeluIdeal) (hRefGeluIdeal := hRefGeluIdeal)
    ∧ preserves_GeluBwd_GeluBwdIdeal
    ∧ algebraic_GeluBwdIdeal_RefGeluBwdIdeal_pre_finite_dz (hGeluBwdIdeal := hGeluBwdIdeal) (hRefGeluBwdIdeal := hRefGeluBwdIdeal) (hPre_finite_dz := hPre_finite_dz)
    ∧ preserves_BProd_BProdIdeal
    ∧ algebraic_BProdIdeal_RefBProdIdeal (hBProdIdeal := hBProdIdeal) (hRefBProdIdeal := hRefBProdIdeal)
    ∧ preserves_CProd_CProdIdeal
    ∧ algebraic_CProdIdeal_RefCProdIdeal_pre_finite_imag (hCProdIdeal := hCProdIdeal) (hRefCProdIdeal := hRefCProdIdeal) (hPre_finite_imag := hPre_finite_imag)
    ∧ preserves_CGrad_CGradIdeal
    ∧ algebraic_CGradIdeal_RefCGradIdeal (hCGradIdeal := hCGradIdeal) (hRefCGradIdeal := hRefCGradIdeal)
    ∧ preserves_BGrad_BGradIdeal
    ∧ algebraic_BGradIdeal_RefBGradIdeal (hBGradIdeal := hBGradIdeal) (hRefBGradIdeal := hRefBGradIdeal)
-- ==== Pre_finite.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

class Facts : Prop where
  bcast_S_S4224x1024 : S_.BroadcastsInDim S4224x1024 (![] : Fin 0 → Fin S4224x1024.rank)
  bitsLt_bf16_f32 : FTy.bits .bf16 < FTy.bits .f32
  bcast_S_S2816x1024 : S_.BroadcastsInDim S2816x1024 (![] : Fin 0 → Fin S2816x1024.rank)
  bcast_S_S4224x2816 : S_.BroadcastsInDim S4224x2816 (![] : Fin 0 → Fin S4224x2816.rank)

variable [Facts]

def fn {F : FTy → Type} [FloatOps F] (main_arg0 : FVec F S4224x1024 .f32) (main_arg1 : FVec F S2816x1024 .bf16) (main_arg2 : FVec F S4224x2816 .bf16) (main_arg3 : FVec F S4224x2816 .bf16) : IVec S4224x1024 1 × IVec S2816x1024 1 × IVec S4224x2816 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S4224x2816 .f32 := (extf .f32 · bitsLt_bf16_f32) main_arg3
  let main_v8 : FVec F S4224x2816 .f32 := Host.absf main_v7
  let main_cst_1 : FVec F S_ .f32 := constant S_ .f32 0x7F800000#32
  let main_v9 : FVec F S4224x2816 .f32 := broadcastInDim S4224x2816 ![] bcast_S_S4224x2816 main_cst_1
  let main_v10 : IVec S4224x2816 1 := cmpf .olt main_v8 main_v9
  (main_v2, main_v6, main_v10)
-- ==== Pre_finite_dz.lean ====
abbrev S4224x1024 : Shape := ⟨2, ![4224, 1024]⟩
abbrev S1x1024 : Shape := ⟨2, ![1, 1024]⟩
abbrev S_ : Shape := ⟨0, ![]⟩

class Facts : Prop where
  bcast_S_S4224x1024 : S_.BroadcastsInDim S4224x1024 (![] : Fin 0 → Fin S4224x1024.rank)

variable [Facts]

def fn {F : FTy → Type} [FloatOps F] (main_arg0 : FVec F S4224x1024 .f32) (main_arg1 : FVec F S4224x1024 .f32) (main_arg2 : FVec F S1x1024 .f32) (main_arg3 : FVec F S4224x1024 .f32) : IVec S4224x1024 1 :=
  let main_v0 : FVec F S4224x1024 .f32 := Host.absf main_arg3
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  main_v2
-- ==== Pre_finite_imag.lean ====
abbrev S4224x4096 : Shape := ⟨2, ![4224, 4096]⟩
abbrev S64x16x64 : Shape := ⟨3, ![64, 16, 64]⟩
abbrev S_ : Shape := ⟨0, ![]⟩

class Facts : Prop where
  bitsLt_bf16_f32 : FTy.bits .bf16 < FTy.bits .f32
  bcast_S_S4224x4096 : S_.BroadcastsInDim S4224x4096 (![] : Fin 0 → Fin S4224x4096.rank)
  bcast_S_S64x16x64 : S_.BroadcastsInDim S64x16x64 (![] : Fin 0 → Fin S64x16x64.rank)

variable [Facts]

def fn {F : FTy → Type} [FloatOps F] (main_arg0 : FVec F S4224x4096 .bf16) (main_arg1 : FVec F S4224x4096 .bf16) (main_arg2 : FVec F S64x16x64 .f32) (main_arg3 : FVec F S64x16x64 .f32) : IVec S4224x4096 1 × IVec S64x16x64 1 :=
  let main_v0 : FVec F S4224x4096 .f32 := (extf .f32 · bitsLt_bf16_f32) main_arg1
  let main_v1 : FVec F S4224x4096 .f32 := Host.absf main_v0
  let main_cst : FVec F S_ .f32 := constant S_ .f32 0x7F800000#32
  let main_v2 : FVec F S4224x4096 .f32 := broadcastInDim S4224x4096 ![] bcast_S_S4224x4096 main_cst
  let main_v3 : IVec S4224x4096 1 := cmpf .olt main_v1 main_v2
  let main_v4 : FVec F S64x16x64 .f32 := Host.absf main_arg3
  let main_cst_0 : FVec F S_ .f32 := constant S_ .f32 0x7F800000#32
  let main_v5 : FVec F S64x16x64 .f32 := broadcastInDim S64x16x64 ![] bcast_S_S64x16x64 main_cst_0
  let main_v6 : IVec S64x16x64 1 := cmpf .olt main_v4 main_v5
  (main_v3, main_v6)
-- ==== Kernel.lean ====
abbrev S4224x32x128 : Shape := ⟨3, ![4224, 32, 128]⟩
abbrev S32x128 : Shape := ⟨2, ![32, 128]⟩
abbrev S128x32x128 : Shape := ⟨3, ![128, 32, 128]⟩
abbrev S2x32x128 : Shape := ⟨3, ![2, 32, 128]⟩
abbrev S1x32x128 : Shape := ⟨3, ![1, 32, 128]⟩

abbrev nBuf : Space → Nat
  | .hbm => 12
  | .vmem => 28
  | .smem => 0
  | _ => 0

abbrev bufTy : (tb : Table) → Fin (tcTables nBuf tb) → BufTy
  | .hbm, ⟨0, _⟩ => ⟨S4224x32x128, .bf16⟩
  | .hbm, ⟨1, _⟩ => ⟨S4224x32x128, .bf16⟩
  | .hbm, ⟨2, _⟩ => ⟨S32x128, .f32⟩
  | .hbm, ⟨3, _⟩ => ⟨S32x128, .f32⟩
  | .hbm, ⟨4, _⟩ => ⟨S4224x32x128, .bf16⟩
  | .hbm, ⟨5, _⟩ => ⟨S4224x32x128, .bf16⟩
  | .hbm, ⟨6, _⟩ => ⟨S4224x32x128, .bf16⟩
  | .hbm, ⟨7, _⟩ => ⟨S4224x32x128, .bf16⟩
  | .hbm, ⟨8, _⟩ => ⟨S4224x32x128, .bf16⟩
  | .hbm, ⟨9, _⟩ => ⟨S4224x32x128, .bf16⟩
  | .hbm, ⟨10, _⟩ => ⟨S32x128, .f32⟩
  | .hbm, ⟨11, _⟩ => ⟨S32x128, .f32⟩
  | .local _ .vmem, ⟨0, _⟩ => ⟨S128x32x128, .bf16⟩
  | .local _ .vmem, ⟨1, _⟩ => ⟨S128x32x128, .bf16⟩
  | .local _ .vmem, ⟨2, _⟩ => ⟨S128x32x128, .bf16⟩
  | .local _ .vmem, ⟨3, _⟩ => ⟨S128x32x128, .bf16⟩
  | .local _ .vmem, ⟨4, _⟩ => ⟨S32x128, .f32⟩
  | .local _ .vmem, ⟨5, _⟩ => ⟨S32x128, .f32⟩
  | .local _ .vmem, ⟨6, _⟩ => ⟨S128x32x128, .bf16⟩
  | .local _ .vmem, ⟨7, _⟩ => ⟨S128x32x128, .bf16⟩
  | .local _ .vmem, ⟨8, _⟩ => ⟨S128x32x128, .bf16⟩
  | .local _ .vmem, ⟨9, _⟩ => ⟨S128x32x128, .bf16⟩
  | .local _ .vmem, ⟨10, _⟩ => ⟨S2x32x128, .f32⟩
  | .local _ .vmem, ⟨11, _⟩ => ⟨S128x32x128, .bf16⟩
  | .local _ .vmem, ⟨12, _⟩ => ⟨S128x32x128, .bf16⟩
  | .local _ .vmem, ⟨13, _⟩ => ⟨S128x32x128, .bf16⟩
  | .local _ .vmem, ⟨14, _⟩ => ⟨S128x32x128, .bf16⟩
  | .local _ .vmem, ⟨15, _⟩ => ⟨S32x128, .f32⟩
  | .local _ .vmem, ⟨16, _⟩ => ⟨S32x128, .f32⟩
  | .local _ .vmem, ⟨17, _⟩ => ⟨S128x32x128, .bf16⟩
  | .local _ .vmem, ⟨18, _⟩ => ⟨S128x32x128, .bf16⟩
  | .local _ .vmem, ⟨19, _⟩ => ⟨S128x32x128, .bf16⟩
  | .local _ .vmem, ⟨20, _⟩ => ⟨S128x32x128, .bf16⟩
  | .local _ .vmem, ⟨21, _⟩ => ⟨S128x32x128, .bf16⟩
  | .local _ .vmem, ⟨22, _⟩ => ⟨S128x32x128, .bf16⟩
  | .local _ .vmem, ⟨23, _⟩ => ⟨S128x32x128, .bf16⟩
  | .local _ .vmem, ⟨24, _⟩ => ⟨S128x32x128, .bf16⟩
  | .local _ .vmem, ⟨25, _⟩ => ⟨S32x128, .f32⟩
  | .local _ .vmem, ⟨26, _⟩ => ⟨S32x128, .f32⟩
  | .local _ .vmem, ⟨27, _⟩ => ⟨S2x32x128, .f32⟩
  | _, _ => ⟨S4224x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg9_0 : Ref sig .tc := ⟨.vmem, 26, rfl⟩
abbrev cc1_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem9_0 : DmaSem sig := 25

abbrev nD : Nat := 1
abbrev τ : Topo := Topo.v7x

variable {F : FTy → Type} [FloatOps F]

abbrev grid0 : Pipeline.Grid := ⟨1, ![33], ![false]⟩

@[reducible] def k0_t1_loop : Scf.Loop 32 :=
  let c0_i32_9 : BitVec 32 := 0#32
  let c128_i32 : BitVec 32 := 128#32
  let v9 : BitVec 32 := Scalar.addi c0_i32_9 c128_i32
  let c1_i32 : BitVec 32 := 1#32
  ⟨c0_i32_9, v9, c1_i32⟩
def k0_off1 (k0_t1 : Fin k0_t1_loop.trips) : Fin 3 → Nat :=
  let c0_i32_9 : BitVec 32 := 0#32
  let c1_i32 : BitVec 32 := 1#32
  let arg8 : BitVec 32 := Scf.iv c0_i32_9 c1_i32 k0_t1
  let v20 : Index := Scalar.indexCast arg8
  let c0_17 : Index := 0#32
  let c0_18 : Index := 0#32
  ![v20.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x32x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x32x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x32x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![33], ![false]⟩

@[reducible] def k1_t1_loop : Scf.Loop 32 :=
  let c0_i32_13 : BitVec 32 := 0#32
  let c128_i32 : BitVec 32 := 128#32
  let v13 : BitVec 32 := Scalar.addi c0_i32_13 c128_i32
  let c1_i32 : BitVec 32 := 1#32
  ⟨c0_i32_13, v13, c1_i32⟩
def k1_off1 (k1_t1 : Fin k1_t1_loop.trips) : Fin 3 → Nat :=
  let c127_i32 : BitVec 32 := 127#32
  let c0_i32_13 : BitVec 32 := 0#32
  let c1_i32 : BitVec 32 := 1#32
  let arg12 : BitVec 32 := Scf.iv c0_i32_13 c1_i32 k1_t1
  let v23 : BitVec 32 := Scalar.subi c127_i32 arg12
  let v24 : Index := Scalar.indexCast v23
  let c0_25 : Index := 0#32
  let c0_26 : Index := 0#32
  ![v24.toNat, 0, 0]
def cc1_transform_0 (i : grid1.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![v0.toNat, c0_i32.toNat, c0_i32_0.toNat]

def cc1_transform_5 (i : grid1.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![v0.toNat, c0_i32.toNat, c0_i32_0.toNat]

def cc1_transform_6 (i : grid1.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![v0.toNat, c0_i32.toNat, c0_i32_0.toNat]

def cc1_transform_7 (i : grid1.Coords) : Fin 3 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  let c0_i32_1 : BitVec 32 := 0#32
  ![v0.toNat, c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x32x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x32x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S128x32x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x32x128 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x32x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x32x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S32x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceIdeal.lean ====
abbrev S4224x32x128 : Shape := ⟨3, ![4224, 32, 128]⟩
abbrev S32x128 : Shape := ⟨2, ![32, 128]⟩
abbrev S_ : Shape := ⟨0, ![]⟩
abbrev S1x32x128 : Shape := ⟨3, ![1, 32, 128]⟩

abbrev nBuf : Space → Nat
  | .hbm => 151
  | .vmem => 0
  | .smem => 0
  | _ => 0

abbrev hbmTy0_0 (i : Nat) : BufTy := match i % 128 with
  | 0 => ⟨S4224x32x128, .bf16⟩
  | 1 => ⟨S4224x32x128, .bf16⟩
  | 2 => ⟨S32x128, .f32⟩
  | 3 => ⟨S32x128, .f32⟩
  | 4 => ⟨S4224x32x128, .bf16⟩
  | 5 => ⟨S4224x32x128, .bf16⟩
  | 6 => ⟨S_, .f32⟩
  | 7 => ⟨S32x128, .f32⟩
  | 8 => ⟨S_, .bf16⟩
  | 9 => ⟨S4224x32x128, .bf16⟩
  | 10 => ⟨S_, .bf16⟩
  | 11 => ⟨S4224x32x128, .bf16⟩
  | 12 => ⟨S_, .f32⟩
  | 13 => ⟨S4224x32x128, .f32⟩
  | 14 => ⟨S_, .f32⟩
  | 15 => ⟨S4224x32x128, .f32⟩
  | 16 => ⟨S_, .i32⟩
  | 17 => ⟨S4224x32x128, .bf16⟩
  | 18 => ⟨S4224x32x128, .bf16⟩
  | 19 => ⟨S32x128, .f32⟩
  | 20 => ⟨S32x128, .f32⟩
  | 21 => ⟨S_, .i32⟩
  | 22 => ⟨S32x128, .f32⟩
  | 23 => ⟨S32x128, .f32⟩
  | 24 => ⟨S4224x32x128, .bf16⟩
  | 25 => ⟨S4224x32x128, .bf16⟩
  | 26 => ⟨S4224x32x128, .f32⟩
  | 27 => ⟨S4224x32x128, .f32⟩
  | 28 => ⟨S_, .i32⟩
  | 29 => ⟨S_, .i1⟩
  | 30 => ⟨S_, .i32⟩
  | 31 => ⟨S_, .i32⟩
  | 32 => ⟨S1x32x128, .bf16⟩
  | 33 => ⟨S32x128, .bf16⟩
  | 34 => ⟨S_, .i32⟩
  | 35 => ⟨S_, .i32⟩
  | 36 => ⟨S1x32x128, .bf16⟩
  | 37 => ⟨S32x128, .bf16⟩
  | 38 => ⟨S32x128, .f32⟩
  | 39 => ⟨S32x128, .f32⟩
  | 40 => ⟨S32x128, .f32⟩
  | 41 => ⟨S32x128, .f32⟩
  | 42 => ⟨S32x128, .f32⟩
  | 43 => ⟨S32x128, .f32⟩
  | 44 => ⟨S32x128, .f32⟩
  | 45 => ⟨S32x128, .f32⟩
  | 46 => ⟨S32x128, .f32⟩
  | 47 => ⟨S32x128, .f32⟩
  | 48 => ⟨S32x128, .bf16⟩
  | 49 => ⟨S32x128, .bf16⟩
  | 50 => ⟨S1x32x128, .bf16⟩
  | 51 => ⟨S_, .i32⟩
  | 52 => ⟨S_, .i32⟩
  | 53 => ⟨S4224x32x128, .bf16⟩
  | 54 => ⟨S1x32x128, .bf16⟩
  | 55 => ⟨S_, .i32⟩
  | 56 => ⟨S_, .i32⟩
  | 57 => ⟨S4224x32x128, .bf16⟩
  | 58 => ⟨S1x32x128, .f32⟩
  | 59 => ⟨S_, .i32⟩
  | 60 => ⟨S_, .i32⟩
  | 61 => ⟨S4224x32x128, .f32⟩
  | 62 => ⟨S1x32x128, .f32⟩
  | 63 => ⟨S_, .i32⟩
  | 64 => ⟨S_, .i32⟩
  | 65 => ⟨S4224x32x128, .f32⟩
  | 66 => ⟨S_, .i32⟩
  | 67 => ⟨S_, .i32⟩
  | 68 => ⟨S_, .f32⟩
  | 69 => ⟨S32x128, .f32⟩
  | 70 => ⟨S_, .f32⟩
  | 71 => ⟨S32x128, .f32⟩
  | 72 => ⟨S_, .f32⟩
  | 73 => ⟨S32x128, .f32⟩
  | 74 => ⟨S_, .f32⟩
  | 75 => ⟨S32x128, .f32⟩
  | 76 => ⟨S_, .f32⟩
  | 77 => ⟨S32x128, .f32⟩
  | 78 => ⟨S_, .f32⟩
  | 79 => ⟨S32x128, .f32⟩
  | 80 => ⟨S_, .bf16⟩
  | 81 => ⟨S4224x32x128, .bf16⟩
  | 82 => ⟨S_, .bf16⟩
  | 83 => ⟨S4224x32x128, .bf16⟩
  | 84 => ⟨S_, .i32⟩
  | 85 => ⟨S4224x32x128, .bf16⟩
  | 86 => ⟨S4224x32x128, .bf16⟩
  | 87 => ⟨S4224x32x128, .f32⟩
  | 88 => ⟨S4224x32x128, .f32⟩
  | 89 => ⟨S32x128, .f32⟩
  | 90 => ⟨S32x128, .f32⟩
  | 91 => ⟨S_, .i32⟩
  | 92 => ⟨S32x128, .f32⟩
  | 93 => ⟨S32x128, .f32⟩
  | 94 => ⟨S32x128, .f32⟩
  | 95 => ⟨S32x128, .f32⟩
  | 96 => ⟨S4224x32x128, .bf16⟩
  | 97 => ⟨S4224x32x128, .bf16⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S_, .i32⟩
  | 106 => ⟨S1x32x128, .bf16⟩
  | 107 => ⟨S32x128, .bf16⟩
  | 108 => ⟨S_, .i32⟩
  | 109 => ⟨S_, .i32⟩
  | 110 => ⟨S1x32x128, .bf16⟩
  | 111 => ⟨S32x128, .bf16⟩
  | 112 => ⟨S_, .i32⟩
  | 113 => ⟨S_, .i32⟩
  | 114 => ⟨S1x32x128, .f32⟩
  | 115 => ⟨S32x128, .f32⟩
  | 116 => ⟨S_, .i32⟩
  | 117 => ⟨S_, .i32⟩
  | 118 => ⟨S1x32x128, .f32⟩
  | 119 => ⟨S32x128, .f32⟩
  | 120 => ⟨S32x128, .f32⟩
  | 121 => ⟨S32x128, .f32⟩
  | 122 => ⟨S32x128, .f32⟩
  | 123 => ⟨S32x128, .f32⟩
  | 124 => ⟨S32x128, .bf16⟩
  | 125 => ⟨S32x128, .f32⟩
  | 126 => ⟨S32x128, .f32⟩
  | 127 => ⟨S32x128, .f32⟩
  | _ => ⟨S4224x32x128, .bf16⟩

abbrev hbmTy0_1 (i : Nat) : BufTy := match i % 128 with
  | 0 => ⟨S32x128, .f32⟩
  | 1 => ⟨S32x128, .f32⟩
  | 2 => ⟨S32x128, .f32⟩
  | 3 => ⟨S32x128, .bf16⟩
  | 4 => ⟨S32x128, .f32⟩
  | 5 => ⟨S32x128, .f32⟩
  | 6 => ⟨S32x128, .f32⟩
  | 7 => ⟨S32x128, .f32⟩
  | 8 => ⟨S32x128, .f32⟩
  | 9 => ⟨S32x128, .f32⟩
  | 10 => ⟨S32x128, .f32⟩
  | 11 => ⟨S32x128, .f32⟩
  | 12 => ⟨S32x128, .f32⟩
  | 13 => ⟨S1x32x128, .bf16⟩
  | 14 => ⟨S_, .i32⟩
  | 15 => ⟨S_, .i32⟩
  | 16 => ⟨S4224x32x128, .bf16⟩
  | 17 => ⟨S1x32x128, .bf16⟩
  | 18 => ⟨S_, .i32⟩
  | 19 => ⟨S_, .i32⟩
  | 20 => ⟨S4224x32x128, .bf16⟩
  | 21 => ⟨S_, .i32⟩
  | 22 => ⟨S_, .i32⟩
  | _ => ⟨S4224x32x128, .bf16⟩

abbrev hbmTy (i : Nat) : BufTy := match i / 128 with
  | 0 => hbmTy0_0 i
  | 1 => hbmTy0_1 i
  | _ => ⟨S4224x32x128, .bf16⟩

abbrev bufTy : (tb : Table) → Fin (tcTables nBuf tb) → BufTy
  | .hbm, ⟨i, _⟩ => hbmTy i
  | _, _ => ⟨S4224x32x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_cst_2 : Ref sig .tc := ⟨.hbm, 12, rfl⟩
abbrev main_v3 : Ref sig .tc := ⟨.hbm, 13, rfl⟩
abbrev main_cst_3 : Ref sig .tc := ⟨.hbm, 14, rfl⟩
abbrev main_v4 : Ref sig .tc := ⟨.hbm, 15, rfl⟩
abbrev main_c : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v5_3 : Ref sig .tc := ⟨.hbm, 20, rfl⟩
abbrev main_v5_4 : Ref sig .tc := ⟨.hbm, 21, rfl⟩
abbrev main_v5_5 : Ref sig .tc := ⟨.hbm, 22, rfl⟩
abbrev main_v5_6 : Ref sig .tc := ⟨.hbm, 23, rfl⟩
abbrev main_v5_7 : Ref sig .tc := ⟨.hbm, 24, rfl⟩
abbrev main_v5_8 : Ref sig .tc := ⟨.hbm, 25, rfl⟩
abbrev main_v5_9 : Ref sig .tc := ⟨.hbm, 26, rfl⟩
abbrev main_v5_10 : Ref sig .tc := ⟨.hbm, 27, rfl⟩
abbrev main_while0c_c_23 : Ref sig .tc := ⟨.hbm, 28, rfl⟩
abbrev main_while0c_v15 : Ref sig .tc := ⟨.hbm, 29, rfl⟩
abbrev main_while0b_call0_c : Ref sig .tc := ⟨.hbm, 30, rfl⟩
abbrev main_while0b_call0_c_0 : Ref sig .tc := ⟨.hbm, 31, rfl⟩
abbrev main_while0b_call0_v0 : Ref sig .tc := ⟨.hbm, 32, rfl⟩
abbrev main_while0b_v15 : Ref sig .tc := ⟨.hbm, 33, rfl⟩
abbrev main_while0b_call1_c : Ref sig .tc := ⟨.hbm, 34, rfl⟩
abbrev main_while0b_call1_c_0 : Ref sig .tc := ⟨.hbm, 35, rfl⟩
abbrev main_while0b_call1_v0 : Ref sig .tc := ⟨.hbm, 36, rfl⟩
abbrev main_while0b_v16 : Ref sig .tc := ⟨.hbm, 37, rfl⟩
abbrev main_while0b_v17 : Ref sig .tc := ⟨.hbm, 38, rfl⟩
abbrev main_while0b_v18 : Ref sig .tc := ⟨.hbm, 39, rfl⟩
abbrev main_while0b_v19 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_call2_c_0 : Ref sig .tc := ⟨.hbm, 52, rfl⟩
abbrev main_while0b_v29 : Ref sig .tc := ⟨.hbm, 53, rfl⟩
abbrev main_while0b_call3_v0 : Ref sig .tc := ⟨.hbm, 54, rfl⟩
abbrev main_while0b_call3_c : Ref sig .tc := ⟨.hbm, 55, rfl⟩
abbrev main_while0b_call3_c_0 : Ref sig .tc := ⟨.hbm, 56, rfl⟩
abbrev main_while0b_v30 : Ref sig .tc := ⟨.hbm, 57, rfl⟩
abbrev main_while0b_call4_v0 : Ref sig .tc := ⟨.hbm, 58, rfl⟩
abbrev main_while0b_call4_c : Ref sig .tc := ⟨.hbm, 59, rfl⟩
abbrev main_while0b_call4_c_0 : Ref sig .tc := ⟨.hbm, 60, rfl⟩
abbrev main_while0b_v31 : Ref sig .tc := ⟨.hbm, 61, rfl⟩
abbrev main_while0b_call5_v0 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_v32 : Ref sig .tc := ⟨.hbm, 65, rfl⟩
abbrev main_while0b_c_23 : Ref sig .tc := ⟨.hbm, 66, rfl⟩
abbrev main_while0b_v33 : Ref sig .tc := ⟨.hbm, 67, rfl⟩
abbrev main_cst_4 : Ref sig .tc := ⟨.hbm, 68, rfl⟩
abbrev main_v6 : Ref sig .tc := ⟨.hbm, 69, rfl⟩
abbrev main_cst_5 : Ref sig .tc := ⟨.hbm, 70, rfl⟩
abbrev main_v7 : Ref sig .tc := ⟨.hbm, 71, rfl⟩
abbrev main_cst_6 : Ref sig .tc := ⟨.hbm, 72, rfl⟩
abbrev main_v8 : Ref sig .tc := ⟨.hbm, 73, rfl⟩
abbrev main_cst_7 : Ref sig .tc := ⟨.hbm, 74, rfl⟩
abbrev main_v9 : Ref sig .tc := ⟨.hbm, 75, rfl⟩
abbrev main_cst_8 : Ref sig .tc := ⟨.hbm, 76, rfl⟩
abbrev main_v10 : Ref sig .tc := ⟨.hbm, 77, rfl⟩
abbrev main_cst_9 : Ref sig .tc := ⟨.hbm, 78, rfl⟩
abbrev main_v11 : Ref sig .tc := ⟨.hbm, 79, rfl⟩
abbrev main_cst_10 : Ref sig .tc := ⟨.hbm, 80, rfl⟩
abbrev main_v12 : Ref sig .tc := ⟨.hbm, 81, rfl⟩
abbrev main_cst_11 : Ref sig .tc := ⟨.hbm, 82, rfl⟩
abbrev main_v13 : Ref sig .tc := ⟨.hbm, 83, rfl⟩
abbrev main_c_12 : Ref sig .tc := ⟨.hbm, 84, rfl⟩
abbrev main_v14_0 : Ref sig .tc := ⟨.hbm, 85, rfl⟩
abbrev main_v14_1 : Ref sig .tc := ⟨.hbm, 86, rfl⟩
abbrev main_v14_2 : Ref sig .tc := ⟨.hbm, 87, rfl⟩
abbrev main_v14_3 : Ref sig .tc := ⟨.hbm, 88, rfl⟩
abbrev main_v14_4 : Ref sig .tc := ⟨.hbm, 89, rfl⟩
abbrev main_v14_5 : Ref sig .tc := ⟨.hbm, 90, rfl⟩
abbrev main_v14_6 : Ref sig .tc := ⟨.hbm, 91, rfl⟩
abbrev main_v14_7 : Ref sig .tc := ⟨.hbm, 92, rfl⟩
abbrev main_v14_8 : Ref sig .tc := ⟨.hbm, 93, rfl⟩
abbrev main_v14_9 : Ref sig .tc := ⟨.hbm, 94, rfl⟩
abbrev main_v14_10 : Ref sig .tc := ⟨.hbm, 95, rfl⟩
abbrev main_v14_11 : Ref sig .tc := ⟨.hbm, 96, rfl⟩
abbrev main_v14_12 : Ref sig .tc := ⟨.hbm, 97, rfl⟩
abbrev main_while1c_c_25 : Ref sig .tc := ⟨.hbm, 98, rfl⟩
abbrev main_while1c_v15 : Ref sig .tc := ⟨.hbm, 99, rfl⟩
abbrev main_while1b_c_25 : Ref sig .tc := ⟨.hbm, 100, rfl⟩
abbrev main_while1b_v15 : Ref sig .tc := ⟨.hbm, 101, rfl⟩
abbrev main_while1b_c_26 : Ref sig .tc := ⟨.hbm, 102, rfl⟩
abbrev main_while1b_v16 : Ref sig .tc := ⟨.hbm, 103, rfl⟩
abbrev main_while1b_call6_c : Ref sig .tc := ⟨.hbm, 104, rfl⟩
abbrev main_while1b_call6_c_0 : Ref sig .tc := ⟨.hbm, 105, rfl⟩
abbrev main_while1b_call6_v0 : Ref sig .tc := ⟨.hbm, 106, rfl⟩
abbrev main_while1b_v17 : Ref sig .tc := ⟨.hbm, 107, rfl⟩
abbrev main_while1b_call7_c : Ref sig .tc := ⟨.hbm, 108, rfl⟩
abbrev main_while1b_call7_c_0 : Ref sig .tc := ⟨.hbm, 109, rfl⟩
abbrev main_while1b_call7_v0 : Ref sig .tc := ⟨.hbm, 110, rfl⟩
abbrev main_while1b_v18 : Ref sig .tc := ⟨.hbm, 111, rfl⟩
abbrev main_while1b_call8_c : Ref sig .tc := ⟨.hbm, 112, rfl⟩
abbrev main_while1b_call8_c_0 : Ref sig .tc := ⟨.hbm, 113, rfl⟩
abbrev main_while1b_call8_v0 : Ref sig .tc := ⟨.hbm, 114, rfl⟩
abbrev main_while1b_v19 : Ref sig .tc := ⟨.hbm, 115, rfl⟩
abbrev main_while1b_call9_c : Ref sig .tc := ⟨.hbm, 116, rfl⟩
abbrev main_while1b_call9_c_0 : Ref sig .tc := ⟨.hbm, 117, rfl⟩
abbrev main_while1b_call9_v0 : Ref sig .tc := ⟨.hbm, 118, rfl⟩
abbrev main_while1b_v20 : Ref sig .tc := ⟨.hbm, 119, rfl⟩
abbrev main_while1b_v21 : Ref sig .tc := ⟨.hbm, 120, rfl⟩
abbrev main_while1b_v22 : Ref sig .tc := ⟨.hbm, 121, rfl⟩
abbrev main_while1b_v23 : Ref sig .tc := ⟨.hbm, 122, rfl⟩
abbrev main_while1b_v24 : Ref sig .tc := ⟨.hbm, 123, rfl⟩
abbrev main_while1b_v25 : Ref sig .tc := ⟨.hbm, 124, rfl⟩
abbrev main_while1b_v26 : Ref sig .tc := ⟨.hbm, 125, rfl⟩
abbrev main_while1b_v27 : Ref sig .tc := ⟨.hbm, 126, rfl⟩
abbrev main_while1b_v28 : Ref sig .tc := ⟨.hbm, 127, rfl⟩
abbrev main_while1b_v29 : Ref sig .tc := ⟨.hbm, 128, rfl⟩
abbrev main_while1b_v30 : Ref sig .tc := ⟨.hbm, 129, rfl⟩
abbrev main_while1b_v31 : Ref sig .tc := ⟨.hbm, 130, rfl⟩
abbrev main_while1b_v32 : Ref sig .tc := ⟨.hbm, 131, rfl⟩
abbrev main_while1b_v33 : Ref sig .tc := ⟨.hbm, 132, rfl⟩
abbrev main_while1b_v34 : Ref sig .tc := ⟨.hbm, 133, rfl⟩
abbrev main_while1b_v35 : Ref sig .tc := ⟨.hbm, 134, rfl⟩
abbrev main_while1b_v36 : Ref sig .tc := ⟨.hbm, 135, rfl⟩
abbrev main_while1b_v37 : Ref sig .tc := ⟨.hbm, 136, rfl⟩
abbrev main_while1b_v38 : Ref sig .tc := ⟨.hbm, 137, rfl⟩
abbrev main_while1b_v39 : Ref sig .tc := ⟨.hbm, 138, rfl⟩
abbrev main_while1b_v40 : Ref sig .tc := ⟨.hbm, 139, rfl⟩
abbrev main_while1b_v41 : Ref sig .tc := ⟨.hbm, 140, rfl⟩
abbrev main_while1b_call10_v0 : Ref sig .tc := ⟨.hbm, 141, rfl⟩
abbrev main_while1b_call10_c : Ref sig .tc := ⟨.hbm, 142, rfl⟩
abbrev main_while1b_call10_c_0 : Ref sig .tc := ⟨.hbm, 143, rfl⟩
abbrev main_while1b_v42 : Ref sig .tc := ⟨.hbm, 144, rfl⟩
abbrev main_while1b_call11_v0 : Ref sig .tc := ⟨.hbm, 145, rfl⟩
abbrev main_while1b_call11_c : Ref sig .tc := ⟨.hbm, 146, rfl⟩
abbrev main_while1b_call11_c_0 : Ref sig .tc := ⟨.hbm, 147, rfl⟩
abbrev main_while1b_v43 : Ref sig .tc := ⟨.hbm, 148, rfl⟩
abbrev main_while1b_c_27 : Ref sig .tc := ⟨.hbm, 149, rfl⟩
abbrev main_while1b_v44 : Ref sig .tc := ⟨.hbm, 150, rfl⟩

abbrev nD : Nat := 1
abbrev τ : Topo := Topo.v7x

variable {F : FTy → Type} [FloatOps F]

abbrev main_while0_count : Scf.Loop 32 := ⟨0#32, 4224#32, 1#32⟩

abbrev main_while1_count : Scf.Loop 32 := ⟨0#32, 4224#32, 1#32⟩
-- ==== FfnIn.lean ====
abbrev S4224x1024 : Shape := ⟨2, ![4224, 1024]⟩
abbrev S1024x5632 : Shape := ⟨2, ![1024, 5632]⟩
abbrev S4224x2816 : Shape := ⟨2, ![4224, 2816]⟩
abbrev S1408x1024 : Shape := ⟨2, ![1408, 1024]⟩
abbrev S1024x256 : Shape := ⟨2, ![1024, 256]⟩
abbrev S1408x256 : Shape := ⟨2, ![1408, 256]⟩

abbrev nBuf : Space → Nat
  | .hbm => 5
  | .vmem => 12
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x2816, .bf16⟩
  | .hbm, ⟨3, _⟩ => ⟨S4224x2816, .bf16⟩
  | .hbm, ⟨4, _⟩ => ⟨S4224x2816, .bf16⟩
  | .local _ .vmem, ⟨0, _⟩ => ⟨S1408x1024, .bf16⟩
  | .local _ .vmem, ⟨1, _⟩ => ⟨S1408x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1408x256, .bf16⟩
  | .local _ .vmem, ⟨7, _⟩ => ⟨S1408x256, .bf16⟩
  | .local _ .vmem, ⟨8, _⟩ => ⟨S1408x256, .bf16⟩
  | .local _ .vmem, ⟨9, _⟩ => ⟨S1408x256, .bf16⟩
  | .local _ .vmem, ⟨10, _⟩ => ⟨S1408x256, .bf16⟩
  | .local _ .vmem, ⟨11, _⟩ => ⟨S1408x256, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![3, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg1 c11_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefFfnInIdeal.lean ====
abbrev S4224x1024 : Shape := ⟨2, ![4224, 1024]⟩
abbrev S1024x5632 : Shape := ⟨2, ![1024, 5632]⟩
abbrev S4224x5632 : Shape := ⟨2, ![4224, 5632]⟩
abbrev S4224x2816 : Shape := ⟨2, ![4224, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x5632, .bf16⟩
  | .hbm, ⟨2, _⟩ => ⟨S4224x1024, .f32⟩
  | .hbm, ⟨3, _⟩ => ⟨S1024x5632, .f32⟩
  | .hbm, ⟨4, _⟩ => ⟨S4224x5632, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S4224x2816, .f32⟩
  | .hbm, ⟨9, _⟩ => ⟨S_, .f32⟩
  | .hbm, ⟨10, _⟩ => ⟨S4224x2816, .f32⟩
  | .hbm, ⟨11, _⟩ => ⟨S4224x2816, .f32⟩
  | .hbm, ⟨12, _⟩ => ⟨S_, .f32⟩
  | .hbm, ⟨13, _⟩ => ⟨S4224x2816, .f32⟩
  | .hbm, ⟨14, _⟩ => ⟨S4224x2816, .f32⟩
  | .hbm, ⟨15, _⟩ => ⟨S4224x2816, .f32⟩
  | .hbm, ⟨16, _⟩ => ⟨S4224x2816, .f32⟩
  | .hbm, ⟨17, _⟩ => ⟨S4224x2816, .bf16⟩
  | .hbm, ⟨18, _⟩ => ⟨S4224x2816, .bf16⟩
  | .hbm, ⟨19, _⟩ => ⟨S4224x2816, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== FfnOut.lean ====
abbrev S4224x2816 : Shape := ⟨2, ![4224, 2816]⟩
abbrev S2816x1024 : Shape := ⟨2, ![2816, 1024]⟩
abbrev S4224x1024 : Shape := ⟨2, ![4224, 1024]⟩
abbrev S1408x1408 : Shape := ⟨2, ![1408, 1408]⟩
abbrev S1408x512 : Shape := ⟨2, ![1408, 512]⟩

abbrev nBuf : Space → Nat
  | .hbm => 4
  | .vmem => 9
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x512, .bf16⟩
  | .local _ .vmem, ⟨3, _⟩ => ⟨S1408x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefFfnOutIdeal.lean ====
abbrev S4224x2816 : Shape := ⟨2, ![4224, 2816]⟩
abbrev S2816x1024 : Shape := ⟨2, ![2816, 1024]⟩
abbrev S4224x1024 : Shape := ⟨2, ![4224, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S2816x1024, .bf16⟩
  | .hbm, ⟨2, _⟩ => ⟨S4224x1024, .f32⟩
  | .hbm, ⟨3, _⟩ => ⟨S4224x2816, .f32⟩
  | .hbm, ⟨4, _⟩ => ⟨S2816x1024, .f32⟩
  | .hbm, ⟨5, _⟩ => ⟨S4224x1024, .f32⟩
  | .hbm, ⟨6, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDa.lean ====
abbrev S4224x1024 : Shape := ⟨2, ![4224, 1024]⟩
abbrev S2816x1024 : Shape := ⟨2, ![2816, 1024]⟩
abbrev S4224x2816 : Shape := ⟨2, ![4224, 2816]⟩
abbrev S384x1024 : Shape := ⟨2, ![384, 1024]⟩
abbrev S1408x1024 : Shape := ⟨2, ![1408, 1024]⟩
abbrev S384x1408 : Shape := ⟨2, ![384, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S4224x2816, .bf16⟩
  | .hbm, ⟨5, _⟩ => ⟨S4224x2816, .bf16⟩
  | .local _ .vmem, ⟨0, _⟩ => ⟨S384x1024, .f32⟩
  | .local _ .vmem, ⟨1, _⟩ => ⟨S384x1024, .f32⟩
  | .local _ .vmem, ⟨2, _⟩ => ⟨S1408x1024, .bf16⟩
  | .local _ .vmem, ⟨3, _⟩ => ⟨S1408x1024, .bf16⟩
  | .local _ .vmem, ⟨4, _⟩ => ⟨S384x1408, .bf16⟩
  | .local _ .vmem, ⟨5, _⟩ => ⟨S384x1408, .bf16⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S384x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== RefFfnDaIdeal.lean ====
abbrev S4224x1024 : Shape := ⟨2, ![4224, 1024]⟩
abbrev S2816x1024 : Shape := ⟨2, ![2816, 1024]⟩
abbrev S4224x2816 : Shape := ⟨2, ![4224, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S2816x1024, .bf16⟩
  | .hbm, ⟨2, _⟩ => ⟨S4224x2816, .bf16⟩
  | .hbm, ⟨3, _⟩ => ⟨S4224x2816, .bf16⟩
  | .hbm, ⟨4, _⟩ => ⟨S4224x2816, .f32⟩
  | .hbm, ⟨5, _⟩ => ⟨S4224x2816, .f32⟩
  | .hbm, ⟨6, _⟩ => ⟨S4224x2816, .f32⟩
  | .hbm, ⟨7, _⟩ => ⟨S4224x2816, .f32⟩
  | .hbm, ⟨8, _⟩ => ⟨S_, .f32⟩
  | .hbm, ⟨9, _⟩ => ⟨S4224x2816, .f32⟩
  | .hbm, ⟨10, _⟩ => ⟨S4224x2816, .f32⟩
  | .hbm, ⟨11, _⟩ => ⟨S_, .f32⟩
  | .hbm, ⟨12, _⟩ => ⟨S4224x2816, .f32⟩
  | .hbm, ⟨13, _⟩ => ⟨S4224x2816, .f32⟩
  | .hbm, ⟨14, _⟩ => ⟨S_, .f32⟩
  | .hbm, ⟨15, _⟩ => ⟨S4224x2816, .f32⟩
  | .hbm, ⟨16, _⟩ => ⟨S4224x2816, .f32⟩
  | .hbm, ⟨17, _⟩ => ⟨S4224x2816, .f32⟩
  | .hbm, ⟨18, _⟩ => ⟨S4224x2816, .f32⟩
  | .hbm, ⟨19, _⟩ => ⟨S4224x2816, .f32⟩
  | .hbm, ⟨20, _⟩ => ⟨S2816x1024, .f32⟩
  | .hbm, ⟨21, _⟩ => ⟨S4224x1024, .f32⟩
  | .hbm, ⟨22, _⟩ => ⟨S4224x2816, .f32⟩
  | .hbm, ⟨23, _⟩ => ⟨S4224x2816, .f32⟩
  | .hbm, ⟨24, _⟩ => ⟨S4224x2816, .f32⟩
  | .hbm, ⟨25, _⟩ => ⟨S4224x2816, .f32⟩
  | .hbm, ⟨26, _⟩ => ⟨S4224x2816, .f32⟩
  | .hbm, ⟨27, _⟩ => ⟨S4224x2816, .f32⟩
  | .hbm, ⟨28, _⟩ => ⟨S4224x2816, .f32⟩
  | .hbm, ⟨29, _⟩ => ⟨S4224x2816, .bf16⟩
  | .hbm, ⟨30, _⟩ => ⟨S4224x2816, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== FfnDwout.lean ====
abbrev S4224x2816 : Shape := ⟨2, ![4224, 2816]⟩
abbrev S4224x1024 : Shape := ⟨2, ![4224, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S2816x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1024, .f32⟩
  | .local _ .vmem, ⟨3, _⟩ => ⟨S1408x1024, .f32⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFfnDwoutIdeal.lean ====
abbrev S4224x2816 : Shape := ⟨2, ![4224, 2816]⟩
abbrev S4224x1024 : Shape := ⟨2, ![4224, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x1024, .f32⟩
  | .hbm, ⟨2, _⟩ => ⟨S_, .f32⟩
  | .hbm, ⟨3, _⟩ => ⟨S2816x1024, .f32⟩
  | .hbm, ⟨4, _⟩ => ⟨S4224x2816, .f32⟩
  | .hbm, ⟨5, _⟩ => ⟨S4224x1024, .f32⟩
  | .hbm, ⟨6, _⟩ => ⟨S1024x2816, .f32⟩
  | .hbm, ⟨7, _⟩ => ⟨S2816x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDf.lean ====
abbrev S4224x2816 : Shape := ⟨2, ![4224, 2816]⟩
abbrev S1024x5632 : Shape := ⟨2, ![1024, 5632]⟩
abbrev S4224x1024 : Shape := ⟨2, ![4224, 1024]⟩
abbrev S1408x1408 : Shape := ⟨2, ![1408, 1408]⟩
abbrev S512x1408 : Shape := ⟨2, ![512, 1408]⟩
abbrev S1408x512 : Shape := ⟨2, ![1408, 512]⟩

abbrev nBuf : Space → Nat
  | .hbm => 4
  | .vmem => 11
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S1024x5632, .bf16⟩
  | .hbm, ⟨3, _⟩ => ⟨S4224x1024, .f32⟩
  | .local _ .vmem, ⟨0, _⟩ => ⟨S1408x1408, .bf16⟩
  | .local _ .vmem, ⟨1, _⟩ => ⟨S1408x1408, .bf16⟩
  | .local _ .vmem, ⟨2, _⟩ => ⟨S1408x1408, .bf16⟩
  | .local _ .vmem, ⟨3, _⟩ => ⟨S1408x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S1408x512, .f32⟩
  | .local _ .vmem, ⟨9, _⟩ => ⟨S1408x512, .f32⟩
  | .local _ .vmem, ⟨10, _⟩ => ⟨S1408x512, .f32⟩
  | _, _ => ⟨S4224x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 2, 2], ![false, false, false]⟩

def k0_cond3 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_11 : BitVec 32 := 0#32
  let v15 : BitVec 1 := Scalar.cmpi .ne v14 c0_i32_11
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg2 c2_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefFfnDfIdeal.lean ====
abbrev S4224x2816 : Shape := ⟨2, ![4224, 2816]⟩
abbrev S1024x5632 : Shape := ⟨2, ![1024, 5632]⟩
abbrev S_ : Shape := ⟨0, ![]⟩
abbrev S4224x1024 : Shape := ⟨2, ![4224, 1024]⟩
abbrev S4224x5632 : Shape := ⟨2, ![4224, 5632]⟩

abbrev nBuf : Space → Nat
  | .hbm => 13
  | .vmem => 0
  | .smem => 0
  | _ => 0

abbrev bufTy : (tb : Table) → Fin (tcTables nBuf tb) → BufTy
  | .hbm, ⟨0, _⟩ => ⟨S4224x2816, .bf16⟩
  | .hbm, ⟨1, _⟩ => ⟨S4224x2816, .bf16⟩
  | .hbm, ⟨2, _⟩ => ⟨S1024x5632, .bf16⟩
  | .hbm, ⟨3, _⟩ => ⟨S_, .f32⟩
  | .hbm, ⟨4, _⟩ => ⟨S4224x1024, .f32⟩
  | .hbm, ⟨5, _⟩ => ⟨S1024x5632, .f32⟩
  | .hbm, ⟨6, _⟩ => ⟨S4224x5632, .f32⟩
  | .hbm, ⟨7, _⟩ => ⟨S4224x2816, .f32⟩
  | .hbm, ⟨8, _⟩ => ⟨S4224x2816, .f32⟩
  | .hbm, ⟨9, _⟩ => ⟨S4224x2816, .f32⟩
  | .hbm, ⟨10, _⟩ => ⟨S4224x2816, .f32⟩
  | .hbm, ⟨11, _⟩ => ⟨S4224x5632, .f32⟩
  | .hbm, ⟨12, _⟩ => ⟨S4224x1024, .f32⟩
  | _, _ => ⟨S4224x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FfnDwin.lean ====
abbrev S4224x1024 : Shape := ⟨2, ![4224, 1024]⟩
abbrev S4224x2816 : Shape := ⟨2, ![4224, 2816]⟩
abbrev S1024x2816 : Shape := ⟨2, ![1024, 2816]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S1024x2816, .f32⟩
  | .local _ .vmem, ⟨0, _⟩ => ⟨S1408x1024, .bf16⟩
  | .local _ .vmem, ⟨1, _⟩ => ⟨S1408x1024, .bf16⟩
  | .local _ .vmem, ⟨2, _⟩ => ⟨S1408x1408, .bf16⟩
  | .local _ .vmem, ⟨3, _⟩ => ⟨S1408x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefFfnDwinIdeal.lean ====
abbrev S4224x1024 : Shape := ⟨2, ![4224, 1024]⟩
abbrev S4224x2816 : Shape := ⟨2, ![4224, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x2816, .bf16⟩
  | .hbm, ⟨2, _⟩ => ⟨S_, .f32⟩
  | .hbm, ⟨3, _⟩ => ⟨S1024x2816, .f32⟩
  | .hbm, ⟨4, _⟩ => ⟨S4224x1024, .f32⟩
  | .hbm, ⟨5, _⟩ => ⟨S4224x2816, .f32⟩
  | .hbm, ⟨6, _⟩ => ⟨S4224x2816, .f32⟩
  | .hbm, ⟨7, _⟩ => ⟨S2816x1024, .f32⟩
  | .hbm, ⟨8, _⟩ => ⟨S1024x2816, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Glu.lean ====
abbrev S4224x1024 : Shape := ⟨2, ![4224, 1024]⟩
abbrev S1024x2048 : Shape := ⟨2, ![1024, 2048]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 6
  | .vmem => 14
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x1024, .f32⟩
  | .hbm, ⟨3, _⟩ => ⟨S4224x1024, .f32⟩
  | .hbm, ⟨4, _⟩ => ⟨S4224x1024, .bf16⟩
  | .hbm, ⟨5, _⟩ => ⟨S4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1408x512, .f32⟩
  | .local _ .vmem, ⟨7, _⟩ => ⟨S1408x512, .f32⟩
  | .local _ .vmem, ⟨8, _⟩ => ⟨S1408x512, .f32⟩
  | .local _ .vmem, ⟨9, _⟩ => ⟨S1408x512, .f32⟩
  | .local _ .vmem, ⟨10, _⟩ => ⟨S1408x512, .bf16⟩
  | .local _ .vmem, ⟨11, _⟩ => ⟨S1408x512, .bf16⟩
  | .local _ .vmem, ⟨12, _⟩ => ⟨S1408x512, .bf16⟩
  | .local _ .vmem, ⟨13, _⟩ => ⟨S1408x512, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi arg1 c2_i32
  let c0_i32 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1408x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1408x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== RefGluIdeal.lean ====
abbrev S4224x1024 : Shape := ⟨2, ![4224, 1024]⟩
abbrev S1024x2048 : Shape := ⟨2, ![1024, 2048]⟩
abbrev S4224x2048 : Shape := ⟨2, ![4224, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x2048, .bf16⟩
  | .hbm, ⟨2, _⟩ => ⟨S4224x1024, .f32⟩
  | .hbm, ⟨3, _⟩ => ⟨S4224x1024, .f32⟩
  | .hbm, ⟨4, _⟩ => ⟨S1024x2048, .f32⟩
  | .hbm, ⟨5, _⟩ => ⟨S4224x2048, .f32⟩
  | .hbm, ⟨6, _⟩ => ⟨S4224x1024, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .bf16⟩
  | .hbm, ⟨19, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== GluDz.lean ====
abbrev S4224x1024 : Shape := ⟨2, ![4224, 1024]⟩
abbrev S1024x2048 : Shape := ⟨2, ![1024, 2048]⟩
abbrev S1408x1024 : Shape := ⟨2, ![1408, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x2048, .bf16⟩
  | .hbm, ⟨3, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .f32⟩
  | .local _ .vmem, ⟨7, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, true]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefGluDzIdeal.lean ====
abbrev S4224x1024 : Shape := ⟨2, ![4224, 1024]⟩
abbrev S1024x2048 : Shape := ⟨2, ![1024, 2048]⟩
abbrev S_ : Shape := ⟨0, ![]⟩
abbrev S4224x2048 : Shape := ⟨2, ![4224, 2048]⟩

abbrev nBuf : Space → Nat
  | .hbm => 13
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x2048, .bf16⟩
  | .hbm, ⟨3, _⟩ => ⟨S_, .f32⟩
  | .hbm, ⟨4, _⟩ => ⟨S4224x1024, .f32⟩
  | .hbm, ⟨5, _⟩ => ⟨S1024x2048, .f32⟩
  | .hbm, ⟨6, _⟩ => ⟨S4224x2048, .f32⟩
  | .hbm, ⟨7, _⟩ => ⟨S4224x1024, .f32⟩
  | .hbm, ⟨8, _⟩ => ⟨S4224x1024, .f32⟩
  | .hbm, ⟨9, _⟩ => ⟨S4224x1024, .f32⟩
  | .hbm, ⟨10, _⟩ => ⟨S4224x1024, .f32⟩
  | .hbm, ⟨11, _⟩ => ⟨S4224x2048, .f32⟩
  | .hbm, ⟨12, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== GluDw.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefGluDwIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnKv.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S1024x1024, .bf16⟩
  | .hbm, ⟨3, _⟩ => ⟨S4224x1024, .bf16⟩
  | .hbm, ⟨4, _⟩ => ⟨S4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S1408x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefAttnKvIdeal.lean ====
abbrev S4224x1024 : Shape := ⟨2, ![4224, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S1024x1024, .bf16⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .bf16⟩
  | .hbm, ⟨7, _⟩ => ⟨S4224x1024, .f32⟩
  | .hbm, ⟨8, _⟩ => ⟨S1024x1024, .f32⟩
  | .hbm, ⟨9, _⟩ => ⟨S4224x1024, .f32⟩
  | .hbm, ⟨10, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== AttnQ.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .bf16⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefAttnQIdeal.lean ====
abbrev S4224x1024 : Shape := ⟨2, ![4224, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S1024x1024, .f32⟩
  | .hbm, ⟨4, _⟩ => ⟨S4224x1024, .f32⟩
  | .hbm, ⟨5, _⟩ => ⟨S4224x1024, .bf16⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnKvt.lean ====
abbrev S1024x1024 : Shape := ⟨2, ![1024, 1024]⟩
abbrev S4224x1024 : Shape := ⟨2, ![4224, 1024]⟩
abbrev S1024x4224 : Shape := ⟨2, ![1024, 4224]⟩
abbrev S1408x1024 : Shape := ⟨2, ![1408, 1024]⟩
abbrev S1024x1408 : Shape := ⟨2, ![1024, 1408]⟩

abbrev nBuf : Space → Nat
  | .hbm => 5
  | .vmem => 8
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S4224x1024, .bf16⟩
  | .hbm, ⟨3, _⟩ => ⟨S1024x4224, .bf16⟩
  | .hbm, ⟨4, _⟩ => ⟨S1024x4224, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefAttnKvtIdeal.lean ====
abbrev S1024x1024 : Shape := ⟨2, ![1024, 1024]⟩
abbrev S4224x1024 : Shape := ⟨2, ![4224, 1024]⟩
abbrev S1024x4224 : Shape := ⟨2, ![1024, 4224]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S4224x1024, .bf16⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S4224x1024, .f32⟩
  | .hbm, ⟨9, _⟩ => ⟨S1024x4224, .f32⟩
  | .hbm, ⟨10, _⟩ => ⟨S1024x4224, .bf16⟩
  | .hbm, ⟨11, _⟩ => ⟨S1024x4224, .f32⟩
  | .hbm, ⟨12, _⟩ => ⟨S1024x4224, .bf16⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== AttnO.lean ====
abbrev S4224x1024 : Shape := ⟨2, ![4224, 1024]⟩
abbrev S1024x1024 : Shape := ⟨2, ![1024, 1024]⟩
abbrev S1408x1024 : Shape := ⟨2, ![1408, 1024]⟩
abbrev S1024x512 : Shape := ⟨2, ![1024, 512]⟩
abbrev S1408x512 : Shape := ⟨2, ![1408, 512]⟩

abbrev nBuf : Space → Nat
  | .hbm => 4
  | .vmem => 8
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x512, .bf16⟩
  | .local _ .vmem, ⟨3, _⟩ => ⟨S1024x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | .local _ .vmem, ⟨7, _⟩ => ⟨S1408x512, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![3, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== RefAttnOIdeal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnDo.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S4224x1024, .bf16⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .bf16⟩
  | .local _ .vmem, ⟨4, _⟩ => ⟨S1408x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefAttnDoIdeal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .bf16⟩
  | .hbm, ⟨2, _⟩ => ⟨S_, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnDwo.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .f32⟩
  | .local _ .vmem, ⟨3, _⟩ => ⟨S1408x1024, .f32⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefAttnDwoIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S1024x1024, .f32⟩
  | .hbm, ⟨7, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnDqn.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S4224x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefAttnDqnIdeal.lean ====
abbrev S4224x1024 : Shape := ⟨2, ![4224, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x1024, .bf16⟩
  | .hbm, ⟨2, _⟩ => ⟨S_, .f32⟩
  | .hbm, ⟨3, _⟩ => ⟨S4224x1024, .f32⟩
  | .hbm, ⟨4, _⟩ => ⟨S1024x1024, .f32⟩
  | .hbm, ⟨5, _⟩ => ⟨S4224x1024, .f32⟩
  | .hbm, ⟨6, _⟩ => ⟨S4224x1024, .f32⟩
  | .hbm, ⟨7, _⟩ => ⟨S4224x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== AttnDwq.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg2.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefAttnDwqIdeal.lean ====
abbrev S4224x1024 : Shape := ⟨2, ![4224, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S4224x1024, .bf16⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S1024x1024, .f32⟩
  | .hbm, ⟨8, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnDkvn.lean ====
abbrev S1024x4224 : Shape := ⟨2, ![1024, 4224]⟩
abbrev S1024x1024 : Shape := ⟨2, ![1024, 1024]⟩
abbrev S4224x1024 : Shape := ⟨2, ![4224, 1024]⟩
abbrev S512x1408 : Shape := ⟨2, ![512, 1408]⟩
abbrev S1024x512 : Shape := ⟨2, ![1024, 512]⟩
abbrev S1408x1024 : Shape := ⟨2, ![1408, 1024]⟩

abbrev nBuf : Space → Nat
  | .hbm => 5
  | .vmem => 11
  | .smem => 0
  | _ => 0

abbrev bufTy : (tb : Table) → Fin (tcTables nBuf tb) → BufTy
  | .hbm, ⟨0, _⟩ => ⟨S1024x4224, .f32⟩
  | .hbm, ⟨1, _⟩ => ⟨S1024x4224, .f32⟩
  | .hbm, ⟨2, _⟩ => ⟨S1024x1024, .bf16⟩
  | .hbm, ⟨3, _⟩ => ⟨S1024x1024, .bf16⟩
  | .hbm, ⟨4, _⟩ => ⟨S4224x1024, .f32⟩
  | .local _ .vmem, ⟨0, _⟩ => ⟨S512x1408, .f32⟩
  | .local _ .vmem, ⟨1, _⟩ => ⟨S512x1408, .f32⟩
  | .local _ .vmem, ⟨2, _⟩ => ⟨S512x1408, .f32⟩
  | .local _ .vmem, ⟨3, _⟩ => ⟨S512x1408, .f32⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1408x1024, .f32⟩
  | .local _ .vmem, ⟨9, _⟩ => ⟨S1408x1024, .f32⟩
  | .local _ .vmem, ⟨10, _⟩ => ⟨S1408x1024, .f32⟩
  | _, _ => ⟨S1024x4224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![3, 1, 2], ![false, false, false]⟩

def k0_cond3 (i : grid0.Coords) : BitVec 1 :=
  let arg2 : BitVec 32 := BitVec.ofNat 32 (i 2).val
  let c1_i32 : BitVec 32 := 1#32
  let v15 : BitVec 1 := Scalar.cmpi .eq arg2 c1_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1408x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== RefAttnDkvnIdeal.lean ====
abbrev S1024x4224 : Shape := ⟨2, ![1024, 4224]⟩
abbrev S1024x1024 : Shape := ⟨2, ![1024, 1024]⟩
abbrev S_ : Shape := ⟨0, ![]⟩
abbrev S4224x1024 : Shape := ⟨2, ![4224, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x4224, .f32⟩
  | .hbm, ⟨1, _⟩ => ⟨S1024x4224, .f32⟩
  | .hbm, ⟨2, _⟩ => ⟨S1024x1024, .bf16⟩
  | .hbm, ⟨3, _⟩ => ⟨S1024x1024, .bf16⟩
  | .hbm, ⟨4, _⟩ => ⟨S_, .f32⟩
  | .hbm, ⟨5, _⟩ => ⟨S4224x1024, .f32⟩
  | .hbm, ⟨6, _⟩ => ⟨S1024x1024, .f32⟩
  | .hbm, ⟨7, _⟩ => ⟨S4224x1024, .f32⟩
  | .hbm, ⟨8, _⟩ => ⟨S1024x4224, .f32⟩
  | .hbm, ⟨9, _⟩ => ⟨S1024x1024, .f32⟩
  | .hbm, ⟨10, _⟩ => ⟨S4224x1024, .f32⟩
  | .hbm, ⟨11, _⟩ => ⟨S1024x4224, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | _, _ => ⟨S1024x4224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== AttnDwk.lean ====
abbrev S4224x1024 : Shape := ⟨2, ![4224, 1024]⟩
abbrev S1024x4224 : Shape := ⟨2, ![1024, 4224]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4224x1024, .bf16⟩
  | .hbm, ⟨1, _⟩ => ⟨S1024x4224, .f32⟩
  | .hbm, ⟨2, _⟩ => ⟨S1024x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1408, .f32⟩
  | .local _ .vmem, ⟨3, _⟩ => ⟨S1024x1408, .f32⟩
  | .local _ .vmem, ⟨4, _⟩ => ⟨S1024x1024, .f32⟩
  | .local _ .vmem, ⟨5, _⟩ => ⟨S1024x1024, .f32⟩
  | _, _ => ⟨S4224x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v10 : BitVec 1 := Scalar.cmpi .eq arg2 c2_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg2 c0_i32
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== RefAttnDwkIdeal.lean ====
abbrev S4224x1024 : Shape := ⟨2, ![4224, 1024]⟩
abbrev S1024x4224 : Shape := ⟨2, ![1024, 4224]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4224x1024, .bf16⟩
  | .hbm, ⟨1, _⟩ => ⟨S1024x4224, .f32⟩
  | .hbm, ⟨2, _⟩ => ⟨S_, .f32⟩
  | .hbm, ⟨3, _⟩ => ⟨S1024x1024, .f32⟩
  | .hbm, ⟨4, _⟩ => ⟨S4224x1024, .f32⟩
  | .hbm, ⟨5, _⟩ => ⟨S4224x1024, .f32⟩
  | .hbm, ⟨6, _⟩ => ⟨S1024x4224, .f32⟩
  | .hbm, ⟨7, _⟩ => ⟨S4224x1024, .f32⟩
  | .hbm, ⟨8, _⟩ => ⟨S1024x1024, .f32⟩
  | .hbm, ⟨9, _⟩ => ⟨S1024x1024, .f32⟩
  | _, _ => ⟨S4224x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AdamGlu.lean ====
abbrev S1024x256 : Shape := ⟨2, ![1024, 256]⟩
abbrev S7x1024x256 : Shape := ⟨3, ![7, 1024, 256]⟩
abbrev S256x256 : Shape := ⟨2, ![256, 256]⟩
abbrev S7x256x256 : Shape := ⟨3, ![7, 256, 256]⟩
abbrev S1x256x256 : Shape := ⟨3, ![1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S7x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S7x256x256, .bf16⟩
  | .local _ .vmem, ⟨3, _⟩ => ⟨S7x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamGluIdeal.lean ====
abbrev S1024x256 : Shape := ⟨2, ![1024, 256]⟩
abbrev S7x1024x256 : Shape := ⟨3, ![7, 1024, 256]⟩
abbrev S256x256 : Shape := ⟨2, ![256, 256]⟩
abbrev S7x256x256 : Shape := ⟨3, ![7, 256, 256]⟩
abbrev S1x256x256 : Shape := ⟨3, ![1, 256, 256]⟩

abbrev nBuf : Space → Nat
  | .hbm => 9
  | .vmem => 18
  | .smem => 0
  | _ => 0

abbrev bufTy : (tb : Table) → Fin (tcTables nBuf tb) → BufTy
  | .hbm, ⟨0, _⟩ => ⟨S1024x256, .f32⟩
  | .hbm, ⟨1, _⟩ => ⟨S7x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S256x256, .f32⟩
  | .local _ .vmem, ⟨1, _⟩ => ⟨S256x256, .f32⟩
  | .local _ .vmem, ⟨2, _⟩ => ⟨S7x256x256, .bf16⟩
  | .local _ .vmem, ⟨3, _⟩ => ⟨S7x256x256, .bf16⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamGluIdeal.lean ====
abbrev S1024x256 : Shape := ⟨2, ![1024, 256]⟩
abbrev S7x1024x256 : Shape := ⟨3, ![7, 1024, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S7x1024x256, .bf16⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S7x1024x256, .f32⟩
  | .hbm, ⟨6, _⟩ => ⟨S_, .f32⟩
  | .hbm, ⟨7, _⟩ => ⟨S1024x256, .f32⟩
  | .hbm, ⟨8, _⟩ => ⟨S1024x256, .f32⟩
  | .hbm, ⟨9, _⟩ => ⟨S_, .f32⟩
  | .hbm, ⟨10, _⟩ => ⟨S1024x256, .f32⟩
  | .hbm, ⟨11, _⟩ => ⟨S1024x256, .f32⟩
  | .hbm, ⟨12, _⟩ => ⟨S_, .f32⟩
  | .hbm, ⟨13, _⟩ => ⟨S1024x256, .f32⟩
  | .hbm, ⟨14, _⟩ => ⟨S1024x256, .f32⟩
  | .hbm, ⟨15, _⟩ => ⟨S1024x256, .f32⟩
  | .hbm, ⟨16, _⟩ => ⟨S_, .f32⟩
  | .hbm, ⟨17, _⟩ => ⟨S1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S_, .f32⟩
  | .hbm, ⟨28, _⟩ => ⟨S1024x256, .f32⟩
  | .hbm, ⟨29, _⟩ => ⟨S1024x256, .f32⟩
  | .hbm, ⟨30, _⟩ => ⟨S1024x256, .f32⟩
  | .hbm, ⟨31, _⟩ => ⟨S_, .f32⟩
  | .hbm, ⟨32, _⟩ => ⟨S1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamQ.lean ====
abbrev S128x1024 : Shape := ⟨2, ![128, 1024]⟩
abbrev S7x128x1024 : Shape := ⟨3, ![7, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S7x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== AdamQIdeal.lean ====
abbrev S128x1024 : Shape := ⟨2, ![128, 1024]⟩
abbrev S7x128x1024 : Shape := ⟨3, ![7, 128, 1024]⟩
abbrev S1x128x1024 : Shape := ⟨3, ![1, 128, 1024]⟩

abbrev nBuf : Space → Nat
  | .hbm => 9
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S7x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== RefAdamQIdeal.lean ====
abbrev S128x1024 : Shape := ⟨2, ![128, 1024]⟩
abbrev S7x128x1024 : Shape := ⟨3, ![7, 128, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S7x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S7x128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S128x1024, .f32⟩
  | .hbm, ⟨31, _⟩ => ⟨S_, .f32⟩
  | .hbm, ⟨32, _⟩ => ⟨S128x1024, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamFfnIn.lean ====
abbrev S1024x704 : Shape := ⟨2, ![1024, 704]⟩
abbrev S7x1024x704 : Shape := ⟨3, ![7, 1024, 704]⟩
abbrev S256x704 : Shape := ⟨2, ![256, 704]⟩
abbrev S7x256x704 : Shape := ⟨3, ![7, 256, 704]⟩
abbrev S1x256x704 : Shape := ⟨3, ![1, 256, 704]⟩

abbrev nBuf : Space → Nat
  | .hbm => 9
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S7x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S7x256x704, .bf16⟩
  | .local _ .vmem, ⟨3, _⟩ => ⟨S7x256x704, .bf16⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnInIdeal.lean ====
abbrev S1024x704 : Shape := ⟨2, ![1024, 704]⟩
abbrev S7x1024x704 : Shape := ⟨3, ![7, 1024, 704]⟩
abbrev S256x704 : Shape := ⟨2, ![256, 704]⟩
abbrev S7x256x704 : Shape := ⟨3, ![7, 256, 704]⟩
abbrev S1x256x704 : Shape := ⟨3, ![1, 256, 704]⟩

abbrev nBuf : Space → Nat
  | .hbm => 9
  | .vmem => 18
  | .smem => 0
  | _ => 0

abbrev bufTy : (tb : Table) → Fin (tcTables nBuf tb) → BufTy
  | .hbm, ⟨0, _⟩ => ⟨S1024x704, .f32⟩
  | .hbm, ⟨1, _⟩ => ⟨S7x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S1024x704, .f32⟩
  | .hbm, ⟨8, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S7x256x704, .bf16⟩
  | .local _ .vmem, ⟨3, _⟩ => ⟨S7x256x704, .bf16⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamFfnInIdeal.lean ====
abbrev S1024x704 : Shape := ⟨2, ![1024, 704]⟩
abbrev S7x1024x704 : Shape := ⟨3, ![7, 1024, 704]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S7x1024x704, .bf16⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S7x1024x704, .f32⟩
  | .hbm, ⟨6, _⟩ => ⟨S_, .f32⟩
  | .hbm, ⟨7, _⟩ => ⟨S1024x704, .f32⟩
  | .hbm, ⟨8, _⟩ => ⟨S1024x704, .f32⟩
  | .hbm, ⟨9, _⟩ => ⟨S_, .f32⟩
  | .hbm, ⟨10, _⟩ => ⟨S1024x704, .f32⟩
  | .hbm, ⟨11, _⟩ => ⟨S1024x704, .f32⟩
  | .hbm, ⟨12, _⟩ => ⟨S_, .f32⟩
  | .hbm, ⟨13, _⟩ => ⟨S1024x704, .f32⟩
  | .hbm, ⟨14, _⟩ => ⟨S1024x704, .f32⟩
  | .hbm, ⟨15, _⟩ => ⟨S1024x704, .f32⟩
  | .hbm, ⟨16, _⟩ => ⟨S_, .f32⟩
  | .hbm, ⟨17, _⟩ => ⟨S1024x704, .f32⟩
  | .hbm, ⟨18, _⟩ => ⟨S1024x704, .f32⟩
  | .hbm, ⟨19, _⟩ => ⟨S1024x704, .f32⟩
  | .hbm, ⟨20, _⟩ => ⟨S_, .f32⟩
  | .hbm, ⟨21, _⟩ => ⟨S1024x704, .f32⟩
  | .hbm, ⟨22, _⟩ => ⟨S1024x704, .f32⟩
  | .hbm, ⟨23, _⟩ => ⟨S1024x704, .f32⟩
  | .hbm, ⟨24, _⟩ => ⟨S_, .f32⟩
  | .hbm, ⟨25, _⟩ => ⟨S1024x704, .f32⟩
  | .hbm, ⟨26, _⟩ => ⟨S1024x704, .f32⟩
  | .hbm, ⟨27, _⟩ => ⟨S_, .f32⟩
  | .hbm, ⟨28, _⟩ => ⟨S1024x704, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamFfnOut.lean ====
abbrev S352x1024 : Shape := ⟨2, ![352, 1024]⟩
abbrev S7x352x1024 : Shape := ⟨3, ![7, 352, 1024]⟩
abbrev S32x1024 : Shape := ⟨2, ![32, 1024]⟩
abbrev S7x32x1024 : Shape := ⟨3, ![7, 32, 1024]⟩
abbrev S1x32x1024 : Shape := ⟨3, ![1, 32, 1024]⟩

abbrev nBuf : Space → Nat
  | .hbm => 9
  | .vmem => 18
  | .smem => 0
  | _ => 0

abbrev bufTy : (tb : Table) → Fin (tcTables nBuf tb) → BufTy
  | .hbm, ⟨0, _⟩ => ⟨S352x1024, .f32⟩
  | .hbm, ⟨1, _⟩ => ⟨S7x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .local _ .vmem, ⟨0, _⟩ => ⟨S32x1024, .f32⟩
  | .local _ .vmem, ⟨1, _⟩ => ⟨S32x1024, .f32⟩
  | .local _ .vmem, ⟨2, _⟩ => ⟨S7x32x1024, .bf16⟩
  | .local _ .vmem, ⟨3, _⟩ => ⟨S7x32x1024, .bf16⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamFfnOutIdeal.lean ====
abbrev S352x1024 : Shape := ⟨2, ![352, 1024]⟩
abbrev S7x352x1024 : Shape := ⟨3, ![7, 352, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S352x1024, .f32⟩
  | .hbm, ⟨1, _⟩ => ⟨S7x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S7x352x1024, .f32⟩
  | .hbm, ⟨6, _⟩ => ⟨S_, .f32⟩
  | .hbm, ⟨7, _⟩ => ⟨S352x1024, .f32⟩
  | .hbm, ⟨8, _⟩ => ⟨S352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S352x1024, .f32⟩
  | .hbm, ⟨16, _⟩ => ⟨S_, .f32⟩
  | .hbm, ⟨17, _⟩ => ⟨S352x1024, .f32⟩
  | .hbm, ⟨18, _⟩ => ⟨S352x1024, .f32⟩
  | .hbm, ⟨19, _⟩ => ⟨S352x1024, .f32⟩
  | .hbm, ⟨20, _⟩ => ⟨S_, .f32⟩
  | .hbm, ⟨21, _⟩ => ⟨S352x1024, .f32⟩
  | .hbm, ⟨22, _⟩ => ⟨S352x1024, .f32⟩
  | .hbm, ⟨23, _⟩ => ⟨S352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S352x1024, .f32⟩
  | .hbm, ⟨31, _⟩ => ⟨S_, .f32⟩
  | .hbm, ⟨32, _⟩ => ⟨S352x1024, .f32⟩
  | .hbm, ⟨33, _⟩ => ⟨S352x1024, .f32⟩
  | .hbm, ⟨34, _⟩ => ⟨S352x1024, .f32⟩
  | .hbm, ⟨35, _⟩ => ⟨S_, .f32⟩
  | .hbm, ⟨36, _⟩ => ⟨S352x1024, .f32⟩
  | .hbm, ⟨37, _⟩ => ⟨S352x1024, .f32⟩
  | .hbm, ⟨38, _⟩ => ⟨S352x1024, .f32⟩
  | .hbm, ⟨39, _⟩ => ⟨S_, .f32⟩
  | .hbm, ⟨40, _⟩ => ⟨S352x1024, .f32⟩
  | .hbm, ⟨41, _⟩ => ⟨S352x1024, .f32⟩
  | _, _ => ⟨S352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== AdamSmall.lean ====
abbrev S8x2304x128 : Shape := ⟨3, ![8, 2304, 128]⟩
abbrev S2304x128 : Shape := ⟨2, ![2304, 128]⟩
abbrev S8x256x128 : Shape := ⟨3, ![8, 256, 128]⟩
abbrev S256x128 : Shape := ⟨2, ![256, 128]⟩
abbrev S1x256x128 : Shape := ⟨3, ![1, 256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S2304x128, .f32⟩
  | .hbm, ⟨5, _⟩ => ⟨S2304x128, .f32⟩
  | .hbm, ⟨6, _⟩ => ⟨S2304x128, .f32⟩
  | .hbm, ⟨7, _⟩ => ⟨S2304x128, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | _, _ => ⟨S8x2304x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamSmallIdeal.lean ====
abbrev S8x2304x128 : Shape := ⟨3, ![8, 2304, 128]⟩
abbrev S2304x128 : Shape := ⟨2, ![2304, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x2304x128, .f32⟩
  | .hbm, ⟨1, _⟩ => ⟨S2304x128, .f32⟩
  | .hbm, ⟨2, _⟩ => ⟨S2304x128, .f32⟩
  | .hbm, ⟨3, _⟩ => ⟨S2304x128, .f32⟩
  | .hbm, ⟨4, _⟩ => ⟨S_, .f32⟩
  | .hbm, ⟨5, _⟩ => ⟨S2304x128, .f32⟩
  | .hbm, ⟨6, _⟩ => ⟨S_, .f32⟩
  | .hbm, ⟨7, _⟩ => ⟨S2304x128, .f32⟩
  | .hbm, ⟨8, _⟩ => ⟨S2304x128, .f32⟩
  | .hbm, ⟨9, _⟩ => ⟨S_, .f32⟩
  | .hbm, ⟨10, _⟩ => ⟨S2304x128, .f32⟩
  | .hbm, ⟨11, _⟩ => ⟨S2304x128, .f32⟩
  | .hbm, ⟨12, _⟩ => ⟨S2304x128, .f32⟩
  | .hbm, ⟨13, _⟩ => ⟨S_, .f32⟩
  | .hbm, ⟨14, _⟩ => ⟨S2304x128, .f32⟩
  | .hbm, ⟨15, _⟩ => ⟨S2304x128, .f32⟩
  | .hbm, ⟨16, _⟩ => ⟨S2304x128, .f32⟩
  | .hbm, ⟨17, _⟩ => ⟨S_, .f32⟩
  | .hbm, ⟨18, _⟩ => ⟨S2304x128, .f32⟩
  | .hbm, ⟨19, _⟩ => ⟨S2304x128, .f32⟩
  | .hbm, ⟨20, _⟩ => ⟨S2304x128, .f32⟩
  | .hbm, ⟨21, _⟩ => ⟨S_, .f32⟩
  | .hbm, ⟨22, _⟩ => ⟨S2304x128, .f32⟩
  | .hbm, ⟨23, _⟩ => ⟨S2304x128, .f32⟩
  | .hbm, ⟨24, _⟩ => ⟨S_, .f32⟩
  | .hbm, ⟨25, _⟩ => ⟨S2304x128, .f32⟩
  | .hbm, ⟨26, _⟩ => ⟨S2304x128, .f32⟩
  | .hbm, ⟨27, _⟩ => ⟨S2304x128, .f32⟩
  | .hbm, ⟨28, _⟩ => ⟨S_, .f32⟩
  | .hbm, ⟨29, _⟩ => ⟨S2304x128, .f32⟩
  | .hbm, ⟨30, _⟩ => ⟨S2304x128, .f32⟩
  | .hbm, ⟨31, _⟩ => ⟨S2304x128, .f32⟩
  | .hbm, ⟨32, _⟩ => ⟨S_, .f32⟩
  | .hbm, ⟨33, _⟩ => ⟨S2304x128, .f32⟩
  | .hbm, ⟨34, _⟩ => ⟨S2304x128, .f32⟩
  | .hbm, ⟨35, _⟩ => ⟨S2304x128, .f32⟩
  | .hbm, ⟨36, _⟩ => ⟨S_, .f32⟩
  | .hbm, ⟨37, _⟩ => ⟨S2304x128, .f32⟩
  | .hbm, ⟨38, _⟩ => ⟨S2304x128, .f32⟩
  | _, _ => ⟨S8x2304x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamCols.lean ====
abbrev S24x128 : Shape := ⟨2, ![24, 128]⟩

abbrev nBuf : Space → Nat
  | .hbm => 7
  | .vmem => 7
  | .smem => 0
  | _ => 0

abbrev bufTy : (tb : Table) → Fin (tcTables nBuf tb) → BufTy
  | .hbm, ⟨0, _⟩ => ⟨S24x128, .f32⟩
  | .hbm, ⟨1, _⟩ => ⟨S24x128, .f32⟩
  | .hbm, ⟨2, _⟩ => ⟨S24x128, .f32⟩
  | .hbm, ⟨3, _⟩ => ⟨S24x128, .f32⟩
  | .hbm, ⟨4, _⟩ => ⟨S24x128, .f32⟩
  | .hbm, ⟨5, _⟩ => ⟨S24x128, .f32⟩
  | .hbm, ⟨6, _⟩ => ⟨S24x128, .f32⟩
  | .local _ .vmem, ⟨0, _⟩ => ⟨S24x128, .f32⟩
  | .local _ .vmem, ⟨1, _⟩ => ⟨S24x128, .f32⟩
  | .local _ .vmem, ⟨2, _⟩ => ⟨S24x128, .f32⟩
  | .local _ .vmem, ⟨3, _⟩ => ⟨S24x128, .f32⟩
  | .local _ .vmem, ⟨4, _⟩ => ⟨S24x128, .f32⟩
  | .local _ .vmem, ⟨5, _⟩ => ⟨S24x128, .f32⟩
  | .local _ .vmem, ⟨6, _⟩ => ⟨S24x128, .f32⟩
  | _, _ => ⟨S24x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== RefAdamColsIdeal.lean ====
abbrev S24x128 : Shape := ⟨2, ![24, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S24x128, .f32⟩
  | .hbm, ⟨1, _⟩ => ⟨S24x128, .f32⟩
  | .hbm, ⟨2, _⟩ => ⟨S24x128, .f32⟩
  | .hbm, ⟨3, _⟩ => ⟨S24x128, .f32⟩
  | .hbm, ⟨4, _⟩ => ⟨S_, .f32⟩
  | .hbm, ⟨5, _⟩ => ⟨S24x128, .f32⟩
  | .hbm, ⟨6, _⟩ => ⟨S24x128, .f32⟩
  | .hbm, ⟨7, _⟩ => ⟨S_, .f32⟩
  | .hbm, ⟨8, _⟩ => ⟨S24x128, .f32⟩
  | .hbm, ⟨9, _⟩ => ⟨S24x128, .f32⟩
  | .hbm, ⟨10, _⟩ => ⟨S24x128, .f32⟩
  | .hbm, ⟨11, _⟩ => ⟨S_, .f32⟩
  | .hbm, ⟨12, _⟩ => ⟨S24x128, .f32⟩
  | .hbm, ⟨13, _⟩ => ⟨S24x128, .f32⟩
  | .hbm, ⟨14, _⟩ => ⟨S24x128, .f32⟩
  | .hbm, ⟨15, _⟩ => ⟨S_, .f32⟩
  | .hbm, ⟨16, _⟩ => ⟨S24x128, .f32⟩
  | .hbm, ⟨17, _⟩ => ⟨S24x128, .f32⟩
  | .hbm, ⟨18, _⟩ => ⟨S24x128, .f32⟩
  | .hbm, ⟨19, _⟩ => ⟨S_, .f32⟩
  | .hbm, ⟨20, _⟩ => ⟨S24x128, .f32⟩
  | .hbm, ⟨21, _⟩ => ⟨S24x128, .f32⟩
  | .hbm, ⟨22, _⟩ => ⟨S_, .f32⟩
  | .hbm, ⟨23, _⟩ => ⟨S24x128, .f32⟩
  | .hbm, ⟨24, _⟩ => ⟨S24x128, .f32⟩
  | .hbm, ⟨25, _⟩ => ⟨S24x128, .f32⟩
  | .hbm, ⟨26, _⟩ => ⟨S_, .f32⟩
  | .hbm, ⟨27, _⟩ => ⟨S24x128, .f32⟩
  | .hbm, ⟨28, _⟩ => ⟨S24x128, .f32⟩
  | .hbm, ⟨29, _⟩ => ⟨S24x128, .f32⟩
  | .hbm, ⟨30, _⟩ => ⟨S_, .f32⟩
  | .hbm, ⟨31, _⟩ => ⟨S24x128, .f32⟩
  | .hbm, ⟨32, _⟩ => ⟨S24x128, .f32⟩
  | .hbm, ⟨33, _⟩ => ⟨S24x128, .f32⟩
  | .hbm, ⟨34, _⟩ => ⟨S_, .f32⟩
  | .hbm, ⟨35, _⟩ => ⟨S24x128, .f32⟩
  | .hbm, ⟨36, _⟩ => ⟨S24x128, .f32⟩
  | _, _ => ⟨S24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Norm.lean ====
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .bf16⟩
  | .local _ .vmem, ⟨4, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefNormIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormBwd.lean ====
abbrev S4224x1024 : Shape := ⟨2, ![4224, 1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32 : BitVec 32 := 0#32
  let v31 : BitVec 1 := Scalar.cmpi .eq arg0 c0_i32
  let v_true : BitVec 1 := 1#1
  let v34 : BitVec 1 := Scalar.xori v31 v_true
  let v35 : BitVec 32 := Scalar.extui v34
  let c0_i32_15 : BitVec 32 := 0#32
  let v36 : BitVec 1 := Scalar.cmpi .ne v35 c0_i32_15
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefNormBwdIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S4224x1024, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x1024, .f32⟩
  | .hbm, ⟨34, _⟩ => ⟨S4224x1024, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x1024, .f32⟩
  | .hbm, ⟨42, _⟩ => ⟨S4224x1024, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Loss.lean ====
abbrev S4224x1024 : Shape := ⟨2, ![4224, 1024]⟩
abbrev S1x1024 : Shape := ⟨2, ![1, 1024]⟩
abbrev S1x1 : Shape := ⟨2, ![1, 1]⟩
abbrev S384x1024 : Shape := ⟨2, ![384, 1024]⟩
abbrev S384x1 : Shape := ⟨2, ![384, 1]⟩
abbrev S384 : Shape := ⟨1, ![384]⟩
abbrev S1 : Shape := ⟨1, ![1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S1x1, .f32⟩
  | .hbm, ⟨4, _⟩ => ⟨S4224x1024, .f32⟩
  | .hbm, ⟨5, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S1x1, .f32⟩
  | .local _ .vmem, ⟨6, _⟩ => ⟨S384x1024, .f32⟩
  | .local _ .vmem, ⟨7, _⟩ => ⟨S384x1024, .f32⟩
  | .local _ .vmem, ⟨8, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v54 : BitVec 1 := Scalar.cmpi .eq arg0 c0_i32
  let v55 : BitVec 32 := Scalar.extui v54
  let c0_i32_17 : BitVec 32 := 0#32
  let v56 : BitVec 1 := Scalar.cmpi .ne v55 c0_i32_17
  v56

def k0_cond2 (i : grid0.Coords) : BitVec 1 :=
  let arg0 : BitVec 32 := BitVec.ofNat 32 (i 0).val
  let c0_i32_18 : BitVec 32 := 0#32
  let v57 : BitVec 1 := Scalar.cmpi .sgt arg0 c0_i32_18
  let v58 : BitVec 32 := Scalar.extui v57
  let c0_i32_19 : BitVec 32 := 0#32
  let v59 : BitVec 1 := Scalar.cmpi .ne v58 c0_i32_19
  v59

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RefLossIdeal.lean ====
abbrev S4224x1024 : Shape := ⟨2, ![4224, 1024]⟩
abbrev S1x1024 : Shape := ⟨2, ![1, 1024]⟩
abbrev S_ : Shape := ⟨0, ![]⟩
abbrev S4224 : Shape := ⟨1, ![4224]⟩
abbrev S4224x1 : Shape := ⟨2, ![4224, 1]⟩
abbrev S4096x1024 : Shape := ⟨2, ![4096, 1024]⟩
abbrev S4096 : Shape := ⟨1, ![4096]⟩
abbrev S1024 : Shape := ⟨1, ![1024]⟩
abbrev S1x1 : Shape := ⟨2, ![1, 1]⟩

abbrev nBuf : Space → Nat
  | .hbm => 73
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1x1024, .f32⟩
  | .hbm, ⟨2, _⟩ => ⟨S4224x1024, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4224x1024, .f32⟩
  | .hbm, ⟨54, _⟩ => ⟨S4224x1024, .f32⟩
  | .hbm, ⟨55, _⟩ => ⟨S4224x1024, .f32⟩
  | .hbm, ⟨56, _⟩ => ⟨S_, .f32⟩
  | .hbm, ⟨57, _⟩ => ⟨S4224, .f32⟩
  | .hbm, ⟨58, _⟩ => ⟨S4224x1, .f32⟩
  | .hbm, ⟨59, _⟩ => ⟨S4224x1024, .f32⟩
  | .hbm, ⟨60, _⟩ => ⟨S4224x1024, .f32⟩
  | .hbm, ⟨61, _⟩ => ⟨S4224x1, .f32⟩
  | .hbm, ⟨62, _⟩ => ⟨S_, .f32⟩
  | .hbm, ⟨63, _⟩ => ⟨S4224x1, .f32⟩
  | .hbm, ⟨64, _⟩ => ⟨S4224x1, .f32⟩
  | .hbm, ⟨65, _⟩ => ⟨S_, .f32⟩
  | .hbm, ⟨66, _⟩ => ⟨S4224, .f32⟩
  | .hbm, ⟨67, _⟩ => ⟨S4224x1024, .f32⟩
  | .hbm, ⟨68, _⟩ => ⟨S4224x1024, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S1x1, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== GluGates.lean ====
abbrev S4224x1024 : Shape := ⟨2, ![4224, 1024]⟩
abbrev S384x1024 : Shape := ⟨2, ![384, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x1024, .bf16⟩
  | .hbm, ⟨2, _⟩ => ⟨S4224x1024, .bf16⟩
  | .hbm, ⟨3, _⟩ => ⟨S4224x1024, .bf16⟩
  | .hbm, ⟨4, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .bf16⟩
  | .local _ .vmem, ⟨3, _⟩ => ⟨S384x1024, .bf16⟩
  | .local _ .vmem, ⟨4, _⟩ => ⟨S384x1024, .bf16⟩
  | .local _ .vmem, ⟨5, _⟩ => ⟨S384x1024, .bf16⟩
  | .local _ .vmem, ⟨6, _⟩ => ⟨S384x1024, .bf16⟩
  | .local _ .vmem, ⟨7, _⟩ => ⟨S384x1024, .bf16⟩
  | .local _ .vmem, ⟨8, _⟩ => ⟨S384x1024, .bf16⟩
  | .local _ .vmem, ⟨9, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RefGluGatesIdeal.lean ====
abbrev S4224x1024 : Shape := ⟨2, ![4224, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .bf16⟩
  | .hbm, ⟨2, _⟩ => ⟨S4224x1024, .bf16⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S4224x1024, .f32⟩
  | .hbm, ⟨9, _⟩ => ⟨S4224x1024, .f32⟩
  | .hbm, ⟨10, _⟩ => ⟨S_, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .bf16⟩
  | .hbm, ⟨22, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Gelu.lean ====
abbrev S4224x1024 : Shape := ⟨2, ![4224, 1024]⟩
abbrev S1x1024 : Shape := ⟨2, ![1, 1024]⟩
abbrev S384x1024 : Shape := ⟨2, ![384, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S4224x1024, .bf16⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S1x1024, .f32⟩
  | .local _ .vmem, ⟨5, _⟩ => ⟨S384x1024, .bf16⟩
  | .local _ .vmem, ⟨6, _⟩ => ⟨S384x1024, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S384x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RefGeluIdeal.lean ====
abbrev S4224x1024 : Shape := ⟨2, ![4224, 1024]⟩
abbrev S1x1024 : Shape := ⟨2, ![1, 1024]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S_, .f32⟩
  | .hbm, ⟨9, _⟩ => ⟨S4224x1024, .f32⟩
  | .hbm, ⟨10, _⟩ => ⟨S4224x1024, .f32⟩
  | .hbm, ⟨11, _⟩ => ⟨S4224x1024, .f32⟩
  | .hbm, ⟨12, _⟩ => ⟨S_, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S_, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GeluBwd.lean ====
abbrev S4224x1024 : Shape := ⟨2, ![4224, 1024]⟩
abbrev S1x1024 : Shape := ⟨2, ![1, 1024]⟩
abbrev S384x1024 : Shape := ⟨2, ![384, 1024]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S384x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S1x1024, .f32⟩
  | .local _ .vmem, ⟨7, _⟩ => ⟨S384x1024, .f32⟩
  | .local _ .vmem, ⟨8, _⟩ => ⟨S384x1024, .f32⟩
  | .local _ .vmem, ⟨9, _⟩ => ⟨S384x1024, .f32⟩
  | .local _ .vmem, ⟨10, _⟩ => ⟨S384x1024, .f32⟩
  | .local _ .vmem, ⟨11, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![11], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_20 : BitVec 32 := 0#32
  let v44 : BitVec 1 := Scalar.cmpi .ne v43 c0_i32_20
  v44

def k0_cond2 (i : grid0.Coords) : BitVec 1 :=
  let arg0 : BitVec 32 := BitVec.ofNat 32 (i 0).val
  let c0_i32 : BitVec 32 := 0#32
  let v42 : BitVec 1 := Scalar.cmpi .eq arg0 c0_i32
  let v_true : BitVec 1 := 1#1
  let v45 : BitVec 1 := Scalar.xori v42 v_true
  let v46 : BitVec 32 := Scalar.extui v45
  let c0_i32_21 : BitVec 32 := 0#32
  let v47 : BitVec 1 := Scalar.cmpi .ne v46 c0_i32_21
  v47

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S384x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GeluBwdIdeal.lean ====
variable {F : FTy → Type} [FloatOps F] [Named F]
def κ : String → Option EReal := fun
  | "cube" => some ((8943 / 200000 : ℝ) : EReal)
  | "slope" => some ((26829 / 200000 : ℝ) : EReal)
  | _ => none
-- ==== RefGeluBwdIdeal.lean ====
abbrev S4224x1024 : Shape := ⟨2, ![4224, 1024]⟩
abbrev S1x1024 : Shape := ⟨2, ![1, 1024]⟩
abbrev S_ : Shape := ⟨0, ![]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S1x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4224x1024, .f32⟩
  | .hbm, ⟨11, _⟩ => ⟨S4224x1024, .f32⟩
  | .hbm, ⟨12, _⟩ => ⟨S4224x1024, .f32⟩
  | .hbm, ⟨13, _⟩ => ⟨S_, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S_, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S_, .f32⟩
  | .hbm, ⟨24, _⟩ => ⟨S4224x1024, .f32⟩
  | .hbm, ⟨25, _⟩ => ⟨S4224x1024, .f32⟩
  | .hbm, ⟨26, _⟩ => ⟨S_, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S_, .f32⟩
  | .hbm, ⟨31, _⟩ => ⟨S4224x1024, .f32⟩
  | .hbm, ⟨32, _⟩ => ⟨S4224x1024, .f32⟩
  | .hbm, ⟨33, _⟩ => ⟨S_, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S4224x1024, .f32⟩
  | .hbm, ⟨38, _⟩ => ⟨S4224x1024, .f32⟩
  | .hbm, ⟨39, _⟩ => ⟨S_, .f32⟩
  | .hbm, ⟨40, _⟩ => ⟨S4224x1024, .f32⟩
  | .hbm, ⟨41, _⟩ => ⟨S4224x1024, .f32⟩
  | .hbm, ⟨42, _⟩ => ⟨S4224x1024, .f32⟩
  | .hbm, ⟨43, _⟩ => ⟨S_, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S4224x1024, .f32⟩
  | .hbm, ⟨49, _⟩ => ⟨S4224x1024, .f32⟩
  | .hbm, ⟨50, _⟩ => ⟨S4224x1024, .f32⟩
  | .hbm, ⟨51, _⟩ => ⟨S4224x1024, .f32⟩
  | .hbm, ⟨52, _⟩ => ⟨S4224x1024, .f32⟩
  | .hbm, ⟨53, _⟩ => ⟨S4224x1024, .f32⟩
  | .hbm, ⟨54, _⟩ => ⟨S_, .f32⟩
  | .hbm, ⟨55, _⟩ => ⟨S1024, .f32⟩
  | .hbm, ⟨56, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_9 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== BProd.lean ====
abbrev S4224x1024 : Shape := ⟨2, ![4224, 1024]⟩
abbrev S64x64x16 : Shape := ⟨3, ![64, 64, 16]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S4224x4096 : Shape := ⟨2, ![4224, 4096]⟩
abbrev S1408x128 : Shape := ⟨2, ![1408, 128]⟩
abbrev S1x128x512 : Shape := ⟨3, ![1, 128, 512]⟩
abbrev S1408x512 : Shape := ⟨2, ![1408, 512]⟩
abbrev S128x512 : Shape := ⟨2, ![128, 512]⟩

abbrev nBuf : Space → Nat
  | .hbm => 35
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S64x64x16, .f32⟩
  | .hbm, ⟨2, _⟩ => ⟨S64x64x16, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x8x64x16, .f32⟩
  | .hbm, ⟨11, _⟩ => ⟨S8x8x16x64, .f32⟩
  | .hbm, ⟨12, _⟩ => ⟨S8x8x16x1x64, .f32⟩
  | .hbm, ⟨13, _⟩ => ⟨S1x8x1x8x1, .f32⟩
  | .hbm, ⟨14, _⟩ => ⟨S8x8x16x8x64, .f32⟩
  | .hbm, ⟨15, _⟩ => ⟨S8x8x16x8x64, .f32⟩
  | .hbm, ⟨16, _⟩ => ⟨S8x8x16x8x64, .f32⟩
  | .hbm, ⟨17, _⟩ => ⟨S8x128x512, .f32⟩
  | .hbm, ⟨18, _⟩ => ⟨S8x8, .i32⟩
  | .hbm, ⟨19, _⟩ => ⟨S8x8, .i32⟩
  | .hbm, ⟨20, _⟩ => ⟨S_, .i32⟩
  | .hbm, ⟨21, _⟩ => ⟨S8x8, .i32⟩
  | .hbm, ⟨22, _⟩ => ⟨S8x8, .i32⟩
  | .hbm, ⟨23, _⟩ => ⟨S8x8, .i1⟩
  | .hbm, ⟨24, _⟩ => ⟨S8x8, .f32⟩
  | .hbm, ⟨25, _⟩ => ⟨S8x8x64x16, .f32⟩
  | .hbm, ⟨26, _⟩ => ⟨S8x8x16x64, .f32⟩
  | .hbm, ⟨27, _⟩ => ⟨S8x8x16x1x64, .f32⟩
  | .hbm, ⟨28, _⟩ => ⟨S1x8x1x8x1, .f32⟩
  | .hbm, ⟨29, _⟩ => ⟨S8x8x16x8x64, .f32⟩
  | .hbm, ⟨30, _⟩ => ⟨S8x8x16x8x64, .f32⟩
  | .hbm, ⟨31, _⟩ => ⟨S8x8x16x8x64, .f32⟩
  | .hbm, ⟨32, _⟩ => ⟨S8x128x512, .f32⟩
  | .hbm, ⟨33, _⟩ => ⟨S4224x4096, .bf16⟩
  | .hbm, ⟨34, _⟩ => ⟨S4224x4096, .bf16⟩
  | .local _ .vmem, ⟨0, _⟩ => ⟨S1408x128, .f32⟩
  | .local _ .vmem, ⟨1, _⟩ => ⟨S1408x128, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1408x512, .bf16⟩
  | .local _ .vmem, ⟨7, _⟩ => ⟨S1408x512, .bf16⟩
  | .local _ .vmem, ⟨8, _⟩ => ⟨S1408x512, .bf16⟩
  | .local _ .vmem, ⟨9, _⟩ => ⟨S1408x512, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28_0 : Ref sig .tc := ⟨.hbm, 33, rfl⟩
abbrev main_v28_1 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefBProdIdeal.lean ====
abbrev S4224x1024 : Shape := ⟨2, ![4224, 1024]⟩
abbrev S64x64x16 : Shape := ⟨3, ![64, 64, 16]⟩
abbrev S4224x64x16 : Shape := ⟨3, ![4224, 64, 16]⟩
abbrev S64x64x4224 : Shape := ⟨3, ![64, 64, 4224]⟩
abbrev S4224x64x64 : Shape := ⟨3, ![4224, 64, 64]⟩
abbrev S4224x4096 : Shape := ⟨2, ![4224, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S64x64x16, .f32⟩
  | .hbm, ⟨2, _⟩ => ⟨S64x64x16, .f32⟩
  | .hbm, ⟨3, _⟩ => ⟨S4224x64x16, .f32⟩
  | .hbm, ⟨4, _⟩ => ⟨S64x64x4224, .f32⟩
  | .hbm, ⟨5, _⟩ => ⟨S4224x64x64, .f32⟩
  | .hbm, ⟨6, _⟩ => ⟨S4224x4096, .f32⟩
  | .hbm, ⟨7, _⟩ => ⟨S64x64x4224, .f32⟩
  | .hbm, ⟨8, _⟩ => ⟨S4224x64x64, .f32⟩
  | .hbm, ⟨9, _⟩ => ⟨S4224x4096, .f32⟩
  | .hbm, ⟨10, _⟩ => ⟨S4224x4096, .bf16⟩
  | .hbm, ⟨11, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== CProd.lean ====
abbrev S4224x4096 : Shape := ⟨2, ![4224, 4096]⟩
abbrev S64x16x64 : Shape := ⟨3, ![64, 16, 64]⟩
abbrev S8x8 : Shape := ⟨2, ![8, 8]⟩
abbrev S_ : Shape := ⟨0, ![]⟩
abbrev S8x8x16x64 : Shape := ⟨4, ![8, 8, 16, 64]⟩
abbrev S8x8x64x16 : Shape := ⟨4, ![8, 8, 64, 16]⟩
abbrev S8x8x64x1x16 : Shape := ⟨5, ![8, 8, 64, 1, 16]⟩
abbrev S1x8x1x8x1 : Shape := ⟨5, ![1, 8, 1, 8, 1]⟩
abbrev S8x8x64x8x16 : Shape := ⟨5, ![8, 8, 64, 8, 16]⟩
abbrev S8x512x128 : Shape := ⟨3, ![8, 512, 128]⟩
abbrev S4224x1024 : Shape := ⟨2, ![4224, 1024]⟩
abbrev S1408x512 : Shape := ⟨2, ![1408, 512]⟩
abbrev S1x512x128 : Shape := ⟨3, ![1, 512, 128]⟩
abbrev S1408x128 : Shape := ⟨2, ![1408, 128]⟩
abbrev S512x128 : Shape := ⟨2, ![512, 128]⟩

abbrev nBuf : Space → Nat
  | .hbm => 36
  | .vmem => 10
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S64x16x64, .f32⟩
  | .hbm, ⟨3, _⟩ => ⟨S64x16x64, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S8x8x16x64, .f32⟩
  | .hbm, ⟨12, _⟩ => ⟨S8x8x64x16, .f32⟩
  | .hbm, ⟨13, _⟩ => ⟨S8x8x64x1x16, .f32⟩
  | .hbm, ⟨14, _⟩ => ⟨S1x8x1x8x1, .f32⟩
  | .hbm, ⟨15, _⟩ => ⟨S8x8x64x8x16, .f32⟩
  | .hbm, ⟨16, _⟩ => ⟨S8x8x64x8x16, .f32⟩
  | .hbm, ⟨17, _⟩ => ⟨S8x8x64x8x16, .f32⟩
  | .hbm, ⟨18, _⟩ => ⟨S8x512x128, .f32⟩
  | .hbm, ⟨19, _⟩ => ⟨S64x16x64, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x8x16x64, .f32⟩
  | .hbm, ⟨28, _⟩ => ⟨S8x8x64x16, .f32⟩
  | .hbm, ⟨29, _⟩ => ⟨S8x8x64x1x16, .f32⟩
  | .hbm, ⟨30, _⟩ => ⟨S1x8x1x8x1, .f32⟩
  | .hbm, ⟨31, _⟩ => ⟨S8x8x64x8x16, .f32⟩
  | .hbm, ⟨32, _⟩ => ⟨S8x8x64x8x16, .f32⟩
  | .hbm, ⟨33, _⟩ => ⟨S8x8x64x8x16, .f32⟩
  | .hbm, ⟨34, _⟩ => ⟨S8x512x128, .f32⟩
  | .hbm, ⟨35, _⟩ => ⟨S4224x1024, .f32⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1408x128, .f32⟩
  | .local _ .vmem, ⟨9, _⟩ => ⟨S1408x128, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefCProdIdeal.lean ====
abbrev S4224x4096 : Shape := ⟨2, ![4224, 4096]⟩
abbrev S64x16x64 : Shape := ⟨3, ![64, 16, 64]⟩
abbrev S4224x64x64 : Shape := ⟨3, ![4224, 64, 64]⟩
abbrev S64x16x4224 : Shape := ⟨3, ![64, 16, 4224]⟩
abbrev S4224x64x16 : Shape := ⟨3, ![4224, 64, 16]⟩
abbrev S4224x1024 : Shape := ⟨2, ![4224, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S64x16x64, .f32⟩
  | .hbm, ⟨3, _⟩ => ⟨S64x16x64, .f32⟩
  | .hbm, ⟨4, _⟩ => ⟨S4224x4096, .f32⟩
  | .hbm, ⟨5, _⟩ => ⟨S4224x4096, .f32⟩
  | .hbm, ⟨6, _⟩ => ⟨S4224x64x64, .f32⟩
  | .hbm, ⟨7, _⟩ => ⟨S4224x64x64, .f32⟩
  | .hbm, ⟨8, _⟩ => ⟨S64x16x4224, .f32⟩
  | .hbm, ⟨9, _⟩ => ⟨S4224x64x16, .f32⟩
  | .hbm, ⟨10, _⟩ => ⟨S64x16x4224, .f32⟩
  | .hbm, ⟨11, _⟩ => ⟨S4224x64x16, .f32⟩
  | .hbm, ⟨12, _⟩ => ⟨S4224x64x16, .f32⟩
  | .hbm, ⟨13, _⟩ => ⟨S4224x1024, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== CGrad.lean ====
abbrev S4224x1024 : Shape := ⟨2, ![4224, 1024]⟩
abbrev S64x16x64 : Shape := ⟨3, ![64, 16, 64]⟩
abbrev S8x8 : Shape := ⟨2, ![8, 8]⟩
abbrev S_ : Shape := ⟨0, ![]⟩
abbrev S8x8x16x64 : Shape := ⟨4, ![8, 8, 16, 64]⟩
abbrev S8x8x64x16 : Shape := ⟨4, ![8, 8, 64, 16]⟩
abbrev S8x8x64x1x16 : Shape := ⟨5, ![8, 8, 64, 1, 16]⟩
abbrev S1x8x1x8x1 : Shape := ⟨5, ![1, 8, 1, 8, 1]⟩
abbrev S8x8x64x8x16 : Shape := ⟨5, ![8, 8, 64, 8, 16]⟩
abbrev S8x512x128 : Shape := ⟨3, ![8, 512, 128]⟩
abbrev S8x128x512 : Shape := ⟨3, ![8, 128, 512]⟩
abbrev S4224x4096 : Shape := ⟨2, ![4224, 4096]⟩
abbrev S1408x128 : Shape := ⟨2, ![1408, 128]⟩
abbrev S1x128x512 : Shape := ⟨3, ![1, 128, 512]⟩
abbrev S1408x512 : Shape := ⟨2, ![1408, 512]⟩
abbrev S128x512 : Shape := ⟨2, ![128, 512]⟩

abbrev nBuf : Space → Nat
  | .hbm => 38
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S64x16x64, .f32⟩
  | .hbm, ⟨2, _⟩ => ⟨S64x16x64, .f32⟩
  | .hbm, ⟨3, _⟩ => ⟨S8x8, .i32⟩
  | .hbm, ⟨4, _⟩ => ⟨S8x8, .i32⟩
  | .hbm, ⟨5, _⟩ => ⟨S_, .i32⟩
  | .hbm, ⟨6, _⟩ => ⟨S8x8, .i32⟩
  | .hbm, ⟨7, _⟩ => ⟨S8x8, .i32⟩
  | .hbm, ⟨8, _⟩ => ⟨S8x8, .i1⟩
  | .hbm, ⟨9, _⟩ => ⟨S8x8, .f32⟩
  | .hbm, ⟨10, _⟩ => ⟨S8x8x16x64, .f32⟩
  | .hbm, ⟨11, _⟩ => ⟨S8x8x64x16, .f32⟩
  | .hbm, ⟨12, _⟩ => ⟨S8x8x64x1x16, .f32⟩
  | .hbm, ⟨13, _⟩ => ⟨S1x8x1x8x1, .f32⟩
  | .hbm, ⟨14, _⟩ => ⟨S8x8x64x8x16, .f32⟩
  | .hbm, ⟨15, _⟩ => ⟨S8x8x64x8x16, .f32⟩
  | .hbm, ⟨16, _⟩ => ⟨S8x8x64x8x16, .f32⟩
  | .hbm, ⟨17, _⟩ => ⟨S8x512x128, .f32⟩
  | .hbm, ⟨18, _⟩ => ⟨S8x128x512, .f32⟩
  | .hbm, ⟨19, _⟩ => ⟨S64x16x64, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x8x16x64, .f32⟩
  | .hbm, ⟨28, _⟩ => ⟨S8x8x64x16, .f32⟩
  | .hbm, ⟨29, _⟩ => ⟨S8x8x64x1x16, .f32⟩
  | .hbm, ⟨30, _⟩ => ⟨S1x8x1x8x1, .f32⟩
  | .hbm, ⟨31, _⟩ => ⟨S8x8x64x8x16, .f32⟩
  | .hbm, ⟨32, _⟩ => ⟨S8x8x64x8x16, .f32⟩
  | .hbm, ⟨33, _⟩ => ⟨S8x8x64x8x16, .f32⟩
  | .hbm, ⟨34, _⟩ => ⟨S8x512x128, .f32⟩
  | .hbm, ⟨35, _⟩ => ⟨S8x128x512, .f32⟩
  | .hbm, ⟨36, _⟩ => ⟨S4224x4096, .bf16⟩
  | .hbm, ⟨37, _⟩ => ⟨S4224x4096, .bf16⟩
  | .local _ .vmem, ⟨0, _⟩ => ⟨S1408x128, .f32⟩
  | .local _ .vmem, ⟨1, _⟩ => ⟨S1408x128, .f32⟩
  | .local _ .vmem, ⟨2, _⟩ => ⟨S1x128x512, .f32⟩
  | .local _ .vmem, ⟨3, _⟩ => ⟨S1x128x512, .f32⟩
  | .local _ .vmem, ⟨4, _⟩ => ⟨S1x128x512, .f32⟩
  | .local _ .vmem, ⟨5, _⟩ => ⟨S1x128x512, .f32⟩
  | .local _ .vmem, ⟨6, _⟩ => ⟨S1408x512, .bf16⟩
  | .local _ .vmem, ⟨7, _⟩ => ⟨S1408x512, .bf16⟩
  | .local _ .vmem, ⟨8, _⟩ => ⟨S1408x512, .bf16⟩
  | .local _ .vmem, ⟨9, _⟩ => ⟨S1408x512, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1408x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefCGradIdeal.lean ====
abbrev S4224x1024 : Shape := ⟨2, ![4224, 1024]⟩
abbrev S64x16x64 : Shape := ⟨3, ![64, 16, 64]⟩
abbrev S_ : Shape := ⟨0, ![]⟩
abbrev S4224x4096 : Shape := ⟨2, ![4224, 4096]⟩
abbrev S4224x64x64 : Shape := ⟨3, ![4224, 64, 64]⟩
abbrev S64x16x4224 : Shape := ⟨3, ![64, 16, 4224]⟩
abbrev S4224x64x16 : Shape := ⟨3, ![4224, 64, 16]⟩
abbrev S64x4224x64 : Shape := ⟨3, ![64, 4224, 64]⟩

abbrev nBuf : Space → Nat
  | .hbm => 25
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S64x16x64, .f32⟩
  | .hbm, ⟨2, _⟩ => ⟨S64x16x64, .f32⟩
  | .hbm, ⟨3, _⟩ => ⟨S_, .f32⟩
  | .hbm, ⟨4, _⟩ => ⟨S4224x4096, .f32⟩
  | .hbm, ⟨5, _⟩ => ⟨S4224x64x64, .f32⟩
  | .hbm, ⟨6, _⟩ => ⟨S4224x64x64, .f32⟩
  | .hbm, ⟨7, _⟩ => ⟨S64x16x4224, .f32⟩
  | .hbm, ⟨8, _⟩ => ⟨S4224x64x16, .f32⟩
  | .hbm, ⟨9, _⟩ => ⟨S64x16x4224, .f32⟩
  | .hbm, ⟨10, _⟩ => ⟨S4224x64x16, .f32⟩
  | .hbm, ⟨11, _⟩ => ⟨S4224x64x16, .f32⟩
  | .hbm, ⟨12, _⟩ => ⟨S4224x1024, .f32⟩
  | .hbm, ⟨13, _⟩ => ⟨S4224x64x16, .f32⟩
  | .hbm, ⟨14, _⟩ => ⟨S4224x64x16, .f32⟩
  | .hbm, ⟨15, _⟩ => ⟨S64x16x4224, .f32⟩
  | .hbm, ⟨16, _⟩ => ⟨S64x4224x64, .f32⟩
  | .hbm, ⟨17, _⟩ => ⟨S4224x64x64, .f32⟩
  | .hbm, ⟨18, _⟩ => ⟨S64x16x4224, .f32⟩
  | .hbm, ⟨19, _⟩ => ⟨S64x4224x64, .f32⟩
  | .hbm, ⟨20, _⟩ => ⟨S4224x64x64, .f32⟩
  | .hbm, ⟨21, _⟩ => ⟨S4224x4096, .f32⟩
  | .hbm, ⟨22, _⟩ => ⟨S4224x4096, .f32⟩
  | .hbm, ⟨23, _⟩ => ⟨S4224x4096, .bf16⟩
  | .hbm, ⟨24, _⟩ => ⟨S4224x4096, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩

abbrev nD : Nat := 1
abbrev τ : Topo := Topo.v7x

variable {F : FTy → Type} [FloatOps F]
-- ==== BGrad.lean ====
abbrev S4224x4096 : Shape := ⟨2, ![4224, 4096]⟩
abbrev S64x64x16 : Shape := ⟨3, ![64, 64, 16]⟩
abbrev S8x8 : Shape := ⟨2, ![8, 8]⟩
abbrev S_ : Shape := ⟨0, ![]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x512x128 : Shape := ⟨3, ![8, 512, 128]⟩
abbrev S4224x1024 : Shape := ⟨2, ![4224, 1024]⟩
abbrev S1408x512 : Shape := ⟨2, ![1408, 512]⟩
abbrev S1x512x128 : Shape := ⟨3, ![1, 512, 128]⟩
abbrev S1408x128 : Shape := ⟨2, ![1408, 128]⟩
abbrev S512x128 : Shape := ⟨2, ![512, 128]⟩

abbrev nBuf : Space → Nat
  | .hbm => 37
  | .vmem => 10
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S64x64x16, .f32⟩
  | .hbm, ⟨3, _⟩ => ⟨S64x64x16, .f32⟩
  | .hbm, ⟨4, _⟩ => ⟨S8x8, .i32⟩
  | .hbm, ⟨5, _⟩ => ⟨S8x8, .i32⟩
  | .hbm, ⟨6, _⟩ => ⟨S_, .i32⟩
  | .hbm, ⟨7, _⟩ => ⟨S8x8, .i32⟩
  | .hbm, ⟨8, _⟩ => ⟨S8x8, .i32⟩
  | .hbm, ⟨9, _⟩ => ⟨S8x8, .i1⟩
  | .hbm, ⟨10, _⟩ => ⟨S8x8, .f32⟩
  | .hbm, ⟨11, _⟩ => ⟨S8x8x64x16, .f32⟩
  | .hbm, ⟨12, _⟩ => ⟨S8x8x16x64, .f32⟩
  | .hbm, ⟨13, _⟩ => ⟨S8x8x16x1x64, .f32⟩
  | .hbm, ⟨14, _⟩ => ⟨S1x8x1x8x1, .f32⟩
  | .hbm, ⟨15, _⟩ => ⟨S8x8x16x8x64, .f32⟩
  | .hbm, ⟨16, _⟩ => ⟨S8x8x16x8x64, .f32⟩
  | .hbm, ⟨17, _⟩ => ⟨S8x8x16x8x64, .f32⟩
  | .hbm, ⟨18, _⟩ => ⟨S8x128x512, .f32⟩
  | .hbm, ⟨19, _⟩ => ⟨S8x512x128, .f32⟩
  | .hbm, ⟨20, _⟩ => ⟨S8x8, .i32⟩
  | .hbm, ⟨21, _⟩ => ⟨S8x8, .i32⟩
  | .hbm, ⟨22, _⟩ => ⟨S_, .i32⟩
  | .hbm, ⟨23, _⟩ => ⟨S8x8, .i32⟩
  | .hbm, ⟨24, _⟩ => ⟨S8x8, .i32⟩
  | .hbm, ⟨25, _⟩ => ⟨S8x8, .i1⟩
  | .hbm, ⟨26, _⟩ => ⟨S8x8, .f32⟩
  | .hbm, ⟨27, _⟩ => ⟨S8x8x64x16, .f32⟩
  | .hbm, ⟨28, _⟩ => ⟨S8x8x16x64, .f32⟩
  | .hbm, ⟨29, _⟩ => ⟨S8x8x16x1x64, .f32⟩
  | .hbm, ⟨30, _⟩ => ⟨S1x8x1x8x1, .f32⟩
  | .hbm, ⟨31, _⟩ => ⟨S8x8x16x8x64, .f32⟩
  | .hbm, ⟨32, _⟩ => ⟨S8x8x16x8x64, .f32⟩
  | .hbm, ⟨33, _⟩ => ⟨S8x8x16x8x64, .f32⟩
  | .hbm, ⟨34, _⟩ => ⟨S8x128x512, .f32⟩
  | .hbm, ⟨35, _⟩ => ⟨S8x512x128, .f32⟩
  | .hbm, ⟨36, _⟩ => ⟨S4224x1024, .f32⟩
  | .local _ .vmem, ⟨0, _⟩ => ⟨S1408x512, .bf16⟩
  | .local _ .vmem, ⟨1, _⟩ => ⟨S1408x512, .bf16⟩
  | .local _ .vmem, ⟨2, _⟩ => ⟨S1408x512, .bf16⟩
  | .local _ .vmem, ⟨3, _⟩ => ⟨S1408x512, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1408x128, .f32⟩
  | .local _ .vmem, ⟨9, _⟩ => ⟨S1408x128, .f32⟩
  | _, _ => ⟨S4224x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RefBGradIdeal.lean ====
abbrev S4224x4096 : Shape := ⟨2, ![4224, 4096]⟩
abbrev S64x64x16 : Shape := ⟨3, ![64, 64, 16]⟩
abbrev S_ : Shape := ⟨0, ![]⟩
abbrev S4224x1024 : Shape := ⟨2, ![4224, 1024]⟩
abbrev S4224x64x16 : Shape := ⟨3, ![4224, 64, 16]⟩
abbrev S64x64x4224 : Shape := ⟨3, ![64, 64, 4224]⟩
abbrev S4224x64x64 : Shape := ⟨3, ![4224, 64, 64]⟩
abbrev S64x4224x16 : Shape := ⟨3, ![64, 4224, 16]⟩

abbrev nBuf : Space → Nat
  | .hbm => 25
  | .vmem => 0
  | .smem => 0
  | _ => 0

abbrev bufTy : (tb : Table) → Fin (tcTables nBuf tb) → BufTy
  | .hbm, ⟨0, _⟩ => ⟨S4224x4096, .bf16⟩
  | .hbm, ⟨1, _⟩ => ⟨S4224x4096, .bf16⟩
  | .hbm, ⟨2, _⟩ => ⟨S64x64x16, .f32⟩
  | .hbm, ⟨3, _⟩ => ⟨S64x64x16, .f32⟩
  | .hbm, ⟨4, _⟩ => ⟨S4224x4096, .f32⟩
  | .hbm, ⟨5, _⟩ => ⟨S4224x4096, .f32⟩
  | .hbm, ⟨6, _⟩ => ⟨S_, .f32⟩
  | .hbm, ⟨7, _⟩ => ⟨S4224x1024, .f32⟩
  | .hbm, ⟨8, _⟩ => ⟨S4224x64x16, .f32⟩
  | .hbm, ⟨9, _⟩ => ⟨S64x64x4224, .f32⟩
  | .hbm, ⟨10, _⟩ => ⟨S4224x64x64, .f32⟩
  | .hbm, ⟨11, _⟩ => ⟨S4224x4096, .f32⟩
  | .hbm, ⟨12, _⟩ => ⟨S64x64x4224, .f32⟩
  | .hbm, ⟨13, _⟩ => ⟨S4224x64x64, .f32⟩
  | .hbm, ⟨14, _⟩ => ⟨S4224x4096, .f32⟩
  | .hbm, ⟨15, _⟩ => ⟨S4224x64x64, .f32⟩
  | .hbm, ⟨16, _⟩ => ⟨S64x64x4224, .f32⟩
  | .hbm, ⟨17, _⟩ => ⟨S64x4224x16, .f32⟩
  | .hbm, ⟨18, _⟩ => ⟨S4224x64x16, .f32⟩
  | .hbm, ⟨19, _⟩ => ⟨S4224x64x64, .f32⟩
  | .hbm, ⟨20, _⟩ => ⟨S64x64x4224, .f32⟩
  | .hbm, ⟨21, _⟩ => ⟨S64x4224x16, .f32⟩
  | .hbm, ⟨22, _⟩ => ⟨S4224x64x16, .f32⟩
  | .hbm, ⟨23, _⟩ => ⟨S4224x64x16, .f32⟩
  | .hbm, ⟨24, _⟩ => ⟨S4224x1024, .f32⟩
  | _, _ => ⟨S4224x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Proof.Products.lean ====
/-
  Products of two matrices over the extended reals, read entry by entry: the four orientations a matrix unit or
  the host contracts (either factor transposed or not), each as one sum over the contracted axis, and that sum cut
  into the blocks a kernel adds up one after another.
-/
module

public import Idealize.ShloMosaic.PureOps.Ideal
public import Idealize.ShloMosaic.PureOps.Ideal.Laws
public import Idealize.ShloMosaic.Lib.ValueIdx
public import Idealize.ShloMosaic.Lib.MatmulPlain
public import Idealize.ShloMosaic.Lib.Pipeline.Value
public import Idealize.ShloMosaic.Lib.IdealHost
public import Idealize.ShloMosaic.Lib.Tactic
public import Idealize.ShloMosaic.Lib.Quiescent
@[expose] public section

noncomputable section
namespace Cert.Products
open Idealize.ShloMosaic Idealize.ShloMosaic.ValueIdx
open scoped BigOperators

/-- A matrix of extended reals with `M` rows and `N` columns. -/
abbrev Mat (M N : ℕ) : Type := (⟨2, ![M, N]⟩ : Shape).Idx → EReal

/-- Entry (r, c) of `x · w`. -/
def nn {M K N : ℕ} (x : Mat M K) (w : Mat K N) (r : Fin M) (c : Fin N) : EReal := ∑ k : Fin K, x (ix2 r k) * w (ix2 k c)

section
variable {M K N : ℕ} (wf : DotDims.WF ⟨2, ![M, K]⟩ ⟨2, ![K, N]⟩ ⟨2, ![M, N]⟩ [1] [0] [0] [1] [] [])

/-- The dimension numbers of `x · w`. -/
abbrev dimsNN : DotDims ⟨2, ![M, K]⟩ ⟨2, ![K, N]⟩ ⟨2, ![M, N]⟩ := ⟨[1], [0], [0], [1], [], [], wf⟩

theorem contract_nn (x : Mat M K) (w : Mat K N) (r : Fin M) (c : Fin N) :
    ∑ k : (dimsNN wf).contr.Idx, x ((dimsNN wf).lhsIdx (ix2 r c) k) * w ((dimsNN wf).rhsIdx (ix2 r c) k) = nn x w r c := by
  rw [← Equiv.sum_comp (contrEquiv1 (dimsNN wf) K rfl rfl).symm]
  refine Finset.sum_congr rfl fun k _ => ?_
  have hk := contrEquiv1_symm_val (dimsNN wf) K rfl rfl k
  have el : (dimsNN wf).lhsIdx (ix2 r c) ((contrEquiv1 (dimsNN wf) K rfl rfl).symm k) = ix2 r k := by
    funext a; apply Fin.ext
    match a with
    | ⟨0, _⟩ => rfl
    | ⟨1, _⟩ => exact hk
  have er : (dimsNN wf).rhsIdx (ix2 r c) ((contrEquiv1 (dimsNN wf) K rfl rfl).symm k) = ix2 k c := by
    funext a; apply Fin.ext
    match a with
    | ⟨0, _⟩ => exact hk
    | ⟨1, _⟩ => rfl
  rw [el, er]

/-- The matrix unit's product into zero, at an entry. -/
theorem unit_nn {φ₁ φ₂ : FTy} (prec : Option ContractPrecision) (x : FVec Ideal ⟨2, ![M, K]⟩ φ₁) (w : FVec Ideal ⟨2, ![K, N]⟩ φ₂)
    (r : Fin M) (c : Fin N) :
    FloatOps.matmul (dimsNN wf) prec x w (constant ⟨2, ![M, N]⟩ .f32 0x00000000#32) (ix2 r c) = nn x w r c := by
  rw [Ideal.matmul_constant_zero_apply]
  exact contract_nn wf x w r c

/-- The host's product, at an entry. -/
theorem host_nn {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (dimsNN wf) prec sched x w (ix2 r c) = nn x w r c := by
  rw [Ideal.dotGeneral_apply]
  exact contract_nn wf x w r c

theorem all_nn {d : DotDims ⟨2, ![M, K]⟩ ⟨2, ![K, N]⟩ ⟨2, ![M, N]⟩} (h : d = dimsNN wf) (x : FVec Ideal ⟨2, ![M, K]⟩ .f32) (w : FVec Ideal ⟨2, ![K, N]⟩ .f32) :
    (Host.dotGeneral d none x w : FVec Ideal _ .f32) = (fun i => nn x w (i 0) (i 1) : Mat M N) := by
  subst h
  funext i
  rw [eq_ix2 i]
  exact host_nn wf none _ x w _ _
end

/-- Entry (r, c) of `x · wᵀ`. -/
def nt {M K N : ℕ} (x : Mat M K) (w : Mat N K) (r : Fin M) (c : Fin N) : EReal := ∑ k : Fin K, x (ix2 r k) * w (ix2 c k)

section
variable {M K N : ℕ} (wf : DotDims.WF ⟨2, ![M, K]⟩ ⟨2, ![N, K]⟩ ⟨2, ![M, N]⟩ [1] [1] [0] [0] [] [])

/-- The dimension numbers of `x · wᵀ`. -/
abbrev dimsNT : DotDims ⟨2, ![M, K]⟩ ⟨2, ![N, K]⟩ ⟨2, ![M, N]⟩ := ⟨[1], [1], [0], [0], [], [], wf⟩

theorem contract_nt (x : Mat M K) (w : Mat N K) (r : Fin M) (c : Fin N) :
    ∑ k : (dimsNT wf).contr.Idx, x ((dimsNT wf).lhsIdx (ix2 r c) k) * w ((dimsNT wf).rhsIdx (ix2 r c) k) = nt x w r c := by
  rw [← Equiv.sum_comp (contrEquiv1 (dimsNT wf) K rfl rfl).symm]
  refine Finset.sum_congr rfl fun k _ => ?_
  have hk := contrEquiv1_symm_val (dimsNT wf) K rfl rfl k
  have el : (dimsNT wf).lhsIdx (ix2 r c) ((contrEquiv1 (dimsNT wf) K rfl rfl).symm k) = ix2 r k := by
    funext a; apply Fin.ext
    match a with
    | ⟨0, _⟩ => rfl
    | ⟨1, _⟩ => exact hk
  have er : (dimsNT wf).rhsIdx (ix2 r c) ((contrEquiv1 (dimsNT wf) K rfl rfl).symm k) = ix2 c k := by
    funext a; apply Fin.ext
    match a with
    | ⟨0, _⟩ => rfl
    | ⟨1, _⟩ => exact hk
  rw [el, er]

/-- The matrix unit's product into zero, at an entry. -/
theorem unit_nt {φ₁ φ₂ : FTy} (prec : Option ContractPrecision) (x : FVec Ideal ⟨2, ![M, K]⟩ φ₁) (w : FVec Ideal ⟨2, ![N, K]⟩ φ₂)
    (r : Fin M) (c : Fin N) :
    FloatOps.matmul (dimsNT wf) prec x w (constant ⟨2, ![M, N]⟩ .f32 0x00000000#32) (ix2 r c) = nt x w r c := by
  rw [Ideal.matmul_constant_zero_apply]
  exact contract_nt wf x w r c

/-- The host's product, at an entry. -/
theorem host_nt {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (dimsNT wf) prec sched x w (ix2 r c) = nt x w r c := by
  rw [Ideal.dotGeneral_apply]
  exact contract_nt wf x w r c

theorem all_nt {d : DotDims ⟨2, ![M, K]⟩ ⟨2, ![N, K]⟩ ⟨2, ![M, N]⟩} (h : d = dimsNT wf) (x : FVec Ideal ⟨2, ![M, K]⟩ .f32) (w : FVec Ideal ⟨2, ![N, K]⟩ .f32) :
    (Host.dotGeneral d none x w : FVec Ideal _ .f32) = (fun i => nt x w (i 0) (i 1) : Mat M N) := by
  subst h
  funext i
  rw [eq_ix2 i]
  exact host_nt wf none _ x w _ _
end

/-- Entry (r, c) of `xᵀ · w`. -/
def tn {M K N : ℕ} (x : Mat K M) (w : Mat K N) (r : Fin M) (c : Fin N) : EReal := ∑ k : Fin K, x (ix2 k r) * w (ix2 k c)

section
variable {M K N : ℕ} (wf : DotDims.WF ⟨2, ![K, M]⟩ ⟨2, ![K, N]⟩ ⟨2, ![M, N]⟩ [0] [0] [1] [1] [] [])

/-- The dimension numbers of `xᵀ · w`. -/
abbrev dimsTN : DotDims ⟨2, ![K, M]⟩ ⟨2, ![K, N]⟩ ⟨2, ![M, N]⟩ := ⟨[0], [0], [1], [1], [], [], wf⟩

theorem contract_tn (x : Mat K M) (w : Mat K N) (r : Fin M) (c : Fin N) :
    ∑ k : (dimsTN wf).contr.Idx, x ((dimsTN wf).lhsIdx (ix2 r c) k) * w ((dimsTN wf).rhsIdx (ix2 r c) k) = tn x w r c := by
  rw [← Equiv.sum_comp (contrEquiv1 (dimsTN wf) K rfl rfl).symm]
  refine Finset.sum_congr rfl fun k _ => ?_
  have hk := contrEquiv1_symm_val (dimsTN wf) K rfl rfl k
  have el : (dimsTN wf).lhsIdx (ix2 r c) ((contrEquiv1 (dimsTN wf) K rfl rfl).symm k) = ix2 k r := by
    funext a; apply Fin.ext
    match a with
    | ⟨0, _⟩ => exact hk
    | ⟨1, _⟩ => rfl
  have er : (dimsTN wf).rhsIdx (ix2 r c) ((contrEquiv1 (dimsTN wf) K rfl rfl).symm k) = ix2 k c := by
    funext a; apply Fin.ext
    match a with
    | ⟨0, _⟩ => exact hk
    | ⟨1, _⟩ => rfl
  rw [el, er]

/-- The matrix unit's product into zero, at an entry. -/
theorem unit_tn {φ₁ φ₂ : FTy} (prec : Option ContractPrecision) (x : FVec Ideal ⟨2, ![K, M]⟩ φ₁) (w : FVec Ideal ⟨2, ![K, N]⟩ φ₂)
    (r : Fin M) (c : Fin N) :
    FloatOps.matmul (dimsTN wf) prec x w (constant ⟨2, ![M, N]⟩ .f32 0x00000000#32) (ix2 r c) = tn x w r c := by
  rw [Ideal.matmul_constant_zero_apply]
  exact contract_tn wf x w r c

/-- The host's product, at an entry. -/
theorem host_tn {φ₁ φ₂ : FTy} (prec : Option ContractPrecision) (sched : HostSchedule)
    (x : FVec Ideal ⟨2, ![K, M]⟩ φ₁) (w : FVec Ideal ⟨2, ![K, N]⟩ φ₂) (r : Fin M) (c : Fin N) :
    FloatOps.dotGeneral (dimsTN wf) prec sched x w (ix2 r c) = tn x w r c := by
  rw [Ideal.dotGeneral_apply]
  exact contract_tn wf x w r c

theorem all_tn {d : DotDims ⟨2, ![K, M]⟩ ⟨2, ![K, N]⟩ ⟨2, ![M, N]⟩} (h : d = dimsTN wf) (x : FVec Ideal ⟨2, ![K, M]⟩ .f32) (w : FVec Ideal ⟨2, ![K, N]⟩ .f32) :
    (Host.dotGeneral d none x w : FVec Ideal _ .f32) = (fun i => tn x w (i 0) (i 1) : Mat M N) := by
  subst h
  funext i
  rw [eq_ix2 i]
  exact host_tn wf none _ x w _ _
end

/-- Entry (r, c) of `xᵀ · wᵀ`. -/
def tt {M K N : ℕ} (x : Mat K M) (w : Mat N K) (r : Fin M) (c : Fin N) : EReal := ∑ k : Fin K, x (ix2 k r) * w (ix2 c k)

section
variable {M K N : ℕ} (wf : DotDims.WF ⟨2, ![K, M]⟩ ⟨2, ![N, K]⟩ ⟨2, ![M, N]⟩ [0] [1] [1] [0] [] [])

/-- The dimension numbers of `xᵀ · wᵀ`. -/
abbrev dimsTT : DotDims ⟨2, ![K, M]⟩ ⟨2, ![N, K]⟩ ⟨2, ![M, N]⟩ := ⟨[0], [1], [1], [0], [], [], wf⟩

theorem contract_tt (x : Mat K M) (w : Mat N K) (r : Fin M) (c : Fin N) :
    ∑ k : (dimsTT wf).contr.Idx, x ((dimsTT wf).lhsIdx (ix2 r c) k) * w ((dimsTT wf).rhsIdx (ix2 r c) k) = tt x w r c := by
  rw [← Equiv.sum_comp (contrEquiv1 (dimsTT wf) K rfl rfl).symm]
  refine Finset.sum_congr rfl fun k _ => ?_
  have hk := contrEquiv1_symm_val (dimsTT wf) K rfl rfl k
  have el : (dimsTT wf).lhsIdx (ix2 r c) ((contrEquiv1 (dimsTT wf) K rfl rfl).symm k) = ix2 k r := by
    funext a; apply Fin.ext
    match a with
    | ⟨0, _⟩ => exact hk
    | ⟨1, _⟩ => rfl
  have er : (dimsTT wf).rhsIdx (ix2 r c) ((contrEquiv1 (dimsTT wf) K rfl rfl).symm k) = ix2 c k := by
    funext a; apply Fin.ext
    match a with
    | ⟨0, _⟩ => rfl
    | ⟨1, _⟩ => exact hk
  rw [el, er]

/-- The matrix unit's product into zero, at an entry. -/
theorem unit_tt {φ₁ φ₂ : FTy} (prec : Option ContractPrecision) (x : FVec Ideal ⟨2, ![K, M]⟩ φ₁) (w : FVec Ideal ⟨2, ![N, K]⟩ φ₂)
    (r : Fin M) (c : Fin N) :
    FloatOps.matmul (dimsTT wf) prec x w (constant ⟨2, ![M, N]⟩ .f32 0x00000000#32) (ix2 r c) = tt x w r c := by
  rw [Ideal.matmul_constant_zero_apply]
  exact contract_tt wf x w r c
end

/-- Two blocks. -/
theorem sum_two {K : ℕ} (T : ℕ) (hK : T + T = K) (f : Fin K → EReal) :
    ∑ k : Fin K, f k = (∑ k : Fin T, f ⟨k.val, by have := k.isLt; omega⟩) + ∑ k : Fin T, f ⟨T + k.val, by have := k.isLt; omega⟩ := by
  subst hK
  exact Fin.sum_univ_add f

/-- Three blocks, added from the left. -/
theorem sum_three {K : ℕ} (T : ℕ) (hK : T + T + T = K) (f : Fin K → EReal) :
    ∑ k : Fin K, f k = ((∑ k : Fin T, f ⟨k.val, by have := k.isLt; omega⟩) + ∑ k : Fin T, f ⟨T + k.val, by have := k.isLt; omega⟩)
      + ∑ k : Fin T, f ⟨T + T + k.val, by have := k.isLt; omega⟩ := by
  subst hK
  rw [Fin.sum_univ_add f, Fin.sum_univ_add (fun k : Fin (T + T) => f (Fin.castAdd T k))]
  rfl

/-- The point before. -/
abbrev back {n : ℕ} (t : Fin n) : Fin n := ⟨t.val - 1, Nat.lt_of_le_of_lt (Nat.sub_le _ _) t.isLt⟩

/-- The entry of an array that an entry of a block is: the block's number along each axis times its size, and the entry. -/
theorem at_block {M N a b i0 i1 I J : ℕ} {e : (⟨2, ![M, N]⟩ : Shape).Idx} {r : Fin a} {q : Fin b} {R : Fin M} {C : Fin N}
    (h0 : i0 = I) (h1 : i1 = J) (hR : R.val = I * a + r.val) (hC : C.val = J * b + q.val)
    (e0 : (e 0).val = i0 * a + 1 * r.val) (e1 : (e 1).val = i1 * b + 1 * q.val) : e = ValueIdx.ix2 R C :=
  funext fun d => Fin.ext (match d with
    | ⟨0, _⟩ => by rw [← h0] at hR; show (e 0).val = R.val; omega
    | ⟨1, _⟩ => by rw [← h1] at hC; show (e 1).val = C.val; omega)

/-- An entry inside a block's range along both axes is one of its entries. -/
theorem mem_block {M N a b i0 i1 I J : ℕ} {off : Fin 2 → ℕ} {inb} {i : (⟨2, ![M, N]⟩ : Shape).Idx}
    (h0 : i0 = I) (h1 : i1 = J) (o0 : off 0 = i0 * a) (o1 : off 1 = i1 * b)
    (b0 : I * a ≤ (i 0).val ∧ (i 0).val < I * a + a) (b1 : J * b ≤ (i 1).val ∧ (i 1).val < J * b + b) :
    i ∈ (Rect.unit (s := ⟨2, ![M, N]⟩) off ![a, b] inb).set := by
  rw [Rect.mem_set_unit]
  intro d
  rw [← h0, ← o0] at b0
  rw [← h1, ← o1] at b1
  match d with
  | ⟨0, _⟩ => exact b0
  | ⟨1, _⟩ => exact b1

theorem zeros : (![0, 0] : Fin 2 → Nat) = fun _ => 0 := funext fun a => by fin_cases a <;> rfl

theorem eq_ix2 {A B : ℕ} (y : (⟨2, ![A, B]⟩ : Shape).Idx) : y = ix2 (y 0) (y 1) := by
  funext a
  match a with
  | ⟨0, _⟩ => rfl
  | ⟨1, _⟩ => rfl

/-- The columns of `w` from column `o` on. -/
def colsFrom {M N' : ℕ} (o N : ℕ) (h : o + N ≤ N') (w : Mat M N') : Mat M N :=
  fun i => w (ix2 (i 0) ⟨o + (i 1).val, lt_of_lt_of_le (Nat.add_lt_add_left (i 1).isLt o) h⟩)

theorem slice_cols {M N' N o : ℕ} (w : Mat M N') (hs : (⟨2, ![M, N']⟩ : Shape).Slices ![0, o] ⟨2, ![M, N]⟩) (h : o + N ≤ N') :
    extractStridedSlice ⟨2, ![M, N]⟩ ![0, o] w hs = colsFrom o N h w := by
  funext i
  unfold extractStridedSlice colsFrom
  congr 1
  funext a
  apply Fin.ext
  match a with
  | ⟨0, _⟩ => show 0 + (i 0).val = (i 0).val; omega
  | ⟨1, _⟩ => rfl

theorem nn_congr {M N M' N' K : ℕ} {x : Mat M K} {w : Mat K N} {x' : Mat M' K} {w' : Mat K N'}
    {r : Fin M} {c : Fin N} {r' : Fin M'} {c' : Fin N'} (hx : ∀ k, x (ix2 r k) = x' (ix2 r' k)) (hw : ∀ k, w (ix2 k c) = w' (ix2 k c')) :
    nn x w r c = nn x' w' r' c' := Finset.sum_congr rfl fun k _ => by rw [hx k, hw k]

theorem nt_congr {M N M' N' K : ℕ} {x : Mat M K} {w : Mat N K} {x' : Mat M' K} {w' : Mat N' K}
    {r : Fin M} {c : Fin N} {r' : Fin M'} {c' : Fin N'} (hx : ∀ k, x (ix2 r k) = x' (ix2 r' k)) (hw : ∀ k, w (ix2 c k) = w' (ix2 c' k)) :
    nt x w r c = nt x' w' r' c' := Finset.sum_congr rfl fun k _ => by rw [hx k, hw k]

theorem tt_congr {M N M' N' K : ℕ} {x : Mat K M} {w : Mat N K} {x' : Mat K M'} {w' : Mat N' K}
    {r : Fin M} {c : Fin N} {r' : Fin M'} {c' : Fin N'} (hx : ∀ k, x (ix2 k r) = x' (ix2 k r')) (hw : ∀ k, w (ix2 c k) = w' (ix2 c' k)) :
    tt x w r c = tt x' w' r' c' := Finset.sum_congr rfl fun k _ => by rw [hx k, hw k]

/-- The product of two blocks is a stretch of the whole sum. -/
theorem nn_part {M N M' N' T K : ℕ} {x : Mat M T} {w : Mat T N} {x' : Mat M' K} {w' : Mat K N'}
    {r : Fin M} {c : Fin N} {r' : Fin M'} {c' : Fin N'} (ι : Fin T → Fin K) (hx : ∀ k, x (ix2 r k) = x' (ix2 r' (ι k))) (hw : ∀ k, w (ix2 k c) = w' (ix2 (ι k) c')) :
    nn x w r c = ∑ k : Fin T, x' (ix2 r' (ι k)) * w' (ix2 (ι k) c') := Finset.sum_congr rfl fun k _ => by rw [hx k, hw k]

theorem nn_two {M N K : ℕ} (T : ℕ) (hK : T + T = K) (x : Mat M K) (w : Mat K N) (r : Fin M) (c : Fin N) :
    nn x w r c = (∑ k : Fin T, x (ix2 r ⟨k.val, by have := k.isLt; omega⟩) * w (ix2 ⟨k.val, by have := k.isLt; omega⟩ c))
      + ∑ k : Fin T, x (ix2 r ⟨T + k.val, by have := k.isLt; omega⟩) * w (ix2 ⟨T + k.val, by have := k.isLt; omega⟩ c) :=
  sum_two T hK fun k => x (ix2 r k) * w (ix2 k c)

/-- The product of two blocks is a stretch of the whole sum. -/
theorem nt_part {M N M' N' T K : ℕ} {x : Mat M T} {w : Mat N T} {x' : Mat M' K} {w' : Mat N' K}
    {r : Fin M} {c : Fin N} {r' : Fin M'} {c' : Fin N'} (ι : Fin T → Fin K) (hx : ∀ k, x (ix2 r k) = x' (ix2 r' (ι k))) (hw : ∀ k, w (ix2 c k) = w' (ix2 c' (ι k))) :
    nt x w r c = ∑ k : Fin T, x' (ix2 r' (ι k)) * w' (ix2 c' (ι k)) := Finset.sum_congr rfl fun k _ => by rw [hx k, hw k]

theorem nt_two {M N K : ℕ} (T : ℕ) (hK : T + T = K) (x : Mat M K) (w : Mat N K) (r : Fin M) (c : Fin N) :
    nt x w r c = (∑ k : Fin T, x (ix2 r ⟨k.val, by have := k.isLt; omega⟩) * w (ix2 c ⟨k.val, by have := k.isLt; omega⟩))
      + ∑ k : Fin T, x (ix2 r ⟨T + k.val, by have := k.isLt; omega⟩) * w (ix2 c ⟨T + k.val, by have := k.isLt; omega⟩) :=
  sum_two T hK fun k => x (ix2 r k) * w (ix2 c k)

theorem tn_three {M N K : ℕ} (T : ℕ) (hK : T + T + T = K) (x : Mat K M) (w : Mat K N) (r : Fin M) (c : Fin N) :
    tn x w r c = ((∑ k : Fin T, x (ix2 ⟨k.val, by have := k.isLt; omega⟩ r) * w (ix2 ⟨k.val, by have := k.isLt; omega⟩ c))
      + ∑ k : Fin T, x (ix2 ⟨T + k.val, by have := k.isLt; omega⟩ r) * w (ix2 ⟨T + k.val, by have := k.isLt; omega⟩ c))
      + ∑ k : Fin T, x (ix2 ⟨T + T + k.val, by have := k.isLt; omega⟩ r) * w (ix2 ⟨T + T + k.val, by have := k.isLt; omega⟩ c) :=
  sum_three T hK fun k => x (ix2 k r) * w (ix2 k c)

/-- Three products of blocks add up to the product of the wholes. -/
theorem tn_blocks {M N M' N' K : ℕ} (T : ℕ) (hK : T + T + T = K) {x0 x1 x2 : Mat T M} {w0 w1 w2 : Mat T N} {x : Mat K M'} {w : Mat K N'}
    {r : Fin M} {c : Fin N} {R : Fin M'} {C : Fin N'}
    (h0 : ∀ k (j : Fin K), j.val = k.val → x0 (ix2 k r) = x (ix2 j R) ∧ w0 (ix2 k c) = w (ix2 j C))
    (h1 : ∀ k (j : Fin K), j.val = T + k.val → x1 (ix2 k r) = x (ix2 j R) ∧ w1 (ix2 k c) = w (ix2 j C))
    (h2 : ∀ k (j : Fin K), j.val = T + T + k.val → x2 (ix2 k r) = x (ix2 j R) ∧ w2 (ix2 k c) = w (ix2 j C)) :
    tn x0 w0 r c + tn x1 w1 r c + tn x2 w2 r c = tn x w R C := by
  rw [tn_three T hK]
  exact congrArg₂ (· + ·) (congrArg₂ (· + ·) (Finset.sum_congr rfl fun k _ => congrArg₂ (· * ·) (h0 k _ rfl).1 (h0 k _ rfl).2)
    (Finset.sum_congr rfl fun k _ => congrArg₂ (· * ·) (h1 k _ rfl).1 (h1 k _ rfl).2))
    (Finset.sum_congr rfl fun k _ => congrArg₂ (· * ·) (h2 k _ rfl).1 (h2 k _ rfl).2)

/-- The product of two blocks is a stretch of the whole sum. -/
theorem tt_part {M N M' N' T K : ℕ} {x : Mat T M} {w : Mat N T} {x' : Mat K M'} {w' : Mat N' K}
    {r : Fin M} {c : Fin N} {r' : Fin M'} {c' : Fin N'} (ι : Fin T → Fin K) (hx : ∀ k, x (ix2 k r) = x' (ix2 (ι k) r')) (hw : ∀ k, w (ix2 c k) = w' (ix2 c' (ι k))) :
    tt x w r c = ∑ k : Fin T, x' (ix2 (ι k) r') * w' (ix2 c' (ι k)) := Finset.sum_congr rfl fun k _ => by rw [hx k, hw k]

theorem tt_two {M N K : ℕ} (T : ℕ) (hK : T + T = K) (x : Mat K M) (w : Mat N K) (r : Fin M) (c : Fin N) :
    tt x w r c = (∑ k : Fin T, x (ix2 ⟨k.val, by have := k.isLt; omega⟩ r) * w (ix2 c ⟨k.val, by have := k.isLt; omega⟩))
      + ∑ k : Fin T, x (ix2 ⟨T + k.val, by have := k.isLt; omega⟩ r) * w (ix2 c ⟨T + k.val, by have := k.isLt; omega⟩) :=
  sum_two T hK fun k => x (ix2 k r) * w (ix2 c k)

theorem tt_three {M N K : ℕ} (T : ℕ) (hK : T + T + T = K) (x : Mat K M) (w : Mat N K) (r : Fin M) (c : Fin N) :
    tt x w r c = ((∑ k : Fin T, x (ix2 ⟨k.val, by have := k.isLt; omega⟩ r) * w (ix2 c ⟨k.val, by have := k.isLt; omega⟩))
      + ∑ k : Fin T, x (ix2 ⟨T + k.val, by have := k.isLt; omega⟩ r) * w (ix2 c ⟨T + k.val, by have := k.isLt; omega⟩))
      + ∑ k : Fin T, x (ix2 ⟨T + T + k.val, by have := k.isLt; omega⟩ r) * w (ix2 c ⟨T + T + k.val, by have := k.isLt; omega⟩) :=
  sum_three T hK fun k => x (ix2 k r) * w (ix2 c k)

/-- Three products of blocks add up to the product of the wholes. -/
theorem tt_blocks {M N M' N' K : ℕ} (T : ℕ) (hK : T + T + T = K) {x0 x1 x2 : Mat T M} {w0 w1 w2 : Mat N T} {x : Mat K M'} {w : Mat N' K}
    {r : Fin M} {c : Fin N} {R : Fin M'} {C : Fin N'}
    (h0 : ∀ k (j : Fin K), j.val = k.val → x0 (ix2 k r) = x (ix2 j R) ∧ w0 (ix2 c k) = w (ix2 C j))
    (h1 : ∀ k (j : Fin K), j.val = T + k.val → x1 (ix2 k r) = x (ix2 j R) ∧ w1 (ix2 c k) = w (ix2 C j))
    (h2 : ∀ k (j : Fin K), j.val = T + T + k.val → x2 (ix2 k r) = x (ix2 j R) ∧ w2 (ix2 c k) = w (ix2 C j)) :
    tt x0 w0 r c + tt x1 w1 r c + tt x2 w2 r c = tt x w R C := by
  rw [tt_three T hK]
  exact congrArg₂ (· + ·) (congrArg₂ (· + ·) (Finset.sum_congr rfl fun k _ => congrArg₂ (· * ·) (h0 k _ rfl).1 (h0 k _ rfl).2)
    (Finset.sum_congr rfl fun k _ => congrArg₂ (· * ·) (h1 k _ rfl).1 (h1 k _ rfl).2))
    (Finset.sum_congr rfl fun k _ => congrArg₂ (· * ·) (h2 k _ rfl).1 (h2 k _ rfl).2)

/-- Two matrices side by side against the rows of `w`: each against its own columns. -/
theorem nt_beside {M N T K : ℕ} (hK : T + T = K) (h0 : 0 + T ≤ K) (h1 : T + T ≤ K) (x y : Mat M T) (w : Mat N K)
    (h : Shape.Concatenates [⟨2, ![M, T]⟩, ⟨2, ![M, T]⟩] ⟨2, ![M, K]⟩ 1) (r : Fin M) (c : Fin N) :
    nt (concatenate (⟨2, ![M, K]⟩ : Shape) 1 [⟨⟨2, ![M, T]⟩, x⟩, ⟨⟨2, ![M, T]⟩, y⟩] h : Mat M K) w r c
      = nt x (colsFrom 0 T h0 w) r c + nt y (colsFrom T T h1 w) r c := by
  rw [nt_two T hK]
  congr 1
  · refine Finset.sum_congr rfl fun k _ => congrArg₂ (· * ·) ?_ (congrArg w ?_)
    · refine concatenate_pair_apply_left (t := ⟨2, ![M, K]⟩) (s₁ := ⟨2, ![M, T]⟩) (s₂ := ⟨2, ![M, T]⟩) 1 x y h _ rfl (ix2 r k) fun b => ?_
      match b with
      | ⟨0, _⟩ => rfl
      | ⟨1, _⟩ => rfl
    · funext a; apply Fin.ext
      match a with
      | ⟨0, _⟩ => rfl
      | ⟨1, _⟩ => show k.val = 0 + k.val; omega
  · refine Finset.sum_congr rfl fun k _ => congrArg₂ (· * ·) ?_ (congrArg w ?_)
    · refine concatenate_pair_apply_right (t := ⟨2, ![M, K]⟩) (s₁ := ⟨2, ![M, T]⟩) (s₂ := ⟨2, ![M, T]⟩) 1 x y h _ rfl rfl (ix2 r k) (fun b hb => ?_) ?_
      · match b with
        | ⟨0, _⟩ => rfl
        | ⟨1, _⟩ => exact absurd rfl hb
      · show k.val + T = T + k.val; omega
    · funext a; apply Fin.ext
      match a with
      | ⟨0, _⟩ => rfl
      | ⟨1, _⟩ => rfl

/-- The transposed matrix. -/
def transposed {M N : ℕ} (w : Mat M N) : Mat N M := fun i => w (ix2 (i 1) (i 0))

theorem transpose_eq {M N : ℕ} (w : Mat M N) (h : (⟨2, ![M, N]⟩ : Shape).Transposes [1, 0] ⟨2, ![N, M]⟩) :
    transpose ⟨2, ![N, M]⟩ [1, 0] w h = transposed w := by
  funext i
  unfold transpose transposed
  congr 1
  funext a
  apply Fin.ext
  match a with
  | ⟨0, _⟩ => rfl
  | ⟨1, _⟩ => rfl

theorem tn_swap {M N K : ℕ} (x : Mat K M) (w : Mat K N) (r : Fin M) (c : Fin N) : tn w x c r = tn x w r c :=
  Finset.sum_congr rfl fun _ _ => mul_comm _ _

theorem nn_swap {M N K : ℕ} (x : Mat K M) (w : Mat N K) (r : Fin M) (c : Fin N) : nn w x c r = tt x w r c :=
  Finset.sum_congr rfl fun _ _ => mul_comm _ _

/-- The sigmoid as the kernels write it. -/
def sig (g : EReal) : EReal := Ideal.div 1 (1 + Ideal.exp (-g))

theorem sig_kernel (g : EReal) : Ideal.div (Ideal.ofBits .f32 0x3F800000#32)
    (Ideal.ofBits .f32 0x3F800000#32 + Ideal.exp (Ideal.ofBits .f32 0x00000000#32 - g)) = sig g := by
  rw [Ideal.ofBits_zero_f32, Ideal.ofBits_one_f32, zero_sub]; rfl
end Cert.Products
end
-- ==== Proof.FfnInValue.lean ====
/-
  The first product of the feed-forward layer with its gate: what each array of the call holds, entry by entry, and that
  the reference's arrays hold the same.
-/
module
public import proofs.«01_k».proof.Defs
public import proofs.«01_k».proof.Proof.Gen.FfnInIdeal.Value
public import proofs.«01_k».proof.Proof.Gen.RefFfnInIdeal.Run
public import proofs.«01_k».proof.Proof.Products
@[expose] public section
noncomputable section
namespace Cert.Proof.FfnIn
open FfnInIdeal FfnInIdeal.Gen Idealize.ShloMosaic TcCoe Idealize.SL.Sem ValueIdx Cert.Products
/-- The gate half of the first product. -/
def out3 (x0 : Mat 4224 1024) (x1 : Mat 1024 5632) : Mat 4224 2816 := fun i => (nn x0 (colsFrom 0 2816 (by decide) x1) (i 0) (i 1))
/-- The other half. -/
def out4 (x0 : Mat 4224 1024) (x1 : Mat 1024 5632) : Mat 4224 2816 := fun i => (nn x0 (colsFrom 2816 2816 (by decide) x1) (i 0) (i 1))
/-- The activation. -/
def out5 (x0 : Mat 4224 1024) (x1 : Mat 1024 5632) : Mat 4224 2816 := fun i => (nn x0 (colsFrom 0 2816 (by decide) x1) (i 0) (i 1)) * sig (nn x0 (colsFrom 0 2816 (by decide) x1) (i 0) (i 1)) * (nn x0 (colsFrom 2816 2816 (by decide) x1) (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 1024 5632 := m ((c : Thread nD τ).loc main_arg1)
theorem idx_facts : ∀ t : Fin cfg0.N,
    win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = 0 ∧ win0_2.index t (1 : Fin 2) = t.val % 11 + 11
    ∧ win0_3.index t (0 : Fin 2) = t.val / 11 ∧ win0_3.index t (1 : Fin 2) = t.val % 11
    ∧ win0_4.index t (0 : Fin 2) = t.val / 11 ∧ win0_4.index t (1 : Fin 2) = t.val % 11
    ∧ win0_5.index t (0 : Fin 2) = t.val / 11 ∧ win0_5.index t (1 : Fin 2) = t.val % 11 :=
  (by decide +kernel : ∀ t : Fin grid0.N, _)
theorem blk0 (r : Fin 1408) (q : Fin 1024) (R : Fin 4224) (C : Fin 1024)
    (hR : R.val = t.val / 11 * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 256) (R : Fin 1024) (C : Fin 2816)
    (hR : R.val = 0 * 1024 + r.val) (hC : C.val = t.val % 11 * 256 + q.val) :
    (iblk m c 1 t : Mat 1024 256) (ix2 r q) = (colsFrom 0 2816 (by decide) (arg1 m c)) (ix2 R C) := by
  obtain ⟨-, -, h0, h1, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 1024 + 1 * r.val = R.val; rw [h0]; omega
  | ⟨1, _⟩ => show win0_1.index t (1 : Fin 2) * 256 + 1 * q.val = 0 + C.val; rw [h1]; omega
theorem blk2 (r : Fin 1024) (q : Fin 256) (R : Fin 1024) (C : Fin 2816)
    (hR : R.val = 0 * 1024 + r.val) (hC : C.val = t.val % 11 * 256 + q.val) :
    (iblk m c 2 t : Mat 1024 256) (ix2 r q) = (colsFrom 2816 2816 (by decide) (arg1 m c)) (ix2 R C) := by
  obtain ⟨-, -, -, -, h0, h1, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_2.index t (0 : Fin 2) * 1024 + 1 * r.val = R.val; rw [h0]; omega
  | ⟨1, _⟩ => show win0_2.index t (1 : Fin 2) * 256 + 1 * q.val = 2816 + C.val; rw [h1]; omega
section
variable (b0 : Mat 1408 1024) (b1 : Mat 1024 256) (b2 : Mat 1024 256) (r : Fin 1408) (q : Fin 256)
theorem pay_out3 : (k0_pay3 (F := Ideal) b0 b1) (ix2 r q) = (nn b0 b1 r q) := unit_nn (φ₁ := .bf16) (φ₂ := .bf16) _ none b0 b1 r q
theorem pay_out4 : (k0_pay4 (F := Ideal) b0 b2) (ix2 r q) = (nn b0 b2 r q) := unit_nn (φ₁ := .bf16) (φ₂ := .bf16) _ none b0 b2 r q
theorem pay_out5 : (k0_pay5 (F := Ideal) b0 b1 b2) (ix2 r q) = (nn b0 b1 r q) * sig (nn b0 b1 r q) * (nn b0 b2 r q) := by
  rw [← pay_out3, ← pay_out4, ← sig_kernel]
  rfl
end
theorem flushed3 :
    (dats m 0 c).flushed 3 t = ((cfg0.win 3).blk t).view.read (Elt Ideal) (out3 (arg0 m c) (arg1 m c)) := by
  obtain ⟨-, -, -, -, -, -, h0, h1, -⟩ := idx_facts t
  have hN : t.val < 33 := lt_of_lt_of_eq t.isLt N_0
  rw [Value.flushed3]
  unfold out0_3
  rw [View.canon_unit_zero zeros]
  simp only [View.ld_unit_zero (S := S1024x256) zeros, View.ld_unit_zero (S := S1408x1024) zeros]
  funext y
  obtain ⟨r, q, rfl⟩ : ∃ (r : Fin 1408) (q : Fin 256), y = ix2 r q := ⟨y 0, y 1, ValueIdx.eq_ix2 y⟩
  have hR : t.val / 11 * 1408 + r.val < 4224 := by have := r.isLt; omega
  have hC : t.val % 11 * 256 + q.val < 2816 := by have := q.isLt; omega
  have he : ((cfg0.win 3).blk t).view.emb (ix2 r q) = ix2 (⟨t.val / 11 * 1408 + r.val, hR⟩ : Fin 4224) (⟨t.val % 11 * 256 + q.val, hC⟩ : Fin 2816) :=
    at_block h0 h1 rfl rfl rfl rfl
  show (k0_pay3 (F := Ideal) (iblk m c 0 t) (iblk m c 1 t)) (ix2 r q) = out3 (arg0 m c) (arg1 m c) (((cfg0.win 3).blk t).view.emb (ix2 r q))
  rw [he]
  refine (pay_out3 (iblk m c 0 t) (iblk m c 1 t) r q).trans ?_
  rw [nn_congr (fun k => blk0 m c t _ k ⟨_, hR⟩ k rfl (by omega)) (fun k => blk1 m c t k _ k ⟨_, hC⟩ (by omega) rfl)]
  rfl
theorem final3 : (dats m 0 c).arrAt 3 cfg0.N = out3 (arg0 m c) (arg1 m c) :=
  (dats m 0 c).arrAt_eq_of_cover 3 _ (fun t _ => flushed3 m c t) fun i => by
    have hi0 : (i 0).val < 4224 := (i 0).isLt
    have hi1 : (i 1).val < 2816 := (i 1).isLt
    have ht : (i 0).val / 1408 * 11 + (i 1).val / 256 < cfg0.N := by rw [show cfg0.N = 33 from N_0]; omega
    refine ⟨⟨_, ht⟩, ?_, ?_⟩
    · first | exact flush0_3 _ | exact rfl
    show i ∈ ((View.whole main_v0_0).slice (win0_3.rect ⟨_, ht⟩)).set
    rw [View.set_slice_whole]
    obtain ⟨-, -, -, -, -, -, h0, h1, -⟩ := idx_facts ⟨_, ht⟩
    exact mem_block h0 h1 rfl rfl (by dsimp only; omega) (by dsimp only; omega)
theorem flushed4 :
    (dats m 0 c).flushed 4 t = ((cfg0.win 4).blk t).view.read (Elt Ideal) (out4 (arg0 m c) (arg1 m c)) := by
  obtain ⟨-, -, -, -, -, -, -, -, h0, h1, -⟩ := idx_facts t
  have hN : t.val < 33 := lt_of_lt_of_eq t.isLt N_0
  rw [Value.flushed4]
  unfold out0_4
  rw [View.canon_unit_zero zeros]
  simp only [View.ld_unit_zero (S := S1024x256) zeros, View.ld_unit_zero (S := S1408x1024) zeros]
  funext y
  obtain ⟨r, q, rfl⟩ : ∃ (r : Fin 1408) (q : Fin 256), y = ix2 r q := ⟨y 0, y 1, ValueIdx.eq_ix2 y⟩
  have hR : t.val / 11 * 1408 + r.val < 4224 := by have := r.isLt; omega
  have hC : t.val % 11 * 256 + q.val < 2816 := by have := q.isLt; omega
  have he : ((cfg0.win 4).blk t).view.emb (ix2 r q) = ix2 (⟨t.val / 11 * 1408 + r.val, hR⟩ : Fin 4224) (⟨t.val % 11 * 256 + q.val, hC⟩ : Fin 2816) :=
    at_block h0 h1 rfl rfl rfl rfl
  show (k0_pay4 (F := Ideal) (iblk m c 0 t) (iblk m c 2 t)) (ix2 r q) = out4 (arg0 m c) (arg1 m c) (((cfg0.win 4).blk t).view.emb (ix2 r q))
  rw [he]
  refine (pay_out4 (iblk m c 0 t) (iblk m c 2 t) r q).trans ?_
  rw [nn_congr (fun k => blk0 m c t _ k ⟨_, hR⟩ k rfl (by omega)) (fun k => blk2 m c t k _ k ⟨_, hC⟩ (by omega) rfl)]
  rfl
theorem final4 : (dats m 0 c).arrAt 4 cfg0.N = out4 (arg0 m c) (arg1 m c) :=
  (dats m 0 c).arrAt_eq_of_cover 4 _ (fun t _ => flushed4 m c t) fun i => by
    have hi0 : (i 0).val < 4224 := (i 0).isLt
    have hi1 : (i 1).val < 2816 := (i 1).isLt
    have ht : (i 0).val / 1408 * 11 + (i 1).val / 256 < cfg0.N := by rw [show cfg0.N = 33 from N_0]; omega
    refine ⟨⟨_, ht⟩, ?_, ?_⟩
    · first | exact flush0_4 _ | exact rfl
    show i ∈ ((View.whole main_v0_1).slice (win0_4.rect ⟨_, ht⟩)).set
    rw [View.set_slice_whole]
    obtain ⟨-, -, -, -, -, -, -, -, h0, h1, -⟩ := idx_facts ⟨_, ht⟩
    exact mem_block h0 h1 rfl rfl (by dsimp only; omega) (by dsimp only; omega)
theorem flushed5 :
    (dats m 0 c).flushed 5 t = ((cfg0.win 5).blk t).view.read (Elt Ideal) (out5 (arg0 m c) (arg1 m c)) := by
  obtain ⟨-, -, -, -, -, -, -, -, -, -, h0, h1⟩ := idx_facts t
  have hN : t.val < 33 := lt_of_lt_of_eq t.isLt N_0
  rw [Value.flushed5]
  unfold out0_5
  rw [View.canon_unit_zero zeros]
  simp only [View.ld_unit_zero (S := S1024x256) zeros, View.ld_unit_zero (S := S1408x1024) zeros]
  funext y
  obtain ⟨r, q, rfl⟩ : ∃ (r : Fin 1408) (q : Fin 256), y = ix2 r q := ⟨y 0, y 1, ValueIdx.eq_ix2 y⟩
  have hR : t.val / 11 * 1408 + r.val < 4224 := by have := r.isLt; omega
  have hC : t.val % 11 * 256 + q.val < 2816 := by have := q.isLt; omega
  have he : ((cfg0.win 5).blk t).view.emb (ix2 r q) = ix2 (⟨t.val / 11 * 1408 + r.val, hR⟩ : Fin 4224) (⟨t.val % 11 * 256 + q.val, hC⟩ : Fin 2816) :=
    at_block h0 h1 rfl rfl rfl rfl
  show (k0_pay5 (F := Ideal) (iblk m c 0 t) (iblk m c 1 t) (iblk m c 2 t)) (ix2 r q) = out5 (arg0 m c) (arg1 m c) (((cfg0.win 5).blk t).view.emb (ix2 r q))
  rw [he]
  refine (pay_out5 (iblk m c 0 t) (iblk m c 1 t) (iblk m c 2 t) r q).trans ?_
  rw [nn_congr (fun k => blk0 m c t _ k ⟨_, hR⟩ k rfl (by omega)) (fun k => blk1 m c t k _ k ⟨_, hC⟩ (by omega) rfl),
    nn_congr (fun k => blk0 m c t _ k ⟨_, hR⟩ k rfl (by omega)) (fun k => blk2 m c t k _ k ⟨_, hC⟩ (by omega) rfl)]
  rfl
theorem final5 : (dats m 0 c).arrAt 5 cfg0.N = out5 (arg0 m c) (arg1 m c) :=
  (dats m 0 c).arrAt_eq_of_cover 5 _ (fun t _ => flushed5 m c t) fun i => by
    have hi0 : (i 0).val < 4224 := (i 0).isLt
    have hi1 : (i 1).val < 2816 := (i 1).isLt
    have ht : (i 0).val / 1408 * 11 + (i 1).val / 256 < cfg0.N := by rw [show cfg0.N = 33 from N_0]; omega
    refine ⟨⟨_, ht⟩, ?_, ?_⟩
    · first | exact flush0_5 _ | exact rfl
    show i ∈ ((View.whole main_v0_2).slice (win0_5.rect ⟨_, ht⟩)).set
    rw [View.set_slice_whole]
    obtain ⟨-, -, -, -, -, -, -, -, -, -, h0, h1⟩ := idx_facts ⟨_, ht⟩
    exact mem_block h0 h1 rfl rfl (by dsimp only; omega) (by dsimp only; omega)
theorem agree : Cert.algebraic_FfnInIdeal_RefFfnInIdeal := by
  intro m g m' g' _ same
  refine ⟨fun c => out3 (arg0 m c) (arg1 m c), fun c => out4 (arg0 m c) (arg1 m c), fun c => out5 (arg0 m c) (arg1 m c),
    (θ_run defs _ _).mono (fun r h c => ⟨((h c).1).trans (final3 m c), ((h c).2.1).trans (final4 m c), ((h c).2.2.1).trans (final5 m c), (h c).2.2.2⟩) (Value.run_blocks m g),
    (θ_run RefFfnInIdeal.defs _ _).mono (fun r h c => ?_) (RefFfnInIdeal.Value.run (F := Ideal) m' g')⟩
  refine ⟨((h c).1).trans ?_, ((h c).2.1).trans ?_, ((h c).2.2.1).trans ?_, (h c).2.2.2⟩
  · rw [(same c).1, (same c).2]
    simp only [all_nn (d := RefFfnInIdeal.dot_S4224x1024_S1024x5632_S4224x5632_1_0_0_1_n_n) _ rfl]
    rw [slice_cols (h := by decide)]
    rfl
  · rw [(same c).1, (same c).2]
    simp only [all_nn (d := RefFfnInIdeal.dot_S4224x1024_S1024x5632_S4224x5632_1_0_0_1_n_n) _ rfl]
    rw [slice_cols (h := by decide)]
    rfl
  · rw [(same c).1, (same c).2]
    simp only [all_nn (d := RefFfnInIdeal.dot_S4224x1024_S1024x5632_S4224x5632_1_0_0_1_n_n) _ rfl]
    rw [slice_cols (h := by decide), slice_cols (h := by decide)]
    funext i
    show _ * Ideal.div (Ideal.ofBits .f32 0x3F800000#32) (Ideal.ofBits .f32 0x3F800000#32 + Ideal.exp (-_)) * _ = _
    rw [Ideal.ofBits_one_f32]
    rfl
-- ==== Proof.FfnOutValue.lean ====
/-
  The second product of the feed-forward layer.
-/
module
public import proofs.«01_k».proof.Defs
public import proofs.«01_k».proof.Proof.Gen.FfnOutIdeal.Value
public import proofs.«01_k».proof.Proof.Gen.RefFfnOutIdeal.Run
public import proofs.«01_k».proof.Proof.Products
@[expose] public section
noncomputable section
namespace Cert.Proof.FfnOut
open FfnOutIdeal FfnOutIdeal.Gen Idealize.ShloMosaic TcCoe Idealize.SL.Sem ValueIdx Cert.Products
/-- The second product added to the residual. -/
def out3 (x0 : Mat 4224 2816) (x1 : Mat 2816 1024) (x2 : Mat 4224 1024) : Mat 4224 1024 := fun i => (nn x0 x1 (i 0) (i 1)) + (x2 i)
variable (m : (ℓ : Loc nD τ sig) → Buf (Elt Ideal) ℓ) (c : Dev nD) (t : Fin cfg0.N)
abbrev arg0 : Mat 4224 2816 := m ((c : Thread nD τ).loc main_arg0)
abbrev arg1 : Mat 2816 1024 := m ((c : Thread nD τ).loc main_arg1)
abbrev arg2 : Mat 4224 1024 := m ((c : Thread nD τ).loc main_arg2)
theorem idx_facts : ∀ t : Fin cfg0.N,
    win0_0.index t (0 : Fin 2) = t.val / 4 ∧ win0_0.index t (1 : Fin 2) = t.val % 2
    ∧ win0_1.index t (0 : Fin 2) = t.val % 2 ∧ win0_1.index t (1 : Fin 2) = t.val / 2 % 2
    ∧ win0_2.index t (0 : Fin 2) = t.val / 4 ∧ win0_2.index t (1 : Fin 2) = t.val / 2 % 2
    ∧ win0_3.index t (0 : Fin 2) = t.val / 4 ∧ win0_3.index t (1 : Fin 2) = t.val / 2 % 2 :=
  (by decide +kernel : ∀ t : Fin grid0.N, _)
theorem blk0 (r : Fin 1408) (q : Fin 1408) (R : Fin 4224) (C : Fin 2816)
    (hR : R.val = t.val / 4 * 1408 + r.val) (hC : C.val = t.val % 2 * 1408 + q.val) :
    (iblk m c 0 t : Mat 1408 1408) (ix2 r q) = (arg0 m c) (ix2 R C) := by
  obtain ⟨h0, h1, -⟩ := idx_facts t
  exact congrArg (arg0 m c) (at_block h0 h1 hR hC rfl rfl)
theorem blk1 (r : Fin 1408) (q : Fin 512) (R : Fin 2816) (C : Fin 1024)
    (hR : R.val = t.val % 2 * 1408 + r.val) (hC : C.val = t.val / 2 % 2 * 512 + q.val) :
    (iblk m c 1 t : Mat 1408 512) (ix2 r q) = (arg1 m c) (ix2 R C) := by
  obtain ⟨-, -, h0, h1, -⟩ := idx_facts t
  exact congrArg (arg1 m c) (at_block h0 h1 hR hC rfl rfl)
theorem blk2 (r : Fin 1408) (q : Fin 512) (R : Fin 4224) (C : Fin 1024)
    (hR : R.val = t.val / 4 * 1408 + r.val) (hC : C.val = t.val / 2 % 2 * 512 + q.val) :
    (iblk m c 2 t : Mat 1408 512) (ix2 r q) = (arg2 m c) (ix2 R C) := by
  obtain ⟨-, -, -, -, h0, h1, -⟩ := idx_facts t
  exact congrArg (arg2 m c) (at_block h0 h1 hR hC rfl rfl)
section
variable (b0 : Mat 1408 1408) (b1 : Mat 1408 512) (b2 : Mat 1408 512) (r : Fin 1408) (q : Fin 512)
theorem prod : (k0_pay1 (F := Ideal) b0 b1) (ix2 r q) = nn b0 b1 r q := unit_nn (φ₁ := .bf16) (φ₂ := .bf16) _ none b0 b1 r q
end
theorem pay_out3 (b0 b0' : Mat 1408 1408) (b1 b1' : Mat 1408 512) (e : Mat 1408 512) (r : Fin 1408) (q : Fin 512) :
    (k0_pay4 (F := Ideal) (k0_pay3 (F := Ideal) b0' b1' (k0_pay2 (F := Ideal) b0 b1)) e) (ix2 r q)
    = nn b0 b1 r q + nn b0' b1' r q + e (ix2 r q) := by
  rw [← prod, ← prod]
  unfold k0_pay4 k0_pay3 k0_pay2
  simp only [shapeCast_self]
  rfl
/-- What the running sum is after the first block. -/
theorem acc0_at (h : t.val % 2 = 0) :
    (outsAt0 m c t.val t.isLt).2 = k0_pay2 (iblk m c 0 t) (iblk m c 1 t) := by
  rw [outsAt0_A m c t h (by omega) (by omega)]
  dsimp only
  unfold sout0_A_0
  rw [View.read_writes_eq_canon _ _ _ (scover0_A_0 _ _ _ _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (hs0_2 t).read_unread, (Memref.isWhole_whole _).read_unread, View.ld_unit_zero (S := S1408x512) zeros, View.ld_unit_zero (S := S1408x1408) zeros, shapeCast_self]
theorem acc0 (n : ℕ) (hn : n < cfg0.N) (h : n % 2 = 0) :
    (outsAt0 m c n hn).2 = k0_pay2 (iblk m c 0 ⟨n, hn⟩) (iblk m c 1 ⟨n, hn⟩) := acc0_at m c ⟨n, hn⟩ h
/-- What the last block's point writes. -/
theorem outLast (h : t.val % 2 = 1) :
    (outsAt0 m c t.val t.isLt).1 = k0_pay4 (k0_pay3 (iblk m c 0 t) (iblk m c 1 t) (outsAt0 m c (t.val - 1) (Nat.lt_of_le_of_lt (Nat.sub_le _ _) t.isLt)).2) (iblk m c 2 t) := by
  rw [outsAt0_B m c t (by omega) (by omega) (by omega)]
  dsimp only
  unfold out0_B_3
  rw [View.read_writes_eq_canon _ _ _ (cover0_B_3 _ _ _ _ _ _ _ _ _ _ _ _ _ _ _ _ _ _ _ )]
  unfold kernelRun0_B
  dsimp only
  sl_unfold_words
  rw [View.canon_unit_zero zeros]
  simp only [View.readCov_unit_zero (S := S1408x512) _ zeros]
  unfold k0_pay3
  simp only [View.readAt_eq_ld, (hs0_0 t).read_unread, (hs0_1 t).read_unread, (hs0_2 t).read_unread, (Memref.isWhole_whole _).read_unread, View.ld_unit_zero (S := S1408x512) zeros, View.ld_unit_zero (S := S1408x1408) zeros, shapeCast_self]
theorem flushed3 (hf : (cfg0.win 3).flush t = true) :
    (dats m 0 c).flushed 3 t = ((cfg0.win 3).blk t).view.read (Elt Ideal) (out3 (arg0 m c) (arg1 m c) (arg2 m c)) := by
  obtain ⟨-, -, -, -, -, -, h0, h1⟩ := idx_facts t
  have hN : t.val < 12 := lt_of_lt_of_eq t.isLt N_0
  have hm : t.val % 2 = 1 := (flush0_3 t).mp hf
  rw [Value.flushed3, outLast m c t hm]
  rw [acc0 m c (t.val - 1) _ (by omega)]
  funext y
  obtain ⟨r, q, rfl⟩ : ∃ (r : Fin 1408) (q : Fin 512), y = ix2 r q := ⟨y 0, y 1, ValueIdx.eq_ix2 y⟩
  have hR : t.val / 4 * 1408 + r.val < 4224 := by have := r.isLt; omega
  have hC : t.val / 2 % 2 * 512 + q.val < 1024 := by have := q.isLt; omega
  have he : ((cfg0.win 3).blk t).view.emb (ix2 r q) = ix2 (⟨t.val / 4 * 1408 + r.val, hR⟩ : Fin 4224) (⟨t.val / 2 % 2 * 512 + q.val, hC⟩ : Fin 1024) :=
    at_block h0 h1 rfl rfl rfl rfl
  refine (pay_out3 _ _ _ _ _ r q).trans (Eq.trans ?_ (congrArg (out3 _ _ _) he).symm)
  rw [nn_part (fun k => ⟨k.val, by have := k.isLt; omega⟩) (fun k => blk0 m c (back t) _ k (⟨_, hR⟩) _ (by dsimp only [back] <;> omega) (by dsimp only [back] <;> omega)) (fun k => blk1 m c (back t) k _ _ (⟨_, hC⟩) (by dsimp only [back] <;> omega) (by dsimp only [back] <;> omega)),
    nn_part (fun k => ⟨1408 + k.val, by have := k.isLt; omega⟩) (fun k => blk0 m c t _ k (⟨_, hR⟩) _ (by dsimp only [back] <;> omega) (by dsimp only [back] <;> omega)) (fun k => blk1 m c t k _ _ (⟨_, hC⟩) (by dsimp only [back] <;> omega) (by dsimp only [back] <;> omega)),
    blk2 m c t _ _ ⟨_, hR⟩ ⟨_, hC⟩ rfl rfl]
  exact (congrArg (· + _) (nn_two 1408 rfl _ _ _ _)).symm
theorem final3 : (dats m 0 c).arrAt 3 cfg0.N = out3 (arg0 m c) (arg1 m c) (arg2 m c) :=
  (dats m 0 c).arrAt_eq_of_cover 3 _ (fun t hf => flushed3 m c t hf) fun i => by
    have hi0 : (i 0).val < 4224 := (i 0).isLt
    have hi1 : (i 1).val < 1024 := (i 1).isLt
    have ht : (i 0).val / 1408 * 4 + (i 1).val / 512 * 2 + 1 < cfg0.N := by rw [show cfg0.N = 12 from N_0]; omega
    refine ⟨⟨_, ht⟩, ?_, ?_⟩
    · refine (flush0_3 _).mpr ?_; show ((i 0).val / 1408 * 4 + (i 1).val / 512 * 2 + 1) % 2 = 1; omega
    show i ∈ ((View.whole main_v0).slice (win0_3.rect ⟨_, ht⟩)).set
    rw [View.set_slice_whole]
    obtain ⟨-, -, -, -, -, -, h0, h1⟩ := idx_facts ⟨_, ht⟩
    exact mem_block h0 h1 rfl rfl (by dsimp only; omega) (by dsimp only; omega)
theorem agree : Cert.algebraic_FfnOutIdeal_RefFfnOutIdeal := by
  intro m g m' g' _ same
  refine ⟨fun c => out3 (arg0 m c) (arg1 m c) (arg2 m c),
    (θ_run defs _ _).mono (fun r h c => ⟨((h c).1).trans (final3 m c), (h c).2⟩) (Value.run_blocks m g),
    (θ_run RefFfnOutIdeal.defs _ _).mono (fun r h c => ?_) (RefFfnOutIdeal.Value.run (F := Ideal) m' g')⟩
  refine ⟨((h c).1).trans ?_, (h c).2⟩
  · rw [(same c).1, (same c).2.1, (same c).2.2]
    rw [all_nn (d := RefFfnOutIdeal.dot_S4224x2816_S2816x1024_S4224x1024_1_0_0_1_n_n) _ rfl]
    funext i
    exact add_comm _ _
-- ==== Proof.Finite.lean ====
/-
  Sums and products that stay finite, and the one place where a factor is taken out of a bracket: the gradient of the
  gate.
-/
module

public import proofs.«01_k».proof.Proof.Products
@[expose] public section

noncomputable section
namespace Cert.Products
open Idealize.ShloMosaic Idealize.ShloMosaic.ValueIdx
open scoped BigOperators

/-- `e` is a real number. -/
def IsReal (e : EReal) : Prop := ∃ r : ℝ, e = (r : EReal)

theorem real_mul {x y : EReal} (hx : IsReal x) (hy : IsReal y) : IsReal (x * y) := by
  obtain ⟨a, rfl⟩ := hx
  obtain ⟨b, rfl⟩ := hy
  exact ⟨a * b, (EReal.coe_mul a b).symm⟩

theorem real_sum {n : ℕ} (f : Fin n → EReal) (h : ∀ k, IsReal (f k)) : IsReal (∑ k : Fin n, f k) :=
  Finset.sum_induction f IsReal (fun x y hx hy => by
    obtain ⟨a, rfl⟩ := hx
    obtain ⟨b, rfl⟩ := hy
    exact ⟨a + b, (EReal.coe_add a b).symm⟩) ⟨0, EReal.coe_zero.symm⟩ fun k _ => h k

theorem real_nt {M N K : ℕ} (x : Mat M K) (w : Mat N K) (hx : ∀ i, IsReal (x i)) (hw : ∀ i, IsReal (w i)) (r : Fin M) (c : Fin N) :
    IsReal (nt x w r c) :=
  real_sum _ fun k => real_mul (hx _) (hw _)

/-- Below infinity in absolute value. -/
theorem real_of_below {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  have hlt : max x (-x) < ⊤ := by
    by_contra hn
    simp only [Ideal.cmp, decide_eq_false hn] at h
    exact absurd h (by decide)
  induction x using EReal.rec with
  | bot => simp at hlt
  | top => simp at hlt
  | coe a => exact ⟨a, rfl⟩

/-- The gradient of the gate: the factor `a` is finite, so it may stand before the bracket or inside; the gate itself
    may be infinite. -/
theorem gate_grad {a : EReal} (ha : IsReal a) (g : EReal) :
    a * (sig g + g * sig g * (1 - sig g)) = a * sig g + (g * a) * (sig g * (1 - sig g)) := by
  obtain ⟨a, rfl⟩ := ha
  induction g using EReal.rec with
  | bot =>
    rw [show sig ⊥ = 0 from Ideal.logistic_bot]
    simp
  | top =>
    rw [show sig ⊤ = 1 from Ideal.logistic_top]
    have h : (1 : EReal) - 1 = 0 := by rw [← EReal.coe_one, ← EReal.coe_sub, sub_self, EReal.coe_zero]
    rw [h]
    simp
  | coe g =>
    rw [show sig (g : EReal) = (((1 + Real.exp (-g))⁻¹ : ℝ) : EReal) from Ideal.logistic_coe ..]
    generalize (1 + Real.exp (-g))⁻¹ = s
    rw [← EReal.coe_one]
    simp only [← EReal.coe_mul, ← EReal.coe_sub, ← EReal.coe_add]
    congr 1
    ring
end Cert.Products
end
-- ==== Proof.FfnDaValue.lean ====
/-
  The gradients of the two halves of the feed-forward activation.
-/
module
public import proofs.«01_k».proof.Defs
public import proofs.«01_k».proof.Proof.Gen.FfnDaIdeal.Value
public import proofs.«01_k».proof.Proof.Gen.RefFfnDaIdeal.Run
public import proofs.«01_k».proof.Proof.Products
public import proofs.«01_k».proof.Proof.Finite
public import proofs.«01_k».proof.Proof.Gen.Pre_finite
@[expose] public section
noncomputable section
namespace Cert.Proof.FfnDa
open FfnDaIdeal FfnDaIdeal.Gen Idealize.ShloMosaic TcCoe Idealize.SL.Sem ValueIdx Cert.Products
/-- The gradient of the gate half. -/
def out4 (x0 : Mat 4224 1024) (x1 : Mat 2816 1024) (x2 : Mat 4224 2816) (x3 : Mat 4224 2816) : Mat 4224 2816 := fun i => (nt x0 x1 (i 0) (i 1)) * (x3 i) * (sig (x2 i) + (x2 i) * sig (x2 i) * (1 - sig (x2 i)))
/-- The gradient of the other half. -/
def out5 (x0 : Mat 4224 1024) (x1 : Mat 2816 1024) (x2 : Mat 4224 2816) (x3 : Mat 4224 2816) : Mat 4224 2816 := fun i => (nt x0 x1 (i 0) (i 1)) * (x2 i) * sig (x2 i)
variable (m : (ℓ : Loc nD τ sig) → Buf (Elt Ideal) ℓ) (c : Dev nD) (t : Fin cfg0.N)
abbrev arg0 : Mat 4224 1024 := m ((c : Thread nD τ).loc main_arg0)
abbrev arg1 : Mat 2816 1024 := m ((c : Thread nD τ).loc main_arg1)
abbrev arg2 : Mat 4224 2816 := m ((c : Thread nD τ).loc main_arg2)
abbrev arg3 : Mat 4224 2816 := m ((c : Thread nD τ).loc main_arg3)
theorem idx_facts : ∀ t : Fin cfg0.N,
    win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2
    ∧ win0_3.index t (0 : Fin 2) = t.val / 2 ∧ win0_3.index t (1 : Fin 2) = t.val % 2
    ∧ win0_4.index t (0 : Fin 2) = t.val / 2 ∧ win0_4.index t (1 : Fin 2) = t.val % 2
    ∧ win0_5.index t (0 : Fin 2) = t.val / 2 ∧ win0_5.index t (1 : Fin 2) = t.val % 2 :=
  (by decide +kernel : ∀ t : Fin grid0.N, _)
theorem blk0 (r : Fin 384) (q : Fin 1024) (R : Fin 4224) (C : Fin 1024)
    (hR : R.val = t.val / 2 * 384 + r.val) (hC : C.val = 0 * 1024 + q.val) :
    (iblk m c 0 t : Mat 384 1024) (ix2 r q) = (arg0 m c) (ix2 R C) := by
  obtain ⟨h0, h1, -⟩ := idx_facts t
  exact congrArg (arg0 m c) (at_block h0 h1 hR hC rfl rfl)
theorem blk1 (r : Fin 1408) (q : Fin 1024) (R : Fin 2816) (C : Fin 1024)
    (hR : R.val = t.val % 2 * 1408 + r.val) (hC : C.val = 0 * 1024 + q.val) :
    (iblk m c 1 t : Mat 1408 1024) (ix2 r q) = (arg1 m c) (ix2 R C) := by
  obtain ⟨-, -, h0, h1, -⟩ := idx_facts t
  exact congrArg (arg1 m c) (at_block h0 h1 hR hC rfl rfl)
theorem blk2 (r : Fin 384) (q : Fin 1408) (R : Fin 4224) (C : Fin 2816)
    (hR : R.val = t.val / 2 * 384 + r.val) (hC : C.val = t.val % 2 * 1408 + q.val) :
    (iblk m c 2 t : Mat 384 1408) (ix2 r q) = (arg2 m c) (ix2 R C) := by
  obtain ⟨-, -, -, -, h0, h1, -⟩ := idx_facts t
  exact congrArg (arg2 m c) (at_block h0 h1 hR hC rfl rfl)
theorem blk3 (r : Fin 384) (q : Fin 1408) (R : Fin 4224) (C : Fin 2816)
    (hR : R.val = t.val / 2 * 384 + r.val) (hC : C.val = t.val % 2 * 1408 + q.val) :
    (iblk m c 3 t : Mat 384 1408) (ix2 r q) = (arg3 m c) (ix2 R C) := by
  obtain ⟨-, -, -, -, -, -, h0, h1, -⟩ := idx_facts t
  exact congrArg (arg3 m c) (at_block h0 h1 hR hC rfl rfl)
section
variable (b0 : Mat 384 1024) (b1 : Mat 1408 1024) (b2 : Mat 384 1408) (b3 : Mat 384 1408) (r : Fin 384) (q : Fin 1408)
theorem pay_prod : (k0_pay1 (F := Ideal) b0 b1) (ix2 r q) = (nt b0 b1 r q) := unit_nt (φ₁ := .bf16) (φ₂ := .bf16) _ none b0 b1 r q
theorem pay_sig : (k0_pay3 (F := Ideal) b2) (ix2 r q) = sig (b2 (ix2 r q)) := sig_kernel _
theorem pay_out5 : (k0_pay5 (F := Ideal) b0 b1 b2) (ix2 r q) = (nt b0 b1 r q) * b2 (ix2 r q) * sig (b2 (ix2 r q)) := by
  rw [← pay_prod, ← pay_sig]
  rfl
theorem pay_out4 : (k0_pay4 (F := Ideal) b0 b1 b2 b3) (ix2 r q)
    = (nt b0 b1 r q) * b3 (ix2 r q) * (sig (b2 (ix2 r q)) + b2 (ix2 r q) * sig (b2 (ix2 r q)) * (1 - sig (b2 (ix2 r q)))) := by
  rw [← pay_prod, ← pay_sig, ← Ideal.ofBits_one_f32]
  rfl
end
theorem flushed4 :
    (dats m 0 c).flushed 4 t = ((cfg0.win 4).blk t).view.read (Elt Ideal) (out4 (arg0 m c) (arg1 m c) (arg2 m c) (arg3 m c)) := by
  obtain ⟨-, -, -, -, -, -, -, -, h0, h1, -⟩ := idx_facts t
  have hN : t.val < 22 := lt_of_lt_of_eq t.isLt N_0
  rw [Value.flushed4]
  unfold out0_4
  rw [View.canon_unit_zero zeros]
  simp only [View.ld_unit_zero (S := S384x1024) zeros, View.ld_unit_zero (S := S384x1408) zeros, View.ld_unit_zero (S := S1408x1024) zeros]
  funext y
  obtain ⟨r, q, rfl⟩ : ∃ (r : Fin 384) (q : Fin 1408), y = ix2 r q := ⟨y 0, y 1, ValueIdx.eq_ix2 y⟩
  have hR : t.val / 2 * 384 + r.val < 4224 := by have := r.isLt; omega
  have hC : t.val % 2 * 1408 + q.val < 2816 := by clear hR; have := q.isLt; omega
  have he : ((cfg0.win 4).blk t).view.emb (ix2 r q) = ix2 (⟨t.val / 2 * 384 + r.val, hR⟩ : Fin 4224) (⟨t.val % 2 * 1408 + q.val, hC⟩ : Fin 2816) :=
    at_block h0 h1 rfl rfl rfl rfl
  show (k0_pay4 (F := Ideal) (iblk m c 0 t) (iblk m c 1 t) (iblk m c 2 t) (iblk m c 3 t)) (ix2 r q) = out4 (arg0 m c) (arg1 m c) (arg2 m c) (arg3 m c) (((cfg0.win 4).blk t).view.emb (ix2 r q))
  rw [he]
  refine (pay_out4 (iblk m c 0 t) (iblk m c 1 t) (iblk m c 2 t) (iblk m c 3 t) r q).trans ?_
  rw [nt_congr (fun k => blk0 m c t _ k ⟨_, hR⟩ k rfl (by omega)) (fun k => blk1 m c t _ k ⟨_, hC⟩ k rfl (by omega)),
    blk2 m c t _ _ ⟨_, hR⟩ ⟨_, hC⟩ rfl rfl,
    blk3 m c t _ _ ⟨_, hR⟩ ⟨_, hC⟩ rfl rfl]
  rfl
theorem final4 : (dats m 0 c).arrAt 4 cfg0.N = out4 (arg0 m c) (arg1 m c) (arg2 m c) (arg3 m c) :=
  (dats m 0 c).arrAt_eq_of_cover 4 _ (fun t _ => flushed4 m c t) fun i => by
    have hi0 : (i 0).val < 4224 := (i 0).isLt
    have hi1 : (i 1).val < 2816 := (i 1).isLt
    have ht : (i 0).val / 384 * 2 + (i 1).val / 1408 < cfg0.N := by rw [show cfg0.N = 22 from N_0]; omega
    refine ⟨⟨_, ht⟩, ?_, ?_⟩
    · first | exact flush0_4 _ | exact rfl
    show i ∈ ((View.whole main_v0_0).slice (win0_4.rect ⟨_, ht⟩)).set
    rw [View.set_slice_whole]
    obtain ⟨-, -, -, -, -, -, -, -, h0, h1, -⟩ := idx_facts ⟨_, ht⟩
    exact mem_block h0 h1 rfl rfl (by dsimp only; omega) (by dsimp only; omega)
theorem flushed5 :
    (dats m 0 c).flushed 5 t = ((cfg0.win 5).blk t).view.read (Elt Ideal) (out5 (arg0 m c) (arg1 m c) (arg2 m c) (arg3 m c)) := by
  obtain ⟨-, -, -, -, -, -, -, -, -, -, h0, h1⟩ := idx_facts t
  have hN : t.val < 22 := lt_of_lt_of_eq t.isLt N_0
  rw [Value.flushed5]
  unfold out0_5
  rw [View.canon_unit_zero zeros]
  simp only [View.ld_unit_zero (S := S384x1024) zeros, View.ld_unit_zero (S := S384x1408) zeros, View.ld_unit_zero (S := S1408x1024) zeros]
  funext y
  obtain ⟨r, q, rfl⟩ : ∃ (r : Fin 384) (q : Fin 1408), y = ix2 r q := ⟨y 0, y 1, ValueIdx.eq_ix2 y⟩
  have hR : t.val / 2 * 384 + r.val < 4224 := by have := r.isLt; omega
  have hC : t.val % 2 * 1408 + q.val < 2816 := by clear hR; have := q.isLt; omega
  have he : ((cfg0.win 5).blk t).view.emb (ix2 r q) = ix2 (⟨t.val / 2 * 384 + r.val, hR⟩ : Fin 4224) (⟨t.val % 2 * 1408 + q.val, hC⟩ : Fin 2816) :=
    at_block h0 h1 rfl rfl rfl rfl
  show (k0_pay5 (F := Ideal) (iblk m c 0 t) (iblk m c 1 t) (iblk m c 2 t)) (ix2 r q) = out5 (arg0 m c) (arg1 m c) (arg2 m c) (arg3 m c) (((cfg0.win 5).blk t).view.emb (ix2 r q))
  rw [he]
  refine (pay_out5 (iblk m c 0 t) (iblk m c 1 t) (iblk m c 2 t) r q).trans ?_
  rw [nt_congr (fun k => blk0 m c t _ k ⟨_, hR⟩ k rfl (by omega)) (fun k => blk1 m c t _ k ⟨_, hC⟩ k rfl (by omega)),
    blk2 m c t _ _ ⟨_, hR⟩ ⟨_, hC⟩ rfl rfl]
  rfl
theorem final5 : (dats m 0 c).arrAt 5 cfg0.N = out5 (arg0 m c) (arg1 m c) (arg2 m c) (arg3 m c) :=
  (dats m 0 c).arrAt_eq_of_cover 5 _ (fun t _ => flushed5 m c t) fun i => by
    have hi0 : (i 0).val < 4224 := (i 0).isLt
    have hi1 : (i 1).val < 2816 := (i 1).isLt
    have ht : (i 0).val / 384 * 2 + (i 1).val / 1408 < cfg0.N := by rw [show cfg0.N = 22 from N_0]; omega
    refine ⟨⟨_, ht⟩, ?_, ?_⟩
    · first | exact flush0_5 _ | exact rfl
    show i ∈ ((View.whole main_v0_1).slice (win0_5.rect ⟨_, ht⟩)).set
    rw [View.set_slice_whole]
    obtain ⟨-, -, -, -, -, -, -, -, -, -, h0, h1⟩ := idx_facts ⟨_, ht⟩
    exact mem_block h0 h1 rfl rfl (by dsimp only; omega) (by dsimp only; omega)
theorem agree : Cert.algebraic_FfnDaIdeal_RefFfnDaIdeal_pre_finite := by
  intro m g m' g' hp same
  refine ⟨fun c => out4 (arg0 m c) (arg1 m c) (arg2 m c) (arg3 m c), fun c => out5 (arg0 m c) (arg1 m c) (arg2 m c) (arg3 m c),
    (θ_run defs _ _).mono (fun r h c => ⟨((h c).1).trans (final4 m c), ((h c).2.1).trans (final5 m c), (h c).2.2⟩) (Value.run_blocks m g),
    (θ_run RefFfnDaIdeal.defs _ _).mono (fun r h c => ?_) (RefFfnDaIdeal.Value.run (F := Ideal) m' g')⟩
  refine ⟨((h c).1).trans ?_, ((h c).2.1).trans ?_, (h c).2.2⟩
  · rw [(same c).1, (same c).2.1, (same c).2.2.1, (same c).2.2.2]
    simp only [all_nt (d := RefFfnDaIdeal.dot_S4224x1024_S2816x1024_S4224x2816_1_1_0_0_n_n) _ rfl]
    funext i
    show (_ * _) * Ideal.div (Ideal.ofBits .f32 0x3F800000#32) (Ideal.ofBits .f32 0x3F800000#32 + Ideal.exp (-_))
      + (_ * (_ * _)) * (Ideal.div (Ideal.ofBits .f32 0x3F800000#32) (Ideal.ofBits .f32 0x3F800000#32 + Ideal.exp (-_))
        * (Ideal.ofBits .f32 0x3F800000#32 - Ideal.div (Ideal.ofBits .f32 0x3F800000#32) (Ideal.ofBits .f32 0x3F800000#32 + Ideal.exp (-_)))) = _
    rw [Ideal.ofBits_one_f32]
    exact (gate_grad (real_mul (real_nt _ _ (fun j => real_of_below (congrFun (hp c).1 j)) (fun j => real_of_below (congrFun (hp c).2.1 j)) _ _)
      (real_of_below (congrFun (hp c).2.2 i))) _).symm
  · rw [(same c).1, (same c).2.1, (same c).2.2.1]
    simp only [all_nt (d := RefFfnDaIdeal.dot_S4224x1024_S2816x1024_S4224x2816_1_1_0_0_n_n) _ rfl]
    funext i
    show (_ * Ideal.div (Ideal.ofBits .f32 0x3F800000#32) (Ideal.ofBits .f32 0x3F800000#32 + Ideal.exp (-_))) * _ = _
    rw [Ideal.ofBits_one_f32, mul_comm, ← mul_assoc]
    rfl
-- ==== Proof.FfnDwoutValue.lean ====
/-
  The gradient of the feed-forward layer's second weight: what the array of the call holds, entry by entry, and that the
  reference's array holds the same.
-/
module
public import proofs.«01_k».proof.Defs
public import proofs.«01_k».proof.Proof.Gen.FfnDwoutIdeal.Value
public import proofs.«01_k».proof.Proof.Gen.RefFfnDwoutIdeal.Run
public import proofs.«01_k».proof.Proof.Products
@[expose] public section
noncomputable section
namespace Cert.Proof.FfnDwout
open FfnDwoutIdeal FfnDwoutIdeal.Gen Idealize.ShloMosaic TcCoe Idealize.SL.Sem ValueIdx Cert.Products
/-- The gradient of the second weight. -/
def out2 (x0 : Mat 4224 2816) (x1 : Mat 4224 1024) : Mat 2816 1024 := fun i => (tn x0 x1 (i 0) (i 1))
variable (m : (ℓ : Loc nD τ sig) → Buf (Elt Ideal) ℓ) (c : Dev nD) (t : Fin cfg0.N)
abbrev arg0 : Mat 4224 2816 := m ((c : Thread nD τ).loc main_arg0)
abbrev arg1 : Mat 4224 1024 := m ((c : Thread nD τ).loc main_arg1)
theorem idx_facts : ∀ t : Fin cfg0.N,
    win0_0.index t (0 : Fin 2) = t.val % 3 ∧ win0_0.index t (1 : Fin 2) = t.val / 3
    ∧ win0_1.index t (0 : Fin 2) = t.val % 3 ∧ win0_1.index t (1 : Fin 2) = 0
    ∧ win0_2.index t (0 : Fin 2) = t.val / 3 ∧ win0_2.index t (1 : Fin 2) = 0 :=
  (by decide +kernel : ∀ t : Fin grid0.N, _)
theorem blk0 (r : Fin 1408) (q : Fin 1408) (R : Fin 4224) (C : Fin 2816)
    (hR : R.val = t.val % 3 * 1408 + r.val) (hC : C.val = t.val / 3 * 1408 + q.val) :
    (iblk m c 0 t : Mat 1408 1408) (ix2 r q) = (arg0 m c) (ix2 R C) := by
  obtain ⟨h0, h1, -⟩ := idx_facts t
  exact congrArg (arg0 m c) (at_block h0 h1 hR hC rfl rfl)
theorem blk1 (r : Fin 1408) (q : Fin 1024) (R : Fin 4224) (C : Fin 1024)
    (hR : R.val = t.val % 3 * 1408 + r.val) (hC : C.val = 0 * 1024 + q.val) :
    (iblk m c 1 t : Mat 1408 1024) (ix2 r q) = (arg1 m c) (ix2 R C) := by
  obtain ⟨-, -, h0, h1, -⟩ := idx_facts t
  exact congrArg (arg1 m c) (at_block h0 h1 hR hC rfl rfl)
section
variable (b0 : Mat 1408 1408) (b1 : Mat 1408 1024) (r : Fin 1408) (q : Fin 1024)
theorem prod : (k0_pay1 (F := Ideal) b0 b1) (ix2 r q) = tn b0 b1 r q := unit_tn (φ₁ := .bf16) (φ₂ := .bf16) _ none b0 b1 r q
end
theorem pay_out2 (b0 b1 b2 : Mat 1408 1408) (b0' b1' b2' : Mat 1408 1024) (r : Fin 1408) (q : Fin 1024) : (k0_pay3 (F := Ideal) b2 b2' (k0_pay3 (F := Ideal) b1 b1' (k0_pay2 (F := Ideal) b0 b0'))) (ix2 r q)
    = tn b0 b0' r q + tn b1 b1' r q + tn b2 b2' r q := by
  rw [← prod, ← prod, ← prod]
  unfold k0_pay3 k0_pay2
  simp only [shapeCast_self]
  rfl
/-- What the running sum is after the first block. -/
theorem acc0 (h : t.val % 3 = 0) :
    (outsAt0 m c t.val t.isLt).2 = k0_pay2 (iblk m c 0 t) (iblk m c 1 t) := by
  have hN : t.val < 6 := lt_of_lt_of_eq t.isLt N_0
  rw [outsAt0_A m c t h (by omega) (by omega)]
  dsimp only
  unfold sout0_A_0
  rw [View.read_writes_eq_canon _ _ _ (scover0_A_0 _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (Memref.isWhole_whole _).read_unread, View.ld_unit_zero (S := S1408x1024) zeros, View.ld_unit_zero (S := S1408x1408) zeros, shapeCast_self]
/-- What it is after the second. -/
theorem acc1 (h : t.val % 3 = 1) :
    (outsAt0 m c t.val t.isLt).2 = k0_pay3 (iblk m c 0 t) (iblk m c 1 t) (outsAt0 m c (t.val - 1) (Nat.lt_of_le_of_lt (Nat.sub_le _ _) t.isLt)).2 := by
  have hN : t.val < 6 := lt_of_lt_of_eq t.isLt N_0
  rw [outsAt0_B m c t (by omega) (by omega) (by omega)]
  dsimp only
  unfold sout0_B_0
  rw [View.read_writes_eq_canon _ _ _ (scover0_B_0 _ _ _ _ _ _ _ _ _ _ _ _ _ _ _ _ )]
  unfold kernelRun0_B
  dsimp only
  rw [View.canon_unit_zero zeros]
  unfold k0_pay3
  simp only [View.readAt_eq_ld, (hs0_0 t).read_unread, (hs0_1 t).read_unread, (Memref.isWhole_whole _).read_unread, View.ld_unit_zero (S := S1408x1024) zeros, View.ld_unit_zero (S := S1408x1408) zeros, shapeCast_self]
/-- What the last block's point writes. -/
theorem outLast (h : t.val % 3 = 2) :
    (outsAt0 m c t.val t.isLt).1 = k0_pay3 (iblk m c 0 t) (iblk m c 1 t) (outsAt0 m c (t.val - 1) (Nat.lt_of_le_of_lt (Nat.sub_le _ _) t.isLt)).2 := by
  have hN : t.val < 6 := lt_of_lt_of_eq t.isLt N_0
  rw [outsAt0_C m c t (by omega) (by omega) (by omega)]
  dsimp only
  unfold out0_C_2
  rw [View.read_writes_eq_canon _ _ _ (cover0_C_2 _ _ _ _ _ _ _ _ _ _ _ _ _ _ _ _ )]
  unfold kernelRun0_C
  dsimp only
  sl_unfold_words
  rw [View.canon_unit_zero zeros]
  simp only [View.readCov_unit_zero (S := S1408x1024) _ zeros]
  unfold k0_pay3
  simp only [View.readAt_eq_ld, (hs0_0 t).read_unread, (hs0_1 t).read_unread, (Memref.isWhole_whole _).read_unread, View.ld_unit_zero (S := S1408x1024) zeros, View.ld_unit_zero (S := S1408x1408) zeros, shapeCast_self]
theorem flushed2 (hf : (cfg0.win 2).flush t = true) :
    (dats m 0 c).flushed 2 t = ((cfg0.win 2).blk t).view.read (Elt Ideal) (out2 (arg0 m c) (arg1 m c)) := by
  obtain ⟨-, -, -, -, h0, h1⟩ := idx_facts t
  have hN : t.val < 6 := lt_of_lt_of_eq t.isLt N_0
  have hm : t.val % 3 = 2 := (flush0_2 t).mp hf
  rw [Value.flushed2, outLast m c t hm]
  rw [acc1 m c (back t) (by dsimp only [back]; omega), acc0 m c (back (back t)) (by dsimp only [back]; omega)]
  funext y
  obtain ⟨r, q, rfl⟩ : ∃ (r : Fin 1408) (q : Fin 1024), y = ix2 r q := ⟨y 0, y 1, ValueIdx.eq_ix2 y⟩
  have hR : t.val / 3 * 1408 + r.val < 2816 := by have := r.isLt; omega
  have hC : 0 * 1024 + q.val < 1024 := by rw [Nat.zero_mul, Nat.zero_add]; exact q.isLt
  have he : ((cfg0.win 2).blk t).view.emb (ix2 r q) = ix2 (⟨t.val / 3 * 1408 + r.val, hR⟩ : Fin 2816) (⟨0 * 1024 + q.val, hC⟩ : Fin 1024) :=
    at_block h0 h1 rfl rfl rfl rfl
  exact (pay_out2 _ _ _ _ _ _ r q).trans (Eq.trans (tn_blocks 1408 rfl
    (fun k j h => ⟨blk0 m c (back (back t)) k _ j ⟨_, hR⟩ (by dsimp only [back] <;> omega) (by dsimp only [back] <;> omega), blk1 m c (back (back t)) k _ j ⟨_, hC⟩ (by dsimp only [back] <;> omega) (by dsimp only [back] <;> omega)⟩)
    (fun k j h => ⟨blk0 m c (back t) k _ j ⟨_, hR⟩ (by dsimp only [back] <;> omega) (by dsimp only [back] <;> omega), blk1 m c (back t) k _ j ⟨_, hC⟩ (by dsimp only [back] <;> omega) (by dsimp only [back] <;> omega)⟩)
    (fun k j h => ⟨blk0 m c t k _ j ⟨_, hR⟩ (by omega) rfl, blk1 m c t k _ j ⟨_, hC⟩ (by omega) rfl⟩)) (congrArg (out2 _ _) he).symm)
theorem final2 : (dats m 0 c).arrAt 2 cfg0.N = out2 (arg0 m c) (arg1 m c) :=
  (dats m 0 c).arrAt_eq_of_cover 2 _ (fun t hf => flushed2 m c t hf) fun i => by
    have hi0 : (i 0).val < 2816 := (i 0).isLt
    have hi1 : (i 1).val < 1024 := (i 1).isLt
    have ht : (i 0).val / 1408 * 3 + 2 < cfg0.N := by rw [show cfg0.N = 6 from N_0]; omega
    refine ⟨⟨_, ht⟩, ?_, ?_⟩
    · refine (flush0_2 _).mpr ?_; show ((i 0).val / 1408 * 3 + 2) % 3 = 2; omega
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_FfnDwoutIdeal_RefFfnDwoutIdeal := by
  intro m g m' g' _ same
  refine ⟨fun c => out2 (arg0 m c) (arg1 m c),
    (θ_run defs _ _).mono (fun r h c => ⟨((h c).1).trans (final2 m c), (h c).2⟩) (Value.run_blocks m g),
    (θ_run RefFfnDwoutIdeal.defs _ _).mono (fun r h c => ?_) (RefFfnDwoutIdeal.Value.run (F := Ideal) m' g')⟩
  refine ⟨((h c).1).trans ?_, (h c).2⟩
  · rw [(same c).1, (same c).2]
    rw [all_tn (d := RefFfnDwoutIdeal.dot_S4224x1024_S4224x2816_S1024x2816_0_0_1_1_n_n) _ rfl, transpose_eq]
    funext i
    exact tn_swap _ _ _ _
-- ==== Proof.FfnDfValue.lean ====
/-
  The gradient of the feed-forward layer's input.
-/
module
public import proofs.«01_k».proof.Defs
public import proofs.«01_k».proof.Proof.Gen.FfnDfIdeal.Value
public import proofs.«01_k».proof.Proof.Gen.RefFfnDfIdeal.Run
public import proofs.«01_k».proof.Proof.Products
@[expose] public section
noncomputable section
namespace Cert.Proof.FfnDf
open FfnDfIdeal FfnDfIdeal.Gen Idealize.ShloMosaic TcCoe Idealize.SL.Sem ValueIdx Cert.Products
/-- The gradient of the layer's input. -/
def out4 (x0 : Mat 4224 2816) (x1 : Mat 4224 2816) (x2 : Mat 1024 5632) : Mat 4224 1024 := fun i => (nt x0 (colsFrom 0 2816 (by decide) x2) (i 0) (i 1)) + (nt x1 (colsFrom 2816 2816 (by decide) x2) (i 0) (i 1))
variable (m : (ℓ : Loc nD τ sig) → Buf (Elt Ideal) ℓ) (c : Dev nD) (t : Fin cfg0.N)
abbrev arg0 : Mat 4224 2816 := m ((c : Thread nD τ).loc main_arg0)
abbrev arg1 : Mat 4224 2816 := m ((c : Thread nD τ).loc main_arg1)
abbrev arg2 : Mat 1024 5632 := m ((c : Thread nD τ).loc main_arg2)
theorem idx_facts : ∀ t : Fin cfg0.N,
    win0_0.index t (0 : Fin 2) = t.val / 4 ∧ win0_0.index t (1 : Fin 2) = t.val % 2
    ∧ win0_1.index t (0 : Fin 2) = t.val / 4 ∧ win0_1.index t (1 : Fin 2) = t.val % 2
    ∧ win0_2.index t (0 : Fin 2) = t.val / 2 % 2 ∧ win0_2.index t (1 : Fin 2) = t.val % 2
    ∧ win0_3.index t (0 : Fin 2) = t.val / 2 % 2 ∧ win0_3.index t (1 : Fin 2) = t.val % 2 + 2
    ∧ win0_4.index t (0 : Fin 2) = t.val / 4 ∧ win0_4.index t (1 : Fin 2) = t.val / 2 % 2 :=
  (by decide +kernel : ∀ t : Fin grid0.N, _)
theorem blk0 (r : Fin 1408) (q : Fin 1408) (R : Fin 4224) (C : Fin 2816)
    (hR : R.val = t.val / 4 * 1408 + r.val) (hC : C.val = t.val % 2 * 1408 + q.val) :
    (iblk m c 0 t : Mat 1408 1408) (ix2 r q) = (arg0 m c) (ix2 R C) := by
  obtain ⟨h0, h1, -⟩ := idx_facts t
  exact congrArg (arg0 m c) (at_block h0 h1 hR hC rfl rfl)
theorem blk1 (r : Fin 1408) (q : Fin 1408) (R : Fin 4224) (C : Fin 2816)
    (hR : R.val = t.val / 4 * 1408 + r.val) (hC : C.val = t.val % 2 * 1408 + q.val) :
    (iblk m c 1 t : Mat 1408 1408) (ix2 r q) = (arg1 m c) (ix2 R C) := by
  obtain ⟨-, -, h0, h1, -⟩ := idx_facts t
  exact congrArg (arg1 m c) (at_block h0 h1 hR hC rfl rfl)
theorem blk2 (r : Fin 512) (q : Fin 1408) (R : Fin 1024) (C : Fin 2816)
    (hR : R.val = t.val / 2 % 2 * 512 + r.val) (hC : C.val = t.val % 2 * 1408 + q.val) :
    (iblk m c 2 t : Mat 512 1408) (ix2 r q) = (colsFrom 0 2816 (by decide) (arg2 m c)) (ix2 R C) := by
  obtain ⟨-, -, -, -, h0, h1, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 2) * 512 + 1 * r.val = R.val; rw [h0]; omega
  | ⟨1, _⟩ => show win0_2.index t (1 : Fin 2) * 1408 + 1 * q.val = 0 + C.val; rw [h1]; omega
theorem blk3 (r : Fin 512) (q : Fin 1408) (R : Fin 1024) (C : Fin 2816)
    (hR : R.val = t.val / 2 % 2 * 512 + r.val) (hC : C.val = t.val % 2 * 1408 + q.val) :
    (iblk m c 3 t : Mat 512 1408) (ix2 r q) = (colsFrom 2816 2816 (by decide) (arg2 m c)) (ix2 R C) := by
  obtain ⟨-, -, -, -, -, -, h0, h1, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_3.index t (0 : Fin 2) * 512 + 1 * r.val = R.val; rw [h0]; omega
  | ⟨1, _⟩ => show win0_3.index t (1 : Fin 2) * 1408 + 1 * q.val = 2816 + C.val; rw [h1]; omega
section
variable (b0 : Mat 1408 1408) (b1 : Mat 1408 1408) (b2 : Mat 512 1408) (b3 : Mat 512 1408) (r : Fin 1408) (q : Fin 512)
theorem prod : (k0_pay1 (F := Ideal) b0 b1 b2 b3) (ix2 r q) = nt b0 b2 r q + nt b1 b3 r q := by
  rw [← unit_nt (φ₁ := .bf16) (φ₂ := .bf16) dot_S1408x1408_S512x1408_S1408x512_1_1_0_0_n_n.wf none b0 b2 r q, ← unit_nt (φ₁ := .bf16) (φ₂ := .bf16) dot_S1408x1408_S512x1408_S1408x512_1_1_0_0_n_n.wf none b1 b3 r q]
  rfl
end
theorem pay_out4 (b0 b0' : Mat 1408 1408) (b1 b1' : Mat 1408 1408) (b2 b2' : Mat 512 1408) (b3 b3' : Mat 512 1408) (r : Fin 1408) (q : Fin 512) :
    (k0_pay3 (F := Ideal) b0' b1' b2' b3' (k0_pay2 (F := Ideal) b0 b1 b2 b3)) (ix2 r q)
    = (nt b0 b2 r q + nt b1 b3 r q) + (nt b0' b2' r q + nt b1' b3' r q) := by
  rw [← prod, ← prod]
  unfold k0_pay3 k0_pay2
  simp only [shapeCast_self]
  rfl
/-- What the running sum is after the first block. -/
theorem acc0_at (h : t.val % 2 = 0) :
    (outsAt0 m c t.val t.isLt).2 = k0_pay2 (iblk m c 0 t) (iblk m c 1 t) (iblk m c 2 t) (iblk m c 3 t) := by
  rw [outsAt0_A m c t h (by omega) (by omega)]
  dsimp only
  unfold sout0_A_0
  rw [View.read_writes_eq_canon _ _ _ (scover0_A_0 _ _ _ _ _ _ _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (hs0_2 t).read_unread, (hs0_3 t).read_unread, (Memref.isWhole_whole _).read_unread, View.ld_unit_zero (S := S512x1408) zeros, View.ld_unit_zero (S := S1408x512) zeros, View.ld_unit_zero (S := S1408x1408) zeros, shapeCast_self]
theorem acc0 (n : ℕ) (hn : n < cfg0.N) (h : n % 2 = 0) :
    (outsAt0 m c n hn).2 = k0_pay2 (iblk m c 0 ⟨n, hn⟩) (iblk m c 1 ⟨n, hn⟩) (iblk m c 2 ⟨n, hn⟩) (iblk m c 3 ⟨n, hn⟩) := acc0_at m c ⟨n, hn⟩ h
/-- What the last block's point writes. -/
theorem outLast (h : t.val % 2 = 1) :
    (outsAt0 m c t.val t.isLt).1 = k0_pay3 (iblk m c 0 t) (iblk m c 1 t) (iblk m c 2 t) (iblk m c 3 t) (outsAt0 m c (t.val - 1) (Nat.lt_of_le_of_lt (Nat.sub_le _ _) t.isLt)).2 := by
  rw [outsAt0_B m c t (by omega) (by omega) (by omega)]
  dsimp only
  unfold out0_B_4
  rw [View.read_writes_eq_canon _ _ _ (cover0_B_4 _ _ _ _ _ _ _ _ _ _ _ _ _ _ _ _ _ _ _ _ _ _ )]
  unfold kernelRun0_B
  dsimp only
  sl_unfold_words
  rw [View.canon_unit_zero zeros]
  simp only [View.readCov_unit_zero (S := S1408x512) _ zeros]
  unfold k0_pay3
  simp only [View.readAt_eq_ld, (hs0_0 t).read_unread, (hs0_1 t).read_unread, (hs0_2 t).read_unread, (hs0_3 t).read_unread, (Memref.isWhole_whole _).read_unread, View.ld_unit_zero (S := S512x1408) zeros, View.ld_unit_zero (S := S1408x512) zeros, View.ld_unit_zero (S := S1408x1408) zeros, shapeCast_self]
theorem flushed4 (hf : (cfg0.win 4).flush t = true) :
    (dats m 0 c).flushed 4 t = ((cfg0.win 4).blk t).view.read (Elt Ideal) (out4 (arg0 m c) (arg1 m c) (arg2 m c)) := by
  obtain ⟨-, -, -, -, -, -, -, -, h0, h1⟩ := idx_facts t
  have hN : t.val < 12 := lt_of_lt_of_eq t.isLt N_0
  have hm : t.val % 2 = 1 := (flush0_4 t).mp hf
  rw [Value.flushed4, outLast m c t hm]
  rw [acc0 m c (t.val - 1) _ (by omega)]
  funext y
  obtain ⟨r, q, rfl⟩ : ∃ (r : Fin 1408) (q : Fin 512), y = ix2 r q := ⟨y 0, y 1, ValueIdx.eq_ix2 y⟩
  have hR : t.val / 4 * 1408 + r.val < 4224 := by have := r.isLt; omega
  have hC : t.val / 2 % 2 * 512 + q.val < 1024 := by have := q.isLt; omega
  have he : ((cfg0.win 4).blk t).view.emb (ix2 r q) = ix2 (⟨t.val / 4 * 1408 + r.val, hR⟩ : Fin 4224) (⟨t.val / 2 % 2 * 512 + q.val, hC⟩ : Fin 1024) :=
    at_block h0 h1 rfl rfl rfl rfl
  refine (pay_out4 _ _ _ _ _ _ _ _ r q).trans (Eq.trans ?_ (congrArg (out4 _ _ _) he).symm)
  rw [nt_part (fun k => ⟨k.val, by have := k.isLt; omega⟩) (fun k => blk0 m c (back t) _ k (⟨_, hR⟩) _ (by dsimp only [back] <;> omega) (by dsimp only [back] <;> omega)) (fun k => blk2 m c (back t) _ k (⟨_, hC⟩) _ (by dsimp only [back] <;> omega) (by dsimp only [back] <;> omega)),
    nt_part (fun k => ⟨k.val, by have := k.isLt; omega⟩) (fun k => blk1 m c (back t) _ k (⟨_, hR⟩) _ (by dsimp only [back] <;> omega) (by dsimp only [back] <;> omega)) (fun k => blk3 m c (back t) _ k (⟨_, hC⟩) _ (by dsimp only [back] <;> omega) (by dsimp only [back] <;> omega)),
    nt_part (fun k => ⟨1408 + k.val, by have := k.isLt; omega⟩) (fun k => blk0 m c t _ k (⟨_, hR⟩) _ (by dsimp only [back] <;> omega) (by dsimp only [back] <;> omega)) (fun k => blk2 m c t _ k (⟨_, hC⟩) _ (by dsimp only [back] <;> omega) (by dsimp only [back] <;> omega)),
    nt_part (fun k => ⟨1408 + k.val, by have := k.isLt; omega⟩) (fun k => blk1 m c t _ k (⟨_, hR⟩) _ (by dsimp only [back] <;> omega) (by dsimp only [back] <;> omega)) (fun k => blk3 m c t _ k (⟨_, hC⟩) _ (by dsimp only [back] <;> omega) (by dsimp only [back] <;> omega))]
  rw [add_add_add_comm]
  exact (congrArg₂ (· + ·) (nt_two 1408 rfl _ _ _ _) (nt_two 1408 rfl _ _ _ _)).symm
theorem final4 : (dats m 0 c).arrAt 4 cfg0.N = out4 (arg0 m c) (arg1 m c) (arg2 m c) :=
  (dats m 0 c).arrAt_eq_of_cover 4 _ (fun t hf => flushed4 m c t hf) fun i => by
    have hi0 : (i 0).val < 4224 := (i 0).isLt
    have hi1 : (i 1).val < 1024 := (i 1).isLt
    have ht : (i 0).val / 1408 * 4 + (i 1).val / 512 * 2 + 1 < cfg0.N := by rw [show cfg0.N = 12 from N_0]; omega
    refine ⟨⟨_, ht⟩, ?_, ?_⟩
    · refine (flush0_4 _).mpr ?_; show ((i 0).val / 1408 * 4 + (i 1).val / 512 * 2 + 1) % 2 = 1; omega
    show i ∈ ((View.whole main_v0).slice (win0_4.rect ⟨_, ht⟩)).set
    rw [View.set_slice_whole]
    obtain ⟨-, -, -, -, -, -, -, -, h0, h1⟩ := idx_facts ⟨_, ht⟩
    exact mem_block h0 h1 rfl rfl (by dsimp only; omega) (by dsimp only; omega)
theorem agree : Cert.algebraic_FfnDfIdeal_RefFfnDfIdeal := by
  intro m g m' g' _ same
  refine ⟨fun c => out4 (arg0 m c) (arg1 m c) (arg2 m c),
    (θ_run defs _ _).mono (fun r h c => ⟨((h c).1).trans (final4 m c), (h c).2⟩) (Value.run_blocks m g),
    (θ_run RefFfnDfIdeal.defs _ _).mono (fun r h c => ?_) (RefFfnDfIdeal.Value.run (F := Ideal) m' g')⟩
  refine ⟨((h c).1).trans ?_, (h c).2⟩
  · rw [(same c).1, (same c).2.1, (same c).2.2]
    rw [all_nt (d := RefFfnDfIdeal.dot_S4224x5632_S1024x5632_S4224x1024_1_1_0_0_n_n) _ rfl]
    funext i
    exact nt_beside (by decide) (by decide) (by decide) _ _ _ _ _ _
-- ==== Proof.FfnDwinValue.lean ====
/-
  The gradient of one half of the feed-forward layer's first weight: what the array of the call holds, entry by entry, and
  that the reference's array holds the same.
-/
module
public import proofs.«01_k».proof.Defs
public import proofs.«01_k».proof.Proof.Gen.FfnDwinIdeal.Value
public import proofs.«01_k».proof.Proof.Gen.RefFfnDwinIdeal.Run
public import proofs.«01_k».proof.Proof.Products
@[expose] public section
noncomputable section
namespace Cert.Proof.FfnDwin
open FfnDwinIdeal FfnDwinIdeal.Gen Idealize.ShloMosaic TcCoe Idealize.SL.Sem ValueIdx Cert.Products
/-- The gradient of that half. -/
def out2 (x0 : Mat 4224 1024) (x1 : Mat 4224 2816) : Mat 1024 2816 := fun i => (tn x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 4224 2816 := m ((c : Thread nD τ).loc main_arg1)
theorem idx_facts : ∀ t : Fin cfg0.N,
    win0_0.index t (0 : Fin 2) = t.val % 3 ∧ win0_0.index t (1 : Fin 2) = 0
    ∧ win0_1.index t (0 : Fin 2) = t.val % 3 ∧ win0_1.index t (1 : Fin 2) = t.val / 3
    ∧ win0_2.index t (0 : Fin 2) = 0 ∧ win0_2.index t (1 : Fin 2) = t.val / 3 :=
  (by decide +kernel : ∀ t : Fin grid0.N, _)
theorem blk0 (r : Fin 1408) (q : Fin 1024) (R : Fin 4224) (C : Fin 1024)
    (hR : R.val = t.val % 3 * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1408) (q : Fin 1408) (R : Fin 4224) (C : Fin 2816)
    (hR : R.val = t.val % 3 * 1408 + r.val) (hC : C.val = t.val / 3 * 1408 + q.val) :
    (iblk m c 1 t : Mat 1408 1408) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1408 1408) (r : Fin 1024) (q : Fin 1408)
theorem prod : (k0_pay1 (F := Ideal) b0 b1) (ix2 r q) = tn b0 b1 r q := unit_tn (φ₁ := .bf16) (φ₂ := .bf16) _ none b0 b1 r q
end
theorem pay_out2 (b0 b1 b2 : Mat 1408 1024) (b0' b1' b2' : Mat 1408 1408) (r : Fin 1024) (q : Fin 1408) : (k0_pay3 (F := Ideal) b2 b2' (k0_pay3 (F := Ideal) b1 b1' (k0_pay2 (F := Ideal) b0 b0'))) (ix2 r q)
    = tn b0 b0' r q + tn b1 b1' r q + tn b2 b2' r q := by
  rw [← prod, ← prod, ← prod]
  unfold k0_pay3 k0_pay2
  simp only [shapeCast_self]
  rfl
/-- What the running sum is after the first block. -/
theorem acc0 (h : t.val % 3 = 0) :
    (outsAt0 m c t.val t.isLt).2 = k0_pay2 (iblk m c 0 t) (iblk m c 1 t) := by
  have hN : t.val < 6 := lt_of_lt_of_eq t.isLt N_0
  rw [outsAt0_A m c t h (by omega) (by omega)]
  dsimp only
  unfold sout0_A_0
  rw [View.read_writes_eq_canon _ _ _ (scover0_A_0 _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (Memref.isWhole_whole _).read_unread, View.ld_unit_zero (S := S1024x1408) zeros, View.ld_unit_zero (S := S1408x1024) zeros, View.ld_unit_zero (S := S1408x1408) zeros, shapeCast_self]
/-- What it is after the second. -/
theorem acc1 (h : t.val % 3 = 1) :
    (outsAt0 m c t.val t.isLt).2 = k0_pay3 (iblk m c 0 t) (iblk m c 1 t) (outsAt0 m c (t.val - 1) (Nat.lt_of_le_of_lt (Nat.sub_le _ _) t.isLt)).2 := by
  have hN : t.val < 6 := lt_of_lt_of_eq t.isLt N_0
  rw [outsAt0_B m c t (by omega) (by omega) (by omega)]
  dsimp only
  unfold sout0_B_0
  rw [View.read_writes_eq_canon _ _ _ (scover0_B_0 _ _ _ _ _ _ _ _ _ _ _ _ _ _ _ _ )]
  unfold kernelRun0_B
  dsimp only
  rw [View.canon_unit_zero zeros]
  unfold k0_pay3
  simp only [View.readAt_eq_ld, (hs0_0 t).read_unread, (hs0_1 t).read_unread, (Memref.isWhole_whole _).read_unread, View.ld_unit_zero (S := S1024x1408) zeros, View.ld_unit_zero (S := S1408x1024) zeros, View.ld_unit_zero (S := S1408x1408) zeros, shapeCast_self]
/-- What the last block's point writes. -/
theorem outLast (h : t.val % 3 = 2) :
    (outsAt0 m c t.val t.isLt).1 = k0_pay3 (iblk m c 0 t) (iblk m c 1 t) (outsAt0 m c (t.val - 1) (Nat.lt_of_le_of_lt (Nat.sub_le _ _) t.isLt)).2 := by
  have hN : t.val < 6 := lt_of_lt_of_eq t.isLt N_0
  rw [outsAt0_C m c t (by omega) (by omega) (by omega)]
  dsimp only
  unfold out0_C_2
  rw [View.read_writes_eq_canon _ _ _ (cover0_C_2 _ _ _ _ _ _ _ _ _ _ _ _ _ _ _ _ )]
  unfold kernelRun0_C
  dsimp only
  sl_unfold_words
  rw [View.canon_unit_zero zeros]
  simp only [View.readCov_unit_zero (S := S1024x1408) _ zeros]
  unfold k0_pay3
  simp only [View.readAt_eq_ld, (hs0_0 t).read_unread, (hs0_1 t).read_unread, (Memref.isWhole_whole _).read_unread, View.ld_unit_zero (S := S1024x1408) zeros, View.ld_unit_zero (S := S1408x1024) zeros, View.ld_unit_zero (S := S1408x1408) zeros, shapeCast_self]
theorem flushed2 (hf : (cfg0.win 2).flush t = true) :
    (dats m 0 c).flushed 2 t = ((cfg0.win 2).blk t).view.read (Elt Ideal) (out2 (arg0 m c) (arg1 m c)) := by
  obtain ⟨-, -, -, -, h0, h1⟩ := idx_facts t
  have hN : t.val < 6 := lt_of_lt_of_eq t.isLt N_0
  have hm : t.val % 3 = 2 := (flush0_2 t).mp hf
  rw [Value.flushed2, outLast m c t hm]
  rw [acc1 m c (back t) (by dsimp only [back]; omega), acc0 m c (back (back t)) (by dsimp only [back]; omega)]
  funext y
  obtain ⟨r, q, rfl⟩ : ∃ (r : Fin 1024) (q : Fin 1408), y = ix2 r q := ⟨y 0, y 1, ValueIdx.eq_ix2 y⟩
  have hR : 0 * 1024 + r.val < 1024 := by rw [Nat.zero_mul, Nat.zero_add]; exact r.isLt
  have hC : t.val / 3 * 1408 + q.val < 2816 := by clear hR; have := q.isLt; omega
  have he : ((cfg0.win 2).blk t).view.emb (ix2 r q) = ix2 (⟨0 * 1024 + r.val, hR⟩ : Fin 1024) (⟨t.val / 3 * 1408 + q.val, hC⟩ : Fin 2816) :=
    at_block h0 h1 rfl rfl rfl rfl
  exact (pay_out2 _ _ _ _ _ _ r q).trans (Eq.trans (tn_blocks 1408 rfl
    (fun k j h => ⟨blk0 m c (back (back t)) k _ j ⟨_, hR⟩ (by dsimp only [back] <;> omega) (by dsimp only [back] <;> omega), blk1 m c (back (back t)) k _ j ⟨_, hC⟩ (by dsimp only [back] <;> omega) (by dsimp only [back] <;> omega)⟩)
    (fun k j h => ⟨blk0 m c (back t) k _ j ⟨_, hR⟩ (by dsimp only [back] <;> omega) (by dsimp only [back] <;> omega), blk1 m c (back t) k _ j ⟨_, hC⟩ (by dsimp only [back] <;> omega) (by dsimp only [back] <;> omega)⟩)
    (fun k j h => ⟨blk0 m c t k _ j ⟨_, hR⟩ (by omega) rfl, blk1 m c t k _ j ⟨_, hC⟩ (by omega) rfl⟩)) (congrArg (out2 _ _) he).symm)
theorem final2 : (dats m 0 c).arrAt 2 cfg0.N = out2 (arg0 m c) (arg1 m c) :=
  (dats m 0 c).arrAt_eq_of_cover 2 _ (fun t hf => flushed2 m c t hf) fun i => by
    have hi0 : (i 0).val < 1024 := (i 0).isLt
    have hi1 : (i 1).val < 2816 := (i 1).isLt
    have ht : (i 1).val / 1408 * 3 + 2 < cfg0.N := by rw [show cfg0.N = 6 from N_0]; omega
    refine ⟨⟨_, ht⟩, ?_, ?_⟩
    · refine (flush0_2 _).mpr ?_; show ((i 1).val / 1408 * 3 + 2) % 3 = 2; omega
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_FfnDwinIdeal_RefFfnDwinIdeal := by
  intro m g m' g' _ same
  refine ⟨fun c => out2 (arg0 m c) (arg1 m c),
    (θ_run defs _ _).mono (fun r h c => ⟨((h c).1).trans (final2 m c), (h c).2⟩) (Value.run_blocks m g),
    (θ_run RefFfnDwinIdeal.defs _ _).mono (fun r h c => ?_) (RefFfnDwinIdeal.Value.run (F := Ideal) m' g')⟩
  refine ⟨((h c).1).trans ?_, (h c).2⟩
  · rw [(same c).1, (same c).2]
    rw [all_tn (d := RefFfnDwinIdeal.dot_S4224x2816_S4224x1024_S2816x1024_0_0_1_1_n_n) _ rfl, transpose_eq]
    funext i
    exact tn_swap _ _ _ _
-- ==== Proof.GluValue.lean ====
/-
  The gated unit behind the scan.
-/
module
public import proofs.«01_k».proof.Defs
public import proofs.«01_k».proof.Proof.Gen.GluIdeal.Value
public import proofs.«01_k».proof.Proof.Gen.RefGluIdeal.Run
public import proofs.«01_k».proof.Proof.Products
@[expose] public section
noncomputable section
namespace Cert.Proof.Glu
open GluIdeal GluIdeal.Gen Idealize.ShloMosaic TcCoe Idealize.SL.Sem ValueIdx Cert.Products
/-- The residual with the gated product added. -/
def out4 (x0 : Mat 4224 1024) (x1 : Mat 1024 2048) (x2 : Mat 4224 1024) : Mat 4224 1024 := fun i => (x2 i) + (nn x0 (colsFrom 0 1024 (by decide) x1) (i 0) (i 1)) * sig (nn x0 (colsFrom 1024 1024 (by decide) x1) (i 0) (i 1))
/-- The half that is gated. -/
def out5 (x0 : Mat 4224 1024) (x1 : Mat 1024 2048) (x2 : Mat 4224 1024) : Mat 4224 1024 := fun i => (nn x0 (colsFrom 0 1024 (by decide) x1) (i 0) (i 1))
/-- The gate half. -/
def out6 (x0 : Mat 4224 1024) (x1 : Mat 1024 2048) (x2 : Mat 4224 1024) : Mat 4224 1024 := fun i => (nn x0 (colsFrom 1024 1024 (by decide) x1) (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 1024 2048 := m ((c : Thread nD τ).loc main_arg1)
abbrev arg2 : Mat 4224 1024 := m ((c : Thread nD τ).loc main_arg2)
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = 0 ∧ win0_2.index t (1 : Fin 2) = t.val % 2 + 2
    ∧ win0_3.index t (0 : Fin 2) = t.val / 2 ∧ win0_3.index t (1 : Fin 2) = t.val % 2
    ∧ win0_4.index t (0 : Fin 2) = t.val / 2 ∧ win0_4.index t (1 : Fin 2) = t.val % 2
    ∧ win0_5.index t (0 : Fin 2) = t.val / 2 ∧ win0_5.index t (1 : Fin 2) = t.val % 2
    ∧ win0_6.index t (0 : Fin 2) = t.val / 2 ∧ win0_6.index t (1 : Fin 2) = t.val % 2 :=
  (by decide +kernel : ∀ t : Fin grid0.N, _)
theorem blk0 (r : Fin 1408) (q : Fin 1024) (R : Fin 4224) (C : Fin 1024)
    (hR : R.val = t.val / 2 * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 512) (R : Fin 1024) (C : Fin 1024)
    (hR : R.val = 0 * 1024 + r.val) (hC : C.val = t.val % 2 * 512 + q.val) :
    (iblk m c 1 t : Mat 1024 512) (ix2 r q) = (colsFrom 0 1024 (by decide) (arg1 m c)) (ix2 R C) := by
  obtain ⟨-, -, h0, h1, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_1.index t (0 : Fin 2) * 1024 + 1 * r.val = R.val; rw [h0]; omega
  | ⟨1, _⟩ => show win0_1.index t (1 : Fin 2) * 512 + 1 * q.val = 0 + C.val; rw [h1]; omega
theorem blk2 (r : Fin 1024) (q : Fin 512) (R : Fin 1024) (C : Fin 1024)
    (hR : R.val = 0 * 1024 + r.val) (hC : C.val = t.val % 2 * 512 + q.val) :
    (iblk m c 2 t : Mat 1024 512) (ix2 r q) = (colsFrom 1024 1024 (by decide) (arg1 m c)) (ix2 R C) := by
  obtain ⟨-, -, -, -, h0, h1, -⟩ := idx_facts t
  unfold iblk
  rw [View.read_apply]
  show m ((c : Thread nD τ).loc main_arg1) _ = m ((c : Thread nD τ).loc main_arg1) _
  congr 1
  funext a
  apply Fin.ext
  match a with
  | ⟨0, _⟩ => show win0_2.index t (0 : Fin 2) * 1024 + 1 * r.val = R.val; rw [h0]; omega
  | ⟨1, _⟩ => show win0_2.index t (1 : Fin 2) * 512 + 1 * q.val = 1024 + C.val; rw [h1]; omega
theorem blk3 (r : Fin 1408) (q : Fin 512) (R : Fin 4224) (C : Fin 1024)
    (hR : R.val = t.val / 2 * 1408 + r.val) (hC : C.val = t.val % 2 * 512 + q.val) :
    (iblk m c 3 t : Mat 1408 512) (ix2 r q) = (arg2 m c) (ix2 R C) := by
  obtain ⟨-, -, -, -, -, -, h0, h1, -⟩ := idx_facts t
  exact congrArg (arg2 m c) (at_block h0 h1 hR hC rfl rfl)
section
variable (b0 : Mat 1408 1024) (b1 : Mat 1024 512) (b2 : Mat 1024 512) (b3 : Mat 1408 512) (r : Fin 1408) (q : Fin 512)
theorem pay_out5 : (k0_pay4 (F := Ideal) b0 b1) (ix2 r q) = (nn b0 b1 r q) := unit_nn (φ₁ := .bf16) (φ₂ := .bf16) _ none b0 b1 r q
theorem pay_out6 : (k0_pay5 (F := Ideal) b0 b2) (ix2 r q) = (nn b0 b2 r q) := unit_nn (φ₁ := .bf16) (φ₂ := .bf16) _ none b0 b2 r q
theorem pay_out4 : (k0_pay3 (F := Ideal) b0 b1 b2 b3) (ix2 r q) = b3 (ix2 r q) + (nn b0 b1 r q) * sig (nn b0 b2 r q) := by
  rw [← pay_out5, ← pay_out6, ← sig_kernel]
  rfl
end
theorem flushed4 :
    (dats m 0 c).flushed 4 t = ((cfg0.win 4).blk t).view.read (Elt Ideal) (out4 (arg0 m c) (arg1 m c) (arg2 m c)) := by
  obtain ⟨-, -, -, -, -, -, -, -, h0, h1, -⟩ := idx_facts t
  have hN : t.val < 6 := lt_of_lt_of_eq t.isLt N_0
  rw [Value.flushed4]
  unfold out0_4
  rw [View.canon_unit_zero zeros]
  simp only [View.ld_unit_zero (S := S1024x512) zeros, View.ld_unit_zero (S := S1408x512) zeros, View.ld_unit_zero (S := S1408x1024) zeros]
  funext y
  obtain ⟨r, q, rfl⟩ : ∃ (r : Fin 1408) (q : Fin 512), y = ix2 r q := ⟨y 0, y 1, ValueIdx.eq_ix2 y⟩
  have hR : t.val / 2 * 1408 + r.val < 4224 := by have := r.isLt; omega
  have hC : t.val % 2 * 512 + q.val < 1024 := by have := q.isLt; omega
  have he : ((cfg0.win 4).blk t).view.emb (ix2 r q) = ix2 (⟨t.val / 2 * 1408 + r.val, hR⟩ : Fin 4224) (⟨t.val % 2 * 512 + q.val, hC⟩ : Fin 1024) :=
    at_block h0 h1 rfl rfl rfl rfl
  show (k0_pay3 (F := Ideal) (iblk m c 0 t) (iblk m c 1 t) (iblk m c 2 t) (iblk m c 3 t)) (ix2 r q) = out4 (arg0 m c) (arg1 m c) (arg2 m c) (((cfg0.win 4).blk t).view.emb (ix2 r q))
  rw [he]
  refine (pay_out4 (iblk m c 0 t) (iblk m c 1 t) (iblk m c 2 t) (iblk m c 3 t) r q).trans ?_
  rw [nn_congr (fun k => blk0 m c t _ k ⟨_, hR⟩ k rfl (by omega)) (fun k => blk1 m c t k _ k ⟨_, hC⟩ (by omega) rfl),
    nn_congr (fun k => blk0 m c t _ k ⟨_, hR⟩ k rfl (by omega)) (fun k => blk2 m c t k _ k ⟨_, hC⟩ (by omega) rfl),
    blk3 m c t _ _ ⟨_, hR⟩ ⟨_, hC⟩ rfl rfl]
  rfl
theorem final4 : (dats m 0 c).arrAt 4 cfg0.N = out4 (arg0 m c) (arg1 m c) (arg2 m c) :=
  (dats m 0 c).arrAt_eq_of_cover 4 _ (fun t _ => flushed4 m c t) fun i => by
    have hi0 : (i 0).val < 4224 := (i 0).isLt
    have hi1 : (i 1).val < 1024 := (i 1).isLt
    have ht : (i 0).val / 1408 * 2 + (i 1).val / 512 < cfg0.N := by rw [show cfg0.N = 6 from N_0]; omega
    refine ⟨⟨_, ht⟩, ?_, ?_⟩
    · first | exact flush0_4 _ | exact rfl
    show i ∈ ((View.whole main_v0_0).slice (win0_4.rect ⟨_, ht⟩)).set
    rw [View.set_slice_whole]
    obtain ⟨-, -, -, -, -, -, -, -, h0, h1, -⟩ := idx_facts ⟨_, ht⟩
    exact mem_block h0 h1 rfl rfl (by dsimp only; omega) (by dsimp only; omega)
theorem flushed5 :
    (dats m 0 c).flushed 5 t = ((cfg0.win 5).blk t).view.read (Elt Ideal) (out5 (arg0 m c) (arg1 m c) (arg2 m c)) := by
  obtain ⟨-, -, -, -, -, -, -, -, -, -, h0, h1, -⟩ := idx_facts t
  have hN : t.val < 6 := lt_of_lt_of_eq t.isLt N_0
  rw [Value.flushed5]
  unfold out0_5
  rw [View.canon_unit_zero zeros]
  simp only [View.ld_unit_zero (S := S1024x512) zeros, View.ld_unit_zero (S := S1408x1024) zeros]
  funext y
  obtain ⟨r, q, rfl⟩ : ∃ (r : Fin 1408) (q : Fin 512), y = ix2 r q := ⟨y 0, y 1, ValueIdx.eq_ix2 y⟩
  have hR : t.val / 2 * 1408 + r.val < 4224 := by have := r.isLt; omega
  have hC : t.val % 2 * 512 + q.val < 1024 := by have := q.isLt; omega
  have he : ((cfg0.win 5).blk t).view.emb (ix2 r q) = ix2 (⟨t.val / 2 * 1408 + r.val, hR⟩ : Fin 4224) (⟨t.val % 2 * 512 + q.val, hC⟩ : Fin 1024) :=
    at_block h0 h1 rfl rfl rfl rfl
  show (k0_pay4 (F := Ideal) (iblk m c 0 t) (iblk m c 1 t)) (ix2 r q) = out5 (arg0 m c) (arg1 m c) (arg2 m c) (((cfg0.win 5).blk t).view.emb (ix2 r q))
  rw [he]
  refine (pay_out5 (iblk m c 0 t) (iblk m c 1 t) r q).trans ?_
  rw [nn_congr (fun k => blk0 m c t _ k ⟨_, hR⟩ k rfl (by omega)) (fun k => blk1 m c t k _ k ⟨_, hC⟩ (by omega) rfl)]
  rfl
theorem final5 : (dats m 0 c).arrAt 5 cfg0.N = out5 (arg0 m c) (arg1 m c) (arg2 m c) :=
  (dats m 0 c).arrAt_eq_of_cover 5 _ (fun t _ => flushed5 m c t) fun i => by
    have hi0 : (i 0).val < 4224 := (i 0).isLt
    have hi1 : (i 1).val < 1024 := (i 1).isLt
    have ht : (i 0).val / 1408 * 2 + (i 1).val / 512 < cfg0.N := by rw [show cfg0.N = 6 from N_0]; omega
    refine ⟨⟨_, ht⟩, ?_, ?_⟩
    · first | exact flush0_5 _ | exact rfl
    show i ∈ ((View.whole main_v0_1).slice (win0_5.rect ⟨_, ht⟩)).set
    rw [View.set_slice_whole]
    obtain ⟨-, -, -, -, -, -, -, -, -, -, h0, h1, -⟩ := idx_facts ⟨_, ht⟩
    exact mem_block h0 h1 rfl rfl (by dsimp only; omega) (by dsimp only; omega)
theorem flushed6 :
    (dats m 0 c).flushed 6 t = ((cfg0.win 6).blk t).view.read (Elt Ideal) (out6 (arg0 m c) (arg1 m c) (arg2 m c)) := by
  obtain ⟨-, -, -, -, -, -, -, -, -, -, -, -, h0, h1⟩ := idx_facts t
  have hN : t.val < 6 := lt_of_lt_of_eq t.isLt N_0
  rw [Value.flushed6]
  unfold out0_6
  rw [View.canon_unit_zero zeros]
  simp only [View.ld_unit_zero (S := S1024x512) zeros, View.ld_unit_zero (S := S1408x1024) zeros]
  funext y
  obtain ⟨r, q, rfl⟩ : ∃ (r : Fin 1408) (q : Fin 512), y = ix2 r q := ⟨y 0, y 1, ValueIdx.eq_ix2 y⟩
  have hR : t.val / 2 * 1408 + r.val < 4224 := by have := r.isLt; omega
  have hC : t.val % 2 * 512 + q.val < 1024 := by have := q.isLt; omega
  have he : ((cfg0.win 6).blk t).view.emb (ix2 r q) = ix2 (⟨t.val / 2 * 1408 + r.val, hR⟩ : Fin 4224) (⟨t.val % 2 * 512 + q.val, hC⟩ : Fin 1024) :=
    at_block h0 h1 rfl rfl rfl rfl
  show (k0_pay5 (F := Ideal) (iblk m c 0 t) (iblk m c 2 t)) (ix2 r q) = out6 (arg0 m c) (arg1 m c) (arg2 m c) (((cfg0.win 6).blk t).view.emb (ix2 r q))
  rw [he]
  refine (pay_out6 (iblk m c 0 t) (iblk m c 2 t) r q).trans ?_
  rw [nn_congr (fun k => blk0 m c t _ k ⟨_, hR⟩ k rfl (by omega)) (fun k => blk2 m c t k _ k ⟨_, hC⟩ (by omega) rfl)]
  rfl
theorem final6 : (dats m 0 c).arrAt 6 cfg0.N = out6 (arg0 m c) (arg1 m c) (arg2 m c) :=
  (dats m 0 c).arrAt_eq_of_cover 6 _ (fun t _ => flushed6 m c t) fun i => by
    have hi0 : (i 0).val < 4224 := (i 0).isLt
    have hi1 : (i 1).val < 1024 := (i 1).isLt
    have ht : (i 0).val / 1408 * 2 + (i 1).val / 512 < cfg0.N := by rw [show cfg0.N = 6 from N_0]; omega
    refine ⟨⟨_, ht⟩, ?_, ?_⟩
    · first | exact flush0_6 _ | exact rfl
    show i ∈ ((View.whole main_v0_2).slice (win0_6.rect ⟨_, ht⟩)).set
    rw [View.set_slice_whole]
    obtain ⟨-, -, -, -, -, -, -, -, -, -, -, -, h0, h1⟩ := idx_facts ⟨_, ht⟩
    exact mem_block h0 h1 rfl rfl (by dsimp only; omega) (by dsimp only; omega)
theorem agree : Cert.algebraic_GluIdeal_RefGluIdeal := by
  intro m g m' g' _ same
  refine ⟨fun c => out4 (arg0 m c) (arg1 m c) (arg2 m c), fun c => out5 (arg0 m c) (arg1 m c) (arg2 m c), fun c => out6 (arg0 m c) (arg1 m c) (arg2 m c),
    (θ_run defs _ _).mono (fun r h c => ⟨((h c).1).trans (final4 m c), ((h c).2.1).trans (final5 m c), ((h c).2.2.1).trans (final6 m c), (h c).2.2.2⟩) (Value.run_blocks m g),
    (θ_run RefGluIdeal.defs _ _).mono (fun r h c => ?_) (RefGluIdeal.Value.run (F := Ideal) m' g')⟩
  refine ⟨((h c).1).trans ?_, ((h c).2.1).trans ?_, ((h c).2.2.1).trans ?_, (h c).2.2.2⟩
  · rw [(same c).1, (same c).2.1, (same c).2.2]
    simp only [all_nn (d := RefGluIdeal.dot_S4224x1024_S1024x2048_S4224x2048_1_0_0_1_n_n) _ rfl]
    rw [slice_cols (h := by decide), slice_cols (h := by decide)]
    funext i
    show _ + _ * Ideal.div (Ideal.ofBits .f32 0x3F800000#32) (Ideal.ofBits .f32 0x3F800000#32 + Ideal.exp (-_)) = _
    rw [Ideal.ofBits_one_f32]
    rfl
  · rw [(same c).1, (same c).2.1]
    rw [all_nn (d := RefGluIdeal.dot_S4224x1024_S1024x2048_S4224x2048_1_0_0_1_n_n) _ rfl]
    rw [slice_cols (h := by decide)]
    rfl
  · rw [(same c).1, (same c).2.1]
    rw [all_nn (d := RefGluIdeal.dot_S4224x1024_S1024x2048_S4224x2048_1_0_0_1_n_n) _ rfl]
    rw [slice_cols (h := by decide)]
    rfl
-- ==== Proof.GluDzValue.lean ====
/-
  The gradient of the gated unit's input.
-/
module
public import proofs.«01_k».proof.Defs
public import proofs.«01_k».proof.Proof.Gen.GluDzIdeal.Value
public import proofs.«01_k».proof.Proof.Gen.RefGluDzIdeal.Run
public import proofs.«01_k».proof.Proof.Products
@[expose] public section
noncomputable section
namespace Cert.Proof.GluDz
open GluDzIdeal GluDzIdeal.Gen Idealize.ShloMosaic TcCoe Idealize.SL.Sem ValueIdx Cert.Products
/-- The gradient of the gated unit's input. -/
def out4 (x0 : Mat 4224 1024) (x1 : Mat 4224 1024) (x2 : Mat 1024 2048) : Mat 4224 1024 := fun i => (nt x0 (colsFrom 0 1024 (by decide) x2) (i 0) (i 1)) + (nt x1 (colsFrom 1024 1024 (by decide) x2) (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 4224 1024 := m ((c : Thread nD τ).loc main_arg1)
abbrev arg2 : Mat 1024 2048 := m ((c : Thread nD τ).loc main_arg2)
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 + 1
    ∧ win0_4.index t (0 : Fin 2) = t.val ∧ win0_4.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1408) (q : Fin 1024) (R : Fin 4224) (C : Fin 1024)
    (hR : R.val = t.val * 1408 + r.val) (hC : C.val = 0 * 1024 + q.val) :
    (iblk m c 1 t : Mat 1408 1024) (ix2 r q) = (arg1 m c) (ix2 R C) := by
  obtain ⟨-, -, h0, h1, -⟩ := idx_facts t
  exact congrArg (arg1 m c) (at_block h0 h1 hR hC rfl rfl)
theorem blk2 (r : Fin 1024) (q : Fin 1024) (R : Fin 1024) (C : Fin 1024)
    (hR : R.val = 0 * 1024 + r.val) (hC : C.val = 0 * 1024 + q.val) :
    (iblk m c 2 t : Mat 1024 1024) (ix2 r q) = (colsFrom 0 1024 (by decide) (arg2 m c)) (ix2 R C) := by
  obtain ⟨-, -, -, -, h0, h1, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_2.index t (0 : Fin 2) * 1024 + 1 * r.val = R.val; rw [h0]; omega
  | ⟨1, _⟩ => show win0_2.index t (1 : Fin 2) * 1024 + 1 * q.val = 0 + C.val; rw [h1]; omega
theorem blk3 (r : Fin 1024) (q : Fin 1024) (R : Fin 1024) (C : Fin 1024)
    (hR : R.val = 0 * 1024 + r.val) (hC : C.val = 0 * 1024 + q.val) :
    (iblk m c 3 t : Mat 1024 1024) (ix2 r q) = (colsFrom 1024 1024 (by decide) (arg2 m c)) (ix2 R C) := by
  obtain ⟨-, -, -, -, -, -, h0, h1, -⟩ := idx_facts t
  unfold iblk
  rw [View.read_apply]
  show m ((c : Thread nD τ).loc main_arg2) _ = m ((c : Thread nD τ).loc main_arg2) _
  congr 1
  funext a
  apply Fin.ext
  match a with
  | ⟨0, _⟩ => show win0_3.index t (0 : Fin 2) * 1024 + 1 * r.val = R.val; rw [h0]; omega
  | ⟨1, _⟩ => show win0_3.index t (1 : Fin 2) * 1024 + 1 * q.val = 1024 + C.val; rw [h1]; omega
section
variable (b0 : Mat 1408 1024) (b1 : Mat 1408 1024) (b2 : Mat 1024 1024) (b3 : Mat 1024 1024) (r : Fin 1408) (q : Fin 1024)
theorem pay_out4 : (k0_pay1 (F := Ideal) b0 b1 b2 b3) (ix2 r q) = nt b0 b2 r q + nt b1 b3 r q := by
  rw [← unit_nt (φ₁ := .bf16) (φ₂ := .bf16) dot_S1408x1024_S1024x1024_S1408x1024_1_1_0_0_n_n.wf none b0 b2 r q, ← unit_nt (φ₁ := .bf16) (φ₂ := .bf16) dot_S1408x1024_S1024x1024_S1408x1024_1_1_0_0_n_n.wf none b1 b3 r q]
  rfl
end
theorem flushed4 :
    (dats m 0 c).flushed 4 t = ((cfg0.win 4).blk t).view.read (Elt Ideal) (out4 (arg0 m c) (arg1 m c) (arg2 m c)) := by
  obtain ⟨-, -, -, -, -, -, -, -, h0, h1⟩ := idx_facts t
  have hN : t.val < 3 := lt_of_lt_of_eq t.isLt N_0
  rw [Value.flushed4]
  unfold out0_4
  rw [View.canon_unit_zero zeros]
  simp only [View.ld_unit_zero (S := S1024x1024) zeros, View.ld_unit_zero (S := S1408x1024) zeros]
  funext y
  obtain ⟨r, q, rfl⟩ : ∃ (r : Fin 1408) (q : Fin 1024), y = ix2 r q := ⟨y 0, y 1, ValueIdx.eq_ix2 y⟩
  have hR : t.val * 1408 + r.val < 4224 := by have := r.isLt; omega
  have hC : 0 * 1024 + q.val < 1024 := by rw [Nat.zero_mul, Nat.zero_add]; exact q.isLt
  have he : ((cfg0.win 4).blk t).view.emb (ix2 r q) = ix2 (⟨t.val * 1408 + r.val, hR⟩ : Fin 4224) (⟨0 * 1024 + q.val, hC⟩ : Fin 1024) :=
    at_block h0 h1 rfl rfl rfl rfl
  show (k0_pay1 (F := Ideal) (iblk m c 0 t) (iblk m c 1 t) (iblk m c 2 t) (iblk m c 3 t)) (ix2 r q) = out4 (arg0 m c) (arg1 m c) (arg2 m c) (((cfg0.win 4).blk t).view.emb (ix2 r q))
  rw [he]
  refine (pay_out4 (iblk m c 0 t) (iblk m c 1 t) (iblk m c 2 t) (iblk m c 3 t) r q).trans ?_
  rw [nt_congr (fun k => blk0 m c t _ k ⟨_, hR⟩ k rfl (by omega)) (fun k => blk2 m c t _ k ⟨_, hC⟩ k rfl (by omega)),
    nt_congr (fun k => blk1 m c t _ k ⟨_, hR⟩ k rfl (by omega)) (fun k => blk3 m c t _ k ⟨_, hC⟩ k rfl (by omega))]
  rfl
theorem final4 : (dats m 0 c).arrAt 4 cfg0.N = out4 (arg0 m c) (arg1 m c) (arg2 m c) :=
  (dats m 0 c).arrAt_eq_of_cover 4 _ (fun t _ => flushed4 m c t) fun i => by
    have hi0 : (i 0).val < 4224 := (i 0).isLt
    have hi1 : (i 1).val < 1024 := (i 1).isLt
    have ht : (i 0).val / 1408 < cfg0.N := by rw [show cfg0.N = 3 from N_0]; omega
    refine ⟨⟨_, ht⟩, ?_, ?_⟩
    · first | exact flush0_4 _ | exact rfl
    show i ∈ ((View.whole main_v0).slice (win0_4.rect ⟨_, ht⟩)).set
    rw [View.set_slice_whole]
    obtain ⟨-, -, -, -, -, -, -, -, h0, h1⟩ := idx_facts ⟨_, ht⟩
    exact mem_block h0 h1 rfl rfl (by dsimp only; omega) (by dsimp only; omega)
theorem agree : Cert.algebraic_GluDzIdeal_RefGluDzIdeal := by
  intro m g m' g' _ same
  refine ⟨fun c => out4 (arg0 m c) (arg1 m c) (arg2 m c),
    (θ_run defs _ _).mono (fun r h c => ⟨((h c).1).trans (final4 m c), (h c).2⟩) (Value.run_blocks m g),
    (θ_run RefGluDzIdeal.defs _ _).mono (fun r h c => ?_) (RefGluDzIdeal.Value.run (F := Ideal) m' g')⟩
  refine ⟨((h c).1).trans ?_, (h c).2⟩
  · rw [(same c).1, (same c).2.1, (same c).2.2]
    rw [all_nt (d := RefGluDzIdeal.dot_S4224x2048_S1024x2048_S4224x1024_1_1_0_0_n_n) _ rfl]
    funext i
    exact nt_beside (by decide) (by decide) (by decide) _ _ _ _ _ _
-- ==== Proof.GluDwValue.lean ====
/-
  The gradient of one half of the gated unit's weight: what the array of the call holds, entry by entry, and that the
  reference's array holds the same.
-/
module
public import proofs.«01_k».proof.Defs
public import proofs.«01_k».proof.Proof.Gen.GluDwIdeal.Value
public import proofs.«01_k».proof.Proof.Gen.RefGluDwIdeal.Run
public import proofs.«01_k».proof.Proof.Products
@[expose] public section
noncomputable section
namespace Cert.Proof.GluDw
open GluDwIdeal GluDwIdeal.Gen Idealize.ShloMosaic TcCoe Idealize.SL.Sem ValueIdx Cert.Products
/-- The gradient of that half. -/
def out2 (x0 : Mat 4224 1024) (x1 : Mat 4224 1024) : Mat 1024 1024 := fun i => (tn x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 4224 1024 := m ((c : Thread nD τ).loc main_arg1)
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1408) (q : Fin 1024) (R : Fin 4224) (C : Fin 1024)
    (hR : R.val = t.val * 1408 + r.val) (hC : C.val = 0 * 1024 + q.val) :
    (iblk m c 1 t : Mat 1408 1024) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1408 1024) (r : Fin 1024) (q : Fin 1024)
theorem prod : (k0_pay1 (F := Ideal) b0 b1) (ix2 r q) = tn b0 b1 r q := unit_tn (φ₁ := .bf16) (φ₂ := .bf16) _ none b0 b1 r q
end
theorem pay_out2 (b0 b1 b2 : Mat 1408 1024) (b0' b1' b2' : Mat 1408 1024) (r : Fin 1024) (q : Fin 1024) : (k0_pay3 (F := Ideal) b2 b2' (k0_pay3 (F := Ideal) b1 b1' (k0_pay2 (F := Ideal) b0 b0'))) (ix2 r q)
    = tn b0 b0' r q + tn b1 b1' r q + tn b2 b2' r q := by
  rw [← prod, ← prod, ← prod]
  unfold k0_pay3 k0_pay2
  simp only [shapeCast_self]
  rfl
/-- What the running sum is after the first block. -/
theorem acc0 (h : t.val % 3 = 0) :
    (outsAt0 m c t.val t.isLt).2 = k0_pay2 (iblk m c 0 t) (iblk m c 1 t) := by
  have hN : t.val < 3 := lt_of_lt_of_eq t.isLt N_0
  rw [outsAt0_A m c t h (by omega) (by omega)]
  dsimp only
  unfold sout0_A_0
  rw [View.read_writes_eq_canon _ _ _ (scover0_A_0 _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (Memref.isWhole_whole _).read_unread, View.ld_unit_zero (S := S1024x1024) zeros, View.ld_unit_zero (S := S1408x1024) zeros, shapeCast_self]
/-- What it is after the second. -/
theorem acc1 (h : t.val % 3 = 1) :
    (outsAt0 m c t.val t.isLt).2 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_B m c t (by omega) (by omega) (by omega)]
  dsimp only
  unfold sout0_B_0
  rw [View.read_writes_eq_canon _ _ _ (scover0_B_0 _ _ _ _ _ _ _ _ _ _ _ _ _ _ _ _ )]
  unfold kernelRun0_B
  dsimp only
  rw [View.canon_unit_zero zeros]
  unfold k0_pay3
  simp only [View.readAt_eq_ld, (hs0_0 t).read_unread, (hs0_1 t).read_unread, (Memref.isWhole_whole _).read_unread, View.ld_unit_zero (S := S1024x1024) zeros, View.ld_unit_zero (S := S1408x1024) zeros, shapeCast_self]
/-- What the last block's point writes. -/
theorem outLast (h : t.val % 3 = 2) :
    (outsAt0 m c t.val t.isLt).1 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_C m c t (by omega) (by omega) (by omega)]
  dsimp only
  unfold out0_C_2
  rw [View.read_writes_eq_canon _ _ _ (cover0_C_2 _ _ _ _ _ _ _ _ _ _ _ _ _ _ _ _ )]
  unfold kernelRun0_C
  dsimp only
  sl_unfold_words
  rw [View.canon_unit_zero zeros]
  simp only [View.readCov_unit_zero (S := S1024x1024) _ zeros]
  unfold k0_pay3
  simp only [View.readAt_eq_ld, (hs0_0 t).read_unread, (hs0_1 t).read_unread, (Memref.isWhole_whole _).read_unread, View.ld_unit_zero (S := S1024x1024) zeros, View.ld_unit_zero (S := S1408x1024) zeros, shapeCast_self]
theorem flushed2 (hf : (cfg0.win 2).flush t = true) :
    (dats m 0 c).flushed 2 t = ((cfg0.win 2).blk t).view.read (Elt Ideal) (out2 (arg0 m c) (arg1 m c)) := by
  obtain ⟨-, -, -, -, h0, h1⟩ := idx_facts t
  have hN : t.val < 3 := lt_of_lt_of_eq t.isLt N_0
  have hm : t.val % 3 = 2 := (flush0_2 t).mp hf
  rw [Value.flushed2, outLast m c t hm]
  rw [acc1 m c (back t) (by dsimp only [back]; omega), acc0 m c (back (back t)) (by dsimp only [back]; omega)]
  funext y
  obtain ⟨r, q, rfl⟩ : ∃ (r : Fin 1024) (q : Fin 1024), y = ix2 r q := ⟨y 0, y 1, ValueIdx.eq_ix2 y⟩
  have hR : 0 * 1024 + r.val < 1024 := by rw [Nat.zero_mul, Nat.zero_add]; exact r.isLt
  have hC : 0 * 1024 + q.val < 1024 := by rw [Nat.zero_mul, Nat.zero_add]; exact q.isLt
  have he : ((cfg0.win 2).blk t).view.emb (ix2 r q) = ix2 (⟨0 * 1024 + r.val, hR⟩ : Fin 1024) (⟨0 * 1024 + q.val, hC⟩ : Fin 1024) :=
    at_block h0 h1 rfl rfl rfl rfl
  exact (pay_out2 _ _ _ _ _ _ r q).trans (Eq.trans (tn_blocks 1408 rfl
    (fun k j h => ⟨blk0 m c (back (back t)) k _ j ⟨_, hR⟩ (by dsimp only [back] <;> omega) (by dsimp only [back] <;> omega), blk1 m c (back (back t)) k _ j ⟨_, hC⟩ (by dsimp only [back] <;> omega) (by dsimp only [back] <;> omega)⟩)
    (fun k j h => ⟨blk0 m c (back t) k _ j ⟨_, hR⟩ (by dsimp only [back] <;> omega) (by dsimp only [back] <;> omega), blk1 m c (back t) k _ j ⟨_, hC⟩ (by dsimp only [back] <;> omega) (by dsimp only [back] <;> omega)⟩)
    (fun k j h => ⟨blk0 m c t k _ j ⟨_, hR⟩ (by omega) rfl, blk1 m c t k _ j ⟨_, hC⟩ (by omega) rfl⟩)) (congrArg (out2 _ _) he).symm)
theorem final2 : (dats m 0 c).arrAt 2 cfg0.N = out2 (arg0 m c) (arg1 m c) :=
  (dats m 0 c).arrAt_eq_of_cover 2 _ (fun t hf => flushed2 m c t hf) fun i => by
    have hi0 : (i 0).val < 1024 := (i 0).isLt
    have hi1 : (i 1).val < 1024 := (i 1).isLt
    have ht : 2 < cfg0.N := by rw [show cfg0.N = 3 from N_0]; omega
    refine ⟨⟨_, ht⟩, ?_, ?_⟩
    · refine (flush0_2 _).mpr ?_; show (2) % 3 = 2; omega
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_GluDwIdeal_RefGluDwIdeal := by
  intro m g m' g' _ same
  refine ⟨fun c => out2 (arg0 m c) (arg1 m c),
    (θ_run defs _ _).mono (fun r h c => ⟨((h c).1).trans (final2 m c), (h c).2⟩) (Value.run_blocks m g),
    (θ_run RefGluDwIdeal.defs _ _).mono (fun r h c => ?_) (RefGluDwIdeal.Value.run (F := Ideal) m' g')⟩
  refine ⟨((h c).1).trans ?_, (h c).2⟩
  · rw [(same c).1, (same c).2]
    rw [all_tn (d := RefGluDwIdeal.dot_S4224x1024_S4224x1024_S1024x1024_0_0_1_1_n_n) _ rfl, transpose_eq]
    funext i
    exact tn_swap _ _ _ _
-- ==== Proof.AttnKvValue.lean ====
/-
  The key and value projections.
-/
module
public import proofs.«01_k».proof.Defs
public import proofs.«01_k».proof.Proof.Gen.AttnKvIdeal.Value
public import proofs.«01_k».proof.Proof.Gen.RefAttnKvIdeal.Run
public import proofs.«01_k».proof.Proof.Products
@[expose] public section
noncomputable section
namespace Cert.Proof.AttnKv
open AttnKvIdeal AttnKvIdeal.Gen Idealize.ShloMosaic TcCoe Idealize.SL.Sem ValueIdx Cert.Products
/-- The keys. -/
def out3 (x0 : Mat 4224 1024) (x1 : Mat 1024 1024) (x2 : Mat 1024 1024) : Mat 4224 1024 := fun i => (nn x0 x1 (i 0) (i 1))
/-- The values. -/
def out4 (x0 : Mat 4224 1024) (x1 : Mat 1024 1024) (x2 : Mat 1024 1024) : Mat 4224 1024 := fun i => (nn x0 x2 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 1024 1024 := m ((c : Thread nD τ).loc main_arg1)
abbrev arg2 : Mat 1024 1024 := m ((c : Thread nD τ).loc main_arg2)
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 1024) (R : Fin 1024) (C : Fin 1024)
    (hR : R.val = 0 * 1024 + r.val) (hC : C.val = 0 * 1024 + q.val) :
    (iblk m c 1 t : Mat 1024 1024) (ix2 r q) = (arg1 m c) (ix2 R C) := by
  obtain ⟨-, -, h0, h1, -⟩ := idx_facts t
  exact congrArg (arg1 m c) (at_block h0 h1 hR hC rfl rfl)
theorem blk2 (r : Fin 1024) (q : Fin 1024) (R : Fin 1024) (C : Fin 1024)
    (hR : R.val = 0 * 1024 + r.val) (hC : C.val = 0 * 1024 + q.val) :
    (iblk m c 2 t : Mat 1024 1024) (ix2 r q) = (arg2 m c) (ix2 R C) := by
  obtain ⟨-, -, -, -, h0, h1, -⟩ := idx_facts t
  exact congrArg (arg2 m c) (at_block h0 h1 hR hC rfl rfl)
section
variable (b0 : Mat 1408 1024) (b1 : Mat 1024 1024) (b2 : Mat 1024 1024) (r : Fin 1408) (q : Fin 1024)
theorem pay_out3 : (k0_pay1 (F := Ideal) b0 b1) (ix2 r q) = nn b0 b1 r q := unit_nn (φ₁ := .bf16) (φ₂ := .bf16) _ none b0 b1 r q
theorem pay_out4 : (k0_pay2 (F := Ideal) b0 b2) (ix2 r q) = nn b0 b2 r q := unit_nn (φ₁ := .bf16) (φ₂ := .bf16) _ none b0 b2 r q
end
theorem flushed3 :
    (dats m 0 c).flushed 3 t = ((cfg0.win 3).blk t).view.read (Elt Ideal) (out3 (arg0 m c) (arg1 m c) (arg2 m c)) := by
  obtain ⟨-, -, -, -, -, -, h0, h1, -⟩ := idx_facts t
  have hN : t.val < 3 := lt_of_lt_of_eq t.isLt N_0
  rw [Value.flushed3]
  unfold out0_3
  rw [View.canon_unit_zero zeros]
  simp only [View.ld_unit_zero (S := S1024x1024) zeros, View.ld_unit_zero (S := S1408x1024) zeros]
  funext y
  obtain ⟨r, q, rfl⟩ : ∃ (r : Fin 1408) (q : Fin 1024), y = ix2 r q := ⟨y 0, y 1, ValueIdx.eq_ix2 y⟩
  have hR : t.val * 1408 + r.val < 4224 := by have := r.isLt; omega
  have hC : 0 * 1024 + q.val < 1024 := by rw [Nat.zero_mul, Nat.zero_add]; exact q.isLt
  have he : ((cfg0.win 3).blk t).view.emb (ix2 r q) = ix2 (⟨t.val * 1408 + r.val, hR⟩ : Fin 4224) (⟨0 * 1024 + q.val, hC⟩ : Fin 1024) :=
    at_block h0 h1 rfl rfl rfl rfl
  show (k0_pay1 (F := Ideal) (iblk m c 0 t) (iblk m c 1 t)) (ix2 r q) = out3 (arg0 m c) (arg1 m c) (arg2 m c) (((cfg0.win 3).blk t).view.emb (ix2 r q))
  rw [he]
  refine (pay_out3 (iblk m c 0 t) (iblk m c 1 t) r q).trans ?_
  rw [nn_congr (fun k => blk0 m c t _ k ⟨_, hR⟩ k rfl (by omega)) (fun k => blk1 m c t k _ k ⟨_, hC⟩ (by omega) rfl)]
  rfl
theorem final3 : (dats m 0 c).arrAt 3 cfg0.N = out3 (arg0 m c) (arg1 m c) (arg2 m c) :=
  (dats m 0 c).arrAt_eq_of_cover 3 _ (fun t _ => flushed3 m c t) fun i => by
    have hi0 : (i 0).val < 4224 := (i 0).isLt
    have hi1 : (i 1).val < 1024 := (i 1).isLt
    have ht : (i 0).val / 1408 < cfg0.N := by rw [show cfg0.N = 3 from N_0]; omega
    refine ⟨⟨_, ht⟩, ?_, ?_⟩
    · first | exact flush0_3 _ | exact rfl
    show i ∈ ((View.whole main_v0_0).slice (win0_3.rect ⟨_, ht⟩)).set
    rw [View.set_slice_whole]
    obtain ⟨-, -, -, -, -, -, h0, h1, -⟩ := idx_facts ⟨_, ht⟩
    exact mem_block h0 h1 rfl rfl (by dsimp only; omega) (by dsimp only; omega)
theorem flushed4 :
    (dats m 0 c).flushed 4 t = ((cfg0.win 4).blk t).view.read (Elt Ideal) (out4 (arg0 m c) (arg1 m c) (arg2 m c)) := by
  obtain ⟨-, -, -, -, -, -, -, -, h0, h1⟩ := idx_facts t
  have hN : t.val < 3 := lt_of_lt_of_eq t.isLt N_0
  rw [Value.flushed4]
  unfold out0_4
  rw [View.canon_unit_zero zeros]
  simp only [View.ld_unit_zero (S := S1024x1024) zeros, View.ld_unit_zero (S := S1408x1024) zeros]
  funext y
  obtain ⟨r, q, rfl⟩ : ∃ (r : Fin 1408) (q : Fin 1024), y = ix2 r q := ⟨y 0, y 1, ValueIdx.eq_ix2 y⟩
  have hR : t.val * 1408 + r.val < 4224 := by have := r.isLt; omega
  have hC : 0 * 1024 + q.val < 1024 := by rw [Nat.zero_mul, Nat.zero_add]; exact q.isLt
  have he : ((cfg0.win 4).blk t).view.emb (ix2 r q) = ix2 (⟨t.val * 1408 + r.val, hR⟩ : Fin 4224) (⟨0 * 1024 + q.val, hC⟩ : Fin 1024) :=
    at_block h0 h1 rfl rfl rfl rfl
  show (k0_pay2 (F := Ideal) (iblk m c 0 t) (iblk m c 2 t)) (ix2 r q) = out4 (arg0 m c) (arg1 m c) (arg2 m c) (((cfg0.win 4).blk t).view.emb (ix2 r q))
  rw [he]
  refine (pay_out4 (iblk m c 0 t) (iblk m c 2 t) r q).trans ?_
  rw [nn_congr (fun k => blk0 m c t _ k ⟨_, hR⟩ k rfl (by omega)) (fun k => blk2 m c t k _ k ⟨_, hC⟩ (by omega) rfl)]
  rfl
theorem final4 : (dats m 0 c).arrAt 4 cfg0.N = out4 (arg0 m c) (arg1 m c) (arg2 m c) :=
  (dats m 0 c).arrAt_eq_of_cover 4 _ (fun t _ => flushed4 m c t) fun i => by
    have hi0 : (i 0).val < 4224 := (i 0).isLt
    have hi1 : (i 1).val < 1024 := (i 1).isLt
    have ht : (i 0).val / 1408 < cfg0.N := by rw [show cfg0.N = 3 from N_0]; omega
    refine ⟨⟨_, ht⟩, ?_, ?_⟩
    · first | exact flush0_4 _ | exact rfl
    show i ∈ ((View.whole main_v0_1).slice (win0_4.rect ⟨_, ht⟩)).set
    rw [View.set_slice_whole]
    obtain ⟨-, -, -, -, -, -, -, -, h0, h1⟩ := idx_facts ⟨_, ht⟩
    exact mem_block h0 h1 rfl rfl (by dsimp only; omega) (by dsimp only; omega)
theorem agree : Cert.algebraic_AttnKvIdeal_RefAttnKvIdeal := by
  intro m g m' g' _ same
  refine ⟨fun c => out3 (arg0 m c) (arg1 m c) (arg2 m c), fun c => out4 (arg0 m c) (arg1 m c) (arg2 m c),
    (θ_run defs _ _).mono (fun r h c => ⟨((h c).1).trans (final3 m c), ((h c).2.1).trans (final4 m c), (h c).2.2⟩) (Value.run_blocks m g),
    (θ_run RefAttnKvIdeal.defs _ _).mono (fun r h c => ?_) (RefAttnKvIdeal.Value.run (F := Ideal) m' g')⟩
  refine ⟨((h c).1).trans ?_, ((h c).2.1).trans ?_, (h c).2.2⟩
  · rw [(same c).1, (same c).2.1]
    rw [all_nn (d := RefAttnKvIdeal.dot_S4224x1024_S1024x1024_S4224x1024_1_0_0_1_n_n) _ rfl]
    rfl
  · rw [(same c).1, (same c).2.2]
    rw [all_nn (d := RefAttnKvIdeal.dot_S4224x1024_S1024x1024_S4224x1024_1_0_0_1_n_n) _ rfl]
    rfl
-- ==== Proof.AttnQValue.lean ====
/-
  The query projection.
-/
module
public import proofs.«01_k».proof.Defs
public import proofs.«01_k».proof.Proof.Gen.AttnQIdeal.Value
public import proofs.«01_k».proof.Proof.Gen.RefAttnQIdeal.Run
public import proofs.«01_k».proof.Proof.Products
@[expose] public section
noncomputable section
namespace Cert.Proof.AttnQ
open AttnQIdeal AttnQIdeal.Gen Idealize.ShloMosaic TcCoe Idealize.SL.Sem ValueIdx Cert.Products
/-- The queries. -/
def out2 (x0 : Mat 4224 1024) (x1 : Mat 1024 1024) : Mat 4224 1024 := fun i => (nn x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 1024 1024 := m ((c : Thread nD τ).loc main_arg1)
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 1024) (R : Fin 1024) (C : Fin 1024)
    (hR : R.val = 0 * 1024 + r.val) (hC : C.val = 0 * 1024 + q.val) :
    (iblk m c 1 t : Mat 1024 1024) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1024 1024) (r : Fin 1408) (q : Fin 1024)
theorem pay_out2 : (k0_pay1 (F := Ideal) b0 b1) (ix2 r q) = nn b0 b1 r q := unit_nn (φ₁ := .bf16) (φ₂ := .bf16) _ none b0 b1 r q
end
theorem flushed2 :
    (dats m 0 c).flushed 2 t = ((cfg0.win 2).blk t).view.read (Elt Ideal) (out2 (arg0 m c) (arg1 m c)) := by
  obtain ⟨-, -, -, -, h0, h1⟩ := idx_facts t
  have hN : t.val < 3 := lt_of_lt_of_eq t.isLt N_0
  rw [Value.flushed2]
  unfold out0_2
  rw [View.canon_unit_zero zeros]
  simp only [View.ld_unit_zero (S := S1024x1024) zeros, View.ld_unit_zero (S := S1408x1024) zeros]
  funext y
  obtain ⟨r, q, rfl⟩ : ∃ (r : Fin 1408) (q : Fin 1024), y = ix2 r q := ⟨y 0, y 1, ValueIdx.eq_ix2 y⟩
  have hR : t.val * 1408 + r.val < 4224 := by have := r.isLt; omega
  have hC : 0 * 1024 + q.val < 1024 := by rw [Nat.zero_mul, Nat.zero_add]; exact q.isLt
  have he : ((cfg0.win 2).blk t).view.emb (ix2 r q) = ix2 (⟨t.val * 1408 + r.val, hR⟩ : Fin 4224) (⟨0 * 1024 + q.val, hC⟩ : Fin 1024) :=
    at_block h0 h1 rfl rfl rfl rfl
  show (k0_pay1 (F := Ideal) (iblk m c 0 t) (iblk m c 1 t)) (ix2 r q) = out2 (arg0 m c) (arg1 m c) (((cfg0.win 2).blk t).view.emb (ix2 r q))
  rw [he]
  refine (pay_out2 (iblk m c 0 t) (iblk m c 1 t) r q).trans ?_
  rw [nn_congr (fun k => blk0 m c t _ k ⟨_, hR⟩ k rfl (by omega)) (fun k => blk1 m c t k _ k ⟨_, hC⟩ (by omega) rfl)]
  rfl
theorem final2 : (dats m 0 c).arrAt 2 cfg0.N = out2 (arg0 m c) (arg1 m c) :=
  (dats m 0 c).arrAt_eq_of_cover 2 _ (fun t _ => flushed2 m c t) fun i => by
    have hi0 : (i 0).val < 4224 := (i 0).isLt
    have hi1 : (i 1).val < 1024 := (i 1).isLt
    have ht : (i 0).val / 1408 < cfg0.N := by rw [show cfg0.N = 3 from N_0]; omega
    refine ⟨⟨_, ht⟩, ?_, ?_⟩
    · first | exact flush0_2 _ | exact rfl
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_AttnQIdeal_RefAttnQIdeal := by
  intro m g m' g' _ same
  refine ⟨fun c => out2 (arg0 m c) (arg1 m c),
    (θ_run defs _ _).mono (fun r h c => ⟨((h c).1).trans (final2 m c), (h c).2⟩) (Value.run_blocks m g),
    (θ_run RefAttnQIdeal.defs _ _).mono (fun r h c => ?_) (RefAttnQIdeal.Value.run (F := Ideal) m' g')⟩
  refine ⟨((h c).1).trans ?_, (h c).2⟩
  · rw [(same c).1, (same c).2]
    rw [all_nn (d := RefAttnQIdeal.dot_S4224x1024_S1024x1024_S4224x1024_1_0_0_1_n_n) _ rfl]
    rfl
-- ==== Proof.AttnKvtValue.lean ====
/-
  The transposed key and value projections.
-/
module
public import proofs.«01_k».proof.Defs
public import proofs.«01_k».proof.Proof.Gen.AttnKvtIdeal.Value
public import proofs.«01_k».proof.Proof.Gen.RefAttnKvtIdeal.Run
public import proofs.«01_k».proof.Proof.Products
@[expose] public section
noncomputable section
namespace Cert.Proof.AttnKvt
open AttnKvtIdeal AttnKvtIdeal.Gen Idealize.ShloMosaic TcCoe Idealize.SL.Sem ValueIdx Cert.Products
/-- The keys, one column a position. -/
def out3 (x0 : Mat 1024 1024) (x1 : Mat 1024 1024) (x2 : Mat 4224 1024) : Mat 1024 4224 := fun i => (tt x0 x2 (i 0) (i 1))
/-- The values, one column a position. -/
def out4 (x0 : Mat 1024 1024) (x1 : Mat 1024 1024) (x2 : Mat 4224 1024) : Mat 1024 4224 := fun i => (tt x1 x2 (i 0) (i 1))
variable (m : (ℓ : Loc nD τ sig) → Buf (Elt Ideal) ℓ) (c : Dev nD) (t : Fin cfg0.N)
abbrev arg0 : Mat 1024 1024 := m ((c : Thread nD τ).loc main_arg0)
abbrev arg1 : Mat 1024 1024 := m ((c : Thread nD τ).loc main_arg1)
abbrev arg2 : Mat 4224 1024 := m ((c : Thread nD τ).loc main_arg2)
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)
theorem blk0 (r : Fin 1024) (q : Fin 1024) (R : Fin 1024) (C : Fin 1024)
    (hR : R.val = 0 * 1024 + r.val) (hC : C.val = 0 * 1024 + q.val) :
    (iblk m c 0 t : Mat 1024 1024) (ix2 r q) = (arg0 m c) (ix2 R C) := by
  obtain ⟨h0, h1, -⟩ := idx_facts t
  exact congrArg (arg0 m c) (at_block h0 h1 hR hC rfl rfl)
theorem blk1 (r : Fin 1024) (q : Fin 1024) (R : Fin 1024) (C : Fin 1024)
    (hR : R.val = 0 * 1024 + r.val) (hC : C.val = 0 * 1024 + q.val) :
    (iblk m c 1 t : Mat 1024 1024) (ix2 r q) = (arg1 m c) (ix2 R C) := by
  obtain ⟨-, -, h0, h1, -⟩ := idx_facts t
  exact congrArg (arg1 m c) (at_block h0 h1 hR hC rfl rfl)
theorem blk2 (r : Fin 1408) (q : Fin 1024) (R : Fin 4224) (C : Fin 1024)
    (hR : R.val = t.val * 1408 + r.val) (hC : C.val = 0 * 1024 + q.val) :
    (iblk m c 2 t : Mat 1408 1024) (ix2 r q) = (arg2 m c) (ix2 R C) := by
  obtain ⟨-, -, -, -, h0, h1, -⟩ := idx_facts t
  exact congrArg (arg2 m c) (at_block h0 h1 hR hC rfl rfl)
section
variable (b0 : Mat 1024 1024) (b1 : Mat 1024 1024) (b2 : Mat 1408 1024) (r : Fin 1024) (q : Fin 1408)
theorem pay_out3 : (k0_pay1 (F := Ideal) b0 b2) (ix2 r q) = tt b0 b2 r q := unit_tt (φ₁ := .bf16) (φ₂ := .bf16) _ none b0 b2 r q
theorem pay_out4 : (k0_pay2 (F := Ideal) b1 b2) (ix2 r q) = tt b1 b2 r q := unit_tt (φ₁ := .bf16) (φ₂ := .bf16) _ none b1 b2 r q
end
theorem flushed3 :
    (dats m 0 c).flushed 3 t = ((cfg0.win 3).blk t).view.read (Elt Ideal) (out3 (arg0 m c) (arg1 m c) (arg2 m c)) := by
  obtain ⟨-, -, -, -, -, -, h0, h1, -⟩ := idx_facts t
  have hN : t.val < 3 := lt_of_lt_of_eq t.isLt N_0
  rw [Value.flushed3]
  unfold out0_3
  rw [View.canon_unit_zero zeros]
  simp only [View.ld_unit_zero (S := S1024x1024) zeros, View.ld_unit_zero (S := S1408x1024) zeros]
  funext y
  obtain ⟨r, q, rfl⟩ : ∃ (r : Fin 1024) (q : Fin 1408), y = ix2 r q := ⟨y 0, y 1, ValueIdx.eq_ix2 y⟩
  have hR : 0 * 1024 + r.val < 1024 := by rw [Nat.zero_mul, Nat.zero_add]; exact r.isLt
  have hC : t.val * 1408 + q.val < 4224 := by clear hR; have := q.isLt; omega
  have he : ((cfg0.win 3).blk t).view.emb (ix2 r q) = ix2 (⟨0 * 1024 + r.val, hR⟩ : Fin 1024) (⟨t.val * 1408 + q.val, hC⟩ : Fin 4224) :=
    at_block h0 h1 rfl rfl rfl rfl
  show (k0_pay1 (F := Ideal) (iblk m c 0 t) (iblk m c 2 t)) (ix2 r q) = out3 (arg0 m c) (arg1 m c) (arg2 m c) (((cfg0.win 3).blk t).view.emb (ix2 r q))
  rw [he]
  refine (pay_out3 (iblk m c 0 t) (iblk m c 2 t) r q).trans ?_
  rw [tt_congr (fun k => blk0 m c t k _ k ⟨_, hR⟩ (by omega) rfl) (fun k => blk2 m c t _ k ⟨_, hC⟩ k rfl (by omega))]
  rfl
theorem final3 : (dats m 0 c).arrAt 3 cfg0.N = out3 (arg0 m c) (arg1 m c) (arg2 m c) :=
  (dats m 0 c).arrAt_eq_of_cover 3 _ (fun t _ => flushed3 m c t) fun i => by
    have hi0 : (i 0).val < 1024 := (i 0).isLt
    have hi1 : (i 1).val < 4224 := (i 1).isLt
    have ht : (i 1).val / 1408 < cfg0.N := by rw [show cfg0.N = 3 from N_0]; omega
    refine ⟨⟨_, ht⟩, ?_, ?_⟩
    · first | exact flush0_3 _ | exact rfl
    show i ∈ ((View.whole main_v0_0).slice (win0_3.rect ⟨_, ht⟩)).set
    rw [View.set_slice_whole]
    obtain ⟨-, -, -, -, -, -, h0, h1, -⟩ := idx_facts ⟨_, ht⟩
    exact mem_block h0 h1 rfl rfl (by dsimp only; omega) (by dsimp only; omega)
theorem flushed4 :
    (dats m 0 c).flushed 4 t = ((cfg0.win 4).blk t).view.read (Elt Ideal) (out4 (arg0 m c) (arg1 m c) (arg2 m c)) := by
  obtain ⟨-, -, -, -, -, -, -, -, h0, h1⟩ := idx_facts t
  have hN : t.val < 3 := lt_of_lt_of_eq t.isLt N_0
  rw [Value.flushed4]
  unfold out0_4
  rw [View.canon_unit_zero zeros]
  simp only [View.ld_unit_zero (S := S1024x1024) zeros, View.ld_unit_zero (S := S1408x1024) zeros]
  funext y
  obtain ⟨r, q, rfl⟩ : ∃ (r : Fin 1024) (q : Fin 1408), y = ix2 r q := ⟨y 0, y 1, ValueIdx.eq_ix2 y⟩
  have hR : 0 * 1024 + r.val < 1024 := by rw [Nat.zero_mul, Nat.zero_add]; exact r.isLt
  have hC : t.val * 1408 + q.val < 4224 := by clear hR; have := q.isLt; omega
  have he : ((cfg0.win 4).blk t).view.emb (ix2 r q) = ix2 (⟨0 * 1024 + r.val, hR⟩ : Fin 1024) (⟨t.val * 1408 + q.val, hC⟩ : Fin 4224) :=
    at_block h0 h1 rfl rfl rfl rfl
  show (k0_pay2 (F := Ideal) (iblk m c 1 t) (iblk m c 2 t)) (ix2 r q) = out4 (arg0 m c) (arg1 m c) (arg2 m c) (((cfg0.win 4).blk t).view.emb (ix2 r q))
  rw [he]
  refine (pay_out4 (iblk m c 1 t) (iblk m c 2 t) r q).trans ?_
  rw [tt_congr (fun k => blk1 m c t k _ k ⟨_, hR⟩ (by omega) rfl) (fun k => blk2 m c t _ k ⟨_, hC⟩ k rfl (by omega))]
  rfl
theorem final4 : (dats m 0 c).arrAt 4 cfg0.N = out4 (arg0 m c) (arg1 m c) (arg2 m c) :=
  (dats m 0 c).arrAt_eq_of_cover 4 _ (fun t _ => flushed4 m c t) fun i => by
    have hi0 : (i 0).val < 1024 := (i 0).isLt
    have hi1 : (i 1).val < 4224 := (i 1).isLt
    have ht : (i 1).val / 1408 < cfg0.N := by rw [show cfg0.N = 3 from N_0]; omega
    refine ⟨⟨_, ht⟩, ?_, ?_⟩
    · first | exact flush0_4 _ | exact rfl
    show i ∈ ((View.whole main_v0_1).slice (win0_4.rect ⟨_, ht⟩)).set
    rw [View.set_slice_whole]
    obtain ⟨-, -, -, -, -, -, -, -, h0, h1⟩ := idx_facts ⟨_, ht⟩
    exact mem_block h0 h1 rfl rfl (by dsimp only; omega) (by dsimp only; omega)
theorem agree : Cert.algebraic_AttnKvtIdeal_RefAttnKvtIdeal := by
  intro m g m' g' _ same
  refine ⟨fun c => out3 (arg0 m c) (arg1 m c) (arg2 m c), fun c => out4 (arg0 m c) (arg1 m c) (arg2 m c),
    (θ_run defs _ _).mono (fun r h c => ⟨((h c).1).trans (final3 m c), ((h c).2.1).trans (final4 m c), (h c).2.2⟩) (Value.run_blocks m g),
    (θ_run RefAttnKvtIdeal.defs _ _).mono (fun r h c => ?_) (RefAttnKvtIdeal.Value.run (F := Ideal) m' g')⟩
  refine ⟨((h c).1).trans ?_, ((h c).2.1).trans ?_, (h c).2.2⟩
  · rw [(same c).1, (same c).2.2]
    rw [all_nn (d := RefAttnKvtIdeal.dot_S4224x1024_S1024x1024_S4224x1024_1_0_0_1_n_n) _ rfl, transpose_eq]
    funext i
    exact nn_swap _ _ _ _
  · rw [(same c).2.1, (same c).2.2]
    rw [all_nn (d := RefAttnKvtIdeal.dot_S4224x1024_S1024x1024_S4224x1024_1_0_0_1_n_n) _ rfl, transpose_eq]
    funext i
    exact nn_swap _ _ _ _
-- ==== Proof.AttnOValue.lean ====
/-
  The output projection.
-/
module
public import proofs.«01_k».proof.Defs
public import proofs.«01_k».proof.Proof.Gen.AttnOIdeal.Value
public import proofs.«01_k».proof.Proof.Gen.RefAttnOIdeal.Run
public import proofs.«01_k».proof.Proof.Products
@[expose] public section
noncomputable section
namespace Cert.Proof.AttnO
open AttnOIdeal AttnOIdeal.Gen Idealize.ShloMosaic TcCoe Idealize.SL.Sem ValueIdx Cert.Products
/-- The output projection added to the residual. -/
def out3 (x0 : Mat 4224 1024) (x1 : Mat 1024 1024) (x2 : Mat 4224 1024) : Mat 4224 1024 := fun i => (nn x0 x1 (i 0) (i 1)) + (x2 i)
variable (m : (ℓ : Loc nD τ sig) → Buf (Elt Ideal) ℓ) (c : Dev nD) (t : Fin cfg0.N)
abbrev arg0 : Mat 4224 1024 := m ((c : Thread nD τ).loc main_arg0)
abbrev arg1 : Mat 1024 1024 := m ((c : Thread nD τ).loc main_arg1)
abbrev arg2 : Mat 4224 1024 := m ((c : Thread nD τ).loc main_arg2)
theorem idx_facts : ∀ t : Fin cfg0.N,
    win0_0.index t (0 : Fin 2) = t.val / 2 ∧ win0_0.index t (1 : Fin 2) = 0
    ∧ win0_1.index t (0 : Fin 2) = 0 ∧ win0_1.index t (1 : Fin 2) = t.val % 2
    ∧ win0_2.index t (0 : Fin 2) = t.val / 2 ∧ win0_2.index t (1 : Fin 2) = t.val % 2
    ∧ win0_3.index t (0 : Fin 2) = t.val / 2 ∧ win0_3.index t (1 : Fin 2) = t.val % 2 :=
  (by decide +kernel : ∀ t : Fin grid0.N, _)
theorem blk0 (r : Fin 1408) (q : Fin 1024) (R : Fin 4224) (C : Fin 1024)
    (hR : R.val = t.val / 2 * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 512) (R : Fin 1024) (C : Fin 1024)
    (hR : R.val = 0 * 1024 + r.val) (hC : C.val = t.val % 2 * 512 + q.val) :
    (iblk m c 1 t : Mat 1024 512) (ix2 r q) = (arg1 m c) (ix2 R C) := by
  obtain ⟨-, -, h0, h1, -⟩ := idx_facts t
  exact congrArg (arg1 m c) (at_block h0 h1 hR hC rfl rfl)
theorem blk2 (r : Fin 1408) (q : Fin 512) (R : Fin 4224) (C : Fin 1024)
    (hR : R.val = t.val / 2 * 1408 + r.val) (hC : C.val = t.val % 2 * 512 + q.val) :
    (iblk m c 2 t : Mat 1408 512) (ix2 r q) = (arg2 m c) (ix2 R C) := by
  obtain ⟨-, -, -, -, h0, h1, -⟩ := idx_facts t
  exact congrArg (arg2 m c) (at_block h0 h1 hR hC rfl rfl)
section
variable (b0 : Mat 1408 1024) (b1 : Mat 1024 512) (b2 : Mat 1408 512) (r : Fin 1408) (q : Fin 512)
theorem pay_out3 : (k0_pay1 (F := Ideal) b0 b1 b2) (ix2 r q) = nn b0 b1 r q + b2 (ix2 r q) := by
  rw [← unit_nn (φ₁ := .bf16) (φ₂ := .bf16) dot_S1408x1024_S1024x512_S1408x512_1_0_0_1_n_n.wf none b0 b1 r q]
  rfl
end
theorem flushed3 :
    (dats m 0 c).flushed 3 t = ((cfg0.win 3).blk t).view.read (Elt Ideal) (out3 (arg0 m c) (arg1 m c) (arg2 m c)) := by
  obtain ⟨-, -, -, -, -, -, h0, h1⟩ := idx_facts t
  have hN : t.val < 6 := lt_of_lt_of_eq t.isLt N_0
  rw [Value.flushed3]
  unfold out0_3
  rw [View.canon_unit_zero zeros]
  simp only [View.ld_unit_zero (S := S1024x512) zeros, View.ld_unit_zero (S := S1408x512) zeros, View.ld_unit_zero (S := S1408x1024) zeros]
  funext y
  obtain ⟨r, q, rfl⟩ : ∃ (r : Fin 1408) (q : Fin 512), y = ix2 r q := ⟨y 0, y 1, ValueIdx.eq_ix2 y⟩
  have hR : t.val / 2 * 1408 + r.val < 4224 := by have := r.isLt; omega
  have hC : t.val % 2 * 512 + q.val < 1024 := by have := q.isLt; omega
  have he : ((cfg0.win 3).blk t).view.emb (ix2 r q) = ix2 (⟨t.val / 2 * 1408 + r.val, hR⟩ : Fin 4224) (⟨t.val % 2 * 512 + q.val, hC⟩ : Fin 1024) :=
    at_block h0 h1 rfl rfl rfl rfl
  show (k0_pay1 (F := Ideal) (iblk m c 0 t) (iblk m c 1 t) (iblk m c 2 t)) (ix2 r q) = out3 (arg0 m c) (arg1 m c) (arg2 m c) (((cfg0.win 3).blk t).view.emb (ix2 r q))
  rw [he]
  refine (pay_out3 (iblk m c 0 t) (iblk m c 1 t) (iblk m c 2 t) r q).trans ?_
  rw [nn_congr (fun k => blk0 m c t _ k ⟨_, hR⟩ k rfl (by omega)) (fun k => blk1 m c t k _ k ⟨_, hC⟩ (by omega) rfl),
    blk2 m c t _ _ ⟨_, hR⟩ ⟨_, hC⟩ rfl rfl]
  rfl
theorem final3 : (dats m 0 c).arrAt 3 cfg0.N = out3 (arg0 m c) (arg1 m c) (arg2 m c) :=
  (dats m 0 c).arrAt_eq_of_cover 3 _ (fun t _ => flushed3 m c t) fun i => by
    have hi0 : (i 0).val < 4224 := (i 0).isLt
    have hi1 : (i 1).val < 1024 := (i 1).isLt
    have ht : (i 0).val / 1408 * 2 + (i 1).val / 512 < cfg0.N := by rw [show cfg0.N = 6 from N_0]; omega
    refine ⟨⟨_, ht⟩, ?_, ?_⟩
    · first | exact flush0_3 _ | exact rfl
    show i ∈ ((View.whole main_v0).slice (win0_3.rect ⟨_, ht⟩)).set
    rw [View.set_slice_whole]
    obtain ⟨-, -, -, -, -, -, h0, h1⟩ := idx_facts ⟨_, ht⟩
    exact mem_block h0 h1 rfl rfl (by dsimp only; omega) (by dsimp only; omega)
theorem agree : Cert.algebraic_AttnOIdeal_RefAttnOIdeal := by
  intro m g m' g' _ same
  refine ⟨fun c => out3 (arg0 m c) (arg1 m c) (arg2 m c),
    (θ_run defs _ _).mono (fun r h c => ⟨((h c).1).trans (final3 m c), (h c).2⟩) (Value.run_blocks m g),
    (θ_run RefAttnOIdeal.defs _ _).mono (fun r h c => ?_) (RefAttnOIdeal.Value.run (F := Ideal) m' g')⟩
  refine ⟨((h c).1).trans ?_, (h c).2⟩
  · rw [(same c).1, (same c).2.1, (same c).2.2]
    rw [all_nn (d := RefAttnOIdeal.dot_S4224x1024_S1024x1024_S4224x1024_1_0_0_1_n_n) _ rfl]
    funext i
    exact add_comm _ _
-- ==== Proof.AttnDoValue.lean ====
/-
  The gradient of the attention's output.
-/
module
public import proofs.«01_k».proof.Defs
public import proofs.«01_k».proof.Proof.Gen.AttnDoIdeal.Value
public import proofs.«01_k».proof.Proof.Gen.RefAttnDoIdeal.Run
public import proofs.«01_k».proof.Proof.Products
@[expose] public section
noncomputable section
namespace Cert.Proof.AttnDo
open AttnDoIdeal AttnDoIdeal.Gen Idealize.ShloMosaic TcCoe Idealize.SL.Sem ValueIdx Cert.Products
/-- The gradient of the heads' outputs. -/
def out2 (x0 : Mat 4224 1024) (x1 : Mat 1024 1024) : Mat 4224 1024 := fun i => (nt x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 1024 1024 := m ((c : Thread nD τ).loc main_arg1)
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 1024) (R : Fin 1024) (C : Fin 1024)
    (hR : R.val = 0 * 1024 + r.val) (hC : C.val = 0 * 1024 + q.val) :
    (iblk m c 1 t : Mat 1024 1024) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1024 1024) (r : Fin 1408) (q : Fin 1024)
theorem pay_out2 : (k0_pay1 (F := Ideal) b0 b1) (ix2 r q) = nt b0 b1 r q := unit_nt (φ₁ := .bf16) (φ₂ := .bf16) _ none b0 b1 r q
end
theorem flushed2 :
    (dats m 0 c).flushed 2 t = ((cfg0.win 2).blk t).view.read (Elt Ideal) (out2 (arg0 m c) (arg1 m c)) := by
  obtain ⟨-, -, -, -, h0, h1⟩ := idx_facts t
  have hN : t.val < 3 := lt_of_lt_of_eq t.isLt N_0
  rw [Value.flushed2]
  unfold out0_2
  rw [View.canon_unit_zero zeros]
  simp only [View.ld_unit_zero (S := S1024x1024) zeros, View.ld_unit_zero (S := S1408x1024) zeros]
  funext y
  obtain ⟨r, q, rfl⟩ : ∃ (r : Fin 1408) (q : Fin 1024), y = ix2 r q := ⟨y 0, y 1, ValueIdx.eq_ix2 y⟩
  have hR : t.val * 1408 + r.val < 4224 := by have := r.isLt; omega
  have hC : 0 * 1024 + q.val < 1024 := by rw [Nat.zero_mul, Nat.zero_add]; exact q.isLt
  have he : ((cfg0.win 2).blk t).view.emb (ix2 r q) = ix2 (⟨t.val * 1408 + r.val, hR⟩ : Fin 4224) (⟨0 * 1024 + q.val, hC⟩ : Fin 1024) :=
    at_block h0 h1 rfl rfl rfl rfl
  show (k0_pay1 (F := Ideal) (iblk m c 0 t) (iblk m c 1 t)) (ix2 r q) = out2 (arg0 m c) (arg1 m c) (((cfg0.win 2).blk t).view.emb (ix2 r q))
  rw [he]
  refine (pay_out2 (iblk m c 0 t) (iblk m c 1 t) r q).trans ?_
  rw [nt_congr (fun k => blk0 m c t _ k ⟨_, hR⟩ k rfl (by omega)) (fun k => blk1 m c t _ k ⟨_, hC⟩ k rfl (by omega))]
  rfl
theorem final2 : (dats m 0 c).arrAt 2 cfg0.N = out2 (arg0 m c) (arg1 m c) :=
  (dats m 0 c).arrAt_eq_of_cover 2 _ (fun t _ => flushed2 m c t) fun i => by
    have hi0 : (i 0).val < 4224 := (i 0).isLt
    have hi1 : (i 1).val < 1024 := (i 1).isLt
    have ht : (i 0).val / 1408 < cfg0.N := by rw [show cfg0.N = 3 from N_0]; omega
    refine ⟨⟨_, ht⟩, ?_, ?_⟩
    · first | exact flush0_2 _ | exact rfl
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_AttnDoIdeal_RefAttnDoIdeal := by
  intro m g m' g' _ same
  refine ⟨fun c => out2 (arg0 m c) (arg1 m c),
    (θ_run defs _ _).mono (fun r h c => ⟨((h c).1).trans (final2 m c), (h c).2⟩) (Value.run_blocks m g),
    (θ_run RefAttnDoIdeal.defs _ _).mono (fun r h c => ?_) (RefAttnDoIdeal.Value.run (F := Ideal) m' g')⟩
  refine ⟨((h c).1).trans ?_, (h c).2⟩
  · rw [(same c).1, (same c).2]
    rw [all_nt (d := RefAttnDoIdeal.dot_S4224x1024_S1024x1024_S4224x1024_1_1_0_0_n_n) _ rfl]
    rfl
-- ==== Proof.AttnDwoValue.lean ====
/-
  The gradient of the output weight: what the array of the call holds, entry by entry, and that the reference's array holds
  the same.
-/
module
public import proofs.«01_k».proof.Defs
public import proofs.«01_k».proof.Proof.Gen.AttnDwoIdeal.Value
public import proofs.«01_k».proof.Proof.Gen.RefAttnDwoIdeal.Run
public import proofs.«01_k».proof.Proof.Products
@[expose] public section
noncomputable section
namespace Cert.Proof.AttnDwo
open AttnDwoIdeal AttnDwoIdeal.Gen Idealize.ShloMosaic TcCoe Idealize.SL.Sem ValueIdx Cert.Products
/-- The gradient of the output weight. -/
def out2 (x0 : Mat 4224 1024) (x1 : Mat 4224 1024) : Mat 1024 1024 := fun i => (tn x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 4224 1024 := m ((c : Thread nD τ).loc main_arg1)
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1408) (q : Fin 1024) (R : Fin 4224) (C : Fin 1024)
    (hR : R.val = t.val * 1408 + r.val) (hC : C.val = 0 * 1024 + q.val) :
    (iblk m c 1 t : Mat 1408 1024) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1408 1024) (r : Fin 1024) (q : Fin 1024)
theorem prod : (k0_pay1 (F := Ideal) b0 b1) (ix2 r q) = tn b0 b1 r q := unit_tn (φ₁ := .bf16) (φ₂ := .bf16) _ none b0 b1 r q
end
theorem pay_out2 (b0 b1 b2 : Mat 1408 1024) (b0' b1' b2' : Mat 1408 1024) (r : Fin 1024) (q : Fin 1024) : (k0_pay3 (F := Ideal) b2 b2' (k0_pay3 (F := Ideal) b1 b1' (k0_pay2 (F := Ideal) b0 b0'))) (ix2 r q)
    = tn b0 b0' r q + tn b1 b1' r q + tn b2 b2' r q := by
  rw [← prod, ← prod, ← prod]
  unfold k0_pay3 k0_pay2
  simp only [shapeCast_self]
  rfl
/-- What the running sum is after the first block. -/
theorem acc0 (h : t.val % 3 = 0) :
    (outsAt0 m c t.val t.isLt).2 = k0_pay2 (iblk m c 0 t) (iblk m c 1 t) := by
  have hN : t.val < 3 := lt_of_lt_of_eq t.isLt N_0
  rw [outsAt0_A m c t h (by omega) (by omega)]
  dsimp only
  unfold sout0_A_0
  rw [View.read_writes_eq_canon _ _ _ (scover0_A_0 _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (Memref.isWhole_whole _).read_unread, View.ld_unit_zero (S := S1024x1024) zeros, View.ld_unit_zero (S := S1408x1024) zeros, shapeCast_self]
/-- What it is after the second. -/
theorem acc1 (h : t.val % 3 = 1) :
    (outsAt0 m c t.val t.isLt).2 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_B m c t (by omega) (by omega) (by omega)]
  dsimp only
  unfold sout0_B_0
  rw [View.read_writes_eq_canon _ _ _ (scover0_B_0 _ _ _ _ _ _ _ _ _ _ _ _ _ _ _ _ )]
  unfold kernelRun0_B
  dsimp only
  rw [View.canon_unit_zero zeros]
  unfold k0_pay3
  simp only [View.readAt_eq_ld, (hs0_0 t).read_unread, (hs0_1 t).read_unread, (Memref.isWhole_whole _).read_unread, View.ld_unit_zero (S := S1024x1024) zeros, View.ld_unit_zero (S := S1408x1024) zeros, shapeCast_self]
/-- What the last block's point writes. -/
theorem outLast (h : t.val % 3 = 2) :
    (outsAt0 m c t.val t.isLt).1 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_C m c t (by omega) (by omega) (by omega)]
  dsimp only
  unfold out0_C_2
  rw [View.read_writes_eq_canon _ _ _ (cover0_C_2 _ _ _ _ _ _ _ _ _ _ _ _ _ _ _ _ )]
  unfold kernelRun0_C
  dsimp only
  sl_unfold_words
  rw [View.canon_unit_zero zeros]
  simp only [View.readCov_unit_zero (S := S1024x1024) _ zeros]
  unfold k0_pay3
  simp only [View.readAt_eq_ld, (hs0_0 t).read_unread, (hs0_1 t).read_unread, (Memref.isWhole_whole _).read_unread, View.ld_unit_zero (S := S1024x1024) zeros, View.ld_unit_zero (S := S1408x1024) zeros, shapeCast_self]
theorem flushed2 (hf : (cfg0.win 2).flush t = true) :
    (dats m 0 c).flushed 2 t = ((cfg0.win 2).blk t).view.read (Elt Ideal) (out2 (arg0 m c) (arg1 m c)) := by
  obtain ⟨-, -, -, -, h0, h1⟩ := idx_facts t
  have hN : t.val < 3 := lt_of_lt_of_eq t.isLt N_0
  have hm : t.val % 3 = 2 := (flush0_2 t).mp hf
  rw [Value.flushed2, outLast m c t hm]
  rw [acc1 m c (back t) (by dsimp only [back]; omega), acc0 m c (back (back t)) (by dsimp only [back]; omega)]
  funext y
  obtain ⟨r, q, rfl⟩ : ∃ (r : Fin 1024) (q : Fin 1024), y = ix2 r q := ⟨y 0, y 1, ValueIdx.eq_ix2 y⟩
  have hR : 0 * 1024 + r.val < 1024 := by rw [Nat.zero_mul, Nat.zero_add]; exact r.isLt
  have hC : 0 * 1024 + q.val < 1024 := by rw [Nat.zero_mul, Nat.zero_add]; exact q.isLt
  have he : ((cfg0.win 2).blk t).view.emb (ix2 r q) = ix2 (⟨0 * 1024 + r.val, hR⟩ : Fin 1024) (⟨0 * 1024 + q.val, hC⟩ : Fin 1024) :=
    at_block h0 h1 rfl rfl rfl rfl
  exact (pay_out2 _ _ _ _ _ _ r q).trans (Eq.trans (tn_blocks 1408 rfl
    (fun k j h => ⟨blk0 m c (back (back t)) k _ j ⟨_, hR⟩ (by dsimp only [back] <;> omega) (by dsimp only [back] <;> omega), blk1 m c (back (back t)) k _ j ⟨_, hC⟩ (by dsimp only [back] <;> omega) (by dsimp only [back] <;> omega)⟩)
    (fun k j h => ⟨blk0 m c (back t) k _ j ⟨_, hR⟩ (by dsimp only [back] <;> omega) (by dsimp only [back] <;> omega), blk1 m c (back t) k _ j ⟨_, hC⟩ (by dsimp only [back] <;> omega) (by dsimp only [back] <;> omega)⟩)
    (fun k j h => ⟨blk0 m c t k _ j ⟨_, hR⟩ (by omega) rfl, blk1 m c t k _ j ⟨_, hC⟩ (by omega) rfl⟩)) (congrArg (out2 _ _) he).symm)
theorem final2 : (dats m 0 c).arrAt 2 cfg0.N = out2 (arg0 m c) (arg1 m c) :=
  (dats m 0 c).arrAt_eq_of_cover 2 _ (fun t hf => flushed2 m c t hf) fun i => by
    have hi0 : (i 0).val < 1024 := (i 0).isLt
    have hi1 : (i 1).val < 1024 := (i 1).isLt
    have ht : 2 < cfg0.N := by rw [show cfg0.N = 3 from N_0]; omega
    refine ⟨⟨_, ht⟩, ?_, ?_⟩
    · refine (flush0_2 _).mpr ?_; show (2) % 3 = 2; omega
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_AttnDwoIdeal_RefAttnDwoIdeal := by
  intro m g m' g' _ same
  refine ⟨fun c => out2 (arg0 m c) (arg1 m c),
    (θ_run defs _ _).mono (fun r h c => ⟨((h c).1).trans (final2 m c), (h c).2⟩) (Value.run_blocks m g),
    (θ_run RefAttnDwoIdeal.defs _ _).mono (fun r h c => ?_) (RefAttnDwoIdeal.Value.run (F := Ideal) m' g')⟩
  refine ⟨((h c).1).trans ?_, (h c).2⟩
  · rw [(same c).1, (same c).2]
    rw [all_tn (d := RefAttnDwoIdeal.dot_S4224x1024_S4224x1024_S1024x1024_0_0_1_1_n_n) _ rfl, transpose_eq]
    funext i
    exact tn_swap _ _ _ _
-- ==== Proof.AttnDqnValue.lean ====
/-
  The gradient of the normalised query input.
-/
module
public import proofs.«01_k».proof.Defs
public import proofs.«01_k».proof.Proof.Gen.AttnDqnIdeal.Value
public import proofs.«01_k».proof.Proof.Gen.RefAttnDqnIdeal.Run
public import proofs.«01_k».proof.Proof.Products
@[expose] public section
noncomputable section
namespace Cert.Proof.AttnDqn
open AttnDqnIdeal AttnDqnIdeal.Gen Idealize.ShloMosaic TcCoe Idealize.SL.Sem ValueIdx Cert.Products
/-- The gradient of the normalised input. -/
def out2 (x0 : Mat 4224 1024) (x1 : Mat 1024 1024) : Mat 4224 1024 := fun i => (nt x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 1024 1024 := m ((c : Thread nD τ).loc main_arg1)
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 1024) (R : Fin 1024) (C : Fin 1024)
    (hR : R.val = 0 * 1024 + r.val) (hC : C.val = 0 * 1024 + q.val) :
    (iblk m c 1 t : Mat 1024 1024) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1024 1024) (r : Fin 1408) (q : Fin 1024)
theorem pay_out2 : (k0_pay1 (F := Ideal) b0 b1) (ix2 r q) = nt b0 b1 r q := unit_nt (φ₁ := .bf16) (φ₂ := .bf16) _ none b0 b1 r q
end
theorem flushed2 :
    (dats m 0 c).flushed 2 t = ((cfg0.win 2).blk t).view.read (Elt Ideal) (out2 (arg0 m c) (arg1 m c)) := by
  obtain ⟨-, -, -, -, h0, h1⟩ := idx_facts t
  have hN : t.val < 3 := lt_of_lt_of_eq t.isLt N_0
  rw [Value.flushed2]
  unfold out0_2
  rw [View.canon_unit_zero zeros]
  simp only [View.ld_unit_zero (S := S1024x1024) zeros, View.ld_unit_zero (S := S1408x1024) zeros]
  funext y
  obtain ⟨r, q, rfl⟩ : ∃ (r : Fin 1408) (q : Fin 1024), y = ix2 r q := ⟨y 0, y 1, ValueIdx.eq_ix2 y⟩
  have hR : t.val * 1408 + r.val < 4224 := by have := r.isLt; omega
  have hC : 0 * 1024 + q.val < 1024 := by rw [Nat.zero_mul, Nat.zero_add]; exact q.isLt
  have he : ((cfg0.win 2).blk t).view.emb (ix2 r q) = ix2 (⟨t.val * 1408 + r.val, hR⟩ : Fin 4224) (⟨0 * 1024 + q.val, hC⟩ : Fin 1024) :=
    at_block h0 h1 rfl rfl rfl rfl
  show (k0_pay1 (F := Ideal) (iblk m c 0 t) (iblk m c 1 t)) (ix2 r q) = out2 (arg0 m c) (arg1 m c) (((cfg0.win 2).blk t).view.emb (ix2 r q))
  rw [he]
  refine (pay_out2 (iblk m c 0 t) (iblk m c 1 t) r q).trans ?_
  rw [nt_congr (fun k => blk0 m c t _ k ⟨_, hR⟩ k rfl (by omega)) (fun k => blk1 m c t _ k ⟨_, hC⟩ k rfl (by omega))]
  rfl
theorem final2 : (dats m 0 c).arrAt 2 cfg0.N = out2 (arg0 m c) (arg1 m c) :=
  (dats m 0 c).arrAt_eq_of_cover 2 _ (fun t _ => flushed2 m c t) fun i => by
    have hi0 : (i 0).val < 4224 := (i 0).isLt
    have hi1 : (i 1).val < 1024 := (i 1).isLt
    have ht : (i 0).val / 1408 < cfg0.N := by rw [show cfg0.N = 3 from N_0]; omega
    refine ⟨⟨_, ht⟩, ?_, ?_⟩
    · first | exact flush0_2 _ | exact rfl
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_AttnDqnIdeal_RefAttnDqnIdeal := by
  intro m g m' g' _ same
  refine ⟨fun c => out2 (arg0 m c) (arg1 m c),
    (θ_run defs _ _).mono (fun r h c => ⟨((h c).1).trans (final2 m c), (h c).2⟩) (Value.run_blocks m g),
    (θ_run RefAttnDqnIdeal.defs _ _).mono (fun r h c => ?_) (RefAttnDqnIdeal.Value.run (F := Ideal) m' g')⟩
  refine ⟨((h c).1).trans ?_, (h c).2⟩
  · rw [(same c).1, (same c).2]
    rw [all_nt (d := RefAttnDqnIdeal.dot_S4224x1024_S1024x1024_S4224x1024_1_1_0_0_n_n) _ rfl]
    rfl
-- ==== Proof.AttnDwqValue.lean ====
/-
  The gradient of the query weight: what the array of the call holds, entry by entry, and that the reference's array holds
  the same.
-/
module
public import proofs.«01_k».proof.Defs
public import proofs.«01_k».proof.Proof.Gen.AttnDwqIdeal.Value
public import proofs.«01_k».proof.Proof.Gen.RefAttnDwqIdeal.Run
public import proofs.«01_k».proof.Proof.Products
@[expose] public section
noncomputable section
namespace Cert.Proof.AttnDwq
open AttnDwqIdeal AttnDwqIdeal.Gen Idealize.ShloMosaic TcCoe Idealize.SL.Sem ValueIdx Cert.Products
/-- The gradient of the query weight. -/
def out2 (x0 : Mat 4224 1024) (x1 : Mat 4224 1024) : Mat 1024 1024 := fun i => (tn x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 4224 1024 := m ((c : Thread nD τ).loc main_arg1)
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  unfold iblk
  rw [View.read_apply]
  exact congrArg (arg0 m c) (at_block h0 h1 hR hC rfl rfl)
theorem blk1 (r : Fin 1408) (q : Fin 1024) (R : Fin 4224) (C : Fin 1024)
    (hR : R.val = t.val * 1408 + r.val) (hC : C.val = 0 * 1024 + q.val) :
    (iblk m c 1 t : Mat 1408 1024) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1408 1024) (r : Fin 1024) (q : Fin 1024)
theorem prod : (k0_pay1 (F := Ideal) b0 b1) (ix2 r q) = tn b0 b1 r q := unit_tn (φ₁ := .bf16) (φ₂ := .bf16) _ none b0 b1 r q
end
theorem pay_out2 (b0 b1 b2 : Mat 1408 1024) (b0' b1' b2' : Mat 1408 1024) (r : Fin 1024) (q : Fin 1024) : (k0_pay3 (F := Ideal) b2 b2' (k0_pay3 (F := Ideal) b1 b1' (k0_pay2 (F := Ideal) b0 b0'))) (ix2 r q)
    = tn b0 b0' r q + tn b1 b1' r q + tn b2 b2' r q := by
  rw [← prod, ← prod, ← prod]
  unfold k0_pay3 k0_pay2
  simp only [shapeCast_self]
  rfl
/-- What the running sum is after the first block. -/
theorem acc0 (h : t.val % 3 = 0) :
    (outsAt0 m c t.val t.isLt).2 = k0_pay2 (iblk m c 0 t) (iblk m c 1 t) := by
  have hN : t.val < 3 := lt_of_lt_of_eq t.isLt N_0
  rw [outsAt0_A m c t h (by omega) (by omega)]
  dsimp only
  unfold sout0_A_0
  rw [View.read_writes_eq_canon _ _ _ (scover0_A_0 _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (Memref.isWhole_whole _).read_unread, View.ld_unit_zero (S := S1024x1024) zeros, View.ld_unit_zero (S := S1408x1024) zeros, shapeCast_self]
/-- What it is after the second. -/
theorem acc1 (h : t.val % 3 = 1) :
    (outsAt0 m c t.val t.isLt).2 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_B m c t (by omega) (by omega) (by omega)]
  dsimp only
  unfold sout0_B_0
  rw [View.read_writes_eq_canon _ _ _ (scover0_B_0 _ _ _ _ _ _ _ _ _ _ _ _ _ _ _ _ )]
  unfold kernelRun0_B
  dsimp only
  rw [View.canon_unit_zero zeros]
  unfold k0_pay3
  simp only [View.readAt_eq_ld, (hs0_0 t).read_unread, (hs0_1 t).read_unread, (Memref.isWhole_whole _).read_unread, View.ld_unit_zero (S := S1024x1024) zeros, View.ld_unit_zero (S := S1408x1024) zeros, shapeCast_self]
/-- What the last block's point writes. -/
theorem outLast (h : t.val % 3 = 2) :
    (outsAt0 m c t.val t.isLt).1 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_C m c t (by omega) (by omega) (by omega)]
  dsimp only
  unfold out0_C_2
  rw [View.read_writes_eq_canon _ _ _ (cover0_C_2 _ _ _ _ _ _ _ _ _ _ _ _ _ _ _ _ )]
  unfold kernelRun0_C
  dsimp only
  sl_unfold_words
  rw [View.canon_unit_zero zeros]
  simp only [View.readCov_unit_zero (S := S1024x1024) _ zeros]
  unfold k0_pay3
  simp only [View.readAt_eq_ld, (hs0_0 t).read_unread, (hs0_1 t).read_unread, (Memref.isWhole_whole _).read_unread, View.ld_unit_zero (S := S1024x1024) zeros, View.ld_unit_zero (S := S1408x1024) zeros, shapeCast_self]
theorem flushed2 (hf : (cfg0.win 2).flush t = true) :
    (dats m 0 c).flushed 2 t = ((cfg0.win 2).blk t).view.read (Elt Ideal) (out2 (arg0 m c) (arg1 m c)) := by
  obtain ⟨-, -, -, -, h0, h1⟩ := idx_facts t
  have hN : t.val < 3 := lt_of_lt_of_eq t.isLt N_0
  have hm : t.val % 3 = 2 := (flush0_2 t).mp hf
  rw [Value.flushed2, outLast m c t hm]
  rw [acc1 m c (back t) (by dsimp only [back]; omega), acc0 m c (back (back t)) (by dsimp only [back]; omega)]
  funext y
  obtain ⟨r, q, rfl⟩ : ∃ (r : Fin 1024) (q : Fin 1024), y = ix2 r q := ⟨y 0, y 1, ValueIdx.eq_ix2 y⟩
  have hR : 0 * 1024 + r.val < 1024 := by rw [Nat.zero_mul, Nat.zero_add]; exact r.isLt
  have hC : 0 * 1024 + q.val < 1024 := by rw [Nat.zero_mul, Nat.zero_add]; exact q.isLt
  have he : ((cfg0.win 2).blk t).view.emb (ix2 r q) = ix2 (⟨0 * 1024 + r.val, hR⟩ : Fin 1024) (⟨0 * 1024 + q.val, hC⟩ : Fin 1024) :=
    at_block h0 h1 rfl rfl rfl rfl
  exact (pay_out2 _ _ _ _ _ _ r q).trans (Eq.trans (tn_blocks 1408 rfl
    (fun k j h => ⟨blk0 m c (back (back t)) k _ j ⟨_, hR⟩ (by dsimp only [back] <;> omega) (by dsimp only [back] <;> omega), blk1 m c (back (back t)) k _ j ⟨_, hC⟩ (by dsimp only [back] <;> omega) (by dsimp only [back] <;> omega)⟩)
    (fun k j h => ⟨blk0 m c (back t) k _ j ⟨_, hR⟩ (by dsimp only [back] <;> omega) (by dsimp only [back] <;> omega), blk1 m c (back t) k _ j ⟨_, hC⟩ (by dsimp only [back] <;> omega) (by dsimp only [back] <;> omega)⟩)
    (fun k j h => ⟨blk0 m c t k _ j ⟨_, hR⟩ (by omega) rfl, blk1 m c t k _ j ⟨_, hC⟩ (by omega) rfl⟩)) (congrArg (out2 _ _) he).symm)
theorem final2 : (dats m 0 c).arrAt 2 cfg0.N = out2 (arg0 m c) (arg1 m c) :=
  (dats m 0 c).arrAt_eq_of_cover 2 _ (fun t hf => flushed2 m c t hf) fun i => by
    have hi0 : (i 0).val < 1024 := (i 0).isLt
    have hi1 : (i 1).val < 1024 := (i 1).isLt
    have ht : 2 < cfg0.N := by rw [show cfg0.N = 3 from N_0]; omega
    refine ⟨⟨_, ht⟩, ?_, ?_⟩
    · refine (flush0_2 _).mpr ?_; show (2) % 3 = 2; omega
    show i ∈ ((View.whole main_v0).slice (win0_2.rect ⟨_, ht⟩)).set
    rw [View.set_slice_whole]
    obtain ⟨-, -, -, -, h0, h1⟩ := idx_facts ⟨_, ht⟩
    exact mem_block h0 h1 rfl rfl (by omega) (by omega)
theorem agree : Cert.algebraic_AttnDwqIdeal_RefAttnDwqIdeal := by
  intro m g m' g' _ same
  refine ⟨fun c => out2 (arg0 m c) (arg1 m c),
    (θ_run defs _ _).mono (fun r h c => ⟨((h c).1).trans (final2 m c), (h c).2⟩) (Value.run_blocks m g),
    (θ_run RefAttnDwqIdeal.defs _ _).mono (fun r h c => ?_) (RefAttnDwqIdeal.Value.run (F := Ideal) m' g')⟩
  refine ⟨((h c).1).trans ?_, (h c).2⟩
  · rw [(same c).1, (same c).2]
    rw [all_tn (d := RefAttnDwqIdeal.dot_S4224x1024_S4224x1024_S1024x1024_0_0_1_1_n_n) _ rfl, transpose_eq]
    funext i
    exact tn_swap _ _ _ _
-- ==== Proof.AttnDkvnValue.lean ====
/-
  The gradient of the normalised key and value input.
-/
module
public import proofs.«01_k».proof.Defs
public import proofs.«01_k».proof.Proof.Gen.AttnDkvnIdeal.Value
public import proofs.«01_k».proof.Proof.Gen.RefAttnDkvnIdeal.Run
public import proofs.«01_k».proof.Proof.Products
@[expose] public section
noncomputable section
namespace Cert.Proof.AttnDkvn
open AttnDkvnIdeal AttnDkvnIdeal.Gen Idealize.ShloMosaic TcCoe Idealize.SL.Sem ValueIdx Cert.Products
/-- The gradient of the normalised key and value input. -/
def out4 (x0 : Mat 1024 4224) (x1 : Mat 1024 4224) (x2 : Mat 1024 1024) (x3 : Mat 1024 1024) : Mat 4224 1024 := fun i => (tt x0 x2 (i 0) (i 1)) + (tt x1 x3 (i 0) (i 1))
variable (m : (ℓ : Loc nD τ sig) → Buf (Elt Ideal) ℓ) (c : Dev nD) (t : Fin cfg0.N)
abbrev arg0 : Mat 1024 4224 := m ((c : Thread nD τ).loc main_arg0)
abbrev arg1 : Mat 1024 4224 := m ((c : Thread nD τ).loc main_arg1)
abbrev arg2 : Mat 1024 1024 := m ((c : Thread nD τ).loc main_arg2)
abbrev arg3 : Mat 1024 1024 := m ((c : Thread nD τ).loc main_arg3)
theorem idx_facts : ∀ t : Fin cfg0.N,
    win0_0.index t (0 : Fin 2) = t.val % 2 ∧ win0_0.index t (1 : Fin 2) = t.val / 2
    ∧ win0_1.index t (0 : Fin 2) = t.val % 2 ∧ win0_1.index t (1 : Fin 2) = t.val / 2
    ∧ win0_2.index t (0 : Fin 2) = 0 ∧ win0_2.index t (1 : Fin 2) = t.val % 2
    ∧ win0_3.index t (0 : Fin 2) = 0 ∧ win0_3.index t (1 : Fin 2) = t.val % 2
    ∧ win0_4.index t (0 : Fin 2) = t.val / 2 ∧ win0_4.index t (1 : Fin 2) = 0 :=
  (by decide +kernel : ∀ t : Fin grid0.N, _)
theorem blk0 (r : Fin 512) (q : Fin 1408) (R : Fin 1024) (C : Fin 4224)
    (hR : R.val = t.val % 2 * 512 + r.val) (hC : C.val = t.val / 2 * 1408 + q.val) :
    (iblk m c 0 t : Mat 512 1408) (ix2 r q) = (arg0 m c) (ix2 R C) := by
  obtain ⟨h0, h1, -⟩ := idx_facts t
  exact congrArg (arg0 m c) (at_block h0 h1 hR hC rfl rfl)
theorem blk1 (r : Fin 512) (q : Fin 1408) (R : Fin 1024) (C : Fin 4224)
    (hR : R.val = t.val % 2 * 512 + r.val) (hC : C.val = t.val / 2 * 1408 + q.val) :
    (iblk m c 1 t : Mat 512 1408) (ix2 r q) = (arg1 m c) (ix2 R C) := by
  obtain ⟨-, -, h0, h1, -⟩ := idx_facts t
  exact congrArg (arg1 m c) (at_block h0 h1 hR hC rfl rfl)
theorem blk2 (r : Fin 1024) (q : Fin 512) (R : Fin 1024) (C : Fin 1024)
    (hR : R.val = 0 * 1024 + r.val) (hC : C.val = t.val % 2 * 512 + q.val) :
    (iblk m c 2 t : Mat 1024 512) (ix2 r q) = (arg2 m c) (ix2 R C) := by
  obtain ⟨-, -, -, -, h0, h1, -⟩ := idx_facts t
  exact congrArg (arg2 m c) (at_block h0 h1 hR hC rfl rfl)
theorem blk3 (r : Fin 1024) (q : Fin 512) (R : Fin 1024) (C : Fin 1024)
    (hR : R.val = 0 * 1024 + r.val) (hC : C.val = t.val % 2 * 512 + q.val) :
    (iblk m c 3 t : Mat 1024 512) (ix2 r q) = (arg3 m c) (ix2 R C) := by
  obtain ⟨-, -, -, -, -, -, h0, h1, -⟩ := idx_facts t
  exact congrArg (arg3 m c) (at_block h0 h1 hR hC rfl rfl)
section
variable (b0 : Mat 512 1408) (b1 : Mat 512 1408) (b2 : Mat 1024 512) (b3 : Mat 1024 512) (r : Fin 1408) (q : Fin 1024)
theorem prod : (k0_pay1 (F := Ideal) b0 b1 b2 b3) (ix2 r q) = tt b0 b2 r q + tt b1 b3 r q := by
  rw [← unit_tt (φ₁ := .bf16) (φ₂ := .bf16) dot_S512x1408_S1024x512_S1408x1024_0_1_1_0_n_n.wf none b0 b2 r q, ← unit_tt (φ₁ := .bf16) (φ₂ := .bf16) dot_S512x1408_S1024x512_S1408x1024_0_1_1_0_n_n.wf none b1 b3 r q]
  rfl
end
theorem pay_out4 (b0 b0' : Mat 512 1408) (b1 b1' : Mat 512 1408) (b2 b2' : Mat 1024 512) (b3 b3' : Mat 1024 512) (r : Fin 1408) (q : Fin 1024) :
    (k0_pay3 (F := Ideal) b0' b1' b2' b3' (k0_pay2 (F := Ideal) b0 b1 b2 b3)) (ix2 r q)
    = (tt b0 b2 r q + tt b1 b3 r q) + (tt b0' b2' r q + tt b1' b3' r q) := by
  rw [← prod, ← prod]
  unfold k0_pay3 k0_pay2
  simp only [shapeCast_self]
  rfl
/-- What the running sum is after the first block. -/
theorem acc0_at (h : t.val % 2 = 0) :
    (outsAt0 m c t.val t.isLt).2 = k0_pay2 (iblk m c 0 t) (iblk m c 1 t) (iblk m c 2 t) (iblk m c 3 t) := by
  rw [outsAt0_A m c t h (by omega) (by omega)]
  dsimp only
  unfold sout0_A_0
  rw [View.read_writes_eq_canon _ _ _ (scover0_A_0 _ _ _ _ _ _ _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (hs0_2 t).read_unread, (hs0_3 t).read_unread, (Memref.isWhole_whole _).read_unread, View.ld_unit_zero (S := S512x1408) zeros, View.ld_unit_zero (S := S1024x512) zeros, View.ld_unit_zero (S := S1408x1024) zeros, shapeCast_self]
theorem acc0 (n : ℕ) (hn : n < cfg0.N) (h : n % 2 = 0) :
    (outsAt0 m c n hn).2 = k0_pay2 (iblk m c 0 ⟨n, hn⟩) (iblk m c 1 ⟨n, hn⟩) (iblk m c 2 ⟨n, hn⟩) (iblk m c 3 ⟨n, hn⟩) := acc0_at m c ⟨n, hn⟩ h
/-- What the last block's point writes. -/
theorem outLast (h : t.val % 2 = 1) :
    (outsAt0 m c t.val t.isLt).1 = k0_pay3 (iblk m c 0 t) (iblk m c 1 t) (iblk m c 2 t) (iblk m c 3 t) (outsAt0 m c (t.val - 1) (Nat.lt_of_le_of_lt (Nat.sub_le _ _) t.isLt)).2 := by
  rw [outsAt0_B m c t (by omega) (by omega) (by omega)]
  dsimp only
  unfold out0_B_4
  rw [View.read_writes_eq_canon _ _ _ (cover0_B_4 _ _ _ _ _ _ _ _ _ _ _ _ _ _ _ _ _ _ _ _ _ _ )]
  unfold kernelRun0_B
  dsimp only
  sl_unfold_words
  rw [View.canon_unit_zero zeros]
  simp only [View.readCov_unit_zero (S := S1408x1024) _ zeros]
  unfold k0_pay3
  simp only [View.readAt_eq_ld, (hs0_0 t).read_unread, (hs0_1 t).read_unread, (hs0_2 t).read_unread, (hs0_3 t).read_unread, (Memref.isWhole_whole _).read_unread, View.ld_unit_zero (S := S512x1408) zeros, View.ld_unit_zero (S := S1024x512) zeros, View.ld_unit_zero (S := S1408x1024) zeros, shapeCast_self]
theorem flushed4 (hf : (cfg0.win 4).flush t = true) :
    (dats m 0 c).flushed 4 t = ((cfg0.win 4).blk t).view.read (Elt Ideal) (out4 (arg0 m c) (arg1 m c) (arg2 m c) (arg3 m c)) := by
  obtain ⟨-, -, -, -, -, -, -, -, h0, h1⟩ := idx_facts t
  have hN : t.val < 6 := lt_of_lt_of_eq t.isLt N_0
  have hm : t.val % 2 = 1 := (flush0_4 t).mp hf
  rw [Value.flushed4, outLast m c t hm]
  rw [acc0 m c (t.val - 1) _ (by omega)]
  funext y
  obtain ⟨r, q, rfl⟩ : ∃ (r : Fin 1408) (q : Fin 1024), y = ix2 r q := ⟨y 0, y 1, ValueIdx.eq_ix2 y⟩
  have hR : t.val / 2 * 1408 + r.val < 4224 := by have := r.isLt; omega
  have hC : 0 * 1024 + q.val < 1024 := by rw [Nat.zero_mul, Nat.zero_add]; exact q.isLt
  have he : ((cfg0.win 4).blk t).view.emb (ix2 r q) = ix2 (⟨t.val / 2 * 1408 + r.val, hR⟩ : Fin 4224) (⟨0 * 1024 + q.val, hC⟩ : Fin 1024) :=
    at_block h0 h1 rfl rfl rfl rfl
  refine (pay_out4 _ _ _ _ _ _ _ _ r q).trans (Eq.trans ?_ (congrArg (out4 _ _ _ _) he).symm)
  rw [tt_part (fun k => ⟨k.val, by have := k.isLt; omega⟩) (fun k => blk0 m c (back t) k _ _ (⟨_, hR⟩) (by dsimp only [back] <;> omega) (by dsimp only [back] <;> omega)) (fun k => blk2 m c (back t) _ k (⟨_, hC⟩) _ (by dsimp only [back] <;> omega) (by dsimp only [back] <;> omega)),
    tt_part (fun k => ⟨k.val, by have := k.isLt; omega⟩) (fun k => blk1 m c (back t) k _ _ (⟨_, hR⟩) (by dsimp only [back] <;> omega) (by dsimp only [back] <;> omega)) (fun k => blk3 m c (back t) _ k (⟨_, hC⟩) _ (by dsimp only [back] <;> omega) (by dsimp only [back] <;> omega)),
    tt_part (fun k => ⟨512 + k.val, by have := k.isLt; omega⟩) (fun k => blk0 m c t k _ _ (⟨_, hR⟩) (by dsimp only [back] <;> omega) (by dsimp only [back] <;> omega)) (fun k => blk2 m c t _ k (⟨_, hC⟩) _ (by dsimp only [back] <;> omega) (by dsimp only [back] <;> omega)),
    tt_part (fun k => ⟨512 + k.val, by have := k.isLt; omega⟩) (fun k => blk1 m c t k _ _ (⟨_, hR⟩) (by dsimp only [back] <;> omega) (by dsimp only [back] <;> omega)) (fun k => blk3 m c t _ k (⟨_, hC⟩) _ (by dsimp only [back] <;> omega) (by dsimp only [back] <;> omega))]
  rw [add_add_add_comm]
  exact (congrArg₂ (· + ·) (tt_two 512 rfl _ _ _ _) (tt_two 512 rfl _ _ _ _)).symm
theorem final4 : (dats m 0 c).arrAt 4 cfg0.N = out4 (arg0 m c) (arg1 m c) (arg2 m c) (arg3 m c) :=
  (dats m 0 c).arrAt_eq_of_cover 4 _ (fun t hf => flushed4 m c t hf) fun i => by
    have hi0 : (i 0).val < 4224 := (i 0).isLt
    have hi1 : (i 1).val < 1024 := (i 1).isLt
    have ht : (i 0).val / 1408 * 2 + 1 < cfg0.N := by rw [show cfg0.N = 6 from N_0]; omega
    refine ⟨⟨_, ht⟩, ?_, ?_⟩
    · refine (flush0_4 _).mpr ?_; show ((i 0).val / 1408 * 2 + 1) % 2 = 1; omega
    show i ∈ ((View.whole main_v0).slice (win0_4.rect ⟨_, ht⟩)).set
    rw [View.set_slice_whole]
    obtain ⟨-, -, -, -, -, -, -, -, h0, h1⟩ := idx_facts ⟨_, ht⟩
    exact mem_block h0 h1 rfl rfl (by dsimp only; omega) (by dsimp only; omega)
theorem agree : Cert.algebraic_AttnDkvnIdeal_RefAttnDkvnIdeal := by
  intro m g m' g' _ same
  refine ⟨fun c => out4 (arg0 m c) (arg1 m c) (arg2 m c) (arg3 m c),
    (θ_run defs _ _).mono (fun r h c => ⟨((h c).1).trans (final4 m c), (h c).2⟩) (Value.run_blocks m g),
    (θ_run RefAttnDkvnIdeal.defs _ _).mono (fun r h c => ?_) (RefAttnDkvnIdeal.Value.run (F := Ideal) m' g')⟩
  refine ⟨((h c).1).trans ?_, (h c).2⟩
  · rw [(same c).1, (same c).2.1, (same c).2.2.1, (same c).2.2.2]
    simp only [all_nt (d := RefAttnDkvnIdeal.dot_S4224x1024_S1024x1024_S4224x1024_1_1_0_0_n_n) _ rfl]
    rw [transpose_eq, transpose_eq]
    funext i
    exact add_comm _ _
-- ==== Proof.AttnDwkValue.lean ====
/-
  The gradient of the key weight, or of the value weight.
-/
module
public import proofs.«01_k».proof.Defs
public import proofs.«01_k».proof.Proof.Gen.AttnDwkIdeal.Value
public import proofs.«01_k».proof.Proof.Gen.RefAttnDwkIdeal.Run
public import proofs.«01_k».proof.Proof.Products
@[expose] public section
noncomputable section
namespace Cert.Proof.AttnDwk
open AttnDwkIdeal AttnDwkIdeal.Gen Idealize.ShloMosaic TcCoe Idealize.SL.Sem ValueIdx Cert.Products
/-- The gradient of the key weight. -/
def out2 (x0 : Mat 4224 1024) (x1 : Mat 1024 4224) : Mat 1024 1024 := fun i => (tt x0 x1 (i 0) (i 1))
variable (m : (ℓ : Loc nD τ sig) → Buf (Elt Ideal) ℓ) (c : Dev nD) (t : Fin cfg0.N)
abbrev arg0 : Mat 4224 1024 := m ((c : Thread nD τ).loc main_arg0)
abbrev arg1 : Mat 1024 4224 := m ((c : Thread nD τ).loc main_arg1)
theorem idx_facts : ∀ t : Fin cfg0.N,
    win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = 0 :=
  (by decide +kernel : ∀ t : Fin grid0.N, _)
theorem blk0 (r : Fin 1408) (q : Fin 1024) (R : Fin 4224) (C : Fin 1024)
    (hR : R.val = t.val * 1408 + r.val) (hC : C.val = 0 * 1024 + q.val) :
    (iblk m c 0 t : Mat 1408 1024) (ix2 r q) = (arg0 m c) (ix2 R C) := by
  obtain ⟨h0, h1, -⟩ := idx_facts t
  exact congrArg (arg0 m c) (at_block h0 h1 hR hC rfl rfl)
theorem blk1 (r : Fin 1024) (q : Fin 1408) (R : Fin 1024) (C : Fin 4224)
    (hR : R.val = 0 * 1024 + r.val) (hC : C.val = t.val * 1408 + q.val) :
    (iblk m c 1 t : Mat 1024 1408) (ix2 r q) = (arg1 m c) (ix2 R C) := by
  obtain ⟨-, -, h0, h1, -⟩ := idx_facts t
  exact congrArg (arg1 m c) (at_block h0 h1 hR hC rfl rfl)
section
variable (b0 : Mat 1408 1024) (b1 : Mat 1024 1408) (r : Fin 1024) (q : Fin 1024)
theorem prod : (k0_pay1 (F := Ideal) b0 b1) (ix2 r q) = tt b0 b1 r q := unit_tt (φ₁ := .bf16) (φ₂ := .bf16) _ none b0 b1 r q
end
theorem pay_out2 (b0 b1 b2 : Mat 1408 1024) (b0' b1' b2' : Mat 1024 1408) (r : Fin 1024) (q : Fin 1024) : (k0_pay3 (F := Ideal) b2 b2' (k0_pay3 (F := Ideal) b1 b1' (k0_pay2 (F := Ideal) b0 b0'))) (ix2 r q)
    = tt b0 b0' r q + tt b1 b1' r q + tt b2 b2' r q := by
  rw [← prod, ← prod, ← prod]
  unfold k0_pay3 k0_pay2
  simp only [shapeCast_self]
  rfl
/-- What the running sum is after the first block. -/
theorem acc0 (h : t.val % 3 = 0) :
    (outsAt0 m c t.val t.isLt).2 = k0_pay2 (iblk m c 0 t) (iblk m c 1 t) := by
  have hN : t.val < 3 := lt_of_lt_of_eq t.isLt N_0
  rw [outsAt0_A m c t h (by omega) (by omega)]
  dsimp only
  unfold sout0_A_0
  rw [View.read_writes_eq_canon _ _ _ (scover0_A_0 _ _ _ _ _ _ _ _ _ _ _ _ _ _ _ )]
  unfold kernelRun0_A
  dsimp only
  rw [View.canon_unit_zero zeros]
  unfold k0_pay2
  simp only [View.readAt_eq_ld, (hs0_0 t).read_unread, (hs0_1 t).read_unread, (Memref.isWhole_whole _).read_unread, View.ld_unit_zero (S := S1024x1024) zeros, View.ld_unit_zero (S := S1024x1408) zeros, View.ld_unit_zero (S := S1408x1024) zeros, shapeCast_self]
/-- What it is after the second. -/
theorem acc1 (h : t.val % 3 = 1) :
    (outsAt0 m c t.val t.isLt).2 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_B m c t (by omega) (by omega) (by omega)]
  dsimp only
  unfold sout0_B_0
  rw [View.read_writes_eq_canon _ _ _ (scover0_B_0 _ _ _ _ _ _ _ _ _ _ _ _ _ _ _ _ )]
  unfold kernelRun0_B
  dsimp only
  rw [View.canon_unit_zero zeros]
  unfold k0_pay3
  simp only [View.readAt_eq_ld, (hs0_0 t).read_unread, (hs0_1 t).read_unread, (Memref.isWhole_whole _).read_unread, View.ld_unit_zero (S := S1024x1024) zeros, View.ld_unit_zero (S := S1024x1408) zeros, View.ld_unit_zero (S := S1408x1024) zeros, shapeCast_self]
/-- What the last block's point writes. -/
theorem outLast (h : t.val % 3 = 2) :
    (outsAt0 m c t.val t.isLt).1 = k0_pay3 (iblk m c 0 t) (iblk m c 1 t) (outsAt0 m c (t.val - 1) (Nat.lt_of_le_of_lt (Nat.sub_le _ _) t.isLt)).2 := by
  have hN : t.val < 3 := lt_of_lt_of_eq t.isLt N_0
  rw [outsAt0_C m c t (by omega) (by omega) (by omega)]
  dsimp only
  unfold out0_C_2
  rw [View.read_writes_eq_canon _ _ _ (cover0_C_2 _ _ _ _ _ _ _ _ _ _ _ _ _ _ _ _ )]
  unfold kernelRun0_C
  dsimp only
  sl_unfold_words
  rw [View.canon_unit_zero zeros]
  simp only [View.readCov_unit_zero (S := S1024x1024) _ zeros]
  unfold k0_pay3
  simp only [View.readAt_eq_ld, (hs0_0 t).read_unread, (hs0_1 t).read_unread, (Memref.isWhole_whole _).read_unread, View.ld_unit_zero (S := S1024x1024) zeros, View.ld_unit_zero (S := S1024x1408) zeros, View.ld_unit_zero (S := S1408x1024) zeros, shapeCast_self]
theorem flushed2 (hf : (cfg0.win 2).flush t = true) :
    (dats m 0 c).flushed 2 t = ((cfg0.win 2).blk t).view.read (Elt Ideal) (out2 (arg0 m c) (arg1 m c)) := by
  obtain ⟨-, -, -, -, h0, h1⟩ := idx_facts t
  have hN : t.val < 3 := lt_of_lt_of_eq t.isLt N_0
  have hm : t.val % 3 = 2 := (flush0_2 t).mp hf
  rw [Value.flushed2, outLast m c t hm]
  rw [acc1 m c (back t) (by dsimp only [back]; omega), acc0 m c (back (back t)) (by dsimp only [back]; omega)]
  funext y
  obtain ⟨r, q, rfl⟩ : ∃ (r : Fin 1024) (q : Fin 1024), y = ix2 r q := ⟨y 0, y 1, ValueIdx.eq_ix2 y⟩
  have hR : 0 * 1024 + r.val < 1024 := by rw [Nat.zero_mul, Nat.zero_add]; exact r.isLt
  have hC : 0 * 1024 + q.val < 1024 := by rw [Nat.zero_mul, Nat.zero_add]; exact q.isLt
  have he : ((cfg0.win 2).blk t).view.emb (ix2 r q) = ix2 (⟨0 * 1024 + r.val, hR⟩ : Fin 1024) (⟨0 * 1024 + q.val, hC⟩ : Fin 1024) :=
    at_block h0 h1 rfl rfl rfl rfl
  exact (pay_out2 _ _ _ _ _ _ r q).trans (Eq.trans (tt_blocks 1408 rfl
    (fun k j h => ⟨blk0 m c (back (back t)) k _ j ⟨_, hR⟩ (by dsimp only [back] <;> omega) (by dsimp only [back] <;> omega), blk1 m c (back (back t)) _ k ⟨_, hC⟩ j (by dsimp only [back] <;> omega) (by dsimp only [back] <;> omega)⟩)
    (fun k j h => ⟨blk0 m c (back t) k _ j ⟨_, hR⟩ (by dsimp only [back] <;> omega) (by dsimp only [back] <;> omega), blk1 m c (back t) _ k ⟨_, hC⟩ j (by dsimp only [back] <;> omega) (by dsimp only [back] <;> omega)⟩)
    (fun k j h => ⟨blk0 m c t k _ j ⟨_, hR⟩ (by omega) rfl, blk1 m c t _ k ⟨_, hC⟩ j rfl (by omega)⟩)) (congrArg (out2 _ _) he).symm)
theorem final2 : (dats m 0 c).arrAt 2 cfg0.N = out2 (arg0 m c) (arg1 m c) :=
  (dats m 0 c).arrAt_eq_of_cover 2 _ (fun t hf => flushed2 m c t hf) fun i => by
    have hi0 : (i 0).val < 1024 := (i 0).isLt
    have hi1 : (i 1).val < 1024 := (i 1).isLt
    have ht : 2 < cfg0.N := by rw [show cfg0.N = 3 from N_0]; omega
    refine ⟨⟨_, ht⟩, ?_, ?_⟩
    · refine (flush0_2 _).mpr ?_; show (2) % 3 = 2; omega
    show i ∈ ((View.whole main_v0).slice (win0_2.rect ⟨_, ht⟩)).set
    rw [View.set_slice_whole]
    obtain ⟨-, -, -, -, h0, h1⟩ := idx_facts ⟨_, ht⟩
    exact mem_block h0 h1 rfl rfl (by dsimp only; omega) (by dsimp only; omega)
theorem agree : Cert.algebraic_AttnDwkIdeal_RefAttnDwkIdeal := by
  intro m g m' g' _ same
  refine ⟨fun c => out2 (arg0 m c) (arg1 m c),
    (θ_run defs _ _).mono (fun r h c => ⟨((h c).1).trans (final2 m c), (h c).2⟩) (Value.run_blocks m g),
    (θ_run RefAttnDwkIdeal.defs _ _).mono (fun r h c => ?_) (RefAttnDwkIdeal.Value.run (F := Ideal) m' g')⟩
  refine ⟨((h c).1).trans ?_, (h c).2⟩
  · rw [(same c).1, (same c).2]
    rw [all_tn (d := RefAttnDwkIdeal.dot_S4224x1024_S4224x1024_S1024x1024_0_0_1_1_n_n) _ rfl, transpose_eq, transpose_eq]
    funext i
    exact tn_swap _ _ _ _
-- ==== Proof.Adam.lean ====
/-
  The AdamW step at the ideal level, entry by entry, and the two sums of the devices' gradient terms it starts from: a
  sharded matrix's own term with the seven received, and the packed parameters' eight.
-/
module

public import proofs.«01_k».proof.Proof.Products
public import Idealize.ShloMosaic.Lib.Pointwise.Reduce
public import Idealize.ShloMosaic.Lib.Pipeline.ValueKit.Tiles
@[expose] public section

noncomputable section
namespace Cert.Adam
open Idealize.ShloMosaic Cert.Products

/-- Arrays of `n` matrices. -/
abbrev Slabs (n a b : ℕ) : Type := (⟨3, ![n, a, b]⟩ : Shape).Idx → EReal

/-- The new first moment of one parameter. -/
def newM (g m : EReal) : EReal := Ideal.ofBits .f32 0x3F666666#32 * m + Ideal.ofBits .f32 0x3DCCCCCD#32 * g

/-- The new second moment. -/
def newV (g v : EReal) : EReal := Ideal.ofBits .f32 0x3F7FBE77#32 * v + Ideal.ofBits .f32 0x3A83126F#32 * (g * g)

/-- The change of the parameter `w`. -/
def step (g w m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)
variable {r c : ℕ}

/-- The new first moments of a matrix. -/
def outM (g m : Mat r c) : Mat r c := fun i => newM (g i) (m i)
/-- The new second moments. -/
def outV (g v : Mat r c) : Mat r c := fun i => newV (g i) (v i)
/-- The changes of the parameters. -/
def outD (g w m v : Mat r c) : Mat r c := fun i => step (g i) (w i) (m i) (v i)

/-- The sum of the matrices of an array, as the reference takes it: from zero. -/
def sumOf {n : ℕ} (x : Slabs n r c) : Mat r c := fun i => 0 + ∑ k : Fin n, x (ValueIdx.ix3 k (i 0) (i 1))

/-- A device's own term with those received. -/
def withOwn {n : ℕ} (own : Mat r c) (x : Slabs n r c) : Mat r c := fun i => own i + sumOf x i

/-- Seven terms added one at a time to an own one. -/
theorem add_seven (a : EReal) (f : Fin 7 → EReal) :
    a + f 0 + f 1 + f 2 + f 3 + f 4 + f 5 + f 6 = a + (0 + ∑ k, f k) := by
  rw [zero_add, Fin.sum_univ_seven]
  simp only [add_assoc]

/-- Eight terms added one at a time. -/
theorem add_eight (f : Fin 8 → EReal) :
    f 0 + f 1 + f 2 + f 3 + f 4 + f 5 + f 6 + f 7 = 0 + ∑ k, f k := by
  rw [zero_add, Fin.sum_univ_eight]

/-- The host's sum over the leading axis. -/
theorem host_sum {n : ℕ} (x : Slabs n r c) (z : (⟨0, ![]⟩ : Shape).Idx → EReal) (hz : ∀ i, z i = 0)
    (h : Shape.ReducesTo (⟨3, ![n, r, c]⟩ : Shape) [0] ⟨2, ![r, c]⟩) (hu : 0 < (⟨0, ![]⟩ : Shape).numel) :
    (Host.reduceAdd (F := Ideal) (φ := .f32) x z h hu : Mat r c) = sumOf x := by
  funext i
  show Ideal.hostReduceAdd h x (z (Shape.Idx.first hu)) i = _
  rw [hz, Ideal.hostReduceAdd_r3_a0]
  rfl

/-- Where a load of one matrix of an array reads. -/
theorem idx_slab {n : ℕ} (k : Fin n) (inb) (z : (⟨3, ![1, r, c]⟩ : Shape).Idx) (p : Fin r) (q : Fin c)
    (h1 : (z 1).val = p.val) (h2 : (z 2).val = q.val) :
    (Rect.unit (s := ⟨3, ![n, r, c]⟩) ![k.val, 0, 0] ![1, r, c] inb).idx z = ValueIdx.ix3 k p q :=
  funext fun a => Fin.ext ((Rect.idx_unit_val _ _ inb z a).trans (by
    match a with
    | ⟨0, _⟩ => have h0 : (z 0).val < 1 := (z 0).isLt; show k.val + (z 0).val = k.val; omega
    | ⟨1, _⟩ => show 0 + (z 1).val = p.val; omega
    | ⟨2, _⟩ => show 0 + (z 2).val = q.val; omega))
end Cert.Adam
end
-- ==== Proof.AdamGluValue.lean ====
/-
  The AdamW step of one device's rows of the gated unit's weights (the call for the key and value weights has the same
  shapes): what each array of the call holds, and that the reference's arrays hold the same.
-/
module
public import proofs.«01_k».proof.Defs
public import proofs.«01_k».proof.Proof.Gen.AdamGluIdeal.Value
public import proofs.«01_k».proof.Proof.Gen.RefAdamGluIdeal.Run
public import proofs.«01_k».proof.Proof.Adam
@[expose] public section
noncomputable section
namespace Cert.Proof.AdamGlu
open AdamGluIdeal AdamGluIdeal.Gen Idealize.ShloMosaic TcCoe Idealize.SL.Sem Cert.Products Cert.Adam
variable (m : (ℓ : Loc nD τ sig) → Buf (Elt Ideal) ℓ) (ρ : Dev nD → PrngReg) (c : Dev nD) (t : Fin cfg0.N)
/-- The device's own term, the seven received, the weights and the two moments. -/
abbrev own : Mat 1024 256 := m ((c : Thread nD τ).loc main_arg0)
abbrev land : Slabs 7 1024 256 := m ((c : Thread nD τ).loc main_arg1)
abbrev wts : Mat 1024 256 := m ((c : Thread nD τ).loc main_arg2)
abbrev fst : Mat 1024 256 := m ((c : Thread nD τ).loc main_arg3)
abbrev snd : Mat 1024 256 := m ((c : Thread nD τ).loc main_arg4)
abbrev grad : Mat 1024 256 := withOwn (own m c) (land m c)
abbrev at5 (y : S256x256.Idx) : S1024x256.Idx := ((cfg0.win 5).blk t).view.emb y
theorem idx_facts : ∀ t : Fin cfg0.N, win0_5.index t (0 : Fin 2) = t.val ∧ win0_5.index t (1 : Fin 2) = 0
    ∧ win0_1.index t (0 : Fin 3) = 0 ∧ win0_1.index t (1 : Fin 3) = t.val ∧ win0_1.index t (2 : Fin 3) = 0 :=
  (by decide +kernel : ∀ t : Fin grid0.N, _)
theorem blk_land (k : Fin 7) (y : S256x256.Idx) :
    (iblk m c 1 t : Slabs 7 256 256) (ValueIdx.ix3 k (y 0) (y 1)) = land m c (ValueIdx.ix3 k (at5 t y 0) (at5 t y 1)) := by
  obtain ⟨h0, h1, g0, g1, g2⟩ := idx_facts t
  unfold iblk
  rw [View.read_apply]
  show land m c _ = land m c _
  congr 1
  funext a
  apply Fin.ext
  match a with
  | ⟨0, _⟩ => show win0_1.index t (0 : Fin 3) * 7 + 1 * k.val = k.val; rw [g0]; omega
  | ⟨1, _⟩ => show win0_1.index t (1 : Fin 3) * 256 + 1 * (y 0).val = win0_5.index t (0 : Fin 2) * 256 + 1 * (y 0).val; rw [g1, h0]
  | ⟨2, _⟩ => show win0_1.index t (2 : Fin 3) * 256 + 1 * (y 1).val = win0_5.index t (1 : Fin 2) * 256 + 1 * (y 1).val; rw [g2, h1]
/-- The sum the body makes is the summed gradient's block. -/
theorem sum_eq (y : S256x256.Idx) :
    k0_pay5 (iblk m c 0 t) (iblk m c 1 t) (iblk m c 2 t) (iblk m c 3 t) (iblk m c 4 t) y = grad m c (at5 t y) := by
  unfold k0_pay5
  refine (congrFun (View.canon_unit_zero zeros inb_S256x256_S256x256_0_0 _).symm y).trans ((Value.canon5_eq _ _ _ _ _ _ _ _ y).trans ?_)
  refine Eq.trans ?_ (add_seven (own m c (at5 t y)) fun k => land m c (ValueIdx.ix3 k (at5 t y 0) (at5 t y 1)))
  have h : ∀ (k : Fin 7) (inb) (z : S1x256x256.Idx), (z 1).val = (y 0).val → (z 2).val = (y 1).val →
      (iblk m c 1 t : Slabs 7 256 256) ((Rect.unit (s := S7x256x256) ![k.val, 0, 0] ![1, 256, 256] inb).idx z) = _ := fun k inb z h1 h2 =>
    (congrArg (iblk m c 1 t : Slabs 7 256 256) (idx_slab k inb z (y 0) (y 1) h1 h2)).trans (blk_land m c t k y)
  have h' : (iblk m c 0 t : Mat 256 256) (r0_0.idx (Value.ix5_0 y)) = own m c (at5 t y) :=
    (congrFun (View.ld_unit_zero zeros inb_S256x256_S256x256_0_0 (iblk m c 0 t)) (Value.ix5_0 y)).trans
      (congrArg (iblk m c 0 t) (funext fun a => match a with | ⟨0, _⟩ => rfl | ⟨1, _⟩ => rfl : Value.ix5_0 y = y))
  exact congrArg₂ (· + ·) (congrArg₂ (· + ·) (congrArg₂ (· + ·) (congrArg₂ (· + ·) (congrArg₂ (· + ·) (congrArg₂ (· + ·) (congrArg₂ (· + ·)
    h' (h 0 _ _ rfl rfl)) (h 1 _ _ rfl rfl)) (h 2 _ _ rfl rfl)) (h 3 _ _ rfl rfl)) (h 4 _ _ rfl rfl)) (h 5 _ _ rfl rfl)) (h 6 _ _ rfl rfl)
theorem flushed5 : (dats m 0 c).flushed 5 t = ((cfg0.win 5).blk t).view.read (Elt Ideal) (grad m c) := by
  rw [Value.flushed5]
  unfold out0_5
  rw [View.canon_unit_zero zeros]
  exact funext (sum_eq m c t)
theorem flushed6 : (dats m 0 c).flushed 6 t
    = ((cfg0.win 6).blk t).view.read (Elt Ideal) (outD (grad m c) (wts m c) (fst m c) (snd m c)) := by
  rw [Value.flushed6]
  unfold out0_6
  rw [View.canon_unit_zero zeros, View.ld_unit_zero zeros, View.ld_unit_zero zeros, View.ld_unit_zero zeros]
  exact funext fun y => congrArg (fun g => step g (wts m c (at5 t y)) (fst m c (at5 t y)) (snd m c (at5 t y))) (sum_eq m c t y)
theorem flushed7 : (dats m 0 c).flushed 7 t = ((cfg0.win 7).blk t).view.read (Elt Ideal) (outM (grad m c) (fst m c)) := by
  rw [Value.flushed7]
  unfold out0_7
  rw [View.canon_unit_zero zeros, View.ld_unit_zero zeros]
  exact funext fun y => congrArg (fun g => newM g (fst m c (at5 t y))) (sum_eq m c t y)
theorem flushed8 : (dats m 0 c).flushed 8 t = ((cfg0.win 8).blk t).view.read (Elt Ideal) (outV (grad m c) (snd m c)) := by
  rw [Value.flushed8]
  unfold out0_8
  rw [View.canon_unit_zero zeros, View.ld_unit_zero zeros]
  exact funext fun y => congrArg (fun g => newV g (snd m c (at5 t y))) (sum_eq m c t y)
theorem covered (i : S1024x256.Idx) : ∃ t : Fin cfg0.N, i ∈ ((View.whole main_v0_0).slice (win0_5.rect t)).set := by
  have hi0 : (i 0).val < 1024 := (i 0).isLt
  have hi1 : (i 1).val < 256 := (i 1).isLt
  have ht : (i 0).val / 256 < cfg0.N := by rw [show cfg0.N = 4 from N_0]; omega
  refine ⟨⟨_, ht⟩, ?_⟩
  rw [View.set_slice_whole]
  obtain ⟨h0, h1, -⟩ := idx_facts ⟨_, ht⟩
  exact mem_block h0 h1 rfl rfl (by dsimp only; omega) (by omega)
theorem final5 : (dats m 0 c).arrAt 5 cfg0.N = grad m c :=
  (dats m 0 c).arrAt_eq_of_cover 5 _ (fun t _ => flushed5 m c t) fun i => (covered i).imp fun t h => ⟨flush0_5 t, h⟩
theorem final6 : (dats m 0 c).arrAt 6 cfg0.N = outD (grad m c) (wts m c) (fst m c) (snd m c) :=
  (dats m 0 c).arrAt_eq_of_cover 6 _ (fun t _ => flushed6 m c t) fun i => (covered i).imp fun t h => ⟨flush0_6 t, h⟩
theorem final7 : (dats m 0 c).arrAt 7 cfg0.N = outM (grad m c) (fst m c) :=
  (dats m 0 c).arrAt_eq_of_cover 7 _ (fun t _ => flushed7 m c t) fun i => (covered i).imp fun t h => ⟨flush0_7 t, h⟩
theorem final8 : (dats m 0 c).arrAt 8 cfg0.N = outV (grad m c) (snd m c) :=
  (dats m 0 c).arrAt_eq_of_cover 8 _ (fun t _ => flushed8 m c t) fun i => (covered i).imp fun t h => ⟨flush0_8 t, h⟩
theorem host_grad (o : Mat 1024 256) (x : Slabs 7 1024 256) :
    addf (F := Ideal) (φ := .f32) o (Host.reduceAdd (φ := .f32) (extf .f32 (φ := .bf16) x RefAdamGluIdeal.Gen.bitsLt_bf16_f32)
      (constant RefAdamGluIdeal.S_ .f32 0x00000000#32) RefAdamGluIdeal.Gen.reducesTo_S7x1024x256_S1024x256_d0 RefAdamGluIdeal.Gen.h_S_)
      = withOwn o x :=
  funext fun i => congrArg (o i + ·) (congrFun (host_sum x _ (fun _ => Ideal.ofBits_zero_f32) _ _) i)
theorem agree : Cert.algebraic_AdamGluIdeal_RefAdamGluIdeal := by
  intro m g m' g' _ same
  refine ⟨fun c => grad m c, fun c => outD (grad m c) (wts m c) (fst m c) (snd m c), fun c => outM (grad m c) (fst m c),
    fun c => outV (grad m c) (snd m c),
    (θ_run defs _ _).mono (fun r h c => ⟨(h c).1.trans (final5 m c), (h c).2.1.trans (final6 m c), (h c).2.2.1.trans (final7 m c),
      (h c).2.2.2.1.trans (final8 m c), (h c).2.2.2.2⟩) (Value.run_blocks m g),
    (θ_run RefAdamGluIdeal.defs _ _).mono (fun r h c => ?_) (RefAdamGluIdeal.Value.run (F := Ideal) m' g')⟩
  obtain ⟨s0, s1, s2, s3, s4⟩ := same c
  refine ⟨(h c).1.trans ?_, (h c).2.1.trans ?_, (h c).2.2.1.trans ?_, (h c).2.2.2.1.trans ?_, (h c).2.2.2.2⟩
  · rw [s0, s1]; exact host_grad _ _
  · rw [s0, s1, s2, s3, s4, host_grad]; rfl
  · rw [s0, s1, s3, host_grad]; rfl
  · rw [s0, s1, s4, host_grad]; rfl
-- ==== Proof.AdamQValue.lean ====
/-
  The AdamW step of one device's rows of the query weights (the call for the output weights has the same shapes): what each
  array of the call holds, and that the reference's arrays hold the same.
-/
module
public import proofs.«01_k».proof.Defs
public import proofs.«01_k».proof.Proof.Gen.AdamQIdeal.Value
public import proofs.«01_k».proof.Proof.Gen.RefAdamQIdeal.Run
public import proofs.«01_k».proof.Proof.Adam
@[expose] public section
noncomputable section
namespace Cert.Proof.AdamQ
open AdamQIdeal AdamQIdeal.Gen Idealize.ShloMosaic TcCoe Idealize.SL.Sem Cert.Products Cert.Adam
variable (m : (ℓ : Loc nD τ sig) → Buf (Elt Ideal) ℓ) (ρ : Dev nD → PrngReg) (c : Dev nD) (t : Fin cfg0.N)
/-- The device's own term, the seven received, the weights and the two moments. -/
abbrev own : Mat 128 1024 := m ((c : Thread nD τ).loc main_arg0)
abbrev land : Slabs 7 128 1024 := m ((c : Thread nD τ).loc main_arg1)
abbrev wts : Mat 128 1024 := m ((c : Thread nD τ).loc main_arg2)
abbrev fst : Mat 128 1024 := m ((c : Thread nD τ).loc main_arg3)
abbrev snd : Mat 128 1024 := m ((c : Thread nD τ).loc main_arg4)
abbrev grad : Mat 128 1024 := withOwn (own m c) (land m c)
abbrev at5 (y : S128x1024.Idx) : S128x1024.Idx := ((cfg0.win 5).blk t).view.emb y
theorem idx_facts : ∀ t : Fin cfg0.N, win0_5.index t (0 : Fin 2) = t.val ∧ win0_5.index t (1 : Fin 2) = 0
    ∧ win0_1.index t (0 : Fin 3) = 0 ∧ win0_1.index t (1 : Fin 3) = t.val ∧ win0_1.index t (2 : Fin 3) = 0 :=
  (by decide +kernel : ∀ t : Fin grid0.N, _)
theorem blk_land (k : Fin 7) (y : S128x1024.Idx) :
    (iblk m c 1 t : Slabs 7 128 1024) (ValueIdx.ix3 k (y 0) (y 1)) = land m c (ValueIdx.ix3 k (at5 t y 0) (at5 t y 1)) := by
  obtain ⟨h0, h1, g0, g1, g2⟩ := idx_facts t
  unfold iblk
  rw [View.read_apply]
  show land m c _ = land m c _
  congr 1
  funext a
  apply Fin.ext
  match a with
  | ⟨0, _⟩ => show win0_1.index t (0 : Fin 3) * 7 + 1 * k.val = k.val; rw [g0]; omega
  | ⟨1, _⟩ => show win0_1.index t (1 : Fin 3) * 128 + 1 * (y 0).val = win0_5.index t (0 : Fin 2) * 128 + 1 * (y 0).val; rw [g1, h0]
  | ⟨2, _⟩ => show win0_1.index t (2 : Fin 3) * 1024 + 1 * (y 1).val = win0_5.index t (1 : Fin 2) * 1024 + 1 * (y 1).val; rw [g2, h1]
/-- The sum the body makes is the summed gradient's block. -/
theorem sum_eq (y : S128x1024.Idx) :
    k0_pay5 (iblk m c 0 t) (iblk m c 1 t) (iblk m c 2 t) (iblk m c 3 t) (iblk m c 4 t) y = grad m c (at5 t y) := by
  unfold k0_pay5
  refine (congrFun (View.canon_unit_zero zeros inb_S128x1024_S128x1024_0_0 _).symm y).trans ((Value.canon5_eq _ _ _ _ _ _ _ _ y).trans ?_)
  refine Eq.trans ?_ (add_seven (own m c (at5 t y)) fun k => land m c (ValueIdx.ix3 k (at5 t y 0) (at5 t y 1)))
  have h : ∀ (k : Fin 7) (inb) (z : S1x128x1024.Idx), (z 1).val = (y 0).val → (z 2).val = (y 1).val →
      (iblk m c 1 t : Slabs 7 128 1024) ((Rect.unit (s := S7x128x1024) ![k.val, 0, 0] ![1, 128, 1024] inb).idx z) = _ := fun k inb z h1 h2 =>
    (congrArg (iblk m c 1 t : Slabs 7 128 1024) (idx_slab k inb z (y 0) (y 1) h1 h2)).trans (blk_land m c t k y)
  have h' : (iblk m c 0 t : Mat 128 1024) (r0_0.idx (Value.ix5_0 y)) = own m c (at5 t y) :=
    (congrFun (View.ld_unit_zero zeros inb_S128x1024_S128x1024_0_0 (iblk m c 0 t)) (Value.ix5_0 y)).trans
      (congrArg (iblk m c 0 t) (funext fun a => match a with | ⟨0, _⟩ => rfl | ⟨1, _⟩ => rfl : Value.ix5_0 y = y))
  exact congrArg₂ (· + ·) (congrArg₂ (· + ·) (congrArg₂ (· + ·) (congrArg₂ (· + ·) (congrArg₂ (· + ·) (congrArg₂ (· + ·) (congrArg₂ (· + ·)
    h' (h 0 _ _ rfl rfl)) (h 1 _ _ rfl rfl)) (h 2 _ _ rfl rfl)) (h 3 _ _ rfl rfl)) (h 4 _ _ rfl rfl)) (h 5 _ _ rfl rfl)) (h 6 _ _ rfl rfl)
theorem flushed5 : (dats m 0 c).flushed 5 t = ((cfg0.win 5).blk t).view.read (Elt Ideal) (grad m c) := by
  rw [Value.flushed5]
  unfold out0_5
  rw [View.canon_unit_zero zeros]
  exact funext (sum_eq m c t)
theorem flushed6 : (dats m 0 c).flushed 6 t
    = ((cfg0.win 6).blk t).view.read (Elt Ideal) (outD (grad m c) (wts m c) (fst m c) (snd m c)) := by
  rw [Value.flushed6]
  unfold out0_6
  rw [View.canon_unit_zero zeros, View.ld_unit_zero zeros, View.ld_unit_zero zeros, View.ld_unit_zero zeros]
  exact funext fun y => congrArg (fun g => step g (wts m c (at5 t y)) (fst m c (at5 t y)) (snd m c (at5 t y))) (sum_eq m c t y)
theorem flushed7 : (dats m 0 c).flushed 7 t = ((cfg0.win 7).blk t).view.read (Elt Ideal) (outM (grad m c) (fst m c)) := by
  rw [Value.flushed7]
  unfold out0_7
  rw [View.canon_unit_zero zeros, View.ld_unit_zero zeros]
  exact funext fun y => congrArg (fun g => newM g (fst m c (at5 t y))) (sum_eq m c t y)
theorem flushed8 : (dats m 0 c).flushed 8 t = ((cfg0.win 8).blk t).view.read (Elt Ideal) (outV (grad m c) (snd m c)) := by
  rw [Value.flushed8]
  unfold out0_8
  rw [View.canon_unit_zero zeros, View.ld_unit_zero zeros]
  exact funext fun y => congrArg (fun g => newV g (snd m c (at5 t y))) (sum_eq m c t y)
theorem covered (i : S128x1024.Idx) : ∃ t : Fin cfg0.N, i ∈ ((View.whole main_v0_0).slice (win0_5.rect t)).set := by
  have hi0 : (i 0).val < 128 := (i 0).isLt
  have hi1 : (i 1).val < 1024 := (i 1).isLt
  have ht : (i 0).val / 128 < cfg0.N := by rw [show cfg0.N = 1 from N_0]; omega
  refine ⟨⟨_, ht⟩, ?_⟩
  rw [View.set_slice_whole]
  obtain ⟨h0, h1, -⟩ := idx_facts ⟨_, ht⟩
  exact mem_block h0 h1 rfl rfl (by dsimp only; omega) (by omega)
theorem final5 : (dats m 0 c).arrAt 5 cfg0.N = grad m c :=
  (dats m 0 c).arrAt_eq_of_cover 5 _ (fun t _ => flushed5 m c t) fun i => (covered i).imp fun t h => ⟨flush0_5 t, h⟩
theorem final6 : (dats m 0 c).arrAt 6 cfg0.N = outD (grad m c) (wts m c) (fst m c) (snd m c) :=
  (dats m 0 c).arrAt_eq_of_cover 6 _ (fun t _ => flushed6 m c t) fun i => (covered i).imp fun t h => ⟨flush0_6 t, h⟩
theorem final7 : (dats m 0 c).arrAt 7 cfg0.N = outM (grad m c) (fst m c) :=
  (dats m 0 c).arrAt_eq_of_cover 7 _ (fun t _ => flushed7 m c t) fun i => (covered i).imp fun t h => ⟨flush0_7 t, h⟩
theorem final8 : (dats m 0 c).arrAt 8 cfg0.N = outV (grad m c) (snd m c) :=
  (dats m 0 c).arrAt_eq_of_cover 8 _ (fun t _ => flushed8 m c t) fun i => (covered i).imp fun t h => ⟨flush0_8 t, h⟩
theorem host_grad (o : Mat 128 1024) (x : Slabs 7 128 1024) :
    addf (F := Ideal) (φ := .f32) o (Host.reduceAdd (φ := .f32) (extf .f32 (φ := .bf16) x RefAdamQIdeal.Gen.bitsLt_bf16_f32)
      (constant RefAdamQIdeal.S_ .f32 0x00000000#32) RefAdamQIdeal.Gen.reducesTo_S7x128x1024_S128x1024_d0 RefAdamQIdeal.Gen.h_S_)
      = withOwn o x :=
  funext fun i => congrArg (o i + ·) (congrFun (host_sum x _ (fun _ => Ideal.ofBits_zero_f32) _ _) i)
theorem agree : Cert.algebraic_AdamQIdeal_RefAdamQIdeal := by
  intro m g m' g' _ same
  refine ⟨fun c => grad m c, fun c => outD (grad m c) (wts m c) (fst m c) (snd m c), fun c => outM (grad m c) (fst m c),
    fun c => outV (grad m c) (snd m c),
    (θ_run defs _ _).mono (fun r h c => ⟨(h c).1.trans (final5 m c), (h c).2.1.trans (final6 m c), (h c).2.2.1.trans (final7 m c),
      (h c).2.2.2.1.trans (final8 m c), (h c).2.2.2.2⟩) (Value.run_blocks m g),
    (θ_run RefAdamQIdeal.defs _ _).mono (fun r h c => ?_) (RefAdamQIdeal.Value.run (F := Ideal) m' g')⟩
  obtain ⟨s0, s1, s2, s3, s4⟩ := same c
  refine ⟨(h c).1.trans ?_, (h c).2.1.trans ?_, (h c).2.2.1.trans ?_, (h c).2.2.2.1.trans ?_, (h c).2.2.2.2⟩
  · rw [s0, s1]; exact host_grad _ _
  · rw [s0, s1, s2, s3, s4, host_grad]; rfl
  · rw [s0, s1, s3, host_grad]; rfl
  · rw [s0, s1, s4, host_grad]; rfl
-- ==== Proof.AdamFfnInValue.lean ====
/-
  The AdamW step of one device's rows of a layer's first feed-forward weights: what each
  array of the call holds, and that the reference's arrays hold the same.
-/
module
public import proofs.«01_k».proof.Defs
public import proofs.«01_k».proof.Proof.Gen.AdamFfnInIdeal.Value
public import proofs.«01_k».proof.Proof.Gen.RefAdamFfnInIdeal.Run
public import proofs.«01_k».proof.Proof.Adam
@[expose] public section
noncomputable section
namespace Cert.Proof.AdamFfnIn
open AdamFfnInIdeal AdamFfnInIdeal.Gen Idealize.ShloMosaic TcCoe Idealize.SL.Sem Cert.Products Cert.Adam
variable (m : (ℓ : Loc nD τ sig) → Buf (Elt Ideal) ℓ) (ρ : Dev nD → PrngReg) (c : Dev nD) (t : Fin cfg0.N)
/-- The device's own term, the seven received, the weights and the two moments. -/
abbrev own : Mat 1024 704 := m ((c : Thread nD τ).loc main_arg0)
abbrev land : Slabs 7 1024 704 := m ((c : Thread nD τ).loc main_arg1)
abbrev wts : Mat 1024 704 := m ((c : Thread nD τ).loc main_arg2)
abbrev fst : Mat 1024 704 := m ((c : Thread nD τ).loc main_arg3)
abbrev snd : Mat 1024 704 := m ((c : Thread nD τ).loc main_arg4)
abbrev grad : Mat 1024 704 := withOwn (own m c) (land m c)
abbrev at5 (y : S256x704.Idx) : S1024x704.Idx := ((cfg0.win 5).blk t).view.emb y
theorem idx_facts : ∀ t : Fin cfg0.N, win0_5.index t (0 : Fin 2) = t.val ∧ win0_5.index t (1 : Fin 2) = 0
    ∧ win0_1.index t (0 : Fin 3) = 0 ∧ win0_1.index t (1 : Fin 3) = t.val ∧ win0_1.index t (2 : Fin 3) = 0 :=
  (by decide +kernel : ∀ t : Fin grid0.N, _)
theorem blk_land (k : Fin 7) (y : S256x704.Idx) :
    (iblk m c 1 t : Slabs 7 256 704) (ValueIdx.ix3 k (y 0) (y 1)) = land m c (ValueIdx.ix3 k (at5 t y 0) (at5 t y 1)) := by
  obtain ⟨h0, h1, g0, g1, g2⟩ := idx_facts t
  unfold iblk
  rw [View.read_apply]
  show land m c _ = land m c _
  congr 1
  funext a
  apply Fin.ext
  match a with
  | ⟨0, _⟩ => show win0_1.index t (0 : Fin 3) * 7 + 1 * k.val = k.val; rw [g0]; omega
  | ⟨1, _⟩ => show win0_1.index t (1 : Fin 3) * 256 + 1 * (y 0).val = win0_5.index t (0 : Fin 2) * 256 + 1 * (y 0).val; rw [g1, h0]
  | ⟨2, _⟩ => show win0_1.index t (2 : Fin 3) * 704 + 1 * (y 1).val = win0_5.index t (1 : Fin 2) * 704 + 1 * (y 1).val; rw [g2, h1]
/-- The sum the body makes is the summed gradient's block. -/
theorem sum_eq (y : S256x704.Idx) :
    k0_pay5 (iblk m c 0 t) (iblk m c 1 t) (iblk m c 2 t) (iblk m c 3 t) (iblk m c 4 t) y = grad m c (at5 t y) := by
  unfold k0_pay5
  refine (congrFun (View.canon_unit_zero zeros inb_S256x704_S256x704_0_0 _).symm y).trans ((Value.canon5_eq _ _ _ _ _ _ _ _ y).trans ?_)
  refine Eq.trans ?_ (add_seven (own m c (at5 t y)) fun k => land m c (ValueIdx.ix3 k (at5 t y 0) (at5 t y 1)))
  have h : ∀ (k : Fin 7) (inb) (z : S1x256x704.Idx), (z 1).val = (y 0).val → (z 2).val = (y 1).val →
      (iblk m c 1 t : Slabs 7 256 704) ((Rect.unit (s := S7x256x704) ![k.val, 0, 0] ![1, 256, 704] inb).idx z) = _ := fun k inb z h1 h2 =>
    (congrArg (iblk m c 1 t : Slabs 7 256 704) (idx_slab k inb z (y 0) (y 1) h1 h2)).trans (blk_land m c t k y)
  have h' : (iblk m c 0 t : Mat 256 704) (r0_0.idx (Value.ix5_0 y)) = own m c (at5 t y) :=
    (congrFun (View.ld_unit_zero zeros inb_S256x704_S256x704_0_0 (iblk m c 0 t)) (Value.ix5_0 y)).trans
      (congrArg (iblk m c 0 t) (funext fun a => match a with | ⟨0, _⟩ => rfl | ⟨1, _⟩ => rfl : Value.ix5_0 y = y))
  exact congrArg₂ (· + ·) (congrArg₂ (· + ·) (congrArg₂ (· + ·) (congrArg₂ (· + ·) (congrArg₂ (· + ·) (congrArg₂ (· + ·) (congrArg₂ (· + ·)
    h' (h 0 _ _ rfl rfl)) (h 1 _ _ rfl rfl)) (h 2 _ _ rfl rfl)) (h 3 _ _ rfl rfl)) (h 4 _ _ rfl rfl)) (h 5 _ _ rfl rfl)) (h 6 _ _ rfl rfl)
theorem flushed5 : (dats m 0 c).flushed 5 t = ((cfg0.win 5).blk t).view.read (Elt Ideal) (grad m c) := by
  rw [Value.flushed5]
  unfold out0_5
  rw [View.canon_unit_zero zeros]
  exact funext (sum_eq m c t)
theorem flushed6 : (dats m 0 c).flushed 6 t
    = ((cfg0.win 6).blk t).view.read (Elt Ideal) (outD (grad m c) (wts m c) (fst m c) (snd m c)) := by
  rw [Value.flushed6]
  unfold out0_6
  rw [View.canon_unit_zero zeros, View.ld_unit_zero zeros, View.ld_unit_zero zeros, View.ld_unit_zero zeros]
  exact funext fun y => congrArg (fun g => step g (wts m c (at5 t y)) (fst m c (at5 t y)) (snd m c (at5 t y))) (sum_eq m c t y)
theorem flushed7 : (dats m 0 c).flushed 7 t = ((cfg0.win 7).blk t).view.read (Elt Ideal) (outM (grad m c) (fst m c)) := by
  rw [Value.flushed7]
  unfold out0_7
  rw [View.canon_unit_zero zeros, View.ld_unit_zero zeros]
  exact funext fun y => congrArg (fun g => newM g (fst m c (at5 t y))) (sum_eq m c t y)
theorem flushed8 : (dats m 0 c).flushed 8 t = ((cfg0.win 8).blk t).view.read (Elt Ideal) (outV (grad m c) (snd m c)) := by
  rw [Value.flushed8]
  unfold out0_8
  rw [View.canon_unit_zero zeros, View.ld_unit_zero zeros]
  exact funext fun y => congrArg (fun g => newV g (snd m c (at5 t y))) (sum_eq m c t y)
theorem covered (i : S1024x704.Idx) : ∃ t : Fin cfg0.N, i ∈ ((View.whole main_v0_0).slice (win0_5.rect t)).set := by
  have hi0 : (i 0).val < 1024 := (i 0).isLt
  have hi1 : (i 1).val < 704 := (i 1).isLt
  have ht : (i 0).val / 256 < cfg0.N := by rw [show cfg0.N = 4 from N_0]; omega
  refine ⟨⟨_, ht⟩, ?_⟩
  rw [View.set_slice_whole]
  obtain ⟨h0, h1, -⟩ := idx_facts ⟨_, ht⟩
  exact mem_block h0 h1 rfl rfl (by dsimp only; omega) (by omega)
theorem final5 : (dats m 0 c).arrAt 5 cfg0.N = grad m c :=
  (dats m 0 c).arrAt_eq_of_cover 5 _ (fun t _ => flushed5 m c t) fun i => (covered i).imp fun t h => ⟨flush0_5 t, h⟩
theorem final6 : (dats m 0 c).arrAt 6 cfg0.N = outD (grad m c) (wts m c) (fst m c) (snd m c) :=
  (dats m 0 c).arrAt_eq_of_cover 6 _ (fun t _ => flushed6 m c t) fun i => (covered i).imp fun t h => ⟨flush0_6 t, h⟩
theorem final7 : (dats m 0 c).arrAt 7 cfg0.N = outM (grad m c) (fst m c) :=
  (dats m 0 c).arrAt_eq_of_cover 7 _ (fun t _ => flushed7 m c t) fun i => (covered i).imp fun t h => ⟨flush0_7 t, h⟩
theorem final8 : (dats m 0 c).arrAt 8 cfg0.N = outV (grad m c) (snd m c) :=
  (dats m 0 c).arrAt_eq_of_cover 8 _ (fun t _ => flushed8 m c t) fun i => (covered i).imp fun t h => ⟨flush0_8 t, h⟩
theorem host_grad (o : Mat 1024 704) (x : Slabs 7 1024 704) :
    addf (F := Ideal) (φ := .f32) o (Host.reduceAdd (φ := .f32) (extf .f32 (φ := .bf16) x RefAdamFfnInIdeal.Gen.bitsLt_bf16_f32)
      (constant RefAdamFfnInIdeal.S_ .f32 0x00000000#32) RefAdamFfnInIdeal.Gen.reducesTo_S7x1024x704_S1024x704_d0 RefAdamFfnInIdeal.Gen.h_S_)
      = withOwn o x :=
  funext fun i => congrArg (o i + ·) (congrFun (host_sum x _ (fun _ => Ideal.ofBits_zero_f32) _ _) i)
theorem agree : Cert.algebraic_AdamFfnInIdeal_RefAdamFfnInIdeal := by
  intro m g m' g' _ same
  refine ⟨fun c => grad m c, fun c => outD (grad m c) (wts m c) (fst m c) (snd m c), fun c => outM (grad m c) (fst m c),
    fun c => outV (grad m c) (snd m c),
    (θ_run defs _ _).mono (fun r h c => ⟨(h c).1.trans (final5 m c), (h c).2.1.trans (final6 m c), (h c).2.2.1.trans (final7 m c),
      (h c).2.2.2.1.trans (final8 m c), (h c).2.2.2.2⟩) (Value.run_blocks m g),
    (θ_run RefAdamFfnInIdeal.defs _ _).mono (fun r h c => ?_) (RefAdamFfnInIdeal.Value.run (F := Ideal) m' g')⟩
  obtain ⟨s0, s1, s2, s3, s4⟩ := same c
  refine ⟨(h c).1.trans ?_, (h c).2.1.trans ?_, (h c).2.2.1.trans ?_, (h c).2.2.2.1.trans ?_, (h c).2.2.2.2⟩
  · rw [s0, s1]; exact host_grad _ _
  · rw [s0, s1, s2, s3, s4, host_grad]; rfl
  · rw [s0, s1, s3, host_grad]; rfl
  · rw [s0, s1, s4, host_grad]; rfl
-- ==== Proof.AdamFfnOutValue.lean ====
/-
  The AdamW step of one device's rows of a layer's second feed-forward weights: what each
  array of the call holds, and that the reference's arrays hold the same.
-/
module
public import proofs.«01_k».proof.Defs
public import proofs.«01_k».proof.Proof.Gen.AdamFfnOutIdeal.Value
public import proofs.«01_k».proof.Proof.Gen.RefAdamFfnOutIdeal.Run
public import proofs.«01_k».proof.Proof.Adam
@[expose] public section
noncomputable section
namespace Cert.Proof.AdamFfnOut
open AdamFfnOutIdeal AdamFfnOutIdeal.Gen Idealize.ShloMosaic TcCoe Idealize.SL.Sem Cert.Products Cert.Adam
variable (m : (ℓ : Loc nD τ sig) → Buf (Elt Ideal) ℓ) (ρ : Dev nD → PrngReg) (c : Dev nD) (t : Fin cfg0.N)
/-- The device's own term, the seven received, the weights and the two moments. -/
abbrev own : Mat 352 1024 := m ((c : Thread nD τ).loc main_arg0)
abbrev land : Slabs 7 352 1024 := m ((c : Thread nD τ).loc main_arg1)
abbrev wts : Mat 352 1024 := m ((c : Thread nD τ).loc main_arg2)
abbrev fst : Mat 352 1024 := m ((c : Thread nD τ).loc main_arg3)
abbrev snd : Mat 352 1024 := m ((c : Thread nD τ).loc main_arg4)
abbrev grad : Mat 352 1024 := withOwn (own m c) (land m c)
abbrev at5 (y : S32x1024.Idx) : S352x1024.Idx := ((cfg0.win 5).blk t).view.emb y
theorem idx_facts : ∀ t : Fin cfg0.N, win0_5.index t (0 : Fin 2) = t.val ∧ win0_5.index t (1 : Fin 2) = 0
    ∧ win0_1.index t (0 : Fin 3) = 0 ∧ win0_1.index t (1 : Fin 3) = t.val ∧ win0_1.index t (2 : Fin 3) = 0 :=
  (by decide +kernel : ∀ t : Fin grid0.N, _)
theorem blk_land (k : Fin 7) (y : S32x1024.Idx) :
    (iblk m c 1 t : Slabs 7 32 1024) (ValueIdx.ix3 k (y 0) (y 1)) = land m c (ValueIdx.ix3 k (at5 t y 0) (at5 t y 1)) := by
  obtain ⟨h0, h1, g0, g1, g2⟩ := idx_facts t
  unfold iblk
  rw [View.read_apply]
  show land m c _ = land m c _
  congr 1
  funext a
  apply Fin.ext
  match a with
  | ⟨0, _⟩ => show win0_1.index t (0 : Fin 3) * 7 + 1 * k.val = k.val; rw [g0]; omega
  | ⟨1, _⟩ => show win0_1.index t (1 : Fin 3) * 32 + 1 * (y 0).val = win0_5.index t (0 : Fin 2) * 32 + 1 * (y 0).val; rw [g1, h0]
  | ⟨2, _⟩ => show win0_1.index t (2 : Fin 3) * 1024 + 1 * (y 1).val = win0_5.index t (1 : Fin 2) * 1024 + 1 * (y 1).val; rw [g2, h1]
/-- The sum the body makes is the summed gradient's block. -/
theorem sum_eq (y : S32x1024.Idx) :
    k0_pay5 (iblk m c 0 t) (iblk m c 1 t) (iblk m c 2 t) (iblk m c 3 t) (iblk m c 4 t) y = grad m c (at5 t y) := by
  unfold k0_pay5
  refine (congrFun (View.canon_unit_zero zeros inb_S32x1024_S32x1024_0_0 _).symm y).trans ((Value.canon5_eq _ _ _ _ _ _ _ _ y).trans ?_)
  refine Eq.trans ?_ (add_seven (own m c (at5 t y)) fun k => land m c (ValueIdx.ix3 k (at5 t y 0) (at5 t y 1)))
  have h : ∀ (k : Fin 7) (inb) (z : S1x32x1024.Idx), (z 1).val = (y 0).val → (z 2).val = (y 1).val →
      (iblk m c 1 t : Slabs 7 32 1024) ((Rect.unit (s := S7x32x1024) ![k.val, 0, 0] ![1, 32, 1024] inb).idx z) = _ := fun k inb z h1 h2 =>
    (congrArg (iblk m c 1 t : Slabs 7 32 1024) (idx_slab k inb z (y 0) (y 1) h1 h2)).trans (blk_land m c t k y)
  have h' : (iblk m c 0 t : Mat 32 1024) (r0_0.idx (Value.ix5_0 y)) = own m c (at5 t y) :=
    (congrFun (View.ld_unit_zero zeros inb_S32x1024_S32x1024_0_0 (iblk m c 0 t)) (Value.ix5_0 y)).trans
      (congrArg (iblk m c 0 t) (funext fun a => match a with | ⟨0, _⟩ => rfl | ⟨1, _⟩ => rfl : Value.ix5_0 y = y))
  exact congrArg₂ (· + ·) (congrArg₂ (· + ·) (congrArg₂ (· + ·) (congrArg₂ (· + ·) (congrArg₂ (· + ·) (congrArg₂ (· + ·) (congrArg₂ (· + ·)
    h' (h 0 _ _ rfl rfl)) (h 1 _ _ rfl rfl)) (h 2 _ _ rfl rfl)) (h 3 _ _ rfl rfl)) (h 4 _ _ rfl rfl)) (h 5 _ _ rfl rfl)) (h 6 _ _ rfl rfl)
theorem flushed5 : (dats m 0 c).flushed 5 t = ((cfg0.win 5).blk t).view.read (Elt Ideal) (grad m c) := by
  rw [Value.flushed5]
  unfold out0_5
  rw [View.canon_unit_zero zeros]
  exact funext (sum_eq m c t)
theorem flushed6 : (dats m 0 c).flushed 6 t
    = ((cfg0.win 6).blk t).view.read (Elt Ideal) (outD (grad m c) (wts m c) (fst m c) (snd m c)) := by
  rw [Value.flushed6]
  unfold out0_6
  rw [View.canon_unit_zero zeros, View.ld_unit_zero zeros, View.ld_unit_zero zeros, View.ld_unit_zero zeros]
  exact funext fun y => congrArg (fun g => step g (wts m c (at5 t y)) (fst m c (at5 t y)) (snd m c (at5 t y))) (sum_eq m c t y)
theorem flushed7 : (dats m 0 c).flushed 7 t = ((cfg0.win 7).blk t).view.read (Elt Ideal) (outM (grad m c) (fst m c)) := by
  rw [Value.flushed7]
  unfold out0_7
  rw [View.canon_unit_zero zeros, View.ld_unit_zero zeros]
  exact funext fun y => congrArg (fun g => newM g (fst m c (at5 t y))) (sum_eq m c t y)
theorem flushed8 : (dats m 0 c).flushed 8 t = ((cfg0.win 8).blk t).view.read (Elt Ideal) (outV (grad m c) (snd m c)) := by
  rw [Value.flushed8]
  unfold out0_8
  rw [View.canon_unit_zero zeros, View.ld_unit_zero zeros]
  exact funext fun y => congrArg (fun g => newV g (snd m c (at5 t y))) (sum_eq m c t y)
theorem covered (i : S352x1024.Idx) : ∃ t : Fin cfg0.N, i ∈ ((View.whole main_v0_0).slice (win0_5.rect t)).set := by
  have hi0 : (i 0).val < 352 := (i 0).isLt
  have hi1 : (i 1).val < 1024 := (i 1).isLt
  have ht : (i 0).val / 32 < cfg0.N := by rw [show cfg0.N = 11 from N_0]; omega
  refine ⟨⟨_, ht⟩, ?_⟩
  rw [View.set_slice_whole]
  obtain ⟨h0, h1, -⟩ := idx_facts ⟨_, ht⟩
  exact mem_block h0 h1 rfl rfl (by dsimp only; omega) (by omega)
theorem final5 : (dats m 0 c).arrAt 5 cfg0.N = grad m c :=
  (dats m 0 c).arrAt_eq_of_cover 5 _ (fun t _ => flushed5 m c t) fun i => (covered i).imp fun t h => ⟨flush0_5 t, h⟩
theorem final6 : (dats m 0 c).arrAt 6 cfg0.N = outD (grad m c) (wts m c) (fst m c) (snd m c) :=
  (dats m 0 c).arrAt_eq_of_cover 6 _ (fun t _ => flushed6 m c t) fun i => (covered i).imp fun t h => ⟨flush0_6 t, h⟩
theorem final7 : (dats m 0 c).arrAt 7 cfg0.N = outM (grad m c) (fst m c) :=
  (dats m 0 c).arrAt_eq_of_cover 7 _ (fun t _ => flushed7 m c t) fun i => (covered i).imp fun t h => ⟨flush0_7 t, h⟩
theorem final8 : (dats m 0 c).arrAt 8 cfg0.N = outV (grad m c) (snd m c) :=
  (dats m 0 c).arrAt_eq_of_cover 8 _ (fun t _ => flushed8 m c t) fun i => (covered i).imp fun t h => ⟨flush0_8 t, h⟩
theorem host_grad (o : Mat 352 1024) (x : Slabs 7 352 1024) :
    addf (F := Ideal) (φ := .f32) o (Host.reduceAdd (φ := .f32) (extf .f32 (φ := .bf16) x RefAdamFfnOutIdeal.Gen.bitsLt_bf16_f32)
      (constant RefAdamFfnOutIdeal.S_ .f32 0x00000000#32) RefAdamFfnOutIdeal.Gen.reducesTo_S7x352x1024_S352x1024_d0 RefAdamFfnOutIdeal.Gen.h_S_)
      = withOwn o x :=
  funext fun i => congrArg (o i + ·) (congrFun (host_sum x _ (fun _ => Ideal.ofBits_zero_f32) _ _) i)
theorem agree : Cert.algebraic_AdamFfnOutIdeal_RefAdamFfnOutIdeal := by
  intro m g m' g' _ same
  refine ⟨fun c => grad m c, fun c => outD (grad m c) (wts m c) (fst m c) (snd m c), fun c => outM (grad m c) (fst m c),
    fun c => outV (grad m c) (snd m c),
    (θ_run defs _ _).mono (fun r h c => ⟨(h c).1.trans (final5 m c), (h c).2.1.trans (final6 m c), (h c).2.2.1.trans (final7 m c),
      (h c).2.2.2.1.trans (final8 m c), (h c).2.2.2.2⟩) (Value.run_blocks m g),
    (θ_run RefAdamFfnOutIdeal.defs _ _).mono (fun r h c => ?_) (RefAdamFfnOutIdeal.Value.run (F := Ideal) m' g')⟩
  obtain ⟨s0, s1, s2, s3, s4⟩ := same c
  refine ⟨(h c).1.trans ?_, (h c).2.1.trans ?_, (h c).2.2.1.trans ?_, (h c).2.2.2.1.trans ?_, (h c).2.2.2.2⟩
  · rw [s0, s1]; exact host_grad _ _
  · rw [s0, s1, s2, s3, s4, host_grad]; rfl
  · rw [s0, s1, s3, host_grad]; rfl
  · rw [s0, s1, s4, host_grad]; rfl
-- ==== Proof.AdamSmallValue.lean ====
/-
  The sum over the devices of the packed parameters' gradient terms, and their AdamW step: what each array of the call
  holds, and that the reference's arrays hold the same.
-/
module
public import proofs.«01_k».proof.Defs
public import proofs.«01_k».proof.Proof.Gen.AdamSmallIdeal.Value
public import proofs.«01_k».proof.Proof.Gen.RefAdamSmallIdeal.Run
public import proofs.«01_k».proof.Proof.Adam
@[expose] public section
noncomputable section
namespace Cert.Proof.AdamSmall
open AdamSmallIdeal AdamSmallIdeal.Gen Idealize.ShloMosaic TcCoe Idealize.SL.Sem Cert.Products Cert.Adam
variable (m : (ℓ : Loc nD τ sig) → Buf (Elt Ideal) ℓ) (ρ : Dev nD → PrngReg) (c : Dev nD) (t : Fin cfg0.N)
/-- The eight devices' terms, the parameters and the two moments. -/
abbrev terms : Slabs 8 2304 128 := m ((c : Thread nD τ).loc main_arg0)
abbrev wts : Mat 2304 128 := m ((c : Thread nD τ).loc main_arg1)
abbrev fst : Mat 2304 128 := m ((c : Thread nD τ).loc main_arg2)
abbrev snd : Mat 2304 128 := m ((c : Thread nD τ).loc main_arg3)
abbrev grad : Mat 2304 128 := sumOf (terms m c)
abbrev at4 (y : S256x128.Idx) : S2304x128.Idx := ((cfg0.win 4).blk t).view.emb y
theorem idx_facts : ∀ t : Fin cfg0.N, win0_4.index t (0 : Fin 2) = t.val ∧ win0_4.index t (1 : Fin 2) = 0
    ∧ win0_0.index t (0 : Fin 3) = 0 ∧ win0_0.index t (1 : Fin 3) = t.val ∧ win0_0.index t (2 : Fin 3) = 0 :=
  (by decide +kernel : ∀ t : Fin grid0.N, _)
theorem blk_terms (k : Fin 8) (y : S256x128.Idx) :
    (iblk m c 0 t : Slabs 8 256 128) (ValueIdx.ix3 k (y 0) (y 1)) = terms m c (ValueIdx.ix3 k (at4 t y 0) (at4 t y 1)) := by
  obtain ⟨h0, h1, g0, g1, g2⟩ := idx_facts t
  unfold iblk
  rw [View.read_apply]
  show terms m c _ = terms m c _
  congr 1
  funext a
  apply Fin.ext
  match a with
  | ⟨0, _⟩ => show win0_0.index t (0 : Fin 3) * 8 + 1 * k.val = k.val; rw [g0]; omega
  | ⟨1, _⟩ => show win0_0.index t (1 : Fin 3) * 256 + 1 * (y 0).val = win0_4.index t (0 : Fin 2) * 256 + 1 * (y 0).val; rw [g1, h0]
  | ⟨2, _⟩ => show win0_0.index t (2 : Fin 3) * 128 + 1 * (y 1).val = win0_4.index t (1 : Fin 2) * 128 + 1 * (y 1).val; rw [g2, h1]
/-- The sum the body makes is the summed gradient's block. -/
theorem sum_eq (y : S256x128.Idx) :
    k0_pay6 (iblk m c 0 t) (iblk m c 1 t) (iblk m c 2 t) (iblk m c 3 t) y = grad m c (at4 t y) := by
  unfold k0_pay6
  refine (congrFun (View.canon_unit_zero zeros inb_S256x128_S256x128_0_0 _).symm y).trans ((Value.canon4_eq _ _ _ _ _ _ _ _ y).trans ?_)
  refine Eq.trans ?_ (add_eight fun k => terms m c (ValueIdx.ix3 k (at4 t y 0) (at4 t y 1)))
  have h : ∀ (k : Fin 8) (inb) (z : S1x256x128.Idx), (z 1).val = (y 0).val → (z 2).val = (y 1).val →
      (iblk m c 0 t : Slabs 8 256 128) ((Rect.unit (s := S8x256x128) ![k.val, 0, 0] ![1, 256, 128] inb).idx z) = _ := fun k inb z h1 h2 =>
    (congrArg (iblk m c 0 t : Slabs 8 256 128) (idx_slab k inb z (y 0) (y 1) h1 h2)).trans (blk_terms m c t k y)
  exact congrArg₂ (· + ·) (congrArg₂ (· + ·) (congrArg₂ (· + ·) (congrArg₂ (· + ·) (congrArg₂ (· + ·) (congrArg₂ (· + ·) (congrArg₂ (· + ·)
    (h 0 _ _ rfl rfl) (h 1 _ _ rfl rfl)) (h 2 _ _ rfl rfl)) (h 3 _ _ rfl rfl)) (h 4 _ _ rfl rfl)) (h 5 _ _ rfl rfl)) (h 6 _ _ rfl rfl)) (h 7 _ _ rfl rfl)
theorem pay7 (a b d e) : k0_pay7 (F := Ideal) a b d e = k0_pay5 d := by
  unfold k0_pay7
  rw [View.ld_unit_zero zeros]
theorem flushed4 : (dats m 0 c).flushed 4 t = ((cfg0.win 4).blk t).view.read (Elt Ideal) (grad m c) := by
  rw [Value.flushed4]
  unfold out0_4
  rw [View.canon_unit_zero zeros]
  exact funext (sum_eq m c t)
theorem flushed5 : (dats m 0 c).flushed 5 t
    = ((cfg0.win 5).blk t).view.read (Elt Ideal) (outD (grad m c) (wts m c) (fst m c) (snd m c)) := by
  rw [Value.flushed5]
  unfold out0_5
  rw [View.canon_unit_zero zeros, View.ld_unit_zero zeros, View.ld_unit_zero zeros, pay7]
  exact funext fun y => congrArg (fun g => step g (wts m c (at4 t y)) (fst m c (at4 t y)) (snd m c (at4 t y))) (sum_eq m c t y)
theorem flushed6 : (dats m 0 c).flushed 6 t = ((cfg0.win 6).blk t).view.read (Elt Ideal) (outM (grad m c) (fst m c)) := by
  rw [Value.flushed6]
  unfold out0_6
  rw [View.canon_unit_zero zeros, pay7]
  exact funext fun y => congrArg (fun g => newM g (fst m c (at4 t y))) (sum_eq m c t y)
theorem flushed7 : (dats m 0 c).flushed 7 t = ((cfg0.win 7).blk t).view.read (Elt Ideal) (outV (grad m c) (snd m c)) := by
  rw [Value.flushed7]
  unfold out0_7
  rw [View.canon_unit_zero zeros, View.ld_unit_zero zeros]
  exact funext fun y => congrArg (fun g => newV g (snd m c (at4 t y))) (sum_eq m c t y)
theorem covered (i : S2304x128.Idx) : ∃ t : Fin cfg0.N, i ∈ ((View.whole main_v0_0).slice (win0_4.rect t)).set := by
  have hi0 : (i 0).val < 2304 := (i 0).isLt
  have hi1 : (i 1).val < 128 := (i 1).isLt
  have ht : (i 0).val / 256 < cfg0.N := by rw [show cfg0.N = 9 from N_0]; omega
  refine ⟨⟨_, ht⟩, ?_⟩
  rw [View.set_slice_whole]
  obtain ⟨h0, h1, -⟩ := idx_facts ⟨_, ht⟩
  exact mem_block h0 h1 rfl rfl (by dsimp only; omega) (by omega)
theorem final4 : (dats m 0 c).arrAt 4 cfg0.N = grad m c :=
  (dats m 0 c).arrAt_eq_of_cover 4 _ (fun t _ => flushed4 m c t) fun i => (covered i).imp fun t h => ⟨flush0_4 t, h⟩
theorem final5 : (dats m 0 c).arrAt 5 cfg0.N = outD (grad m c) (wts m c) (fst m c) (snd m c) :=
  (dats m 0 c).arrAt_eq_of_cover 5 _ (fun t _ => flushed5 m c t) fun i => (covered i).imp fun t h => ⟨flush0_5 t, h⟩
theorem final6 : (dats m 0 c).arrAt 6 cfg0.N = outM (grad m c) (fst m c) :=
  (dats m 0 c).arrAt_eq_of_cover 6 _ (fun t _ => flushed6 m c t) fun i => (covered i).imp fun t h => ⟨flush0_6 t, h⟩
theorem final7 : (dats m 0 c).arrAt 7 cfg0.N = outV (grad m c) (snd m c) :=
  (dats m 0 c).arrAt_eq_of_cover 7 _ (fun t _ => flushed7 m c t) fun i => (covered i).imp fun t h => ⟨flush0_7 t, h⟩
theorem host_grad (x : Slabs 8 2304 128) :
    Host.reduceAdd (F := Ideal) (φ := .f32) x (constant RefAdamSmallIdeal.S_ .f32 0x00000000#32)
      RefAdamSmallIdeal.Gen.reducesTo_S8x2304x128_S2304x128_d0 RefAdamSmallIdeal.Gen.h_S_ = sumOf x :=
  host_sum x _ (fun _ => Ideal.ofBits_zero_f32) _ _
theorem agree : Cert.algebraic_AdamSmallIdeal_RefAdamSmallIdeal := by
  intro m g m' g' _ same
  refine ⟨fun c => grad m c, fun c => outD (grad m c) (wts m c) (fst m c) (snd m c), fun c => outM (grad m c) (fst m c),
    fun c => outV (grad m c) (snd m c),
    (θ_run defs _ _).mono (fun r h c => ⟨(h c).1.trans (final4 m c), (h c).2.1.trans (final5 m c), (h c).2.2.1.trans (final6 m c),
      (h c).2.2.2.1.trans (final7 m c), (h c).2.2.2.2⟩) (Value.run_blocks m g),
    (θ_run RefAdamSmallIdeal.defs _ _).mono (fun r h c => ?_) (RefAdamSmallIdeal.Value.run (F := Ideal) m' g')⟩
  obtain ⟨s0, s1, s2, s3⟩ := same c
  refine ⟨(h c).1.trans ?_, (h c).2.1.trans ?_, (h c).2.2.1.trans ?_, (h c).2.2.2.1.trans ?_, (h c).2.2.2.2⟩
  · rw [s0]; exact host_grad _
  · rw [s0, s1, s2, s3, host_grad]; rfl
  · rw [s0, s2, host_grad]; rfl
  · rw [s0, s3, host_grad]; rfl
-- ==== Proof.AdamColsValue.lean ====
/-
  The AdamW step of one device's columns of the remaining two parameters: what each array of the call holds, and that the
  reference's arrays hold the same.
-/
module
public import proofs.«01_k».proof.Defs
public import proofs.«01_k».proof.Proof.Gen.AdamColsIdeal.Value
public import proofs.«01_k».proof.Proof.Gen.RefAdamColsIdeal.Run
public import proofs.«01_k».proof.Proof.Adam
@[expose] public section
noncomputable section
namespace Cert.Proof.AdamCols
open AdamColsIdeal AdamColsIdeal.Gen Idealize.ShloMosaic TcCoe Idealize.SL.Sem Cert.Products Cert.Adam
theorem agree : Cert.algebraic_AdamColsIdeal_RefAdamColsIdeal := by
  intro m g m' g' _ same
  refine ⟨fun c => outD (m ((c : Thread nD τ).loc main_arg0)) (m ((c : Thread nD τ).loc main_arg1)) (m ((c : Thread nD τ).loc main_arg2)) (m ((c : Thread nD τ).loc main_arg3)),
    fun c => outM (m ((c : Thread nD τ).loc main_arg0)) (m ((c : Thread nD τ).loc main_arg2)),
    fun c => outV (m ((c : Thread nD τ).loc main_arg0)) (m ((c : Thread nD τ).loc main_arg3)),
    (θ_run defs _ _).mono (fun r h c => h c) (Value.run m g),
    (θ_run RefAdamColsIdeal.defs _ _).mono (fun r h c => ?_) (RefAdamColsIdeal.Value.run (F := Ideal) m' g')⟩
  obtain ⟨s0, s1, s2, s3⟩ := same c
  refine ⟨(h c).1.trans ?_, (h c).2.1.trans ?_, (h c).2.2.1.trans ?_, (h c).2.2.2⟩
  · rw [s0, s1, s2, s3]; rfl
  · rw [s0, s2]; rfl
  · rw [s0, s3]; rfl
-- ==== Proof.Rms.lean ====
/-
  RMSNorm and its gradient on one row at the ideal level: the factor a row is scaled by is a nonnegative real whatever the
  row holds, so that the two ways of writing the gradient agree everywhere. And sums that a call makes block by block.
-/
module

public import proofs.«01_k».proof.Proof.Products
public import Idealize.ShloMosaic.Lib.Pointwise
@[expose] public section

noncomputable section
namespace Cert.Rms
open Idealize.ShloMosaic Cert.Products

/-! ## The constants -/

/-- The length of a row. -/
abbrev dim : EReal := Ideal.ofBits .f32 0x44800000#32
abbrev eps : EReal := Ideal.ofBits .f32 0x358637BD#32

theorem dim_eq : dim = ((1024 : ℝ) : EReal) := by
  simp [dim, Ideal.ofBits, Ideal.ieee, -EReal.coe_mul]; norm_num
theorem eps_eq : ∃ e : ℝ, 0 < e ∧ eps = (e : EReal) := by
  refine ⟨_, ?_, by simp [eps, Ideal.ofBits, Ideal.ieee, -EReal.coe_mul]; rfl⟩
  norm_num
theorem neg_half : Ideal.ofBits .f32 0xBF000000#32 = ((-(1 / 2) : ℝ) : EReal) := by
  simp [Ideal.ofBits, Ideal.ieee, -EReal.coe_mul]; norm_num

theorem div_dim (a : EReal) : Ideal.div a dim = a * ((1 / 1024 : ℝ) : EReal) := by
  rw [dim_eq, Ideal.div_coe (by norm_num)]

/-! ## A nonnegative real factor -/

theorem mul_add {s : ℝ} (hs : 0 ≤ s) (a b : EReal) : (s : EReal) * (a + b) = s * a + s * b :=
  EReal.left_distrib_of_nonneg_of_ne_top (EReal.coe_nonneg.mpr hs) (EReal.coe_ne_top s) a b

theorem mul_sum {s : ℝ} (hs : 0 ≤ s) {ι : Type*} (S : Finset ι) (f : ι → EReal) : (s : EReal) * ∑ i ∈ S, f i = ∑ i ∈ S, s * f i := by
  classical
  induction S using Finset.induction_on with
  | empty => simp
  | insert a S ha ih => rw [Finset.sum_insert ha, Finset.sum_insert ha, mul_add hs, ih]

/-! ## A row -/
variable {n : ℕ} (x a : Fin n → EReal)

/-- The mean square of a row, and the small constant. -/
def meanSq : EReal := Ideal.div (∑ j, x j * x j) dim + eps
/-- The factor a row is scaled by. -/
def scale : EReal := Ideal.rsqrt (meanSq x)

theorem sq_nonneg (z : EReal) : 0 ≤ z * z := by
  rcases le_total 0 z with h | h
  · exact EReal.mul_nonneg h h
  · simpa using EReal.mul_nonneg (EReal.neg_nonneg.mpr h) (EReal.neg_nonneg.mpr h)

theorem meanSq_pos : 0 < meanSq x := by
  obtain ⟨e, he, h⟩ := eps_eq
  unfold meanSq
  rw [div_dim, h]
  exact lt_of_lt_of_le (EReal.coe_pos.mpr he) (le_add_of_nonneg_left
    (EReal.mul_nonneg (Finset.sum_nonneg fun j _ => sq_nonneg _) (EReal.coe_nonneg.mpr (by norm_num))))

theorem scale_real : ∃ s : ℝ, 0 ≤ s ∧ scale x = (s : EReal) ∧ Ideal.div (scale x) (meanSq x) = ((s * s * s : ℝ) : EReal) := by
  have h := meanSq_pos x
  unfold scale
  generalize meanSq x = v at h
  induction v with
  | bot => exact absurd h (by simp)
  | top => exact ⟨0, le_refl _, by simp, by simp [Ideal.div]⟩
  | coe v =>
    have hv : 0 < v := EReal.coe_pos.mp h
    have hr : Ideal.rsqrt v = (((Real.sqrt v)⁻¹ : ℝ) : EReal) := by
      rw [Ideal.rsqrt_coe, if_neg (not_lt.mpr hv.le), if_neg hv.ne']
    refine ⟨(Real.sqrt v)⁻¹, inv_nonneg.mpr (Real.sqrt_nonneg v), hr, ?_⟩
    rw [hr, Ideal.div_coe hv.ne', ← EReal.coe_mul]
    congr 1
    have : Real.sqrt v * Real.sqrt v = v := Real.mul_self_sqrt hv.le
    have h0 : Real.sqrt v ≠ 0 := (Real.sqrt_pos.mpr hv).ne'
    rw [one_div, ← mul_inv, ← mul_inv, ← mul_inv, mul_comm, ← this]
    simp only [this]

/-- The gradient of the row, `a` the gradient of the scaled row. -/
def dx (j : Fin n) : EReal := scale x * (a j - x j * scale x * Ideal.div (∑ i, a i * (x i * scale x)) dim)

/-- What differentiating the square root's reciprocal leaves for every entry. -/
def slope : EReal := Ideal.div ((∑ i, x i * a i) * (Ideal.ofBits .f32 0xBF000000#32 * Ideal.div (scale x) (meanSq x))) dim

theorem dx_eq (j : Fin n) : a j * scale x + x j * slope x a + slope x a * x j = dx x a j := by
  obtain ⟨s, hs, h1, h3⟩ := scale_real x
  unfold dx slope
  rw [h3, h1, neg_half, div_dim, div_dim]
  have hS : ∑ i, a i * (x i * (s : EReal)) = s * ∑ i, x i * a i := by
    rw [mul_sum hs]
    exact Finset.sum_congr rfl fun i _ => by ac_rfl
  rw [hS]
  generalize (∑ i, x i * a i) = S
  have hd : (0 : ℝ) ≤ 1 / 2 * (s * s * s) * (1 / 1024) := by positivity
  have hq : S * (((-(1 / 2) : ℝ) : EReal) * ((s * s * s : ℝ) : EReal)) * ((1 / 1024 : ℝ) : EReal)
      = ((1 / 2 * (s * s * s) * (1 / 1024) : ℝ) : EReal) * -S := by
    rw [mul_neg, ← neg_mul, ← EReal.coe_neg, mul_comm _ S, mul_assoc, ← EReal.coe_mul, ← EReal.coe_mul]
    congr 2
    ring
  have hk : (s : EReal) * (x j * s * (s * S * ((1 / 1024 : ℝ) : EReal))) = ((s * s * s * (1 / 1024) : ℝ) : EReal) * (x j * S) := by
    rw [EReal.coe_mul, EReal.coe_mul, EReal.coe_mul]
    ac_rfl
  rw [hq, sub_eq_add_neg, mul_add hs, mul_comm (a j), add_assoc, mul_neg (s : EReal), hk, mul_comm _ (x j), mul_left_comm (x j),
    ← EReal.right_distrib_of_nonneg (EReal.coe_nonneg.mpr hd) (EReal.coe_nonneg.mpr hd), ← EReal.coe_add, mul_neg (x j), mul_neg]
  congr 4
  ring

/-! ## Sums made block by block -/

/-- An entry of the only block along an axis. -/
theorem at_zero (b k : ℕ) : k = 0 * b + k := by omega

/-- A sum to which every point adds its term is the sum of the terms. -/
theorem running {N : ℕ} {acc : (k : ℕ) → k < N → EReal} {q : Fin N → EReal} (h0 : ∀ h, acc 0 h = q ⟨0, h⟩)
    (hs : ∀ k (h : k + 1 < N), acc (k + 1) h = acc k (Nat.lt_of_succ_lt h) + q ⟨k + 1, h⟩) :
    ∀ k (h : k < N), acc k h = ∑ j : Fin (k + 1), q ⟨j.val, lt_of_lt_of_le j.isLt h⟩ := by
  intro k
  induction k with
  | zero => intro h; rw [h0, Fin.sum_univ_castSucc, Fin.sum_univ_zero, zero_add]; rfl
  | succ k ih => intro h; rw [hs, ih, Fin.sum_univ_castSucc (n := k + 1)]; rfl
end Cert.Rms
end
-- ==== Proof.NormValue.lean ====
/-
  RMSNorm: what the array of the call holds, entry by entry, and that the reference's array holds the same.
-/
module
public import proofs.«01_k».proof.Defs
public import proofs.«01_k».proof.Proof.Gen.NormIdeal.Value
public import proofs.«01_k».proof.Proof.Gen.RefNormIdeal.Run
public import proofs.«01_k».proof.Proof.Rms
@[expose] public section
noncomputable section
namespace Cert.Proof.Norm
open NormIdeal NormIdeal.Gen Idealize.ShloMosaic TcCoe Idealize.SL.Sem Cert.Products Cert.Rms
variable (m : (ℓ : Loc nD τ sig) → Buf (Elt Ideal) ℓ) (ρ : Dev nD → PrngReg) (c : Dev nD) (t : Fin cfg0.N) (r : Fin 384) (q : Fin 1024)
/-- The rows and the gain. -/
abbrev rows : Mat 4224 1024 := m ((c : Thread nD τ).loc main_arg0)
abbrev gain : Mat 1 1024 := m ((c : Thread nD τ).loc main_arg1)
/-- The scaled rows. -/
def out (x : Mat 4224 1024) (g : Mat 1 1024) : Mat 4224 1024 := fun i =>
  x (ix2 (i 0) (i 1)) * (scale fun k => x (ix2 (i 0) k)) * g (ix2 0 (i 1))
theorem pay1 (x : Mat 384 1024) (g : Mat 1 1024) :
    k0_pay1 (F := Ideal) x g (ix2 r q) = x (ix2 r q) * (scale fun k => x (ix2 r k)) * g (ix2 0 q) := by
  pointwise [k0_pay1]
  rfl
theorem points : t.val < 11 := lt_of_lt_of_eq t.isLt N_0
/-- Row `r` of the point's block, in the whole array. -/
abbrev at_ : Fin 4224 := ⟨t.val * 384 + r.val, by have := points t; omega⟩
theorem idx_facts : ∀ t : Fin cfg0.N, (win0_0.index t 0 = t.val ∧ win0_0.index t 1 = 0) ∧ (win0_1.index t 0 = 0 ∧ win0_1.index t 1 = 0)
    ∧ win0_2.index t 0 = t.val ∧ win0_2.index t 1 = 0 := by decide +kernel
theorem blk0 : (iblk m c 0 t : Mat 384 1024) (ix2 r q) = rows m c (ix2 (at_ t r) q) := by
  obtain ⟨⟨h0, h1⟩, -⟩ := idx_facts t
  exact congrArg (rows m c) (at_block h0 h1 rfl (at_zero _ _) rfl rfl)
theorem blk1 (z : Fin 1) : (iblk m c 1 t : Mat 1 1024) (ix2 z q) = gain m c (ix2 z q) := by
  obtain ⟨-, ⟨h0, h1⟩, -⟩ := idx_facts t
  exact congrArg (gain m c) (at_block h0 h1 (at_zero _ _) (at_zero _ _) rfl rfl)
theorem flushed : (dats m 0 c).flushed 2 t = ((cfg0.win 2).blk t).view.read (Elt Ideal) (out (rows m c) (gain m c)) := by
  rw [Value.flushed2]
  unfold out0_2
  rw [View.canon_unit_zero zeros]
  simp only [View.ld_unit_zero (S := S384x1024) zeros, View.ld_unit_zero (S := S1x1024) zeros]
  funext y
  obtain ⟨r, q, rfl⟩ : ∃ (r : Fin 384) (q : Fin 1024), y = ix2 r q := ⟨y 0, y 1, Idealize.ShloMosaic.eq_ix2 y⟩
  obtain ⟨-, -, h0, h1⟩ := idx_facts t
  have he : ((cfg0.win 2).blk t).view.emb (ix2 r q) = ix2 (at_ t r) q := at_block h0 h1 rfl (at_zero _ _) rfl rfl
  refine (pay1 r q _ _).trans (Eq.trans ?_ (congrArg (out _ _) he).symm)
  simp only [blk0, blk1]
  rfl
theorem final : (dats m 0 c).arrAt 2 cfg0.N = out (rows m c) (gain m c) :=
  (dats m 0 c).arrAt_eq_of_cover 2 _ (fun t _ => flushed m c t) fun i => by
    have hi0 : (i 0).val < 4224 := (i 0).isLt
    have hi1 : (i 1).val < 1024 := (i 1).isLt
    have ht : (i 0).val / 384 < cfg0.N := by rw [show cfg0.N = 11 from N_0]; omega
    refine ⟨⟨_, ht⟩, flush0_2 _, ?_⟩
    show i ∈ ((View.whole main_v0).slice (win0_2.rect ⟨_, ht⟩)).set
    rw [View.set_slice_whole]
    obtain ⟨-, -, h0, h1⟩ := idx_facts ⟨_, ht⟩
    exact mem_block h0 h1 rfl rfl (by dsimp only; omega) (by omega)
theorem agree : Cert.algebraic_NormIdeal_RefNormIdeal := by
  intro m g m' g' _ same
  refine ⟨fun c => out (rows m c) (gain m c),
    (θ_run defs _ _).mono (fun r h c => ⟨(h c).1.trans (final m c), (h c).2⟩) (Value.run_blocks m g),
    (θ_run RefNormIdeal.defs _ _).mono (fun r h c => ?_) (RefNormIdeal.Value.run (F := Ideal) m' g')⟩
  obtain ⟨s0, s1⟩ := same c
  refine ⟨(h c).1.trans ?_, (h c).2⟩
  rw [s0, s1]
  funext i
  obtain ⟨r, q, rfl⟩ : ∃ (r : Fin 4224) (q : Fin 1024), i = ix2 r q := ⟨i 0, i 1, Idealize.ShloMosaic.eq_ix2 i⟩
  pointwise
  rfl
-- ==== Proof.NormBwdValue.lean ====
/-
  The gradient of RMSNorm, added to the gradient that skips it, and the gradient of its gain.
-/
module
public import proofs.«01_k».proof.Defs
public import proofs.«01_k».proof.Proof.Gen.NormBwdIdeal.Value
public import proofs.«01_k».proof.Proof.Gen.RefNormBwdIdeal.Run
public import proofs.«01_k».proof.Proof.Rms
@[expose] public section
noncomputable section
namespace Cert.Proof.NormBwd
open NormBwdIdeal NormBwdIdeal.Gen Idealize.ShloMosaic TcCoe Idealize.SL.Sem Cert.Products Cert.Rms
section
variable (x y e : Mat 384 1024) (g : Mat 1 1024) (r : Fin 384) (q : Fin 1024)
theorem pay2 (z : Fin 1) : k0_pay2 (F := Ideal) x (ix2 r z) = scale fun k => x (ix2 r k) := by
  pointwise [k0_pay2]
  rfl
theorem pay3 : k0_pay3 (F := Ideal) x (ix2 r q) = x (ix2 r q) * scale fun k => x (ix2 r k) := by
  pointwise [k0_pay3, pay2]
theorem pay4 : k0_pay4 (F := Ideal) x y e g (ix2 r q)
    = dx (fun k => x (ix2 r k)) (fun k => y (ix2 r k) * g (ix2 0 k)) q + e (ix2 r q) := by
  pointwise [k0_pay4, pay2, pay3]
  rfl
theorem pay5 (z : Fin 1) : k0_pay5 (F := Ideal) x y (ix2 z q) = ∑ k : Fin 384, y (ix2 k q) * (x (ix2 k q) * scale fun j => x (ix2 k j)) := by
  pointwise [k0_pay5, pay3]
end
variable (m : (ℓ : Loc nD τ sig) → Buf (Elt Ideal) ℓ) (ρ : Dev nD → PrngReg) (c : Dev nD) (t : Fin cfg0.N)
/-- The rows, the gain, the gradient of the scaled rows and the gradient that skips them. -/
abbrev rows : Mat 4224 1024 := m ((c : Thread nD τ).loc main_arg0)
abbrev gain : Mat 1 1024 := m ((c : Thread nD τ).loc main_arg1)
abbrev grad : Mat 4224 1024 := m ((c : Thread nD τ).loc main_arg2)
abbrev skip : Mat 4224 1024 := m ((c : Thread nD τ).loc main_arg3)
/-- The gradient of the rows. -/
def outX (x : Mat 4224 1024) (g : Mat 1 1024) (y e : Mat 4224 1024) : Mat 4224 1024 := fun i =>
  dx (fun k => x (ix2 (i 0) k)) (fun k => y (ix2 (i 0) k) * g (ix2 0 k)) (i 1) + e (ix2 (i 0) (i 1))
/-- The gradient of the gain. -/
def outG (x y : Mat 4224 1024) : Mat 1 1024 := fun i =>
  ∑ k : Fin 4224, y (ix2 k (i 1)) * (x (ix2 k (i 1)) * scale fun j => x (ix2 k j))
theorem points : t.val < 11 := lt_of_lt_of_eq t.isLt N_0
/-- The row of the array that row `r` of the block at point `t` is. -/
abbrev at_ (r : Fin 384) : Fin 4224 := ⟨t.val * 384 + r.val, by have := points t; have := r.isLt; omega⟩
theorem idx_facts : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = 0 ∧ win0_5.index t (1 : Fin 2) = 0) :=
  (by decide +kernel : ∀ t : Fin grid0.N, _)
variable (r : Fin 384) (q : Fin 1024) (z : Fin 1)
theorem blk0 : (iblk m c 0 t : Mat 384 1024) (ix2 r q) = rows m c (ix2 (at_ t r) q) := by
  obtain ⟨⟨h0, h1⟩, -⟩ := idx_facts t
  exact congrArg (rows m c) (at_block h0 h1 rfl (at_zero _ _) rfl rfl)
theorem blk1 : (iblk m c 1 t : Mat 384 1024) (ix2 r q) = grad m c (ix2 (at_ t r) q) := by
  obtain ⟨-, ⟨h0, h1⟩, -⟩ := idx_facts t
  exact congrArg (grad m c) (at_block h0 h1 rfl (at_zero _ _) rfl rfl)
theorem blk2 : (iblk m c 2 t : Mat 384 1024) (ix2 r q) = skip m c (ix2 (at_ t r) q) := by
  obtain ⟨-, -, ⟨h0, h1⟩, -⟩ := idx_facts t
  exact congrArg (skip m c) (at_block h0 h1 rfl (at_zero _ _) rfl rfl)
theorem blk3 : (iblk m c 3 t : Mat 1 1024) (ix2 z q) = gain m c (ix2 z q) := by
  obtain ⟨-, -, -, ⟨h0, h1⟩, -⟩ := idx_facts t
  exact congrArg (gain m c) (at_block h0 h1 (at_zero _ _) (at_zero _ _) rfl rfl)

/-- The block of the gradient of the rows. -/
theorem left4 : (outsAt0 m c t.val t.isLt).1 = k0_pay4 (iblk m c 0 t) (iblk m c 1 t) (iblk m c 2 t) (iblk m c 3 t) := by
  have hN := points t
  by_cases h : t.val = 0
  · rw [outsAt0_A m c t (by omega) (by omega)]
    dsimp only
    unfold out0_A_4
    rw [View.read_writes_eq_canon _ _ _ (cover0_A_4 _ _ _ _ _ _ _ _ _ _ _ _ _ _ _ _ _ _ _ _)]
    unfold kernelRun0_A
    dsimp only
    rw [View.canon_unit_zero zeros]
    simp only [View.readAt_eq_ld, (hs0_0 t).read_unread, (hs0_1 t).read_unread, (hs0_2 t).read_unread, (hs0_3 t).read_unread, View.ld_unit_zero (S := S384x1024) zeros, View.ld_unit_zero (S := S1x1024) zeros]
  · rw [outsAt0_B m c t (by omega) (by omega)]
    dsimp only
    unfold out0_B_4
    rw [View.read_writes_eq_canon _ _ _ (cover0_B_4 _ _ _ _ _ _ _ _ _ _ _ _ _ _ _ _ _ _ _ _ _)]
    unfold kernelRun0_B
    dsimp only
    rw [View.canon_unit_zero zeros]
    simp only [View.readAt_eq_ld, (hs0_0 t).read_unread, (hs0_1 t).read_unread, (hs0_2 t).read_unread, (hs0_3 t).read_unread, View.ld_unit_zero (S := S384x1024) zeros, View.ld_unit_zero (S := S1x1024) zeros]
/-- The running sum of the gradient of the gain, at the first point. -/
theorem first5 (h : t.val = 0) : (outsAt0 m c t.val t.isLt).2 = k0_pay5 (iblk m c 0 t) (iblk m c 1 t) := by
  rw [outsAt0_A m c t (by omega) (by omega)]
  dsimp only
  unfold out0_A_5
  rw [View.read_writes_eq_canon _ _ _ (cover0_A_5 _ _ _ _ _ _ _ _ _ _ _ _ _ _ _ _ _ _ _ _)]
  unfold kernelRun0_A
  dsimp only
  rw [View.canon_unit_zero zeros]
  simp only [View.readAt_eq_ld, (hs0_0 t).read_unread, (hs0_1 t).read_unread, View.ld_unit_zero (S := S384x1024) zeros]
/-- … and at a later one. -/
theorem next5 (h : t.val ≠ 0) : (outsAt0 m c t.val t.isLt).2
    = k0_pay1 (k0_pay5 (iblk m c 0 t) (iblk m c 1 t)) (outsAt0 m c (t.val - 1) (Nat.lt_of_le_of_lt (Nat.sub_le _ _) t.isLt)).2 := by
  have hN := points t
  rw [outsAt0_B m c t (by omega) (by omega)]
  dsimp only
  unfold out0_B_5
  rw [View.read_writes_eq_canon _ _ _ (cover0_B_5 _ _ _ _ _ _ _ _ _ _ _ _ _ _ _ _ _ _ _ _ _)]
  unfold kernelRun0_B
  dsimp only
  sl_unfold_words
  rw [View.canon_unit_zero zeros]
  simp only [View.readAt_eq_ld, (hs0_0 t).read_unread, (hs0_1 t).read_unread, (hs0_5 t).read_unread, View.ld_unit_zero (S := S384x1024) zeros, View.ld_unit_zero (S := S1x1024) zeros]
theorem flushed4 : (dats m 0 c).flushed 4 t = ((cfg0.win 4).blk t).view.read (Elt Ideal) (outX (rows m c) (gain m c) (grad m c) (skip m c)) := by
  rw [Value.flushed4, left4]
  funext y
  obtain ⟨r, q, rfl⟩ : ∃ (r : Fin 384) (q : Fin 1024), y = ix2 r q := ⟨y 0, y 1, Idealize.ShloMosaic.eq_ix2 y⟩
  obtain ⟨-, -, -, -, ⟨h0, h1⟩, -⟩ := idx_facts t
  have he : ((cfg0.win 4).blk t).view.emb (ix2 r q) = ix2 (at_ t r) q := at_block h0 h1 rfl (at_zero _ _) rfl rfl
  refine (pay4 _ _ _ _ r q).trans (Eq.trans ?_ (congrArg (outX _ _ _ _) he).symm)
  simp only [blk0, blk1, blk2, blk3]
  rfl
/-- The running sum after the last point. -/
theorem last5 (h : t.val = 10) : (outsAt0 m c t.val t.isLt).2 (ix2 z q) = outG (rows m c) (grad m c) (ix2 z q) := by
  have hr := running (N := cfg0.N) (acc := fun k hk => (outsAt0 m c k hk).2 (ix2 z q))
    (q := fun t => ∑ r : Fin 384, grad m c (ix2 (at_ t r) q) * (rows m c (ix2 (at_ t r) q) * scale fun j => rows m c (ix2 (at_ t r) j)))
    (fun h0 => by
      rw [first5 m c ⟨0, h0⟩ rfl]
      refine (pay5 _ _ q z).trans ?_
      simp only [blk0, blk1])
    (fun k hk => by
      rw [next5 m c ⟨k + 1, hk⟩ (Nat.succ_ne_zero k)]
      refine Eq.trans (by pointwise [k0_pay1]; rfl) (congrArg (_ + ·) ((pay5 (iblk m c 0 ⟨k + 1, hk⟩) (iblk m c 1 ⟨k + 1, hk⟩) q z).trans ?_))
      simp only [blk0, blk1])
  obtain ⟨n, hn⟩ := t
  obtain rfl : n = 10 := h
  refine (hr 10 hn).trans ?_
  unfold outG
  rw [Fin.sum_univ_tiles 11 384 rfl]
  rfl
theorem flushed5 (hf : (cfg0.win 5).flush t = true) :
    (dats m 0 c).flushed 5 t = ((cfg0.win 5).blk t).view.read (Elt Ideal) (outG (rows m c) (grad m c)) := by
  have hN := points t
  have ht := (flush0_5 t).mp hf
  rw [Value.flushed5]
  funext y
  obtain ⟨z, q, rfl⟩ : ∃ (z : Fin 1) (q : Fin 1024), y = ix2 z q := ⟨y 0, y 1, Idealize.ShloMosaic.eq_ix2 y⟩
  obtain ⟨-, -, -, -, -, h0, h1⟩ := idx_facts t
  have he : ((cfg0.win 5).blk t).view.emb (ix2 z q) = ix2 z q := at_block h0 h1 (at_zero _ _) (at_zero _ _) rfl rfl
  exact (last5 m c t q z (by omega)).trans (congrArg (outG _ _) he).symm
theorem final4 : (dats m 0 c).arrAt 4 cfg0.N = outX (rows m c) (gain m c) (grad m c) (skip m c) :=
  (dats m 0 c).arrAt_eq_of_cover 4 _ (fun t _ => flushed4 m c t) fun i => by
    have hi0 : (i 0).val < 4224 := (i 0).isLt
    have hi1 : (i 1).val < 1024 := (i 1).isLt
    have ht : (i 0).val / 384 < cfg0.N := by rw [show cfg0.N = 11 from N_0]; omega
    refine ⟨⟨_, ht⟩, flush0_4 _, ?_⟩
    show i ∈ ((View.whole main_v0_0).slice (win0_4.rect ⟨_, ht⟩)).set
    rw [View.set_slice_whole]
    obtain ⟨-, -, -, -, ⟨h0, h1⟩, -⟩ := idx_facts ⟨_, ht⟩
    exact mem_block h0 h1 rfl rfl (by dsimp only; omega) (by omega)
theorem final5 : (dats m 0 c).arrAt 5 cfg0.N = outG (rows m c) (grad m c) :=
  (dats m 0 c).arrAt_eq_of_cover 5 _ (flushed5 m c) fun i => by
    have hi0 : (i 0).val < 1 := (i 0).isLt
    have hi1 : (i 1).val < 1024 := (i 1).isLt
    have ht : 10 < cfg0.N := by rw [show cfg0.N = 11 from N_0]; omega
    refine ⟨⟨_, ht⟩, (flush0_5 _).mpr rfl, ?_⟩
    show i ∈ ((View.whole main_v0_1).slice (win0_5.rect ⟨_, ht⟩)).set
    rw [View.set_slice_whole]
    obtain ⟨-, -, -, -, -, h0, h1⟩ := idx_facts ⟨_, ht⟩
    exact mem_block h0 h1 rfl rfl (by omega) (by omega)
theorem agree : Cert.algebraic_NormBwdIdeal_RefNormBwdIdeal := by
  intro m g m' g' _ same
  refine ⟨fun c => outX (rows m c) (gain m c) (grad m c) (skip m c), fun c => outG (rows m c) (grad m c),
    (θ_run defs _ _).mono (fun r h c => ⟨(h c).1.trans (final4 m c), (h c).2.1.trans (final5 m c), (h c).2.2⟩) (Value.run_blocks m g),
    (θ_run RefNormBwdIdeal.defs _ _).mono (fun r h c => ?_) (RefNormBwdIdeal.Value.run (F := Ideal) m' g')⟩
  obtain ⟨s0, s1, s2, s3⟩ := same c
  refine ⟨(h c).1.trans ?_, (h c).2.1.trans ?_, (h c).2.2⟩
  · rw [s0, s1, s2, s3]
    funext i
    obtain ⟨r, q, rfl⟩ : ∃ (r : Fin 4224) (q : Fin 1024), i = ix2 r q := ⟨i 0, i 1, Idealize.ShloMosaic.eq_ix2 i⟩
    pointwise
    rw [Fin.sum_univ_one]
    exact congrArg (· + _) (dx_eq (fun k => rows m c (ix2 r k)) (fun k => grad m c (ix2 r k) * gain m c (ix2 0 k)) q)
  · rw [s0, s2]
    funext i
    obtain ⟨z, q, rfl⟩ : ∃ (z : Fin 1) (q : Fin 1024), i = ix2 z q := ⟨i 0, i 1, Idealize.ShloMosaic.eq_ix2 i⟩
    pointwise
    exact Finset.sum_congr rfl fun k _ => mul_comm _ _
-- ==== Proof.LossValue.lean ====
/-
  The loss head: RMSNorm, half the summed mean squared error of the valid rows and its gradients.
-/
module
public import proofs.«01_k».proof.Defs
public import proofs.«01_k».proof.Proof.Gen.LossIdeal.Value
public import proofs.«01_k».proof.Proof.Gen.RefLossIdeal.Run
public import proofs.«01_k».proof.Proof.Rms
@[expose] public section
noncomputable section
namespace Cert.Proof.Loss
open LossIdeal LossIdeal.Gen Idealize.ShloMosaic TcCoe Idealize.SL.Sem Cert.Products Cert.Rms

abbrev c1024 : EReal := Ideal.ofBits .f32 0x3A800000#32
abbrev c2048 : EReal := Ideal.ofBits .f32 0x3A000000#32
abbrev half : EReal := Ideal.ofBits .f32 0x3F000000#32
theorem c1024_eq : c1024 = ((1 / 1024 : ℝ) : EReal) := by
  simp [c1024, Ideal.ofBits, Ideal.ieee, -EReal.coe_mul]; norm_num
theorem c2048_eq : c2048 = ((1 / 2048 : ℝ) : EReal) := by
  simp [c2048, Ideal.ofBits, Ideal.ieee, -EReal.coe_mul]; norm_num
theorem half_eq : half = ((1 / 2 : ℝ) : EReal) := by
  simp [half, Ideal.ofBits, Ideal.ieee, -EReal.coe_mul]; norm_num
theorem two_eq : Ideal.ofBits .f32 0x40000000#32 = ((2 : ℝ) : EReal) := by
  simp [Ideal.ofBits, Ideal.ieee, -EReal.coe_mul]; norm_num
/-- The factor of an error in its gradient. -/
theorem of_square (a : EReal) : Ideal.div half dim * (Ideal.ofBits .f32 0x40000000#32 * a) = a * c1024 := by
  rw [half_eq, two_eq, c1024_eq, div_dim, ← mul_assoc, ← EReal.coe_mul, ← EReal.coe_mul, mul_comm]
  congr 2
  norm_num
/-- The factor of the squares' sum in the loss. -/
theorem of_rows {n : ℕ} (S : Fin n → EReal) : half * ∑ r, Ideal.div (S r) dim = c2048 * ∑ r, S r := by
  simp only [div_dim, mul_comm _ ((1 / 1024 : ℝ) : EReal)]
  rw [← mul_sum (by norm_num), ← mul_assoc, half_eq, c2048_eq, ← EReal.coe_mul]
  congr 2
  norm_num
/-- The error of an entry: nothing outside the valid rows. -/
def err (x : Mat 4224 1024) (g : Mat 1 1024) (y : Mat 4224 1024) (r : Fin 4224) (q : Fin 1024) : EReal :=
  if 16 ≤ r.val ∧ r.val < 4112 then x (ix2 r q) * (scale fun k => x (ix2 r k)) * g (ix2 0 q) - y (ix2 r q) else 0
/-- The gradient of an error, as the reference pads it to all rows. -/
theorem grad_err (x : Mat 4224 1024) (g : Mat 1 1024) (y : Mat 4224 1024) (r : Fin 4224) (q : Fin 1024) :
    (if h : 16 ≤ r.val ∧ r.val - 16 < 4096 then Ideal.div half dim * (Ideal.ofBits .f32 0x40000000#32
        * (x (ix2 ⟨16 + (r.val - 16), by omega⟩ q) * Ideal.rsqrt (Ideal.div (∑ k, x (ix2 ⟨16 + (r.val - 16), by omega⟩ k)
          * x (ix2 ⟨16 + (r.val - 16), by omega⟩ k)) dim + eps) * g (ix2 0 q) - y (ix2 ⟨16 + (r.val - 16), by omega⟩ q))) else 0)
      = err x g y r q * c1024 := by
  unfold err
  by_cases h : 16 ≤ r.val ∧ r.val - 16 < 4096
  · have hr : ∀ p, (⟨16 + (r.val - 16), p⟩ : Fin 4224) = r := fun p => Fin.ext (by dsimp only; omega)
    rw [dif_pos h, if_pos (by omega), of_square]
    simp only [hr]
    rfl
  · rw [dif_neg h, if_neg (by omega), zero_mul]
/-- The valid rows in the whole. -/
theorem sum_valid (f : Fin 4224 → EReal) (h : ∀ r, ¬(16 ≤ r.val ∧ r.val < 4112) → f r = 0) :
    ∑ r, f r = ∑ r : Fin 4096, f ⟨16 + r.val, by omega⟩ := by
  refine (Fin.sum_univ_add (a := 16) (b := 4208) f).trans ?_
  rw [Finset.sum_eq_zero fun r _ => h _ (by simp only [Fin.val_castAdd]; omega), zero_add]
  refine (Fin.sum_univ_add (a := 4096) (b := 112) _).trans ?_
  rw [add_comm, Finset.sum_eq_zero fun r _ => h _ (by simp only [Fin.val_natAdd]; omega), zero_add]
  rfl
theorem valid : ∀ (t : Fin 11) (r : Fin 384),
    IntOp.andi (IntOp.cmpi .sge (IntOp.addi (BitVec.ofNat 32 r.val) (Scalar.muli (BitVec.ofNat 32 t.val) 384#32)) 16#32)
      (IntOp.cmpi .slt (IntOp.addi (BitVec.ofNat 32 r.val) (Scalar.muli (BitVec.ofNat 32 t.val) 384#32)) 4112#32)
    = if 16 ≤ t.val * 384 + r.val ∧ t.val * 384 + r.val < 4112 then 1#1 else 0#1 := by decide +kernel
section
variable (x y e d : Mat 384 1024) (g : Mat 1 1024) (i : grid0.Coords) (r : Fin 384) (q : Fin 1024) (z : Fin 1)
theorem pay5 : k0_pay5 (F := Ideal) x (ix2 r z) = scale fun k => x (ix2 r k) := by
  pointwise [k0_pay5]
  rfl
theorem pay6 : k0_pay6 (F := Ideal) x (ix2 r q) = x (ix2 r q) * scale fun k => x (ix2 r k) := by
  pointwise [k0_pay6, pay5]
theorem pay7 : k0_pay7 (F := Ideal) i x g y (ix2 r q) = if 16 ≤ (i 0).val * 384 + r.val ∧ (i 0).val * 384 + r.val < 4112
    then x (ix2 r q) * (scale fun k => x (ix2 r k)) * g (ix2 0 q) - y (ix2 r q) else 0 := by
  pointwise [k0_pay7, pay6]
  rw [valid (i 0) r]
  split <;> rfl
theorem pay9 : k0_pay9 (F := Ideal) i x g y (ix2 r q)
    = dx (fun k => x (ix2 r k)) (fun k => k0_pay7 (F := Ideal) i x g y (ix2 r k) * c1024 * g (ix2 0 k)) q := by
  pointwise [k0_pay9, k0_pay8, pay5, pay6]
  rfl
theorem pay1 (z' : Fin 1) : k0_pay1 (F := Ideal) e (ix2 z z') = c2048 * ∑ r : Fin 384, ∑ k : Fin 1024, e (ix2 r k) * e (ix2 r k) := by
  pointwise [k0_pay1]
theorem pay2 : k0_pay2 (F := Ideal) (k0_pay6 (F := Ideal) x) (k0_pay8 (F := Ideal) i x g y) (ix2 z q)
    = ∑ r : Fin 384, k0_pay7 (F := Ideal) i x g y (ix2 r q) * c1024 * (x (ix2 r q) * scale fun k => x (ix2 r k)) := by
  pointwise [k0_pay2, k0_pay8, pay6]
end
variable (m : (ℓ : Loc nD τ sig) → Buf (Elt Ideal) ℓ) (ρ : Dev nD → PrngReg) (c : Dev nD) (t : Fin cfg0.N)
/-- The rows, the gain and the target. -/
abbrev rows : Mat 4224 1024 := m ((c : Thread nD τ).loc main_arg0)
abbrev gain : Mat 1 1024 := m ((c : Thread nD τ).loc main_arg1)
abbrev target : Mat 4224 1024 := m ((c : Thread nD τ).loc main_arg2)
/-- The loss. -/
def outL (x : Mat 4224 1024) (g : Mat 1 1024) (y : Mat 4224 1024) : Mat 1 1 := fun _ =>
  c2048 * ∑ r : Fin 4224, ∑ k : Fin 1024, err x g y r k * err x g y r k
/-- The gradient of the rows. -/
def outX (x : Mat 4224 1024) (g : Mat 1 1024) (y : Mat 4224 1024) : Mat 4224 1024 := fun i =>
  dx (fun k => x (ix2 (i 0) k)) (fun k => err x g y (i 0) k * c1024 * g (ix2 0 k)) (i 1)
/-- The gradient of the gain. -/
def outG (x : Mat 4224 1024) (g : Mat 1 1024) (y : Mat 4224 1024) : Mat 1 1024 := fun i =>
  ∑ r : Fin 4224, err x g y r (i 1) * c1024 * (x (ix2 r (i 1)) * scale fun k => x (ix2 r k))
theorem points : t.val < 11 := lt_of_lt_of_eq t.isLt N_0
/-- Row `r` of the point's block, in the whole array. -/
abbrev at_ (r : Fin 384) : Fin 4224 := ⟨t.val * 384 + r.val, by have := points t; omega⟩
theorem idx_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0)
    ∧ (grid0.coords t 0).val = t.val := by decide +kernel
variable (r : Fin 384) (q : Fin 1024) (z : Fin 1)
theorem blk0 : (iblk m c 0 t : Mat 384 1024) (ix2 r q) = rows m c (ix2 (at_ t r) q) := by
  obtain ⟨⟨h0, h1⟩, -⟩ := idx_facts t
  exact congrArg (rows m c) (at_block h0 h1 rfl (at_zero _ _) rfl rfl)
theorem blk1 : (iblk m c 1 t : Mat 384 1024) (ix2 r q) = target m c (ix2 (at_ t r) q) := by
  obtain ⟨-, ⟨h0, h1⟩, -⟩ := idx_facts t
  exact congrArg (target m c) (at_block h0 h1 rfl (at_zero _ _) rfl rfl)
theorem blk2 : (iblk m c 2 t : Mat 1 1024) (ix2 z q) = gain m c (ix2 z q) := by
  obtain ⟨-, -, ⟨h0, h1⟩, -⟩ := idx_facts t
  exact congrArg (gain m c) (at_block h0 h1 (at_zero _ _) (at_zero _ _) rfl rfl)
/-- The errors of the point's rows. -/
theorem err_blk : k0_pay7 (F := Ideal) (grid0.coords t) (iblk m c 0 t) (iblk m c 2 t) (iblk m c 1 t) (ix2 r q)
    = err (rows m c) (gain m c) (target m c) (at_ t r) q := by
  obtain ⟨-, -, -, -, -, -, ht⟩ := idx_facts t
  rw [pay7, ht]
  simp only [blk0, blk1, blk2]
  rfl

/-- The block of the gradient of the rows. -/
theorem left4 : (outsAt0 m c t.val t.isLt).2.1 = k0_pay9 (grid0.coords t) (iblk m c 0 t) (iblk m c 2 t) (iblk m c 1 t) := by
  have hN := points t
  by_cases h : t.val = 0
  · rw [outsAt0_A m c t (by omega) (by omega)]
    dsimp only
    unfold out0_A_4
    rw [View.read_writes_eq_canon _ _ _ (cover0_A_4 _ _ _ _ _ _ _ _ _ _ _ _ _ _ _ _ _ _ _)]
    unfold kernelRun0_A
    dsimp only
    sl_unfold_words
    rw [View.canon_unit_zero zeros]
    simp only [View.readAt_eq_ld, (hs0_0 t).read_unread, (hs0_1 t).read_unread, (hs0_2 t).read_unread, View.ld_unit_zero (S := S384x1024) zeros, View.ld_unit_zero (S := S1x1024) zeros]
  · rw [outsAt0_B m c t (by omega) (by omega)]
    dsimp only
    unfold out0_B_4
    rw [View.read_writes_eq_canon _ _ _ (cover0_B_4 _ _ _ _ _ _ _ _ _ _ _ _ _ _ _ _ _ _ _ _ _)]
    unfold kernelRun0_B
    dsimp only
    sl_unfold_words
    rw [View.canon_unit_zero zeros]
    simp only [View.readAt_eq_ld, (hs0_0 t).read_unread, (hs0_1 t).read_unread, (hs0_2 t).read_unread, View.ld_unit_zero (S := S384x1024) zeros, View.ld_unit_zero (S := S1x1024) zeros]
/-- The running sums at the first point: the loss … -/
theorem first3 (h : t.val = 0) : (outsAt0 m c t.val t.isLt).1 = k0_pay1 (k0_pay7 (grid0.coords t) (iblk m c 0 t) (iblk m c 2 t) (iblk m c 1 t)) := by
  rw [outsAt0_A m c t (by omega) (by omega)]
  dsimp only
  unfold out0_A_3
  rw [View.read_writes_eq_canon _ _ _ (cover0_A_3 _ _ _ _ _ _ _ _ _ _ _ _ _ _ _ _ _ _ _)]
  unfold kernelRun0_A
  dsimp only
  sl_unfold_words
  rw [View.canon_unit_zero zeros]
  simp only [View.readAt_eq_ld, (hs0_0 t).read_unread, (hs0_1 t).read_unread, (hs0_2 t).read_unread, View.ld_unit_zero (S := S384x1024) zeros, View.ld_unit_zero (S := S1x1024) zeros]
/-- … and the gradient of the gain, -/
theorem first5 (h : t.val = 0) : (outsAt0 m c t.val t.isLt).2.2 = k0_pay2 (k0_pay6 (iblk m c 0 t)) (k0_pay8 (grid0.coords t) (iblk m c 0 t) (iblk m c 2 t) (iblk m c 1 t)) := by
  rw [outsAt0_A m c t (by omega) (by omega)]
  dsimp only
  unfold out0_A_5
  rw [View.read_writes_eq_canon _ _ _ (cover0_A_5 _ _ _ _ _ _ _ _ _ _ _ _ _ _ _ _ _ _ _)]
  unfold kernelRun0_A
  dsimp only
  sl_unfold_words
  rw [View.canon_unit_zero zeros]
  simp only [View.readAt_eq_ld, (hs0_0 t).read_unread, (hs0_1 t).read_unread, (hs0_2 t).read_unread, View.ld_unit_zero (S := S384x1024) zeros, View.ld_unit_zero (S := S1x1024) zeros]
/-- and at a later one. -/
theorem next3 (h : t.val ≠ 0) : (outsAt0 m c t.val t.isLt).1 = k0_pay3 (k0_pay7 (grid0.coords t) (iblk m c 0 t) (iblk m c 2 t) (iblk m c 1 t)) (outsAt0 m c (t.val - 1) (Nat.lt_of_le_of_lt (Nat.sub_le _ _) t.isLt)).1 := by
  have hN := points t
  rw [outsAt0_B m c t (by omega) (by omega)]
  dsimp only
  unfold out0_B_3
  rw [View.read_writes_eq_canon _ _ _ (cover0_B_3 _ _ _ _ _ _ _ _ _ _ _ _ _ _ _ _ _ _ _ _ _)]
  unfold kernelRun0_B
  dsimp only
  sl_unfold_words
  rw [View.canon_unit_zero zeros]
  simp only [View.readAt_eq_ld, (hs0_0 t).read_unread, (hs0_1 t).read_unread, (hs0_2 t).read_unread, (hs0_3 t).read_unread, View.ld_unit_zero (S := S1x1) zeros, View.ld_unit_zero (S := S384x1024) zeros, View.ld_unit_zero (S := S1x1024) zeros]
theorem next5 (h : t.val ≠ 0) : (outsAt0 m c t.val t.isLt).2.2 = k0_pay4 (k0_pay6 (iblk m c 0 t)) (k0_pay8 (grid0.coords t) (iblk m c 0 t) (iblk m c 2 t) (iblk m c 1 t)) (outsAt0 m c (t.val - 1) (Nat.lt_of_le_of_lt (Nat.sub_le _ _) t.isLt)).2.2 := by
  have hN := points t
  rw [outsAt0_B m c t (by omega) (by omega)]
  dsimp only
  unfold out0_B_5
  rw [View.read_writes_eq_canon _ _ _ (cover0_B_5 _ _ _ _ _ _ _ _ _ _ _ _ _ _ _ _ _ _ _ _ _)]
  unfold kernelRun0_B
  dsimp only
  sl_unfold_words
  rw [View.canon_unit_zero zeros]
  simp only [View.readAt_eq_ld, (hs0_0 t).read_unread, (hs0_1 t).read_unread, (hs0_2 t).read_unread, (hs0_5 t).read_unread, View.ld_unit_zero (S := S384x1024) zeros, View.ld_unit_zero (S := S1x1024) zeros]
theorem flushed4 : (dats m 0 c).flushed 4 t = ((cfg0.win 4).blk t).view.read (Elt Ideal) (outX (rows m c) (gain m c) (target m c)) := by
  rw [Value.flushed4, left4]
  funext y
  obtain ⟨r, q, rfl⟩ : ∃ (r : Fin 384) (q : Fin 1024), y = ix2 r q := ⟨y 0, y 1, Idealize.ShloMosaic.eq_ix2 y⟩
  obtain ⟨-, -, -, -, ⟨h0, h1⟩, -⟩ := idx_facts t
  have he : ((cfg0.win 4).blk t).view.emb (ix2 r q) = ix2 (at_ t r) q := at_block h0 h1 rfl (at_zero _ _) rfl rfl
  refine (pay9 _ _ _ _ r q).trans (Eq.trans ?_ (congrArg (outX _ _ _) he).symm)
  simp only [err_blk, blk0, blk2]
  rfl
/-- The running sums after the last point. -/
theorem last3 (h : t.val = 10) (z' : Fin 1) : (outsAt0 m c t.val t.isLt).1 (ix2 z z') = outL (rows m c) (gain m c) (target m c) (ix2 z z') := by
  have hr := running (N := cfg0.N) (acc := fun k hk => (outsAt0 m c k hk).1 (ix2 z z'))
    (q := fun t => c2048 * ∑ r : Fin 384, ∑ k : Fin 1024, err (rows m c) (gain m c) (target m c) (at_ t r) k * err (rows m c) (gain m c) (target m c) (at_ t r) k)
    (fun h0 => by
      rw [first3 m c ⟨0, h0⟩ rfl]
      refine (pay1 _ z z').trans ?_
      simp only [err_blk])
    (fun k hk => by
      rw [next3 m c ⟨k + 1, hk⟩ (Nat.succ_ne_zero k)]
      refine Eq.trans (by pointwise [k0_pay3]; rfl) (congrArg (_ + ·) ((pay1 (k0_pay7 (grid0.coords ⟨k + 1, hk⟩) (iblk m c 0 ⟨k + 1, hk⟩) (iblk m c 2 ⟨k + 1, hk⟩) (iblk m c 1 ⟨k + 1, hk⟩)) z z').trans ?_))
      simp only [err_blk])
  obtain ⟨n, hn⟩ := t
  obtain rfl : n = 10 := h
  refine (hr 10 hn).trans ?_
  unfold outL
  rw [Fin.sum_univ_tiles 11 384 rfl, c2048_eq, mul_sum (by norm_num)]
theorem last5 (h : t.val = 10) : (outsAt0 m c t.val t.isLt).2.2 (ix2 z q) = outG (rows m c) (gain m c) (target m c) (ix2 z q) := by
  have hr := running (N := cfg0.N) (acc := fun k hk => (outsAt0 m c k hk).2.2 (ix2 z q))
    (q := fun t => ∑ r : Fin 384, err (rows m c) (gain m c) (target m c) (at_ t r) q * c1024 * (rows m c (ix2 (at_ t r) q) * scale fun k => rows m c (ix2 (at_ t r) k)))
    (fun h0 => by
      rw [first5 m c ⟨0, h0⟩ rfl]
      refine (pay2 _ _ _ _ q z).trans ?_
      simp only [err_blk, blk0])
    (fun k hk => by
      rw [next5 m c ⟨k + 1, hk⟩ (Nat.succ_ne_zero k)]
      refine Eq.trans (by pointwise [k0_pay4]; rfl) (congrArg (_ + ·) ((pay2 (iblk m c 0 ⟨k + 1, hk⟩) (iblk m c 1 ⟨k + 1, hk⟩) (iblk m c 2 ⟨k + 1, hk⟩) (grid0.coords ⟨k + 1, hk⟩) q z).trans ?_))
      simp only [err_blk, blk0])
  obtain ⟨n, hn⟩ := t
  obtain rfl : n = 10 := h
  refine (hr 10 hn).trans ?_
  unfold outG
  rw [Fin.sum_univ_tiles 11 384 rfl]
  rfl
theorem flushed3 (hf : (cfg0.win 3).flush t = true) : (dats m 0 c).flushed 3 t = ((cfg0.win 3).blk t).view.read (Elt Ideal) (outL (rows m c) (gain m c) (target m c)) := by
  have hN := points t
  have ht := (flush0_3 t).mp hf
  rw [Value.flushed3]
  funext y
  obtain ⟨z, q, rfl⟩ : ∃ (z : Fin 1) (q : Fin 1), y = ix2 z q := ⟨y 0, y 1, Idealize.ShloMosaic.eq_ix2 y⟩
  obtain ⟨-, -, -, ⟨h0, h1⟩, -⟩ := idx_facts t
  have he : ((cfg0.win 3).blk t).view.emb (ix2 z q) = ix2 z q := at_block h0 h1 (at_zero _ _) (at_zero _ _) rfl rfl
  exact (last3 m c t z (by omega) q).trans (congrArg (outL _ _ _) he).symm
theorem flushed5 (hf : (cfg0.win 5).flush t = true) : (dats m 0 c).flushed 5 t = ((cfg0.win 5).blk t).view.read (Elt Ideal) (outG (rows m c) (gain m c) (target m c)) := by
  have hN := points t
  have ht := (flush0_5 t).mp hf
  rw [Value.flushed5]
  funext y
  obtain ⟨z, q, rfl⟩ : ∃ (z : Fin 1) (q : Fin 1024), y = ix2 z q := ⟨y 0, y 1, Idealize.ShloMosaic.eq_ix2 y⟩
  obtain ⟨-, -, -, -, -, ⟨h0, h1⟩, -⟩ := idx_facts t
  have he : ((cfg0.win 5).blk t).view.emb (ix2 z q) = ix2 z q := at_block h0 h1 (at_zero _ _) (at_zero _ _) rfl rfl
  exact (last5 m c t q z (by omega)).trans (congrArg (outG _ _ _) he).symm
theorem final4 : (dats m 0 c).arrAt 4 cfg0.N = outX (rows m c) (gain m c) (target m c) :=
  (dats m 0 c).arrAt_eq_of_cover 4 _ (fun t _ => flushed4 m c t) fun i => by
    have hi0 : (i 0).val < 4224 := (i 0).isLt
    have hi1 : (i 1).val < 1024 := (i 1).isLt
    have ht : (i 0).val / 384 < cfg0.N := by rw [show cfg0.N = 11 from N_0]; omega
    refine ⟨⟨_, ht⟩, flush0_4 _, ?_⟩
    show i ∈ ((View.whole main_v0_1).slice (win0_4.rect ⟨_, ht⟩)).set
    rw [View.set_slice_whole]
    obtain ⟨-, -, -, -, ⟨h0, h1⟩, -⟩ := idx_facts ⟨_, ht⟩
    exact mem_block h0 h1 rfl rfl (by dsimp only; omega) (by omega)
theorem final3 : (dats m 0 c).arrAt 3 cfg0.N = outL (rows m c) (gain m c) (target m c) :=
  (dats m 0 c).arrAt_eq_of_cover 3 _ (flushed3 m c) fun i => by
    have hi0 : (i 0).val < 1 := (i 0).isLt
    have hi1 : (i 1).val < 1 := (i 1).isLt
    have ht : 10 < cfg0.N := by rw [show cfg0.N = 11 from N_0]; omega
    refine ⟨⟨_, ht⟩, (flush0_3 _).mpr rfl, ?_⟩
    show i ∈ ((View.whole main_v0_0).slice (win0_3.rect ⟨_, ht⟩)).set
    rw [View.set_slice_whole]
    obtain ⟨-, -, -, ⟨h0, h1⟩, -⟩ := idx_facts ⟨_, ht⟩
    exact mem_block h0 h1 rfl rfl (by omega) (by omega)
theorem final5 : (dats m 0 c).arrAt 5 cfg0.N = outG (rows m c) (gain m c) (target m c) :=
  (dats m 0 c).arrAt_eq_of_cover 5 _ (flushed5 m c) fun i => by
    have hi0 : (i 0).val < 1 := (i 0).isLt
    have hi1 : (i 1).val < 1024 := (i 1).isLt
    have ht : 10 < cfg0.N := by rw [show cfg0.N = 11 from N_0]; omega
    refine ⟨⟨_, ht⟩, (flush0_5 _).mpr rfl, ?_⟩
    show i ∈ ((View.whole main_v0_2).slice (win0_5.rect ⟨_, ht⟩)).set
    rw [View.set_slice_whole]
    obtain ⟨-, -, -, -, -, ⟨h0, h1⟩, -⟩ := idx_facts ⟨_, ht⟩
    exact mem_block h0 h1 rfl rfl (by omega) (by omega)
theorem agree : Cert.algebraic_LossIdeal_RefLossIdeal := by
  intro m g m' g' _ same
  refine ⟨fun c => outL (rows m c) (gain m c) (target m c), fun c => outX (rows m c) (gain m c) (target m c), fun c => outG (rows m c) (gain m c) (target m c),
    (θ_run defs _ _).mono (fun r h c => ⟨(h c).1.trans (final3 m c), (h c).2.1.trans (final4 m c), (h c).2.2.1.trans (final5 m c), (h c).2.2.2⟩)
      (Value.run_blocks m g),
    (θ_run RefLossIdeal.defs _ _).mono (fun r h c => ?_) (RefLossIdeal.Value.run (F := Ideal) m' g')⟩
  obtain ⟨s0, s1, s2⟩ := same c
  refine ⟨(h c).1.trans ?_, (h c).2.1.trans ?_, (h c).2.2.1.trans ?_, (h c).2.2.2⟩
  · rw [s0, s1, s2]
    funext i
    obtain ⟨z, z', rfl⟩ : ∃ (z : Fin 1) (z' : Fin 1), i = ix2 z z' := ⟨i 0, i 1, Idealize.ShloMosaic.eq_ix2 i⟩
    pointwise
    rw [of_rows]
    unfold outL
    rw [sum_valid _ fun r hr => Finset.sum_eq_zero fun k _ => by unfold err; rw [if_neg hr, zero_mul]]
    refine congrArg (c2048 * ·) (Finset.sum_congr rfl fun r _ => Finset.sum_congr rfl fun k _ => ?_)
    unfold err
    rw [if_pos ⟨by dsimp only; omega, by dsimp only; omega⟩]
    rfl
  · unfold RefLossIdeal.Value.res_main_v51
    rw [s0, s1, s2]
    funext i
    obtain ⟨r, q, rfl⟩ : ∃ (r : Fin 4224) (q : Fin 1024), i = ix2 r q := ⟨i 0, i 1, Idealize.ShloMosaic.eq_ix2 i⟩
    pointwise
    rw [Fin.sum_univ_one]
    have h := dx_eq (fun k => rows m c (ix2 r k)) (fun k => err (rows m c) (gain m c) (target m c) r k * c1024 * gain m c (ix2 0 k)) q
    simp only [grad_err (rows m c) (gain m c) (target m c) r]
    exact h
  · rw [s0, s1, s2]
    funext i
    obtain ⟨z, q, rfl⟩ : ∃ (z : Fin 1) (q : Fin 1024), i = ix2 z q := ⟨i 0, i 1, Idealize.ShloMosaic.eq_ix2 i⟩
    pointwise
    refine Finset.sum_congr rfl fun r _ => ?_
    exact (congrArg (_ * ·) (grad_err (rows m c) (gain m c) (target m c) r q)).trans (mul_comm _ _)
-- ==== Proof.GluGatesValue.lean ====
/-
  The gradients of the two halves of the gated unit: what the arrays of the call hold, and that the reference's hold the
  same.
-/
module
public import proofs.«01_k».proof.Defs
public import proofs.«01_k».proof.Proof.Gen.GluGatesIdeal.Value
public import proofs.«01_k».proof.Proof.Gen.RefGluGatesIdeal.Run
public import proofs.«01_k».proof.Proof.Rms
@[expose] public section
noncomputable section
namespace Cert.Proof.GluGates
open GluGatesIdeal GluGatesIdeal.Gen Idealize.ShloMosaic TcCoe Idealize.SL.Sem Cert.Products
/-- The gradient of the ungated half, and of the gate. -/
def outV (a g : Mat 4224 1024) : Mat 4224 1024 := fun i => a i * sig (g i)
def outG (a v g : Mat 4224 1024) : Mat 4224 1024 := fun i => a i * v i * sig (g i) * (1 - sig (g i))
theorem kernel_V (a g : Mat 4224 1024) : Value.G3 (F := Ideal) a g = outV a g := by
  funext i
  pointwise [Value.G3]
  rw [sub_eq_add_neg, zero_add]
  rfl
theorem kernel_G (a v g : Mat 4224 1024) : Value.G4 (F := Ideal) a v g = outG a v g := by
  funext i
  pointwise [Value.G4]
  rw [sub_eq_add_neg 0, zero_add]
  rfl
theorem gate_swap (v a s w : EReal) : v * a * (s * w) = a * v * s * w := by rw [mul_comm v a, ← mul_assoc]
theorem agree : Cert.algebraic_GluGatesIdeal_RefGluGatesIdeal := by
  intro m g m' g' _ same
  refine ⟨fun c => outV (m ((c : Thread nD τ).loc main_arg0)) (m ((c : Thread nD τ).loc main_arg2)),
    fun c => outG (m ((c : Thread nD τ).loc main_arg0)) (m ((c : Thread nD τ).loc main_arg1)) (m ((c : Thread nD τ).loc main_arg2)),
    (θ_run defs _ _).mono (fun r h c => ⟨(h c).1.trans (kernel_V _ _), (h c).2.1.trans (kernel_G _ _ _), (h c).2.2⟩) (Value.run m g),
    (θ_run RefGluGatesIdeal.defs _ _).mono (fun r h c => ?_) (RefGluGatesIdeal.Value.run (F := Ideal) m' g')⟩
  obtain ⟨s0, s1, s2⟩ := same c
  refine ⟨(h c).1.trans ?_, (h c).2.1.trans ?_, (h c).2.2⟩
  · rw [s0, s2]
    funext i
    pointwise
    rfl
  · rw [s0, s1, s2]
    funext i
    pointwise
    exact gate_swap _ _ _ _
-- ==== Proof.GeluValue.lean ====
/-
  The skip and GELU behind the scan: what the array of the call holds, entry by entry, and that the reference's array
  holds the same.
-/
module
public import proofs.«01_k».proof.Defs
public import proofs.«01_k».proof.Proof.Gen.GeluIdeal.Value
public import proofs.«01_k».proof.Proof.Gen.RefGeluIdeal.Run
public import proofs.«01_k».proof.Proof.Rms
@[expose] public section
noncomputable section
namespace Cert.Proof.Gelu
open GeluIdeal GeluIdeal.Gen Idealize.ShloMosaic TcCoe Idealize.SL.Sem Cert.Products Cert.Rms
variable (m : (ℓ : Loc nD τ sig) → Buf (Elt Ideal) ℓ) (ρ : Dev nD → PrngReg) (c : Dev nD) (t : Fin cfg0.N) (r : Fin 384) (q : Fin 1024)
/-- The scan's output, its input and the skip's weights. -/
abbrev rows : Mat 4224 1024 := m ((c : Thread nD τ).loc main_arg0)
abbrev ins : Mat 4224 1024 := m ((c : Thread nD τ).loc main_arg1)
abbrev wts : Mat 1 1024 := m ((c : Thread nD τ).loc main_arg2)
/-- GELU of one entry, its constants the programs' words. -/
def gelu (s : EReal) : EReal := s * (Ideal.ofBits .f32 0x3F000000#32 * (1 + Ideal.tanh (Ideal.ofBits .f32 0x3F4C422A#32 *
  (s + Ideal.ofBits .f32 0x3D372713#32 * (s * s * s)))))
def out (y u : Mat 4224 1024) (d : Mat 1 1024) : Mat 4224 1024 := fun i => gelu (y (ix2 (i 0) (i 1)) + d (ix2 0 (i 1)) * u (ix2 (i 0) (i 1)))
theorem pay1 (y u : Mat 384 1024) (d : Mat 1 1024) :
    k0_pay1 (F := Ideal) y u d (ix2 r q) = gelu (y (ix2 r q) + d (ix2 0 q) * u (ix2 r q)) := by
  pointwise [k0_pay1]
  generalize (y (ix2 r q) + d (ix2 0 q) * u (ix2 r q) : EReal) = s
  unfold gelu
  simp only [mul_assoc, mul_left_comm s]
theorem points : t.val < 11 := lt_of_lt_of_eq t.isLt N_0
/-- Row `r` of the point's block, in the whole array. -/
abbrev at_ : Fin 4224 := ⟨t.val * 384 + r.val, by have := points t; omega⟩
theorem idx_facts : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ win0_3.index t 0 = t.val ∧ win0_3.index t 1 = 0 := by decide +kernel
theorem blk0 : (iblk m c 0 t : Mat 384 1024) (ix2 r q) = rows m c (ix2 (at_ t r) q) := by
  obtain ⟨⟨h0, h1⟩, -⟩ := idx_facts t
  exact congrArg (rows m c) (at_block h0 h1 rfl (at_zero _ _) rfl rfl)
theorem blk1 : (iblk m c 1 t : Mat 384 1024) (ix2 r q) = ins m c (ix2 (at_ t r) q) := by
  obtain ⟨-, ⟨h0, h1⟩, -⟩ := idx_facts t
  exact congrArg (ins m c) (at_block h0 h1 rfl (at_zero _ _) rfl rfl)
theorem blk2 (z : Fin 1) : (iblk m c 2 t : Mat 1 1024) (ix2 z q) = wts m c (ix2 z q) := by
  obtain ⟨-, -, ⟨h0, h1⟩, -⟩ := idx_facts t
  exact congrArg (wts m c) (at_block h0 h1 (at_zero _ _) (at_zero _ _) rfl rfl)
theorem flushed : (dats m 0 c).flushed 3 t = ((cfg0.win 3).blk t).view.read (Elt Ideal) (out (rows m c) (ins m c) (wts m c)) := by
  rw [Value.flushed3]
  unfold out0_3
  rw [View.canon_unit_zero zeros]
  simp only [View.ld_unit_zero (S := S384x1024) zeros, View.ld_unit_zero (S := S1x1024) zeros]
  funext y
  obtain ⟨r, q, rfl⟩ : ∃ (r : Fin 384) (q : Fin 1024), y = ix2 r q := ⟨y 0, y 1, Idealize.ShloMosaic.eq_ix2 y⟩
  obtain ⟨-, -, -, h0, h1⟩ := idx_facts t
  have he : ((cfg0.win 3).blk t).view.emb (ix2 r q) = ix2 (at_ t r) q := at_block h0 h1 rfl (at_zero _ _) rfl rfl
  refine (pay1 r q _ _ _).trans (Eq.trans ?_ (congrArg (out _ _ _) he).symm)
  simp only [blk0, blk1, blk2]
  rfl
theorem final : (dats m 0 c).arrAt 3 cfg0.N = out (rows m c) (ins m c) (wts m c) :=
  (dats m 0 c).arrAt_eq_of_cover 3 _ (fun t _ => flushed m c t) fun i => by
    have hi0 : (i 0).val < 4224 := (i 0).isLt
    have hi1 : (i 1).val < 1024 := (i 1).isLt
    have ht : (i 0).val / 384 < cfg0.N := by rw [show cfg0.N = 11 from N_0]; omega
    refine ⟨⟨_, ht⟩, flush0_3 _, ?_⟩
    show i ∈ ((View.whole main_v0).slice (win0_3.rect ⟨_, ht⟩)).set
    rw [View.set_slice_whole]
    obtain ⟨-, -, -, h0, h1⟩ := idx_facts ⟨_, ht⟩
    exact mem_block h0 h1 rfl rfl (by dsimp only; omega) (by omega)
theorem agree : Cert.algebraic_GeluIdeal_RefGeluIdeal := by
  intro m g m' g' _ same
  refine ⟨fun c => out (rows m c) (ins m c) (wts m c),
    (θ_run defs _ _).mono (fun r h c => ⟨(h c).1.trans (final m c), (h c).2⟩) (Value.run_blocks m g),
    (θ_run RefGeluIdeal.defs _ _).mono (fun r h c => ?_) (RefGeluIdeal.Value.run (F := Ideal) m' g')⟩
  obtain ⟨s0, s1, s2⟩ := same c
  refine ⟨(h c).1.trans ?_, (h c).2⟩
  rw [s0, s1, s2]
  funext i
  obtain ⟨r, q, rfl⟩ : ∃ (r : Fin 4224) (q : Fin 1024), i = ix2 r q := ⟨i 0, i 1, Idealize.ShloMosaic.eq_ix2 i⟩
  pointwise
  rfl
-- ==== Proof.GeluBwdValue.lean ====
/-
  The gradient of GELU and of the skip before it: what each array of the call holds, entry by entry, and that the reference's
  arrays hold the same.
-/
module
public import proofs.«01_k».proof.Defs
public import proofs.«01_k».proof.Proof.Gen.GeluBwdIdeal.Value
public import proofs.«01_k».proof.Proof.Gen.RefGeluBwdIdeal.Run
public import proofs.«01_k».proof.Proof.Gen.Pre_finite_dz
public import proofs.«01_k».proof.Proof.Rms
public import proofs.«01_k».proof.Proof.Finite
@[expose] public section
noncomputable section
namespace Cert.Proof.GeluBwd
open GeluBwdIdeal GeluBwdIdeal.Gen Idealize.ShloMosaic TcCoe Idealize.SL.Sem Cert.Products Cert.Rms
/-- The words of √(2/π) and of a half, and the two decimals. -/
abbrev root : EReal := Ideal.ofBits .f32 0x3F4C422A#32
abbrev half : EReal := Ideal.ofBits .f32 0x3F000000#32
abbrev c1 : EReal := ((8943 / 200000 : ℝ) : EReal)
abbrev c3 : EReal := ((26829 / 200000 : ℝ) : EReal)
theorem root_eq : ∃ k : ℝ, 0 < k ∧ root = (k : EReal) := by
  refine ⟨_, ?_, by simp [root, Ideal.ofBits, Ideal.ieee, -EReal.coe_mul]; rfl⟩
  norm_num
theorem half_eq : half = ((1 / 2 : ℝ) : EReal) := by
  simp [half, Ideal.ofBits, Ideal.ieee, -EReal.coe_mul]; norm_num
theorem three_eq : Ideal.ofBits .f32 0x40400000#32 = ((3 : ℝ) : EReal) := by
  simp [Ideal.ofBits, Ideal.ieee, -EReal.coe_mul]; norm_num
theorem quotient_eq : Ideal.div (Ideal.ofBits .f32 0x472EAB00#32) (Ideal.ofBits .f32 0x49742400#32) = c1 := by
  rw [show Ideal.ofBits .f32 0x472EAB00#32 = ((44715 : ℝ) : EReal) by simp [Ideal.ofBits, Ideal.ieee, -EReal.coe_mul]; norm_num,
    show Ideal.ofBits .f32 0x49742400#32 = ((1000000 : ℝ) : EReal) by simp [Ideal.ofBits, Ideal.ieee, -EReal.coe_mul]; norm_num,
    Ideal.div_coe (by norm_num), ← EReal.coe_mul]
  norm_num
/-- The hyperbolic tangent inside GELU. -/
def bend (s : EReal) : EReal := Ideal.tanh (root * (s + c1 * (s * s * s)))
/-- One entry of the gradient of GELU. -/
def grad1 (a s : EReal) : EReal := a * (half * (1 + bend s) + half * s * (1 - bend s * bend s) * root * (1 + c3 * s * s))
theorem bend_top : bend ⊤ = 1 := by
  obtain ⟨k, hk, h⟩ := root_eq
  rw [bend, h, EReal.top_mul_top, EReal.top_mul_top, EReal.coe_mul_top_of_pos (by norm_num), EReal.top_add_top, EReal.coe_mul_top_of_pos hk]
  simp
theorem bend_bot : bend ⊥ = ((-1 : ℝ) : EReal) := by
  obtain ⟨k, hk, h⟩ := root_eq
  rw [bend, h, EReal.bot_mul_bot, EReal.top_mul_bot, EReal.coe_mul_bot_of_pos (by norm_num), EReal.bot_add, EReal.coe_mul_bot_of_pos hk]
  simp
theorem bend_coe (s : ℝ) : ∃ b : ℝ, bend s = (b : EReal) := by
  obtain ⟨k, -, h⟩ := root_eq
  refine ⟨Real.tanh (k * (s + 8943 / 200000 * (s * s * s))), ?_⟩
  rw [bend, h, ← Ideal.tanh_coe]
  simp only [EReal.coe_mul, EReal.coe_add]
/-- The reference's order of the same entry: the incoming gradient is finite, so it may stand before the bracket or inside,
    while the entry itself may be infinite. -/
theorem grad1_eq {a : EReal} (ha : IsReal a) (s : EReal) :
    a * (half * (1 + bend s)) + root * (half * (s * a) * ((1 + bend s) * (1 - bend s)))
      + c1 * (root * (half * (s * a) * ((1 + bend s) * (1 - bend s)))) * (((3 : ℝ) : EReal) * (s * s)) = grad1 a s := by
  obtain ⟨a, rfl⟩ := ha
  obtain ⟨k, -, h⟩ := root_eq
  unfold grad1
  rw [h, half_eq, ← EReal.coe_one]
  induction s using EReal.rec with
  | bot =>
    rw [bend_bot]
    simp only [← EReal.coe_mul, ← EReal.coe_sub, ← EReal.coe_add]
    norm_num
  | top =>
    rw [bend_top, ← EReal.coe_one]
    simp only [← EReal.coe_mul, ← EReal.coe_sub, ← EReal.coe_add]
    norm_num
  | coe s =>
    obtain ⟨b, hb⟩ := bend_coe s
    rw [hb]
    simp only [← EReal.coe_mul, ← EReal.coe_sub, ← EReal.coe_add]
    congr 1
    ring
theorem named : Cert.preserves_GeluBwd_GeluBwdIdeal :=
  ⟨IdealRules.named_const.statement Cert.GeluBwdIdeal.κ "cube" .f32 0x3D372713#32 ((8943 / 200000 : ℝ) : EReal) rfl,
    IdealRules.named_const.statement Cert.GeluBwdIdeal.κ "slope" .f32 0x3E095D4F#32 ((26829 / 200000 : ℝ) : EReal) rfl⟩
theorem cube : Named.named (F := Ideal) Cert.GeluBwdIdeal.κ "cube" (φ := .f32) 0x3D372713#32 = ((8943 / 200000 : ℝ) : EReal) :=
  IdealRules.named_const.ideal_named_scalar _ _ _ _ rfl
theorem slope : Named.named (F := Ideal) Cert.GeluBwdIdeal.κ "slope" (φ := .f32) 0x3E095D4F#32 = ((26829 / 200000 : ℝ) : EReal) :=
  IdealRules.named_const.ideal_named_scalar _ _ _ _ rfl
section
variable (y u a : Mat 384 1024) (d : Mat 1 1024) (r : Fin 384) (q : Fin 1024)
theorem pay2 : k0_pay2 (F := Ideal) y u a d (ix2 r q) = grad1 (a (ix2 r q)) (y (ix2 r q) + d (ix2 0 q) * u (ix2 r q)) := by
  pointwise [k0_pay2, cube, slope]
  generalize (y (ix2 r q) + d (ix2 0 q) * u (ix2 r q) : EReal) = s
  rw [show c1 * s * s * s = c1 * (s * s * s) by simp only [mul_assoc]]
  rfl
theorem pay3 : k0_pay3 (F := Ideal) y u a d (ix2 r q) = grad1 (a (ix2 r q)) (y (ix2 r q) + d (ix2 0 q) * u (ix2 r q)) * d (ix2 0 q) := by
  pointwise [k0_pay3, pay2]
theorem pay4 (z : Fin 1) : k0_pay4 (F := Ideal) y u a d (ix2 z q)
    = ∑ k : Fin 384, grad1 (a (ix2 k q)) (y (ix2 k q) + d (ix2 0 q) * u (ix2 k q)) * u (ix2 k q) := by
  pointwise [k0_pay4, pay2]
end
variable (m : (ℓ : Loc nD τ sig) → Buf (Elt Ideal) ℓ) (ρ : Dev nD → PrngReg) (c : Dev nD) (t : Fin cfg0.N)
/-- The scan's output, its input, the skip's weights and the gradient of GELU's result. -/
abbrev rows : Mat 4224 1024 := m ((c : Thread nD τ).loc main_arg0)
abbrev ins : Mat 4224 1024 := m ((c : Thread nD τ).loc main_arg1)
abbrev wts : Mat 1 1024 := m ((c : Thread nD τ).loc main_arg2)
abbrev grad : Mat 4224 1024 := m ((c : Thread nD τ).loc main_arg3)
/-- The gradient of the scan's output. -/
def outY (y u a : Mat 4224 1024) (d : Mat 1 1024) : Mat 4224 1024 := fun i =>
  grad1 (a (ix2 (i 0) (i 1))) (y (ix2 (i 0) (i 1)) + d (ix2 0 (i 1)) * u (ix2 (i 0) (i 1)))
/-- The gradient of the scan's input. -/
def outU (y u a : Mat 4224 1024) (d : Mat 1 1024) : Mat 4224 1024 := fun i => outY y u a d (ix2 (i 0) (i 1)) * d (ix2 0 (i 1))
/-- The gradient of the skip's weights. -/
def outD (y u a : Mat 4224 1024) (d : Mat 1 1024) : Mat 1 1024 := fun i => ∑ k : Fin 4224, outY y u a d (ix2 k (i 1)) * u (ix2 k (i 1))
theorem points : t.val < 11 := lt_of_lt_of_eq t.isLt N_0
/-- The row of the array that row `r` of the block at point `t` is. -/
abbrev at_ (r : Fin 384) : Fin 4224 := ⟨t.val * 384 + r.val, by have := points t; have := r.isLt; omega⟩
theorem idx_facts : ∀ t : Fin cfg0.N,
    (win0_0.index t (0 : Fin 2) = t.val ∧ win0_0.index t (1 : Fin 2) = 0) ∧ (win0_1.index t (0 : Fin 2) = t.val ∧ win0_1.index t (1 : Fin 2) = 0)
    ∧ (win0_2.index t (0 : Fin 2) = t.val ∧ win0_2.index t (1 : Fin 2) = 0) ∧ (win0_3.index t (0 : Fin 2) = 0 ∧ win0_3.index t (1 : Fin 2) = 0)
    ∧ (win0_4.index t (0 : Fin 2) = t.val ∧ win0_4.index t (1 : Fin 2) = 0) ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)
variable (r : Fin 384) (q : Fin 1024) (z : Fin 1)
theorem blk0 : (iblk m c 0 t : Mat 384 1024) (ix2 r q) = rows m c (ix2 (at_ t r) q) := by
  obtain ⟨⟨h0, h1⟩, -⟩ := idx_facts t
  exact congrArg (rows m c) (at_block h0 h1 rfl (at_zero _ _) rfl rfl)
theorem blk1 : (iblk m c 1 t : Mat 384 1024) (ix2 r q) = ins m c (ix2 (at_ t r) q) := by
  obtain ⟨-, ⟨h0, h1⟩, -⟩ := idx_facts t
  exact congrArg (ins m c) (at_block h0 h1 rfl (at_zero _ _) rfl rfl)
theorem blk2 : (iblk m c 2 t : Mat 384 1024) (ix2 r q) = grad m c (ix2 (at_ t r) q) := by
  obtain ⟨-, -, ⟨h0, h1⟩, -⟩ := idx_facts t
  exact congrArg (grad m c) (at_block h0 h1 rfl (at_zero _ _) rfl rfl)
theorem blk3 : (iblk m c 3 t : Mat 1 1024) (ix2 z q) = wts m c (ix2 z q) := by
  obtain ⟨-, -, -, ⟨h0, h1⟩, -⟩ := idx_facts t
  exact congrArg (wts m c) (at_block h0 h1 (at_zero _ _) (at_zero _ _) rfl rfl)

/-- The blocks of the gradients of the scan's output and input. -/
theorem left4 : (outsAt0 m c t.val t.isLt).1 = k0_pay2 (iblk m c 0 t) (iblk m c 1 t) (iblk m c 2 t) (iblk m c 3 t) := by
  have hN := points t
  by_cases h : t.val = 0
  · rw [outsAt0_A m c t (by omega) (by omega)]
    dsimp only
    unfold out0_A_4
    rw [View.read_writes_eq_canon _ _ _ (cover0_A_4 _ _ _ _ _ _ _ _ _ _ _ _ _ _ _ _ _ _ _ _ _ _)]
    unfold kernelRun0_A
    dsimp only
    sl_unfold_words
    rw [View.canon_unit_zero zeros]
    simp only [View.readAt_eq_ld, (hs0_0 t).read_unread, (hs0_1 t).read_unread, (hs0_2 t).read_unread, (hs0_3 t).read_unread, View.ld_unit_zero (S := S384x1024) zeros, View.ld_unit_zero (S := S1x1024) zeros]
  · rw [outsAt0_B m c t (by omega) (by omega)]
    dsimp only
    unfold out0_B_4
    rw [View.read_writes_eq_canon _ _ _ (cover0_B_4 _ _ _ _ _ _ _ _ _ _ _ _ _ _ _ _ _ _ _ _ _ _ _)]
    unfold kernelRun0_B
    dsimp only
    sl_unfold_words
    rw [View.canon_unit_zero zeros]
    simp only [View.readAt_eq_ld, (hs0_0 t).read_unread, (hs0_1 t).read_unread, (hs0_2 t).read_unread, (hs0_3 t).read_unread, View.ld_unit_zero (S := S384x1024) zeros, View.ld_unit_zero (S := S1x1024) zeros]
theorem left5 : (outsAt0 m c t.val t.isLt).2.1 = k0_pay3 (iblk m c 0 t) (iblk m c 1 t) (iblk m c 2 t) (iblk m c 3 t) := by
  have hN := points t
  by_cases h : t.val = 0
  · rw [outsAt0_A m c t (by omega) (by omega)]
    dsimp only
    unfold out0_A_5
    rw [View.read_writes_eq_canon _ _ _ (cover0_A_5 _ _ _ _ _ _ _ _ _ _ _ _ _ _ _ _ _ _ _ _ _ _)]
    unfold kernelRun0_A
    dsimp only
    sl_unfold_words
    rw [View.canon_unit_zero zeros]
    simp only [View.readAt_eq_ld, (hs0_0 t).read_unread, (hs0_1 t).read_unread, (hs0_2 t).read_unread, (hs0_3 t).read_unread, View.ld_unit_zero (S := S384x1024) zeros, View.ld_unit_zero (S := S1x1024) zeros]
  · rw [outsAt0_B m c t (by omega) (by omega)]
    dsimp only
    unfold out0_B_5
    rw [View.read_writes_eq_canon _ _ _ (cover0_B_5 _ _ _ _ _ _ _ _ _ _ _ _ _ _ _ _ _ _ _ _ _ _ _)]
    unfold kernelRun0_B
    dsimp only
    sl_unfold_words
    rw [View.canon_unit_zero zeros]
    simp only [View.readAt_eq_ld, (hs0_0 t).read_unread, (hs0_1 t).read_unread, (hs0_2 t).read_unread, (hs0_3 t).read_unread, View.ld_unit_zero (S := S384x1024) zeros, View.ld_unit_zero (S := S1x1024) zeros]
/-- The running sum of the gradient of the skip's weights, at the first point. -/
theorem first6 (h : t.val = 0) : (outsAt0 m c t.val t.isLt).2.2 = k0_pay4 (iblk m c 0 t) (iblk m c 1 t) (iblk m c 2 t) (iblk m c 3 t) := by
  rw [outsAt0_A m c t (by omega) (by omega)]
  dsimp only
  unfold out0_A_6
  rw [View.read_writes_eq_canon _ _ _ (cover0_A_6 _ _ _ _ _ _ _ _ _ _ _ _ _ _ _ _ _ _ _ _ _ _)]
  unfold kernelRun0_A
  dsimp only
  sl_unfold_words
  rw [View.canon_unit_zero zeros]
  simp only [View.readAt_eq_ld, (hs0_0 t).read_unread, (hs0_1 t).read_unread, (hs0_2 t).read_unread, (hs0_3 t).read_unread, View.ld_unit_zero (S := S384x1024) zeros, View.ld_unit_zero (S := S1x1024) zeros]
/-- … and at a later one. -/
theorem next6 (h : t.val ≠ 0) : (outsAt0 m c t.val t.isLt).2.2
    = k0_pay1 (k0_pay4 (iblk m c 0 t) (iblk m c 1 t) (iblk m c 2 t) (iblk m c 3 t)) (outsAt0 m c (t.val - 1) (Nat.lt_of_le_of_lt (Nat.sub_le _ _) t.isLt)).2.2 := by
  have hN := points t
  rw [outsAt0_B m c t (by omega) (by omega)]
  dsimp only
  unfold out0_B_6
  rw [View.read_writes_eq_canon _ _ _ (cover0_B_6 _ _ _ _ _ _ _ _ _ _ _ _ _ _ _ _ _ _ _ _ _ _ _)]
  unfold kernelRun0_B
  dsimp only
  sl_unfold_words
  rw [View.canon_unit_zero zeros]
  simp only [View.readAt_eq_ld, (hs0_0 t).read_unread, (hs0_1 t).read_unread, (hs0_2 t).read_unread, (hs0_3 t).read_unread, (hs0_6 t).read_unread, View.ld_unit_zero (S := S384x1024) zeros, View.ld_unit_zero (S := S1x1024) zeros]
theorem flushed4 : (dats m 0 c).flushed 4 t = ((cfg0.win 4).blk t).view.read (Elt Ideal) (outY (rows m c) (ins m c) (grad m c) (wts m c)) := by
  rw [Value.flushed4, left4]
  funext y
  obtain ⟨r, q, rfl⟩ : ∃ (r : Fin 384) (q : Fin 1024), y = ix2 r q := ⟨y 0, y 1, Idealize.ShloMosaic.eq_ix2 y⟩
  obtain ⟨-, -, -, -, ⟨h0, h1⟩, -⟩ := idx_facts t
  have he : ((cfg0.win 4).blk t).view.emb (ix2 r q) = ix2 (at_ t r) q := at_block h0 h1 rfl (at_zero _ _) rfl rfl
  refine (pay2 _ _ _ _ r q).trans (Eq.trans ?_ (congrArg (outY _ _ _ _) he).symm)
  simp only [blk0, blk1, blk2, blk3]
  rfl
theorem flushed5 : (dats m 0 c).flushed 5 t = ((cfg0.win 5).blk t).view.read (Elt Ideal) (outU (rows m c) (ins m c) (grad m c) (wts m c)) := by
  rw [Value.flushed5, left5]
  funext y
  obtain ⟨r, q, rfl⟩ : ∃ (r : Fin 384) (q : Fin 1024), y = ix2 r q := ⟨y 0, y 1, Idealize.ShloMosaic.eq_ix2 y⟩
  obtain ⟨-, -, -, -, -, ⟨h0, h1⟩, -⟩ := idx_facts t
  have he : ((cfg0.win 5).blk t).view.emb (ix2 r q) = ix2 (at_ t r) q := at_block h0 h1 rfl (at_zero _ _) rfl rfl
  refine (pay3 _ _ _ _ r q).trans (Eq.trans ?_ (congrArg (outU _ _ _ _) he).symm)
  simp only [blk0, blk1, blk2, blk3]
  rfl
/-- The running sum after the last point. -/
theorem last6 (h : t.val = 10) : (outsAt0 m c t.val t.isLt).2.2 (ix2 z q) = outD (rows m c) (ins m c) (grad m c) (wts m c) (ix2 z q) := by
  have hr := running (N := cfg0.N) (acc := fun k hk => (outsAt0 m c k hk).2.2 (ix2 z q))
    (q := fun t => ∑ r : Fin 384, outY (rows m c) (ins m c) (grad m c) (wts m c) (ix2 (at_ t r) q) * ins m c (ix2 (at_ t r) q))
    (fun h0 => by
      rw [first6 m c ⟨0, h0⟩ rfl]
      refine (pay4 _ _ _ _ q z).trans ?_
      simp only [blk0, blk1, blk2, blk3]
      rfl)
    (fun k hk => by
      rw [next6 m c ⟨k + 1, hk⟩ (Nat.succ_ne_zero k)]
      refine Eq.trans (by pointwise [k0_pay1]; rfl) (congrArg (_ + ·) ((pay4 (iblk m c 0 ⟨k + 1, hk⟩) (iblk m c 1 ⟨k + 1, hk⟩) (iblk m c 2 ⟨k + 1, hk⟩) (iblk m c 3 ⟨k + 1, hk⟩) q z).trans ?_))
      simp only [blk0, blk1, blk2, blk3]
      rfl)
  obtain ⟨n, hn⟩ := t
  obtain rfl : n = 10 := h
  refine (hr 10 hn).trans ?_
  unfold outD
  rw [Fin.sum_univ_tiles 11 384 rfl]
  rfl
theorem flushed6 (hf : (cfg0.win 6).flush t = true) :
    (dats m 0 c).flushed 6 t = ((cfg0.win 6).blk t).view.read (Elt Ideal) (outD (rows m c) (ins m c) (grad m c) (wts m c)) := by
  have hN := points t
  have ht := (flush0_6 t).mp hf
  rw [Value.flushed6]
  funext y
  obtain ⟨z, q, rfl⟩ : ∃ (z : Fin 1) (q : Fin 1024), y = ix2 z q := ⟨y 0, y 1, Idealize.ShloMosaic.eq_ix2 y⟩
  obtain ⟨-, -, -, -, -, -, h0, h1⟩ := idx_facts t
  have he : ((cfg0.win 6).blk t).view.emb (ix2 z q) = ix2 z q := at_block h0 h1 (at_zero _ _) (at_zero _ _) rfl rfl
  exact (last6 m c t q z (by omega)).trans (congrArg (outD _ _ _ _) he).symm
theorem covered (i : S4224x1024.Idx) : ∃ t : Fin cfg0.N, i ∈ ((View.whole main_v0_0).slice (win0_4.rect t)).set := by
  have hi0 : (i 0).val < 4224 := (i 0).isLt
  have hi1 : (i 1).val < 1024 := (i 1).isLt
  have ht : (i 0).val / 384 < cfg0.N := by rw [show cfg0.N = 11 from N_0]; omega
  refine ⟨⟨_, ht⟩, ?_⟩
  rw [View.set_slice_whole]
  obtain ⟨-, -, -, -, ⟨h0, h1⟩, -⟩ := idx_facts ⟨_, ht⟩
  exact mem_block h0 h1 rfl rfl (by dsimp only; omega) (by omega)
theorem final4 : (dats m 0 c).arrAt 4 cfg0.N = outY (rows m c) (ins m c) (grad m c) (wts m c) :=
  (dats m 0 c).arrAt_eq_of_cover 4 _ (fun t _ => flushed4 m c t) fun i => (covered i).imp fun t h => ⟨flush0_4 t, h⟩
theorem final5 : (dats m 0 c).arrAt 5 cfg0.N = outU (rows m c) (ins m c) (grad m c) (wts m c) :=
  (dats m 0 c).arrAt_eq_of_cover 5 _ (fun t _ => flushed5 m c t) fun i => (covered i).imp fun t h => ⟨flush0_5 t, h⟩
theorem final6 : (dats m 0 c).arrAt 6 cfg0.N = outD (rows m c) (ins m c) (grad m c) (wts m c) :=
  (dats m 0 c).arrAt_eq_of_cover 6 _ (flushed6 m c) fun i => by
    have hi0 : (i 0).val < 1 := (i 0).isLt
    have hi1 : (i 1).val < 1024 := (i 1).isLt
    have ht : 10 < cfg0.N := by rw [show cfg0.N = 11 from N_0]; omega
    refine ⟨⟨_, ht⟩, (flush0_6 _).mpr rfl, ?_⟩
    show i ∈ ((View.whole main_v0_2).slice (win0_6.rect ⟨_, ht⟩)).set
    rw [View.set_slice_whole]
    obtain ⟨-, -, -, -, -, -, h0, h1⟩ := idx_facts ⟨_, ht⟩
    exact mem_block h0 h1 rfl rfl (by omega) (by omega)
theorem agree : Cert.algebraic_GeluBwdIdeal_RefGeluBwdIdeal_pre_finite_dz := by
  intro m g m' g' hp same
  have real (c) (i) : IsReal (grad m c i) := real_of_below (congrFun (hp c) i)
  refine ⟨fun c => outY (rows m c) (ins m c) (grad m c) (wts m c), fun c => outU (rows m c) (ins m c) (grad m c) (wts m c), fun c => outD (rows m c) (ins m c) (grad m c) (wts m c),
    (θ_run defs _ _).mono (fun r h c => ⟨(h c).1.trans (final4 m c), (h c).2.1.trans (final5 m c), (h c).2.2.1.trans (final6 m c), (h c).2.2.2⟩) (Value.run_blocks m g),
    (θ_run RefGeluBwdIdeal.defs _ _).mono (fun r h c => ?_) (RefGeluBwdIdeal.Value.run (F := Ideal) m' g')⟩
  obtain ⟨s0, s1, s2, s3⟩ := same c
  have hy (r : Fin 4224) (q : Fin 1024) : (RefGeluBwdIdeal.Value.res_main_v36 m' c (ix2 r q) : EReal) = outY (rows m c) (ins m c) (grad m c) (wts m c) (ix2 r q) := by
    unfold RefGeluBwdIdeal.Value.res_main_v36
    rw [s0, s1, s2, s3]
    pointwise
    rw [quotient_eq, three_eq]
    exact grad1_eq (real c (ix2 r q)) _
  refine ⟨(h c).1.trans ?_, (h c).2.1.trans ?_, (h c).2.2.1.trans ?_, (h c).2.2.2⟩
  · funext i
    obtain ⟨r, q, rfl⟩ : ∃ (r : Fin 4224) (q : Fin 1024), i = ix2 r q := ⟨i 0, i 1, Idealize.ShloMosaic.eq_ix2 i⟩
    exact hy r q
  · funext i
    obtain ⟨r, q, rfl⟩ : ∃ (r : Fin 4224) (q : Fin 1024), i = ix2 r q := ⟨i 0, i 1, Idealize.ShloMosaic.eq_ix2 i⟩
    show (_ : EReal) = outY (rows m c) (ins m c) (grad m c) (wts m c) (ix2 r q) * wts m c (ix2 0 q)
    rw [mul_comm, ← hy]
    unfold RefGeluBwdIdeal.Value.res_main_v38 RefGeluBwdIdeal.Value.res_main_v36
    rw [s2]
    pointwise
  · funext i
    obtain ⟨z, q, rfl⟩ : ∃ (z : Fin 1) (q : Fin 1024), i = ix2 z q := ⟨i 0, i 1, Idealize.ShloMosaic.eq_ix2 i⟩
    show (_ : EReal) = ∑ k : Fin 4224, outY (rows m c) (ins m c) (grad m c) (wts m c) (ix2 k q) * ins m c (ix2 k q)
    simp only [← hy]
    unfold RefGeluBwdIdeal.Value.res_main_v41 RefGeluBwdIdeal.Value.res_main_v36
    rw [s1]
    pointwise
-- ==== Proof.Groups.lean ====
/-
  Products group by group: sixty-four small matrices, of which a kernel lays eight into one larger block, with zeros
  between them.
-/
module

public import proofs.«01_k».proof.Proof.Rms
@[expose] public section

noncomputable section
namespace Cert.Groups
open Idealize.ShloMosaic Cert.Products

/-- An array of extended reals with three axes. -/
abbrev Ten (A B C : ℕ) : Type := (⟨3, ![A, B, C]⟩ : Shape).Idx → EReal
/-- The block of a larger array, without its first axis. -/
def mat {K N : ℕ} (v : Ten 1 K N) : Mat K N := fun i => v (ix3 0 (i 0) (i 1))

theorem zeros3 : (![0, 0, 0] : Fin 3 → Nat) = fun _ => 0 := funext fun a => by fin_cases a <;> rfl

theorem at_block3 {A K N k n i0 i1 i2 I : ℕ} {e : (⟨3, ![A, K, N]⟩ : Shape).Idx} {z : Fin 1} {r : Fin k} {q : Fin n} {J : Fin A} {R : Fin K} {C : Fin N}
    (h0 : i0 = I) (h1 : i1 = 0) (h2 : i2 = 0) (hJ : J.val = I) (hR : R.val = r.val) (hC : C.val = q.val)
    (e0 : (e 0).val = i0 * 1 + 1 * z.val) (e1 : (e 1).val = i1 * k + 1 * r.val) (e2 : (e 2).val = i2 * n + 1 * q.val) : e = ix3 J R C :=
  funext fun d => Fin.ext (match d with
    | ⟨0, _⟩ => by have := z.isLt; show (e 0).val = J.val; omega
    | ⟨1, _⟩ => by subst h1; show (e 1).val = R.val; omega
    | ⟨2, _⟩ => by subst h2; show (e 2).val = C.val; omega)

/-- An entry of the identity matrix, as the programs compute it. -/
abbrev eye (a b : ℕ) : EReal := FloatOps.uitofp (F := Ideal) .f32 (IntOp.cmpi .eq (IntOp.addi (BitVec.ofNat 32 a) 0#32) (BitVec.ofNat 32 b))

theorem eye_same (a : Fin 8) : eye a a = 1 := by
  have h : ∀ a : Fin 8, IntOp.cmpi .eq (IntOp.addi (BitVec.ofNat 32 a) 0#32) (BitVec.ofNat 32 a) = 1#1 := by decide
  unfold eye; rw [h]; show (((1#1 : BitVec 1).toNat : ℝ) : EReal) = 1; simp
theorem eye_other {a b : Fin 8} (n : a ≠ b) : eye a b = 0 := by
  have h : ∀ a b : Fin 8, a ≠ b → IntOp.cmpi .eq (IntOp.addi (BitVec.ofNat 32 a) 0#32) (BitVec.ofNat 32 b) = 0#1 := by decide
  unfold eye; rw [h a b n]; show (((0#1 : BitVec 1).toNat : ℝ) : EReal) = 0; simp

/-- An entry off the diagonal blocks is zero whatever group its weight is from. -/
theorem eye_swap {a b : ℕ} (ha : a < 8) (hb : b < 8) {x y : EReal} (h : a = b → x = y) : x * eye b a = y * eye a b := by
  by_cases e : a = b
  · rw [h e, e]
  · have n {a b : ℕ} (ha : a < 8) (hb : b < 8) (e : a ≠ b) : eye a b = 0 := eye_other (a := ⟨a, ha⟩) (b := ⟨b, hb⟩) fun h => e (congrArg Fin.val h)
    rw [n hb ha (Ne.symm e), n ha hb e, mul_zero, mul_zero]

/-- A sum over a block's axis in which only one group counts. -/
theorem one_group {C K : ℕ} (hK : 8 * C = K) (h : Fin 8) (f : Fin K → EReal) (g : Fin C → EReal)
    (hf : ∀ (a : Fin 8) (c : Fin C) (k : Fin K), k.val = a.val * C + c.val → f k = g c * eye a h) : ∑ k, f k = ∑ c, g c := by
  rw [Fin.sum_univ_tiles 8 C hK, Finset.sum_eq_single h]
  · exact Finset.sum_congr rfl fun c _ => by rw [hf h c _ rfl, eye_same, mul_one]
  · exact fun a _ n => Finset.sum_eq_zero fun c _ => by rw [hf a c _ rfl, eye_other n, mul_zero]
  · exact fun n => absurd (Finset.mem_univ h) n

/-- Group `G` of the result is the group of `x` times its matrix. -/
def up (x : Mat 4224 1024) (w : Fin 64 → Fin 16 → Fin 64 → EReal) : Mat 4224 4096 := fun i =>
  have h : (i 1).val < 4096 := (i 1).isLt
  ∑ c : Fin 16, x (ix2 (i 0) ⟨(i 1).val / 64 * 16 + c.val, by have := c.isLt; omega⟩) * w ⟨(i 1).val / 64, by omega⟩ c ⟨(i 1).val % 64, by omega⟩
def down (x : Mat 4224 4096) (w : Fin 64 → Fin 64 → Fin 16 → EReal) : Mat 4224 1024 := fun i =>
  have h : (i 1).val < 1024 := (i 1).isLt
  ∑ p : Fin 64, x (ix2 (i 0) ⟨(i 1).val / 16 * 64 + p.val, by have := p.isLt; omega⟩) * w ⟨(i 1).val / 16, by omega⟩ p ⟨(i 1).val % 16, by omega⟩

section
variable {j : ℕ} {R : Fin 4224} {r : Fin 1408}

theorem up_block {b : Mat 1408 128} {v : Ten 1 128 512} {x : Mat 4224 1024} {w : Fin 64 → Fin 16 → Fin 64 → EReal} {q : Fin 512} {N : Fin 4096}
    (hN : N.val = j * 512 + q.val) (hb : ∀ (k : Fin 128) (K : Fin 1024), K.val = j * 128 + k.val → b (ix2 r k) = x (ix2 R K))
    (hv : ∀ (k : Fin 128) G c p, G.val = j * 8 + k.val / 16 → c.val = k.val % 16 → p.val = q.val % 64 → v (ix3 0 k q) = w G c p * eye (k.val / 16) (q.val / 64)) :
    nn b (mat v) r q = up x w (ix2 R N) := by
  have hq := q.isLt
  have hn := N.isLt
  refine one_group (C := 16) rfl ⟨q.val / 64, by omega⟩ _ _ fun a c k hk => ?_
  have hc := c.isLt
  have hka : a.val = k.val / 16 := by omega
  show b (ix2 r k) * v (ix3 0 k q) = x (ix2 R _) * w _ c _ * eye a (q.val / 64)
  rw [hka, mul_assoc]
  by_cases e : k.val / 16 = q.val / 64
  · rw [hb k ⟨N.val / 64 * 16 + c.val, by omega⟩ (by dsimp only; omega), hv k ⟨N.val / 64, by omega⟩ c ⟨N.val % 64, by omega⟩ (by dsimp only; omega) (by omega) (by dsimp only; omega)]
    rfl
  · have z : eye (k.val / 16) (q.val / 64) = 0 := eye_other (a := ⟨k.val / 16, by omega⟩) (b := ⟨q.val / 64, by omega⟩) (fun h => e (congrArg Fin.val h))
    have hj : j < 8 := by omega
    have hk' := k.isLt
    rw [hv k ⟨j * 8 + k.val / 16, by omega⟩ c ⟨q.val % 64, by omega⟩ rfl (by omega) rfl, z, mul_zero, mul_zero, mul_zero, mul_zero]

theorem down_block {b : Mat 1408 512} {v : Ten 1 512 128} {x : Mat 4224 4096} {w : Fin 64 → Fin 64 → Fin 16 → EReal} {q : Fin 128} {N : Fin 1024}
    (hN : N.val = j * 128 + q.val) (hb : ∀ (k : Fin 512) (K : Fin 4096), K.val = j * 512 + k.val → b (ix2 r k) = x (ix2 R K))
    (hv : ∀ (k : Fin 512) G p c, G.val = j * 8 + k.val / 64 → p.val = k.val % 64 → c.val = q.val % 16 → v (ix3 0 k q) = w G p c * eye (k.val / 64) (q.val / 16)) :
    nn b (mat v) r q = down x w (ix2 R N) := by
  have hq := q.isLt
  have hn := N.isLt
  refine one_group (C := 64) rfl ⟨q.val / 16, by omega⟩ _ _ fun a c k hk => ?_
  have hc := c.isLt
  have hka : a.val = k.val / 64 := by omega
  show b (ix2 r k) * v (ix3 0 k q) = x (ix2 R _) * w _ c _ * eye a (q.val / 16)
  rw [hka, mul_assoc]
  by_cases e : k.val / 64 = q.val / 16
  · rw [hb k ⟨N.val / 16 * 64 + c.val, by omega⟩ (by dsimp only; omega), hv k ⟨N.val / 16, by omega⟩ c ⟨N.val % 16, by omega⟩ (by dsimp only; omega) (by omega) (by dsimp only; omega)]
    rfl
  · have z : eye (k.val / 64) (q.val / 16) = 0 := eye_other (a := ⟨k.val / 64, by omega⟩) (b := ⟨q.val / 16, by omega⟩) (fun h => e (congrArg Fin.val h))
    have hj : j < 8 := by omega
    have hk' := k.isLt
    rw [hv k ⟨j * 8 + k.val / 64, by omega⟩ c ⟨q.val % 16, by omega⟩ rfl (by omega) rfl, z, mul_zero, mul_zero, mul_zero, mul_zero]
end

section
variable {G A K L : ℕ} {φ₁ φ₂ : FTy} (prec : Option ContractPrecision) (sched : HostSchedule) (g : Fin G) (a : Fin A) (l : Fin L)

theorem host_rows (wf : DotDims.WF ⟨3, ![G, A, K]⟩ ⟨3, ![L, G, K]⟩ ⟨3, ![G, A, L]⟩ [2] [2] [1] [0] [0] [1])
    (x : FVec Ideal ⟨3, ![G, A, K]⟩ φ₁) (w : FVec Ideal ⟨3, ![L, G, K]⟩ φ₂) :
    FloatOps.dotGeneral (⟨[2], [2], [1], [0], [0], [1], wf⟩ : DotDims _ _ _) prec sched x w (ix3 g a l) = ∑ k : Fin K, x (ix3 g a k) * w (ix3 l g k) := by
  rw [Ideal.dotGeneral_apply, ← Equiv.sum_comp (ValueIdx.contrEquiv1 _ K rfl rfl).symm]
  refine Finset.sum_congr rfl fun k _ => ?_
  have hk := ValueIdx.contrEquiv1_symm_val (⟨[2], [2], [1], [0], [0], [1], wf⟩ : DotDims _ _ _) K rfl rfl k
  congr 2
  · funext d; apply Fin.ext
    match d with
    | ⟨0, _⟩ => rfl
    | ⟨1, _⟩ => rfl
    | ⟨2, _⟩ => exact hk
  · funext d; apply Fin.ext
    match d with
    | ⟨0, _⟩ => rfl
    | ⟨1, _⟩ => rfl
    | ⟨2, _⟩ => exact hk

theorem host_cols (wf : DotDims.WF ⟨3, ![G, K, L]⟩ ⟨3, ![G, K, A]⟩ ⟨3, ![G, L, A]⟩ [1] [1] [2] [2] [0] [0])
    (x : FVec Ideal ⟨3, ![G, K, L]⟩ φ₁) (w : FVec Ideal ⟨3, ![G, K, A]⟩ φ₂) :
    FloatOps.dotGeneral (⟨[1], [1], [2], [2], [0], [0], wf⟩ : DotDims _ _ _) prec sched x w (ix3 g l a) = ∑ k : Fin K, x (ix3 g k l) * w (ix3 g k a) := by
  rw [Ideal.dotGeneral_apply, ← Equiv.sum_comp (ValueIdx.contrEquiv1 _ K rfl rfl).symm]
  refine Finset.sum_congr rfl fun k _ => ?_
  have hk := ValueIdx.contrEquiv1_symm_val (⟨[1], [1], [2], [2], [0], [0], wf⟩ : DotDims _ _ _) K rfl rfl k
  congr 2
  · funext d; apply Fin.ext
    match d with
    | ⟨0, _⟩ => rfl
    | ⟨1, _⟩ => exact hk
    | ⟨2, _⟩ => rfl
  · funext d; apply Fin.ext
    match d with
    | ⟨0, _⟩ => rfl
    | ⟨1, _⟩ => exact hk
    | ⟨2, _⟩ => rfl
end
end Cert.Groups
end
-- ==== Proof.BProdValue.lean ====
/-
  The states' two increments: the scan's input times the two parts of B, group by group, eight groups to a block.
-/
module
public import proofs.«01_k».proof.Defs
public import proofs.«01_k».proof.Proof.Gen.BProdIdeal.Value
public import proofs.«01_k».proof.Proof.Gen.RefBProdIdeal.Run
public import proofs.«01_k».proof.Proof.Groups
@[expose] public section
noncomputable section
namespace Cert.Proof.BProd
open BProdIdeal BProdIdeal.Gen Idealize.ShloMosaic TcCoe Idealize.SL.Sem Cert.Groups
open Cert.Products hiding eq_ix2
/-- One part of the increments. -/
def out (x : Mat 4224 1024) (b : Ten 64 64 16) : Mat 4224 4096 := up x fun g c p => b (ix3 g p c)
variable (m : (ℓ : Loc nD τ sig) → Buf (Elt Ideal) ℓ) (c : Dev nD) (t : Fin cfg0.N)
abbrev arg0 : Mat 4224 1024 := m ((c : Thread nD τ).loc main_arg0)
abbrev arg1 : Ten 64 64 16 := m ((c : Thread nD τ).loc main_arg1)
abbrev arg2 : Ten 64 64 16 := m ((c : Thread nD τ).loc main_arg2)
theorem points : t.val < 24 := lt_of_lt_of_eq t.isLt N_0
theorem idx_facts : ∀ t : Fin cfg0.N,
    (win0_0.index t (0 : Fin 2) = t.val / 8 ∧ win0_0.index t (1 : Fin 2) = t.val % 8)
    ∧ (win0_1.index t (0 : Fin 3) = t.val % 8 ∧ win0_1.index t (1 : Fin 3) = 0 ∧ win0_1.index t (2 : Fin 3) = 0)
    ∧ (win0_2.index t (0 : Fin 3) = t.val % 8 ∧ win0_2.index t (1 : Fin 3) = 0 ∧ win0_2.index t (2 : Fin 3) = 0)
    ∧ (win0_3.index t (0 : Fin 2) = t.val / 8 ∧ win0_3.index t (1 : Fin 2) = t.val % 8)
    ∧ (win0_4.index t (0 : Fin 2) = t.val / 8 ∧ win0_4.index t (1 : Fin 2) = t.val % 8) :=
  (by decide +kernel : ∀ t : Fin grid0.N, _)
/-- The weights' block that the host lays out, entry by entry. -/
theorem wts (j : Fin 8) (k : Fin 128) (q : Fin 512) (G : Fin 64) (h : Fin 16) (p : Fin 64) (hG : G.val = j.val * 8 + k.val / 16) (hh : h.val = k.val % 16) (hp : p.val = q.val % 64) :
    (V m c main_v13 : Ten 8 128 512) (ix3 j k q) = arg1 m c (ix3 G p h) * eye (k.val / 16) (q.val / 64)
    ∧ (V m c main_v27 : Ten 8 128 512) (ix3 j k q) = arg2 m c (ix3 G p h) * eye (k.val / 16) (q.val / 64) := by
  obtain ⟨G, _⟩ := G
  obtain ⟨h, _⟩ := h
  obtain ⟨p, _⟩ := p
  dsimp only at hG hh hp
  subst hG hh hp
  constructor
  all_goals
    unfold V hostOps0
    dsimp only [List.flatten_cons, List.flatten_nil, List.append_nil, List.cons_append, List.nil_append]
    after_results
    pointwise
theorem blk0 (r : Fin 1408) (k : Fin 128) (R : Fin 4224) (K : Fin 1024) (hR : R.val = t.val / 8 * 1408 + r.val) (hK : K.val = t.val % 8 * 128 + k.val) :
    (iblk m c 0 t : Mat 1408 128) (ix2 r k) = arg0 m c (ix2 R K) :=
  (congrArg (V m c main_arg0) (at_block (idx_facts t).1.1 (idx_facts t).1.2 hR hK rfl rfl)).trans (congrFun (V_main_arg0 m c) _)
abbrev grp : Fin 8 := ⟨t.val % 8, by omega⟩
theorem blk1 (k : Fin 128) (q : Fin 512) : (iblk m c 1 t : Ten 1 128 512) (ix3 0 k q) = (V m c main_v13 : Ten 8 128 512) (ix3 (grp t) k q) := by
  obtain ⟨-, ⟨h0, h1, h2⟩, -⟩ := idx_facts t
  exact congrArg (V m c main_v13) (at_block3 (z := 0) h0 h1 h2 rfl rfl rfl rfl rfl rfl)
theorem blk2 (k : Fin 128) (q : Fin 512) : (iblk m c 2 t : Ten 1 128 512) (ix3 0 k q) = (V m c main_v27 : Ten 8 128 512) (ix3 (grp t) k q) := by
  obtain ⟨-, -, ⟨h0, h1, h2⟩, -⟩ := idx_facts t
  exact congrArg (V m c main_v27) (at_block3 (z := 0) h0 h1 h2 rfl rfl rfl rfl rfl rfl)
theorem pay2 (b : Mat 1408 128) (v : Ten 1 128 512) (r : Fin 1408) (q : Fin 512) : k0_pay2 (F := Ideal) b v (ix2 r q) = nn b (mat v) r q := by
  refine (unit_nn (φ₁ := .bf16) (φ₂ := .bf16) _ none _ _ r q).trans (nn_congr (fun k => rfl) fun k => ?_)
  pointwise [mat]
theorem pay3 (b : Mat 1408 128) (v : Ten 1 128 512) (r : Fin 1408) (q : Fin 512) : k0_pay3 (F := Ideal) b v (ix2 r q) = nn b (mat v) r q := pay2 b v r q
theorem flushed3 : (dats m 0 c).flushed 3 t = ((cfg0.win 3).blk t).view.read (Elt Ideal) (out (arg0 m c) (arg1 m c)) := by
  obtain ⟨-, -, -, ⟨h0, h1⟩, -⟩ := idx_facts t
  have hN := points t
  rw [Value.flushed3]
  unfold out0_3
  rw [View.canon_unit_zero zeros]
  simp only [View.ld_unit_zero (S := S1408x128) zeros, View.ld_unit_zero (S := S1x128x512) zeros3]
  funext y
  obtain ⟨r, q, rfl⟩ : ∃ (r : Fin 1408) (q : Fin 512), y = ix2 r q := ⟨y 0, y 1, eq_ix2 y⟩
  have hr := r.isLt
  have hq := q.isLt
  have he : ((cfg0.win 3).blk t).view.emb (ix2 r q) = ix2 (⟨t.val / 8 * 1408 + r.val, by omega⟩ : Fin 4224) (⟨t.val % 8 * 512 + q.val, by omega⟩ : Fin 4096) :=
    at_block h0 h1 rfl rfl rfl rfl
  show k0_pay2 (F := Ideal) (iblk m c 0 t) (iblk m c 1 t) (ix2 r q) = out _ _ (((cfg0.win 3).blk t).view.emb (ix2 r q))
  rw [he]
  exact (pay2 _ _ r q).trans (up_block rfl (fun k K hK => blk0 m c t r k _ K rfl hK) fun k G h p hG hh hp => (blk1 m c t k q).trans (wts m c (grp t) k q G h p hG hh hp).1)
theorem flushed4 : (dats m 0 c).flushed 4 t = ((cfg0.win 4).blk t).view.read (Elt Ideal) (out (arg0 m c) (arg2 m c)) := by
  obtain ⟨-, -, -, -, h0, h1⟩ := idx_facts t
  have hN := points t
  rw [Value.flushed4]
  unfold out0_4
  rw [View.canon_unit_zero zeros]
  simp only [View.ld_unit_zero (S := S1408x128) zeros, View.ld_unit_zero (S := S1x128x512) zeros3]
  funext y
  obtain ⟨r, q, rfl⟩ : ∃ (r : Fin 1408) (q : Fin 512), y = ix2 r q := ⟨y 0, y 1, eq_ix2 y⟩
  have hr := r.isLt
  have hq := q.isLt
  have he : ((cfg0.win 4).blk t).view.emb (ix2 r q) = ix2 (⟨t.val / 8 * 1408 + r.val, by omega⟩ : Fin 4224) (⟨t.val % 8 * 512 + q.val, by omega⟩ : Fin 4096) :=
    at_block h0 h1 rfl rfl rfl rfl
  show k0_pay3 (F := Ideal) (iblk m c 0 t) (iblk m c 2 t) (ix2 r q) = out _ _ (((cfg0.win 4).blk t).view.emb (ix2 r q))
  rw [he]
  exact (pay3 _ _ r q).trans (up_block rfl (fun k K hK => blk0 m c t r k _ K rfl hK) fun k G h p hG hh hp => (blk2 m c t k q).trans (wts m c (grp t) k q G h p hG hh hp).2)
/-- The point whose blocks hold a given place. -/
def at_ (i : (⟨2, ![4224, 4096]⟩ : Shape).Idx) : Fin cfg0.N :=
  have h0 : (i 0).val < 4224 := (i 0).isLt
  have h1 : (i 1).val < 4096 := (i 1).isLt
  ⟨(i 0).val / 1408 * 8 + (i 1).val / 512, by rw [show cfg0.N = 24 from N_0]; omega⟩
theorem final3 : (dats m 0 c).arrAt 3 cfg0.N = out (arg0 m c) (arg1 m c) :=
  (dats m 0 c).arrAt_eq_of_cover 3 _ (fun t _ => flushed3 m c t) fun i => ⟨at_ i, flush0_3 _, by
    have h0 : (i 0).val < 4224 := (i 0).isLt
    have h1 : (i 1).val < 4096 := (i 1).isLt
    obtain ⟨-, -, -, ⟨h, h'⟩, -⟩ := idx_facts (at_ i)
    show i ∈ ((View.whole main_v28_0).slice (win0_3.rect (at_ i))).set
    rw [View.set_slice_whole]
    exact mem_block h h' rfl rfl (by dsimp only [at_]; omega) (by dsimp only [at_]; omega)⟩
theorem final4 : (dats m 0 c).arrAt 4 cfg0.N = out (arg0 m c) (arg2 m c) :=
  (dats m 0 c).arrAt_eq_of_cover 4 _ (fun t _ => flushed4 m c t) fun i => ⟨at_ i, flush0_4 _, by
    have h0 : (i 0).val < 4224 := (i 0).isLt
    have h1 : (i 1).val < 4096 := (i 1).isLt
    obtain ⟨-, -, -, -, h, h'⟩ := idx_facts (at_ i)
    show i ∈ ((View.whole main_v28_1).slice (win0_4.rect (at_ i))).set
    rw [View.set_slice_whole]
    exact mem_block h h' rfl rfl (by dsimp only [at_]; omega) (by dsimp only [at_]; omega)⟩
theorem host (b : Ten 64 64 16) (u : Ten 4224 64 16) :
    Host.dotGeneral (F := Ideal) (φ₁ := .f32) (φ₂ := .f32) RefBProdIdeal.dot_S64x64x16_S4224x64x16_S64x64x4224_2_2_1_0_0_1 none b u = fun i => ∑ k : Fin 16, b (ix3 (i 0) (i 1) k) * u (ix3 (i 2) (i 0) k) := by
  funext i
  obtain ⟨g, a, l, rfl⟩ : ∃ g a l, i = ix3 g a l := ⟨i 0, i 1, i 2, by funext d; fin_cases d <;> rfl⟩
  exact host_rows (φ₁ := .f32) (φ₂ := .f32) none _ g a l _ b u
theorem agree : Cert.algebraic_BProdIdeal_RefBProdIdeal := by
  intro m g m' g' _ same
  refine ⟨fun c => out (arg0 m c) (arg1 m c), fun c => out (arg0 m c) (arg2 m c),
    (θ_run defs _ _).mono (fun r h c => ⟨((h c).1).trans (final3 m c), ((h c).2.1).trans (final4 m c), (h c).2.2⟩) (Value.run_blocks m g),
    (θ_run RefBProdIdeal.defs _ _).mono (fun r h c => ⟨((h c).1).trans ?_, ((h c).2.1).trans ?_, (h c).2.2⟩) (RefBProdIdeal.Value.run (F := Ideal) m' g')⟩
  · rw [(same c).1, (same c).2.1, host]
    funext i
    rw [eq_ix2 i]
    pointwise [out, up]
    exact Finset.sum_congr rfl fun k _ => mul_comm _ _
  · rw [(same c).1, (same c).2.2, host]
    funext i
    rw [eq_ix2 i]
    pointwise [out, up]
    exact Finset.sum_congr rfl fun k _ => mul_comm _ _
-- ==== Proof.CProdValue.lean ====
/-
  The outputs: the two parts of the states times the two parts of C, the second negated, group by group, eight groups to
  a block.
-/
module
public import proofs.«01_k».proof.Defs
public import proofs.«01_k».proof.Proof.Gen.CProdIdeal.Value
public import proofs.«01_k».proof.Proof.Gen.RefCProdIdeal.Run
public import proofs.«01_k».proof.Proof.Gen.Pre_finite_imag
public import proofs.«01_k».proof.Proof.Finite
public import proofs.«01_k».proof.Proof.Groups
@[expose] public section
noncomputable section
namespace Cert.Proof.CProd
open CProdIdeal CProdIdeal.Gen Idealize.ShloMosaic TcCoe Idealize.SL.Sem Cert.Groups
open Cert.Products hiding eq_ix2
/-- The real part of the states times C. -/
def out (x0 x1 : Mat 4224 4096) (c0 c1 : Ten 64 16 64) : Mat 4224 1024 := fun i =>
  down x0 (fun g p c => c0 (ix3 g c p)) i + down x1 (fun g p c => -c1 (ix3 g c p)) i
/-- A sum of real numbers, negated. -/
theorem neg_sum {n : ℕ} (f : Fin n → EReal) (h : ∀ k, IsReal (f k)) : ∑ k, -f k = -∑ k, f k := by
  have key : ∀ s : Finset (Fin n), ∃ r : ℝ, ∑ k ∈ s, f k = r ∧ ∑ k ∈ s, -f k = ((-r : ℝ) : EReal) := by
    intro s
    induction s using Finset.induction_on with
    | empty => exact ⟨0, by simp, by simp⟩
    | insert a s ha ih =>
      obtain ⟨r, h1, h2⟩ := ih
      obtain ⟨b, hb⟩ := h a
      exact ⟨b + r, by rw [Finset.sum_insert ha, h1, hb, EReal.coe_add],
        by rw [Finset.sum_insert ha, h2, hb, ← EReal.coe_neg, ← EReal.coe_add, neg_add]⟩
  obtain ⟨r, h1, h2⟩ := key Finset.univ
  rw [h1, h2, EReal.coe_neg]
variable (m : (ℓ : Loc nD τ sig) → Buf (Elt Ideal) ℓ) (c : Dev nD) (t : Fin cfg0.N)
abbrev arg0 : Mat 4224 4096 := m ((c : Thread nD τ).loc main_arg0)
abbrev arg1 : Mat 4224 4096 := m ((c : Thread nD τ).loc main_arg1)
abbrev arg2 : Ten 64 16 64 := m ((c : Thread nD τ).loc main_arg2)
abbrev arg3 : Ten 64 16 64 := m ((c : Thread nD τ).loc main_arg3)
theorem points : t.val < 24 := lt_of_lt_of_eq t.isLt N_0
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 3) = t.val % 8 ∧ win0_2.index t (1 : Fin 3) = 0 ∧ win0_2.index t (2 : Fin 3) = 0)
    ∧ (win0_3.index t (0 : Fin 3) = t.val % 8 ∧ win0_3.index t (1 : Fin 3) = 0 ∧ win0_3.index t (2 : Fin 3) = 0)
    ∧ (win0_4.index t (0 : Fin 2) = t.val / 8 ∧ win0_4.index t (1 : Fin 2) = t.val % 8) :=
  (by decide +kernel : ∀ t : Fin grid0.N, _)
/-- The weights' block that the host lays out, entry by entry. -/
theorem wts (j : Fin 8) (k : Fin 512) (q : Fin 128) (G : Fin 64) (p : Fin 64) (h : Fin 16) (hG : G.val = j.val * 8 + k.val / 64) (hp : p.val = k.val % 64) (hh : h.val = q.val % 16) :
    (V m c main_v13 : Ten 8 512 128) (ix3 j k q) = arg2 m c (ix3 G h p) * eye (k.val / 64) (q.val / 16)
    ∧ (V m c main_v28 : Ten 8 512 128) (ix3 j k q) = -arg3 m c (ix3 G h p) * eye (k.val / 64) (q.val / 16) := by
  obtain ⟨G, _⟩ := G
  obtain ⟨h, _⟩ := h
  obtain ⟨p, _⟩ := p
  dsimp only at hG hh hp
  subst hG hh hp
  constructor
  all_goals
    unfold V hostOps0
    dsimp only [List.flatten_cons, List.flatten_nil, List.append_nil, List.cons_append, List.nil_append]
    after_results
    pointwise
theorem blk0 (r : Fin 1408) (k : Fin 512) (R : Fin 4224) (K : Fin 4096) (hR : R.val = t.val / 8 * 1408 + r.val) (hK : K.val = t.val % 8 * 512 + k.val) :
    (iblk m c 0 t : Mat 1408 512) (ix2 r k) = arg0 m c (ix2 R K) :=
  (congrArg (V m c main_arg0) (at_block (idx_facts t).1.1 (idx_facts t).1.2 hR hK rfl rfl)).trans (congrFun (V_main_arg0 m c) _)
theorem blk1 (r : Fin 1408) (k : Fin 512) (R : Fin 4224) (K : Fin 4096) (hR : R.val = t.val / 8 * 1408 + r.val) (hK : K.val = t.val % 8 * 512 + k.val) :
    (iblk m c 1 t : Mat 1408 512) (ix2 r k) = arg1 m c (ix2 R K) :=
  (congrArg (V m c main_arg1) (at_block (idx_facts t).2.1.1 (idx_facts t).2.1.2 hR hK rfl rfl)).trans (congrFun (V_main_arg1 m c) _)
abbrev grp : Fin 8 := ⟨t.val % 8, by omega⟩
theorem blk2 (k : Fin 512) (q : Fin 128) : (iblk m c 2 t : Ten 1 512 128) (ix3 0 k q) = (V m c main_v13 : Ten 8 512 128) (ix3 (grp t) k q) := by
  obtain ⟨-, -, ⟨h0, h1, h2⟩, -⟩ := idx_facts t
  exact congrArg (V m c main_v13) (at_block3 (z := 0) h0 h1 h2 rfl rfl rfl rfl rfl rfl)
theorem blk3 (k : Fin 512) (q : Fin 128) : (iblk m c 3 t : Ten 1 512 128) (ix3 0 k q) = (V m c main_v28 : Ten 8 512 128) (ix3 (grp t) k q) := by
  obtain ⟨-, -, -, ⟨h0, h1, h2⟩, -⟩ := idx_facts t
  exact congrArg (V m c main_v28) (at_block3 (z := 0) h0 h1 h2 rfl rfl rfl rfl rfl rfl)
theorem pay (b0 b1 : Mat 1408 512) (v0 v1 : Ten 1 512 128) (r : Fin 1408) (q : Fin 128) :
    k0_pay1 (F := Ideal) b0 b1 v0 v1 (ix2 r q) = nn b0 (mat v0) r q + nn b1 (mat v1) r q := by
  refine congrArg₂ (fun a b : EReal => a + b) ((unit_nn (φ₁ := .bf16) (φ₂ := .bf16) _ none _ _ r q).trans (nn_congr (fun k => rfl) fun k => ?_))
    ((unit_nn (φ₁ := .bf16) (φ₂ := .bf16) _ none _ _ r q).trans (nn_congr (fun k => rfl) fun k => ?_))
  · pointwise [mat]
  · pointwise [mat]
theorem flushed4 : (dats m 0 c).flushed 4 t = ((cfg0.win 4).blk t).view.read (Elt Ideal) (out (arg0 m c) (arg1 m c) (arg2 m c) (arg3 m c)) := by
  obtain ⟨-, -, -, -, h0, h1⟩ := idx_facts t
  have hN := points t
  rw [Value.flushed4]
  unfold out0_4
  rw [View.canon_unit_zero zeros]
  simp only [View.ld_unit_zero (S := S1408x512) zeros, View.ld_unit_zero (S := S1x512x128) zeros3]
  funext y
  obtain ⟨r, q, rfl⟩ : ∃ (r : Fin 1408) (q : Fin 128), y = ix2 r q := ⟨y 0, y 1, eq_ix2 y⟩
  have hr := r.isLt
  have hq := q.isLt
  have he : ((cfg0.win 4).blk t).view.emb (ix2 r q) = ix2 (⟨t.val / 8 * 1408 + r.val, by omega⟩ : Fin 4224) (⟨t.val % 8 * 128 + q.val, by omega⟩ : Fin 1024) :=
    at_block h0 h1 rfl rfl rfl rfl
  show k0_pay1 (F := Ideal) (iblk m c 0 t) (iblk m c 1 t) (iblk m c 2 t) (iblk m c 3 t) (ix2 r q) = out (arg0 m c) (arg1 m c) (arg2 m c) (arg3 m c) (((cfg0.win 4).blk t).view.emb (ix2 r q))
  rw [he]
  exact (pay _ _ _ _ r q).trans (congrArg₂ (fun a b : EReal => a + b)
    (down_block rfl (fun k K hK => blk0 m c t r k _ K rfl hK) fun k G p h hG hp hh => (blk2 m c t k q).trans (wts m c (grp t) k q G p h hG hp hh).1)
    (down_block rfl (fun k K hK => blk1 m c t r k _ K rfl hK) fun k G p h hG hp hh => (blk3 m c t k q).trans (wts m c (grp t) k q G p h hG hp hh).2))
theorem final4 : (dats m 0 c).arrAt 4 cfg0.N = out (arg0 m c) (arg1 m c) (arg2 m c) (arg3 m c) :=
  (dats m 0 c).arrAt_eq_of_cover 4 _ (fun t _ => flushed4 m c t) fun i => by
    have h0 : (i 0).val < 4224 := (i 0).isLt
    have h1 : (i 1).val < 1024 := (i 1).isLt
    have ht : (i 0).val / 1408 * 8 + (i 1).val / 128 < cfg0.N := by rw [show cfg0.N = 24 from N_0]; omega
    obtain ⟨-, -, -, -, h, h'⟩ := idx_facts ⟨_, ht⟩
    refine ⟨⟨_, ht⟩, flush0_4 _, ?_⟩
    show i ∈ ((View.whole main_v29).slice (win0_4.rect ⟨_, ht⟩)).set
    rw [View.set_slice_whole]
    exact mem_block h h' rfl rfl (by dsimp only; omega) (by dsimp only; omega)
theorem host (b : Ten 64 16 64) (u : Ten 4224 64 64) (g : Fin 64) (a : Fin 16) (l : Fin 4224) :
    Host.dotGeneral (F := Ideal) (φ₁ := .f32) (φ₂ := .f32) RefCProdIdeal.dot_S64x16x64_S4224x64x64_S64x16x4224_2_2_1_0_0_1 none b u (ix3 g a l) = ∑ k : Fin 64, b (ix3 g a k) * u (ix3 l g k) :=
  host_rows (φ₁ := .f32) (φ₂ := .f32) none _ g a l _ b u
theorem agree : Cert.algebraic_CProdIdeal_RefCProdIdeal_pre_finite_imag := by
  intro m g m' g' hp same
  refine ⟨fun c => out (arg0 m c) (arg1 m c) (arg2 m c) (arg3 m c),
    (θ_run defs _ _).mono (fun r h c => ⟨((h c).1).trans (final4 m c), (h c).2⟩) (Value.run_blocks m g),
    (θ_run RefCProdIdeal.defs _ _).mono (fun r h c => ⟨((h c).1).trans ?_, (h c).2⟩) (RefCProdIdeal.Value.run (F := Ideal) m' g')⟩
  rw [(same c).1, (same c).2.1, (same c).2.2.1, (same c).2.2.2]
  funext i
  rw [eq_ix2 i]
  pointwise [out, down, host]
  have h1 (i) : IsReal (arg1 m c i) := real_of_below (congrFun (hp c).1 i)
  have h3 (i) : IsReal (arg3 m c i) := real_of_below (congrFun (hp c).2 i)
  rw [sub_eq_add_neg, ← neg_sum _ fun k => real_mul (h3 _) (h1 _)]
  exact congrArg₂ (fun a b : EReal => a + b) (Finset.sum_congr rfl fun k _ => mul_comm _ _)
    (Finset.sum_congr rfl fun k _ => by rw [mul_neg, mul_comm])
-- ==== Proof.CGradValue.lean ====
/-
  The gradients of the states' two parts: the gradient of C's product times the two parts of C transposed, the second
  negated, group by group, eight groups to a block.
-/
module
public import proofs.«01_k».proof.Defs
public import proofs.«01_k».proof.Proof.Gen.CGradIdeal.Value
public import proofs.«01_k».proof.Proof.Gen.RefCGradIdeal.Run
public import proofs.«01_k».proof.Proof.Groups
@[expose] public section
noncomputable section
namespace Cert.Proof.CGrad
open CGradIdeal CGradIdeal.Gen Idealize.ShloMosaic TcCoe Idealize.SL.Sem Cert.Groups
open Cert.Products hiding eq_ix2
/-- The gradient of one part of the states. -/
def out (x : Mat 4224 1024) (b : Ten 64 16 64) : Mat 4224 4096 := up x fun g c p => b (ix3 g c p)
variable (m : (ℓ : Loc nD τ sig) → Buf (Elt Ideal) ℓ) (c : Dev nD) (t : Fin cfg0.N)
abbrev arg0 : Mat 4224 1024 := m ((c : Thread nD τ).loc main_arg0)
abbrev arg1 : Ten 64 16 64 := m ((c : Thread nD τ).loc main_arg1)
abbrev arg2 : Ten 64 16 64 := m ((c : Thread nD τ).loc main_arg2)
theorem points : t.val < 24 := lt_of_lt_of_eq t.isLt N_0
theorem idx_facts : ∀ t : Fin cfg0.N,
    (win0_0.index t (0 : Fin 2) = t.val / 8 ∧ win0_0.index t (1 : Fin 2) = t.val % 8)
    ∧ (win0_1.index t (0 : Fin 3) = t.val % 8 ∧ win0_1.index t (1 : Fin 3) = 0 ∧ win0_1.index t (2 : Fin 3) = 0)
    ∧ (win0_2.index t (0 : Fin 3) = t.val % 8 ∧ win0_2.index t (1 : Fin 3) = 0 ∧ win0_2.index t (2 : Fin 3) = 0)
    ∧ (win0_3.index t (0 : Fin 2) = t.val / 8 ∧ win0_3.index t (1 : Fin 2) = t.val % 8)
    ∧ (win0_4.index t (0 : Fin 2) = t.val / 8 ∧ win0_4.index t (1 : Fin 2) = t.val % 8) :=
  (by decide +kernel : ∀ t : Fin grid0.N, _)
/-- The weights' block that the host lays out, entry by entry. -/
theorem wts (j : Fin 8) (k : Fin 128) (q : Fin 512) (G : Fin 64) (h : Fin 16) (p : Fin 64) (hG : G.val = j.val * 8 + k.val / 16) (hh : h.val = k.val % 16) (hp : p.val = q.val % 64) :
    (V m c main_v14 : Ten 8 128 512) (ix3 j k q) = arg1 m c (ix3 G h p) * eye (k.val / 16) (q.val / 64)
    ∧ (V m c main_v30 : Ten 8 128 512) (ix3 j k q) = -arg2 m c (ix3 G h p) * eye (k.val / 16) (q.val / 64) := by
  obtain ⟨G, _⟩ := G
  obtain ⟨h, _⟩ := h
  obtain ⟨p, _⟩ := p
  dsimp only at hG hh hp
  subst hG hh hp
  constructor
  all_goals
    unfold V hostOps0
    dsimp only [List.flatten_cons, List.flatten_nil, List.append_nil, List.cons_append, List.nil_append]
    after_results
    pointwise
    exact eye_swap (by omega) (by omega) fun e => by simp only [e]
theorem blk0 (r : Fin 1408) (k : Fin 128) (R : Fin 4224) (K : Fin 1024) (hR : R.val = t.val / 8 * 1408 + r.val) (hK : K.val = t.val % 8 * 128 + k.val) :
    (iblk m c 0 t : Mat 1408 128) (ix2 r k) = arg0 m c (ix2 R K) :=
  (congrArg (V m c main_arg0) (at_block (idx_facts t).1.1 (idx_facts t).1.2 hR hK rfl rfl)).trans (congrFun (V_main_arg0 m c) _)
abbrev grp : Fin 8 := ⟨t.val % 8, by omega⟩
theorem blk1 (k : Fin 128) (q : Fin 512) : (iblk m c 1 t : Ten 1 128 512) (ix3 0 k q) = (V m c main_v14 : Ten 8 128 512) (ix3 (grp t) k q) := by
  obtain ⟨-, ⟨h0, h1, h2⟩, -⟩ := idx_facts t
  exact congrArg (V m c main_v14) (at_block3 (z := 0) h0 h1 h2 rfl rfl rfl rfl rfl rfl)
theorem blk2 (k : Fin 128) (q : Fin 512) : (iblk m c 2 t : Ten 1 128 512) (ix3 0 k q) = (V m c main_v30 : Ten 8 128 512) (ix3 (grp t) k q) := by
  obtain ⟨-, -, ⟨h0, h1, h2⟩, -⟩ := idx_facts t
  exact congrArg (V m c main_v30) (at_block3 (z := 0) h0 h1 h2 rfl rfl rfl rfl rfl rfl)
theorem pay2 (b : Mat 1408 128) (v : Ten 1 128 512) (r : Fin 1408) (q : Fin 512) : k0_pay2 (F := Ideal) b v (ix2 r q) = nn b (mat v) r q := by
  refine (unit_nn (φ₁ := .bf16) (φ₂ := .bf16) _ none _ _ r q).trans (nn_congr (fun k => rfl) fun k => ?_)
  pointwise [mat]
theorem pay3 (b : Mat 1408 128) (v : Ten 1 128 512) (r : Fin 1408) (q : Fin 512) : k0_pay3 (F := Ideal) b v (ix2 r q) = nn b (mat v) r q := pay2 b v r q
theorem flushed3 : (dats m 0 c).flushed 3 t = ((cfg0.win 3).blk t).view.read (Elt Ideal) (out (arg0 m c) (arg1 m c)) := by
  obtain ⟨-, -, -, ⟨h0, h1⟩, -⟩ := idx_facts t
  have hN := points t
  rw [Value.flushed3]
  unfold out0_3
  rw [View.canon_unit_zero zeros]
  simp only [View.ld_unit_zero (S := S1408x128) zeros, View.ld_unit_zero (S := S1x128x512) zeros3]
  funext y
  obtain ⟨r, q, rfl⟩ : ∃ (r : Fin 1408) (q : Fin 512), y = ix2 r q := ⟨y 0, y 1, eq_ix2 y⟩
  have hr := r.isLt
  have hq := q.isLt
  have he : ((cfg0.win 3).blk t).view.emb (ix2 r q) = ix2 (⟨t.val / 8 * 1408 + r.val, by omega⟩ : Fin 4224) (⟨t.val % 8 * 512 + q.val, by omega⟩ : Fin 4096) :=
    at_block h0 h1 rfl rfl rfl rfl
  show k0_pay2 (F := Ideal) (iblk m c 0 t) (iblk m c 1 t) (ix2 r q) = out _ _ (((cfg0.win 3).blk t).view.emb (ix2 r q))
  rw [he]
  exact (pay2 _ _ r q).trans (up_block rfl (fun k K hK => blk0 m c t r k _ K rfl hK) fun k G h p hG hh hp => (blk1 m c t k q).trans (wts m c (grp t) k q G h p hG hh hp).1)
theorem flushed4 : (dats m 0 c).flushed 4 t = ((cfg0.win 4).blk t).view.read (Elt Ideal) (out (arg0 m c) (fun i => -arg2 m c i)) := by
  obtain ⟨-, -, -, -, h0, h1⟩ := idx_facts t
  have hN := points t
  rw [Value.flushed4]
  unfold out0_4
  rw [View.canon_unit_zero zeros]
  simp only [View.ld_unit_zero (S := S1408x128) zeros, View.ld_unit_zero (S := S1x128x512) zeros3]
  funext y
  obtain ⟨r, q, rfl⟩ : ∃ (r : Fin 1408) (q : Fin 512), y = ix2 r q := ⟨y 0, y 1, eq_ix2 y⟩
  have hr := r.isLt
  have hq := q.isLt
  have he : ((cfg0.win 4).blk t).view.emb (ix2 r q) = ix2 (⟨t.val / 8 * 1408 + r.val, by omega⟩ : Fin 4224) (⟨t.val % 8 * 512 + q.val, by omega⟩ : Fin 4096) :=
    at_block h0 h1 rfl rfl rfl rfl
  show k0_pay3 (F := Ideal) (iblk m c 0 t) (iblk m c 2 t) (ix2 r q) = out (arg0 m c) (fun i => -arg2 m c i) (((cfg0.win 4).blk t).view.emb (ix2 r q))
  rw [he]
  exact (pay3 _ _ r q).trans (up_block rfl (fun k K hK => blk0 m c t r k _ K rfl hK) fun k G h p hG hh hp => (blk2 m c t k q).trans (wts m c (grp t) k q G h p hG hh hp).2)
/-- The point whose blocks hold a given place. -/
def at_ (i : (⟨2, ![4224, 4096]⟩ : Shape).Idx) : Fin cfg0.N :=
  have h0 : (i 0).val < 4224 := (i 0).isLt
  have h1 : (i 1).val < 4096 := (i 1).isLt
  ⟨(i 0).val / 1408 * 8 + (i 1).val / 512, by rw [show cfg0.N = 24 from N_0]; omega⟩
theorem final3 : (dats m 0 c).arrAt 3 cfg0.N = out (arg0 m c) (arg1 m c) :=
  (dats m 0 c).arrAt_eq_of_cover 3 _ (fun t _ => flushed3 m c t) fun i => ⟨at_ i, flush0_3 _, by
    have h0 : (i 0).val < 4224 := (i 0).isLt
    have h1 : (i 1).val < 4096 := (i 1).isLt
    obtain ⟨-, -, -, ⟨h, h'⟩, -⟩ := idx_facts (at_ i)
    show i ∈ ((View.whole main_v31_0).slice (win0_3.rect (at_ i))).set
    rw [View.set_slice_whole]
    exact mem_block h h' rfl rfl (by dsimp only [at_]; omega) (by dsimp only [at_]; omega)⟩
theorem final4 : (dats m 0 c).arrAt 4 cfg0.N = out (arg0 m c) (fun i => -arg2 m c i) :=
  (dats m 0 c).arrAt_eq_of_cover 4 _ (fun t _ => flushed4 m c t) fun i => ⟨at_ i, flush0_4 _, by
    have h0 : (i 0).val < 4224 := (i 0).isLt
    have h1 : (i 1).val < 4096 := (i 1).isLt
    obtain ⟨-, -, -, -, h, h'⟩ := idx_facts (at_ i)
    show i ∈ ((View.whole main_v31_1).slice (win0_4.rect (at_ i))).set
    rw [View.set_slice_whole]
    exact mem_block h h' rfl rfl (by dsimp only [at_]; omega) (by dsimp only [at_]; omega)⟩
theorem host (u : Ten 64 16 4224) (b : Ten 64 16 64) (g : Fin 64) (l : Fin 4224) (a : Fin 64) :
    Host.dotGeneral (F := Ideal) (φ₁ := .f32) (φ₂ := .f32) RefCGradIdeal.dot_S64x16x4224_S64x16x64_S64x4224x64_1_1_2_2_0_0 none u b (ix3 g l a) = ∑ k : Fin 16, u (ix3 g k l) * b (ix3 g k a) :=
  host_cols (φ₁ := .f32) (φ₂ := .f32) none _ g a l _ u b
theorem agree : Cert.algebraic_CGradIdeal_RefCGradIdeal := by
  intro m g m' g' _ same
  refine ⟨fun c => out (arg0 m c) (arg1 m c), fun c => out (arg0 m c) (fun i => -arg2 m c i),
    (θ_run defs _ _).mono (fun r h c => ⟨((h c).1).trans (final3 m c), ((h c).2.1).trans (final4 m c), (h c).2.2⟩) (Value.run_blocks m g),
    (θ_run RefCGradIdeal.defs _ _).mono (fun r h c => ⟨((h c).1).trans ?_, ((h c).2.1).trans ?_, (h c).2.2⟩) (RefCGradIdeal.Value.run (F := Ideal) m' g')⟩
  · rw [(same c).1, (same c).2.1]
    funext i
    rw [eq_ix2 i]
    pointwise [out, up, host]
  · rw [(same c).1, (same c).2.2]
    funext i
    rw [eq_ix2 i]
    pointwise [out, up, host]
    exact Finset.sum_congr rfl fun k _ => (neg_mul _ _).trans (mul_neg _ _).symm
-- ==== Proof.BGradValue.lean ====
/-
  The gradient of the scan's input: the gradients of the states' two parts times the two parts of B transposed, group by
  group, eight groups to a block.
-/
module
public import proofs.«01_k».proof.Defs
public import proofs.«01_k».proof.Proof.Gen.BGradIdeal.Value
public import proofs.«01_k».proof.Proof.Gen.RefBGradIdeal.Run
public import proofs.«01_k».proof.Proof.Groups
@[expose] public section
noncomputable section
namespace Cert.Proof.BGrad
open BGradIdeal BGradIdeal.Gen Idealize.ShloMosaic TcCoe Idealize.SL.Sem Cert.Groups
open Cert.Products hiding eq_ix2
/-- The gradient of the scan's input. -/
def out (x0 x1 : Mat 4224 4096) (b0 b1 : Ten 64 64 16) : Mat 4224 1024 := fun i =>
  down x0 (fun g p c => b0 (ix3 g p c)) i + down x1 (fun g p c => b1 (ix3 g p c)) i
variable (m : (ℓ : Loc nD τ sig) → Buf (Elt Ideal) ℓ) (c : Dev nD) (t : Fin cfg0.N)
abbrev arg0 : Mat 4224 4096 := m ((c : Thread nD τ).loc main_arg0)
abbrev arg1 : Mat 4224 4096 := m ((c : Thread nD τ).loc main_arg1)
abbrev arg2 : Ten 64 64 16 := m ((c : Thread nD τ).loc main_arg2)
abbrev arg3 : Ten 64 64 16 := m ((c : Thread nD τ).loc main_arg3)
theorem points : t.val < 24 := lt_of_lt_of_eq t.isLt N_0
theorem idx_facts : ∀ t : Fin cfg0.N,
    (win0_0.index t (0 : Fin 2) = t.val / 8 ∧ win0_0.index t (1 : Fin 2) = t.val % 8)
    ∧ (win0_1.index t (0 : Fin 2) = t.val / 8 ∧ win0_1.index t (1 : Fin 2) = t.val % 8)
    ∧ (win0_2.index t (0 : Fin 3) = t.val % 8 ∧ win0_2.index t (1 : Fin 3) = 0 ∧ win0_2.index t (2 : Fin 3) = 0)
    ∧ (win0_3.index t (0 : Fin 3) = t.val % 8 ∧ win0_3.index t (1 : Fin 3) = 0 ∧ win0_3.index t (2 : Fin 3) = 0)
    ∧ (win0_4.index t (0 : Fin 2) = t.val / 8 ∧ win0_4.index t (1 : Fin 2) = t.val % 8) :=
  (by decide +kernel : ∀ t : Fin grid0.N, _)
/-- The weights' block that the host lays out, entry by entry. -/
theorem wts (j : Fin 8) (k : Fin 512) (q : Fin 128) (G : Fin 64) (p : Fin 64) (h : Fin 16) (hG : G.val = j.val * 8 + k.val / 64) (hp : p.val = k.val % 64) (hh : h.val = q.val % 16) :
    (V m c main_v14 : Ten 8 512 128) (ix3 j k q) = arg2 m c (ix3 G p h) * eye (k.val / 64) (q.val / 16)
    ∧ (V m c main_v29 : Ten 8 512 128) (ix3 j k q) = arg3 m c (ix3 G p h) * eye (k.val / 64) (q.val / 16) := by
  obtain ⟨G, _⟩ := G
  obtain ⟨h, _⟩ := h
  obtain ⟨p, _⟩ := p
  dsimp only at hG hh hp
  subst hG hh hp
  constructor
  all_goals
    unfold V hostOps0
    dsimp only [List.flatten_cons, List.flatten_nil, List.append_nil, List.cons_append, List.nil_append]
    after_results
    pointwise
    exact eye_swap (by omega) (by omega) fun e => by simp only [e]
theorem blk0 (r : Fin 1408) (k : Fin 512) (R : Fin 4224) (K : Fin 4096) (hR : R.val = t.val / 8 * 1408 + r.val) (hK : K.val = t.val % 8 * 512 + k.val) :
    (iblk m c 0 t : Mat 1408 512) (ix2 r k) = arg0 m c (ix2 R K) :=
  (congrArg (V m c main_arg0) (at_block (idx_facts t).1.1 (idx_facts t).1.2 hR hK rfl rfl)).trans (congrFun (V_main_arg0 m c) _)
theorem blk1 (r : Fin 1408) (k : Fin 512) (R : Fin 4224) (K : Fin 4096) (hR : R.val = t.val / 8 * 1408 + r.val) (hK : K.val = t.val % 8 * 512 + k.val) :
    (iblk m c 1 t : Mat 1408 512) (ix2 r k) = arg1 m c (ix2 R K) :=
  (congrArg (V m c main_arg1) (at_block (idx_facts t).2.1.1 (idx_facts t).2.1.2 hR hK rfl rfl)).trans (congrFun (V_main_arg1 m c) _)
abbrev grp : Fin 8 := ⟨t.val % 8, by omega⟩
theorem blk2 (k : Fin 512) (q : Fin 128) : (iblk m c 2 t : Ten 1 512 128) (ix3 0 k q) = (V m c main_v14 : Ten 8 512 128) (ix3 (grp t) k q) := by
  obtain ⟨-, -, ⟨h0, h1, h2⟩, -⟩ := idx_facts t
  exact congrArg (V m c main_v14) (at_block3 (z := 0) h0 h1 h2 rfl rfl rfl rfl rfl rfl)
theorem blk3 (k : Fin 512) (q : Fin 128) : (iblk m c 3 t : Ten 1 512 128) (ix3 0 k q) = (V m c main_v29 : Ten 8 512 128) (ix3 (grp t) k q) := by
  obtain ⟨-, -, -, ⟨h0, h1, h2⟩, -⟩ := idx_facts t
  exact congrArg (V m c main_v29) (at_block3 (z := 0) h0 h1 h2 rfl rfl rfl rfl rfl rfl)
theorem pay (b0 b1 : Mat 1408 512) (v0 v1 : Ten 1 512 128) (r : Fin 1408) (q : Fin 128) :
    k0_pay1 (F := Ideal) b0 b1 v0 v1 (ix2 r q) = nn b0 (mat v0) r q + nn b1 (mat v1) r q := by
  refine congrArg₂ (fun a b : EReal => a + b) ((unit_nn (φ₁ := .bf16) (φ₂ := .bf16) _ none _ _ r q).trans (nn_congr (fun k => rfl) fun k => ?_))
    ((unit_nn (φ₁ := .bf16) (φ₂ := .bf16) _ none _ _ r q).trans (nn_congr (fun k => rfl) fun k => ?_))
  · pointwise [mat]
  · pointwise [mat]
theorem flushed4 : (dats m 0 c).flushed 4 t = ((cfg0.win 4).blk t).view.read (Elt Ideal) (out (arg0 m c) (arg1 m c) (arg2 m c) (arg3 m c)) := by
  obtain ⟨-, -, -, -, h0, h1⟩ := idx_facts t
  have hN := points t
  rw [Value.flushed4]
  unfold out0_4
  rw [View.canon_unit_zero zeros]
  simp only [View.ld_unit_zero (S := S1408x512) zeros, View.ld_unit_zero (S := S1x512x128) zeros3]
  funext y
  obtain ⟨r, q, rfl⟩ : ∃ (r : Fin 1408) (q : Fin 128), y = ix2 r q := ⟨y 0, y 1, eq_ix2 y⟩
  have hr := r.isLt
  have hq := q.isLt
  have he : ((cfg0.win 4).blk t).view.emb (ix2 r q) = ix2 (⟨t.val / 8 * 1408 + r.val, by omega⟩ : Fin 4224) (⟨t.val % 8 * 128 + q.val, by omega⟩ : Fin 1024) :=
    at_block h0 h1 rfl rfl rfl rfl
  show k0_pay1 (F := Ideal) (iblk m c 0 t) (iblk m c 1 t) (iblk m c 2 t) (iblk m c 3 t) (ix2 r q) = out (arg0 m c) (arg1 m c) (arg2 m c) (arg3 m c) (((cfg0.win 4).blk t).view.emb (ix2 r q))
  rw [he]
  exact (pay _ _ _ _ r q).trans (congrArg₂ (fun a b : EReal => a + b)
    (down_block rfl (fun k K hK => blk0 m c t r k _ K rfl hK) fun k G p h hG hp hh => (blk2 m c t k q).trans (wts m c (grp t) k q G p h hG hp hh).1)
    (down_block rfl (fun k K hK => blk1 m c t r k _ K rfl hK) fun k G p h hG hp hh => (blk3 m c t k q).trans (wts m c (grp t) k q G p h hG hp hh).2))
theorem final4 : (dats m 0 c).arrAt 4 cfg0.N = out (arg0 m c) (arg1 m c) (arg2 m c) (arg3 m c) :=
  (dats m 0 c).arrAt_eq_of_cover 4 _ (fun t _ => flushed4 m c t) fun i => by
    have h0 : (i 0).val < 4224 := (i 0).isLt
    have h1 : (i 1).val < 1024 := (i 1).isLt
    have ht : (i 0).val / 1408 * 8 + (i 1).val / 128 < cfg0.N := by rw [show cfg0.N = 24 from N_0]; omega
    obtain ⟨-, -, -, -, h, h'⟩ := idx_facts ⟨_, ht⟩
    refine ⟨⟨_, ht⟩, flush0_4 _, ?_⟩
    show i ∈ ((View.whole main_v30).slice (win0_4.rect ⟨_, ht⟩)).set
    rw [View.set_slice_whole]
    exact mem_block h h' rfl rfl (by dsimp only; omega) (by dsimp only; omega)
theorem host (u : Ten 64 64 4224) (b : Ten 64 64 16) (g : Fin 64) (l : Fin 4224) (a : Fin 16) :
    Host.dotGeneral (F := Ideal) (φ₁ := .f32) (φ₂ := .f32) RefBGradIdeal.dot_S64x64x4224_S64x64x16_S64x4224x16_1_1_2_2_0_0 none u b (ix3 g l a) = ∑ k : Fin 64, u (ix3 g k l) * b (ix3 g k a) :=
  host_cols (φ₁ := .f32) (φ₂ := .f32) none _ g a l _ u b
theorem agree : Cert.algebraic_BGradIdeal_RefBGradIdeal := by
  intro m g m' g' _ same
  refine ⟨fun c => out (arg0 m c) (arg1 m c) (arg2 m c) (arg3 m c),
    (θ_run defs _ _).mono (fun r h c => ⟨((h c).1).trans (final4 m c), (h c).2⟩) (Value.run_blocks m g),
    (θ_run RefBGradIdeal.defs _ _).mono (fun r h c => ⟨((h c).1).trans ?_, (h c).2⟩) (RefBGradIdeal.Value.run (F := Ideal) m' g')⟩
  rw [(same c).1, (same c).2.1, (same c).2.2.1, (same c).2.2.2]
  funext i
  rw [eq_ix2 i]
  pointwise [out, down, host]
  exact add_comm _ _
-- ==== Proof.RefRun.lean ====
module

public import proofs.«01_k».proof.Proof.Gen.ReferenceIdeal
public import Idealize.ShloMosaic.Lib.Pipeline.Regions
public import Idealize.ShloMosaic.Lib.Pipeline.RegionsLoop
public import Idealize.ShloMosaic.Lib.StableHlo.RunLoop
public import Idealize.ShloMosaic.Lib.StableHlo.RunRead
public import Idealize.ShloMosaic.Lib.Scf.ExitTest
public import Idealize.ShloMosaic.Lib.Scf.Counter
public import Idealize.ShloMosaic.Lib.Quiescent
@[expose] public section

/-! # The reference program as it runs

Two loops of 4224 trips: the forward recurrence, keeping every state it steps from, and the backward
recurrence over those states. The program is cut into stretches of straight-line operations; every run ends
with each array at what the stretches, taken in order with both loops unrolled, leave in it. -/

noncomputable section
namespace Cert.ReferenceIdeal.Scan
open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs CSeg)
variable {F : FTy → Type} [FloatOps F]

/-- A row of f32. -/
abbrev RowC (F : FTy → Type) := (⟨S32x128, .f32⟩ : BufTy).Contents (Elt F)
/-- A row of f32 for every position. -/
abbrev AllC (F : FTy → Type) := (⟨S4224x32x128, .f32⟩ : BufTy).Contents (Elt F)

/-- A row of bf16, and such a row for every position. -/
abbrev RowB (F : FTy → Type) := (⟨S32x128, .bf16⟩ : BufTy).Contents (Elt F)
abbrev AllB (F : FTy → Type) := (⟨S4224x32x128, .bf16⟩ : BufTy).Contents (Elt F)
/-- An array of the program, as a run holds it. -/
abbrev arr (r : Ref sig .tc) := Proc.devRef (τ := τ) .tc r
/-- A stretch of operations. -/
abbrev Ops (F : FTy → Type) := List (HloOp τ sig (Elt F))
/-- A stretch reads and writes only arrays the core owns. -/
abbrev Owned (o : Ops F) := o.Forall fun op => op.bufs ⊆ tcRefs τ sig
/-- A stretch writes only these. -/
abbrev Only (o : Ops F) (W : List (Ref sig .tc)) := o.Forall fun op => op.writes ⊆ (W.map (Proc.devRef (τ := τ) .tc)).toFinset
/-- The types of the arrays the loops index. -/
abbrev TI := TRef sig ⟨S_, .i32⟩
abbrev TAllB := TRef sig ⟨S4224x32x128, .bf16⟩
abbrev TAll := TRef sig ⟨S4224x32x128, .f32⟩
abbrev TOneB := TRef sig ⟨S1x32x128, .bf16⟩
abbrev TOne := TRef sig ⟨S1x32x128, .f32⟩
abbrev TRowB := TRef sig ⟨S32x128, .bf16⟩
abbrev TRow := TRef sig ⟨S32x128, .f32⟩

abbrev hostOps0 : Ops F :=
  [ nullary main_cst (constant S_ .f32 0x00000000#32),
    unary main_cst main_v0 (broadcastInDim S32x128 ![] bcast_S_S32x128 : (⟨S_, .f32⟩ : BufTy).Contents (Elt F) → RowC F),
    nullary main_cst_0 (constant S_ .bf16 0x0000#16),
    unary main_cst_0 main_v1 (broadcastInDim S4224x32x128 ![] bcast_S_S4224x32x128 : (⟨S_, .bf16⟩ : BufTy).Contents (Elt F) → AllB F),
    nullary main_cst_1 (constant S_ .bf16 0x0000#16),
    unary main_cst_1 main_v2 (broadcastInDim S4224x32x128 ![] bcast_S_S4224x32x128 : (⟨S_, .bf16⟩ : BufTy).Contents (Elt F) → AllB F),
    nullary main_cst_2 (constant S_ .f32 0x00000000#32),
    unary main_cst_2 main_v3 (broadcastInDim S4224x32x128 ![] bcast_S_S4224x32x128 : (⟨S_, .f32⟩ : BufTy).Contents (Elt F) → AllC F),
    nullary main_cst_3 (constant S_ .f32 0x00000000#32),
    unary main_cst_3 main_v4 (broadcastInDim S4224x32x128 ![] bcast_S_S4224x32x128 : (⟨S_, .f32⟩ : BufTy).Contents (Elt F) → AllC F),
    nullary main_c (constantI S_ 32 0#32),
    unary main_arg0 main_v5_0 id,
    unary main_arg1 main_v5_1 id,
    unary main_arg2 main_v5_2 id,
    unary main_arg3 main_v5_3 id,
    unary main_c main_v5_4 id,
    unary main_v0 main_v5_5 id,
    unary main_v0 main_v5_6 id,
    unary main_v1 main_v5_7 id,
    unary main_v2 main_v5_8 id,
    unary main_v3 main_v5_9 id,
    unary main_v4 main_v5_10 id ]
theorem hostOps0_sub : Owned (F := F) hostOps0 :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
abbrev hostOps0_1 : Ops F :=
  [ nullary main_cst_4 (constant S_ .f32 0x00000000#32),
    unary main_cst_4 main_v6 (broadcastInDim S32x128 ![] bcast_S_S32x128 : (⟨S_, .f32⟩ : BufTy).Contents (Elt F) → RowC F),
    nullary main_cst_5 (constant S_ .f32 0x00000000#32),
    unary main_cst_5 main_v7 (broadcastInDim S32x128 ![] bcast_S_S32x128 : (⟨S_, .f32⟩ : BufTy).Contents (Elt F) → RowC F),
    nullary main_cst_6 (constant S_ .f32 0x00000000#32),
    unary main_cst_6 main_v8 (broadcastInDim S32x128 ![] bcast_S_S32x128 : (⟨S_, .f32⟩ : BufTy).Contents (Elt F) → RowC F),
    nullary main_cst_7 (constant S_ .f32 0x00000000#32),
    unary main_cst_7 main_v9 (broadcastInDim S32x128 ![] bcast_S_S32x128 : (⟨S_, .f32⟩ : BufTy).Contents (Elt F) → RowC F),
    nullary main_cst_8 (constant S_ .f32 0x00000000#32),
    unary main_cst_8 main_v10 (broadcastInDim S32x128 ![] bcast_S_S32x128 : (⟨S_, .f32⟩ : BufTy).Contents (Elt F) → RowC F),
    nullary main_cst_9 (constant S_ .f32 0x00000000#32),
    unary main_cst_9 main_v11 (broadcastInDim S32x128 ![] bcast_S_S32x128 : (⟨S_, .f32⟩ : BufTy).Contents (Elt F) → RowC F),
    nullary main_cst_10 (constant S_ .bf16 0x0000#16),
    unary main_cst_10 main_v12 (broadcastInDim S4224x32x128 ![] bcast_S_S4224x32x128 : (⟨S_, .bf16⟩ : BufTy).Contents (Elt F) → AllB F),
    nullary main_cst_11 (constant S_ .bf16 0x0000#16),
    unary main_cst_11 main_v13 (broadcastInDim S4224x32x128 ![] bcast_S_S4224x32x128 : (⟨S_, .bf16⟩ : BufTy).Contents (Elt F) → AllB F),
    nullary main_c_12 (constantI S_ 32 0#32),
    unary main_arg4 main_v14_0 id,
    unary main_arg5 main_v14_1 id,
    unary main_v5_9 main_v14_2 id,
    unary main_v5_10 main_v14_3 id,
    unary main_arg2 main_v14_4 id,
    unary main_arg3 main_v14_5 id,
    unary main_c_12 main_v14_6 id,
    unary main_v10 main_v14_7 id,
    unary main_v11 main_v14_8 id,
    unary main_v8 main_v14_9 id,
    unary main_v9 main_v14_10 id,
    unary main_v12 main_v14_11 id,
    unary main_v13 main_v14_12 id ]
theorem hostOps0_1_sub : Owned (F := F) hostOps0_1 :=
  ⟨nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
theorem main_chain (c : Dev nD) : main (F := F) c = (Pipeline.chain
  [ seq hostOps0,
    HostLoop.enter 0,
    seq hostOps0_1,
    HostLoop.enter 1 ] : Prog (TpuEff nD τ sig (Elt F) (HostLoop.Sig (Pipeline.Sig Λ₀ (Fin 0) fun p => (pcfgs (F := F) p).Adm) 2) .tc) PUnit) := by
  rewrite [chain_seq_cons, Pipeline.chain_cons, chain_seq_cons, Pipeline.chain_cons]
  chain_rfl

abbrev fop : Ops F :=
  [ TRef.nullary (.of main_while0b_call0_c : TI) (constantI S_ 32 0#32),
    TRef.nullary (.of main_while0b_call0_c_0 : TI) (constantI S_ 32 0#32),
    TRef.unaryIndexed (.of main_v5_0 : TAllB) ![(.of main_v5_4 : TI), (.of main_while0b_call0_c : TI), (.of main_while0b_call0_c_0 : TI)] (.of main_while0b_call0_v0 : TOneB) (fun x i => Host.dynamicSlice S1x32x128 x (fun k => (i k (Shape.Idx.first h_S_)).toInt) sliceFits_S4224x32x128_S1x32x128),
    TRef.reshape (.of main_while0b_call0_v0 : TOneB) (.of main_while0b_v15 : TRowB) (rfl : (.bf16 : EltTy) = .bf16) shapeCasts_S1x32x128_S32x128 ]
theorem fop_sub : Owned (F := F) fop :=
  ⟨nullary_bufs_sub .., nullary_bufs_sub .., unaryIndexed_bufs_sub .., reshape_bufs_sub ..⟩
abbrev fop_1 : Ops F :=
  [ TRef.nullary (.of main_while0b_call1_c : TI) (constantI S_ 32 0#32),
    TRef.nullary (.of main_while0b_call1_c_0 : TI) (constantI S_ 32 0#32),
    TRef.unaryIndexed (.of main_v5_1 : TAllB) ![(.of main_v5_4 : TI), (.of main_while0b_call1_c : TI), (.of main_while0b_call1_c_0 : TI)] (.of main_while0b_call1_v0 : TOneB) (fun x i => Host.dynamicSlice S1x32x128 x (fun k => (i k (Shape.Idx.first h_S_)).toInt) sliceFits_S4224x32x128_S1x32x128),
    TRef.reshape (.of main_while0b_call1_v0 : TOneB) (.of main_while0b_v16 : TRowB) (rfl : (.bf16 : EltTy) = .bf16) shapeCasts_S1x32x128_S32x128 ]
theorem fop_1_sub : Owned (F := F) fop_1 :=
  ⟨nullary_bufs_sub .., nullary_bufs_sub .., unaryIndexed_bufs_sub .., reshape_bufs_sub ..⟩
abbrev fop_2 : Ops F :=
  [ binary main_v5_2 main_v5_5 main_while0b_v17 (mulf : RowC F → RowC F → RowC F),
    binary main_v5_3 main_v5_6 main_while0b_v18 (mulf : RowC F → RowC F → RowC F),
    binary main_while0b_v17 main_while0b_v18 main_while0b_v19 (subf : RowC F → RowC F → RowC F),
    unary main_while0b_v15 main_while0b_v20 ((extf .f32 · bitsLt_bf16_f32) : RowB F → RowC F),
    binary main_while0b_v19 main_while0b_v20 main_while0b_v21 (addf : RowC F → RowC F → RowC F),
    binary main_v5_2 main_v5_6 main_while0b_v22 (mulf : RowC F → RowC F → RowC F),
    binary main_v5_3 main_v5_5 main_while0b_v23 (mulf : RowC F → RowC F → RowC F),
    binary main_while0b_v22 main_while0b_v23 main_while0b_v24 (addf : RowC F → RowC F → RowC F),
    unary main_while0b_v16 main_while0b_v25 ((extf .f32 · bitsLt_bf16_f32) : RowB F → RowC F),
    binary main_while0b_v24 main_while0b_v25 main_while0b_v26 (addf : RowC F → RowC F → RowC F),
    unary main_while0b_v21 main_while0b_v27 ((truncf .bf16 · bitsLt_bf16_f32) : RowC F → RowB F),
    unary main_while0b_v26 main_while0b_v28 ((truncf .bf16 · bitsLt_bf16_f32) : RowC F → RowB F) ]
theorem fop_2_sub : Owned (F := F) fop_2 :=
  ⟨binary_bufs_sub .., binary_bufs_sub .., binary_bufs_sub .., unary_bufs_sub .., binary_bufs_sub .., binary_bufs_sub .., binary_bufs_sub .., binary_bufs_sub .., unary_bufs_sub .., binary_bufs_sub .., unary_bufs_sub .., unary_bufs_sub ..⟩
abbrev fop_3 : Ops F :=
  [ TRef.unary (.of main_while0b_v27 : TRowB) (.of main_while0b_call2_v0 : TOneB) (broadcastInDim S1x32x128 ![1, 2] bcast_S32x128_S1x32x128_1_2),
    TRef.nullary (.of main_while0b_call2_c : TI) (constantI S_ 32 0#32),
    TRef.nullary (.of main_while0b_call2_c_0 : TI) (constantI S_ 32 0#32),
    TRef.binaryIndexed (.of main_v5_7 : TAllB) (.of main_while0b_call2_v0 : TOneB) ![(.of main_v5_4 : TI), (.of main_while0b_call2_c : TI), (.of main_while0b_call2_c_0 : TI)] (.of main_while0b_v29 : TAllB) (fun x u i => Host.dynamicUpdateSlice x u (fun k => (i k (Shape.Idx.first h_S_)).toInt) updateFits_S4224x32x128_S1x32x128) ]
theorem fop_3_sub : Owned (F := F) fop_3 :=
  ⟨unary_bufs_sub .., nullary_bufs_sub .., nullary_bufs_sub .., binaryIndexed_bufs_sub ..⟩
abbrev fop_4 : Ops F :=
  [ TRef.unary (.of main_while0b_v28 : TRowB) (.of main_while0b_call3_v0 : TOneB) (broadcastInDim S1x32x128 ![1, 2] bcast_S32x128_S1x32x128_1_2),
    TRef.nullary (.of main_while0b_call3_c : TI) (constantI S_ 32 0#32),
    TRef.nullary (.of main_while0b_call3_c_0 : TI) (constantI S_ 32 0#32),
    TRef.binaryIndexed (.of main_v5_8 : TAllB) (.of main_while0b_call3_v0 : TOneB) ![(.of main_v5_4 : TI), (.of main_while0b_call3_c : TI), (.of main_while0b_call3_c_0 : TI)] (.of main_while0b_v30 : TAllB) (fun x u i => Host.dynamicUpdateSlice x u (fun k => (i k (Shape.Idx.first h_S_)).toInt) updateFits_S4224x32x128_S1x32x128) ]
theorem fop_4_sub : Owned (F := F) fop_4 :=
  ⟨unary_bufs_sub .., nullary_bufs_sub .., nullary_bufs_sub .., binaryIndexed_bufs_sub ..⟩
abbrev fop_5 : Ops F :=
  [ TRef.unary (.of main_v5_5 : TRow) (.of main_while0b_call4_v0 : TOne) (broadcastInDim S1x32x128 ![1, 2] bcast_S32x128_S1x32x128_1_2),
    TRef.nullary (.of main_while0b_call4_c : TI) (constantI S_ 32 0#32),
    TRef.nullary (.of main_while0b_call4_c_0 : TI) (constantI S_ 32 0#32),
    TRef.binaryIndexed (.of main_v5_9 : TAll) (.of main_while0b_call4_v0 : TOne) ![(.of main_v5_4 : TI), (.of main_while0b_call4_c : TI), (.of main_while0b_call4_c_0 : TI)] (.of main_while0b_v31 : TAll) (fun x u i => Host.dynamicUpdateSlice x u (fun k => (i k (Shape.Idx.first h_S_)).toInt) updateFits_S4224x32x128_S1x32x128) ]
theorem fop_5_sub : Owned (F := F) fop_5 :=
  ⟨unary_bufs_sub .., nullary_bufs_sub .., nullary_bufs_sub .., binaryIndexed_bufs_sub ..⟩
abbrev fop_6 : Ops F :=
  [ TRef.unary (.of main_v5_6 : TRow) (.of main_while0b_call5_v0 : TOne) (broadcastInDim S1x32x128 ![1, 2] bcast_S32x128_S1x32x128_1_2),
    TRef.nullary (.of main_while0b_call5_c : TI) (constantI S_ 32 0#32),
    TRef.nullary (.of main_while0b_call5_c_0 : TI) (constantI S_ 32 0#32),
    TRef.binaryIndexed (.of main_v5_10 : TAll) (.of main_while0b_call5_v0 : TOne) ![(.of main_v5_4 : TI), (.of main_while0b_call5_c : TI), (.of main_while0b_call5_c_0 : TI)] (.of main_while0b_v32 : TAll) (fun x u i => Host.dynamicUpdateSlice x u (fun k => (i k (Shape.Idx.first h_S_)).toInt) updateFits_S4224x32x128_S1x32x128) ]
theorem fop_6_sub : Owned (F := F) fop_6 :=
  ⟨unary_bufs_sub .., nullary_bufs_sub .., nullary_bufs_sub .., binaryIndexed_bufs_sub ..⟩
abbrev fop_7 : Ops F :=
  [ nullary main_while0b_c_23 (constantI S_ 32 1#32),
    binary main_v5_4 main_while0b_c_23 main_while0b_v33 (addi : (⟨S_, .i32⟩ : BufTy).Contents (Elt F) → (⟨S_, .i32⟩ : BufTy).Contents (Elt F) → (⟨S_, .i32⟩ : BufTy).Contents (Elt F)),
    unary main_while0b_v33 main_v5_4 id,
    unary main_while0b_v21 main_v5_5 id,
    unary main_while0b_v26 main_v5_6 id,
    unary main_while0b_v29 main_v5_7 id,
    unary main_while0b_v30 main_v5_8 id,
    unary main_while0b_v31 main_v5_9 id,
    unary main_while0b_v32 main_v5_10 id ]
theorem fop_7_sub : Owned (F := F) fop_7 :=
  ⟨nullary_bufs_sub .., binary_bufs_sub .., unary_bufs_sub .., unary_bufs_sub .., unary_bufs_sub .., unary_bufs_sub .., unary_bufs_sub .., unary_bufs_sub .., unary_bufs_sub ..⟩
theorem while0_body_chain : main_while0_body (F := F) = (Pipeline.chain
  [ seq fop,
    seq fop_1,
    seq fop_2,
    seq fop_3,
    seq fop_4,
    seq fop_5,
    seq fop_6,
    seq fop_7 ] : Prog (TpuEff nD τ sig (Elt F) (HostLoop.Sig (Pipeline.Sig Λ₀ (Fin 0) fun p => (pcfgs (F := F) p).Adm) 2) .tc) PUnit) := by
  rewrite [Pipeline.chain_cons, Pipeline.chain_cons, chain_seq_cons, Pipeline.chain_cons, Pipeline.chain_cons, Pipeline.chain_cons, Pipeline.chain_cons, chain_seq_cons]
  chain_rfl

abbrev bop : Ops F :=
  [ nullary main_while1b_c_25 (constantI S_ 32 4224#32),
    binary main_while1b_c_25 main_v14_6 main_while1b_v15 (subi : (⟨S_, .i32⟩ : BufTy).Contents (Elt F) → (⟨S_, .i32⟩ : BufTy).Contents (Elt F) → (⟨S_, .i32⟩ : BufTy).Contents (Elt F)),
    nullary main_while1b_c_26 (constantI S_ 32 1#32),
    binary main_while1b_v15 main_while1b_c_26 main_while1b_v16 (subi : (⟨S_, .i32⟩ : BufTy).Contents (Elt F) → (⟨S_, .i32⟩ : BufTy).Contents (Elt F) → (⟨S_, .i32⟩ : BufTy).Contents (Elt F)) ]
theorem bop_sub : Owned (F := F) bop :=
  ⟨nullary_bufs_sub .., binary_bufs_sub .., nullary_bufs_sub .., binary_bufs_sub ..⟩
abbrev bop_1 : Ops F :=
  [ TRef.nullary (.of main_while1b_call6_c : TI) (constantI S_ 32 0#32),
    TRef.nullary (.of main_while1b_call6_c_0 : TI) (constantI S_ 32 0#32),
    TRef.unaryIndexed (.of main_v14_0 : TAllB) ![(.of main_while1b_v16 : TI), (.of main_while1b_call6_c : TI), (.of main_while1b_call6_c_0 : TI)] (.of main_while1b_call6_v0 : TOneB) (fun x i => Host.dynamicSlice S1x32x128 x (fun k => (i k (Shape.Idx.first h_S_)).toInt) sliceFits_S4224x32x128_S1x32x128),
    TRef.reshape (.of main_while1b_call6_v0 : TOneB) (.of main_while1b_v17 : TRowB) (rfl : (.bf16 : EltTy) = .bf16) shapeCasts_S1x32x128_S32x128 ]
theorem bop_1_sub : Owned (F := F) bop_1 :=
  ⟨nullary_bufs_sub .., nullary_bufs_sub .., unaryIndexed_bufs_sub .., reshape_bufs_sub ..⟩
abbrev bop_2 : Ops F :=
  [ TRef.nullary (.of main_while1b_call7_c : TI) (constantI S_ 32 0#32),
    TRef.nullary (.of main_while1b_call7_c_0 : TI) (constantI S_ 32 0#32),
    TRef.unaryIndexed (.of main_v14_1 : TAllB) ![(.of main_while1b_v16 : TI), (.of main_while1b_call7_c : TI), (.of main_while1b_call7_c_0 : TI)] (.of main_while1b_call7_v0 : TOneB) (fun x i => Host.dynamicSlice S1x32x128 x (fun k => (i k (Shape.Idx.first h_S_)).toInt) sliceFits_S4224x32x128_S1x32x128),
    TRef.reshape (.of main_while1b_call7_v0 : TOneB) (.of main_while1b_v18 : TRowB) (rfl : (.bf16 : EltTy) = .bf16) shapeCasts_S1x32x128_S32x128 ]
theorem bop_2_sub : Owned (F := F) bop_2 :=
  ⟨nullary_bufs_sub .., nullary_bufs_sub .., unaryIndexed_bufs_sub .., reshape_bufs_sub ..⟩
abbrev bop_3 : Ops F :=
  [ TRef.nullary (.of main_while1b_call8_c : TI) (constantI S_ 32 0#32),
    TRef.nullary (.of main_while1b_call8_c_0 : TI) (constantI S_ 32 0#32),
    TRef.unaryIndexed (.of main_v14_2 : TAll) ![(.of main_while1b_v16 : TI), (.of main_while1b_call8_c : TI), (.of main_while1b_call8_c_0 : TI)] (.of main_while1b_call8_v0 : TOne) (fun x i => Host.dynamicSlice S1x32x128 x (fun k => (i k (Shape.Idx.first h_S_)).toInt) sliceFits_S4224x32x128_S1x32x128),
    TRef.reshape (.of main_while1b_call8_v0 : TOne) (.of main_while1b_v19 : TRow) (rfl : (.f32 : EltTy) = .f32) shapeCasts_S1x32x128_S32x128 ]
theorem bop_3_sub : Owned (F := F) bop_3 :=
  ⟨nullary_bufs_sub .., nullary_bufs_sub .., unaryIndexed_bufs_sub .., reshape_bufs_sub ..⟩
abbrev bop_4 : Ops F :=
  [ TRef.nullary (.of main_while1b_call9_c : TI) (constantI S_ 32 0#32),
    TRef.nullary (.of main_while1b_call9_c_0 : TI) (constantI S_ 32 0#32),
    TRef.unaryIndexed (.of main_v14_3 : TAll) ![(.of main_while1b_v16 : TI), (.of main_while1b_call9_c : TI), (.of main_while1b_call9_c_0 : TI)] (.of main_while1b_call9_v0 : TOne) (fun x i => Host.dynamicSlice S1x32x128 x (fun k => (i k (Shape.Idx.first h_S_)).toInt) sliceFits_S4224x32x128_S1x32x128),
    TRef.reshape (.of main_while1b_call9_v0 : TOne) (.of main_while1b_v20 : TRow) (rfl : (.f32 : EltTy) = .f32) shapeCasts_S1x32x128_S32x128 ]
theorem bop_4_sub : Owned (F := F) bop_4 :=
  ⟨nullary_bufs_sub .., nullary_bufs_sub .., unaryIndexed_bufs_sub .., reshape_bufs_sub ..⟩
abbrev bop_5 : Ops F :=
  [ unary main_while1b_v18 main_while1b_v21 ((extf .f32 · bitsLt_bf16_f32) : RowB F → RowC F),
    binary main_v14_10 main_while1b_v21 main_while1b_v22 (addf : RowC F → RowC F → RowC F),
    unary main_while1b_v17 main_while1b_v23 ((extf .f32 · bitsLt_bf16_f32) : RowB F → RowC F),
    binary main_v14_9 main_while1b_v23 main_while1b_v24 (addf : RowC F → RowC F → RowC F),
    unary main_while1b_v22 main_while1b_v25 ((truncf .bf16 · bitsLt_bf16_f32) : RowC F → RowB F),
    binary main_v14_5 main_while1b_v22 main_while1b_v26 (mulf : RowC F → RowC F → RowC F),
    binary main_while1b_v22 main_while1b_v19 main_while1b_v27 (mulf : RowC F → RowC F → RowC F),
    binary main_v14_8 main_while1b_v27 main_while1b_v28 (addf : RowC F → RowC F → RowC F),
    binary main_v14_4 main_while1b_v22 main_while1b_v29 (mulf : RowC F → RowC F → RowC F),
    binary main_while1b_v22 main_while1b_v20 main_while1b_v30 (mulf : RowC F → RowC F → RowC F),
    binary main_v14_7 main_while1b_v30 main_while1b_v31 (addf : RowC F → RowC F → RowC F),
    unary main_while1b_v24 main_while1b_v32 ((truncf .bf16 · bitsLt_bf16_f32) : RowC F → RowB F),
    unary main_while1b_v24 main_while1b_v33 (Host.negf : RowC F → RowC F),
    binary main_v14_5 main_while1b_v33 main_while1b_v34 (mulf : RowC F → RowC F → RowC F),
    binary main_while1b_v29 main_while1b_v34 main_while1b_v35 (addf : RowC F → RowC F → RowC F),
    binary main_while1b_v33 main_while1b_v20 main_while1b_v36 (mulf : RowC F → RowC F → RowC F),
    binary main_while1b_v28 main_while1b_v36 main_while1b_v37 (addf : RowC F → RowC F → RowC F),
    binary main_v14_4 main_while1b_v24 main_while1b_v38 (mulf : RowC F → RowC F → RowC F),
    binary main_while1b_v26 main_while1b_v38 main_while1b_v39 (addf : RowC F → RowC F → RowC F),
    binary main_while1b_v24 main_while1b_v19 main_while1b_v40 (mulf : RowC F → RowC F → RowC F),
    binary main_while1b_v31 main_while1b_v40 main_while1b_v41 (addf : RowC F → RowC F → RowC F) ]
theorem bop_5_sub : Owned (F := F) bop_5 :=
  ⟨unary_bufs_sub .., binary_bufs_sub .., unary_bufs_sub .., binary_bufs_sub .., unary_bufs_sub .., binary_bufs_sub .., binary_bufs_sub .., binary_bufs_sub .., binary_bufs_sub .., binary_bufs_sub .., binary_bufs_sub .., unary_bufs_sub .., unary_bufs_sub .., binary_bufs_sub .., binary_bufs_sub .., binary_bufs_sub .., binary_bufs_sub .., binary_bufs_sub .., binary_bufs_sub .., binary_bufs_sub .., binary_bufs_sub ..⟩
abbrev bop_6 : Ops F :=
  [ TRef.unary (.of main_while1b_v32 : TRowB) (.of main_while1b_call10_v0 : TOneB) (broadcastInDim S1x32x128 ![1, 2] bcast_S32x128_S1x32x128_1_2),
    TRef.nullary (.of main_while1b_call10_c : TI) (constantI S_ 32 0#32),
    TRef.nullary (.of main_while1b_call10_c_0 : TI) (constantI S_ 32 0#32),
    TRef.binaryIndexed (.of main_v14_11 : TAllB) (.of main_while1b_call10_v0 : TOneB) ![(.of main_while1b_v16 : TI), (.of main_while1b_call10_c : TI), (.of main_while1b_call10_c_0 : TI)] (.of main_while1b_v42 : TAllB) (fun x u i => Host.dynamicUpdateSlice x u (fun k => (i k (Shape.Idx.first h_S_)).toInt) updateFits_S4224x32x128_S1x32x128) ]
theorem bop_6_sub : Owned (F := F) bop_6 :=
  ⟨unary_bufs_sub .., nullary_bufs_sub .., nullary_bufs_sub .., binaryIndexed_bufs_sub ..⟩
abbrev bop_7 : Ops F :=
  [ TRef.unary (.of main_while1b_v25 : TRowB) (.of main_while1b_call11_v0 : TOneB) (broadcastInDim S1x32x128 ![1, 2] bcast_S32x128_S1x32x128_1_2),
    TRef.nullary (.of main_while1b_call11_c : TI) (constantI S_ 32 0#32),
    TRef.nullary (.of main_while1b_call11_c_0 : TI) (constantI S_ 32 0#32),
    TRef.binaryIndexed (.of main_v14_12 : TAllB) (.of main_while1b_call11_v0 : TOneB) ![(.of main_while1b_v16 : TI), (.of main_while1b_call11_c : TI), (.of main_while1b_call11_c_0 : TI)] (.of main_while1b_v43 : TAllB) (fun x u i => Host.dynamicUpdateSlice x u (fun k => (i k (Shape.Idx.first h_S_)).toInt) updateFits_S4224x32x128_S1x32x128) ]
theorem bop_7_sub : Owned (F := F) bop_7 :=
  ⟨unary_bufs_sub .., nullary_bufs_sub .., nullary_bufs_sub .., binaryIndexed_bufs_sub ..⟩
abbrev bop_8 : Ops F :=
  [ nullary main_while1b_c_27 (constantI S_ 32 1#32),
    binary main_v14_6 main_while1b_c_27 main_while1b_v44 (addi : (⟨S_, .i32⟩ : BufTy).Contents (Elt F) → (⟨S_, .i32⟩ : BufTy).Contents (Elt F) → (⟨S_, .i32⟩ : BufTy).Contents (Elt F)),
    unary main_while1b_v44 main_v14_6 id,
    unary main_while1b_v41 main_v14_7 id,
    unary main_while1b_v37 main_v14_8 id,
    unary main_while1b_v39 main_v14_9 id,
    unary main_while1b_v35 main_v14_10 id,
    unary main_while1b_v42 main_v14_11 id,
    unary main_while1b_v43 main_v14_12 id ]
theorem bop_8_sub : Owned (F := F) bop_8 :=
  ⟨nullary_bufs_sub .., binary_bufs_sub .., unary_bufs_sub .., unary_bufs_sub .., unary_bufs_sub .., unary_bufs_sub .., unary_bufs_sub .., unary_bufs_sub .., unary_bufs_sub ..⟩
theorem while1_body_chain : main_while1_body (F := F) = (Pipeline.chain
  [ seq bop,
    seq bop_1,
    seq bop_2,
    seq bop_3,
    seq bop_4,
    seq bop_5,
    seq bop_6,
    seq bop_7,
    seq bop_8 ] : Prog (TpuEff nD τ sig (Elt F) (HostLoop.Sig (Pipeline.Sig Λ₀ (Fin 0) fun p => (pcfgs (F := F) p).Adm) 2) .tc) PUnit) := by
  rewrite [chain_seq_cons, Pipeline.chain_cons, Pipeline.chain_cons, Pipeline.chain_cons, Pipeline.chain_cons, chain_seq_cons, Pipeline.chain_cons, Pipeline.chain_cons, chain_seq_cons]
  chain_rfl

abbrev hostOps0_W : List (Ref sig .tc) := [main_cst, main_v0, main_cst_0, main_v1, main_cst_1, main_v2, main_cst_2, main_v3, main_cst_3, main_v4, main_c, main_v5_0, main_v5_1, main_v5_2, main_v5_3, main_v5_4, main_v5_5, main_v5_6, main_v5_7, main_v5_8, main_v5_9, main_v5_10]
abbrev hostOps0_1_W : List (Ref sig .tc) := [main_cst_4, main_v6, main_cst_5, main_v7, main_cst_6, main_v8, main_cst_7, main_v9, main_cst_8, main_v10, main_cst_9, main_v11, main_cst_10, main_v12, main_cst_11, main_v13, main_c_12, main_v14_0, main_v14_1, main_v14_2, main_v14_3, main_v14_4, main_v14_5, main_v14_6, main_v14_7, main_v14_8, main_v14_9, main_v14_10, main_v14_11, main_v14_12]
theorem hostOps0_1_writes : Only (F := F) hostOps0_1 hostOps0_1_W := forall_writes_sub_of_map rfl
abbrev fop_W : List (Ref sig .tc) := [main_while0b_call0_c, main_while0b_call0_c_0, main_while0b_call0_v0, main_while0b_v15]
theorem fop_writes : Only (F := F) fop fop_W := forall_writes_sub_of_map rfl
abbrev fop_1_W : List (Ref sig .tc) := [main_while0b_call1_c, main_while0b_call1_c_0, main_while0b_call1_v0, main_while0b_v16]
theorem fop_1_writes : Only (F := F) fop_1 fop_1_W := forall_writes_sub_of_map rfl
abbrev fop_2_W : List (Ref sig .tc) := [main_while0b_v17, main_while0b_v18, main_while0b_v19, main_while0b_v20, main_while0b_v21, main_while0b_v22, main_while0b_v23, main_while0b_v24, main_while0b_v25, main_while0b_v26, main_while0b_v27, main_while0b_v28]
theorem fop_2_writes : Only (F := F) fop_2 fop_2_W := forall_writes_sub_of_map rfl
abbrev fop_3_W : List (Ref sig .tc) := [main_while0b_call2_v0, main_while0b_call2_c, main_while0b_call2_c_0, main_while0b_v29]
theorem fop_3_writes : Only (F := F) fop_3 fop_3_W := forall_writes_sub_of_map rfl
abbrev fop_4_W : List (Ref sig .tc) := [main_while0b_call3_v0, main_while0b_call3_c, main_while0b_call3_c_0, main_while0b_v30]
theorem fop_4_writes : Only (F := F) fop_4 fop_4_W := forall_writes_sub_of_map rfl
abbrev fop_5_W : List (Ref sig .tc) := [main_while0b_call4_v0, main_while0b_call4_c, main_while0b_call4_c_0, main_while0b_v31]
theorem fop_5_writes : Only (F := F) fop_5 fop_5_W := forall_writes_sub_of_map rfl
abbrev fop_6_W : List (Ref sig .tc) := [main_while0b_call5_v0, main_while0b_call5_c, main_while0b_call5_c_0, main_while0b_v32]
theorem fop_6_writes : Only (F := F) fop_6 fop_6_W := forall_writes_sub_of_map rfl
abbrev fop_7_W : List (Ref sig .tc) := [main_while0b_c_23, main_while0b_v33, main_v5_4, main_v5_5, main_v5_6, main_v5_7, main_v5_8, main_v5_9, main_v5_10]
theorem fop_7_writes : Only (F := F) fop_7 fop_7_W := forall_writes_sub_of_map rfl
abbrev bop_W : List (Ref sig .tc) := [main_while1b_c_25, main_while1b_v15, main_while1b_c_26, main_while1b_v16]
theorem bop_writes : Only (F := F) bop bop_W := forall_writes_sub_of_map rfl
abbrev bop_1_W : List (Ref sig .tc) := [main_while1b_call6_c, main_while1b_call6_c_0, main_while1b_call6_v0, main_while1b_v17]
theorem bop_1_writes : Only (F := F) bop_1 bop_1_W := forall_writes_sub_of_map rfl
abbrev bop_2_W : List (Ref sig .tc) := [main_while1b_call7_c, main_while1b_call7_c_0, main_while1b_call7_v0, main_while1b_v18]
theorem bop_2_writes : Only (F := F) bop_2 bop_2_W := forall_writes_sub_of_map rfl
abbrev bop_3_W : List (Ref sig .tc) := [main_while1b_call8_c, main_while1b_call8_c_0, main_while1b_call8_v0, main_while1b_v19]
theorem bop_3_writes : Only (F := F) bop_3 bop_3_W := forall_writes_sub_of_map rfl
abbrev bop_4_W : List (Ref sig .tc) := [main_while1b_call9_c, main_while1b_call9_c_0, main_while1b_call9_v0, main_while1b_v20]
theorem bop_4_writes : Only (F := F) bop_4 bop_4_W := forall_writes_sub_of_map rfl
abbrev bop_5_W : List (Ref sig .tc) := [main_while1b_v21, main_while1b_v22, main_while1b_v23, main_while1b_v24, main_while1b_v25, main_while1b_v26, main_while1b_v27, main_while1b_v28, main_while1b_v29, main_while1b_v30, main_while1b_v31, main_while1b_v32, main_while1b_v33, main_while1b_v34, main_while1b_v35, main_while1b_v36, main_while1b_v37, main_while1b_v38, main_while1b_v39, main_while1b_v40, main_while1b_v41]
theorem bop_5_writes : Only (F := F) bop_5 bop_5_W := forall_writes_sub_of_map rfl
abbrev bop_6_W : List (Ref sig .tc) := [main_while1b_call10_v0, main_while1b_call10_c, main_while1b_call10_c_0, main_while1b_v42]
theorem bop_6_writes : Only (F := F) bop_6 bop_6_W := forall_writes_sub_of_map rfl
abbrev bop_7_W : List (Ref sig .tc) := [main_while1b_call11_v0, main_while1b_call11_c, main_while1b_call11_c_0, main_while1b_v43]
theorem bop_7_writes : Only (F := F) bop_7 bop_7_W := forall_writes_sub_of_map rfl
abbrev bop_8_W : List (Ref sig .tc) := [main_while1b_c_27, main_while1b_v44, main_v14_6, main_v14_7, main_v14_8, main_v14_9, main_v14_10, main_v14_11, main_v14_12]
theorem bop_8_writes : Only (F := F) bop_8 bop_8_W := forall_writes_sub_of_map rfl

/-- Before the first loop. -/
abbrev pre0 : List (Ops F) := [hostOps0]
/-- Between the loops. -/
abbrev pre1 : List (Ops F) := [hostOps0_1]
/-- One trip of the first loop. -/
abbrev body0 : List (Ops F) := [fop, fop_1, fop_2, fop_3, fop_4, fop_5, fop_6, fop_7]
/-- One trip of the second loop. -/
abbrev body1 : List (Ops F) := [bop, bop_1, bop_2, bop_3, bop_4, bop_5, bop_6, bop_7, bop_8]

theorem plain_pre0 : Plain (pre0 (F := F)) := .cons hostOps0_sub (hf := List.forall_iff_forall_mem.mp (forall_fresh_of_map rfl)) (.nil)
theorem plain_pre1 : Plain (pre1 (F := F)) := .cons hostOps0_1_sub (hf := List.forall_iff_forall_mem.mp (forall_fresh_of_map rfl)) (.nil)
theorem plain_body0 : Plain (body0 (F := F)) := .cons fop_sub (hf := List.forall_iff_forall_mem.mp (forall_fresh_of_map rfl)) (.cons fop_1_sub (hf := List.forall_iff_forall_mem.mp (forall_fresh_of_map rfl)) (.cons fop_2_sub (hf := List.forall_iff_forall_mem.mp (forall_fresh_of_map rfl)) (.cons fop_3_sub (hf := List.forall_iff_forall_mem.mp (forall_fresh_of_map rfl)) (.cons fop_4_sub (hf := List.forall_iff_forall_mem.mp (forall_fresh_of_map rfl)) (.cons fop_5_sub (hf := List.forall_iff_forall_mem.mp (forall_fresh_of_map rfl)) (.cons fop_6_sub (hf := List.forall_iff_forall_mem.mp (forall_fresh_of_map rfl)) (.cons fop_7_sub (hf := List.forall_iff_forall_mem.mp (forall_fresh_of_map rfl)) (.nil))))))))
theorem plain_body1 : Plain (body1 (F := F)) := .cons bop_sub (hf := List.forall_iff_forall_mem.mp (forall_fresh_of_map rfl)) (.cons bop_1_sub (hf := List.forall_iff_forall_mem.mp (forall_fresh_of_map rfl)) (.cons bop_2_sub (hf := List.forall_iff_forall_mem.mp (forall_fresh_of_map rfl)) (.cons bop_3_sub (hf := List.forall_iff_forall_mem.mp (forall_fresh_of_map rfl)) (.cons bop_4_sub (hf := List.forall_iff_forall_mem.mp (forall_fresh_of_map rfl)) (.cons bop_5_sub (hf := List.forall_iff_forall_mem.mp (forall_fresh_of_map rfl)) (.cons bop_6_sub (hf := List.forall_iff_forall_mem.mp (forall_fresh_of_map rfl)) (.cons bop_7_sub (hf := List.forall_iff_forall_mem.mp (forall_fresh_of_map rfl)) (.cons bop_8_sub (hf := List.forall_iff_forall_mem.mp (forall_fresh_of_map rfl)) (.nil)))))))))

/-- The first loop's test. -/
abbrev test0 : Ops F :=
  [ nullary main_while0c_c_23 (constantI S_ 32 4224#32),
    binary main_v5_4 main_while0c_c_23 main_while0c_v15 (cmpi .slt) ]
abbrev test0_W : List (Ref sig .tc) := [main_while0c_c_23, main_while0c_v15]
theorem test0_writes : Only (F := F) test0 test0_W := forall_writes_sub_of_map rfl
/-- The second loop's test. -/
abbrev test1 : Ops F :=
  [ nullary main_while1c_c_25 (constantI S_ 32 4224#32),
    binary main_v14_6 main_while1c_c_25 main_while1c_v15 (cmpi .slt) ]
abbrev test1_W : List (Ref sig .tc) := [main_while1c_c_25, main_while1c_v15]
theorem test1_writes : Only (F := F) test1 test1_W := forall_writes_sub_of_map rfl
variable (m : (ℓ : Loc nD τ sig) → Buf (Elt F) ℓ) (ρ : Dev nD → PrngReg)

/-- The arrays after `k` trips of the first loop. -/
abbrev at0 (k : ℕ) (c : Dev nD) : Valuation τ sig (Elt F) := atTrip test0 body0 (entryContents pre0 m) k c
/-- The arrays once the first loop has ended. -/
abbrev mid (c : Dev nD) : Valuation τ sig (Elt F) := after test0 (at0 m 4224 c)
/-- The arrays as the second loop finds them. -/
abbrev entry1 (c : Dev nD) : Valuation τ sig (Elt F) := afterL pre1 (mid m c)
/-- The arrays after `k` trips of the second loop. -/
abbrev at1 (k : ℕ) (c : Dev nD) : Valuation τ sig (Elt F) := atTrip test1 body1 (entry1 m) k c
/-- The arrays at the end of the run. -/
abbrev done (c : Dev nD) : Valuation τ sig (Elt F) := after test1 (at1 m 4224 c)

theorem count0_test (V : Valuation τ sig (Elt F)) : after test0 V (arr main_v5_4) = V (arr main_v5_4) :=
  after_of_writes_sub test0 V test0_writes (by decide +kernel)
theorem count0_fop (V : Valuation τ sig (Elt F)) : after fop V (arr main_v5_4) = V (arr main_v5_4) :=
  after_of_writes_sub fop V fop_writes (by decide +kernel)
theorem count0_fop_1 (V : Valuation τ sig (Elt F)) : after fop_1 V (arr main_v5_4) = V (arr main_v5_4) :=
  after_of_writes_sub fop_1 V fop_1_writes (by decide +kernel)
theorem count0_fop_2 (V : Valuation τ sig (Elt F)) : after fop_2 V (arr main_v5_4) = V (arr main_v5_4) :=
  after_of_writes_sub fop_2 V fop_2_writes (by decide +kernel)
theorem count0_fop_3 (V : Valuation τ sig (Elt F)) : after fop_3 V (arr main_v5_4) = V (arr main_v5_4) :=
  after_of_writes_sub fop_3 V fop_3_writes (by decide +kernel)
theorem count0_fop_4 (V : Valuation τ sig (Elt F)) : after fop_4 V (arr main_v5_4) = V (arr main_v5_4) :=
  after_of_writes_sub fop_4 V fop_4_writes (by decide +kernel)
theorem count0_fop_5 (V : Valuation τ sig (Elt F)) : after fop_5 V (arr main_v5_4) = V (arr main_v5_4) :=
  after_of_writes_sub fop_5 V fop_5_writes (by decide +kernel)
theorem count0_fop_6 (V : Valuation τ sig (Elt F)) : after fop_6 V (arr main_v5_4) = V (arr main_v5_4) :=
  after_of_writes_sub fop_6 V fop_6_writes (by decide +kernel)

set_option maxRecDepth 100000 in
theorem count0_step (X : Valuation τ sig (Elt F)) :
    after fop_7 X (arr main_v5_4) = addi (X (arr main_v5_4)) (constantI S_ 32 1#32) := by
  after_results
  rfl

theorem count0_entry (c : Dev nD) : entryContents pre0 m c (arr main_v5_4) = fun _ => (0#32 : BitVec 32) := by
  simp only [entryContents, afterL_cons, afterL_nil, arr]
  after_reads_simp
  rfl

/-- The counter of this loop after `k` trips is `k`. -/
theorem count0 (c : Dev nD) : ∀ k, at0 m k c (arr main_v5_4) = fun _ => Scf.iv 0#32 1#32 k
  | 0 => by rw [show at0 m 0 c = entryContents pre0 m c from rfl, count0_entry, Scf.iv_zero]
  | k + 1 => by
    rw [show at0 m (k + 1) c = afterL body0 (after test0 (at0 m k c)) from rfl]
    simp only [afterL_cons, afterL_nil]
    rw [count0_step, count0_fop_6, count0_fop_5, count0_fop_4, count0_fop_3, count0_fop_2, count0_fop_1, count0_fop, count0_test, count0 c k, Scf.iv_succ]
    rfl

set_option backward.isDefEq.respectTransparency.types false in
/-- The test says go on exactly while fewer than 4224 trips have been made. -/
theorem spec0 : CondSpec (pcfgs (F := F)) defs₀ loops (main_while0_cond (F := F)) test0 body0 (entryContents pre0 m) 4224 := by
  intro k hk c bd
  have hctr := count0 m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v5_4 HostLoop.idx0)
        (HloOp.result _ (at0 m k c) main_while0c_c_23 HostLoop.idx0) = 1#1) (k < 4224)
    rw [nullary_result_ne _ _ _ _ (by decide), nullary_result, hctr]
    exact Scf.cmpi_slt_iv_ub_iff (lb := 0#32) (ub := 4224#32) (st := 1#32) (by decide) (show k ≤ Scf.trips 0#32 4224#32 1#32 from hk)
  isplitl [Hb]; · iexact Hb
  rw [after_cons, after_cons, after_nil]; iexact Hh

theorem count1_test (V : Valuation τ sig (Elt F)) : after test1 V (arr main_v14_6) = V (arr main_v14_6) :=
  after_of_writes_sub test1 V test1_writes (by decide +kernel)
theorem count1_bop (V : Valuation τ sig (Elt F)) : after bop V (arr main_v14_6) = V (arr main_v14_6) :=
  after_of_writes_sub bop V bop_writes (by decide +kernel)
theorem count1_bop_1 (V : Valuation τ sig (Elt F)) : after bop_1 V (arr main_v14_6) = V (arr main_v14_6) :=
  after_of_writes_sub bop_1 V bop_1_writes (by decide +kernel)
theorem count1_bop_2 (V : Valuation τ sig (Elt F)) : after bop_2 V (arr main_v14_6) = V (arr main_v14_6) :=
  after_of_writes_sub bop_2 V bop_2_writes (by decide +kernel)
theorem count1_bop_3 (V : Valuation τ sig (Elt F)) : after bop_3 V (arr main_v14_6) = V (arr main_v14_6) :=
  after_of_writes_sub bop_3 V bop_3_writes (by decide +kernel)
theorem count1_bop_4 (V : Valuation τ sig (Elt F)) : after bop_4 V (arr main_v14_6) = V (arr main_v14_6) :=
  after_of_writes_sub bop_4 V bop_4_writes (by decide +kernel)
theorem count1_bop_5 (V : Valuation τ sig (Elt F)) : after bop_5 V (arr main_v14_6) = V (arr main_v14_6) :=
  after_of_writes_sub bop_5 V bop_5_writes (by decide +kernel)
theorem count1_bop_6 (V : Valuation τ sig (Elt F)) : after bop_6 V (arr main_v14_6) = V (arr main_v14_6) :=
  after_of_writes_sub bop_6 V bop_6_writes (by decide +kernel)
theorem count1_bop_7 (V : Valuation τ sig (Elt F)) : after bop_7 V (arr main_v14_6) = V (arr main_v14_6) :=
  after_of_writes_sub bop_7 V bop_7_writes (by decide +kernel)

set_option maxRecDepth 100000 in
theorem count1_step (X : Valuation τ sig (Elt F)) :
    after bop_8 X (arr main_v14_6) = addi (X (arr main_v14_6)) (constantI S_ 32 1#32) := by
  after_results
  rfl

theorem count1_entry (c : Dev nD) : entry1 m c (arr main_v14_6) = fun _ => (0#32 : BitVec 32) := by
  simp only [entry1, afterL_cons, afterL_nil, arr]
  after_reads_simp
  rfl

/-- The counter of this loop after `k` trips is `k`. -/
theorem count1 (c : Dev nD) : ∀ k, at1 m k c (arr main_v14_6) = fun _ => Scf.iv 0#32 1#32 k
  | 0 => by rw [show at1 m 0 c = entry1 m c from rfl, count1_entry, Scf.iv_zero]
  | k + 1 => by
    rw [show at1 m (k + 1) c = afterL body1 (after test1 (at1 m k c)) from rfl]
    simp only [afterL_cons, afterL_nil]
    rw [count1_step, count1_bop_7, count1_bop_6, count1_bop_5, count1_bop_4, count1_bop_3, count1_bop_2, count1_bop_1, count1_bop, count1_test, count1 c k, Scf.iv_succ]
    rfl

set_option backward.isDefEq.respectTransparency.types false in
/-- The test says go on exactly while fewer than 4224 trips have been made. -/
theorem spec1 : CondSpec (pcfgs (F := F)) defs₀ loops (main_while1_cond (F := F)) test1 body1 (entry1 m) 4224 := by
  intro k hk c bd
  have hctr := count1 m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v14_6 HostLoop.idx0)
        (HloOp.result _ (at1 m k c) main_while1c_c_25 HostLoop.idx0) = 1#1) (k < 4224)
    rw [nullary_result_ne _ _ _ _ (by decide), nullary_result, hctr]
    exact Scf.cmpi_slt_iv_ub_iff (lb := 0#32) (ub := 4224#32) (st := 1#32) (by decide) (show k ≤ Scf.trips 0#32 4224#32 1#32 from hk)
  isplitl [Hb]; · iexact Hb
  rw [after_cons, after_cons, after_nil]; iexact Hh

/-! ## The run -/

local notation "𝕄" => MT nD τ sig Unit (Elt F) ℕ (Option PUnit) ℕ

abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm := fun j => j.elim0
abbrev noLevels : GSem nD τ sig → Finset Unit := fun _ => ∅
abbrev noLevel : GSem nD τ sig → Unit → ℕ := fun _ _ => 0

theorem noCells : Function.Injective (Pipeline.cellOf (nD := nD) (τ := τ) (Pipeline.pin (pcfgs (F := F)) noAdm)) := fun k => k.1.elim0

/-- What a core holds beside its arrays. -/
abbrev beside (c : Dev nD) : sProp 𝕄 := iprop(∃ W, owes (c : Thread nD τ) (0 : CellTallies nD τ sig Unit) W)

/-- A test's specification with what the core holds beside its arrays carried through. -/
theorem framed {cond : Prog (TpuEff nD τ sig (Elt F) (HostLoop.Sig (Pipeline.Sig Λ₀ (Fin 0) fun p => (pcfgs (F := F) p).Adm) 2) .tc) (Elt F .i1)}
    {T : Ops F} {B : List (Ops F)} {W₀ : Dev nD → Valuation τ sig (Elt F)} {n : ℕ}
    (h : CondSpec (pcfgs (F := F)) defs₀ loops cond T B W₀ n) :
    LoopCond (Ix := Unit) (Name := ℕ) (U := Option PUnit) (Lvl := ℕ) (pcfgs (F := F)) defs₀ Variants.none loops beside cond T B W₀ n := fun k hk c bd => by
  have hpost : ∀ v : Elt F .i1,
      iprop(iprop(⌜v = 1#1 ↔ k < n⌝ ∗ boundary (c : Thread nD τ) ∗ held (c : Thread nD τ) (ucRefs τ sig) (after T (atTrip T B W₀ k c))) ∗ beside c)
        ⊢ (iprop(⌜v = 1#1 ↔ k < n⌝ ∗ boundary (c : Thread nD τ) ∗ held (c : Thread nD τ) (ucRefs τ sig) (after T (atTrip T B W₀ k c)) ∗ beside c) : sProp 𝕄) := fun v => by
    iintro ⟨⟨%hv, Hbd, Hh⟩, HR⟩
    isplitr; · ipureintro; exact hv
    isplitl [Hbd]; · iexact Hbd
    isplitl [Hh] <;> iassumption
  refine BIBase.Entails.trans ?_ (((sep_mono_left (h k hk c bd)).trans (wp_frame_r _ _ _)).trans (wp_mono _ _ _ hpost))
  iintro ⟨Hbd, Hh, HR⟩
  isplitl [Hbd Hh]; · isplitl [Hbd] <;> iassumption
  iexact HR

abbrev Piece := CSeg (Ix := Unit) (Name := ℕ) (U := Option PUnit) (Lvl := ℕ) (pcfgs (F := F)) noAdm defs₀ Variants.none noLevels noLevel loops noTk

/-- The pieces of the program: a stretch, the first loop, a stretch, the second loop. -/
def pieces : List (Piece (F := F)) :=
  segsOf _ _ _ _ _ _ _ _ beside pre0 plain_pre0 (launchContents m)
    ++ loopSeg _ _ _ _ _ _ _ _ 0 main_while0_cond main_while0_body rfl test0 body0 plain_body0 (by rw [while0_body_chain]; rfl) 4224 (entryContents pre0 m) beside (framed (spec0 m))
      :: (segsOf _ _ _ _ _ _ _ _ beside pre1 plain_pre1 (mid m)
        ++ loopSeg _ _ _ _ _ _ _ _ 1 main_while1_cond main_while1_body rfl test1 body1 plain_body1 (by rw [while1_body_chain]; rfl) 4224 (entry1 m) beside (framed (spec1 m)) :: [])

theorem pieces_prog : (pieces m).map CSeg.prog = [ seq (hostOps0 (F := F)), HostLoop.enter 0, seq hostOps0_1, HostLoop.enter 1 ] := by
  unfold pieces
  rw [List.map_append, List.map_cons, List.map_append, List.map_cons, segsOf_prog, segsOf_prog]
  rfl

theorem pieces_chain :
    CSeg.Chains (fun c => iprop(held (c : Thread nD τ) (ucRefs τ sig) (launchContents m c) ∗ beside c)) (pieces m)
      (fun c => iprop(iprop(held (c : Thread nD τ) (ucRefs τ sig) (done m c)) ∗ ∃ W, owes (c : Thread nD τ) (0 : CellTallies nD τ sig Unit) W)) := by
  unfold pieces
  exact CSeg.Chains.append (segsOf_chains _ _ _ _ _ _ _ _ beside pre0 plain_pre0 _)
    ⟨fun _ => .rfl, CSeg.Chains.append (segsOf_chains _ _ _ _ _ _ _ _ beside pre1 plain_pre1 _) ⟨fun _ => .rfl, fun _ => .rfl⟩⟩

/-- The program has no semaphore. -/
theorem no_sems : sig.nSem + sig.nDmaSem = 0 := rfl

set_option maxRecDepth 100000 in
/-- Every run ends, with each array at what the pieces leave in it. -/
theorem run_all : θ_run (defs (F := F)) (onTc (τ := τ) (main (F := F))) ⟨m, fun _ => 0, ρ⟩
    (fun r => (∀ (c : Dev nD), ∀ b ∈ ucRefs τ sig, r.2.mem ((c : Dev nD), b) = done m c b) ∧ r.2.sem = fun _ => 0) :=
  Pipeline.θ_run_regions_loop_kit (Ix := Unit) (Name := ℕ) (U := Option PUnit) (Lvl := ℕ) (J := Fin 0) (P := Fin 0) (Val := Elt F)
    (pcfgs (F := F)) noAdm noCells defs₀ Variants.none noLevels noLevel loops noTk m ρ main (pieces m)
    (fun c Q => by
      rw [main_chain c]
      show wp _ _ _ (Pipeline.chain ((pieces m).map CSeg.prog)) Q ⊢ _
      rw [pieces_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ beside c))
    (Tₙ := fun c => iprop(held (c : Thread nD τ) (ucRefs τ sig) (done m c)))
    (hch := pieces_chain m)
    (hinit := by
      refine Pipeline.initEach noLevels noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = done m c b)
    (hfin := fun c s' => by
      unfold held
      iintro ⟨Hh, HSI⟩
      ihave Hr := (pointsTo_read_all (ucRefs τ sig) (fun b => ((c : Dev nD), b)) (fun b => done m c b) s') $$ [Hh HSI]
      · isplitl [Hh] <;> iassumption
      icases Hr with ⟨%h, HSI⟩
      imodintro
      isplitr; · ipureintro; exact h
      iexact HSI)
    (hQ := fun s h => ⟨h, sem_eq_zero_of_no_sems no_sems s⟩)
end Cert.ReferenceIdeal.Scan
end
-- ==== Proof.Rows.lean ====
module

public import proofs.«01_k».proof.Proof.Gen.KernelIdeal.Loops
public import Idealize.ShloMosaic.Lib.ValueIdxCore
public import Idealize.ShloMosaic.Lib.Pipeline.Value
public import Idealize.ShloMosaic.Lib.Writes
public import Idealize.ShloMosaic.Lib.Pipeline.FrameBody
@[expose] public section

/-! # The recurrences of the state-space layer, row by row

The state `x` of the layer is complex, one number per channel, held as its real and its imaginary part; a
sequence of `n` rows drives it by `x ← a x + b`. Everything here is over any float type. -/

set_option maxRecDepth 16384

noncomputable section
namespace Cert.KernelIdeal.Scan
open Idealize.ShloMosaic Idealize.ShloMosaic.ValueIdx Cert.KernelIdeal.Gen
variable {F : FTy → Type} [FloatOps F]

/-- A row of the channels, kept in f32: the real (or imaginary) part of one state. -/
abbrev Row (F : FTy → Type) := FVec F S32x128 .f32
/-- A row of the channels as the arrays hold it, in bf16. -/
abbrev Half (F : FTy → Type) := FVec F S32x128 .bf16

/-- A row of zeros. -/
def zeroRow : Row F := broadcast S32x128 (Scalar.ofBits .f32 0x00000000#32)

/-- One step of the forward recurrence: `x ← a x + (u + i v)`. -/
def fwdStep (a b : Row F) (u v : Half F) (x : Row F × Row F) : Row F × Row F :=
  (addf (subf (mulf a x.1) (mulf b x.2)) (extf .f32 u bitsLt_bf16_f32),
   addf (addf (mulf a x.2) (mulf b x.1)) (extf .f32 v bitsLt_bf16_f32))

/-- The state after `n` steps of the forward recurrence from `x₀`. -/
def fwd (a b : Row F) (u v : ℕ → Half F) (x₀ : Row F × Row F) : ℕ → Row F × Row F
  | 0 => x₀
  | n + 1 => fwdStep a b (u n) (v n) (fwd a b u v x₀ n)

theorem fwd_add (a b : Row F) (u v : ℕ → Half F) (x₀ : Row F × Row F) (n : ℕ) : ∀ k,
    fwd a b (fun j => u (n + j)) (fun j => v (n + j)) (fwd a b u v x₀ n) k = fwd a b u v x₀ (n + k)
  | 0 => rfl
  | k + 1 => by
    show fwdStep a b _ _ (fwd a b _ _ _ k) = fwdStep a b _ _ (fwd a b u v x₀ (n + k))
    rw [fwd_add a b u v x₀ n k]; rfl

theorem fwd_congr (a b : Row F) (u v u' v' : ℕ → Half F) (x₀ : Row F × Row F) (N : ℕ) (hu : ∀ j < N, u j = u' j) (hv : ∀ j < N, v j = v' j) :
    ∀ k ≤ N, fwd a b u v x₀ k = fwd a b u' v' x₀ k
  | 0, _ => rfl
  | k + 1, h => by
    show fwdStep a b _ _ (fwd a b _ _ _ k) = fwdStep a b _ _ (fwd a b _ _ _ k)
    rw [hu k h, hv k h, fwd_congr a b u v u' v' x₀ N hu hv k (Nat.le_of_lt h)]

/-- What the backward recurrence carries: the gradient of the state (real, imaginary) and the two sums over the rows
    passed so far that make the gradient of `a`. -/
abbrev Grad (F : FTy → Type) := Row F × Row F × Row F × Row F

/-- One step of the backward recurrence at a row with state `x + i y` and cotangent `u + i v`:
    the sums gain `conj(x) g`, and `g ← conj(a) g + (u + i v)`. -/
def bwdStep (a b : Row F) (u v x y : Half F) (g : Grad F) : Grad F :=
  (addf (addf (mulf a g.1) (mulf b g.2.1)) (extf .f32 u bitsLt_bf16_f32),
   addf (subf (mulf a g.2.1) (mulf b g.1)) (extf .f32 v bitsLt_bf16_f32),
   addf (addf g.2.2.1 (mulf g.1 (extf .f32 x bitsLt_bf16_f32))) (mulf g.2.1 (extf .f32 y bitsLt_bf16_f32)),
   subf (addf g.2.2.2 (mulf g.2.1 (extf .f32 x bitsLt_bf16_f32))) (mulf g.1 (extf .f32 y bitsLt_bf16_f32)))

/-- What is carried after `n` steps of the backward recurrence from `g₀`. -/
def bwd (a b : Row F) (u v x y : ℕ → Half F) (g₀ : Grad F) : ℕ → Grad F
  | 0 => g₀
  | n + 1 => bwdStep a b (u n) (v n) (x n) (y n) (bwd a b u v x y g₀ n)

theorem bwd_add (a b : Row F) (u v x y : ℕ → Half F) (g₀ : Grad F) (n : ℕ) : ∀ k,
    bwd a b (fun j => u (n + j)) (fun j => v (n + j)) (fun j => x (n + j)) (fun j => y (n + j)) (bwd a b u v x y g₀ n) k
      = bwd a b u v x y g₀ (n + k)
  | 0 => rfl
  | k + 1 => by
    show bwdStep a b _ _ _ _ (bwd a b _ _ _ _ _ k) = bwdStep a b _ _ _ _ (bwd a b u v x y g₀ (n + k))
    rw [bwd_add a b u v x y g₀ n k]; rfl

theorem bwd_congr (a b : Row F) (u v x y u' v' x' y' : ℕ → Half F) (g₀ : Grad F) (N : ℕ) (hu : ∀ j < N, u j = u' j) (hv : ∀ j < N, v j = v' j)
    (hx : ∀ j < N, x j = x' j) (hy : ∀ j < N, y j = y' j) :
    ∀ k ≤ N, bwd a b u v x y g₀ k = bwd a b u' v' x' y' g₀ k
  | 0, _ => rfl
  | k + 1, h => by
    show bwdStep a b _ _ _ _ (bwd a b _ _ _ _ _ k) = bwdStep a b _ _ _ _ (bwd a b _ _ _ _ _ k)
    rw [hu k h, hv k h, hx k h, hy k h, bwd_congr a b u v x y u' v' x' y' g₀ N hu hv hx hy k (Nat.le_of_lt h)]

/-- Row `n` of an array of `N` rows (of row 0 if there is no such row). -/
def rowOf {N : ℕ} {e : EltTy} [NeZero N] (X : (⟨3, ![N, 32, 128]⟩ : Shape).Idx → Elt F e) (n : ℕ) : S32x128.Idx → Elt F e :=
  fun j => X (ix3 (Fin.ofNat N n) (j 0) (j 1))

/-- The array of `N` rows whose row `n` is `R n`. -/
def stack {N : ℕ} {e : EltTy} (R : ℕ → S32x128.Idx → Elt F e) : (⟨3, ![N, 32, 128]⟩ : Shape).Idx → Elt F e :=
  fun y => R (y 0).val (ix2 (y 1) (y 2))

theorem rowOf_stack {N : ℕ} {e : EltTy} [NeZero N] (R : ℕ → S32x128.Idx → Elt F e) (n : ℕ) (h : n < N) :
    rowOf (F := F) (stack (N := N) R) n = R n := by
  funext j
  show R (Fin.ofNat N n).val (ix2 (j 0) (j 1)) = R n j
  rw [show (Fin.ofNat N n).val = n from Nat.mod_eq_of_lt h]
  exact congrArg (R n) (eq_ix2 j).symm

/-- A single-row slab of an array read as a row. -/
theorem shapeCast_ld {N : ℕ} {e : EltTy} [NeZero N] (X : (⟨3, ![N, 32, 128]⟩ : Shape).Idx → Elt F e) (off : Fin 3 → ℕ)
    (inb : ∀ a, off a + S1x32x128.size a ≤ (⟨3, ![N, 32, 128]⟩ : Shape).size a) (n : ℕ) (hoff : off = ![n, 0, 0])
    (h : S1x32x128.ShapeCasts S32x128) :
    shapeCast S32x128 (View.ld X (Rect.unit (s := ⟨3, ![N, 32, 128]⟩) off S1x32x128.size inb)) h = rowOf (F := F) X n := by
  subst hoff
  funext j
  rw [shapeCast_apply _ h j (ix3 0 (j 0) (j 1)) (by rw [Shape.rowMajor_val_three, Shape.rowMajor_val_two]; simp)]
  have h0 : n + 1 ≤ N := inb 0
  refine congrArg X (funext fun a => ?_)
  match a with
  | ⟨0, _⟩ => exact Fin.ext (by simp [LoadRect.idx, Rect.unit, Nat.mod_eq_of_lt (Nat.lt_of_succ_le h0)])
  | ⟨1, _⟩ => exact Fin.ext (by simp [LoadRect.idx, Rect.unit])
  | ⟨2, _⟩ => exact Fin.ext (by simp [LoadRect.idx, Rect.unit])

/-- A row stored as a single-row slab: where the slab's elements lie, they are the row's. -/
theorem shapeCast_row_stack {N : ℕ} {e : EltTy} (R : ℕ → S32x128.Idx → Elt F e) (off : Fin 3 → ℕ)
    (inb : ∀ a, off a + S1x32x128.size a ≤ (⟨3, ![N, 32, 128]⟩ : Shape).size a) (n : ℕ) (hoff : off = ![n, 0, 0])
    (h : S32x128.ShapeCasts S1x32x128) (x : S1x32x128.Idx) :
    shapeCast S1x32x128 (R n) h x = stack (F := F) (N := N) R ((Rect.unit (s := ⟨3, ![N, 32, 128]⟩) off S1x32x128.size inb).emb x) := by
  subst hoff
  rw [shapeCast_apply _ h x (ix2 (x 1) (x 2)) (by
    rw [Shape.rowMajor_val_three, Shape.rowMajor_val_two]
    have : (x 0).val = 0 := by have := (x 0).isLt; simp at this; omega
    simp [this])]
  unfold stack
  have e0 : (((Rect.unit (s := ⟨3, ![N, 32, 128]⟩) ![n, 0, 0] S1x32x128.size inb).emb x) 0).val = n := by
    have : (x 0).val = 0 := by have := (x 0).isLt; simp at this; omega
    simp [Rect.emb, Rect.unit, this]
  rw [e0]
  refine congrArg (R n) (funext fun a => ?_)
  match a with
  | ⟨0, _⟩ => exact Fin.ext (by simp [Rect.emb, Rect.unit])
  | ⟨1, _⟩ => exact Fin.ext (by simp [Rect.emb, Rect.unit])

/-- Every element of row `n` lies in the single-row slab at `n`. -/
theorem row_mem {N : ℕ} (off : Fin 3 → ℕ) (inb : ∀ a, off a + S1x32x128.size a ≤ (⟨3, ![N, 32, 128]⟩ : Shape).size a) (n : ℕ)
    (hoff : off = ![n, 0, 0]) (y : (⟨3, ![N, 32, 128]⟩ : Shape).Idx) (hy : (y 0).val = n) :
    y ∈ (Rect.unit (s := ⟨3, ![N, 32, 128]⟩) off S1x32x128.size inb).set := by
  subst hoff
  refine (Rect.unit (s := ⟨3, ![N, 32, 128]⟩) ![n, 0, 0] S1x32x128.size inb).mem_set.mpr fun a => ?_
  match a with
  | ⟨0, _⟩ => exact ⟨0, Nat.one_pos, by simpa [Rect.unit] using hy⟩
  | ⟨1, _⟩ => exact ⟨(y 1).val, (y 1).isLt, by simp [Rect.unit]⟩
  | ⟨2, _⟩ => exact ⟨(y 2).val, (y 2).isLt, by simp [Rect.unit]⟩
end Cert.KernelIdeal.Scan
end
-- ==== Proof.RefTrip.lean ====
module
public import proofs.«01_k».proof.Proof.RefRun
public import proofs.«01_k».proof.Proof.Rows
public import Idealize.ShloMosaic.Lib.DynamicIndex
public import Idealize.ShloMosaic.Lib.Pipeline.Value
@[expose] public section

/-! # What the reference computes

One trip of each loop read off its operations, then both loops by induction on the trips: the states of the
forward recurrence, and what the backward recurrence carries. Over any float type. -/

set_option maxRecDepth 100000

noncomputable section
namespace Cert.ReferenceIdeal.Scan
open Cert.ReferenceIdeal Cert.ReferenceIdeal.Gen
open Idealize.ShloMosaic Idealize.ShloMosaic.TcCoe Idealize.ShloMosaic.Tactic Idealize.ShloMosaic.ValueIdx
open Idealize.ShloMosaic.StableHlo
open Cert.KernelIdeal.Scan (rowOf Row Half Grad fwdStep fwd zeroRow)
variable {F : FTy → Type} [FloatOps F]

/-- The slab read at row `n`, as a row. -/
theorem row_read {e : EltTy} (X : S4224x32x128.Idx → Elt F e) (start : Fin 3 → Int) (n : ℕ) (hn : n < 4224)
    (hs : ∀ a, start a = ((![n, 0, 0] : Fin 3 → ℕ) a : Int)) (h : S4224x32x128.Slices (fun _ => 0) S1x32x128) (h' : S1x32x128.ShapeCasts S32x128) :
    shapeCast S32x128 (Host.dynamicSlice S1x32x128 X start h) h' = rowOf (F := F) (N := 4224) X n := by
  have hoff : S4224x32x128.Slices ![n, 0, 0] S1x32x128 := ⟨rfl, fun a => by fin_cases a <;> simp <;> omega⟩
  rw [Host.dynamicSlice_eq_extractStridedSlice S1x32x128 X start ![n, 0, 0] h hoff hs]
  funext j
  rw [shapeCast_apply _ h' j (ix3 0 (j 0) (j 1)) (by rw [Shape.rowMajor_val_three, Shape.rowMajor_val_two]; simp)]
  refine congrArg X (funext fun a => ?_)
  match a with
  | ⟨0, _⟩ => exact Fin.ext (by simp [Nat.mod_eq_of_lt hn])
  | ⟨1, _⟩ => exact Fin.ext (by simp)
  | ⟨2, _⟩ => exact Fin.ext (by simp)

/-- The array `X` with its row `n` replaced. -/
def put {e : EltTy} (X : S4224x32x128.Idx → Elt F e) (n : ℕ) (r : S32x128.Idx → Elt F e) : S4224x32x128.Idx → Elt F e :=
  fun y => if (y 0).val = n then r (ix2 (y 1) (y 2)) else X y

theorem row_write {e : EltTy} (X : S4224x32x128.Idx → Elt F e) (r : S32x128.Idx → Elt F e) (start : Fin 3 → Int) (n : ℕ) (hn : n < 4224)
    (hs : ∀ a, start a = ((![n, 0, 0] : Fin 3 → ℕ) a : Int)) (h : S4224x32x128.Slices (fun _ => 0) S1x32x128) :
    Host.dynamicUpdateSlice X (broadcastInDim S1x32x128 ![1, 2] bcast_S32x128_S1x32x128_1_2 r) start h = put (F := F) X n r := by
  have hoff : S4224x32x128.Slices ![n, 0, 0] S1x32x128 := ⟨rfl, fun a => by fin_cases a <;> simp <;> omega⟩
  rw [Host.dynamicUpdateSlice_eq_updateSlice X _ start h ![n, 0, 0] (fun a => by
    rw [hs a]; fin_cases a <;> simp <;> omega) hoff]
  funext y
  unfold updateSlice put
  have h1 := (y 1).isLt
  have h2 := (y 2).isLt
  by_cases hy : (y 0).val = n
  · rw [if_pos hy, dif_pos (by intro a; fin_cases a <;> simp_all)]
    refine congrArg r (funext fun a => ?_)
    match a with
    | ⟨0, _⟩ => exact Fin.ext (by simp)
    | ⟨1, _⟩ => exact Fin.ext (by simp)
  · rw [if_neg hy, dif_neg]
    intro hh
    have := hh 0
    simp at this
    omega

/-- The start of the slab at row `n`. -/
theorem at_row {s : Fin 3 → Int} {n : ℕ} (h0 : s 0 = n) (h1 : s 1 = 0) (h2 : s 2 = 0) :
    ∀ a, s a = ((![n, 0, 0] : Fin 3 → ℕ) a : Int)
  | ⟨0, _⟩ => h0
  | ⟨1, _⟩ => h1
  | ⟨2, _⟩ => h2
variable (V : Valuation τ sig (Elt F))

theorem fop_read (n : ℕ) (hn : n < 4224)
    (hi : BitVec.toInt ((V (arr main_v5_4) : S_.Idx → BitVec 32) (Shape.Idx.first h_S_)) = n) :
    after fop V (arr main_while0b_v15) = rowOf (F := F) (e := .bf16) (N := 4224) (V (arr main_v5_0)) n := by
  unfold arr; after_reads_simp
  refine row_read (e := .bf16) _ _ n hn ?_ sliceFits_S4224x32x128_S1x32x128 shapeCasts_S1x32x128_S32x128
  exact at_row hi rfl rfl
theorem fop_1_read (n : ℕ) (hn : n < 4224)
    (hi : BitVec.toInt ((V (arr main_v5_4) : S_.Idx → BitVec 32) (Shape.Idx.first h_S_)) = n) :
    after fop_1 V (arr main_while0b_v16) = rowOf (F := F) (e := .bf16) (N := 4224) (V (arr main_v5_1)) n := by
  unfold arr; after_reads_simp
  refine row_read (e := .bf16) _ _ n hn ?_ sliceFits_S4224x32x128_S1x32x128 shapeCasts_S1x32x128_S32x128
  exact at_row hi rfl rfl
theorem fop_5_put (n : ℕ) (hn : n < 4224)
    (hi : BitVec.toInt ((V (arr main_v5_4) : S_.Idx → BitVec 32) (Shape.Idx.first h_S_)) = n) :
    after fop_5 V (arr main_while0b_v31) = put (F := F) (e := .f32) (V (arr main_v5_9)) n (V (arr main_v5_5)) := by
  unfold arr; after_reads_simp
  refine row_write (e := .f32) _ _ _ n hn ?_ updateFits_S4224x32x128_S1x32x128
  exact at_row hi rfl rfl
theorem fop_6_put (n : ℕ) (hn : n < 4224)
    (hi : BitVec.toInt ((V (arr main_v5_4) : S_.Idx → BitVec 32) (Shape.Idx.first h_S_)) = n) :
    after fop_6 V (arr main_while0b_v32) = put (F := F) (e := .f32) (V (arr main_v5_10)) n (V (arr main_v5_6)) := by
  unfold arr; after_reads_simp
  refine row_write (e := .f32) _ _ _ n hn ?_ updateFits_S4224x32x128_S1x32x128
  exact at_row hi rfl rfl
theorem bop_1_read (n : ℕ) (hn : n < 4224)
    (hi : BitVec.toInt ((V (arr main_while1b_v16) : S_.Idx → BitVec 32) (Shape.Idx.first h_S_)) = n) :
    after bop_1 V (arr main_while1b_v17) = rowOf (F := F) (e := .bf16) (N := 4224) (V (arr main_v14_0)) n := by
  unfold arr; after_reads_simp
  refine row_read (e := .bf16) _ _ n hn ?_ sliceFits_S4224x32x128_S1x32x128 shapeCasts_S1x32x128_S32x128
  exact at_row hi rfl rfl
theorem bop_2_read (n : ℕ) (hn : n < 4224)
    (hi : BitVec.toInt ((V (arr main_while1b_v16) : S_.Idx → BitVec 32) (Shape.Idx.first h_S_)) = n) :
    after bop_2 V (arr main_while1b_v18) = rowOf (F := F) (e := .bf16) (N := 4224) (V (arr main_v14_1)) n := by
  unfold arr; after_reads_simp
  refine row_read (e := .bf16) _ _ n hn ?_ sliceFits_S4224x32x128_S1x32x128 shapeCasts_S1x32x128_S32x128
  exact at_row hi rfl rfl
theorem bop_3_read (n : ℕ) (hn : n < 4224)
    (hi : BitVec.toInt ((V (arr main_while1b_v16) : S_.Idx → BitVec 32) (Shape.Idx.first h_S_)) = n) :
    after bop_3 V (arr main_while1b_v19) = rowOf (F := F) (e := .f32) (N := 4224) (V (arr main_v14_2)) n := by
  unfold arr; after_reads_simp
  refine row_read (e := .f32) _ _ n hn ?_ sliceFits_S4224x32x128_S1x32x128 shapeCasts_S1x32x128_S32x128
  exact at_row hi rfl rfl
theorem bop_4_read (n : ℕ) (hn : n < 4224)
    (hi : BitVec.toInt ((V (arr main_while1b_v16) : S_.Idx → BitVec 32) (Shape.Idx.first h_S_)) = n) :
    after bop_4 V (arr main_while1b_v20) = rowOf (F := F) (e := .f32) (N := 4224) (V (arr main_v14_3)) n := by
  unfold arr; after_reads_simp
  refine row_read (e := .f32) _ _ n hn ?_ sliceFits_S4224x32x128_S1x32x128 shapeCasts_S1x32x128_S32x128
  exact at_row hi rfl rfl
theorem bop_6_put (n : ℕ) (hn : n < 4224)
    (hi : BitVec.toInt ((V (arr main_while1b_v16) : S_.Idx → BitVec 32) (Shape.Idx.first h_S_)) = n) :
    after bop_6 V (arr main_while1b_v42) = put (F := F) (e := .bf16) (V (arr main_v14_11)) n (V (arr main_while1b_v32)) := by
  unfold arr; after_reads_simp
  refine row_write (e := .bf16) _ _ _ n hn ?_ updateFits_S4224x32x128_S1x32x128
  exact at_row hi rfl rfl
theorem bop_7_put (n : ℕ) (hn : n < 4224)
    (hi : BitVec.toInt ((V (arr main_while1b_v16) : S_.Idx → BitVec 32) (Shape.Idx.first h_S_)) = n) :
    after bop_7 V (arr main_while1b_v43) = put (F := F) (e := .bf16) (V (arr main_v14_12)) n (V (arr main_while1b_v25)) := by
  unfold arr; after_reads_simp
  refine row_write (e := .bf16) _ _ _ n hn ?_ updateFits_S4224x32x128_S1x32x128
  exact at_row hi rfl rfl

/-- One trip of the reference's backward loop, at a row with cotangent `u + i v` and state `x + i y` before it:
    the row's total gradient, real part. -/
def totRe (u : Half F) (g : Grad F) : Row F := addf g.1 (extf .f32 u bitsLt_bf16_f32)
/-- The row's total gradient, imaginary part. -/
def totIm (v : Half F) (g : Grad F) : Row F := addf g.2.1 (extf .f32 v bitsLt_bf16_f32)
/-- What the trip leaves for the next: the gradient carried to the row before, and the two sums. -/
def refStep (a b : Row F) (u v : Half F) (x y : Row F) (g : Grad F) : Grad F :=
  (addf (mulf b (totIm v g)) (mulf a (totRe u g)),
   addf (mulf a (totIm v g)) (mulf b (Host.negf (totRe u g))),
   addf (addf g.2.2.1 (mulf (totIm v g) y)) (mulf (totRe u g) x),
   addf (addf g.2.2.2 (mulf (totIm v g) x)) (mulf (Host.negf (totRe u g)) y))
/-- What is carried after `n` trips. -/
def refBwd (a b : Row F) (u v : ℕ → Half F) (x y : ℕ → Row F) (g₀ : Grad F) : ℕ → Grad F
  | 0 => g₀
  | n + 1 => refStep a b (u n) (v n) (x n) (y n) (refBwd a b u v x y g₀ n)
theorem fop_2_while0b_v21 : after fop_2 V (arr main_while0b_v21) = (fwdStep (F := F) (V (arr main_v5_2)) (V (arr main_v5_3)) (V (arr main_while0b_v15)) (V (arr main_while0b_v16)) ((V (arr main_v5_5)), (V (arr main_v5_6)))).1 := by
  unfold arr; after_reads_simp
  try rfl
theorem fop_2_while0b_v26 : after fop_2 V (arr main_while0b_v26) = (fwdStep (F := F) (V (arr main_v5_2)) (V (arr main_v5_3)) (V (arr main_while0b_v15)) (V (arr main_while0b_v16)) ((V (arr main_v5_5)), (V (arr main_v5_6)))).2 := by
  unfold arr; after_reads_simp
  try rfl
theorem fop_7_v5_5 : after fop_7 V (arr main_v5_5) = (V (arr main_while0b_v21)) := by
  unfold arr; after_reads_simp
  try rfl
theorem fop_7_v5_6 : after fop_7 V (arr main_v5_6) = (V (arr main_while0b_v26)) := by
  unfold arr; after_reads_simp
  try rfl
theorem fop_7_v5_9 : after fop_7 V (arr main_v5_9) = (V (arr main_while0b_v31)) := by
  unfold arr; after_reads_simp
  try rfl
theorem fop_7_v5_10 : after fop_7 V (arr main_v5_10) = (V (arr main_while0b_v32)) := by
  unfold arr; after_reads_simp
  try rfl
theorem bop_5_while1b_v39 : after bop_5 V (arr main_while1b_v39) = (refStep (F := F) (V (arr main_v14_4)) (V (arr main_v14_5)) (V (arr main_while1b_v17)) (V (arr main_while1b_v18)) (V (arr main_while1b_v19)) (V (arr main_while1b_v20)) ((V (arr main_v14_9)), (V (arr main_v14_10)), (V (arr main_v14_7)), (V (arr main_v14_8)))).1 := by
  unfold arr; after_reads_simp
  try rfl
theorem bop_5_while1b_v35 : after bop_5 V (arr main_while1b_v35) = (refStep (F := F) (V (arr main_v14_4)) (V (arr main_v14_5)) (V (arr main_while1b_v17)) (V (arr main_while1b_v18)) (V (arr main_while1b_v19)) (V (arr main_while1b_v20)) ((V (arr main_v14_9)), (V (arr main_v14_10)), (V (arr main_v14_7)), (V (arr main_v14_8)))).2.1 := by
  unfold arr; after_reads_simp
  try rfl
theorem bop_5_while1b_v41 : after bop_5 V (arr main_while1b_v41) = (refStep (F := F) (V (arr main_v14_4)) (V (arr main_v14_5)) (V (arr main_while1b_v17)) (V (arr main_while1b_v18)) (V (arr main_while1b_v19)) (V (arr main_while1b_v20)) ((V (arr main_v14_9)), (V (arr main_v14_10)), (V (arr main_v14_7)), (V (arr main_v14_8)))).2.2.1 := by
  unfold arr; after_reads_simp
  try rfl
theorem bop_5_while1b_v37 : after bop_5 V (arr main_while1b_v37) = (refStep (F := F) (V (arr main_v14_4)) (V (arr main_v14_5)) (V (arr main_while1b_v17)) (V (arr main_while1b_v18)) (V (arr main_while1b_v19)) (V (arr main_while1b_v20)) ((V (arr main_v14_9)), (V (arr main_v14_10)), (V (arr main_v14_7)), (V (arr main_v14_8)))).2.2.2 := by
  unfold arr; after_reads_simp
  try rfl
theorem bop_5_while1b_v32 : after bop_5 V (arr main_while1b_v32) = truncf (F := F) (s := S32x128) .bf16 (totRe (F := F) (V (arr main_while1b_v17)) ((V (arr main_v14_9)), (V (arr main_v14_10)), (V (arr main_v14_7)), (V (arr main_v14_8)))) bitsLt_bf16_f32 := by
  unfold arr; after_reads_simp
  try rfl
theorem bop_5_while1b_v25 : after bop_5 V (arr main_while1b_v25) = truncf (F := F) (s := S32x128) .bf16 (totIm (F := F) (V (arr main_while1b_v18)) ((V (arr main_v14_9)), (V (arr main_v14_10)), (V (arr main_v14_7)), (V (arr main_v14_8)))) bitsLt_bf16_f32 := by
  unfold arr; after_reads_simp
  try rfl
theorem bop_8_v14_7 : after bop_8 V (arr main_v14_7) = (V (arr main_while1b_v41)) := by
  unfold arr; after_reads_simp
  try rfl
theorem bop_8_v14_8 : after bop_8 V (arr main_v14_8) = (V (arr main_while1b_v37)) := by
  unfold arr; after_reads_simp
  try rfl
theorem bop_8_v14_9 : after bop_8 V (arr main_v14_9) = (V (arr main_while1b_v39)) := by
  unfold arr; after_reads_simp
  try rfl
theorem bop_8_v14_10 : after bop_8 V (arr main_v14_10) = (V (arr main_while1b_v35)) := by
  unfold arr; after_reads_simp
  try rfl
theorem bop_8_v14_11 : after bop_8 V (arr main_v14_11) = (V (arr main_while1b_v42)) := by
  unfold arr; after_reads_simp
  try rfl
theorem bop_8_v14_12 : after bop_8 V (arr main_v14_12) = (V (arr main_while1b_v43)) := by
  unfold arr; after_reads_simp
  try rfl
theorem bop_while1b_v16 : after bop V (arr main_while1b_v16) = subi (subi (constantI S_ 32 4224#32) (V (arr main_v14_6))) (constantI S_ 32 1#32) := by
  unfold arr; after_reads_simp
  try rfl

theorem word0 (k : ℕ) (hk : k < 4224) : (Scf.iv 0#32 1#32 k).toInt = k := by
  unfold Scf.iv
  rw [BitVec.zero_add, BitVec.mul_one]
  exact toInt_ofNat_of_lt (by omega)

theorem word1 (k : ℕ) (hk : k < 4224) : ((4224#32 - Scf.iv 0#32 1#32 k) - 1#32).toInt = (4223 - k : ℕ) := by
  unfold Scf.iv
  rw [BitVec.zero_add, BitVec.mul_one]
  have h : (4224#32 - BitVec.ofNat 32 k) - 1#32 = BitVec.ofNat 32 (4223 - k) := by
    apply BitVec.eq_of_toNat_eq
    simp only [BitVec.toNat_sub, BitVec.toNat_ofNat]
    omega
  rw [h]
  exact toInt_ofNat_of_lt (by omega)
abbrev row0 (k : ℕ) : ℕ := k
abbrev row1 (k : ℕ) : ℕ := 4223 - k
theorem row0_lt (k : ℕ) (hk : k < 4224) : row0 k < 4224 := hk
theorem row1_lt (k : ℕ) (hk : k < 4224) : row1 k < 4224 := by show 4223 - k < 4224; omega

/-! What the first pieces of a trip do not write they keep. -/

theorem kept0_1 {r : Ref sig .tc} (h : r ∉ test0_W) :
    (after test0 V) (arr r) = V (arr r) :=
  after_of_writes_sub test0 V test0_writes h
theorem kept0_2 {r : Ref sig .tc} (h : r ∉ fop_W ∧ r ∉ test0_W) :
    (after fop (after test0 V)) (arr r) = V (arr r) :=
  (after_of_writes_sub fop _ fop_writes h.1).trans (kept0_1 V h.2)
theorem kept0_3 {r : Ref sig .tc} (h : r ∉ fop_1_W ∧ r ∉ fop_W ∧ r ∉ test0_W) :
    (after fop_1 (after fop (after test0 V))) (arr r) = V (arr r) :=
  (after_of_writes_sub fop_1 _ fop_1_writes h.1).trans (kept0_2 V h.2)
theorem kept0_4 {r : Ref sig .tc} (h : r ∉ fop_2_W ∧ r ∉ fop_1_W ∧ r ∉ fop_W ∧ r ∉ test0_W) :
    (after fop_2 (after fop_1 (after fop (after test0 V)))) (arr r) = V (arr r) :=
  (after_of_writes_sub fop_2 _ fop_2_writes h.1).trans (kept0_3 V h.2)
theorem kept0_5 {r : Ref sig .tc} (h : r ∉ fop_3_W ∧ r ∉ fop_2_W ∧ r ∉ fop_1_W ∧ r ∉ fop_W ∧ r ∉ test0_W) :
    (after fop_3 (after fop_2 (after fop_1 (after fop (after test0 V))))) (arr r) = V (arr r) :=
  (after_of_writes_sub fop_3 _ fop_3_writes h.1).trans (kept0_4 V h.2)
theorem kept0_6 {r : Ref sig .tc} (h : r ∉ fop_4_W ∧ r ∉ fop_3_W ∧ r ∉ fop_2_W ∧ r ∉ fop_1_W ∧ r ∉ fop_W ∧ r ∉ test0_W) :
    (after fop_4 (after fop_3 (after fop_2 (after fop_1 (after fop (after test0 V)))))) (arr r) = V (arr r) :=
  (after_of_writes_sub fop_4 _ fop_4_writes h.1).trans (kept0_5 V h.2)
theorem kept0_7 {r : Ref sig .tc} (h : r ∉ fop_5_W ∧ r ∉ fop_4_W ∧ r ∉ fop_3_W ∧ r ∉ fop_2_W ∧ r ∉ fop_1_W ∧ r ∉ fop_W ∧ r ∉ test0_W) :
    (after fop_5 (after fop_4 (after fop_3 (after fop_2 (after fop_1 (after fop (after test0 V))))))) (arr r) = V (arr r) :=
  (after_of_writes_sub fop_5 _ fop_5_writes h.1).trans (kept0_6 V h.2)
theorem kept0_8 {r : Ref sig .tc} (h : r ∉ fop_6_W ∧ r ∉ fop_5_W ∧ r ∉ fop_4_W ∧ r ∉ fop_3_W ∧ r ∉ fop_2_W ∧ r ∉ fop_1_W ∧ r ∉ fop_W ∧ r ∉ test0_W) :
    (after fop_6 (after fop_5 (after fop_4 (after fop_3 (after fop_2 (after fop_1 (after fop (after test0 V)))))))) (arr r) = V (arr r) :=
  (after_of_writes_sub fop_6 _ fop_6_writes h.1).trans (kept0_7 V h.2)
theorem kept0_9 {r : Ref sig .tc} (h : r ∉ fop_7_W ∧ r ∉ fop_6_W ∧ r ∉ fop_5_W ∧ r ∉ fop_4_W ∧ r ∉ fop_3_W ∧ r ∉ fop_2_W ∧ r ∉ fop_1_W ∧ r ∉ fop_W ∧ r ∉ test0_W) :
    (after fop_7 (after fop_6 (after fop_5 (after fop_4 (after fop_3 (after fop_2 (after fop_1 (after fop (after test0 V))))))))) (arr r) = V (arr r) :=
  (after_of_writes_sub fop_7 _ fop_7_writes h.1).trans (kept0_8 V h.2)
theorem kept1_1 {r : Ref sig .tc} (h : r ∉ test1_W) :
    (after test1 V) (arr r) = V (arr r) :=
  after_of_writes_sub test1 V test1_writes h
theorem kept1_2 {r : Ref sig .tc} (h : r ∉ bop_W ∧ r ∉ test1_W) :
    (after bop (after test1 V)) (arr r) = V (arr r) :=
  (after_of_writes_sub bop _ bop_writes h.1).trans (kept1_1 V h.2)
theorem kept1_3 {r : Ref sig .tc} (h : r ∉ bop_1_W ∧ r ∉ bop_W ∧ r ∉ test1_W) :
    (after bop_1 (after bop (after test1 V))) (arr r) = V (arr r) :=
  (after_of_writes_sub bop_1 _ bop_1_writes h.1).trans (kept1_2 V h.2)
theorem kept1_4 {r : Ref sig .tc} (h : r ∉ bop_2_W ∧ r ∉ bop_1_W ∧ r ∉ bop_W ∧ r ∉ test1_W) :
    (after bop_2 (after bop_1 (after bop (after test1 V)))) (arr r) = V (arr r) :=
  (after_of_writes_sub bop_2 _ bop_2_writes h.1).trans (kept1_3 V h.2)
theorem kept1_5 {r : Ref sig .tc} (h : r ∉ bop_3_W ∧ r ∉ bop_2_W ∧ r ∉ bop_1_W ∧ r ∉ bop_W ∧ r ∉ test1_W) :
    (after bop_3 (after bop_2 (after bop_1 (after bop (after test1 V))))) (arr r) = V (arr r) :=
  (after_of_writes_sub bop_3 _ bop_3_writes h.1).trans (kept1_4 V h.2)
theorem kept1_6 {r : Ref sig .tc} (h : r ∉ bop_4_W ∧ r ∉ bop_3_W ∧ r ∉ bop_2_W ∧ r ∉ bop_1_W ∧ r ∉ bop_W ∧ r ∉ test1_W) :
    (after bop_4 (after bop_3 (after bop_2 (after bop_1 (after bop (after test1 V)))))) (arr r) = V (arr r) :=
  (after_of_writes_sub bop_4 _ bop_4_writes h.1).trans (kept1_5 V h.2)
theorem kept1_7 {r : Ref sig .tc} (h : r ∉ bop_5_W ∧ r ∉ bop_4_W ∧ r ∉ bop_3_W ∧ r ∉ bop_2_W ∧ r ∉ bop_1_W ∧ r ∉ bop_W ∧ r ∉ test1_W) :
    (after bop_5 (after bop_4 (after bop_3 (after bop_2 (after bop_1 (after bop (after test1 V))))))) (arr r) = V (arr r) :=
  (after_of_writes_sub bop_5 _ bop_5_writes h.1).trans (kept1_6 V h.2)
theorem kept1_8 {r : Ref sig .tc} (h : r ∉ bop_6_W ∧ r ∉ bop_5_W ∧ r ∉ bop_4_W ∧ r ∉ bop_3_W ∧ r ∉ bop_2_W ∧ r ∉ bop_1_W ∧ r ∉ bop_W ∧ r ∉ test1_W) :
    (after bop_6 (after bop_5 (after bop_4 (after bop_3 (after bop_2 (after bop_1 (after bop (after test1 V)))))))) (arr r) = V (arr r) :=
  (after_of_writes_sub bop_6 _ bop_6_writes h.1).trans (kept1_7 V h.2)
theorem kept1_9 {r : Ref sig .tc} (h : r ∉ bop_7_W ∧ r ∉ bop_6_W ∧ r ∉ bop_5_W ∧ r ∉ bop_4_W ∧ r ∉ bop_3_W ∧ r ∉ bop_2_W ∧ r ∉ bop_1_W ∧ r ∉ bop_W ∧ r ∉ test1_W) :
    (after bop_7 (after bop_6 (after bop_5 (after bop_4 (after bop_3 (after bop_2 (after bop_1 (after bop (after test1 V))))))))) (arr r) = V (arr r) :=
  (after_of_writes_sub bop_7 _ bop_7_writes h.1).trans (kept1_8 V h.2)
theorem kept1_10 {r : Ref sig .tc} (h : r ∉ bop_8_W ∧ r ∉ bop_7_W ∧ r ∉ bop_6_W ∧ r ∉ bop_5_W ∧ r ∉ bop_4_W ∧ r ∉ bop_3_W ∧ r ∉ bop_2_W ∧ r ∉ bop_1_W ∧ r ∉ bop_W ∧ r ∉ test1_W) :
    (after bop_8 (after bop_7 (after bop_6 (after bop_5 (after bop_4 (after bop_3 (after bop_2 (after bop_1 (after bop (after test1 V)))))))))) (arr r) = V (arr r) :=
  (after_of_writes_sub bop_8 _ bop_8_writes h.1).trans (kept1_9 V h.2)

section
variable (k : ℕ) (hk : k < 4224) (hc : V (arr main_v5_4) = fun _ => Scf.iv 0#32 1#32 k)
include hk hc
theorem hi_0_1 :
    BitVec.toInt (((after test0 V) (arr main_v5_4) : S_.Idx → BitVec 32) (Shape.Idx.first h_S_)) = (row0 k : ℕ) := by
  rw [after_of_writes_sub test0 _ test0_writes (r := main_v5_4) (by decide +kernel), hc]
  exact word0 k hk
theorem hi_0_2 :
    BitVec.toInt (((after fop (after test0 V)) (arr main_v5_4) : S_.Idx → BitVec 32) (Shape.Idx.first h_S_)) = (row0 k : ℕ) := by
  rw [kept0_2 V (r := main_v5_4) (by decide +kernel), hc]
  exact word0 k hk
theorem hi_0_6 :
    BitVec.toInt (((after fop_4 (after fop_3 (after fop_2 (after fop_1 (after fop (after test0 V)))))) (arr main_v5_4) : S_.Idx → BitVec 32) (Shape.Idx.first h_S_)) = (row0 k : ℕ) := by
  rw [kept0_6 V (r := main_v5_4) (by decide +kernel), hc]
  exact word0 k hk
theorem hi_0_7 :
    BitVec.toInt (((after fop_5 (after fop_4 (after fop_3 (after fop_2 (after fop_1 (after fop (after test0 V))))))) (arr main_v5_4) : S_.Idx → BitVec 32) (Shape.Idx.first h_S_)) = (row0 k : ℕ) := by
  rw [kept0_7 V (r := main_v5_4) (by decide +kernel), hc]
  exact word0 k hk
theorem v0_1_v5_0 :
    (after test0 V) (arr main_v5_0) = (V (arr main_v5_0)) := by
  rw [after_of_writes_sub test0 _ test0_writes (r := main_v5_0) (by decide +kernel)]
theorem v0_3_while0b_v15 :
    (after fop_1 (after fop (after test0 V))) (arr main_while0b_v15) = rowOf (F := F) (e := .bf16) (N := 4224) (V (arr main_v5_0)) (row0 k) := by
  rw [after_of_writes_sub fop_1 _ fop_1_writes (r := main_while0b_v15) (by decide +kernel), fop_read (after test0 V) (row0 k) (row0_lt k hk) (hi_0_1 V k hk hc), v0_1_v5_0 V k hk hc]
theorem v0_3_while0b_v16 :
    (after fop_1 (after fop (after test0 V))) (arr main_while0b_v16) = rowOf (F := F) (e := .bf16) (N := 4224) (V (arr main_v5_1)) (row0 k) := by
  rw [fop_1_read (after fop (after test0 V)) (row0 k) (row0_lt k hk) (hi_0_2 V k hk hc), kept0_2 V (r := main_v5_1) (by decide +kernel)]
theorem v0_8_while0b_v21 :
    (after fop_6 (after fop_5 (after fop_4 (after fop_3 (after fop_2 (after fop_1 (after fop (after test0 V)))))))) (arr main_while0b_v21) = (fwdStep (F := F) (V (arr main_v5_2)) (V (arr main_v5_3)) (rowOf (F := F) (e := .bf16) (N := 4224) (V (arr main_v5_0)) (row0 k)) (rowOf (F := F) (e := .bf16) (N := 4224) (V (arr main_v5_1)) (row0 k)) ((V (arr main_v5_5)), (V (arr main_v5_6)))).1 := by
  rw [after_of_writes_sub fop_6 _ fop_6_writes (r := main_while0b_v21) (by decide +kernel), after_of_writes_sub fop_5 _ fop_5_writes (r := main_while0b_v21) (by decide +kernel), after_of_writes_sub fop_4 _ fop_4_writes (r := main_while0b_v21) (by decide +kernel), after_of_writes_sub fop_3 _ fop_3_writes (r := main_while0b_v21) (by decide +kernel), fop_2_while0b_v21, kept0_3 V (r := main_v5_2) (by decide +kernel), kept0_3 V (r := main_v5_3) (by decide +kernel), v0_3_while0b_v15 V k hk hc, v0_3_while0b_v16 V k hk hc, kept0_3 V (r := main_v5_5) (by decide +kernel), kept0_3 V (r := main_v5_6) (by decide +kernel)]
theorem v0_9_v5_5 :
    (after fop_7 (after fop_6 (after fop_5 (after fop_4 (after fop_3 (after fop_2 (after fop_1 (after fop (after test0 V))))))))) (arr main_v5_5) = (fwdStep (F := F) (V (arr main_v5_2)) (V (arr main_v5_3)) (rowOf (F := F) (e := .bf16) (N := 4224) (V (arr main_v5_0)) (row0 k)) (rowOf (F := F) (e := .bf16) (N := 4224) (V (arr main_v5_1)) (row0 k)) ((V (arr main_v5_5)), (V (arr main_v5_6)))).1 := by
  rw [fop_7_v5_5, v0_8_while0b_v21 V k hk hc]
theorem v0_8_while0b_v26 :
    (after fop_6 (after fop_5 (after fop_4 (after fop_3 (after fop_2 (after fop_1 (after fop (after test0 V)))))))) (arr main_while0b_v26) = (fwdStep (F := F) (V (arr main_v5_2)) (V (arr main_v5_3)) (rowOf (F := F) (e := .bf16) (N := 4224) (V (arr main_v5_0)) (row0 k)) (rowOf (F := F) (e := .bf16) (N := 4224) (V (arr main_v5_1)) (row0 k)) ((V (arr main_v5_5)), (V (arr main_v5_6)))).2 := by
  rw [after_of_writes_sub fop_6 _ fop_6_writes (r := main_while0b_v26) (by decide +kernel), after_of_writes_sub fop_5 _ fop_5_writes (r := main_while0b_v26) (by decide +kernel), after_of_writes_sub fop_4 _ fop_4_writes (r := main_while0b_v26) (by decide +kernel), after_of_writes_sub fop_3 _ fop_3_writes (r := main_while0b_v26) (by decide +kernel), fop_2_while0b_v26, kept0_3 V (r := main_v5_2) (by decide +kernel), kept0_3 V (r := main_v5_3) (by decide +kernel), v0_3_while0b_v15 V k hk hc, v0_3_while0b_v16 V k hk hc, kept0_3 V (r := main_v5_5) (by decide +kernel), kept0_3 V (r := main_v5_6) (by decide +kernel)]
theorem v0_9_v5_6 :
    (after fop_7 (after fop_6 (after fop_5 (after fop_4 (after fop_3 (after fop_2 (after fop_1 (after fop (after test0 V))))))))) (arr main_v5_6) = (fwdStep (F := F) (V (arr main_v5_2)) (V (arr main_v5_3)) (rowOf (F := F) (e := .bf16) (N := 4224) (V (arr main_v5_0)) (row0 k)) (rowOf (F := F) (e := .bf16) (N := 4224) (V (arr main_v5_1)) (row0 k)) ((V (arr main_v5_5)), (V (arr main_v5_6)))).2 := by
  rw [fop_7_v5_6, v0_8_while0b_v26 V k hk hc]
theorem v0_8_while0b_v31 :
    (after fop_6 (after fop_5 (after fop_4 (after fop_3 (after fop_2 (after fop_1 (after fop (after test0 V)))))))) (arr main_while0b_v31) = put (F := F) (e := .f32) (V (arr main_v5_9)) (row0 k) (V (arr main_v5_5)) := by
  rw [after_of_writes_sub fop_6 _ fop_6_writes (r := main_while0b_v31) (by decide +kernel), fop_5_put (after fop_4 (after fop_3 (after fop_2 (after fop_1 (after fop (after test0 V)))))) (row0 k) (row0_lt k hk) (hi_0_6 V k hk hc), kept0_6 V (r := main_v5_9) (by decide +kernel), kept0_6 V (r := main_v5_5) (by decide +kernel)]
theorem v0_9_v5_9 :
    (after fop_7 (after fop_6 (after fop_5 (after fop_4 (after fop_3 (after fop_2 (after fop_1 (after fop (after test0 V))))))))) (arr main_v5_9) = put (F := F) (e := .f32) (V (arr main_v5_9)) (row0 k) (V (arr main_v5_5)) := by
  rw [fop_7_v5_9, v0_8_while0b_v31 V k hk hc]
theorem v0_8_while0b_v32 :
    (after fop_6 (after fop_5 (after fop_4 (after fop_3 (after fop_2 (after fop_1 (after fop (after test0 V)))))))) (arr main_while0b_v32) = put (F := F) (e := .f32) (V (arr main_v5_10)) (row0 k) (V (arr main_v5_6)) := by
  rw [fop_6_put (after fop_5 (after fop_4 (after fop_3 (after fop_2 (after fop_1 (after fop (after test0 V))))))) (row0 k) (row0_lt k hk) (hi_0_7 V k hk hc), kept0_7 V (r := main_v5_10) (by decide +kernel), kept0_7 V (r := main_v5_6) (by decide +kernel)]
theorem v0_9_v5_10 :
    (after fop_7 (after fop_6 (after fop_5 (after fop_4 (after fop_3 (after fop_2 (after fop_1 (after fop (after test0 V))))))))) (arr main_v5_10) = put (F := F) (e := .f32) (V (arr main_v5_10)) (row0 k) (V (arr main_v5_6)) := by
  rw [fop_7_v5_10, v0_8_while0b_v32 V k hk hc]
end

section
variable (k : ℕ) (hk : k < 4224) (hc : V (arr main_v14_6) = fun _ => Scf.iv 0#32 1#32 k)
include hk hc
theorem hi_1_2 :
    BitVec.toInt (((after bop (after test1 V)) (arr main_while1b_v16) : S_.Idx → BitVec 32) (Shape.Idx.first h_S_)) = (row1 k : ℕ) := by
  rw [bop_while1b_v16, after_of_writes_sub test1 _ test1_writes (r := main_v14_6) (by decide +kernel), hc]
  exact word1 k hk
theorem hi_1_3 :
    BitVec.toInt (((after bop_1 (after bop (after test1 V))) (arr main_while1b_v16) : S_.Idx → BitVec 32) (Shape.Idx.first h_S_)) = (row1 k : ℕ) := by
  rw [after_of_writes_sub bop_1 _ bop_1_writes (r := main_while1b_v16) (by decide +kernel), bop_while1b_v16, after_of_writes_sub test1 _ test1_writes (r := main_v14_6) (by decide +kernel), hc]
  exact word1 k hk
theorem hi_1_4 :
    BitVec.toInt (((after bop_2 (after bop_1 (after bop (after test1 V)))) (arr main_while1b_v16) : S_.Idx → BitVec 32) (Shape.Idx.first h_S_)) = (row1 k : ℕ) := by
  rw [after_of_writes_sub bop_2 _ bop_2_writes (r := main_while1b_v16) (by decide +kernel), after_of_writes_sub bop_1 _ bop_1_writes (r := main_while1b_v16) (by decide +kernel), bop_while1b_v16, after_of_writes_sub test1 _ test1_writes (r := main_v14_6) (by decide +kernel), hc]
  exact word1 k hk
theorem hi_1_5 :
    BitVec.toInt (((after bop_3 (after bop_2 (after bop_1 (after bop (after test1 V))))) (arr main_while1b_v16) : S_.Idx → BitVec 32) (Shape.Idx.first h_S_)) = (row1 k : ℕ) := by
  rw [after_of_writes_sub bop_3 _ bop_3_writes (r := main_while1b_v16) (by decide +kernel), after_of_writes_sub bop_2 _ bop_2_writes (r := main_while1b_v16) (by decide +kernel), after_of_writes_sub bop_1 _ bop_1_writes (r := main_while1b_v16) (by decide +kernel), bop_while1b_v16, after_of_writes_sub test1 _ test1_writes (r := main_v14_6) (by decide +kernel), hc]
  exact word1 k hk
theorem hi_1_7 :
    BitVec.toInt (((after bop_5 (after bop_4 (after bop_3 (after bop_2 (after bop_1 (after bop (after test1 V))))))) (arr main_while1b_v16) : S_.Idx → BitVec 32) (Shape.Idx.first h_S_)) = (row1 k : ℕ) := by
  rw [after_of_writes_sub bop_5 _ bop_5_writes (r := main_while1b_v16) (by decide +kernel), after_of_writes_sub bop_4 _ bop_4_writes (r := main_while1b_v16) (by decide +kernel), after_of_writes_sub bop_3 _ bop_3_writes (r := main_while1b_v16) (by decide +kernel), after_of_writes_sub bop_2 _ bop_2_writes (r := main_while1b_v16) (by decide +kernel), after_of_writes_sub bop_1 _ bop_1_writes (r := main_while1b_v16) (by decide +kernel), bop_while1b_v16, after_of_writes_sub test1 _ test1_writes (r := main_v14_6) (by decide +kernel), hc]
  exact word1 k hk
theorem hi_1_8 :
    BitVec.toInt (((after bop_6 (after bop_5 (after bop_4 (after bop_3 (after bop_2 (after bop_1 (after bop (after test1 V)))))))) (arr main_while1b_v16) : S_.Idx → BitVec 32) (Shape.Idx.first h_S_)) = (row1 k : ℕ) := by
  rw [after_of_writes_sub bop_6 _ bop_6_writes (r := main_while1b_v16) (by decide +kernel), after_of_writes_sub bop_5 _ bop_5_writes (r := main_while1b_v16) (by decide +kernel), after_of_writes_sub bop_4 _ bop_4_writes (r := main_while1b_v16) (by decide +kernel), after_of_writes_sub bop_3 _ bop_3_writes (r := main_while1b_v16) (by decide +kernel), after_of_writes_sub bop_2 _ bop_2_writes (r := main_while1b_v16) (by decide +kernel), after_of_writes_sub bop_1 _ bop_1_writes (r := main_while1b_v16) (by decide +kernel), bop_while1b_v16, after_of_writes_sub test1 _ test1_writes (r := main_v14_6) (by decide +kernel), hc]
  exact word1 k hk
theorem v1_6_while1b_v17 :
    (after bop_4 (after bop_3 (after bop_2 (after bop_1 (after bop (after test1 V)))))) (arr main_while1b_v17) = rowOf (F := F) (e := .bf16) (N := 4224) (V (arr main_v14_0)) (row1 k) := by
  rw [after_of_writes_sub bop_4 _ bop_4_writes (r := main_while1b_v17) (by decide +kernel), after_of_writes_sub bop_3 _ bop_3_writes (r := main_while1b_v17) (by decide +kernel), after_of_writes_sub bop_2 _ bop_2_writes (r := main_while1b_v17) (by decide +kernel), bop_1_read (after bop (after test1 V)) (row1 k) (row1_lt k hk) (hi_1_2 V k hk hc), kept1_2 V (r := main_v14_0) (by decide +kernel)]
theorem v1_6_while1b_v18 :
    (after bop_4 (after bop_3 (after bop_2 (after bop_1 (after bop (after test1 V)))))) (arr main_while1b_v18) = rowOf (F := F) (e := .bf16) (N := 4224) (V (arr main_v14_1)) (row1 k) := by
  rw [after_of_writes_sub bop_4 _ bop_4_writes (r := main_while1b_v18) (by decide +kernel), after_of_writes_sub bop_3 _ bop_3_writes (r := main_while1b_v18) (by decide +kernel), bop_2_read (after bop_1 (after bop (after test1 V))) (row1 k) (row1_lt k hk) (hi_1_3 V k hk hc), kept1_3 V (r := main_v14_1) (by decide +kernel)]
theorem v1_6_while1b_v19 :
    (after bop_4 (after bop_3 (after bop_2 (after bop_1 (after bop (after test1 V)))))) (arr main_while1b_v19) = rowOf (F := F) (e := .f32) (N := 4224) (V (arr main_v14_2)) (row1 k) := by
  rw [after_of_writes_sub bop_4 _ bop_4_writes (r := main_while1b_v19) (by decide +kernel), bop_3_read (after bop_2 (after bop_1 (after bop (after test1 V)))) (row1 k) (row1_lt k hk) (hi_1_4 V k hk hc), kept1_4 V (r := main_v14_2) (by decide +kernel)]
theorem v1_6_while1b_v20 :
    (after bop_4 (after bop_3 (after bop_2 (after bop_1 (after bop (after test1 V)))))) (arr main_while1b_v20) = rowOf (F := F) (e := .f32) (N := 4224) (V (arr main_v14_3)) (row1 k) := by
  rw [bop_4_read (after bop_3 (after bop_2 (after bop_1 (after bop (after test1 V))))) (row1 k) (row1_lt k hk) (hi_1_5 V k hk hc), kept1_5 V (r := main_v14_3) (by decide +kernel)]
theorem v1_9_while1b_v41 :
    (after bop_7 (after bop_6 (after bop_5 (after bop_4 (after bop_3 (after bop_2 (after bop_1 (after bop (after test1 V))))))))) (arr main_while1b_v41) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).2.2.1 := by
  rw [after_of_writes_sub bop_7 _ bop_7_writes (r := main_while1b_v41) (by decide +kernel), after_of_writes_sub bop_6 _ bop_6_writes (r := main_while1b_v41) (by decide +kernel), bop_5_while1b_v41, kept1_6 V (r := main_v14_4) (by decide +kernel), kept1_6 V (r := main_v14_5) (by decide +kernel), v1_6_while1b_v17 V k hk hc, v1_6_while1b_v18 V k hk hc, v1_6_while1b_v19 V k hk hc, v1_6_while1b_v20 V k hk hc, kept1_6 V (r := main_v14_9) (by decide +kernel), kept1_6 V (r := main_v14_10) (by decide +kernel), kept1_6 V (r := main_v14_7) (by decide +kernel), kept1_6 V (r := main_v14_8) (by decide +kernel)]
theorem v1_10_v14_7 :
    (after bop_8 (after bop_7 (after bop_6 (after bop_5 (after bop_4 (after bop_3 (after bop_2 (after bop_1 (after bop (after test1 V)))))))))) (arr main_v14_7) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).2.2.1 := by
  rw [bop_8_v14_7, v1_9_while1b_v41 V k hk hc]
theorem v1_9_while1b_v37 :
    (after bop_7 (after bop_6 (after bop_5 (after bop_4 (after bop_3 (after bop_2 (after bop_1 (after bop (after test1 V))))))))) (arr main_while1b_v37) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).2.2.2 := by
  rw [after_of_writes_sub bop_7 _ bop_7_writes (r := main_while1b_v37) (by decide +kernel), after_of_writes_sub bop_6 _ bop_6_writes (r := main_while1b_v37) (by decide +kernel), bop_5_while1b_v37, kept1_6 V (r := main_v14_4) (by decide +kernel), kept1_6 V (r := main_v14_5) (by decide +kernel), v1_6_while1b_v17 V k hk hc, v1_6_while1b_v18 V k hk hc, v1_6_while1b_v19 V k hk hc, v1_6_while1b_v20 V k hk hc, kept1_6 V (r := main_v14_9) (by decide +kernel), kept1_6 V (r := main_v14_10) (by decide +kernel), kept1_6 V (r := main_v14_7) (by decide +kernel), kept1_6 V (r := main_v14_8) (by decide +kernel)]
theorem v1_10_v14_8 :
    (after bop_8 (after bop_7 (after bop_6 (after bop_5 (after bop_4 (after bop_3 (after bop_2 (after bop_1 (after bop (after test1 V)))))))))) (arr main_v14_8) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).2.2.2 := by
  rw [bop_8_v14_8, v1_9_while1b_v37 V k hk hc]
theorem v1_9_while1b_v39 :
    (after bop_7 (after bop_6 (after bop_5 (after bop_4 (after bop_3 (after bop_2 (after bop_1 (after bop (after test1 V))))))))) (arr main_while1b_v39) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).1 := by
  rw [after_of_writes_sub bop_7 _ bop_7_writes (r := main_while1b_v39) (by decide +kernel), after_of_writes_sub bop_6 _ bop_6_writes (r := main_while1b_v39) (by decide +kernel), bop_5_while1b_v39, kept1_6 V (r := main_v14_4) (by decide +kernel), kept1_6 V (r := main_v14_5) (by decide +kernel), v1_6_while1b_v17 V k hk hc, v1_6_while1b_v18 V k hk hc, v1_6_while1b_v19 V k hk hc, v1_6_while1b_v20 V k hk hc, kept1_6 V (r := main_v14_9) (by decide +kernel), kept1_6 V (r := main_v14_10) (by decide +kernel), kept1_6 V (r := main_v14_7) (by decide +kernel), kept1_6 V (r := main_v14_8) (by decide +kernel)]
theorem v1_10_v14_9 :
    (after bop_8 (after bop_7 (after bop_6 (after bop_5 (after bop_4 (after bop_3 (after bop_2 (after bop_1 (after bop (after test1 V)))))))))) (arr main_v14_9) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).1 := by
  rw [bop_8_v14_9, v1_9_while1b_v39 V k hk hc]
theorem v1_9_while1b_v35 :
    (after bop_7 (after bop_6 (after bop_5 (after bop_4 (after bop_3 (after bop_2 (after bop_1 (after bop (after test1 V))))))))) (arr main_while1b_v35) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).2.1 := by
  rw [after_of_writes_sub bop_7 _ bop_7_writes (r := main_while1b_v35) (by decide +kernel), after_of_writes_sub bop_6 _ bop_6_writes (r := main_while1b_v35) (by decide +kernel), bop_5_while1b_v35, kept1_6 V (r := main_v14_4) (by decide +kernel), kept1_6 V (r := main_v14_5) (by decide +kernel), v1_6_while1b_v17 V k hk hc, v1_6_while1b_v18 V k hk hc, v1_6_while1b_v19 V k hk hc, v1_6_while1b_v20 V k hk hc, kept1_6 V (r := main_v14_9) (by decide +kernel), kept1_6 V (r := main_v14_10) (by decide +kernel), kept1_6 V (r := main_v14_7) (by decide +kernel), kept1_6 V (r := main_v14_8) (by decide +kernel)]
theorem v1_10_v14_10 :
    (after bop_8 (after bop_7 (after bop_6 (after bop_5 (after bop_4 (after bop_3 (after bop_2 (after bop_1 (after bop (after test1 V)))))))))) (arr main_v14_10) = (refStep (F := F) (V (arr main_v14_4)) (V (arr main_v14_5)) (rowOf (F := F) (e := .bf16) (N := 4224) (V (arr main_v14_0)) (row1 k)) (rowOf (F := F) (e := .bf16) (N := 4224) (V (arr main_v14_1)) (row1 k)) (rowOf (F := F) (e := .f32) (N := 4224) (V (arr main_v14_2)) (row1 k)) (rowOf (F := F) (e := .f32) (N := 4224) (V (arr main_v14_3)) (row1 k)) ((V (arr main_v14_9)), (V (arr main_v14_10)), (V (arr main_v14_7)), (V (arr main_v14_8)))).2.1 := by
  rw [bop_8_v14_10, v1_9_while1b_v35 V k hk hc]
theorem v1_7_while1b_v32 :
    (after bop_5 (after bop_4 (after bop_3 (after bop_2 (after bop_1 (after bop (after test1 V))))))) (arr main_while1b_v32) = truncf (F := F) (s := S32x128) .bf16 (totRe (F := F) (rowOf (F := F) (e := .bf16) (N := 4224) (V (arr main_v14_0)) (row1 k)) ((V (arr main_v14_9)), (V (arr main_v14_10)), (V (arr main_v14_7)), (V (arr main_v14_8)))) bitsLt_bf16_f32 := by
  rw [bop_5_while1b_v32, v1_6_while1b_v17 V k hk hc, kept1_6 V (r := main_v14_9) (by decide +kernel), kept1_6 V (r := main_v14_10) (by decide +kernel), kept1_6 V (r := main_v14_7) (by decide +kernel), kept1_6 V (r := main_v14_8) (by decide +kernel)]
theorem v1_9_while1b_v42 :
    (after bop_7 (after bop_6 (after bop_5 (after bop_4 (after bop_3 (after bop_2 (after bop_1 (after bop (after test1 V))))))))) (arr main_while1b_v42) = put (F := F) (e := .bf16) (V (arr main_v14_11)) (row1 k) (truncf (F := F) (s := S32x128) .bf16 (totRe (F := F) (rowOf (F := F) (e := .bf16) (N := 4224) (V (arr main_v14_0)) (row1 k)) ((V (arr main_v14_9)), (V (arr main_v14_10)), (V (arr main_v14_7)), (V (arr main_v14_8)))) bitsLt_bf16_f32) := by
  rw [after_of_writes_sub bop_7 _ bop_7_writes (r := main_while1b_v42) (by decide +kernel), bop_6_put (after bop_5 (after bop_4 (after bop_3 (after bop_2 (after bop_1 (after bop (after test1 V))))))) (row1 k) (row1_lt k hk) (hi_1_7 V k hk hc), kept1_7 V (r := main_v14_11) (by decide +kernel), v1_7_while1b_v32 V k hk hc]
theorem v1_10_v14_11 :
    (after bop_8 (after bop_7 (after bop_6 (after bop_5 (after bop_4 (after bop_3 (after bop_2 (after bop_1 (after bop (after test1 V)))))))))) (arr main_v14_11) = put (F := F) (e := .bf16) (V (arr main_v14_11)) (row1 k) (truncf (F := F) (s := S32x128) .bf16 (totRe (F := F) (rowOf (F := F) (e := .bf16) (N := 4224) (V (arr main_v14_0)) (row1 k)) ((V (arr main_v14_9)), (V (arr main_v14_10)), (V (arr main_v14_7)), (V (arr main_v14_8)))) bitsLt_bf16_f32) := by
  rw [bop_8_v14_11, v1_9_while1b_v42 V k hk hc]
theorem v1_8_while1b_v25 :
    (after bop_6 (after bop_5 (after bop_4 (after bop_3 (after bop_2 (after bop_1 (after bop (after test1 V)))))))) (arr main_while1b_v25) = truncf (F := F) (s := S32x128) .bf16 (totIm (F := F) (rowOf (F := F) (e := .bf16) (N := 4224) (V (arr main_v14_1)) (row1 k)) ((V (arr main_v14_9)), (V (arr main_v14_10)), (V (arr main_v14_7)), (V (arr main_v14_8)))) bitsLt_bf16_f32 := by
  rw [after_of_writes_sub bop_6 _ bop_6_writes (r := main_while1b_v25) (by decide +kernel), bop_5_while1b_v25, v1_6_while1b_v18 V k hk hc, kept1_6 V (r := main_v14_9) (by decide +kernel), kept1_6 V (r := main_v14_10) (by decide +kernel), kept1_6 V (r := main_v14_7) (by decide +kernel), kept1_6 V (r := main_v14_8) (by decide +kernel)]
theorem v1_9_while1b_v43 :
    (after bop_7 (after bop_6 (after bop_5 (after bop_4 (after bop_3 (after bop_2 (after bop_1 (after bop (after test1 V))))))))) (arr main_while1b_v43) = put (F := F) (e := .bf16) (V (arr main_v14_12)) (row1 k) (truncf (F := F) (s := S32x128) .bf16 (totIm (F := F) (rowOf (F := F) (e := .bf16) (N := 4224) (V (arr main_v14_1)) (row1 k)) ((V (arr main_v14_9)), (V (arr main_v14_10)), (V (arr main_v14_7)), (V (arr main_v14_8)))) bitsLt_bf16_f32) := by
  rw [bop_7_put (after bop_6 (after bop_5 (after bop_4 (after bop_3 (after bop_2 (after bop_1 (after bop (after test1 V)))))))) (row1 k) (row1_lt k hk) (hi_1_8 V k hk hc), kept1_8 V (r := main_v14_12) (by decide +kernel), v1_8_while1b_v25 V k hk hc]
theorem v1_10_v14_12 :
    (after bop_8 (after bop_7 (after bop_6 (after bop_5 (after bop_4 (after bop_3 (after bop_2 (after bop_1 (after bop (after test1 V)))))))))) (arr main_v14_12) = put (F := F) (e := .bf16) (V (arr main_v14_12)) (row1 k) (truncf (F := F) (s := S32x128) .bf16 (totIm (F := F) (rowOf (F := F) (e := .bf16) (N := 4224) (V (arr main_v14_1)) (row1 k)) ((V (arr main_v14_9)), (V (arr main_v14_10)), (V (arr main_v14_7)), (V (arr main_v14_8)))) bitsLt_bf16_f32) := by
  rw [bop_8_v14_12, v1_9_while1b_v43 V k hk hc]
end
end Cert.ReferenceIdeal.Scan
end
-- ==== Proof.RefValue.lean ====
module

public import proofs.«01_k».proof.Proof.RefTrip
@[expose] public section

/-! # The reference's results

Both loops by induction on the trips made. Over any float type. -/

noncomputable section
namespace Cert.ReferenceIdeal.Scan
open Cert.ReferenceIdeal Cert.ReferenceIdeal.Gen
open Idealize.ShloMosaic Idealize.ShloMosaic.TcCoe Idealize.ShloMosaic.Tactic Idealize.ShloMosaic.ValueIdx
open Idealize.ShloMosaic.StableHlo
open Cert.KernelIdeal.Scan (rowOf Row Half Grad fwdStep fwd zeroRow stack rowOf_stack)
variable {F : FTy → Type} [FloatOps F]
variable (m : (ℓ : Loc nD τ sig) → Buf (Elt F) ℓ) (ρ : Dev nD → PrngReg)

/-- Argument `b` on device `c`. -/
abbrev arg (c : Dev nD) (b : Ref sig .tc) : Buf (Elt F) ((c : Thread nD τ).loc b) := m ((c : Thread nD τ).loc b)

/-- The state after `n` rows. -/
def states (c : Dev nD) (n : ℕ) : Row F × Row F :=
  fwd (F := F) (arg m c main_arg2) (arg m c main_arg3) (rowOf (F := F) (N := 4224) (e := .bf16) (arg m c main_arg0))
    (rowOf (F := F) (N := 4224) (e := .bf16) (arg m c main_arg1)) (zeroRow, zeroRow) n

/-- The cotangents, from the last row back. -/
def cotRe (c : Dev nD) (n : ℕ) : Half F := rowOf (F := F) (N := 4224) (e := .bf16) (arg m c main_arg4) (4223 - n)
def cotIm (c : Dev nD) (n : ℕ) : Half F := rowOf (F := F) (N := 4224) (e := .bf16) (arg m c main_arg5) (4223 - n)

/-- What the backward loop carries after `n` trips. -/
def carried (c : Dev nD) (n : ℕ) : Grad F :=
  refBwd (F := F) (arg m c main_arg2) (arg m c main_arg3) (cotRe m c) (cotIm m c)
    (fun n => (states m c (4223 - n)).1) (fun n => (states m c (4223 - n)).2) (zeroRow, zeroRow, zeroRow, zeroRow) n

theorem put_same {e : EltTy} (X : S4224x32x128.Idx → Elt F e) (n : ℕ) (r : S32x128.Idx → Elt F e) (y : S4224x32x128.Idx) (h : (y 0).val = n) :
    put (F := F) X n r y = r (ix2 (y 1) (y 2)) := if_pos h
theorem put_other {e : EltTy} (X : S4224x32x128.Idx → Elt F e) (n : ℕ) (r : S32x128.Idx → Elt F e) (y : S4224x32x128.Idx) (h : (y 0).val ≠ n) :
    put (F := F) X n r y = X y := if_neg h

theorem first_v5_0 (c : Dev nD) : entryContents pre0 m c (arr main_v5_0) = arg m c main_arg0 := by
  simp only [entryContents, afterL_cons, afterL_nil]
  unfold arr; after_reads_simp
  try rfl
theorem first_v5_1 (c : Dev nD) : entryContents pre0 m c (arr main_v5_1) = arg m c main_arg1 := by
  simp only [entryContents, afterL_cons, afterL_nil]
  unfold arr; after_reads_simp
  try rfl
theorem first_v5_2 (c : Dev nD) : entryContents pre0 m c (arr main_v5_2) = arg m c main_arg2 := by
  simp only [entryContents, afterL_cons, afterL_nil]
  unfold arr; after_reads_simp
  try rfl
theorem first_v5_3 (c : Dev nD) : entryContents pre0 m c (arr main_v5_3) = arg m c main_arg3 := by
  simp only [entryContents, afterL_cons, afterL_nil]
  unfold arr; after_reads_simp
  try rfl
theorem first_v5_5 (c : Dev nD) : entryContents pre0 m c (arr main_v5_5) = zeroRow (F := F) := by
  simp only [entryContents, afterL_cons, afterL_nil]
  unfold arr; after_reads_simp
  try rfl
theorem first_v5_6 (c : Dev nD) : entryContents pre0 m c (arr main_v5_6) = zeroRow (F := F) := by
  simp only [entryContents, afterL_cons, afterL_nil]
  unfold arr; after_reads_simp
  try rfl
theorem first_arg0 (c : Dev nD) : entryContents pre0 m c (arr main_arg0) = arg m c main_arg0 := by
  simp only [entryContents, afterL_cons, afterL_nil]
  unfold arr; after_reads_simp
  try rfl
theorem first_arg1 (c : Dev nD) : entryContents pre0 m c (arr main_arg1) = arg m c main_arg1 := by
  simp only [entryContents, afterL_cons, afterL_nil]
  unfold arr; after_reads_simp
  try rfl
theorem first_arg2 (c : Dev nD) : entryContents pre0 m c (arr main_arg2) = arg m c main_arg2 := by
  simp only [entryContents, afterL_cons, afterL_nil]
  unfold arr; after_reads_simp
  try rfl
theorem first_arg3 (c : Dev nD) : entryContents pre0 m c (arr main_arg3) = arg m c main_arg3 := by
  simp only [entryContents, afterL_cons, afterL_nil]
  unfold arr; after_reads_simp
  try rfl
theorem first_arg4 (c : Dev nD) : entryContents pre0 m c (arr main_arg4) = arg m c main_arg4 := by
  simp only [entryContents, afterL_cons, afterL_nil]
  unfold arr; after_reads_simp
  try rfl
theorem first_arg5 (c : Dev nD) : entryContents pre0 m c (arr main_arg5) = arg m c main_arg5 := by
  simp only [entryContents, afterL_cons, afterL_nil]
  unfold arr; after_reads_simp
  try rfl
/-- What no trip writes. -/
theorem kept_all0 (c : Dev nD) {r : Ref sig .tc} (h : r ∉ fop_7_W ∧ r ∉ fop_6_W ∧ r ∉ fop_5_W ∧ r ∉ fop_4_W ∧ r ∉ fop_3_W ∧ r ∉ fop_2_W ∧ r ∉ fop_1_W ∧ r ∉ fop_W ∧ r ∉ test0_W) :
    ∀ k, at0 m k c (arr r) = at0 m 0 c (arr r)
  | 0 => rfl
  | k + 1 => (kept0_9 (at0 m k c) h).trans (kept_all0 c h k)
theorem all0_v5_0 (c : Dev nD) : ∀ k ≤ 4224, at0 m k c (arr main_v5_0) = arg m c main_arg0 :=
  fun k _ => (kept_all0 m c (by decide +kernel) k).trans (first_v5_0 m c)
theorem all0_v5_1 (c : Dev nD) : ∀ k ≤ 4224, at0 m k c (arr main_v5_1) = arg m c main_arg1 :=
  fun k _ => (kept_all0 m c (by decide +kernel) k).trans (first_v5_1 m c)
theorem all0_v5_2 (c : Dev nD) : ∀ k ≤ 4224, at0 m k c (arr main_v5_2) = arg m c main_arg2 :=
  fun k _ => (kept_all0 m c (by decide +kernel) k).trans (first_v5_2 m c)
theorem all0_v5_3 (c : Dev nD) : ∀ k ≤ 4224, at0 m k c (arr main_v5_3) = arg m c main_arg3 :=
  fun k _ => (kept_all0 m c (by decide +kernel) k).trans (first_v5_3 m c)
theorem all0_arg0 (c : Dev nD) : ∀ k ≤ 4224, at0 m k c (arr main_arg0) = arg m c main_arg0 :=
  fun k _ => (kept_all0 m c (by decide +kernel) k).trans (first_arg0 m c)
theorem all0_arg1 (c : Dev nD) : ∀ k ≤ 4224, at0 m k c (arr main_arg1) = arg m c main_arg1 :=
  fun k _ => (kept_all0 m c (by decide +kernel) k).trans (first_arg1 m c)
theorem all0_arg2 (c : Dev nD) : ∀ k ≤ 4224, at0 m k c (arr main_arg2) = arg m c main_arg2 :=
  fun k _ => (kept_all0 m c (by decide +kernel) k).trans (first_arg2 m c)
theorem all0_arg3 (c : Dev nD) : ∀ k ≤ 4224, at0 m k c (arr main_arg3) = arg m c main_arg3 :=
  fun k _ => (kept_all0 m c (by decide +kernel) k).trans (first_arg3 m c)
theorem all0_arg4 (c : Dev nD) : ∀ k ≤ 4224, at0 m k c (arr main_arg4) = arg m c main_arg4 :=
  fun k _ => (kept_all0 m c (by decide +kernel) k).trans (first_arg4 m c)
theorem all0_arg5 (c : Dev nD) : ∀ k ≤ 4224, at0 m k c (arr main_arg5) = arg m c main_arg5 :=
  fun k _ => (kept_all0 m c (by decide +kernel) k).trans (first_arg5 m c)

/-- After `k` trips of the forward loop the state is that after `k` rows. -/
theorem all0_state (c : Dev nD) : ∀ k ≤ 4224, at0 m k c (arr main_v5_5) = (states m c k).1 ∧ at0 m k c (arr main_v5_6) = (states m c k).2
  | 0, _ => ⟨first_v5_5 m c, first_v5_6 m c⟩
  | k + 1, h => by
    have hk := Nat.le_of_lt h
    obtain ⟨h5, h6⟩ := all0_state c k hk
    have e5 := v0_9_v5_5 (at0 m k c) k h (count0 m c k)
    have e6 := v0_9_v5_6 (at0 m k c) k h (count0 m c k)
    rw [all0_v5_0 m c k hk, all0_v5_1 m c k hk, all0_v5_2 m c k hk, all0_v5_3 m c k hk, h5, h6] at e5 e6
    exact ⟨e5, e6⟩

/-- The states stepped from so far, as the loop keeps them. -/
theorem all0_v5_9 (c : Dev nD) : ∀ k ≤ 4224, ∀ y : S4224x32x128.Idx, (y 0).val < k → at0 m k c (arr main_v5_9) y = (states m c (y 0).val).1 (ix2 (y 1) (y 2))
  | 0, _, y, hy => absurd hy (Nat.not_lt_zero _)
  | k + 1, h, y, hy => by
    have hk := Nat.le_of_lt h
    have e := congrFun (v0_9_v5_9 (at0 m k c) k h (count0 m c k)) y
    refine e.trans ?_
    by_cases hq : (y 0).val = k
    · rw [put_same _ _ _ _ hq, (all0_state m c k hk).1, hq]
    · rw [put_other _ _ _ _ hq]
      exact all0_v5_9 c k hk y (by omega)

/-- The states stepped from so far, as the loop keeps them. -/
theorem all0_v5_10 (c : Dev nD) : ∀ k ≤ 4224, ∀ y : S4224x32x128.Idx, (y 0).val < k → at0 m k c (arr main_v5_10) y = (states m c (y 0).val).2 (ix2 (y 1) (y 2))
  | 0, _, y, hy => absurd hy (Nat.not_lt_zero _)
  | k + 1, h, y, hy => by
    have hk := Nat.le_of_lt h
    have e := congrFun (v0_9_v5_10 (at0 m k c) k h (count0 m c k)) y
    refine e.trans ?_
    by_cases hq : (y 0).val = k
    · rw [put_same _ _ _ _ hq, (all0_state m c k hk).2, hq]
    · rw [put_other _ _ _ _ hq]
      exact all0_v5_10 c k hk y (by omega)
theorem mid_kept (c : Dev nD) {r : Ref sig .tc} (h : r ∉ test0_W) :
    mid m c (arr r) = at0 m 4224 c (arr r) := after_of_writes_sub test0 _ test0_writes h
theorem entry_kept (c : Dev nD) {r : Ref sig .tc} (h : r ∉ hostOps0_1_W) :
    entry1 m c (arr r) = mid m c (arr r) := after_of_writes_sub hostOps0_1 _ hostOps0_1_writes h
theorem mid_arg0 (c : Dev nD) : mid m c (arr main_arg0) = arg m c main_arg0 :=
  (mid_kept m c (by decide +kernel)).trans (all0_arg0 m c 4224 le_rfl)
theorem mid_arg1 (c : Dev nD) : mid m c (arr main_arg1) = arg m c main_arg1 :=
  (mid_kept m c (by decide +kernel)).trans (all0_arg1 m c 4224 le_rfl)
theorem mid_arg2 (c : Dev nD) : mid m c (arr main_arg2) = arg m c main_arg2 :=
  (mid_kept m c (by decide +kernel)).trans (all0_arg2 m c 4224 le_rfl)
theorem mid_arg3 (c : Dev nD) : mid m c (arr main_arg3) = arg m c main_arg3 :=
  (mid_kept m c (by decide +kernel)).trans (all0_arg3 m c 4224 le_rfl)
theorem mid_arg4 (c : Dev nD) : mid m c (arr main_arg4) = arg m c main_arg4 :=
  (mid_kept m c (by decide +kernel)).trans (all0_arg4 m c 4224 le_rfl)
theorem mid_arg5 (c : Dev nD) : mid m c (arr main_arg5) = arg m c main_arg5 :=
  (mid_kept m c (by decide +kernel)).trans (all0_arg5 m c 4224 le_rfl)
theorem second_v14_0 (c : Dev nD) : entry1 m c (arr main_v14_0) = arg m c main_arg4 := by
  have h : ∀ V : Valuation τ sig (Elt F), after hostOps0_1 V (arr main_v14_0) = V (arr main_arg4) := fun V => by unfold arr; after_reads_simp; try rfl
  exact (h _).trans (mid_arg4 m c)
theorem second_v14_1 (c : Dev nD) : entry1 m c (arr main_v14_1) = arg m c main_arg5 := by
  have h : ∀ V : Valuation τ sig (Elt F), after hostOps0_1 V (arr main_v14_1) = V (arr main_arg5) := fun V => by unfold arr; after_reads_simp; try rfl
  exact (h _).trans (mid_arg5 m c)
theorem second_v14_4 (c : Dev nD) : entry1 m c (arr main_v14_4) = arg m c main_arg2 := by
  have h : ∀ V : Valuation τ sig (Elt F), after hostOps0_1 V (arr main_v14_4) = V (arr main_arg2) := fun V => by unfold arr; after_reads_simp; try rfl
  exact (h _).trans (mid_arg2 m c)
theorem second_v14_5 (c : Dev nD) : entry1 m c (arr main_v14_5) = arg m c main_arg3 := by
  have h : ∀ V : Valuation τ sig (Elt F), after hostOps0_1 V (arr main_v14_5) = V (arr main_arg3) := fun V => by unfold arr; after_reads_simp; try rfl
  exact (h _).trans (mid_arg3 m c)
theorem second_v14_7 (c : Dev nD) : entry1 m c (arr main_v14_7) = zeroRow (F := F) := by
  have h : ∀ V : Valuation τ sig (Elt F), after hostOps0_1 V (arr main_v14_7) = zeroRow (F := F) := fun V => by unfold arr; after_reads_simp; rfl
  exact h _
theorem second_v14_8 (c : Dev nD) : entry1 m c (arr main_v14_8) = zeroRow (F := F) := by
  have h : ∀ V : Valuation τ sig (Elt F), after hostOps0_1 V (arr main_v14_8) = zeroRow (F := F) := fun V => by unfold arr; after_reads_simp; rfl
  exact h _
theorem second_v14_9 (c : Dev nD) : entry1 m c (arr main_v14_9) = zeroRow (F := F) := by
  have h : ∀ V : Valuation τ sig (Elt F), after hostOps0_1 V (arr main_v14_9) = zeroRow (F := F) := fun V => by unfold arr; after_reads_simp; rfl
  exact h _
theorem second_v14_10 (c : Dev nD) : entry1 m c (arr main_v14_10) = zeroRow (F := F) := by
  have h : ∀ V : Valuation τ sig (Elt F), after hostOps0_1 V (arr main_v14_10) = zeroRow (F := F) := fun V => by unfold arr; after_reads_simp; rfl
  exact h _
theorem second_arg0 (c : Dev nD) : entry1 m c (arr main_arg0) = arg m c main_arg0 :=
  (entry_kept m c (by decide +kernel)).trans (mid_arg0 m c)
theorem second_arg1 (c : Dev nD) : entry1 m c (arr main_arg1) = arg m c main_arg1 :=
  (entry_kept m c (by decide +kernel)).trans (mid_arg1 m c)
theorem second_arg2 (c : Dev nD) : entry1 m c (arr main_arg2) = arg m c main_arg2 :=
  (entry_kept m c (by decide +kernel)).trans (mid_arg2 m c)
theorem second_arg3 (c : Dev nD) : entry1 m c (arr main_arg3) = arg m c main_arg3 :=
  (entry_kept m c (by decide +kernel)).trans (mid_arg3 m c)
theorem second_arg4 (c : Dev nD) : entry1 m c (arr main_arg4) = arg m c main_arg4 :=
  (entry_kept m c (by decide +kernel)).trans (mid_arg4 m c)
theorem second_arg5 (c : Dev nD) : entry1 m c (arr main_arg5) = arg m c main_arg5 :=
  (entry_kept m c (by decide +kernel)).trans (mid_arg5 m c)
theorem second_v14_2 (c : Dev nD) : (entry1 m c (arr main_v14_2) : S4224x32x128.Idx → Elt F .f32) = stack (F := F) (N := 4224) (e := .f32) fun n => (states m c n).1 := by
  have h : ∀ V : Valuation τ sig (Elt F), after hostOps0_1 V (arr main_v14_2) = V (arr main_v5_9) := fun V => by unfold arr; after_reads_simp; try rfl
  refine (h _).trans ?_
  refine (mid_kept m c (by decide +kernel)).trans ?_
  funext y
  exact all0_v5_9 m c 4224 le_rfl y (y 0).isLt
theorem second_v14_3 (c : Dev nD) : (entry1 m c (arr main_v14_3) : S4224x32x128.Idx → Elt F .f32) = stack (F := F) (N := 4224) (e := .f32) fun n => (states m c n).2 := by
  have h : ∀ V : Valuation τ sig (Elt F), after hostOps0_1 V (arr main_v14_3) = V (arr main_v5_10) := fun V => by unfold arr; after_reads_simp; try rfl
  refine (h _).trans ?_
  refine (mid_kept m c (by decide +kernel)).trans ?_
  funext y
  exact all0_v5_10 m c 4224 le_rfl y (y 0).isLt
/-- What no trip writes. -/
theorem kept_all1 (c : Dev nD) {r : Ref sig .tc} (h : r ∉ bop_8_W ∧ r ∉ bop_7_W ∧ r ∉ bop_6_W ∧ r ∉ bop_5_W ∧ r ∉ bop_4_W ∧ r ∉ bop_3_W ∧ r ∉ bop_2_W ∧ r ∉ bop_1_W ∧ r ∉ bop_W ∧ r ∉ test1_W) :
    ∀ k, at1 m k c (arr r) = at1 m 0 c (arr r)
  | 0 => rfl
  | k + 1 => (kept1_10 (at1 m k c) h).trans (kept_all1 c h k)
theorem all1_v14_0 (c : Dev nD) : ∀ k ≤ 4224, at1 m k c (arr main_v14_0) = arg m c main_arg4 :=
  fun k _ => (kept_all1 m c (by decide +kernel) k).trans (second_v14_0 m c)
theorem all1_v14_1 (c : Dev nD) : ∀ k ≤ 4224, at1 m k c (arr main_v14_1) = arg m c main_arg5 :=
  fun k _ => (kept_all1 m c (by decide +kernel) k).trans (second_v14_1 m c)
theorem all1_v14_4 (c : Dev nD) : ∀ k ≤ 4224, at1 m k c (arr main_v14_4) = arg m c main_arg2 :=
  fun k _ => (kept_all1 m c (by decide +kernel) k).trans (second_v14_4 m c)
theorem all1_v14_5 (c : Dev nD) : ∀ k ≤ 4224, at1 m k c (arr main_v14_5) = arg m c main_arg3 :=
  fun k _ => (kept_all1 m c (by decide +kernel) k).trans (second_v14_5 m c)
theorem all1_arg0 (c : Dev nD) : ∀ k ≤ 4224, at1 m k c (arr main_arg0) = arg m c main_arg0 :=
  fun k _ => (kept_all1 m c (by decide +kernel) k).trans (second_arg0 m c)
theorem all1_arg1 (c : Dev nD) : ∀ k ≤ 4224, at1 m k c (arr main_arg1) = arg m c main_arg1 :=
  fun k _ => (kept_all1 m c (by decide +kernel) k).trans (second_arg1 m c)
theorem all1_arg2 (c : Dev nD) : ∀ k ≤ 4224, at1 m k c (arr main_arg2) = arg m c main_arg2 :=
  fun k _ => (kept_all1 m c (by decide +kernel) k).trans (second_arg2 m c)
theorem all1_arg3 (c : Dev nD) : ∀ k ≤ 4224, at1 m k c (arr main_arg3) = arg m c main_arg3 :=
  fun k _ => (kept_all1 m c (by decide +kernel) k).trans (second_arg3 m c)
theorem all1_arg4 (c : Dev nD) : ∀ k ≤ 4224, at1 m k c (arr main_arg4) = arg m c main_arg4 :=
  fun k _ => (kept_all1 m c (by decide +kernel) k).trans (second_arg4 m c)
theorem all1_arg5 (c : Dev nD) : ∀ k ≤ 4224, at1 m k c (arr main_arg5) = arg m c main_arg5 :=
  fun k _ => (kept_all1 m c (by decide +kernel) k).trans (second_arg5 m c)
theorem all1_v14_2 (c : Dev nD) : ∀ k ≤ 4224, (at1 m k c (arr main_v14_2) : S4224x32x128.Idx → Elt F .f32) = stack (F := F) (N := 4224) (e := .f32) fun n => (states m c n).1 :=
  fun k _ => (kept_all1 m c (by decide +kernel) k).trans (second_v14_2 m c)
theorem all1_v14_3 (c : Dev nD) : ∀ k ≤ 4224, (at1 m k c (arr main_v14_3) : S4224x32x128.Idx → Elt F .f32) = stack (F := F) (N := 4224) (e := .f32) fun n => (states m c n).2 :=
  fun k _ => (kept_all1 m c (by decide +kernel) k).trans (second_v14_3 m c)

theorem kept_re (c : Dev nD) (k : ℕ) (h : k < 4224) : rowOf (F := F) (N := 4224) (e := .f32) (at1 m k c (arr main_v14_2)) (row1 k) = (states m c (4223 - k)).1 := by
  rw [all1_v14_2 m c k (Nat.le_of_lt h), rowOf_stack _ _ (row1_lt k h)]
theorem kept_im (c : Dev nD) (k : ℕ) (h : k < 4224) : rowOf (F := F) (N := 4224) (e := .f32) (at1 m k c (arr main_v14_3)) (row1 k) = (states m c (4223 - k)).2 := by
  rw [all1_v14_3 m c k (Nat.le_of_lt h), rowOf_stack _ _ (row1_lt k h)]
theorem cot_re (c : Dev nD) (k : ℕ) (h : k < 4224) : rowOf (F := F) (N := 4224) (e := .bf16) (at1 m k c (arr main_v14_0)) (row1 k) = cotRe m c k := by
  rw [all1_v14_0 m c k (Nat.le_of_lt h)]; rfl
theorem cot_im (c : Dev nD) (k : ℕ) (h : k < 4224) : rowOf (F := F) (N := 4224) (e := .bf16) (at1 m k c (arr main_v14_1)) (row1 k) = cotIm m c k := by
  rw [all1_v14_1 m c k (Nat.le_of_lt h)]; rfl

/-- After `k` trips of the backward loop it carries what the recurrence says. -/
theorem all1_carried (c : Dev nD) : ∀ k ≤ 4224,
    at1 m k c (arr main_v14_9) = (carried m c k).1 ∧ at1 m k c (arr main_v14_10) = (carried m c k).2.1
      ∧ at1 m k c (arr main_v14_7) = (carried m c k).2.2.1 ∧ at1 m k c (arr main_v14_8) = (carried m c k).2.2.2
  | 0, _ => ⟨second_v14_9 m c, second_v14_10 m c, second_v14_7 m c, second_v14_8 m c⟩
  | k + 1, h => by
    have hk := Nat.le_of_lt h
    obtain ⟨h9, h10, h7, h8⟩ := all1_carried c k hk
    have e9 := v1_10_v14_9 (at1 m k c) k h (count1 m c k)
    have e10 := v1_10_v14_10 (at1 m k c) k h (count1 m c k)
    have e7 := v1_10_v14_7 (at1 m k c) k h (count1 m c k)
    have e8 := v1_10_v14_8 (at1 m k c) k h (count1 m c k)
    rw [kept_re m c k h, kept_im m c k h, cot_re m c k h, cot_im m c k h, all1_v14_4 m c k hk, all1_v14_5 m c k hk, h9, h10, h7, h8] at e9 e10 e7 e8
    exact ⟨e9, e10, e7, e8⟩

/-- The rows' gradients written so far. -/
theorem all1_v14_11 (c : Dev nD) : ∀ k ≤ 4224, ∀ y : S4224x32x128.Idx, 4224 - k ≤ (y 0).val →
    at1 m k c (arr main_v14_11) y = truncf (F := F) (s := S32x128) .bf16 (totRe (F := F) (cotRe m c (4223 - (y 0).val)) (carried m c (4223 - (y 0).val))) bitsLt_bf16_f32 (ix2 (y 1) (y 2))
  | 0, _, y, hy => absurd (y 0).isLt (Nat.not_lt.mpr hy)
  | k + 1, h, y, hy => by
    have hk := Nat.le_of_lt h
    obtain ⟨h9, h10, h7, h8⟩ := all1_carried m c k hk
    have e := congrFun (v1_10_v14_11 (at1 m k c) k h (count1 m c k)) y
    refine e.trans ?_
    rw [cot_re m c k h, h9, h10, h7, h8]
    have hy' := (y 0).isLt
    by_cases hq : (y 0).val = row1 k
    · rw [put_same _ _ _ _ hq, hq, show 4223 - row1 k = k from by show 4223 - (4223 - k) = k; omega]
    · rw [put_other _ _ _ _ hq]
      exact all1_v14_11 c k hk y (by have : (y 0).val ≠ 4223 - k := hq; omega)

/-- The rows' gradients written so far. -/
theorem all1_v14_12 (c : Dev nD) : ∀ k ≤ 4224, ∀ y : S4224x32x128.Idx, 4224 - k ≤ (y 0).val →
    at1 m k c (arr main_v14_12) y = truncf (F := F) (s := S32x128) .bf16 (totIm (F := F) (cotIm m c (4223 - (y 0).val)) (carried m c (4223 - (y 0).val))) bitsLt_bf16_f32 (ix2 (y 1) (y 2))
  | 0, _, y, hy => absurd (y 0).isLt (Nat.not_lt.mpr hy)
  | k + 1, h, y, hy => by
    have hk := Nat.le_of_lt h
    obtain ⟨h9, h10, h7, h8⟩ := all1_carried m c k hk
    have e := congrFun (v1_10_v14_12 (at1 m k c) k h (count1 m c k)) y
    refine e.trans ?_
    rw [cot_im m c k h, h9, h10, h7, h8]
    have hy' := (y 0).isLt
    by_cases hq : (y 0).val = row1 k
    · rw [put_same _ _ _ _ hq, hq, show 4223 - row1 k = k from by show 4223 - (4223 - k) = k; omega]
    · rw [put_other _ _ _ _ hq]
      exact all1_v14_12 c k hk y (by have : (y 0).val ≠ 4223 - k := hq; omega)
theorem done_v14_7 (c : Dev nD) : done m c (arr main_v14_7) = (carried m c 4224).2.2.1 :=
  (after_of_writes_sub test1 _ test1_writes (r := main_v14_7) (by decide +kernel)).trans (all1_carried m c 4224 le_rfl).2.2.1
theorem done_v14_8 (c : Dev nD) : done m c (arr main_v14_8) = (carried m c 4224).2.2.2 :=
  (after_of_writes_sub test1 _ test1_writes (r := main_v14_8) (by decide +kernel)).trans (all1_carried m c 4224 le_rfl).2.2.2
theorem done_v14_11 (c : Dev nD) : (done m c (arr main_v14_11) : S4224x32x128.Idx → Elt F .bf16)
      = stack (F := F) (N := 4224) (e := .bf16) fun r => truncf (F := F) (s := S32x128) .bf16 (totRe (F := F) (cotRe m c (4223 - r)) (carried m c (4223 - r))) bitsLt_bf16_f32 := by
  refine (after_of_writes_sub test1 _ test1_writes (r := main_v14_11) (by decide +kernel)).trans ?_
  funext y
  exact all1_v14_11 m c 4224 le_rfl y (by omega)
theorem done_v14_12 (c : Dev nD) : (done m c (arr main_v14_12) : S4224x32x128.Idx → Elt F .bf16)
      = stack (F := F) (N := 4224) (e := .bf16) fun r => truncf (F := F) (s := S32x128) .bf16 (totIm (F := F) (cotIm m c (4223 - r)) (carried m c (4223 - r))) bitsLt_bf16_f32 := by
  refine (after_of_writes_sub test1 _ test1_writes (r := main_v14_12) (by decide +kernel)).trans ?_
  funext y
  exact all1_v14_12 m c 4224 le_rfl y (by omega)
theorem done_arg0 (c : Dev nD) : done m c (arr main_arg0) = arg m c main_arg0 :=
  (after_of_writes_sub test1 _ test1_writes (r := main_arg0) (by decide +kernel)).trans (all1_arg0 m c 4224 le_rfl)
theorem done_arg1 (c : Dev nD) : done m c (arr main_arg1) = arg m c main_arg1 :=
  (after_of_writes_sub test1 _ test1_writes (r := main_arg1) (by decide +kernel)).trans (all1_arg1 m c 4224 le_rfl)
theorem done_arg2 (c : Dev nD) : done m c (arr main_arg2) = arg m c main_arg2 :=
  (after_of_writes_sub test1 _ test1_writes (r := main_arg2) (by decide +kernel)).trans (all1_arg2 m c 4224 le_rfl)
theorem done_arg3 (c : Dev nD) : done m c (arr main_arg3) = arg m c main_arg3 :=
  (after_of_writes_sub test1 _ test1_writes (r := main_arg3) (by decide +kernel)).trans (all1_arg3 m c 4224 le_rfl)
theorem done_arg4 (c : Dev nD) : done m c (arr main_arg4) = arg m c main_arg4 :=
  (after_of_writes_sub test1 _ test1_writes (r := main_arg4) (by decide +kernel)).trans (all1_arg4 m c 4224 le_rfl)
theorem done_arg5 (c : Dev nD) : done m c (arr main_arg5) = arg m c main_arg5 :=
  (after_of_writes_sub test1 _ test1_writes (r := main_arg5) (by decide +kernel)).trans (all1_arg5 m c 4224 le_rfl)
end Cert.ReferenceIdeal.Scan
end
-- ==== Proof.ScanFwd.lean ====
module

public import proofs.«01_k».proof.Proof.Rows
public import Idealize.ShloMosaic.Lib.WordCmp
public import Idealize.ShloMosaic.Lib.Tactic
public import Idealize.ShloMosaic.Lib.Ring
public import Idealize.ShloMosaic.Lib.VecWindow
@[expose] public section

/-! # The body of the forward scan at one grid point -/

set_option maxRecDepth 16384

noncomputable section
namespace Cert.KernelIdeal.Scan
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen
variable {F : FTy → Type} [FloatOps F]

local notation "𝕄" => MT nD τ sig Unit (Elt F) ℕ (UR sig nD τ) ℕ

/-- The scratch holding a state: its real part in row 0, its imaginary part in row 1. -/
def pack (p : Row F × Row F) : Vec F S2x32x128 .f32 := stack (F := F) (e := .f32) fun n => if n = 0 then p.1 else p.2

/-- Storing a state's two rows leaves the scratch holding it. -/
theorem pack_writes (v : View sig .tc .vmem S2x32x128 .f32) (f : BufTy.Contents (Elt F) v.ty) (q : Row F × Row F) :
    v.read (Elt F) (v.writes (Elt F) f
      [⟨Rect.unit (s := S2x32x128) ![1, 0, 0] S1x32x128.size inb_S2x32x128_S1x32x128_1_0_0, shapeCast S1x32x128 q.2 shapeCasts_S32x128_S1x32x128⟩,
       ⟨Rect.unit (s := S2x32x128) ![0, 0, 0] S1x32x128.size inb_S2x32x128_S1x32x128_0_0_0, shapeCast S1x32x128 q.1 shapeCasts_S32x128_S1x32x128⟩]) = pack q := funext fun y => by
  refine View.read_writes_apply_of_pieces _ _ _ _ (fun r hr x => ?_) y ?_
  · rcases List.mem_cons.mp hr with rfl | hr
    · exact shapeCast_row_stack (F := F) (e := .f32) (fun n => if n = 0 then q.1 else q.2) ![1, 0, 0] inb_S2x32x128_S1x32x128_1_0_0 1 rfl _ x
    · rcases List.mem_cons.mp hr with rfl | hr
      · exact shapeCast_row_stack (F := F) (e := .f32) (fun n => if n = 0 then q.1 else q.2) ![0, 0, 0] inb_S2x32x128_S1x32x128_0_0_0 0 rfl _ x
      · exact absurd hr List.not_mem_nil
  · by_cases h : (y 0).val = 0
    · exact ⟨_, List.mem_cons_of_mem _ List.mem_cons_self, row_mem ![0, 0, 0] inb_S2x32x128_S1x32x128_0_0_0 0 rfl y h⟩
    · exact ⟨_, List.mem_cons_self, row_mem ![1, 0, 0] inb_S2x32x128_S1x32x128_1_0_0 1 rfl y (by have h' : (y 0).val < 2 := (y 0).isLt; omega)⟩

/-- The two rows of a scratch that holds a state, loaded. -/
theorem pack_fst (x : Vec F S2x32x128 .f32) (q : Row F × Row F) (h : x = pack q) :
    shapeCast S32x128 (View.ld x (Rect.unit (s := S2x32x128) ![0, 0, 0] S1x32x128.size inb_S2x32x128_S1x32x128_0_0_0)) shapeCasts_S1x32x128_S32x128 = q.1 := by
  subst h
  exact (shapeCast_ld (F := F) (e := .f32) (pack q) ![0, 0, 0] inb_S2x32x128_S1x32x128_0_0_0 0 rfl _).trans (rowOf_stack _ 0 (by omega))
theorem pack_snd (x : Vec F S2x32x128 .f32) (q : Row F × Row F) (h : x = pack q) :
    shapeCast S32x128 (View.ld x (Rect.unit (s := S2x32x128) ![1, 0, 0] S1x32x128.size inb_S2x32x128_S1x32x128_1_0_0)) shapeCasts_S1x32x128_S32x128 = q.2 := by
  subst h
  exact (shapeCast_ld (F := F) (e := .f32) (pack q) ![1, 0, 0] inb_S2x32x128_S1x32x128_1_0_0 1 rfl _).trans (rowOf_stack _ 1 (by omega))

/-- A scratch of zeros holds the zero state. -/
theorem zeros_eq_pack : (k0_pay1 : Vec F S2x32x128 .f32) = pack (zeroRow, zeroRow) := by
  funext y
  show Scalar.ofBits .f32 0x00000000#32 = (if (y 0).val = 0 then zeroRow else zeroRow : Row F) _
  split <;> rfl

theorem trips0 : k0_t1_loop.trips = 128 := by decide +kernel

section
variable (𝒱 : Variants) (c : Dev nD) (bd : Option 𝒱.V) (i : grid0.Coords) (arg1 : Memref sig .tc .vmem S128x32x128 .bf16) (harg1 : arg1.IsWhole) (arg2 : Memref sig .tc .vmem S128x32x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S128x32x128 .bf16) (harg5 : arg5.IsWhole) (arg6 : Memref sig .tc .vmem S128x32x128 .bf16) (harg6 : arg6.IsWhole) (arg7 : Memref sig .tc .vmem S2x32x128 .f32) (harg7 : arg7.IsWhole)
  (a b : Vec F S32x128 .f32) (X1 : BufTy.Contents (Elt F) arg1.view.ty) (X2 : BufTy.Contents (Elt F) arg2.view.ty) (p : Row F × Row F)

/-- Before trip `k` the loop carries the state after `k` steps over the block's rows. -/
theorem st0_carry (x0 x1 : Vec F S128x32x128 .bf16) (h1 : arg1.view.read (Elt F) X1 = x0) (h2 : arg2.view.read (Elt F) X2 = x1) :
    ∀ k ≤ 128, (st_k0_t1 𝒱 c bd i arg1 harg1 arg2 harg2 arg3 harg3 arg4 harg4 arg5 harg5 arg6 harg6 arg7 harg7 a b X1 X2 p k).1
      = fwd a b (rowOf (F := F) (e := .bf16) x0) (rowOf (F := F) (e := .bf16) x1) p k
  | 0, _ => rfl
  | k + 1, hk => by
    have hk' : k < k0_t1_loop.trips := by rw [trips0]; omega
    rw [show k + 1 = (⟨k, hk'⟩ : Fin k0_t1_loop.trips).val + 1 from rfl, st_k0_t1_succ]
    show tripR_k0_t1 𝒱 c bd i arg1 harg1 arg2 harg2 arg3 harg3 arg4 harg4 arg5 harg5 arg6 harg6 arg7 harg7 a b X1 X2 ⟨k, hk'⟩ (st_k0_t1 𝒱 c bd i arg1 harg1 arg2 harg2 arg3 harg3 arg4 harg4 arg5 harg5 arg6 harg6 arg7 harg7 a b X1 X2 p k).1 = fwdStep a b _ _ (fwd a b _ _ p k)
    rw [st0_carry x0 x1 h1 h2 k (by omega), ← shapeCast_ld x0 (k0_off1 ⟨k, hk'⟩) (k0_off1_inb ⟨k, hk'⟩) k (k0_off1_eq _) shapeCasts_S1x32x128_S32x128,
      ← shapeCast_ld x1 (k0_off1 ⟨k, hk'⟩) (k0_off1_inb ⟨k, hk'⟩) k (k0_off1_eq _) shapeCasts_S1x32x128_S32x128, ← h1, ← h2]
    unfold tripR_k0_t1 trip_k0_t1
    rfl

/-- The two arrays' rows of the block: the state after each of its rows, narrowed. -/
def outRe (a b : Row F) (u v : ℕ → Half F) (p : Row F × Row F) : Vec F S128x32x128 .bf16 :=
  stack (F := F) (e := .bf16) fun n => truncf .bf16 (fwd a b u v p (n + 1)).1 bitsLt_bf16_f32
def outIm (a b : Row F) (u v : ℕ → Half F) (p : Row F × Row F) : Vec F S128x32x128 .bf16 :=
  stack (F := F) (e := .bf16) fun n => truncf .bf16 (fwd a b u v p (n + 1)).2 bitsLt_bf16_f32

/-- What trip `k` stores. -/
theorem trip0_pieces (x0 x1 : Vec F S128x32x128 .bf16) (h1 : arg1.view.read (Elt F) X1 = x0) (h2 : arg2.view.read (Elt F) X2 = x1)
    (k : ℕ) (hk : k < 128) (hk' : k < k0_t1_loop.trips) :
    tripL_k0_t1 𝒱 c bd i arg1 harg1 arg2 harg2 arg3 harg3 arg4 harg4 arg5 harg5 arg6 harg6 arg7 harg7 a b X1 X2 ⟨k, hk'⟩ (st_k0_t1 𝒱 c bd i arg1 harg1 arg2 harg2 arg3 harg3 arg4 harg4 arg5 harg5 arg6 harg6 arg7 harg7 a b X1 X2 p k).1
      = ([⟨Rect.unit (s := S128x32x128) (k0_off1 ⟨k, hk'⟩) S1x32x128.size (k0_off1_inb ⟨k, hk'⟩),
            shapeCast S1x32x128 (truncf .bf16 (fwd a b (rowOf (F := F) (e := .bf16) x0) (rowOf (F := F) (e := .bf16) x1) p (k + 1)).1 bitsLt_bf16_f32) shapeCasts_S32x128_S1x32x128⟩],
          [⟨Rect.unit (s := S128x32x128) (k0_off1 ⟨k, hk'⟩) S1x32x128.size (k0_off1_inb ⟨k, hk'⟩),
            shapeCast S1x32x128 (truncf .bf16 (fwd a b (rowOf (F := F) (e := .bf16) x0) (rowOf (F := F) (e := .bf16) x1) p (k + 1)).2 bitsLt_bf16_f32) shapeCasts_S32x128_S1x32x128⟩]) := by
  rw [st0_carry 𝒱 c bd i arg1 harg1 arg2 harg2 arg3 harg3 arg4 harg4 arg5 harg5 arg6 harg6 arg7 harg7 a b X1 X2 p x0 x1 h1 h2 k (by omega)]
  rw [show fwd a b (rowOf (F := F) (e := .bf16) x0) (rowOf (F := F) (e := .bf16) x1) p (k + 1) = fwdStep a b (rowOf (F := F) (e := .bf16) x0 k) (rowOf (F := F) (e := .bf16) x1 k) (fwd a b (rowOf (F := F) (e := .bf16) x0) (rowOf (F := F) (e := .bf16) x1) p k) from rfl]
  generalize fwd a b _ _ p k = q
  rw [← shapeCast_ld x0 (k0_off1 ⟨k, hk'⟩) (k0_off1_inb ⟨k, hk'⟩) k (k0_off1_eq _) shapeCasts_S1x32x128_S32x128,
      ← shapeCast_ld x1 (k0_off1 ⟨k, hk'⟩) (k0_off1_inb ⟨k, hk'⟩) k (k0_off1_eq _) shapeCasts_S1x32x128_S32x128, ← h1, ← h2]
  unfold tripL_k0_t1 trip_k0_t1
  rfl

/-- The pieces of the first `k` trips: all of them parts of the block's rows, and one for each row below `k`. -/
theorem st0_pieces (x0 x1 : Vec F S128x32x128 .bf16) (h1 : arg1.view.read (Elt F) X1 = x0) (h2 : arg2.view.read (Elt F) X2 = x1) :
    ∀ k ≤ 128,
      ((∀ q ∈ (st_k0_t1 𝒱 c bd i arg1 harg1 arg2 harg2 arg3 harg3 arg4 harg4 arg5 harg5 arg6 harg6 arg7 harg7 a b X1 X2 p k).2.1, ∀ x : q.1.shape.Idx,
          q.2 x = outRe a b (rowOf (F := F) (e := .bf16) x0) (rowOf (F := F) (e := .bf16) x1) p (q.1.emb x))
        ∧ ∀ y : S128x32x128.Idx, (y 0).val < k → ∃ q ∈ (st_k0_t1 𝒱 c bd i arg1 harg1 arg2 harg2 arg3 harg3 arg4 harg4 arg5 harg5 arg6 harg6 arg7 harg7 a b X1 X2 p k).2.1, y ∈ q.1.set)
      ∧ (∀ q ∈ (st_k0_t1 𝒱 c bd i arg1 harg1 arg2 harg2 arg3 harg3 arg4 harg4 arg5 harg5 arg6 harg6 arg7 harg7 a b X1 X2 p k).2.2, ∀ x : q.1.shape.Idx,
          q.2 x = outIm a b (rowOf (F := F) (e := .bf16) x0) (rowOf (F := F) (e := .bf16) x1) p (q.1.emb x))
        ∧ ∀ y : S128x32x128.Idx, (y 0).val < k → ∃ q ∈ (st_k0_t1 𝒱 c bd i arg1 harg1 arg2 harg2 arg3 harg3 arg4 harg4 arg5 harg5 arg6 harg6 arg7 harg7 a b X1 X2 p k).2.2, y ∈ q.1.set
  | 0, _ => ⟨⟨fun q hq => absurd hq List.not_mem_nil, fun y hy => absurd hy (Nat.not_lt_zero _)⟩,
      fun q hq => absurd hq List.not_mem_nil, fun y hy => absurd hy (Nat.not_lt_zero _)⟩
  | k + 1, hk => by
    have hk' : k < k0_t1_loop.trips := by rw [trips0]; omega
    obtain ⟨⟨ha, hb⟩, hc, hd⟩ := st0_pieces x0 x1 h1 h2 k (by omega)
    rw [show k + 1 = (⟨k, hk'⟩ : Fin k0_t1_loop.trips).val + 1 from rfl, st_k0_t1_succ]
    rw [trip0_pieces 𝒱 c bd i arg1 harg1 arg2 harg2 arg3 harg3 arg4 harg4 arg5 harg5 arg6 harg6 arg7 harg7 a b X1 X2 p x0 x1 h1 h2 k (by omega) hk']
    have hcov : ∀ y : S128x32x128.Idx, (y 0).val = k → y ∈ (Rect.unit (s := S128x32x128) (k0_off1 ⟨k, hk'⟩) S1x32x128.size (k0_off1_inb ⟨k, hk'⟩)).set :=
      fun y hy => row_mem (k0_off1 ⟨k, hk'⟩) (k0_off1_inb ⟨k, hk'⟩) k (k0_off1_eq _) y hy
    refine ⟨⟨fun q hq x => ?_, fun y hy => ?_⟩, fun q hq x => ?_, fun y hy => ?_⟩
    · rcases List.mem_cons.mp hq with rfl | hq
      · exact shapeCast_row_stack (F := F) (e := .bf16) (fun n => truncf .bf16 (fwd a b (rowOf (F := F) (e := .bf16) x0) (rowOf (F := F) (e := .bf16) x1) p (n + 1)).1 bitsLt_bf16_f32) (k0_off1 ⟨k, hk'⟩) (k0_off1_inb ⟨k, hk'⟩) k (k0_off1_eq _) _ x
      · exact ha q hq x
    · rcases Nat.lt_succ_iff_lt_or_eq.mp hy with hy | hy
      · obtain ⟨q, hq, hqy⟩ := hb y hy
        exact ⟨q, List.mem_cons_of_mem _ hq, hqy⟩
      · exact ⟨_, List.mem_cons_self, hcov y hy⟩
    · rcases List.mem_cons.mp hq with rfl | hq
      · exact shapeCast_row_stack (F := F) (e := .bf16) (fun n => truncf .bf16 (fwd a b (rowOf (F := F) (e := .bf16) x0) (rowOf (F := F) (e := .bf16) x1) p (n + 1)).2 bitsLt_bf16_f32) (k0_off1 ⟨k, hk'⟩) (k0_off1_inb ⟨k, hk'⟩) k (k0_off1_eq _) _ x
      · exact hc q hq x
    · rcases Nat.lt_succ_iff_lt_or_eq.mp hy with hy | hy
      · obtain ⟨q, hq, hqy⟩ := hd y hy
        exact ⟨q, List.mem_cons_of_mem _ hq, hqy⟩
      · exact ⟨_, List.mem_cons_self, hcov y hy⟩

theorem st0_re (x0 x1 : Vec F S128x32x128 .bf16) (h1 : arg1.view.read (Elt F) X1 = x0) (h2 : arg2.view.read (Elt F) X2 = x1) (f : BufTy.Contents (Elt F) arg5.view.ty) :
    arg5.view.read (Elt F) (arg5.view.writes (Elt F) f (st_k0_t1 𝒱 c bd i arg1 harg1 arg2 harg2 arg3 harg3 arg4 harg4 arg5 harg5 arg6 harg6 arg7 harg7 a b X1 X2 p k0_t1_loop.trips).2.1)
      = outRe a b (rowOf (F := F) (e := .bf16) x0) (rowOf (F := F) (e := .bf16) x1) p := funext fun y => by
  rw [trips0]
  have h := (st0_pieces 𝒱 c bd i arg1 harg1 arg2 harg2 arg3 harg3 arg4 harg4 arg5 harg5 arg6 harg6 arg7 harg7 a b X1 X2 p x0 x1 h1 h2 128 le_rfl).1
  exact View.read_writes_apply_of_pieces _ _ _ _ h.1 y (h.2 y (y 0).isLt)

theorem st0_im (x0 x1 : Vec F S128x32x128 .bf16) (h1 : arg1.view.read (Elt F) X1 = x0) (h2 : arg2.view.read (Elt F) X2 = x1) (f : BufTy.Contents (Elt F) arg6.view.ty) :
    arg6.view.read (Elt F) (arg6.view.writes (Elt F) f (st_k0_t1 𝒱 c bd i arg1 harg1 arg2 harg2 arg3 harg3 arg4 harg4 arg5 harg5 arg6 harg6 arg7 harg7 a b X1 X2 p k0_t1_loop.trips).2.2)
      = outIm a b (rowOf (F := F) (e := .bf16) x0) (rowOf (F := F) (e := .bf16) x1) p := funext fun y => by
  rw [trips0]
  have h := (st0_pieces 𝒱 c bd i arg1 harg1 arg2 harg2 arg3 harg3 arg4 harg4 arg5 harg5 arg6 harg6 arg7 harg7 a b X1 X2 p x0 x1 h1 h2 128 le_rfl).2
  exact View.read_writes_apply_of_pieces _ _ _ _ h.1 y (h.2 y (y 0).isLt)
end

/-- The condition of the body's branch on the grid coordinate. -/
abbrev first0 (i : grid0.Coords) : Prop := (Scalar.cmpi .ne (Scalar.extui (Scalar.cmpi .eq (BitVec.ofNat 32 (i 0).val) 0#32)) 0#32) = 1#1

set_option maxHeartbeats 1000000 in
/-- A later point: from the state the scratch holds. -/
theorem body0_next (c : Dev nD) (i : grid0.Coords) (arg1 : Memref sig .tc .vmem S128x32x128 .bf16) (harg1 : arg1.IsWhole) (arg2 : Memref sig .tc .vmem S128x32x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S128x32x128 .bf16) (harg5 : arg5.IsWhole) (arg6 : Memref sig .tc .vmem S128x32x128 .bf16) (harg6 : arg6.IsWhole) (arg7 : Memref sig .tc .vmem S2x32x128 .f32) (harg7 : arg7.IsWhole) (hc0 : ¬first0 i)
    (x0 x1 : Vec F S128x32x128 .bf16) (x2 x3 : Vec F S32x128 .f32) (p : Row F × Row F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ owns (c : Thread nD τ) arg7 fullShare (pack p)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (outRe x2 x3 (rowOf (F := F) (e := .bf16) x0) (rowOf (F := F) (e := .bf16) x1) p)
          ∗ owns (c : Thread nD τ) arg6 fullShare (outIm x2 x3 (rowOf (F := F) (e := .bf16) x0) (rowOf (F := F) (e := .bf16) x1) p)
          ∗ owns (c : Thread nD τ) arg7 fullShare (pack (fwd x2 x3 (rowOf (F := F) (e := .bf16) x0) (rowOf (F := F) (e := .bf16) x1) p 128))) -∗ K ⟨⟩))
      ⊢ wp frame (wpE (defs₀ (F := F)) Variants.none c none) E (cc0_ssm_scan i arg1 harg1 arg2 harg2 arg3 harg3 arg4 harg4 arg5 harg5 arg6 harg6 arg7 harg7) K := by
  simp only [cc0_ssm_scan_eq_skeleton]; unfold cc0_ssm_scan_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, Hk⟩
  sl_exec (disch := first | sl_exact hc0)
  sl_step
  have e2 : View.readAt (Elt F) arg3.view (Rect.unit (s := S32x128) ![0, 0] S32x128.size inb_S32x128_S32x128_0_0).toLoadRect f2 = x2 := (View.readAt_full _ _ _).trans hf2
  have e3 : View.readAt (Elt F) arg4.view (Rect.unit (s := S32x128) ![0, 0] S32x128.size inb_S32x128_S32x128_0_0).toLoadRect f3 = x3 := (View.readAt_full _ _ _).trans hf3
  have ep : (k0_pay2 (View.readAt (Elt F) arg7.view (Rect.unit (s := S2x32x128) ![0, 0, 0] S1x32x128.size inb_S2x32x128_S1x32x128_0_0_0).toLoadRect fs0), k0_pay3 (View.readAt (Elt F) arg7.view (Rect.unit (s := S2x32x128) ![1, 0, 0] S1x32x128.size inb_S2x32x128_S1x32x128_1_0_0).toLoadRect fs0)) = p :=
    Prod.ext (pack_fst _ p hfs0) (pack_snd _ p hfs0)
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro
                  rw [st0_re Variants.none c none i arg1 harg1 arg2 harg2 arg3 harg3 arg4 harg4 arg5 harg5 arg6 harg6 arg7 harg7 _ _ f0 f1 _ x0 x1 hf0 hf1, e2, e3, ep]
  isplitl [H5]; · iexists _; isplitr; swap; · iexact H5
                  ipureintro
                  rw [st0_im Variants.none c none i arg1 harg1 arg2 harg2 arg3 harg3 arg4 harg4 arg5 harg5 arg6 harg6 arg7 harg7 _ _ f0 f1 _ x0 x1 hf0 hf1, e2, e3, ep]
  iexists _; isplitr; swap; · iexact HS0
  ipureintro
  rw [show Scf.trips k0_t1_loop.lb k0_t1_loop.ub k0_t1_loop.st = 128 from trips0, e2, e3, ep]
  rw [← st0_carry Variants.none c none i arg1 harg1 arg2 harg2 arg3 harg3 arg4 harg4 arg5 harg5 arg6 harg6 arg7 harg7 x2 x3 f0 f1 p x0 x1 hf0 hf1 128 le_rfl]
  exact pack_writes _ _ _

set_option maxHeartbeats 1000000 in
/-- The first point: the scratch is zeroed first. -/
theorem body0_first (c : Dev nD) (i : grid0.Coords) (arg1 : Memref sig .tc .vmem S128x32x128 .bf16) (harg1 : arg1.IsWhole) (arg2 : Memref sig .tc .vmem S128x32x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S128x32x128 .bf16) (harg5 : arg5.IsWhole) (arg6 : Memref sig .tc .vmem S128x32x128 .bf16) (harg6 : arg6.IsWhole) (arg7 : Memref sig .tc .vmem S2x32x128 .f32) (harg7 : arg7.IsWhole) (hc0 : first0 i)
    (x0 x1 : Vec F S128x32x128 .bf16) (x2 x3 : Vec F S32x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
          ∗ owns (c : Thread nD τ) arg5 fullShare (outRe x2 x3 (rowOf (F := F) (e := .bf16) x0) (rowOf (F := F) (e := .bf16) x1) (zeroRow, zeroRow))
          ∗ owns (c : Thread nD τ) arg6 fullShare (outIm x2 x3 (rowOf (F := F) (e := .bf16) x0) (rowOf (F := F) (e := .bf16) x1) (zeroRow, zeroRow))
          ∗ owns (c : Thread nD τ) arg7 fullShare (pack (fwd x2 x3 (rowOf (F := F) (e := .bf16) x0) (rowOf (F := F) (e := .bf16) x1) (zeroRow, zeroRow) 128))) -∗ K ⟨⟩))
      ⊢ wp frame (wpE (defs₀ (F := F)) Variants.none c none) E (cc0_ssm_scan i arg1 harg1 arg2 harg2 arg3 harg3 arg4 harg4 arg5 harg5 arg6 harg6 arg7 harg7) K := by
  simp only [cc0_ssm_scan_eq_skeleton]; unfold cc0_ssm_scan_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, Hk⟩
  sl_exec (disch := first | sl_exact hc0)
  sl_step
  have e2 : View.readAt (Elt F) arg3.view (Rect.unit (s := S32x128) ![0, 0] S32x128.size inb_S32x128_S32x128_0_0).toLoadRect f2 = x2 := (View.readAt_full _ _ _).trans hf2
  have e3 : View.readAt (Elt F) arg4.view (Rect.unit (s := S32x128) ![0, 0] S32x128.size inb_S32x128_S32x128_0_0).toLoadRect f3 = x3 := (View.readAt_full _ _ _).trans hf3
  have hz : arg7.view.read (Elt F) (arg7.view.writes (Elt F) arg7.view.junk [⟨(Rect.unit (s := S2x32x128) ![0, 0, 0] S2x32x128.size inb_S2x32x128_S2x32x128_0_0_0), k0_pay1⟩]) = pack (zeroRow, zeroRow) :=
    (View.read_writes_full _ _ _ _ _).trans zeros_eq_pack
  have ep : (k0_pay2 (arg7.view.readCov [⟨(Rect.unit (s := S2x32x128) ![0, 0, 0] S2x32x128.size inb_S2x32x128_S2x32x128_0_0_0), k0_pay1⟩] (Rect.unit (s := S2x32x128) ![0, 0, 0] S1x32x128.size inb_S2x32x128_S1x32x128_0_0_0).toLoadRect),
      k0_pay3 (arg7.view.readCov [⟨(Rect.unit (s := S2x32x128) ![0, 0, 0] S2x32x128.size inb_S2x32x128_S2x32x128_0_0_0), k0_pay1⟩] (Rect.unit (s := S2x32x128) ![1, 0, 0] S1x32x128.size inb_S2x32x128_S1x32x128_1_0_0).toLoadRect))
      = ((zeroRow, zeroRow) : Row F × Row F) :=
    Prod.ext (pack_fst _ _ hz) (pack_snd _ _ hz)
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro
                  sl_unfold_words
                  rw [st0_re Variants.none c none i arg1 harg1 arg2 harg2 arg3 harg3 arg4 harg4 arg5 harg5 arg6 harg6 arg7 harg7 _ _ f0 f1 _ x0 x1 hf0 hf1, e2, e3, ep]
  isplitl [H5]; · iexists _; isplitr; swap; · iexact H5
                  ipureintro
                  sl_unfold_words
                  rw [st0_im Variants.none c none i arg1 harg1 arg2 harg2 arg3 harg3 arg4 harg4 arg5 harg5 arg6 harg6 arg7 harg7 _ _ f0 f1 _ x0 x1 hf0 hf1, e2, e3, ep]
  iexists _; isplitr; swap; · iexact HS0
  ipureintro
  sl_unfold_words
  rw [show Scf.trips k0_t1_loop.lb k0_t1_loop.ub k0_t1_loop.st = 128 from trips0, e2, e3, ep]
  rw [← st0_carry Variants.none c none i arg1 harg1 arg2 harg2 arg3 harg3 arg4 harg4 arg5 harg5 arg6 harg6 arg7 harg7 x2 x3 f0 f1 (zeroRow, zeroRow) x0 x1 hf0 hf1 128 le_rfl]
  exact pack_writes _ (arg7.view.writes (Elt F) arg7.view.junk [_]) _
end Cert.KernelIdeal.Scan
end
-- ==== Proof.ScanBwd.lean ====
module

public import proofs.«01_k».proof.Proof.ScanFwd
@[expose] public section

/-! # The body of the backward scan at one grid point

The block's rows are walked from the last to the first. -/

set_option maxRecDepth 16384

noncomputable section
namespace Cert.KernelIdeal.Scan
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Cert.KernelIdeal.Gen
variable {F : FTy → Type} [FloatOps F]

local notation "𝕄" => MT nD τ sig Unit (Elt F) ℕ (UR sig nD τ) ℕ

/-- The rows of a block, from the last to the first. -/
def back (X : Vec F S128x32x128 .bf16) (j : ℕ) : Half F := rowOf (F := F) (e := .bf16) X (127 - j)

theorem trips1 : k1_t1_loop.trips = 128 := by decide +kernel

/-- Everything zero: what the backward recurrence starts from. -/
def zeroGrad : Grad F := (zeroRow, zeroRow, zeroRow, zeroRow)

theorem shapeCast_same (x : Row F) (h : S32x128.ShapeCasts S32x128) : shapeCast S32x128 x h = x :=
  funext fun j => shapeCast_apply x h j j rfl

/-- The two arrays' rows of a block: the gradient after the steps that end at the row, narrowed. -/
def gradRe (a b : Row F) (u v x y : ℕ → Half F) (g : Grad F) : Vec F S128x32x128 .bf16 :=
  stack (F := F) (e := .bf16) fun n => truncf .bf16 (bwd a b u v x y g (127 - n + 1)).1 bitsLt_bf16_f32
def gradIm (a b : Row F) (u v x y : ℕ → Half F) (g : Grad F) : Vec F S128x32x128 .bf16 :=
  stack (F := F) (e := .bf16) fun n => truncf .bf16 (bwd a b u v x y g (127 - n + 1)).2.1 bitsLt_bf16_f32

section
variable (𝒱 : Variants) (c : Dev nD) (bd : Option 𝒱.V) (i : grid1.Coords) (arg1 : Memref sig .tc .vmem S128x32x128 .bf16) (harg1 : arg1.IsWhole) (arg2 : Memref sig .tc .vmem S128x32x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S128x32x128 .bf16) (harg5 : arg5.IsWhole) (arg6 : Memref sig .tc .vmem S128x32x128 .bf16) (harg6 : arg6.IsWhole) (arg7 : Memref sig .tc .vmem S128x32x128 .bf16) (harg7 : arg7.IsWhole) (arg8 : Memref sig .tc .vmem S128x32x128 .bf16) (harg8 : arg8.IsWhole) (arg9 : Memref sig .tc .vmem S32x128 .f32) (harg9 : arg9.IsWhole) (arg10 : Memref sig .tc .vmem S32x128 .f32) (harg10 : arg10.IsWhole) (arg11 : Memref sig .tc .vmem S2x32x128 .f32) (harg11 : arg11.IsWhole)
  (a b : Vec F S32x128 .f32) (X1 : BufTy.Contents (Elt F) arg1.view.ty) (X2 : BufTy.Contents (Elt F) arg2.view.ty) (X5 : BufTy.Contents (Elt F) arg5.view.ty) (X6 : BufTy.Contents (Elt F) arg6.view.ty) (g : Grad F)

/-- Before trip `k` the loop carries what `k` steps back over the block's rows make. -/
theorem st1_carry (x0 x1 x4 x5 : Vec F S128x32x128 .bf16) (h1 : arg1.view.read (Elt F) X1 = x0) (h2 : arg2.view.read (Elt F) X2 = x1) (h5 : arg5.view.read (Elt F) X5 = x4) (h6 : arg6.view.read (Elt F) X6 = x5) :
    ∀ k ≤ 128, (st_k1_t1 𝒱 c bd i arg1 harg1 arg2 harg2 arg3 harg3 arg4 harg4 arg5 harg5 arg6 harg6 arg7 harg7 arg8 harg8 arg9 harg9 arg10 harg10 arg11 harg11 a b X1 X2 X5 X6 g k).1 = (bwd a b (back x0) (back x1) (back x4) (back x5) g k)
  | 0, _ => rfl
  | k + 1, hk => by
    have hk' : k < k1_t1_loop.trips := by rw [trips1]; omega
    rw [show k + 1 = (⟨k, hk'⟩ : Fin k1_t1_loop.trips).val + 1 from rfl, st_k1_t1_succ]
    show tripR_k1_t1 𝒱 c bd i arg1 harg1 arg2 harg2 arg3 harg3 arg4 harg4 arg5 harg5 arg6 harg6 arg7 harg7 arg8 harg8 arg9 harg9 arg10 harg10 arg11 harg11 a b X1 X2 X5 X6 ⟨k, hk'⟩ (st_k1_t1 𝒱 c bd i arg1 harg1 arg2 harg2 arg3 harg3 arg4 harg4 arg5 harg5 arg6 harg6 arg7 harg7 arg8 harg8 arg9 harg9 arg10 harg10 arg11 harg11 a b X1 X2 X5 X6 g k).1 = bwdStep a b (rowOf (F := F) (e := .bf16) x0 (127 - k)) (rowOf (F := F) (e := .bf16) x1 (127 - k)) (rowOf (F := F) (e := .bf16) x4 (127 - k)) (rowOf (F := F) (e := .bf16) x5 (127 - k)) (bwd a b (back x0) (back x1) (back x4) (back x5) g k)
    rw [st1_carry x0 x1 x4 x5 h1 h2 h5 h6 k (by omega)]
    generalize (bwd a b (back x0) (back x1) (back x4) (back x5) g k) = q
    rw [← shapeCast_ld x0 (k1_off1 ⟨k, hk'⟩) (k1_off1_inb ⟨k, hk'⟩) (127 - k) (k1_off1_eq _) shapeCasts_S1x32x128_S32x128, ← shapeCast_ld x1 (k1_off1 ⟨k, hk'⟩) (k1_off1_inb ⟨k, hk'⟩) (127 - k) (k1_off1_eq _) shapeCasts_S1x32x128_S32x128, ← shapeCast_ld x4 (k1_off1 ⟨k, hk'⟩) (k1_off1_inb ⟨k, hk'⟩) (127 - k) (k1_off1_eq _) shapeCasts_S1x32x128_S32x128, ← shapeCast_ld x5 (k1_off1 ⟨k, hk'⟩) (k1_off1_inb ⟨k, hk'⟩) (127 - k) (k1_off1_eq _) shapeCasts_S1x32x128_S32x128, ← h1, ← h2, ← h5, ← h6]
    unfold tripR_k1_t1 trip_k1_t1
    rfl

/-- What trip `k` stores. -/
theorem trip1_pieces (x0 x1 x4 x5 : Vec F S128x32x128 .bf16) (h1 : arg1.view.read (Elt F) X1 = x0) (h2 : arg2.view.read (Elt F) X2 = x1) (h5 : arg5.view.read (Elt F) X5 = x4) (h6 : arg6.view.read (Elt F) X6 = x5)
    (k : ℕ) (hk : k < 128) (hk' : k < k1_t1_loop.trips) :
    tripL_k1_t1 𝒱 c bd i arg1 harg1 arg2 harg2 arg3 harg3 arg4 harg4 arg5 harg5 arg6 harg6 arg7 harg7 arg8 harg8 arg9 harg9 arg10 harg10 arg11 harg11 a b X1 X2 X5 X6 ⟨k, hk'⟩ (st_k1_t1 𝒱 c bd i arg1 harg1 arg2 harg2 arg3 harg3 arg4 harg4 arg5 harg5 arg6 harg6 arg7 harg7 arg8 harg8 arg9 harg9 arg10 harg10 arg11 harg11 a b X1 X2 X5 X6 g k).1
      = ([⟨Rect.unit (s := S128x32x128) (k1_off1 ⟨k, hk'⟩) S1x32x128.size (k1_off1_inb ⟨k, hk'⟩), shapeCast S1x32x128 (truncf .bf16 (bwd a b (back x0) (back x1) (back x4) (back x5) g (k + 1)).1 bitsLt_bf16_f32) shapeCasts_S32x128_S1x32x128⟩],
          [⟨Rect.unit (s := S128x32x128) (k1_off1 ⟨k, hk'⟩) S1x32x128.size (k1_off1_inb ⟨k, hk'⟩), shapeCast S1x32x128 (truncf .bf16 (bwd a b (back x0) (back x1) (back x4) (back x5) g (k + 1)).2.1 bitsLt_bf16_f32) shapeCasts_S32x128_S1x32x128⟩]) := by
  rw [st1_carry 𝒱 c bd i arg1 harg1 arg2 harg2 arg3 harg3 arg4 harg4 arg5 harg5 arg6 harg6 arg7 harg7 arg8 harg8 arg9 harg9 arg10 harg10 arg11 harg11 a b X1 X2 X5 X6 g x0 x1 x4 x5 h1 h2 h5 h6 k (by omega)]
  rw [show (bwd a b (back x0) (back x1) (back x4) (back x5) g (k + 1)) = bwdStep a b (rowOf (F := F) (e := .bf16) x0 (127 - k)) (rowOf (F := F) (e := .bf16) x1 (127 - k)) (rowOf (F := F) (e := .bf16) x4 (127 - k)) (rowOf (F := F) (e := .bf16) x5 (127 - k)) (bwd a b (back x0) (back x1) (back x4) (back x5) g k) from rfl]
  generalize (bwd a b (back x0) (back x1) (back x4) (back x5) g k) = q
  rw [← shapeCast_ld x0 (k1_off1 ⟨k, hk'⟩) (k1_off1_inb ⟨k, hk'⟩) (127 - k) (k1_off1_eq _) shapeCasts_S1x32x128_S32x128, ← shapeCast_ld x1 (k1_off1 ⟨k, hk'⟩) (k1_off1_inb ⟨k, hk'⟩) (127 - k) (k1_off1_eq _) shapeCasts_S1x32x128_S32x128, ← shapeCast_ld x4 (k1_off1 ⟨k, hk'⟩) (k1_off1_inb ⟨k, hk'⟩) (127 - k) (k1_off1_eq _) shapeCasts_S1x32x128_S32x128, ← shapeCast_ld x5 (k1_off1 ⟨k, hk'⟩) (k1_off1_inb ⟨k, hk'⟩) (127 - k) (k1_off1_eq _) shapeCasts_S1x32x128_S32x128, ← h1, ← h2, ← h5, ← h6]
  unfold tripL_k1_t1 trip_k1_t1
  rfl

/-- The pieces of the first `k` trips: all of them parts of the block's rows, and one for each of the last `k` rows. -/
theorem st1_pieces (x0 x1 x4 x5 : Vec F S128x32x128 .bf16) (h1 : arg1.view.read (Elt F) X1 = x0) (h2 : arg2.view.read (Elt F) X2 = x1) (h5 : arg5.view.read (Elt F) X5 = x4) (h6 : arg6.view.read (Elt F) X6 = x5) :
    ∀ k ≤ 128,
      ((∀ q ∈ (st_k1_t1 𝒱 c bd i arg1 harg1 arg2 harg2 arg3 harg3 arg4 harg4 arg5 harg5 arg6 harg6 arg7 harg7 arg8 harg8 arg9 harg9 arg10 harg10 arg11 harg11 a b X1 X2 X5 X6 g k).2.1, ∀ x : q.1.shape.Idx, q.2 x = gradRe a b (back x0) (back x1) (back x4) (back x5) g (q.1.emb x))
        ∧ ∀ y : S128x32x128.Idx, 128 ≤ (y 0).val + k → ∃ q ∈ (st_k1_t1 𝒱 c bd i arg1 harg1 arg2 harg2 arg3 harg3 arg4 harg4 arg5 harg5 arg6 harg6 arg7 harg7 arg8 harg8 arg9 harg9 arg10 harg10 arg11 harg11 a b X1 X2 X5 X6 g k).2.1, y ∈ q.1.set)
      ∧ ((∀ q ∈ (st_k1_t1 𝒱 c bd i arg1 harg1 arg2 harg2 arg3 harg3 arg4 harg4 arg5 harg5 arg6 harg6 arg7 harg7 arg8 harg8 arg9 harg9 arg10 harg10 arg11 harg11 a b X1 X2 X5 X6 g k).2.2, ∀ x : q.1.shape.Idx, q.2 x = gradIm a b (back x0) (back x1) (back x4) (back x5) g (q.1.emb x))
        ∧ ∀ y : S128x32x128.Idx, 128 ≤ (y 0).val + k → ∃ q ∈ (st_k1_t1 𝒱 c bd i arg1 harg1 arg2 harg2 arg3 harg3 arg4 harg4 arg5 harg5 arg6 harg6 arg7 harg7 arg8 harg8 arg9 harg9 arg10 harg10 arg11 harg11 a b X1 X2 X5 X6 g k).2.2, y ∈ q.1.set)
  | 0, _ => ⟨⟨fun q hq => absurd hq List.not_mem_nil, fun y hy => absurd hy (by have : (y 0).val < 128 := (y 0).isLt; omega)⟩,
      fun q hq => absurd hq List.not_mem_nil, fun y hy => absurd hy (by have : (y 0).val < 128 := (y 0).isLt; omega)⟩
  | k + 1, hk => by
    have hk' : k < k1_t1_loop.trips := by rw [trips1]; omega
    obtain ⟨⟨ha, hb⟩, hc, hd⟩ := st1_pieces x0 x1 x4 x5 h1 h2 h5 h6 k (by omega)
    rw [show k + 1 = (⟨k, hk'⟩ : Fin k1_t1_loop.trips).val + 1 from rfl, st_k1_t1_succ]
    rw [trip1_pieces 𝒱 c bd i arg1 harg1 arg2 harg2 arg3 harg3 arg4 harg4 arg5 harg5 arg6 harg6 arg7 harg7 arg8 harg8 arg9 harg9 arg10 harg10 arg11 harg11 a b X1 X2 X5 X6 g x0 x1 x4 x5 h1 h2 h5 h6 k (by omega) hk']
    have hcov : ∀ y : S128x32x128.Idx, (y 0).val = 127 - k → y ∈ (Rect.unit (s := S128x32x128) (k1_off1 ⟨k, hk'⟩) S1x32x128.size (k1_off1_inb ⟨k, hk'⟩)).set :=
      fun y hy => row_mem (k1_off1 ⟨k, hk'⟩) (k1_off1_inb ⟨k, hk'⟩) (127 - k) (k1_off1_eq _) y hy
    have e : 127 - (127 - k) + 1 = k + 1 := by omega
    refine ⟨⟨fun q hq x => ?_, fun y hy => ?_⟩, fun q hq x => ?_, fun y hy => ?_⟩
    · rcases List.mem_cons.mp hq with rfl | hq
      · have h := shapeCast_row_stack (F := F) (e := .bf16) (fun n => truncf .bf16 (bwd a b (back x0) (back x1) (back x4) (back x5) g (127 - n + 1)).1 bitsLt_bf16_f32) (k1_off1 ⟨k, hk'⟩) (k1_off1_inb ⟨k, hk'⟩) (127 - k) (k1_off1_eq _) shapeCasts_S32x128_S1x32x128 x
        simp only [e] at h
        exact h
      · exact ha q hq x
    · by_cases hy' : 128 ≤ (y 0).val + k
      · obtain ⟨q, hq, hqy⟩ := hb y hy'
        exact ⟨q, List.mem_cons_of_mem _ hq, hqy⟩
      · exact ⟨_, List.mem_cons_self, hcov y (by change 128 ≤ (y 0).val + (k + 1) at hy; omega)⟩
    · rcases List.mem_cons.mp hq with rfl | hq
      · have h := shapeCast_row_stack (F := F) (e := .bf16) (fun n => truncf .bf16 (bwd a b (back x0) (back x1) (back x4) (back x5) g (127 - n + 1)).2.1 bitsLt_bf16_f32) (k1_off1 ⟨k, hk'⟩) (k1_off1_inb ⟨k, hk'⟩) (127 - k) (k1_off1_eq _) shapeCasts_S32x128_S1x32x128 x
        simp only [e] at h
        exact h
      · exact hc q hq x
    · by_cases hy' : 128 ≤ (y 0).val + k
      · obtain ⟨q, hq, hqy⟩ := hd y hy'
        exact ⟨q, List.mem_cons_of_mem _ hq, hqy⟩
      · exact ⟨_, List.mem_cons_self, hcov y (by change 128 ≤ (y 0).val + (k + 1) at hy; omega)⟩

theorem st1_re (x0 x1 x4 x5 : Vec F S128x32x128 .bf16) (h1 : arg1.view.read (Elt F) X1 = x0) (h2 : arg2.view.read (Elt F) X2 = x1) (h5 : arg5.view.read (Elt F) X5 = x4) (h6 : arg6.view.read (Elt F) X6 = x5) (f : BufTy.Contents (Elt F) arg7.view.ty) :
    arg7.view.read (Elt F) (arg7.view.writes (Elt F) f (st_k1_t1 𝒱 c bd i arg1 harg1 arg2 harg2 arg3 harg3 arg4 harg4 arg5 harg5 arg6 harg6 arg7 harg7 arg8 harg8 arg9 harg9 arg10 harg10 arg11 harg11 a b X1 X2 X5 X6 g k1_t1_loop.trips).2.1)
      = gradRe a b (back x0) (back x1) (back x4) (back x5) g := funext fun y => by
  rw [trips1]
  have h := (st1_pieces 𝒱 c bd i arg1 harg1 arg2 harg2 arg3 harg3 arg4 harg4 arg5 harg5 arg6 harg6 arg7 harg7 arg8 harg8 arg9 harg9 arg10 harg10 arg11 harg11 a b X1 X2 X5 X6 g x0 x1 x4 x5 h1 h2 h5 h6 128 le_rfl).1
  exact View.read_writes_apply_of_pieces _ _ _ _ h.1 y (h.2 y (Nat.le_add_left _ _))

theorem st1_im (x0 x1 x4 x5 : Vec F S128x32x128 .bf16) (h1 : arg1.view.read (Elt F) X1 = x0) (h2 : arg2.view.read (Elt F) X2 = x1) (h5 : arg5.view.read (Elt F) X5 = x4) (h6 : arg6.view.read (Elt F) X6 = x5) (f : BufTy.Contents (Elt F) arg8.view.ty) :
    arg8.view.read (Elt F) (arg8.view.writes (Elt F) f (st_k1_t1 𝒱 c bd i arg1 harg1 arg2 harg2 arg3 harg3 arg4 harg4 arg5 harg5 arg6 harg6 arg7 harg7 arg8 harg8 arg9 harg9 arg10 harg10 arg11 harg11 a b X1 X2 X5 X6 g k1_t1_loop.trips).2.2)
      = gradIm a b (back x0) (back x1) (back x4) (back x5) g := funext fun y => by
  rw [trips1]
  have h := (st1_pieces 𝒱 c bd i arg1 harg1 arg2 harg2 arg3 harg3 arg4 harg4 arg5 harg5 arg6 harg6 arg7 harg7 arg8 harg8 arg9 harg9 arg10 harg10 arg11 harg11 a b X1 X2 X5 X6 g x0 x1 x4 x5 h1 h2 h5 h6 128 le_rfl).2
  exact View.read_writes_apply_of_pieces _ _ _ _ h.1 y (h.2 y (Nat.le_add_left _ _))
end

/-- The condition of the body's branch on the grid coordinate. -/
abbrev first1 (i : grid1.Coords) : Prop := (Scalar.cmpi .ne (Scalar.extui (Scalar.cmpi .eq (BitVec.ofNat 32 (i 0).val) 0#32)) 0#32) = 1#1

set_option maxHeartbeats 2000000 in
/-- A later point: from what the scratch and the two sums hold. -/
theorem body1_next (c : Dev nD) (i : grid1.Coords) (arg1 : Memref sig .tc .vmem S128x32x128 .bf16) (harg1 : arg1.IsWhole) (arg2 : Memref sig .tc .vmem S128x32x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S128x32x128 .bf16) (harg5 : arg5.IsWhole) (arg6 : Memref sig .tc .vmem S128x32x128 .bf16) (harg6 : arg6.IsWhole) (arg7 : Memref sig .tc .vmem S128x32x128 .bf16) (harg7 : arg7.IsWhole) (arg8 : Memref sig .tc .vmem S128x32x128 .bf16) (harg8 : arg8.IsWhole) (arg9 : Memref sig .tc .vmem S32x128 .f32) (harg9 : arg9.IsWhole) (arg10 : Memref sig .tc .vmem S32x128 .f32) (harg10 : arg10.IsWhole) (arg11 : Memref sig .tc .vmem S2x32x128 .f32) (harg11 : arg11.IsWhole) (hc0 : ¬first1 i)
    (x0 x1 : Vec F S128x32x128 .bf16) (x2 x3 : Vec F S32x128 .f32) (x4 x5 : Vec F S128x32x128 .bf16) (g : Grad F) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ owns (c : Thread nD τ) arg9 fullShare g.2.2.1 ∗ owns (c : Thread nD τ) arg10 fullShare g.2.2.2 ∗ owns (c : Thread nD τ) arg11 fullShare (pack (g.1, g.2.1))
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gradRe x2 x3 (back x0) (back x1) (back x4) (back x5) g) ∗ owns (c : Thread nD τ) arg8 fullShare (gradIm x2 x3 (back x0) (back x1) (back x4) (back x5) g) ∗ owns (c : Thread nD τ) arg9 fullShare (bwd x2 x3 (back x0) (back x1) (back x4) (back x5) g 128).2.2.1 ∗ owns (c : Thread nD τ) arg10 fullShare (bwd x2 x3 (back x0) (back x1) (back x4) (back x5) g 128).2.2.2 ∗ owns (c : Thread nD τ) arg11 fullShare (pack ((bwd x2 x3 (back x0) (back x1) (back x4) (back x5) g 128).1, (bwd x2 x3 (back x0) (back x1) (back x4) (back x5) g 128).2.1))) -∗ K ⟨⟩))
      ⊢ wp frame (wpE (defs₀ (F := F)) Variants.none c none) E (cc1_ssm_rscan i arg1 harg1 arg2 harg2 arg3 harg3 arg4 harg4 arg5 harg5 arg6 harg6 arg7 harg7 arg8 harg8 arg9 harg9 arg10 harg10 arg11 harg11) K := by
  simp only [cc1_ssm_rscan_eq_skeleton]; unfold cc1_ssm_rscan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%fs0, %hfs0, HS0⟩, Hk⟩
  sl_exec (disch := first | sl_exact hc0)
  sl_step
  have e2 : View.readAt (Elt F) arg3.view (Rect.unit (s := S32x128) ![0, 0] S32x128.size inb_S32x128_S32x128_0_0).toLoadRect f2 = x2 := (View.readAt_full _ _ _).trans hf2
  have e3 : View.readAt (Elt F) arg4.view (Rect.unit (s := S32x128) ![0, 0] S32x128.size inb_S32x128_S32x128_0_0).toLoadRect f3 = x3 := (View.readAt_full _ _ _).trans hf3
  have ep : (k1_pay4 (View.readAt (Elt F) arg11.view (Rect.unit (s := S2x32x128) ![0, 0, 0] S1x32x128.size inb_S2x32x128_S1x32x128_0_0_0).toLoadRect fs0), k1_pay5 (View.readAt (Elt F) arg11.view (Rect.unit (s := S2x32x128) ![1, 0, 0] S1x32x128.size inb_S2x32x128_S1x32x128_1_0_0).toLoadRect fs0),
      k1_pay6 (View.readAt (Elt F) arg9.view (Rect.unit (s := S32x128) ![0, 0] S32x128.size inb_S32x128_S32x128_0_0).toLoadRect f8), k1_pay7 (View.readAt (Elt F) arg10.view (Rect.unit (s := S32x128) ![0, 0] S32x128.size inb_S32x128_S32x128_0_0).toLoadRect f9)) = g :=
    Prod.ext (pack_fst _ (g.1, g.2.1) hfs0) (Prod.ext (pack_snd _ (g.1, g.2.1) hfs0) (Prod.ext
      ((shapeCast_same _ _).trans ((View.readAt_full _ _ _).trans hf8))
      ((shapeCast_same _ _).trans ((View.readAt_full _ _ _).trans hf9))))
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]; · iexists _; isplitr; swap; · iexact H6
                  ipureintro
                  rw [st1_re Variants.none c none i arg1 harg1 arg2 harg2 arg3 harg3 arg4 harg4 arg5 harg5 arg6 harg6 arg7 harg7 arg8 harg8 arg9 harg9 arg10 harg10 arg11 harg11 _ _ f0 f1 f4 f5 _ x0 x1 x4 x5 hf0 hf1 hf4 hf5, e2, e3, ep]
  isplitl [H7]; · iexists _; isplitr; swap; · iexact H7
                  ipureintro
                  rw [st1_im Variants.none c none i arg1 harg1 arg2 harg2 arg3 harg3 arg4 harg4 arg5 harg5 arg6 harg6 arg7 harg7 arg8 harg8 arg9 harg9 arg10 harg10 arg11 harg11 _ _ f0 f1 f4 f5 _ x0 x1 x4 x5 hf0 hf1 hf4 hf5, e2, e3, ep]
  isplitl [H8]; · iexists _; isplitr; swap; · iexact H8
                  ipureintro
                  rw [show Scf.trips k1_t1_loop.lb k1_t1_loop.ub k1_t1_loop.st = 128 from trips1, e2, e3, ep, ← st1_carry Variants.none c none i arg1 harg1 arg2 harg2 arg3 harg3 arg4 harg4 arg5 harg5 arg6 harg6 arg7 harg7 arg8 harg8 arg9 harg9 arg10 harg10 arg11 harg11 x2 x3 f0 f1 f4 f5 g x0 x1 x4 x5 hf0 hf1 hf4 hf5 128 le_rfl]
                  exact View.read_writes_full _ _ _ _ _
  isplitl [H9]; · iexists _; isplitr; swap; · iexact H9
                  ipureintro
                  rw [show Scf.trips k1_t1_loop.lb k1_t1_loop.ub k1_t1_loop.st = 128 from trips1, e2, e3, ep, ← st1_carry Variants.none c none i arg1 harg1 arg2 harg2 arg3 harg3 arg4 harg4 arg5 harg5 arg6 harg6 arg7 harg7 arg8 harg8 arg9 harg9 arg10 harg10 arg11 harg11 x2 x3 f0 f1 f4 f5 g x0 x1 x4 x5 hf0 hf1 hf4 hf5 128 le_rfl]
                  exact View.read_writes_full _ _ _ _ _
  iexists _; isplitr; swap; · iexact HS0
  ipureintro

  rw [show Scf.trips k1_t1_loop.lb k1_t1_loop.ub k1_t1_loop.st = 128 from trips1, e2, e3, ep]
  rw [← st1_carry Variants.none c none i arg1 harg1 arg2 harg2 arg3 harg3 arg4 harg4 arg5 harg5 arg6 harg6 arg7 harg7 arg8 harg8 arg9 harg9 arg10 harg10 arg11 harg11 x2 x3 f0 f1 f4 f5 g x0 x1 x4 x5 hf0 hf1 hf4 hf5 128 le_rfl]
  exact pack_writes _ _ (_, _)

set_option maxHeartbeats 2000000 in
/-- The first point: the scratch and the two sums are zeroed first. -/
theorem body1_first (c : Dev nD) (i : grid1.Coords) (arg1 : Memref sig .tc .vmem S128x32x128 .bf16) (harg1 : arg1.IsWhole) (arg2 : Memref sig .tc .vmem S128x32x128 .bf16) (harg2 : arg2.IsWhole) (arg3 : Memref sig .tc .vmem S32x128 .f32) (harg3 : arg3.IsWhole) (arg4 : Memref sig .tc .vmem S32x128 .f32) (harg4 : arg4.IsWhole) (arg5 : Memref sig .tc .vmem S128x32x128 .bf16) (harg5 : arg5.IsWhole) (arg6 : Memref sig .tc .vmem S128x32x128 .bf16) (harg6 : arg6.IsWhole) (arg7 : Memref sig .tc .vmem S128x32x128 .bf16) (harg7 : arg7.IsWhole) (arg8 : Memref sig .tc .vmem S128x32x128 .bf16) (harg8 : arg8.IsWhole) (arg9 : Memref sig .tc .vmem S32x128 .f32) (harg9 : arg9.IsWhole) (arg10 : Memref sig .tc .vmem S32x128 .f32) (harg10 : arg10.IsWhole) (arg11 : Memref sig .tc .vmem S2x32x128 .f32) (harg11 : arg11.IsWhole) (hc0 : first1 i)
    (x0 x1 : Vec F S128x32x128 .bf16) (x2 x3 : Vec F S32x128 .f32) (x4 x5 : Vec F S128x32x128 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (gradRe x2 x3 (back x0) (back x1) (back x4) (back x5) zeroGrad) ∗ owns (c : Thread nD τ) arg8 fullShare (gradIm x2 x3 (back x0) (back x1) (back x4) (back x5) zeroGrad) ∗ owns (c : Thread nD τ) arg9 fullShare (bwd x2 x3 (back x0) (back x1) (back x4) (back x5) zeroGrad 128).2.2.1 ∗ owns (c : Thread nD τ) arg10 fullShare (bwd x2 x3 (back x0) (back x1) (back x4) (back x5) zeroGrad 128).2.2.2 ∗ owns (c : Thread nD τ) arg11 fullShare (pack ((bwd x2 x3 (back x0) (back x1) (back x4) (back x5) zeroGrad 128).1, (bwd x2 x3 (back x0) (back x1) (back x4) (back x5) zeroGrad 128).2.1))) -∗ K ⟨⟩))
      ⊢ wp frame (wpE (defs₀ (F := F)) Variants.none c none) E (cc1_ssm_rscan i arg1 harg1 arg2 harg2 arg3 harg3 arg4 harg4 arg5 harg5 arg6 harg6 arg7 harg7 arg8 harg8 arg9 harg9 arg10 harg10 arg11 harg11) K := by
  simp only [cc1_ssm_rscan_eq_skeleton]; unfold cc1_ssm_rscan_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
  sl_exec (disch := first | sl_exact hc0)
  sl_step
  have e2 : View.readAt (Elt F) arg3.view (Rect.unit (s := S32x128) ![0, 0] S32x128.size inb_S32x128_S32x128_0_0).toLoadRect f2 = x2 := (View.readAt_full _ _ _).trans hf2
  have e3 : View.readAt (Elt F) arg4.view (Rect.unit (s := S32x128) ![0, 0] S32x128.size inb_S32x128_S32x128_0_0).toLoadRect f3 = x3 := (View.readAt_full _ _ _).trans hf3
  have hz : arg11.view.read (Elt F) (arg11.view.writes (Elt F) arg11.view.junk [⟨(Rect.unit (s := S2x32x128) ![0, 0, 0] S2x32x128.size inb_S2x32x128_S2x32x128_0_0_0), k1_pay1⟩]) = pack (zeroRow, zeroRow) :=
    (View.read_writes_full _ _ _ _ _).trans zeros_eq_pack
  have e8 : k1_pay6 (arg9.view.readCov [⟨(Rect.unit (s := S32x128) ![0, 0] S32x128.size inb_S32x128_S32x128_0_0), k1_pay2⟩] (Rect.unit (s := S32x128) ![0, 0] S32x128.size inb_S32x128_S32x128_0_0).toLoadRect) = (zeroRow : Row F) := by
    unfold k1_pay6
    exact (shapeCast_same _ _).trans (View.readCov_full _ _ _ _ _)
  have e9 : k1_pay7 (arg10.view.readCov [⟨(Rect.unit (s := S32x128) ![0, 0] S32x128.size inb_S32x128_S32x128_0_0), k1_pay3⟩] (Rect.unit (s := S32x128) ![0, 0] S32x128.size inb_S32x128_S32x128_0_0).toLoadRect) = (zeroRow : Row F) := by
    unfold k1_pay7
    exact (shapeCast_same _ _).trans (View.readCov_full _ _ _ _ _)
  have ep : (k1_pay4 (arg11.view.readCov [⟨(Rect.unit (s := S2x32x128) ![0, 0, 0] S2x32x128.size inb_S2x32x128_S2x32x128_0_0_0), k1_pay1⟩] (Rect.unit (s := S2x32x128) ![0, 0, 0] S1x32x128.size inb_S2x32x128_S1x32x128_0_0_0).toLoadRect), k1_pay5 (arg11.view.readCov [⟨(Rect.unit (s := S2x32x128) ![0, 0, 0] S2x32x128.size inb_S2x32x128_S2x32x128_0_0_0), k1_pay1⟩] (Rect.unit (s := S2x32x128) ![1, 0, 0] S1x32x128.size inb_S2x32x128_S1x32x128_1_0_0).toLoadRect),
      k1_pay6 (arg9.view.readCov [⟨(Rect.unit (s := S32x128) ![0, 0] S32x128.size inb_S32x128_S32x128_0_0), k1_pay2⟩] (Rect.unit (s := S32x128) ![0, 0] S32x128.size inb_S32x128_S32x128_0_0).toLoadRect), k1_pay7 (arg10.view.readCov [⟨(Rect.unit (s := S32x128) ![0, 0] S32x128.size inb_S32x128_S32x128_0_0), k1_pay3⟩] (Rect.unit (s := S32x128) ![0, 0] S32x128.size inb_S32x128_S32x128_0_0).toLoadRect))
      = (zeroGrad : Grad F) :=
    Prod.ext (pack_fst _ _ hz) (Prod.ext (pack_snd _ _ hz) (Prod.ext e8 e9))
  iapply Hk
  isplitl [H0]; · iexists _; isplitr; swap; · iexact H0
                  ipureintro; exact hf0
  isplitl [H1]; · iexists _; isplitr; swap; · iexact H1
                  ipureintro; exact hf1
  isplitl [H2]; · iexists _; isplitr; swap; · iexact H2
                  ipureintro; exact hf2
  isplitl [H3]; · iexists _; isplitr; swap; · iexact H3
                  ipureintro; exact hf3
  isplitl [H4]; · iexists _; isplitr; swap; · iexact H4
                  ipureintro; exact hf4
  isplitl [H5]; · iexists _; isplitr; swap; · iexact H5
                  ipureintro; exact hf5
  isplitl [H6]; · iexists _; isplitr; swap; · iexact H6
                  ipureintro
                  sl_unfold_words
                  rw [st1_re Variants.none c none i arg1 harg1 arg2 harg2 arg3 harg3 arg4 harg4 arg5 harg5 arg6 harg6 arg7 harg7 arg8 harg8 arg9 harg9 arg10 harg10 arg11 harg11 _ _ f0 f1 f4 f5 _ x0 x1 x4 x5 hf0 hf1 hf4 hf5, e2, e3, ep]
  isplitl [H7]; · iexists _; isplitr; swap; · iexact H7
                  ipureintro
                  sl_unfold_words
                  rw [st1_im Variants.none c none i arg1 harg1 arg2 harg2 arg3 harg3 arg4 harg4 arg5 harg5 arg6 harg6 arg7 harg7 arg8 harg8 arg9 harg9 arg10 harg10 arg11 harg11 _ _ f0 f1 f4 f5 _ x0 x1 x4 x5 hf0 hf1 hf4 hf5, e2, e3, ep]
  isplitl [H8]; · iexists _; isplitr; swap; · iexact H8
                  ipureintro
                  sl_unfold_words
                  rw [show Scf.trips k1_t1_loop.lb k1_t1_loop.ub k1_t1_loop.st = 128 from trips1, e2, e3, ep, ← st1_carry Variants.none c none i arg1 harg1 arg2 harg2 arg3 harg3 arg4 harg4 arg5 harg5 arg6 harg6 arg7 harg7 arg8 harg8 arg9 harg9 arg10 harg10 arg11 harg11 x2 x3 f0 f1 f4 f5 zeroGrad x0 x1 x4 x5 hf0 hf1 hf4 hf5 128 le_rfl]
                  exact View.read_writes_full _ _ _ _ _
  isplitl [H9]; · iexists _; isplitr; swap; · iexact H9
                  ipureintro
                  sl_unfold_words
                  rw [show Scf.trips k1_t1_loop.lb k1_t1_loop.ub k1_t1_loop.st = 128 from trips1, e2, e3, ep, ← st1_carry Variants.none c none i arg1 harg1 arg2 harg2 arg3 harg3 arg4 harg4 arg5 harg5 arg6 harg6 arg7 harg7 arg8 harg8 arg9 harg9 arg10 harg10 arg11 harg11 x2 x3 f0 f1 f4 f5 zeroGrad x0 x1 x4 x5 hf0 hf1 hf4 hf5 128 le_rfl]
                  exact View.read_writes_full _ _ _ _ _
  iexists _; isplitr; swap; · iexact HS0
  ipureintro
  sl_unfold_words
  rw [show Scf.trips k1_t1_loop.lb k1_t1_loop.ub k1_t1_loop.st = 128 from trips1, e2, e3, ep]
  rw [← st1_carry Variants.none c none i arg1 harg1 arg2 harg2 arg3 harg3 arg4 harg4 arg5 harg5 arg6 harg6 arg7 harg7 arg8 harg8 arg9 harg9 arg10 harg10 arg11 harg11 x2 x3 f0 f1 f4 f5 zeroGrad x0 x1 x4 x5 hf0 hf1 hf4 hf5 128 le_rfl]
  exact pack_writes _ (arg11.view.writes (Elt F) arg11.view.junk [_]) (_, _)
end Cert.KernelIdeal.Scan
end
-- ==== Proof.ScanData.lean ====
module

public import proofs.«01_k».proof.Proof.ScanBwd
public import proofs.«01_k».proof.Proof.Gen.KernelIdeal.Launch
public import proofs.«01_k».proof.Proof.Gen.KernelIdeal.Points
@[expose] public section

/-! # The states the two scans pass through, and the blocks that hold them -/

set_option maxRecDepth 16384

noncomputable section
namespace Cert.KernelIdeal.Scan
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen
variable {F : FTy → Type} [FloatOps F]

local notation "𝕄" => MT nD τ sig Unit (Elt F) ℕ (UR sig nD τ) ℕ

/-! ## Blocks of rows -/

/-- Reading an array through the slab of 128 rows that starts at row `128 k`: the slab's rows. -/
theorem rowOf_slab {e : EltTy} (X : S4224x32x128.Idx → Elt F e) (emb : S128x32x128.Idx → S4224x32x128.Idx) (k : ℕ) (hk : k < 33)
    (h0 : ∀ y, (emb y 0).val = k * 128 + (y 0).val) (h1 : ∀ y, (emb y 1).val = (y 1).val) (h2 : ∀ y, (emb y 2).val = (y 2).val) (n : ℕ) (hn : n < 128) :
    rowOf (F := F) (N := 128) (fun y => X (emb y)) n = rowOf (F := F) (N := 4224) X (128 * k + n) := by
  funext j
  refine congrArg X (funext fun a => ?_)
  match a with
  | ⟨0, _⟩ => exact Fin.ext ((h0 _).trans (by
      show k * 128 + (Fin.ofNat 128 n).val = (Fin.ofNat 4224 (128 * k + n)).val
      rw [show (Fin.ofNat 128 n).val = n from Nat.mod_eq_of_lt hn, show (Fin.ofNat 4224 (128 * k + n)).val = 128 * k + n from Nat.mod_eq_of_lt (by omega)]
      omega))
  | ⟨1, _⟩ => exact Fin.ext (h1 _)
  | ⟨2, _⟩ => exact Fin.ext (h2 _)

/-- A slab of an array given by its rows: the slab's rows are the array's. -/
theorem stack_slab {e : EltTy} (R : ℕ → S32x128.Idx → Elt F e) (emb : S128x32x128.Idx → S4224x32x128.Idx) (k : ℕ)
    (h0 : ∀ y, (emb y 0).val = k * 128 + (y 0).val) (h1 : ∀ y, (emb y 1).val = (y 1).val) (h2 : ∀ y, (emb y 2).val = (y 2).val) :
    (fun y => stack (F := F) (N := 4224) R (emb y)) = stack (F := F) (N := 128) fun n => R (128 * k + n) := by
  funext y
  show R (emb y 0).val (ix2 (emb y 1) (emb y 2)) = R (128 * k + (y 0).val) (ix2 (y 1) (y 2))
  rw [h0, show k * 128 + (y 0).val = 128 * k + (y 0).val by omega]
  refine congrArg (R _) (funext fun a => ?_)
  match a with
  | ⟨0, _⟩ => exact Fin.ext (h1 y)
  | ⟨1, _⟩ => exact Fin.ext (h2 y)

/-- Two stacks agree when their rows do. -/
theorem stack_congr {N : ℕ} {e : EltTy} (R R' : ℕ → S32x128.Idx → Elt F e) (h : ∀ n < N, R n = R' n) :
    stack (F := F) (N := N) R = stack (F := F) (N := N) R' := by
  funext y
  show R (y 0).val _ = R' (y 0).val _
  rw [h (y 0).val (y 0).isLt]

/-! ## Where the windows lie -/

theorem index0_0 : ∀ t : Fin grid0.N, win0_0.index t = ![t.val, 0, 0] := by decide +kernel
theorem emb0_0_0 (t : Fin grid0.N) (y : S128x32x128.Idx) : ((win0_0.rect t).emb y 0).val = (t.val) * 128 + (y 0).val := by
  have h := win0_0.rect_emb_val t y 0
  rw [index0_0 t] at h; exact h
theorem emb0_0_1 (t : Fin grid0.N) (y : S128x32x128.Idx) : ((win0_0.rect t).emb y 1).val = (y 1).val :=
  win0_0.rect_emb_val_of_index_zero t 1 (by rw [index0_0 t]; rfl) y
theorem emb0_0_2 (t : Fin grid0.N) (y : S128x32x128.Idx) : ((win0_0.rect t).emb y 2).val = (y 2).val :=
  win0_0.rect_emb_val_of_index_zero t 2 (by rw [index0_0 t]; rfl) y

theorem index0_1 : ∀ t : Fin grid0.N, win0_1.index t = ![t.val, 0, 0] := by decide +kernel
theorem emb0_1_0 (t : Fin grid0.N) (y : S128x32x128.Idx) : ((win0_1.rect t).emb y 0).val = (t.val) * 128 + (y 0).val := by
  have h := win0_1.rect_emb_val t y 0
  rw [index0_1 t] at h; exact h
theorem emb0_1_1 (t : Fin grid0.N) (y : S128x32x128.Idx) : ((win0_1.rect t).emb y 1).val = (y 1).val :=
  win0_1.rect_emb_val_of_index_zero t 1 (by rw [index0_1 t]; rfl) y
theorem emb0_1_2 (t : Fin grid0.N) (y : S128x32x128.Idx) : ((win0_1.rect t).emb y 2).val = (y 2).val :=
  win0_1.rect_emb_val_of_index_zero t 2 (by rw [index0_1 t]; rfl) y

theorem index0_4 : ∀ t : Fin grid0.N, win0_4.index t = ![t.val, 0, 0] := by decide +kernel
theorem emb0_4_0 (t : Fin grid0.N) (y : S128x32x128.Idx) : ((win0_4.rect t).emb y 0).val = (t.val) * 128 + (y 0).val := by
  have h := win0_4.rect_emb_val t y 0
  rw [index0_4 t] at h; exact h
theorem emb0_4_1 (t : Fin grid0.N) (y : S128x32x128.Idx) : ((win0_4.rect t).emb y 1).val = (y 1).val :=
  win0_4.rect_emb_val_of_index_zero t 1 (by rw [index0_4 t]; rfl) y
theorem emb0_4_2 (t : Fin grid0.N) (y : S128x32x128.Idx) : ((win0_4.rect t).emb y 2).val = (y 2).val :=
  win0_4.rect_emb_val_of_index_zero t 2 (by rw [index0_4 t]; rfl) y

theorem index0_5 : ∀ t : Fin grid0.N, win0_5.index t = ![t.val, 0, 0] := by decide +kernel
theorem emb0_5_0 (t : Fin grid0.N) (y : S128x32x128.Idx) : ((win0_5.rect t).emb y 0).val = (t.val) * 128 + (y 0).val := by
  have h := win0_5.rect_emb_val t y 0
  rw [index0_5 t] at h; exact h
theorem emb0_5_1 (t : Fin grid0.N) (y : S128x32x128.Idx) : ((win0_5.rect t).emb y 1).val = (y 1).val :=
  win0_5.rect_emb_val_of_index_zero t 1 (by rw [index0_5 t]; rfl) y
theorem emb0_5_2 (t : Fin grid0.N) (y : S128x32x128.Idx) : ((win0_5.rect t).emb y 2).val = (y 2).val :=
  win0_5.rect_emb_val_of_index_zero t 2 (by rw [index0_5 t]; rfl) y

theorem emb0_2 (t : Fin grid0.N) (y : S32x128.Idx) : (win0_2.rect t).emb y = y := funext fun a => by
  match a with
  | ⟨0, _⟩ => exact Fin.ext (win0_2.rect_emb_val_of_index_zero t 0 rfl y)
  | ⟨1, _⟩ => exact Fin.ext (win0_2.rect_emb_val_of_index_zero t 1 rfl y)

theorem emb0_3 (t : Fin grid0.N) (y : S32x128.Idx) : (win0_3.rect t).emb y = y := funext fun a => by
  match a with
  | ⟨0, _⟩ => exact Fin.ext (win0_3.rect_emb_val_of_index_zero t 0 rfl y)
  | ⟨1, _⟩ => exact Fin.ext (win0_3.rect_emb_val_of_index_zero t 1 rfl y)

theorem index1_0 : ∀ t : Fin grid1.N, win1_0.index t = ![32 - t.val, 0, 0] := by decide +kernel
theorem emb1_0_0 (t : Fin grid1.N) (y : S128x32x128.Idx) : ((win1_0.rect t).emb y 0).val = (32 - t.val) * 128 + (y 0).val := by
  have h := win1_0.rect_emb_val t y 0
  rw [index1_0 t] at h; exact h
theorem emb1_0_1 (t : Fin grid1.N) (y : S128x32x128.Idx) : ((win1_0.rect t).emb y 1).val = (y 1).val :=
  win1_0.rect_emb_val_of_index_zero t 1 (by rw [index1_0 t]; rfl) y
theorem emb1_0_2 (t : Fin grid1.N) (y : S128x32x128.Idx) : ((win1_0.rect t).emb y 2).val = (y 2).val :=
  win1_0.rect_emb_val_of_index_zero t 2 (by rw [index1_0 t]; rfl) y

theorem index1_1 : ∀ t : Fin grid1.N, win1_1.index t = ![32 - t.val, 0, 0] := by decide +kernel
theorem emb1_1_0 (t : Fin grid1.N) (y : S128x32x128.Idx) : ((win1_1.rect t).emb y 0).val = (32 - t.val) * 128 + (y 0).val := by
  have h := win1_1.rect_emb_val t y 0
  rw [index1_1 t] at h; exact h
theorem emb1_1_1 (t : Fin grid1.N) (y : S128x32x128.Idx) : ((win1_1.rect t).emb y 1).val = (y 1).val :=
  win1_1.rect_emb_val_of_index_zero t 1 (by rw [index1_1 t]; rfl) y
theorem emb1_1_2 (t : Fin grid1.N) (y : S128x32x128.Idx) : ((win1_1.rect t).emb y 2).val = (y 2).val :=
  win1_1.rect_emb_val_of_index_zero t 2 (by rw [index1_1 t]; rfl) y

theorem index1_4 : ∀ t : Fin grid1.N, win1_4.index t = ![32 - t.val, 0, 0] := by decide +kernel
theorem emb1_4_0 (t : Fin grid1.N) (y : S128x32x128.Idx) : ((win1_4.rect t).emb y 0).val = (32 - t.val) * 128 + (y 0).val := by
  have h := win1_4.rect_emb_val t y 0
  rw [index1_4 t] at h; exact h
theorem emb1_4_1 (t : Fin grid1.N) (y : S128x32x128.Idx) : ((win1_4.rect t).emb y 1).val = (y 1).val :=
  win1_4.rect_emb_val_of_index_zero t 1 (by rw [index1_4 t]; rfl) y
theorem emb1_4_2 (t : Fin grid1.N) (y : S128x32x128.Idx) : ((win1_4.rect t).emb y 2).val = (y 2).val :=
  win1_4.rect_emb_val_of_index_zero t 2 (by rw [index1_4 t]; rfl) y

theorem index1_5 : ∀ t : Fin grid1.N, win1_5.index t = ![32 - t.val, 0, 0] := by decide +kernel
theorem emb1_5_0 (t : Fin grid1.N) (y : S128x32x128.Idx) : ((win1_5.rect t).emb y 0).val = (32 - t.val) * 128 + (y 0).val := by
  have h := win1_5.rect_emb_val t y 0
  rw [index1_5 t] at h; exact h
theorem emb1_5_1 (t : Fin grid1.N) (y : S128x32x128.Idx) : ((win1_5.rect t).emb y 1).val = (y 1).val :=
  win1_5.rect_emb_val_of_index_zero t 1 (by rw [index1_5 t]; rfl) y
theorem emb1_5_2 (t : Fin grid1.N) (y : S128x32x128.Idx) : ((win1_5.rect t).emb y 2).val = (y 2).val :=
  win1_5.rect_emb_val_of_index_zero t 2 (by rw [index1_5 t]; rfl) y

theorem index1_6 : ∀ t : Fin grid1.N, win1_6.index t = ![32 - t.val, 0, 0] := by decide +kernel
theorem emb1_6_0 (t : Fin grid1.N) (y : S128x32x128.Idx) : ((win1_6.rect t).emb y 0).val = (32 - t.val) * 128 + (y 0).val := by
  have h := win1_6.rect_emb_val t y 0
  rw [index1_6 t] at h; exact h
theorem emb1_6_1 (t : Fin grid1.N) (y : S128x32x128.Idx) : ((win1_6.rect t).emb y 1).val = (y 1).val :=
  win1_6.rect_emb_val_of_index_zero t 1 (by rw [index1_6 t]; rfl) y
theorem emb1_6_2 (t : Fin grid1.N) (y : S128x32x128.Idx) : ((win1_6.rect t).emb y 2).val = (y 2).val :=
  win1_6.rect_emb_val_of_index_zero t 2 (by rw [index1_6 t]; rfl) y

theorem index1_7 : ∀ t : Fin grid1.N, win1_7.index t = ![32 - t.val, 0, 0] := by decide +kernel
theorem emb1_7_0 (t : Fin grid1.N) (y : S128x32x128.Idx) : ((win1_7.rect t).emb y 0).val = (32 - t.val) * 128 + (y 0).val := by
  have h := win1_7.rect_emb_val t y 0
  rw [index1_7 t] at h; exact h
theorem emb1_7_1 (t : Fin grid1.N) (y : S128x32x128.Idx) : ((win1_7.rect t).emb y 1).val = (y 1).val :=
  win1_7.rect_emb_val_of_index_zero t 1 (by rw [index1_7 t]; rfl) y
theorem emb1_7_2 (t : Fin grid1.N) (y : S128x32x128.Idx) : ((win1_7.rect t).emb y 2).val = (y 2).val :=
  win1_7.rect_emb_val_of_index_zero t 2 (by rw [index1_7 t]; rfl) y

theorem emb1_2 (t : Fin grid1.N) (y : S32x128.Idx) : (win1_2.rect t).emb y = y := funext fun a => by
  match a with
  | ⟨0, _⟩ => exact Fin.ext (win1_2.rect_emb_val_of_index_zero t 0 rfl y)
  | ⟨1, _⟩ => exact Fin.ext (win1_2.rect_emb_val_of_index_zero t 1 rfl y)

theorem emb1_3 (t : Fin grid1.N) (y : S32x128.Idx) : (win1_3.rect t).emb y = y := funext fun a => by
  match a with
  | ⟨0, _⟩ => exact Fin.ext (win1_3.rect_emb_val_of_index_zero t 0 rfl y)
  | ⟨1, _⟩ => exact Fin.ext (win1_3.rect_emb_val_of_index_zero t 1 rfl y)

theorem emb1_8 (t : Fin grid1.N) (y : S32x128.Idx) : (win1_8.rect t).emb y = y := funext fun a => by
  match a with
  | ⟨0, _⟩ => exact Fin.ext (win1_8.rect_emb_val_of_index_zero t 0 rfl y)
  | ⟨1, _⟩ => exact Fin.ext (win1_8.rect_emb_val_of_index_zero t 1 rfl y)

theorem emb1_9 (t : Fin grid1.N) (y : S32x128.Idx) : (win1_9.rect t).emb y = y := funext fun a => by
  match a with
  | ⟨0, _⟩ => exact Fin.ext (win1_9.rect_emb_val_of_index_zero t 0 rfl y)
  | ⟨1, _⟩ => exact Fin.ext (win1_9.rect_emb_val_of_index_zero t 1 rfl y)

section Regions
variable (V : (c : Dev nD) → (b : Ref sig .tc) → Buf (Elt F) ((c : Thread nD τ).loc b))

/-! ## The states -/

/-- The state after `n` rows of the sequence the two arrays hold. -/
def fwdState (c : Dev nD) (n : ℕ) : Row F × Row F :=
  fwd (V c main_arg2) (V c main_arg3) (rowOf (F := F) (N := 4224) (e := .bf16) (V c main_arg0)) (rowOf (F := F) (N := 4224) (e := .bf16) (V c main_arg1)) (zeroRow, zeroRow) n
/-- Row `r` of the arrays the forward scan leaves: the state after that row, narrowed. -/
def stateRe (c : Dev nD) : S4224x32x128.Idx → Elt F .bf16 := stack (F := F) (N := 4224) (e := .bf16) fun r => truncf .bf16 (fwdState V c (r + 1)).1 bitsLt_bf16_f32
def stateIm (c : Dev nD) : S4224x32x128.Idx → Elt F .bf16 := stack (F := F) (N := 4224) (e := .bf16) fun r => truncf .bf16 (fwdState V c (r + 1)).2 bitsLt_bf16_f32

/-- The rows of an array from the last to the first. -/
def rev (X : S4224x32x128.Idx → Elt F .bf16) (n : ℕ) : Half F := rowOf (F := F) (N := 4224) (e := .bf16) X (4223 - n)
/-- What the backward scan carries after `n` rows from the end. -/
def bwdState (c : Dev nD) (n : ℕ) : Grad F :=
  bwd (V c main_arg2) (V c main_arg3) (rev (V c main_arg4)) (rev (V c main_arg5)) (rev (V c main_v0_0)) (rev (V c main_v0_1)) zeroGrad n
def gradReAll (c : Dev nD) : S4224x32x128.Idx → Elt F .bf16 := stack (F := F) (N := 4224) (e := .bf16) fun r => truncf .bf16 (bwdState V c (4223 - r + 1)).1 bitsLt_bf16_f32
def gradImAll (c : Dev nD) : S4224x32x128.Idx → Elt F .bf16 := stack (F := F) (N := 4224) (e := .bf16) fun r => truncf .bf16 (bwdState V c (4223 - r + 1)).2.1 bitsLt_bf16_f32

/-! ## The blocks at a point -/

/-- Window `w`'s block at point `t` of region 0, read off its array. -/
def part0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Window `w`'s block at point `t` of region 1, read off its array. -/
def part1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem N0_val : cfg0.N = 33 := N_0
theorem N1_val : cfg1.N = 33 := N_1

theorem rowOf_part0_0 (c : Dev nD) (t : Fin cfg0.N) (n : ℕ) (hn : n < 128) :
    rowOf (F := F) (N := 128) (e := .bf16) (part0 V c 0 t) n = rowOf (F := F) (N := 4224) (e := .bf16) (V c main_arg0) (128 * t.val + n) :=
  rowOf_slab (F := F) (e := .bf16) (V c main_arg0) (fun y => (win0_0.rect t).emb y) t.val (lt_of_lt_of_eq t.isLt N0_val) (emb0_0_0 t) (emb0_0_1 t) (emb0_0_2 t) n hn
theorem rowOf_part0_1 (c : Dev nD) (t : Fin cfg0.N) (n : ℕ) (hn : n < 128) :
    rowOf (F := F) (N := 128) (e := .bf16) (part0 V c 1 t) n = rowOf (F := F) (N := 4224) (e := .bf16) (V c main_arg1) (128 * t.val + n) :=
  rowOf_slab (F := F) (e := .bf16) (V c main_arg1) (fun y => (win0_1.rect t).emb y) t.val (lt_of_lt_of_eq t.isLt N0_val) (emb0_1_0 t) (emb0_1_1 t) (emb0_1_2 t) n hn
theorem back_part1_0 (c : Dev nD) (t : Fin cfg1.N) (n : ℕ) (hn : n < 128) :
    back (F := F) (part1 V c 0 t) n = rev (F := F) (V c main_arg4) (128 * t.val + n) := by
  have ht : t.val < 33 := lt_of_lt_of_eq t.isLt N1_val
  have h := rowOf_slab (F := F) (e := .bf16) (V c main_arg4) (fun y => (win1_0.rect t).emb y) (32 - t.val) (by omega) (emb1_0_0 t) (emb1_0_1 t) (emb1_0_2 t) (127 - n) (by omega)
  rw [show 128 * (32 - t.val) + (127 - n) = 4223 - (128 * t.val + n) by omega] at h
  exact h
theorem back_part1_1 (c : Dev nD) (t : Fin cfg1.N) (n : ℕ) (hn : n < 128) :
    back (F := F) (part1 V c 1 t) n = rev (F := F) (V c main_arg5) (128 * t.val + n) := by
  have ht : t.val < 33 := lt_of_lt_of_eq t.isLt N1_val
  have h := rowOf_slab (F := F) (e := .bf16) (V c main_arg5) (fun y => (win1_1.rect t).emb y) (32 - t.val) (by omega) (emb1_1_0 t) (emb1_1_1 t) (emb1_1_2 t) (127 - n) (by omega)
  rw [show 128 * (32 - t.val) + (127 - n) = 4223 - (128 * t.val + n) by omega] at h
  exact h
theorem back_part1_4 (c : Dev nD) (t : Fin cfg1.N) (n : ℕ) (hn : n < 128) :
    back (F := F) (part1 V c 4 t) n = rev (F := F) (V c main_v0_0) (128 * t.val + n) := by
  have ht : t.val < 33 := lt_of_lt_of_eq t.isLt N1_val
  have h := rowOf_slab (F := F) (e := .bf16) (V c main_v0_0) (fun y => (win1_4.rect t).emb y) (32 - t.val) (by omega) (emb1_4_0 t) (emb1_4_1 t) (emb1_4_2 t) (127 - n) (by omega)
  rw [show 128 * (32 - t.val) + (127 - n) = 4223 - (128 * t.val + n) by omega] at h
  exact h
theorem back_part1_5 (c : Dev nD) (t : Fin cfg1.N) (n : ℕ) (hn : n < 128) :
    back (F := F) (part1 V c 5 t) n = rev (F := F) (V c main_v0_1) (128 * t.val + n) := by
  have ht : t.val < 33 := lt_of_lt_of_eq t.isLt N1_val
  have h := rowOf_slab (F := F) (e := .bf16) (V c main_v0_1) (fun y => (win1_5.rect t).emb y) (32 - t.val) (by omega) (emb1_5_0 t) (emb1_5_1 t) (emb1_5_2 t) (127 - n) (by omega)
  rw [show 128 * (32 - t.val) + (127 - n) = 4223 - (128 * t.val + n) by omega] at h
  exact h
theorem part0_2 (c : Dev nD) (t : Fin cfg0.N) : part0 V c 2 t = (V c main_arg2 : S32x128.Idx → Elt F .f32) :=
  funext fun y => congrArg (V c main_arg2 : S32x128.Idx → Elt F .f32) (emb0_2 t y)
theorem part0_3 (c : Dev nD) (t : Fin cfg0.N) : part0 V c 3 t = (V c main_arg3 : S32x128.Idx → Elt F .f32) :=
  funext fun y => congrArg (V c main_arg3 : S32x128.Idx → Elt F .f32) (emb0_3 t y)
theorem part1_2 (c : Dev nD) (t : Fin cfg1.N) : part1 V c 2 t = (V c main_arg2 : S32x128.Idx → Elt F .f32) :=
  funext fun y => congrArg (V c main_arg2 : S32x128.Idx → Elt F .f32) (emb1_2 t y)
theorem part1_3 (c : Dev nD) (t : Fin cfg1.N) : part1 V c 3 t = (V c main_arg3 : S32x128.Idx → Elt F .f32) :=
  funext fun y => congrArg (V c main_arg3 : S32x128.Idx → Elt F .f32) (emb1_3 t y)

/-- The block a point leaves of the forward scan's arrays, from the state before the point. -/
theorem fwd_part (c : Dev nD) (t : Fin cfg0.N) (n : ℕ) (hn : n ≤ 128) :
    fwd (part0 V c 2 t) (part0 V c 3 t) (rowOf (F := F) (N := 128) (e := .bf16) (part0 V c 0 t)) (rowOf (F := F) (N := 128) (e := .bf16) (part0 V c 1 t)) (fwdState V c (128 * t.val)) n
      = fwdState V c (128 * t.val + n) := by
  rw [part0_2, part0_3]
  exact (fwd_congr _ _ _ _ (fun j => rowOf (F := F) (N := 4224) (e := .bf16) (V c main_arg0) (128 * t.val + j)) (fun j => rowOf (F := F) (N := 4224) (e := .bf16) (V c main_arg1) (128 * t.val + j)) _ 128
    (fun j hj => rowOf_part0_0 V c t j hj) (fun j hj => rowOf_part0_1 V c t j hj) n hn).trans (fwd_add _ _ _ _ _ _ _)

/-- What a point leaves of the backward scan, from what was carried before the point. -/
theorem bwd_part (c : Dev nD) (t : Fin cfg1.N) (n : ℕ) (hn : n ≤ 128) :
    bwd (part1 V c 2 t) (part1 V c 3 t) (back (F := F) (part1 V c 0 t)) (back (F := F) (part1 V c 1 t)) (back (F := F) (part1 V c 4 t)) (back (F := F) (part1 V c 5 t)) (bwdState V c (128 * t.val)) n
      = bwdState V c (128 * t.val + n) := by
  rw [part1_2, part1_3]
  exact (bwd_congr _ _ _ _ _ _ (fun j => rev (V c main_arg4) (128 * t.val + j)) (fun j => rev (V c main_arg5) (128 * t.val + j)) (fun j => rev (V c main_v0_0) (128 * t.val + j)) (fun j => rev (V c main_v0_1) (128 * t.val + j)) _ 128
    (fun j hj => back_part1_0 V c t j hj) (fun j hj => back_part1_1 V c t j hj) (fun j hj => back_part1_4 V c t j hj) (fun j hj => back_part1_5 V c t j hj) n hn).trans (bwd_add _ _ _ _ _ _ _ _ _)

theorem outRe_part (c : Dev nD) (t : Fin cfg0.N) :
    outRe (part0 V c 2 t) (part0 V c 3 t) (rowOf (F := F) (N := 128) (e := .bf16) (part0 V c 0 t)) (rowOf (F := F) (N := 128) (e := .bf16) (part0 V c 1 t)) (fwdState V c (128 * t.val))
      = (win0_4.blk t).view.read (Elt F) (stateRe V c) := by
  refine (stack_congr (F := F) (e := .bf16) _ (fun n => truncf .bf16 (fwdState V c (128 * t.val + n + 1)).1 bitsLt_bf16_f32) fun n hn => ?_).trans
    (stack_slab (F := F) (e := .bf16) (fun r => truncf .bf16 (fwdState V c (r + 1)).1 bitsLt_bf16_f32) (fun y => (win0_4.rect t).emb y) t.val (emb0_4_0 t) (emb0_4_1 t) (emb0_4_2 t)).symm
  rw [fwd_part V c t (n + 1) hn]; rfl
theorem outIm_part (c : Dev nD) (t : Fin cfg0.N) :
    outIm (part0 V c 2 t) (part0 V c 3 t) (rowOf (F := F) (N := 128) (e := .bf16) (part0 V c 0 t)) (rowOf (F := F) (N := 128) (e := .bf16) (part0 V c 1 t)) (fwdState V c (128 * t.val))
      = (win0_5.blk t).view.read (Elt F) (stateIm V c) := by
  refine (stack_congr (F := F) (e := .bf16) _ (fun n => truncf .bf16 (fwdState V c (128 * t.val + n + 1)).2 bitsLt_bf16_f32) fun n hn => ?_).trans
    (stack_slab (F := F) (e := .bf16) (fun r => truncf .bf16 (fwdState V c (r + 1)).2 bitsLt_bf16_f32) (fun y => (win0_5.rect t).emb y) t.val (emb0_5_0 t) (emb0_5_1 t) (emb0_5_2 t)).symm
  rw [fwd_part V c t (n + 1) hn]; rfl
theorem gradRe_part (c : Dev nD) (t : Fin cfg1.N) :
    gradRe (part1 V c 2 t) (part1 V c 3 t) (back (F := F) (part1 V c 0 t)) (back (F := F) (part1 V c 1 t)) (back (F := F) (part1 V c 4 t)) (back (F := F) (part1 V c 5 t)) (bwdState V c (128 * t.val))
      = (win1_6.blk t).view.read (Elt F) (gradReAll V c) := by
  have ht : t.val < 33 := lt_of_lt_of_eq t.isLt N1_val
  refine (stack_congr (F := F) (e := .bf16) _ (fun n => truncf .bf16 (bwdState V c (4223 - (128 * (32 - t.val) + n) + 1)).1 bitsLt_bf16_f32) fun n hn => ?_).trans
    (stack_slab (F := F) (e := .bf16) (fun r => truncf .bf16 (bwdState V c (4223 - r + 1)).1 bitsLt_bf16_f32) (fun y => (win1_6.rect t).emb y) (32 - t.val) (emb1_6_0 t) (emb1_6_1 t) (emb1_6_2 t)).symm
  rw [bwd_part V c t (127 - n + 1) (by omega), show 128 * t.val + (127 - n + 1) = 4223 - (128 * (32 - t.val) + n) + 1 by omega]
theorem gradIm_part (c : Dev nD) (t : Fin cfg1.N) :
    gradIm (part1 V c 2 t) (part1 V c 3 t) (back (F := F) (part1 V c 0 t)) (back (F := F) (part1 V c 1 t)) (back (F := F) (part1 V c 4 t)) (back (F := F) (part1 V c 5 t)) (bwdState V c (128 * t.val))
      = (win1_7.blk t).view.read (Elt F) (gradImAll V c) := by
  have ht : t.val < 33 := lt_of_lt_of_eq t.isLt N1_val
  refine (stack_congr (F := F) (e := .bf16) _ (fun n => truncf .bf16 (bwdState V c (4223 - (128 * (32 - t.val) + n) + 1)).2.1 bitsLt_bf16_f32) fun n hn => ?_).trans
    (stack_slab (F := F) (e := .bf16) (fun r => truncf .bf16 (bwdState V c (4223 - r + 1)).2.1 bitsLt_bf16_f32) (fun y => (win1_7.rect t).emb y) (32 - t.val) (emb1_7_0 t) (emb1_7_1 t) (emb1_7_2 t)).symm
  rw [bwd_part V c t (127 - n + 1) (by omega), show 128 * t.val + (127 - n + 1) = 4223 - (128 * (32 - t.val) + n) + 1 by omega]
end Regions
end Cert.KernelIdeal.Scan
end
-- ==== Proof.ScanPoints.lean ====
module

public import proofs.«01_k».proof.Proof.ScanData
public import Idealize.ShloMosaic.Lib.Pipeline.FrameBody
public import Idealize.ShloMosaic.Lib.Pipeline.RegionsLoop
public import Idealize.ShloMosaic.Lib.Pipeline.FrameSuffix
public import Idealize.ShloMosaic.Lib.WordCmp
@[expose] public section

/-! # What the two regions hold at every point, and the bodies at a point -/

set_option maxRecDepth 16384

noncomputable section
namespace Cert.KernelIdeal.Scan
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen
variable {F : FTy → Type} [FloatOps F]

local notation "𝕄" => MT nD τ sig Unit (Elt F) ℕ (UR sig nD τ) ℕ

/-- The two regions' scratch buffers. -/
abbrev scr0 : Memref sig .tc .vmem S2x32x128 .f32 := Memref.whole cc0_scratch0
abbrev scr1 : Memref sig .tc .vmem S2x32x128 .f32 := Memref.whole cc1_scratch0

theorem rest0_exists (c : Dev nD) : ∃ rest : sProp 𝕄, (Pipeline.scopedRest spec0 c : sProp 𝕄) = iprop((∃ d, owns (c : Thread nD τ) scr0 fullShare d) ∗ rest) := by
  refine Exists.intro ?_ ?_
  rotate_left
  · rw [scopedRest0_eq]; simp only [scr0, owns_whole]; rfl
theorem rest1_exists (c : Dev nD) : ∃ rest : sProp 𝕄, (Pipeline.scopedRest spec1 c : sProp 𝕄) = iprop((∃ d, owns (c : Thread nD τ) scr1 fullShare d) ∗ rest) := by
  refine Exists.intro ?_ ?_
  rotate_left
  · rw [Pipeline.scopedRest_eq_of_list spec1 c [cc1_scratch0, cc0_stg0_0, cc0_stg0_1, cc0_stg1_0, cc0_stg1_1, cc0_stg2_0, cc0_stg3_0, cc0_stg4_0, cc0_stg4_1, cc0_stg5_0, cc0_stg5_1, cc0_scratch0] (by decide) (by decide)]
    simp only [scr1, owns_whole]; rfl

section Regions
variable (V : (c : Dev nD) → (b : Ref sig .tc) → Buf (Elt F) ((c : Thread nD τ).loc b))

/-- What else region 0 holds besides its scratch buffer. -/
def rest0 (c : Dev nD) : sProp 𝕄 := Classical.choose (rest0_exists (F := F) c)
theorem rest0_eq (c : Dev nD) : (Pipeline.scopedRest spec0 c : sProp 𝕄) = iprop((∃ d, owns (c : Thread nD τ) scr0 fullShare d) ∗ rest0 (F := F) c) :=
  Classical.choose_spec (rest0_exists (F := F) c)

/-- The scratch buffer before a point: anything at the first, then the state reached. -/
def held0 (c : Dev nD) : ℕ → sProp 𝕄
  | 0 => iprop(∃ d, owns (c : Thread nD τ) scr0 fullShare d)
  | n + 1 => owns (c : Thread nD τ) scr0 fullShare (pack (fwdState V c (128 * (n + 1))))

/-- What else region 1 holds besides its scratch buffer. -/
def rest1 (c : Dev nD) : sProp 𝕄 := Classical.choose (rest1_exists (F := F) c)
theorem rest1_eq (c : Dev nD) : (Pipeline.scopedRest spec1 c : sProp 𝕄) = iprop((∃ d, owns (c : Thread nD τ) scr1 fullShare d) ∗ rest1 (F := F) c) :=
  Classical.choose_spec (rest1_exists (F := F) c)

/-- The scratch buffer before a point: anything at the first, then the state reached. -/
def held1 (c : Dev nD) : ℕ → sProp 𝕄
  | 0 => iprop(∃ d, owns (c : Thread nD τ) scr1 fullShare d)
  | n + 1 => owns (c : Thread nD τ) scr1 fullShare (pack ((bwdState V c (128 * (n + 1))).1, (bwdState V c (128 * (n + 1))).2.1))

/-- Region 0: the arrays as it finds them, what the body leaves in each window's buffer, and what it holds besides. -/
def data0 (c : Dev nD) : Dat τ (Elt F) Unit ℕ (UR sig nD τ) ℕ cfg0 c where
  A w := V c (Pipeline.arrRef spec0 w)
  after w t := match w with
    | ⟨0, _⟩ => part0 V c 0 t
    | ⟨1, _⟩ => part0 V c 1 t
    | ⟨2, _⟩ => part0 V c 2 t
    | ⟨3, _⟩ => part0 V c 3 t
    | ⟨4, _⟩ => (win0_4.blk t).view.read (Elt F) (stateRe V c)
    | ⟨5, _⟩ => (win0_5.blk t).view.read (Elt F) (stateIm V c)
  Φ t := iprop((held0 V c t.val ∗ rest0 (F := F) c) ∗ (∃ r, prngReg c r))
  q _ := fullShare
  owed _ := 0

theorem data0_A (c : Dev nD) (w : Fin cfg0.W) : (data0 V c).A w = V c (Pipeline.arrRef spec0 w) := by
  dsimp only [data0]
theorem left0_0 (c : Dev nD) (t : Fin cfg0.N) : (data0 V c).after 0 t = part0 V c 0 t := by dsimp only [data0]
theorem left0_1 (c : Dev nD) (t : Fin cfg0.N) : (data0 V c).after 1 t = part0 V c 1 t := by dsimp only [data0]
theorem left0_2 (c : Dev nD) (t : Fin cfg0.N) : (data0 V c).after 2 t = part0 V c 2 t := by dsimp only [data0]
theorem left0_3 (c : Dev nD) (t : Fin cfg0.N) : (data0 V c).after 3 t = part0 V c 3 t := by dsimp only [data0]
theorem left0_4 (c : Dev nD) (t : Fin cfg0.N) : (data0 V c).after 4 t = (win0_4.blk t).view.read (Elt F) (stateRe V c) := by dsimp only [data0]
theorem left0_5 (c : Dev nD) (t : Fin cfg0.N) : (data0 V c).after 5 t = (win0_5.blk t).view.read (Elt F) (stateIm V c) := by dsimp only [data0]
theorem found0_0 (c : Dev nD) (t : Fin cfg0.N) (d) : (data0 V c).before 0 t d = part0 V c 0 t :=
  ((data0 V c).before_in_eq_fetched 0 rfl (fun _ => rfl) (fun _ _ _ => rfl) (fun t => by rw [left0_0]; unfold Dat.blockOf part0; rw [data0_A]; try rfl) t d).trans
    (by unfold Dat.fetched Dat.blockOf part0; rw [data0_A]; try rfl)
theorem found0_1 (c : Dev nD) (t : Fin cfg0.N) (d) : (data0 V c).before 1 t d = part0 V c 1 t :=
  ((data0 V c).before_in_eq_fetched 1 rfl (fun _ => rfl) (fun _ _ _ => rfl) (fun t => by rw [left0_1]; unfold Dat.blockOf part0; rw [data0_A]; try rfl) t d).trans
    (by unfold Dat.fetched Dat.blockOf part0; rw [data0_A]; try rfl)
theorem found0_2 (c : Dev nD) (t : Fin cfg0.N) (d) : (data0 V c).before 2 t d = part0 V c 2 t :=
  ((data0 V c).before_in_eq_fetched 2 rfl (fun _ => rfl) (fun _ _ _ => rfl) (fun t => by rw [left0_2]; unfold Dat.blockOf part0; rw [data0_A]; try rfl) t d).trans
    (by unfold Dat.fetched Dat.blockOf part0; rw [data0_A]; try rfl)
theorem found0_3 (c : Dev nD) (t : Fin cfg0.N) (d) : (data0 V c).before 3 t d = part0 V c 3 t :=
  ((data0 V c).before_in_eq_fetched 3 rfl (fun _ => rfl) (fun _ _ _ => rfl) (fun t => by rw [left0_3]; unfold Dat.blockOf part0; rw [data0_A]; try rfl) t d).trans
    (by unfold Dat.fetched Dat.blockOf part0; rw [data0_A]; try rfl)

theorem first0_iff (t : Fin cfg0.N) : first0 (grid0.coords t) ↔ t.val = 0 := by
  have hN : t.val < 33 := lt_of_lt_of_eq t.isLt N0_val
  have e0 : (grid0.coords t 0).val = t.val / 1 % 33 := Pipeline.Grid.coords_val t 0 (by decide) rfl
  have e1 : (grid0.coords t 0).val = t.val := by rw [e0]; omega
  unfold first0
  rw [e1]
  constructor
  · intro h
    by_contra h0
    revert h
    word_cmp
  · intro h
    rw [h]; decide

abbrev buf0_0 (t : Fin cfg0.N) : Memref sig .tc .vmem S128x32x128 .bf16 := win0_0.stage (cfg0.slots t 0)
abbrev buf0_1 (t : Fin cfg0.N) : Memref sig .tc .vmem S128x32x128 .bf16 := win0_1.stage (cfg0.slots t 1)
abbrev buf0_2 (t : Fin cfg0.N) : Memref sig .tc .vmem S32x128 .f32 := win0_2.stage (cfg0.slots t 2)
abbrev buf0_3 (t : Fin cfg0.N) : Memref sig .tc .vmem S32x128 .f32 := win0_3.stage (cfg0.slots t 3)
abbrev buf0_4 (t : Fin cfg0.N) : Memref sig .tc .vmem S128x32x128 .bf16 := win0_4.stage (cfg0.slots t 4)
abbrev buf0_5 (t : Fin cfg0.N) : Memref sig .tc .vmem S128x32x128 .bf16 := win0_5.stage (cfg0.slots t 5)

/-- What the body at a point is given, -/
def given0 (c : Dev nD) (t : Fin cfg0.N) : sProp 𝕄 :=
  iprop((data0 V c).Φ t.castSucc ∗ (data0 V c).owesAt () t.castSucc
    ∗ (∃ d, owns (c : Thread nD τ) (buf0_0 t) fullShare ((data0 V c).before 0 t d))
    ∗ (∃ d, owns (c : Thread nD τ) (buf0_1 t) fullShare ((data0 V c).before 1 t d))
    ∗ (∃ d, owns (c : Thread nD τ) (buf0_2 t) fullShare ((data0 V c).before 2 t d))
    ∗ (∃ d, owns (c : Thread nD τ) (buf0_3 t) fullShare ((data0 V c).before 3 t d))
    ∗ (∃ d, owns (c : Thread nD τ) (buf0_4 t) fullShare ((data0 V c).before 4 t d))
    ∗ (∃ d, owns (c : Thread nD τ) (buf0_5 t) fullShare ((data0 V c).before 5 t d)))
/-- and what it returns. -/
def returned0 (c : Dev nD) (t : Fin cfg0.N) : sProp 𝕄 :=
  iprop((data0 V c).Φ t.succ ∗ (data0 V c).owesAt () t.succ
    ∗ owns (c : Thread nD τ) (buf0_0 t) fullShare ((data0 V c).after 0 t)
    ∗ owns (c : Thread nD τ) (buf0_1 t) fullShare ((data0 V c).after 1 t)
    ∗ owns (c : Thread nD τ) (buf0_2 t) fullShare ((data0 V c).after 2 t)
    ∗ owns (c : Thread nD τ) (buf0_3 t) fullShare ((data0 V c).after 3 t)
    ∗ owns (c : Thread nD τ) (buf0_4 t) fullShare ((data0 V c).after 4 t)
    ∗ owns (c : Thread nD τ) (buf0_5 t) fullShare ((data0 V c).after 5 t))

set_option maxHeartbeats 1000000 in
theorem run_point0 (c : Dev nD) (t : Fin cfg0.N) :
    given0 V c t ⊢ wp frame (wpE (defs₀ (F := F)) Variants.none c none) Set.univ (bodyAt0 t) (fun _ => returned0 V c t) := by
  unfold given0 returned0 bodyAt0
  simp only [found0_0, found0_1, found0_2, found0_3]
  rw [show (data0 V c).Φ t.succ = iprop((owns (c : Thread nD τ) scr0 fullShare (pack (fwdState V c (128 * (t.val + 1)))) ∗ rest0 (F := F) c) ∗ (∃ r, prngReg c r)) from rfl,
    show (data0 V c).owesAt () t.succ = (data0 V c).owesAt () t.castSucc from rfl,
    left0_0, left0_1, left0_2, left0_3, left0_4, left0_5]
  rw [← outRe_part V c t, ← outIm_part V c t, ← show fwd (part0 V c 2 t) (part0 V c 3 t) (rowOf (F := F) (N := 128) (e := .bf16) (part0 V c 0 t)) (rowOf (F := F) (N := 128) (e := .bf16) (part0 V c 1 t)) (fwdState V c (128 * t.val)) 128 = fwdState V c (128 * (t.val + 1)) from fwd_part V c t 128 le_rfl]
  by_cases hz : t.val = 0
  · rw [show fwdState V c (128 * t.val) = (zeroRow, zeroRow) from by rw [hz]; rfl]
    rw [show (data0 V c).Φ t.castSucc = iprop((held0 V c t.val ∗ rest0 (F := F) c) ∗ (∃ r, prngReg c r)) from rfl]
    rw [hz, show held0 V c 0 = iprop(∃ d, owns (c : Thread nD τ) scr0 fullShare d) from rfl]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (body0_first c (grid0.coords t) _ _ _ _ _ _ _ _ _ _ _ _ _ _ ((first0_iff t).mpr hz) (part0 V c 0 t) (part0 V c 1 t) (part0 V c 2 t) (part0 V c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · skip
    rw [show (data0 V c).Φ t.castSucc = iprop((held0 V c t.val ∗ rest0 (F := F) c) ∗ (∃ r, prngReg c r)) from rfl]
    obtain ⟨n, hn⟩ : ∃ n, t.val = n + 1 := ⟨t.val - 1, by omega⟩
    rw [show held0 V c t.val = owns (c : Thread nD τ) scr0 fullShare (pack (fwdState V c (128 * t.val))) from by rw [hn]; rfl]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (body0_next c (grid0.coords t) _ _ _ _ _ _ _ _ _ _ _ _ _ _ (fun h => hz ((first0_iff t).mp h)) (part0 V c 0 t) (part0 V c 1 t) (part0 V c 2 t) (part0 V c 3 t) (fwdState V c (128 * t.val)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at a point is the body. -/
theorem table_row0 (t : Fin cfg0.N) : defs₀ (F := F) .tc cfg0.body (cfg0.bodyArgs t (cfg0.slots t)) = bodyAt0 t := by
  unfold defs₀; rw [Defs.onTc_tc]

theorem obligation0 (c : Dev nD) : BodyObligation (data0 (F := F) V c) (defs₀ (F := F)) Variants.none () Set.univ := fun t => by
  rw [bigSep_W0, bigSep_W0, table_row0]
  exact triple_restated (run_point0 V c t) rfl .rfl fun _ => .rfl

/-- The region is entered with its scratch at anything, -/
theorem enter0 (c : Dev nD) : Pipeline.ΦA spec0 c ⊢ (data0 V c).Φ 0 := by
  rw [show (data0 V c).Φ 0 = iprop((held0 V c 0 ∗ rest0 (F := F) c) ∗ (∃ r, prngReg c r)) from rfl]
  unfold Pipeline.ΦA; rw [rest0_eq]; exact .rfl
/-- and left with the state it reached forgotten. -/
theorem leave0 (c : Dev nD) : (data0 V c).Φ (Fin.last cfg0.N) ⊢ Pipeline.ΦA spec0 c := by
  rw [show (data0 V c).Φ (Fin.last cfg0.N) = iprop((owns (c : Thread nD τ) scr0 fullShare (pack (fwdState V c (128 * (32 + 1)))) ∗ rest0 (F := F) c) ∗ (∃ r, prngReg c r)) from rfl]
  unfold Pipeline.ΦA; rw [rest0_eq]
  iintro ⟨⟨HS, HR⟩, Hg⟩
  isplitl [HS HR]
  · isplitl [HS]; · iexists _; iexact HS
    iexact HR
  iexact Hg

/-- Region 1: the arrays as it finds them, what the body leaves in each window's buffer, and what it holds besides. -/
def data1 (c : Dev nD) : Dat τ (Elt F) Unit ℕ (UR sig nD τ) ℕ cfg1 c where
  A w := V c (Pipeline.arrRef spec1 w)
  after w t := match w with
    | ⟨0, _⟩ => part1 V c 0 t
    | ⟨1, _⟩ => part1 V c 1 t
    | ⟨2, _⟩ => part1 V c 2 t
    | ⟨3, _⟩ => part1 V c 3 t
    | ⟨4, _⟩ => part1 V c 4 t
    | ⟨5, _⟩ => part1 V c 5 t
    | ⟨6, _⟩ => (win1_6.blk t).view.read (Elt F) (gradReAll V c)
    | ⟨7, _⟩ => (win1_7.blk t).view.read (Elt F) (gradImAll V c)
    | ⟨8, _⟩ => (bwdState V c (128 * (t.val + 1))).2.2.1
    | ⟨9, _⟩ => (bwdState V c (128 * (t.val + 1))).2.2.2
  Φ t := iprop((held1 V c t.val ∗ rest1 (F := F) c) ∗ (∃ r, prngReg c r))
  q _ := fullShare
  owed _ := 0

theorem data1_A (c : Dev nD) (w : Fin cfg1.W) : (data1 V c).A w = V c (Pipeline.arrRef spec1 w) := by
  dsimp only [data1]
theorem left1_0 (c : Dev nD) (t : Fin cfg1.N) : (data1 V c).after 0 t = part1 V c 0 t := by dsimp only [data1]
theorem left1_1 (c : Dev nD) (t : Fin cfg1.N) : (data1 V c).after 1 t = part1 V c 1 t := by dsimp only [data1]
theorem left1_2 (c : Dev nD) (t : Fin cfg1.N) : (data1 V c).after 2 t = part1 V c 2 t := by dsimp only [data1]
theorem left1_3 (c : Dev nD) (t : Fin cfg1.N) : (data1 V c).after 3 t = part1 V c 3 t := by dsimp only [data1]
theorem left1_4 (c : Dev nD) (t : Fin cfg1.N) : (data1 V c).after 4 t = part1 V c 4 t := by dsimp only [data1]
theorem left1_5 (c : Dev nD) (t : Fin cfg1.N) : (data1 V c).after 5 t = part1 V c 5 t := by dsimp only [data1]
theorem left1_6 (c : Dev nD) (t : Fin cfg1.N) : (data1 V c).after 6 t = (win1_6.blk t).view.read (Elt F) (gradReAll V c) := by dsimp only [data1]
theorem left1_7 (c : Dev nD) (t : Fin cfg1.N) : (data1 V c).after 7 t = (win1_7.blk t).view.read (Elt F) (gradImAll V c) := by dsimp only [data1]
theorem left1_8 (c : Dev nD) (t : Fin cfg1.N) : (data1 V c).after 8 t = (bwdState V c (128 * (t.val + 1))).2.2.1 := by dsimp only [data1]
theorem left1_9 (c : Dev nD) (t : Fin cfg1.N) : (data1 V c).after 9 t = (bwdState V c (128 * (t.val + 1))).2.2.2 := by dsimp only [data1]
theorem found1_0 (c : Dev nD) (t : Fin cfg1.N) (d) : (data1 V c).before 0 t d = part1 V c 0 t :=
  ((data1 V c).before_in_eq_fetched 0 rfl (fun _ => rfl) (fun _ _ _ => rfl) (fun t => by rw [left1_0]; unfold Dat.blockOf part1; rw [data1_A]; try rfl) t d).trans
    (by unfold Dat.fetched Dat.blockOf part1; rw [data1_A]; try rfl)
theorem found1_1 (c : Dev nD) (t : Fin cfg1.N) (d) : (data1 V c).before 1 t d = part1 V c 1 t :=
  ((data1 V c).before_in_eq_fetched 1 rfl (fun _ => rfl) (fun _ _ _ => rfl) (fun t => by rw [left1_1]; unfold Dat.blockOf part1; rw [data1_A]; try rfl) t d).trans
    (by unfold Dat.fetched Dat.blockOf part1; rw [data1_A]; try rfl)
theorem found1_2 (c : Dev nD) (t : Fin cfg1.N) (d) : (data1 V c).before 2 t d = part1 V c 2 t :=
  ((data1 V c).before_in_eq_fetched 2 rfl (fun _ => rfl) (fun _ _ _ => rfl) (fun t => by rw [left1_2]; unfold Dat.blockOf part1; rw [data1_A]; try rfl) t d).trans
    (by unfold Dat.fetched Dat.blockOf part1; rw [data1_A]; try rfl)
theorem found1_3 (c : Dev nD) (t : Fin cfg1.N) (d) : (data1 V c).before 3 t d = part1 V c 3 t :=
  ((data1 V c).before_in_eq_fetched 3 rfl (fun _ => rfl) (fun _ _ _ => rfl) (fun t => by rw [left1_3]; unfold Dat.blockOf part1; rw [data1_A]; try rfl) t d).trans
    (by unfold Dat.fetched Dat.blockOf part1; rw [data1_A]; try rfl)
theorem found1_4 (c : Dev nD) (t : Fin cfg1.N) (d) : (data1 V c).before 4 t d = part1 V c 4 t :=
  ((data1 V c).before_in_eq_fetched 4 rfl (fun _ => rfl) (fun _ _ _ => rfl) (fun t => by rw [left1_4]; unfold Dat.blockOf part1; rw [data1_A]; try rfl) t d).trans
    (by unfold Dat.fetched Dat.blockOf part1; rw [data1_A]; try rfl)
theorem found1_5 (c : Dev nD) (t : Fin cfg1.N) (d) : (data1 V c).before 5 t d = part1 V c 5 t :=
  ((data1 V c).before_in_eq_fetched 5 rfl (fun _ => rfl) (fun _ _ _ => rfl) (fun t => by rw [left1_5]; unfold Dat.blockOf part1; rw [data1_A]; try rfl) t d).trans
    (by unfold Dat.fetched Dat.blockOf part1; rw [data1_A]; try rfl)
theorem found1_8 (c : Dev nD) (t : Fin cfg1.N) (ht : t.val ≠ 0) (d) : (data1 V c).before 8 t d = (bwdState V c (128 * t.val)).2.2.1 := by
  have hN : cfg1.N = 33 := N_1
  have htN : t.val < 33 := lt_of_lt_of_eq t.isLt hN
  rw [Dat.before_out_kept _ 8 rfl t (by omega) (Bool.eq_false_iff.mpr fun h => by have := (flush1_8 _).mp h; dsimp only at this; omega) (fun _ => rfl) (fun _ _ => rfl), left1_8]
  show (bwdState V c (128 * (t.val - 1 + 1))).2.2.1 = _
  rw [Nat.sub_add_cancel (by omega)]
theorem found1_9 (c : Dev nD) (t : Fin cfg1.N) (ht : t.val ≠ 0) (d) : (data1 V c).before 9 t d = (bwdState V c (128 * t.val)).2.2.2 := by
  have hN : cfg1.N = 33 := N_1
  have htN : t.val < 33 := lt_of_lt_of_eq t.isLt hN
  rw [Dat.before_out_kept _ 9 rfl t (by omega) (Bool.eq_false_iff.mpr fun h => by have := (flush1_9 _).mp h; dsimp only at this; omega) (fun _ => rfl) (fun _ _ => rfl), left1_9]
  show (bwdState V c (128 * (t.val - 1 + 1))).2.2.2 = _
  rw [Nat.sub_add_cancel (by omega)]

theorem first1_iff (t : Fin cfg1.N) : first1 (grid1.coords t) ↔ t.val = 0 := by
  have hN : t.val < 33 := lt_of_lt_of_eq t.isLt N1_val
  have e0 : (grid1.coords t 0).val = t.val / 1 % 33 := Pipeline.Grid.coords_val t 0 (by decide) rfl
  have e1 : (grid1.coords t 0).val = t.val := by rw [e0]; omega
  unfold first1
  rw [e1]
  constructor
  · intro h
    by_contra h0
    revert h
    word_cmp
  · intro h
    rw [h]; decide

abbrev buf1_0 (t : Fin cfg1.N) : Memref sig .tc .vmem S128x32x128 .bf16 := win1_0.stage (cfg1.slots t 0)
abbrev buf1_1 (t : Fin cfg1.N) : Memref sig .tc .vmem S128x32x128 .bf16 := win1_1.stage (cfg1.slots t 1)
abbrev buf1_2 (t : Fin cfg1.N) : Memref sig .tc .vmem S32x128 .f32 := win1_2.stage (cfg1.slots t 2)
abbrev buf1_3 (t : Fin cfg1.N) : Memref sig .tc .vmem S32x128 .f32 := win1_3.stage (cfg1.slots t 3)
abbrev buf1_4 (t : Fin cfg1.N) : Memref sig .tc .vmem S128x32x128 .bf16 := win1_4.stage (cfg1.slots t 4)
abbrev buf1_5 (t : Fin cfg1.N) : Memref sig .tc .vmem S128x32x128 .bf16 := win1_5.stage (cfg1.slots t 5)
abbrev buf1_6 (t : Fin cfg1.N) : Memref sig .tc .vmem S128x32x128 .bf16 := win1_6.stage (cfg1.slots t 6)
abbrev buf1_7 (t : Fin cfg1.N) : Memref sig .tc .vmem S128x32x128 .bf16 := win1_7.stage (cfg1.slots t 7)
abbrev buf1_8 (t : Fin cfg1.N) : Memref sig .tc .vmem S32x128 .f32 := win1_8.stage (cfg1.slots t 8)
abbrev buf1_9 (t : Fin cfg1.N) : Memref sig .tc .vmem S32x128 .f32 := win1_9.stage (cfg1.slots t 9)

/-- What the body at a point is given, -/
def given1 (c : Dev nD) (t : Fin cfg1.N) : sProp 𝕄 :=
  iprop((data1 V c).Φ t.castSucc ∗ (data1 V c).owesAt () t.castSucc
    ∗ (∃ d, owns (c : Thread nD τ) (buf1_0 t) fullShare ((data1 V c).before 0 t d))
    ∗ (∃ d, owns (c : Thread nD τ) (buf1_1 t) fullShare ((data1 V c).before 1 t d))
    ∗ (∃ d, owns (c : Thread nD τ) (buf1_2 t) fullShare ((data1 V c).before 2 t d))
    ∗ (∃ d, owns (c : Thread nD τ) (buf1_3 t) fullShare ((data1 V c).before 3 t d))
    ∗ (∃ d, owns (c : Thread nD τ) (buf1_4 t) fullShare ((data1 V c).before 4 t d))
    ∗ (∃ d, owns (c : Thread nD τ) (buf1_5 t) fullShare ((data1 V c).before 5 t d))
    ∗ (∃ d, owns (c : Thread nD τ) (buf1_6 t) fullShare ((data1 V c).before 6 t d))
    ∗ (∃ d, owns (c : Thread nD τ) (buf1_7 t) fullShare ((data1 V c).before 7 t d))
    ∗ (∃ d, owns (c : Thread nD τ) (buf1_8 t) fullShare ((data1 V c).before 8 t d))
    ∗ (∃ d, owns (c : Thread nD τ) (buf1_9 t) fullShare ((data1 V c).before 9 t d)))
/-- and what it returns. -/
def returned1 (c : Dev nD) (t : Fin cfg1.N) : sProp 𝕄 :=
  iprop((data1 V c).Φ t.succ ∗ (data1 V c).owesAt () t.succ
    ∗ owns (c : Thread nD τ) (buf1_0 t) fullShare ((data1 V c).after 0 t)
    ∗ owns (c : Thread nD τ) (buf1_1 t) fullShare ((data1 V c).after 1 t)
    ∗ owns (c : Thread nD τ) (buf1_2 t) fullShare ((data1 V c).after 2 t)
    ∗ owns (c : Thread nD τ) (buf1_3 t) fullShare ((data1 V c).after 3 t)
    ∗ owns (c : Thread nD τ) (buf1_4 t) fullShare ((data1 V c).after 4 t)
    ∗ owns (c : Thread nD τ) (buf1_5 t) fullShare ((data1 V c).after 5 t)
    ∗ owns (c : Thread nD τ) (buf1_6 t) fullShare ((data1 V c).after 6 t)
    ∗ owns (c : Thread nD τ) (buf1_7 t) fullShare ((data1 V c).after 7 t)
    ∗ owns (c : Thread nD τ) (buf1_8 t) fullShare ((data1 V c).after 8 t)
    ∗ owns (c : Thread nD τ) (buf1_9 t) fullShare ((data1 V c).after 9 t))

set_option maxHeartbeats 1000000 in
theorem run_point1 (c : Dev nD) (t : Fin cfg1.N) :
    given1 V c t ⊢ wp frame (wpE (defs₀ (F := F)) Variants.none c none) Set.univ (bodyAt1 t) (fun _ => returned1 V c t) := by
  unfold given1 returned1 bodyAt1
  simp only [found1_0, found1_1, found1_2, found1_3, found1_4, found1_5]
  rw [show (data1 V c).Φ t.succ = iprop((owns (c : Thread nD τ) scr1 fullShare (pack ((bwdState V c (128 * (t.val + 1))).1, (bwdState V c (128 * (t.val + 1))).2.1)) ∗ rest1 (F := F) c) ∗ (∃ r, prngReg c r)) from rfl,
    show (data1 V c).owesAt () t.succ = (data1 V c).owesAt () t.castSucc from rfl,
    left1_0, left1_1, left1_2, left1_3, left1_4, left1_5, left1_6, left1_7, left1_8, left1_9]
  rw [← gradRe_part V c t, ← gradIm_part V c t, ← show bwd (part1 V c 2 t) (part1 V c 3 t) (back (F := F) (part1 V c 0 t)) (back (F := F) (part1 V c 1 t)) (back (F := F) (part1 V c 4 t)) (back (F := F) (part1 V c 5 t)) (bwdState V c (128 * t.val)) 128 = bwdState V c (128 * (t.val + 1)) from bwd_part V c t 128 le_rfl]
  by_cases hz : t.val = 0
  · rw [show bwdState V c (128 * t.val) = zeroGrad from by rw [hz]; rfl]
    rw [show (data1 V c).Φ t.castSucc = iprop((held1 V c t.val ∗ rest1 (F := F) c) ∗ (∃ r, prngReg c r)) from rfl]
    rw [hz, show held1 V c 0 = iprop(∃ d, owns (c : Thread nD τ) scr1 fullShare d) from rfl]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1_first c (grid1.coords t) _ _ _ _ _ _ _ _ _ _ _ _ _ _ _ _ _ _ _ _ _ _ ((first1_iff t).mpr hz) (part1 V c 0 t) (part1 V c 1 t) (part1 V c 2 t) (part1 V c 3 t) (part1 V c 4 t) (part1 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS]; · iexact HS
    iintro ⟨H0, H1, H2, H3, H4, H5, H6, H7, H8, H9, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · skip
    rw [show (data1 V c).Φ t.castSucc = iprop((held1 V c t.val ∗ rest1 (F := F) c) ∗ (∃ r, prngReg c r)) from rfl]
    obtain ⟨n, hn⟩ : ∃ n, t.val = n + 1 := ⟨t.val - 1, by omega⟩
    simp only [found1_8 V c t hz, found1_9 V c t hz]
    rw [show held1 V c t.val = owns (c : Thread nD τ) scr1 fullShare (pack ((bwdState V c (128 * t.val)).1, (bwdState V c (128 * t.val)).2.1)) from by rw [hn]; rfl]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body1_next c (grid1.coords t) _ _ _ _ _ _ _ _ _ _ _ _ _ _ _ _ _ _ _ _ _ _ (fun h => hz ((first1_iff t).mp h)) (part1 V c 0 t) (part1 V c 1 t) (part1 V c 2 t) (part1 V c 3 t) (part1 V c 4 t) (part1 V c 5 t) (bwdState V c (128 * t.val)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexact H9
    isplitl [HS]; · iexact HS
    iintro ⟨H0, H1, H2, H3, H4, H5, H6, H7, H8, H9, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's row at a point is the body. -/
theorem table_row1 (t : Fin cfg1.N) : defs₀ (F := F) .tc cfg1.body (cfg1.bodyArgs t (cfg1.slots t)) = bodyAt1 t := by
  unfold defs₀; rw [Defs.onTc_tc]

theorem obligation1 (c : Dev nD) : BodyObligation (data1 (F := F) V c) (defs₀ (F := F)) Variants.none () Set.univ := fun t => by
  rw [bigSep_W1, bigSep_W1, table_row1]
  exact triple_restated (run_point1 V c t) rfl .rfl fun _ => .rfl

/-- The region is entered with its scratch at anything, -/
theorem enter1 (c : Dev nD) : Pipeline.ΦA spec1 c ⊢ (data1 V c).Φ 0 := by
  rw [show (data1 V c).Φ 0 = iprop((held1 V c 0 ∗ rest1 (F := F) c) ∗ (∃ r, prngReg c r)) from rfl]
  unfold Pipeline.ΦA; rw [rest1_eq]; exact .rfl
/-- and left with the state it reached forgotten. -/
theorem leave1 (c : Dev nD) : (data1 V c).Φ (Fin.last cfg1.N) ⊢ Pipeline.ΦA spec1 c := by
  rw [show (data1 V c).Φ (Fin.last cfg1.N) = iprop((owns (c : Thread nD τ) scr1 fullShare (pack ((bwdState V c (128 * (32 + 1))).1, (bwdState V c (128 * (32 + 1))).2.1)) ∗ rest1 (F := F) c) ∗ (∃ r, prngReg c r)) from rfl]
  unfold Pipeline.ΦA; rw [rest1_eq]
  iintro ⟨⟨HS, HR⟩, Hg⟩
  isplitl [HS HR]
  · isplitl [HS]; · iexists _; iexact HS
    iexact HR
  iexact Hg
end Regions
end Cert.KernelIdeal.Scan
end
-- ==== Proof.ScanRun.lean ====
module

public import proofs.«01_k».proof.Proof.ScanPoints
@[expose] public section

/-! # The two regions one after the other, from the launch to the return -/

set_option maxRecDepth 16384

noncomputable section
namespace Cert.KernelIdeal.Scan
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)
open Cert.KernelIdeal.Gen
variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The program's arguments. -/
abbrev argList : List (Ref sig .tc) := [main_arg0, main_arg1, main_arg2, main_arg3, main_arg4, main_arg5]

/-! ## The buffers at the launch, between the regions, and at the return -/

abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b

def W1 (c : Dev nD) : Valuation τ sig (Elt F) :=
  Pipeline.withArrays spec0 c (W0 m ρ c) fun w => (data0 (V0 m ρ) c).arrAt w cfg0.N
theorem W1_arr (c : Dev nD) (w : Fin cfg0.W) :
    W1 m ρ c (Proc.devRef .tc (Pipeline.arrRef spec0 w)) = (data0 (V0 m ρ) c).arrAt w cfg0.N := by
  unfold W1; exact Pipeline.withArrays_arr spec0 launch0.win.arr_inj c _ _ w
theorem W1_other (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- What no window writes is as it was. -/
theorem W1_kept (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((data0 (V0 m ρ) c).arrAt_in w (h w rfl) _).trans (data0_A (V0 m ρ) c w))
  · exact W1_other m ρ c r fun w e => hw ⟨w, e⟩
theorem args_read0 : ∀ a ∈ argList, ∀ w : Fin cfg0.W, Pipeline.arrRef spec0 w = a → (cfg0.win w).isOut = false :=
  ListAll.forall_mem_of_all_decide (by decide +kernel)
abbrev V1 : (c : Dev nD) → (b : Ref sig .tc) → Buf (Elt F) ((c : Thread nD τ).loc b) := fun c b => W1 m ρ c b
theorem V1_arr (c : Dev nD) (w : Fin cfg0.W) : (data0 (V0 m ρ) c).arrAt w cfg0.N = V1 m ρ c (Pipeline.arrRef spec0 w) :=
  (W1_arr m ρ c w).symm
theorem V1_other (c : Dev nD) : ∀ b, b ∉ Finset.univ.image (Pipeline.arrRef spec0) → V1 m ρ c b = V0 m ρ c b :=
  fun b hb => W1_other m ρ c b fun w e => hb (Finset.mem_image.mpr ⟨w, Finset.mem_univ _, e⟩)

def W2 (c : Dev nD) : Valuation τ sig (Elt F) :=
  Pipeline.withArrays spec1 c (W1 m ρ c) fun w => (data1 (V1 m ρ) c).arrAt w cfg1.N
theorem W2_arr (c : Dev nD) (w : Fin cfg1.W) :
    W2 m ρ c (Proc.devRef .tc (Pipeline.arrRef spec1 w)) = (data1 (V1 m ρ) c).arrAt w cfg1.N := by
  unfold W2; exact Pipeline.withArrays_arr spec1 launch1.win.arr_inj c _ _ w
theorem W2_other (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- What no window writes is as it was. -/
theorem W2_kept (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((data1 (V1 m ρ) c).arrAt_in w (h w rfl) _).trans (data1_A (V1 m ρ) c w))
  · exact W2_other m ρ c r fun w e => hw ⟨w, e⟩
theorem args_read1 : ∀ a ∈ argList, ∀ w : Fin cfg1.W, Pipeline.arrRef spec1 w = a → (cfg1.win w).isOut = false :=
  ListAll.forall_mem_of_all_decide (by decide +kernel)
abbrev V2 : (c : Dev nD) → (b : Ref sig .tc) → Buf (Elt F) ((c : Thread nD τ).loc b) := fun c b => W2 m ρ c b
theorem V2_arr (c : Dev nD) (w : Fin cfg1.W) : (data1 (V1 m ρ) c).arrAt w cfg1.N = V2 m ρ c (Pipeline.arrRef spec1 w) :=
  (W2_arr m ρ c w).symm
theorem V2_other (c : Dev nD) : ∀ b, b ∉ Finset.univ.image (Pipeline.arrRef spec1) → V2 m ρ c b = V1 m ρ c b :=
  fun b hb => W2_other m ρ c b fun w e => hb (Finset.mem_image.mpr ⟨w, Finset.mem_univ _, e⟩)

theorem W1_args (c : Dev nD) : ∀ a ∈ argList, W1 m ρ c (Proc.devRef .tc a) = m ((c : Thread nD τ).loc a) :=
  fun a ha => W1_kept m ρ c a (args_read0 a ha)
theorem W2_args (c : Dev nD) : ∀ a ∈ argList, W2 m ρ c (Proc.devRef .tc a) = m ((c : Thread nD τ).loc a) :=
  fun a ha => (W2_kept m ρ c a (args_read1 a ha)).trans (W1_args m ρ c a ha)

/-! ## The regions as segments of the program -/

abbrev adm : (p : Fin 2) → (pcfgs (F := F) p).Adm := fun p => (cfgs p).toPCfg_adm
def pdata : (p : Fin 2) → (c : Dev nD) → Dat τ (Elt F) Unit ℕ (UR sig nD τ) ℕ (Pipeline.pin (pcfgs (F := F)) adm p) c
  | ⟨0, _⟩ => fun c => data0 (V0 m ρ) c
  | ⟨1, _⟩ => fun c => data1 (V1 m ρ) c
abbrev noVar : Variants := Variants.none
abbrev noObl : GSem nD τ sig → Finset Unit := fun _ => ∅
abbrev noLvl : GSem nD τ sig → Unit → ℕ := fun _ _ => 0
/-- What stays beside the buffers: the generator register, and that nothing is owed. -/
abbrev beside (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev ended (c : Dev nD) : sProp 𝕄 := iprop(StableHlo.held (c : Thread nD τ) (Pipeline.ucRefs τ sig) (W2 m ρ c) ∗ ∃ r, prngReg c r)

set_option backward.isDefEq.respectTransparency.types false in
/-- Region 0: entered from the buffers before it, left with the buffers after it. -/
def reg0 : Pipeline.RegionSeg (pcfgs (F := F)) adm (pdata m ρ) () defs₀ noVar noObl noLvl 0 where
  win := launch0.win.to₀
  block_pos := launch0.block_pos
  stage_whole := launch0.stage_whole
  K := PEmpty
  osem k := k.elim
  ho := Pipeline.OwnSemFacts.none _
  hbody c := (obligation0 (V0 m ρ) c).loose
  hwaits := Pipeline.hwaits_of_owed_zero _ _ _ _ noObl noLvl 0 fun _ _ => rfl
  pre c := iprop(StableHlo.held (c : Thread nD τ) (Pipeline.ucRefs τ sig) (W0 m ρ c) ∗ beside c)
  post c := iprop(StableHlo.held (c : Thread nD τ) (Pipeline.ucRefs τ sig) (W1 m ρ c) ∗ beside c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdata m ρ) launch0.win launch0.arr_whole c
      ((pdata m ρ 0 c).share_full fun _ => rfl) (V0 m ρ c) (data0_A (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter0 (V0 m ρ) c); unfold Pipeline.ΦA
    iintro ⟨Hp, -, Hr⟩
    isplitl [Hr]; · iexact Hr
    iexact Hp
  hout c := by
    rw [Pipeline.ownSems0_none]
    refine BIBase.Entails.trans (leave0 (V0 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdata m ρ) ((pdata m ρ 0 c).share_full fun _ => rfl)
      (V0 m ρ c) (V1 m ρ c) ((pdata m ρ 0 c).arrAt · cfg0.N) (V1_arr m ρ c) (V1_other m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from the buffers before it, left with the buffers after it. -/
def reg1 : Pipeline.RegionSeg (pcfgs (F := F)) adm (pdata m ρ) () defs₀ noVar noObl noLvl 1 where
  win := launch1.win.to₀
  block_pos := launch1.block_pos
  stage_whole := launch1.stage_whole
  K := PEmpty
  osem k := k.elim
  ho := Pipeline.OwnSemFacts.none _
  hbody c := (obligation1 (V1 m ρ) c).loose
  hwaits := Pipeline.hwaits_of_owed_zero _ _ _ _ noObl noLvl 1 fun _ _ => rfl
  pre c := iprop(StableHlo.held (c : Thread nD τ) (Pipeline.ucRefs τ sig) (W1 m ρ c) ∗ beside c)
  post c := iprop(ended m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdata m ρ) launch1.win launch1.arr_whole c
      ((pdata m ρ 1 c).share_full fun _ => rfl) (V1 m ρ c) (data1_A (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (enter1 (V1 m ρ) c); unfold Pipeline.ΦA
    iintro ⟨Hp, -, Hr⟩
    isplitl [Hr]; · iexact Hr
    iexact Hp
  hout c := by
    rw [Pipeline.ownSems0_none]
    refine BIBase.Entails.trans (leave1 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdata m ρ) ((pdata m ρ 1 c).share_full fun _ => rfl)
      (V1 m ρ c) (V2 m ρ c) ((pdata m ρ 1 c).arrAt · cfg1.N) (V2_arr m ρ c) (V2_other m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segments : List (Pipeline.Seg (pcfgs (F := F)) adm (pdata m ρ) () defs₀ noVar noObl noLvl) :=
  [ .region (reg0 m ρ), .region (reg1 m ρ) ]
theorem main_segments (c : Dev nD) : main (F := F) c = Pipeline.Seg.run (segments m ρ) := (main_chain c).trans (by chain_rfl)
theorem all_scoped : ∀ sm : SemLoc sig, sm.isScoped .tc = true := by decide

set_option backward.isDefEq.respectTransparency.types false in
/-- Every execution ends with every buffer of the program at its contents at the return, and all counters at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W2 m ρ c b) ∧ r.2.sem = fun _ => 0) :=
  Pipeline.θ_run_regions_kit_sems (pcfgs (F := F)) adm (pdata m ρ) () cellOf_inj emb₁ defs₀ noVar noObl noLvl m ρ main (segments m ρ)
    (fun c Q => by rw [main_segments m ρ c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ beside c)) (Tₙ := ended m ρ)
    (hch := ⟨fun _ => .rfl, fun _ => .rfl, fun _ => .rfl⟩)
    (hinit := by
      refine Pipeline.initEach noObl noLvl fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨h, funext fun g => hz g (.inr (all_scoped g.2))⟩)

/-! ## What the arrays hold at the return -/

theorem cover0_4 (i : S4224x32x128.Idx) : ∃ t : Fin cfg0.N, (cfg0.win 4).flush t = true ∧ i ∈ ((cfg0.win 4).blk t).view.set := by
  have h0 : (i 0).val < 4224 := (i 0).isLt
  have h1 : (i 1).val < 32 := (i 1).isLt
  have h2 : (i 2).val < 128 := (i 2).isLt
  have hN : cfg0.N = 33 := N_0
  obtain ⟨t, ht⟩ : ∃ t : Fin grid0.N, t.val = (i 0).val / 128 := ⟨⟨(i 0).val / 128, by rw [N_0]; omega⟩, rfl⟩
  refine ⟨t, flush0_4 t, ?_⟩
  show i ∈ ((View.whole main_v0_0).slice (win0_4.rect t)).set
  rw [View.set_slice_whole, Rect.mem_set_unit]
  intro a
  have e := index0_4 t
  match a with
  | ⟨0, _⟩ =>
    have e' := congrFun e (0 : Fin 3)
    show win0_4.index t (0 : Fin 3) * 128 ≤ (i 0).val ∧ (i 0).val < win0_4.index t (0 : Fin 3) * 128 + 128
    rw [e']
    show (t.val) * 128 ≤ (i 0).val ∧ (i 0).val < (t.val) * 128 + 128
    omega
  | ⟨1, _⟩ =>
    have e' := congrFun e (1 : Fin 3)
    show win0_4.index t (1 : Fin 3) * 32 ≤ (i 1).val ∧ (i 1).val < win0_4.index t (1 : Fin 3) * 32 + 32
    rw [e']
    show 0 * 32 ≤ (i 1).val ∧ (i 1).val < 0 * 32 + 32
    omega
  | ⟨2, _⟩ =>
    have e' := congrFun e (2 : Fin 3)
    show win0_4.index t (2 : Fin 3) * 128 ≤ (i 2).val ∧ (i 2).val < win0_4.index t (2 : Fin 3) * 128 + 128
    rw [e']
    show 0 * 128 ≤ (i 2).val ∧ (i 2).val < 0 * 128 + 128
    omega
theorem W1_main_v0_0 (c : Dev nD) : W1 m ρ c (Proc.devRef .tc main_v0_0) = stateRe (V0 m ρ) c :=
  (W1_arr m ρ c 4).trans ((data0 (V0 m ρ) c).arrAt_eq_of_cover 4 (stateRe (V0 m ρ) c)
    (fun t _ => by show (cfg0.win 4).cut (grid0.coords t) ((data0 (V0 m ρ) c).after 4 t) = _; rw [left0_4]; try rfl) cover0_4)

theorem cover0_5 (i : S4224x32x128.Idx) : ∃ t : Fin cfg0.N, (cfg0.win 5).flush t = true ∧ i ∈ ((cfg0.win 5).blk t).view.set := by
  have h0 : (i 0).val < 4224 := (i 0).isLt
  have h1 : (i 1).val < 32 := (i 1).isLt
  have h2 : (i 2).val < 128 := (i 2).isLt
  have hN : cfg0.N = 33 := N_0
  obtain ⟨t, ht⟩ : ∃ t : Fin grid0.N, t.val = (i 0).val / 128 := ⟨⟨(i 0).val / 128, by rw [N_0]; omega⟩, rfl⟩
  refine ⟨t, flush0_5 t, ?_⟩
  show i ∈ ((View.whole main_v0_1).slice (win0_5.rect t)).set
  rw [View.set_slice_whole, Rect.mem_set_unit]
  intro a
  have e := index0_5 t
  match a with
  | ⟨0, _⟩ =>
    have e' := congrFun e (0 : Fin 3)
    show win0_5.index t (0 : Fin 3) * 128 ≤ (i 0).val ∧ (i 0).val < win0_5.index t (0 : Fin 3) * 128 + 128
    rw [e']
    show (t.val) * 128 ≤ (i 0).val ∧ (i 0).val < (t.val) * 128 + 128
    omega
  | ⟨1, _⟩ =>
    have e' := congrFun e (1 : Fin 3)
    show win0_5.index t (1 : Fin 3) * 32 ≤ (i 1).val ∧ (i 1).val < win0_5.index t (1 : Fin 3) * 32 + 32
    rw [e']
    show 0 * 32 ≤ (i 1).val ∧ (i 1).val < 0 * 32 + 32
    omega
  | ⟨2, _⟩ =>
    have e' := congrFun e (2 : Fin 3)
    show win0_5.index t (2 : Fin 3) * 128 ≤ (i 2).val ∧ (i 2).val < win0_5.index t (2 : Fin 3) * 128 + 128
    rw [e']
    show 0 * 128 ≤ (i 2).val ∧ (i 2).val < 0 * 128 + 128
    omega
theorem W1_main_v0_1 (c : Dev nD) : W1 m ρ c (Proc.devRef .tc main_v0_1) = stateIm (V0 m ρ) c :=
  (W1_arr m ρ c 5).trans ((data0 (V0 m ρ) c).arrAt_eq_of_cover 5 (stateIm (V0 m ρ) c)
    (fun t _ => by show (cfg0.win 5).cut (grid0.coords t) ((data0 (V0 m ρ) c).after 5 t) = _; rw [left0_5]; try rfl) cover0_5)

theorem cover1_6 (i : S4224x32x128.Idx) : ∃ t : Fin cfg1.N, (cfg1.win 6).flush t = true ∧ i ∈ ((cfg1.win 6).blk t).view.set := by
  have h0 : (i 0).val < 4224 := (i 0).isLt
  have h1 : (i 1).val < 32 := (i 1).isLt
  have h2 : (i 2).val < 128 := (i 2).isLt
  have hN : cfg1.N = 33 := N_1
  obtain ⟨t, ht⟩ : ∃ t : Fin grid1.N, t.val = 32 - (i 0).val / 128 := ⟨⟨32 - (i 0).val / 128, by rw [N_1]; omega⟩, rfl⟩
  refine ⟨t, flush1_6 t, ?_⟩
  show i ∈ ((View.whole main_v1_0).slice (win1_6.rect t)).set
  rw [View.set_slice_whole, Rect.mem_set_unit]
  intro a
  have e := index1_6 t
  match a with
  | ⟨0, _⟩ =>
    have e' := congrFun e (0 : Fin 3)
    show win1_6.index t (0 : Fin 3) * 128 ≤ (i 0).val ∧ (i 0).val < win1_6.index t (0 : Fin 3) * 128 + 128
    rw [e']
    show (32 - t.val) * 128 ≤ (i 0).val ∧ (i 0).val < (32 - t.val) * 128 + 128
    omega
  | ⟨1, _⟩ =>
    have e' := congrFun e (1 : Fin 3)
    show win1_6.index t (1 : Fin 3) * 32 ≤ (i 1).val ∧ (i 1).val < win1_6.index t (1 : Fin 3) * 32 + 32
    rw [e']
    show 0 * 32 ≤ (i 1).val ∧ (i 1).val < 0 * 32 + 32
    omega
  | ⟨2, _⟩ =>
    have e' := congrFun e (2 : Fin 3)
    show win1_6.index t (2 : Fin 3) * 128 ≤ (i 2).val ∧ (i 2).val < win1_6.index t (2 : Fin 3) * 128 + 128
    rw [e']
    show 0 * 128 ≤ (i 2).val ∧ (i 2).val < 0 * 128 + 128
    omega
theorem W2_main_v1_0 (c : Dev nD) : W2 m ρ c (Proc.devRef .tc main_v1_0) = gradReAll (V1 m ρ) c :=
  (W2_arr m ρ c 6).trans ((data1 (V1 m ρ) c).arrAt_eq_of_cover 6 (gradReAll (V1 m ρ) c)
    (fun t _ => by show (cfg1.win 6).cut (grid1.coords t) ((data1 (V1 m ρ) c).after 6 t) = _; rw [left1_6]; try rfl) cover1_6)

theorem cover1_7 (i : S4224x32x128.Idx) : ∃ t : Fin cfg1.N, (cfg1.win 7).flush t = true ∧ i ∈ ((cfg1.win 7).blk t).view.set := by
  have h0 : (i 0).val < 4224 := (i 0).isLt
  have h1 : (i 1).val < 32 := (i 1).isLt
  have h2 : (i 2).val < 128 := (i 2).isLt
  have hN : cfg1.N = 33 := N_1
  obtain ⟨t, ht⟩ : ∃ t : Fin grid1.N, t.val = 32 - (i 0).val / 128 := ⟨⟨32 - (i 0).val / 128, by rw [N_1]; omega⟩, rfl⟩
  refine ⟨t, flush1_7 t, ?_⟩
  show i ∈ ((View.whole main_v1_1).slice (win1_7.rect t)).set
  rw [View.set_slice_whole, Rect.mem_set_unit]
  intro a
  have e := index1_7 t
  match a with
  | ⟨0, _⟩ =>
    have e' := congrFun e (0 : Fin 3)
    show win1_7.index t (0 : Fin 3) * 128 ≤ (i 0).val ∧ (i 0).val < win1_7.index t (0 : Fin 3) * 128 + 128
    rw [e']
    show (32 - t.val) * 128 ≤ (i 0).val ∧ (i 0).val < (32 - t.val) * 128 + 128
    omega
  | ⟨1, _⟩ =>
    have e' := congrFun e (1 : Fin 3)
    show win1_7.index t (1 : Fin 3) * 32 ≤ (i 1).val ∧ (i 1).val < win1_7.index t (1 : Fin 3) * 32 + 32
    rw [e']
    show 0 * 32 ≤ (i 1).val ∧ (i 1).val < 0 * 32 + 32
    omega
  | ⟨2, _⟩ =>
    have e' := congrFun e (2 : Fin 3)
    show win1_7.index t (2 : Fin 3) * 128 ≤ (i 2).val ∧ (i 2).val < win1_7.index t (2 : Fin 3) * 128 + 128
    rw [e']
    show 0 * 128 ≤ (i 2).val ∧ (i 2).val < 0 * 128 + 128
    omega
theorem W2_main_v1_1 (c : Dev nD) : W2 m ρ c (Proc.devRef .tc main_v1_1) = gradImAll (V1 m ρ) c :=
  (W2_arr m ρ c 7).trans ((data1 (V1 m ρ) c).arrAt_eq_of_cover 7 (gradImAll (V1 m ρ) c)
    (fun t _ => by show (cfg1.win 7).cut (grid1.coords t) ((data1 (V1 m ρ) c).after 7 t) = _; rw [left1_7]; try rfl) cover1_7)

theorem cover1_8 (i : S32x128.Idx) : ∃ t : Fin cfg1.N, (cfg1.win 8).flush t = true ∧ i ∈ ((cfg1.win 8).blk t).view.set := by
  have h0 : (i 0).val < 32 := (i 0).isLt
  have h1 : (i 1).val < 128 := (i 1).isLt
  have hN : cfg1.N = 33 := N_1
  obtain ⟨t, ht⟩ : ∃ t : Fin grid1.N, t.val = 32 := ⟨⟨32, by rw [N_1]; omega⟩, rfl⟩
  refine ⟨t, (flush1_8 t).mpr (by rw [ht]), ?_⟩
  show i ∈ ((View.whole main_v1_2).slice (win1_8.rect t)).set
  rw [View.set_slice_whole, Rect.mem_set_unit]
  intro a
  match a with
  | ⟨0, _⟩ => show 0 * 32 ≤ (i 0).val ∧ (i 0).val < 0 * 32 + 32; omega
  | ⟨1, _⟩ => show 0 * 128 ≤ (i 1).val ∧ (i 1).val < 0 * 128 + 128; omega
theorem W2_main_v1_2 (c : Dev nD) : W2 m ρ c (Proc.devRef .tc main_v1_2) = (bwdState (V1 m ρ) c 4224).2.2.1 :=
  (W2_arr m ρ c 8).trans ((data1 (V1 m ρ) c).arrAt_eq_of_cover 8 (bwdState (V1 m ρ) c 4224).2.2.1
    (fun t ht => by
      have htN : t.val < 33 := lt_of_lt_of_eq t.isLt N1_val
      have h32 : t.val = 32 := by have := (flush1_8 t).mp ht; omega
      show (cfg1.win 8).cut (grid1.coords t) ((data1 (V1 m ρ) c).after 8 t) = _
      rw [left1_8, h32]
      funext y
      show (bwdState (V1 m ρ) c (128 * (32 + 1))).2.2.1 y = (bwdState (V1 m ρ) c 4224).2.2.1 ((win1_8.rect t).emb y)
      rw [emb1_8 t y]) cover1_8)

theorem cover1_9 (i : S32x128.Idx) : ∃ t : Fin cfg1.N, (cfg1.win 9).flush t = true ∧ i ∈ ((cfg1.win 9).blk t).view.set := by
  have h0 : (i 0).val < 32 := (i 0).isLt
  have h1 : (i 1).val < 128 := (i 1).isLt
  have hN : cfg1.N = 33 := N_1
  obtain ⟨t, ht⟩ : ∃ t : Fin grid1.N, t.val = 32 := ⟨⟨32, by rw [N_1]; omega⟩, rfl⟩
  refine ⟨t, (flush1_9 t).mpr (by rw [ht]), ?_⟩
  show i ∈ ((View.whole main_v1_3).slice (win1_9.rect t)).set
  rw [View.set_slice_whole, Rect.mem_set_unit]
  intro a
  match a with
  | ⟨0, _⟩ => show 0 * 32 ≤ (i 0).val ∧ (i 0).val < 0 * 32 + 32; omega
  | ⟨1, _⟩ => show 0 * 128 ≤ (i 1).val ∧ (i 1).val < 0 * 128 + 128; omega
theorem W2_main_v1_3 (c : Dev nD) : W2 m ρ c (Proc.devRef .tc main_v1_3) = (bwdState (V1 m ρ) c 4224).2.2.2 :=
  (W2_arr m ρ c 9).trans ((data1 (V1 m ρ) c).arrAt_eq_of_cover 9 (bwdState (V1 m ρ) c 4224).2.2.2
    (fun t ht => by
      have htN : t.val < 33 := lt_of_lt_of_eq t.isLt N1_val
      have h32 : t.val = 32 := by have := (flush1_9 t).mp ht; omega
      show (cfg1.win 9).cut (grid1.coords t) ((data1 (V1 m ρ) c).after 9 t) = _
      rw [left1_9, h32]
      funext y
      show (bwdState (V1 m ρ) c (128 * (32 + 1))).2.2.2 y = (bwdState (V1 m ρ) c 4224).2.2.2 ((win1_9.rect t).emb y)
      rw [emb1_9 t y]) cover1_9)
end Cert.KernelIdeal.Scan
end
-- ==== Proof.ScanEqual.lean ====
module

public import proofs.«01_k».proof.Proof.RefValue
public import proofs.«01_k».proof.Proof.ScanRun
public import Idealize.ShloMosaic.Lib.Pointwise
@[expose] public section

/-! # The two recurrences over the extended reals

The kernel's backward scan steps its carried gradient and adds the row's cotangent in one go, and reads the
state before a row one step later than the reference does. So what the kernel carries after `n + 1` rows is what
the reference carries after `n` rows once it has added its next cotangent. -/

noncomputable section
namespace Cert.ReferenceIdeal.Scan
open Cert.ReferenceIdeal Cert.ReferenceIdeal.Gen
open Idealize.ShloMosaic Idealize.ShloMosaic.TcCoe Idealize.ShloMosaic.ValueIdx
open Cert.KernelIdeal.Scan (rowOf Row Half Grad fwdStep fwd zeroRow zeroGrad bwd bwdStep stack rowOf_stack)

theorem zeroRow_at (j : S32x128.Idx) : (zeroRow : Row Ideal) j = (0 : EReal) := Ideal.ofBits_zero_f32

section
variable (a b : Row Ideal) (p q X Y : ℕ → Half Ideal) (x y : ℕ → Row Ideal)

theorem carry_shift (N : ℕ) (hX : ∀ n, n + 1 < N → X (n + 1) = truncf (F := Ideal) (s := S32x128) .bf16 (x n) bitsLt_bf16_f32)
    (hY : ∀ n, n + 1 < N → Y (n + 1) = truncf (F := Ideal) (s := S32x128) .bf16 (y n) bitsLt_bf16_f32) : ∀ n, n < N →
    totRe (F := Ideal) (p n) (refBwd a b p q x y (zeroRow, zeroRow, zeroRow, zeroRow) n) = (bwd a b p q X Y zeroGrad (n + 1)).1 ∧ totIm (F := Ideal) (q n) (refBwd a b p q x y (zeroRow, zeroRow, zeroRow, zeroRow) n) = (bwd a b p q X Y zeroGrad (n + 1)).2.1
      ∧ (refBwd a b p q x y (zeroRow, zeroRow, zeroRow, zeroRow) n).2.2.1 = (bwd a b p q X Y zeroGrad (n + 1)).2.2.1 ∧ (refBwd a b p q x y (zeroRow, zeroRow, zeroRow, zeroRow) n).2.2.2 = (bwd a b p q X Y zeroGrad (n + 1)).2.2.2
  | 0, _ => by
    refine ⟨funext fun j => ?_, funext fun j => ?_, funext fun j => ?_, funext fun j => ?_⟩
    · show ((zeroRow : Row Ideal) j : EReal) + p 0 j = (a j * (zeroRow : Row Ideal) j + b j * (zeroRow : Row Ideal) j) + p 0 j
      rw [zeroRow_at, mul_zero, mul_zero, add_zero]
    · show ((zeroRow : Row Ideal) j : EReal) + q 0 j = (a j * (zeroRow : Row Ideal) j - b j * (zeroRow : Row Ideal) j) + q 0 j
      rw [zeroRow_at, mul_zero, mul_zero, sub_zero]
    · show ((zeroRow : Row Ideal) j : EReal) = ((zeroRow : Row Ideal) j + (zeroRow : Row Ideal) j * X 0 j) + (zeroRow : Row Ideal) j * Y 0 j
      rw [zeroRow_at, zero_mul, zero_mul, add_zero, add_zero]
    · show ((zeroRow : Row Ideal) j : EReal) = ((zeroRow : Row Ideal) j + (zeroRow : Row Ideal) j * X 0 j) - (zeroRow : Row Ideal) j * Y 0 j
      rw [zeroRow_at, zero_mul, zero_mul, add_zero, sub_zero]
  | n + 1, h => by
    obtain ⟨h1, h2, h3, h4⟩ := carry_shift N hX hY n (Nat.lt_of_succ_lt h)
    have hx := hX n h
    have hy := hY n h
    refine ⟨funext fun j => ?_, funext fun j => ?_, funext fun j => ?_, funext fun j => ?_⟩
    · show (b j * totIm (F := Ideal) (q n) (refBwd a b p q x y (zeroRow, zeroRow, zeroRow, zeroRow) n) j + a j * totRe (F := Ideal) (p n) (refBwd a b p q x y (zeroRow, zeroRow, zeroRow, zeroRow) n) j : EReal) + p (n + 1) j
        = (a j * (bwd a b p q X Y zeroGrad (n + 1)).1 j + b j * (bwd a b p q X Y zeroGrad (n + 1)).2.1 j) + p (n + 1) j
      rw [h1, h2, add_comm (b j * _ : EReal)]
    · show (a j * totIm (F := Ideal) (q n) (refBwd a b p q x y (zeroRow, zeroRow, zeroRow, zeroRow) n) j + b j * (-totRe (F := Ideal) (p n) (refBwd a b p q x y (zeroRow, zeroRow, zeroRow, zeroRow) n) j) : EReal) + q (n + 1) j
        = (a j * (bwd a b p q X Y zeroGrad (n + 1)).2.1 j - b j * (bwd a b p q X Y zeroGrad (n + 1)).1 j) + q (n + 1) j
      rw [h1, h2, mul_neg, ← sub_eq_add_neg]
    · show (((refBwd a b p q x y (zeroRow, zeroRow, zeroRow, zeroRow) n).2.2.1 j + totIm (F := Ideal) (q n) (refBwd a b p q x y (zeroRow, zeroRow, zeroRow, zeroRow) n) j * y n j) + totRe (F := Ideal) (p n) (refBwd a b p q x y (zeroRow, zeroRow, zeroRow, zeroRow) n) j * x n j : EReal)
        = ((bwd a b p q X Y zeroGrad (n + 1)).2.2.1 j + (bwd a b p q X Y zeroGrad (n + 1)).1 j * X (n + 1) j) + (bwd a b p q X Y zeroGrad (n + 1)).2.1 j * Y (n + 1) j
      rw [h1, h2, h3, hx, hy]
      exact add_right_comm _ _ _
    · show (((refBwd a b p q x y (zeroRow, zeroRow, zeroRow, zeroRow) n).2.2.2 j + totIm (F := Ideal) (q n) (refBwd a b p q x y (zeroRow, zeroRow, zeroRow, zeroRow) n) j * x n j) + (-totRe (F := Ideal) (p n) (refBwd a b p q x y (zeroRow, zeroRow, zeroRow, zeroRow) n) j) * y n j : EReal)
        = ((bwd a b p q X Y zeroGrad (n + 1)).2.2.2 j + (bwd a b p q X Y zeroGrad (n + 1)).2.1 j * X (n + 1) j) - (bwd a b p q X Y zeroGrad (n + 1)).1 j * Y (n + 1) j
      rw [h1, h2, h4, hx, hy, neg_mul, ← sub_eq_add_neg]
      rfl

/-- The last step adds nothing to the sums: the state before the first row is zero. -/
theorem carry_last (N : ℕ) (hX : ∀ n, n + 1 < N + 1 → X (n + 1) = truncf (F := Ideal) (s := S32x128) .bf16 (x n) bitsLt_bf16_f32)
    (hY : ∀ n, n + 1 < N + 1 → Y (n + 1) = truncf (F := Ideal) (s := S32x128) .bf16 (y n) bitsLt_bf16_f32)
    (hx : x N = zeroRow) (hy : y N = zeroRow) : (refBwd a b p q x y (zeroRow, zeroRow, zeroRow, zeroRow) (N + 1)).2.2.1 = (bwd a b p q X Y zeroGrad (N + 1)).2.2.1 ∧ (refBwd a b p q x y (zeroRow, zeroRow, zeroRow, zeroRow) (N + 1)).2.2.2 = (bwd a b p q X Y zeroGrad (N + 1)).2.2.2 := by
  obtain ⟨h1, h2, h3, h4⟩ := carry_shift a b p q X Y x y (N + 1) hX hY N (Nat.lt_succ_self N)
  refine ⟨funext fun j => ?_, funext fun j => ?_⟩
  · show (((refBwd a b p q x y (zeroRow, zeroRow, zeroRow, zeroRow) N).2.2.1 j + totIm (F := Ideal) (q N) (refBwd a b p q x y (zeroRow, zeroRow, zeroRow, zeroRow) N) j * y N j) + totRe (F := Ideal) (p N) (refBwd a b p q x y (zeroRow, zeroRow, zeroRow, zeroRow) N) j * x N j : EReal) = _
    rw [hx, hy, zeroRow_at, mul_zero, mul_zero, add_zero, add_zero, h3]
  · show (((refBwd a b p q x y (zeroRow, zeroRow, zeroRow, zeroRow) N).2.2.2 j + totIm (F := Ideal) (q N) (refBwd a b p q x y (zeroRow, zeroRow, zeroRow, zeroRow) N) j * x N j) + (-totRe (F := Ideal) (p N) (refBwd a b p q x y (zeroRow, zeroRow, zeroRow, zeroRow) N) j) * y N j : EReal) = _
    rw [hx, hy, zeroRow_at, mul_zero, mul_zero, add_zero, add_zero, h4]
end

section
variable (m : (ℓ : Loc Cert.KernelIdeal.nD Cert.KernelIdeal.τ Cert.KernelIdeal.sig) → Buf (Elt Ideal) ℓ) (ρ : Dev Cert.KernelIdeal.nD → PrngReg)
variable (m' : (ℓ : Loc nD τ sig) → Buf (Elt Ideal) ℓ)

/-- The two programs' memories hold the same arguments on device `c`. -/
structure Same (c : Dev nD) : Prop where
  a0 : (arg m' c main_arg0 : S4224x32x128.Idx → Elt Ideal .bf16) = m ((c : Thread Cert.KernelIdeal.nD Cert.KernelIdeal.τ).loc Cert.KernelIdeal.main_arg0)
  a1 : (arg m' c main_arg1 : S4224x32x128.Idx → Elt Ideal .bf16) = m ((c : Thread Cert.KernelIdeal.nD Cert.KernelIdeal.τ).loc Cert.KernelIdeal.main_arg1)
  a2 : (arg m' c main_arg2 : S32x128.Idx → Elt Ideal .f32) = m ((c : Thread Cert.KernelIdeal.nD Cert.KernelIdeal.τ).loc Cert.KernelIdeal.main_arg2)
  a3 : (arg m' c main_arg3 : S32x128.Idx → Elt Ideal .f32) = m ((c : Thread Cert.KernelIdeal.nD Cert.KernelIdeal.τ).loc Cert.KernelIdeal.main_arg3)
  a4 : (arg m' c main_arg4 : S4224x32x128.Idx → Elt Ideal .bf16) = m ((c : Thread Cert.KernelIdeal.nD Cert.KernelIdeal.τ).loc Cert.KernelIdeal.main_arg4)
  a5 : (arg m' c main_arg5 : S4224x32x128.Idx → Elt Ideal .bf16) = m ((c : Thread Cert.KernelIdeal.nD Cert.KernelIdeal.τ).loc Cert.KernelIdeal.main_arg5)
variable {m m'} {c : Dev nD} (h : Same m m' c)
include h
open Cert.KernelIdeal.Scan (V0 V1 W1_args W1_main_v0_0 W1_main_v0_1 fwdState bwdState stateRe stateIm rev gradReAll gradImAll argList)

theorem states_same (n : ℕ) : states m' c n = fwdState (V0 m ρ) c n := by
  unfold states fwdState
  rw [h.a0, h.a1, h.a2, h.a3]

theorem kernel_state (n : ℕ) : bwdState (V1 m ρ) c n = bwd (arg m' c main_arg2) (arg m' c main_arg3) (cotRe m' c) (cotIm m' c)
    (rev (stateRe (V0 m ρ) c)) (rev (stateIm (V0 m ρ) c)) zeroGrad n := by
  have e2 := W1_args m ρ c Cert.KernelIdeal.main_arg2 (by decide)
  have e3 := W1_args m ρ c Cert.KernelIdeal.main_arg3 (by decide)
  have e4 := W1_args m ρ c Cert.KernelIdeal.main_arg4 (by decide)
  have e5 := W1_args m ρ c Cert.KernelIdeal.main_arg5 (by decide)
  have er := W1_main_v0_0 m ρ c
  have ei := W1_main_v0_1 m ρ c
  unfold cotRe cotIm
  rw [h.a2, h.a3, h.a4, h.a5, ← e2, ← e3, ← e4, ← e5, ← er, ← ei]
  rfl

theorem kept_state (n : ℕ) (hn : n + 1 < 4224) : rev (stateRe (V0 m ρ) c) (n + 1) = truncf (F := Ideal) (s := S32x128) .bf16 ((states m' c (4223 - n)).1) bitsLt_bf16_f32
    ∧ rev (stateIm (V0 m ρ) c) (n + 1) = truncf (F := Ideal) (s := S32x128) .bf16 ((states m' c (4223 - n)).2) bitsLt_bf16_f32 := by
  rw [states_same ρ h]
  have e : 4223 - n = 4223 - (n + 1) + 1 := by omega
  rw [e]
  exact ⟨rowOf_stack _ _ (by omega), rowOf_stack _ _ (by omega)⟩

theorem carry_same (n : ℕ) (hn : n < 4224) : totRe (F := Ideal) (cotRe m' c n) (carried m' c n) = (bwdState (V1 m ρ) c (n + 1)).1
    ∧ totIm (F := Ideal) (cotIm m' c n) (carried m' c n) = (bwdState (V1 m ρ) c (n + 1)).2.1 := by
  rw [kernel_state ρ h]
  have k := carry_shift (arg m' c main_arg2) (arg m' c main_arg3) (cotRe m' c) (cotIm m' c) (rev (stateRe (V0 m ρ) c)) (rev (stateIm (V0 m ρ) c))
    (fun n => (states m' c (4223 - n)).1) (fun n => (states m' c (4223 - n)).2) 4224
    (fun n hn => (kept_state ρ h n hn).1) (fun n hn => (kept_state ρ h n hn).2) n hn
  exact ⟨k.1, k.2.1⟩

theorem sums_same : (carried m' c 4224).2.2.1 = (bwdState (V1 m ρ) c 4224).2.2.1 ∧ (carried m' c 4224).2.2.2 = (bwdState (V1 m ρ) c 4224).2.2.2 := by
  rw [kernel_state ρ h]
  exact carry_last (arg m' c main_arg2) (arg m' c main_arg3) (cotRe m' c) (cotIm m' c) (rev (stateRe (V0 m ρ) c)) (rev (stateIm (V0 m ρ) c))
    (fun n => (states m' c (4223 - n)).1) (fun n => (states m' c (4223 - n)).2) 4223
    (fun n hn => (kept_state ρ h n hn).1) (fun n hn => (kept_state ρ h n hn).2) rfl rfl

theorem grads_same : (done m' c (Proc.devRef .tc main_v14_11) : S4224x32x128.Idx → Elt Ideal .bf16) = gradReAll (V1 m ρ) c
    ∧ (done m' c (Proc.devRef .tc main_v14_12) : S4224x32x128.Idx → Elt Ideal .bf16) = gradImAll (V1 m ρ) c := by
  rw [done_v14_11, done_v14_12]
  constructor
  · funext y
    have hy := (y 0).isLt
    show truncf (F := Ideal) (s := S32x128) .bf16 (totRe (F := Ideal) (cotRe m' c (4223 - (y 0).val)) (carried m' c (4223 - (y 0).val))) bitsLt_bf16_f32 (ValueIdx.ix2 (y 1) (y 2)) = _
    rw [(carry_same ρ h (4223 - (y 0).val) (by omega)).1]
    rfl
  · funext y
    have hy := (y 0).isLt
    show truncf (F := Ideal) (s := S32x128) .bf16 (totIm (F := Ideal) (cotIm m' c (4223 - (y 0).val)) (carried m' c (4223 - (y 0).val))) bitsLt_bf16_f32 (ValueIdx.ix2 (y 1) (y 2)) = _
    rw [(carry_same ρ h (4223 - (y 0).val) (by omega)).2]
    rfl
end
end Cert.ReferenceIdeal.Scan
end
-- ==== Proof.SameText.lean ====
module

public import proofs.«01_k».proof.Proof.ScanRun
public import proofs.«01_k».proof.Proof.Gen.Kernel
@[expose] public section

/-! # The kernel and its idealization are one text

No operation was rewritten, so the two programs' bodies are the same functions, and a run of one is a run of the other. -/

set_option maxRecDepth 100000

noncomputable section
namespace Cert.Proof
open Idealize.ShloMosaic Idealize.ShloMosaic.TcCoe Idealize.SL.Sem
variable {F : FTy → Type} [FloatOps F]

theorem scan_text : @Cert.Kernel.cc0_ssm_scan F _ _ = @Cert.KernelIdeal.cc0_ssm_scan F _ _ := rfl
theorem rscan_text : @Cert.Kernel.cc1_ssm_rscan F _ _ = @Cert.KernelIdeal.cc1_ssm_rscan F _ _ := rfl
seal Cert.Kernel.cc0_ssm_scan Cert.KernelIdeal.cc0_ssm_scan Cert.Kernel.cc1_ssm_rscan Cert.KernelIdeal.cc1_ssm_rscan in
set_option maxHeartbeats 2000000 in
theorem kernels_text : Cert.Kernel.defs₀ (F := F) = Cert.KernelIdeal.defs₀ (F := F) := congrArg Defs.onTc (by
  funext l a
  match l, a with
  | ⟨0, _⟩, (t, s) => exact (congrFun (congrFun (congrFun (congrFun (congrFun (congrFun (congrFun (congrFun (congrFun (congrFun (congrFun (congrFun (congrFun (congrFun (congrFun scan_text _) _) _) _) _) _) _) _) _) _) _) _) _) _) _)
  | ⟨1, _⟩, (t, s) => exact (congrFun (congrFun (congrFun (congrFun (congrFun (congrFun (congrFun (congrFun (congrFun (congrFun (congrFun (congrFun (congrFun (congrFun (congrFun (congrFun (congrFun (congrFun (congrFun (congrFun (congrFun (congrFun (congrFun rscan_text _) _) _) _) _) _) _) _) _) _) _) _) _) _) _) _) _) _) _) _) _) _) _)
  | ⟨_ + 2, h⟩, _ => exact absurd h (Nat.not_lt.2 (Nat.le_add_left _ _)))
theorem defs_text : Cert.Kernel.defs (F := F) = Cert.KernelIdeal.defs (F := F) :=
  congrArg (Pipeline.defs (Cert.KernelIdeal.pcfgs (F := F))) kernels_text
theorem main_text : Cert.Kernel.main (F := F) = Cert.KernelIdeal.main (F := F) := rfl
end Cert.Proof
end
-- ==== Proof.lean ====
module

public import proofs.«01_k».proof.Defs
public import proofs.«01_k».proof.Proof.Gen.Kernel
public import proofs.«01_k».proof.Proof.Gen.KernelIdeal
public import proofs.«01_k».proof.Proof.Gen.KernelIdeal.Launch
public import proofs.«01_k».proof.Proof.Gen.KernelIdeal.Loops
public import proofs.«01_k».proof.Proof.Gen.KernelIdeal.Points
public import proofs.«01_k».proof.Proof.Gen.KernelIdeal.Regions
public import proofs.«01_k».proof.Proof.Gen.KernelIdeal.Skeleton
public import proofs.«01_k».proof.Proof.Gen.ReferenceIdeal
public import proofs.«01_k».proof.Proof.Gen.FfnIn.Frame
public import proofs.«01_k».proof.Proof.FfnInValue
public import proofs.«01_k».proof.Proof.Gen.FfnOut.Frame
public import proofs.«01_k».proof.Proof.FfnOutValue
public import proofs.«01_k».proof.Proof.Gen.FfnDa.Frame
public import proofs.«01_k».proof.Proof.FfnDaValue
public import proofs.«01_k».proof.Proof.Gen.FfnDwout.Frame
public import proofs.«01_k».proof.Proof.FfnDwoutValue
public import proofs.«01_k».proof.Proof.Gen.FfnDf.Frame
public import proofs.«01_k».proof.Proof.FfnDfValue
public import proofs.«01_k».proof.Proof.Gen.FfnDwin.Frame
public import proofs.«01_k».proof.Proof.FfnDwinValue
public import proofs.«01_k».proof.Proof.Gen.Glu.Frame
public import proofs.«01_k».proof.Proof.GluValue
public import proofs.«01_k».proof.Proof.Gen.GluDz.Frame
public import proofs.«01_k».proof.Proof.GluDzValue
public import proofs.«01_k».proof.Proof.Gen.GluDw.Frame
public import proofs.«01_k».proof.Proof.GluDwValue
public import proofs.«01_k».proof.Proof.Gen.AttnKv.Frame
public import proofs.«01_k».proof.Proof.AttnKvValue
public import proofs.«01_k».proof.Proof.Gen.AttnQ.Frame
public import proofs.«01_k».proof.Proof.AttnQValue
public import proofs.«01_k».proof.Proof.Gen.AttnKvt.Frame
public import proofs.«01_k».proof.Proof.AttnKvtValue
public import proofs.«01_k».proof.Proof.Gen.AttnO.Frame
public import proofs.«01_k».proof.Proof.AttnOValue
public import proofs.«01_k».proof.Proof.Gen.AttnDo.Frame
public import proofs.«01_k».proof.Proof.AttnDoValue
public import proofs.«01_k».proof.Proof.Gen.AttnDwo.Frame
public import proofs.«01_k».proof.Proof.AttnDwoValue
public import proofs.«01_k».proof.Proof.Gen.AttnDqn.Frame
public import proofs.«01_k».proof.Proof.AttnDqnValue
public import proofs.«01_k».proof.Proof.Gen.AttnDwq.Frame
public import proofs.«01_k».proof.Proof.AttnDwqValue
public import proofs.«01_k».proof.Proof.Gen.AttnDkvn.Frame
public import proofs.«01_k».proof.Proof.AttnDkvnValue
public import proofs.«01_k».proof.Proof.Gen.AttnDwk.Frame
public import proofs.«01_k».proof.Proof.AttnDwkValue
public import proofs.«01_k».proof.Proof.Gen.AdamGlu.Frame
public import proofs.«01_k».proof.Proof.AdamGluValue
public import proofs.«01_k».proof.Proof.Gen.AdamQ.Frame
public import proofs.«01_k».proof.Proof.AdamQValue
public import proofs.«01_k».proof.Proof.Gen.AdamFfnIn.Frame
public import proofs.«01_k».proof.Proof.AdamFfnInValue
public import proofs.«01_k».proof.Proof.Gen.AdamFfnOut.Frame
public import proofs.«01_k».proof.Proof.AdamFfnOutValue
public import proofs.«01_k».proof.Proof.Gen.AdamSmall.Frame
public import proofs.«01_k».proof.Proof.AdamSmallValue
public import proofs.«01_k».proof.Proof.Gen.AdamCols.Frame
public import proofs.«01_k».proof.Proof.AdamColsValue
public import proofs.«01_k».proof.Proof.Gen.Norm.Frame
public import proofs.«01_k».proof.Proof.NormValue
public import proofs.«01_k».proof.Proof.Gen.NormBwd.Frame
public import proofs.«01_k».proof.Proof.NormBwdValue
public import proofs.«01_k».proof.Proof.Gen.Loss.Frame
public import proofs.«01_k».proof.Proof.LossValue
public import proofs.«01_k».proof.Proof.Gen.GluGates.Frame
public import proofs.«01_k».proof.Proof.GluGatesValue
public import proofs.«01_k».proof.Proof.Gen.Gelu.Frame
public import proofs.«01_k».proof.Proof.GeluValue
public import proofs.«01_k».proof.Proof.Gen.GeluBwd.Frame
public import proofs.«01_k».proof.Proof.GeluBwdValue
public import proofs.«01_k».proof.Proof.Gen.BProd.Frame
public import proofs.«01_k».proof.Proof.BProdValue
public import proofs.«01_k».proof.Proof.Gen.CProd.Frame
public import proofs.«01_k».proof.Proof.CProdValue
public import proofs.«01_k».proof.Proof.Gen.CGrad.Frame
public import proofs.«01_k».proof.Proof.CGradValue
public import proofs.«01_k».proof.Proof.Gen.BGrad.Frame
public import proofs.«01_k».proof.Proof.BGradValue
public import proofs.«01_k».proof.Proof.Gen.Pre_finite
public import proofs.«01_k».proof.Proof.Gen.Pre_finite_dz
public import proofs.«01_k».proof.Proof.Gen.Pre_finite_imag
public import proofs.«01_k».proof.Proof.ScanEqual
public import proofs.«01_k».proof.Proof.SameText
public import Idealize.ShloMosaic.Adequacy
public import Idealize.ShloMosaic.Init

@[expose] public section

noncomputable section

namespace Cert.Proof

open Idealize.ShloMosaic Idealize.ShloMosaic.TcCoe Idealize.SL.Sem

/-! ## The scan gradient -/

section Kernel
open Cert.KernelIdeal
variable {F : FTy → Type} [FloatOps F] (m : (ℓ : Loc nD τ sig) → Buf (Elt F) ℓ) (g : Dev nD → PrngReg)

theorem scan_kernel : θ_run (defs (F := F)) (onTc (τ := τ) (main (F := F))) ⟨m, fun _ => 0, g⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := F)) (onTc (τ := τ) (main (F := F))) ⟨m, fun _ => 0, g⟩).mono (fun r hh => ⟨fun c => by
    have hr := hh.1
    exact ⟨(hr c _ (Scan.mem_uc main_arg0 (by decide))).trans (Scan.W2_args m g c main_arg0 (by decide)),
      (hr c _ (Scan.mem_uc main_arg1 (by decide))).trans (Scan.W2_args m g c main_arg1 (by decide)),
      (hr c _ (Scan.mem_uc main_arg2 (by decide))).trans (Scan.W2_args m g c main_arg2 (by decide)),
      (hr c _ (Scan.mem_uc main_arg3 (by decide))).trans (Scan.W2_args m g c main_arg3 (by decide)),
      (hr c _ (Scan.mem_uc main_arg4 (by decide))).trans (Scan.W2_args m g c main_arg4 (by decide)),
      (hr c _ (Scan.mem_uc main_arg5 (by decide))).trans (Scan.W2_args m g c main_arg5 (by decide))⟩, hh.2⟩) (Scan.run_all m g)
end Kernel

section Reference
open Cert.ReferenceIdeal
variable (m : (ℓ : Loc nD τ sig) → Buf (Elt Ideal) ℓ) (g : Dev nD → PrngReg)

theorem ref_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem scan_reference : θ_run (defs (F := Ideal)) (onTc (τ := τ) (main (F := Ideal))) ⟨m, fun _ => 0, g⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := Ideal)) (onTc (τ := τ) (main (F := Ideal))) ⟨m, fun _ => 0, g⟩).mono (fun r hh => ⟨fun c => by
    have hr := hh.1
    exact ⟨(hr c _ (ref_mem main_arg0 (by decide))).trans (Scan.done_arg0 m c),
      (hr c _ (ref_mem main_arg1 (by decide))).trans (Scan.done_arg1 m c),
      (hr c _ (ref_mem main_arg2 (by decide))).trans (Scan.done_arg2 m c),
      (hr c _ (ref_mem main_arg3 (by decide))).trans (Scan.done_arg3 m c),
      (hr c _ (ref_mem main_arg4 (by decide))).trans (Scan.done_arg4 m c),
      (hr c _ (ref_mem main_arg5 (by decide))).trans (Scan.done_arg5 m c)⟩, hh.2⟩) (Scan.run_all m g)
end Reference

theorem scan_algebraic : Cert.algebraic_KernelIdeal_ReferenceIdeal := by
  intro m g m' g' _ same
  have hs : ∀ c, Cert.ReferenceIdeal.Scan.Same m m' c := fun c => ⟨(same c).1, (same c).2.1, (same c).2.2.1, (same c).2.2.2.1, (same c).2.2.2.2.1, (same c).2.2.2.2.2⟩
  refine ⟨fun c => Cert.KernelIdeal.Scan.gradReAll (Cert.KernelIdeal.Scan.V1 m g) c, fun c => Cert.KernelIdeal.Scan.gradImAll (Cert.KernelIdeal.Scan.V1 m g) c,
    fun c => (Cert.KernelIdeal.Scan.bwdState (Cert.KernelIdeal.Scan.V1 m g) c 4224).2.2.1, fun c => (Cert.KernelIdeal.Scan.bwdState (Cert.KernelIdeal.Scan.V1 m g) c 4224).2.2.2, ?_, ?_⟩
  · open Cert.KernelIdeal in
    refine (θ_run (defs (F := Ideal)) (onTc (τ := τ) (main (F := Ideal))) ⟨m, fun _ => 0, g⟩).mono (fun r hh c => ?_) (Scan.run_all m g)
    have hr := hh.1
    exact ⟨
      (hr c _ (Scan.mem_uc main_v1_0 (by decide))).trans (Scan.W2_main_v1_0 m g c),
      (hr c _ (Scan.mem_uc main_v1_1 (by decide))).trans (Scan.W2_main_v1_1 m g c),
      (hr c _ (Scan.mem_uc main_v1_2 (by decide))).trans (Scan.W2_main_v1_2 m g c),
      (hr c _ (Scan.mem_uc main_v1_3 (by decide))).trans (Scan.W2_main_v1_3 m g c),
      (hr c _ (Scan.mem_uc main_arg0 (by decide))).trans (Scan.W2_args m g c main_arg0 (by decide)),
      (hr c _ (Scan.mem_uc main_arg1 (by decide))).trans (Scan.W2_args m g c main_arg1 (by decide)),
      (hr c _ (Scan.mem_uc main_arg2 (by decide))).trans (Scan.W2_args m g c main_arg2 (by decide)),
      (hr c _ (Scan.mem_uc main_arg3 (by decide))).trans (Scan.W2_args m g c main_arg3 (by decide)),
      (hr c _ (Scan.mem_uc main_arg4 (by decide))).trans (Scan.W2_args m g c main_arg4 (by decide)),
      (hr c _ (Scan.mem_uc main_arg5 (by decide))).trans (Scan.W2_args m g c main_arg5 (by decide))⟩
  · open Cert.ReferenceIdeal in
    refine (θ_run (defs (F := Ideal)) (onTc (τ := τ) (main (F := Ideal))) ⟨m', fun _ => 0, g'⟩).mono (fun r hh c => ?_) (Scan.run_all m' g')
    have hr := hh.1
    exact ⟨
      (hr c _ (ref_mem main_v14_11 (by decide))).trans (Scan.grads_same g (hs c)).1,
      (hr c _ (ref_mem main_v14_12 (by decide))).trans (Scan.grads_same g (hs c)).2,
      (hr c _ (ref_mem main_v14_7 (by decide))).trans ((Scan.done_v14_7 m' c).trans (Scan.sums_same g (hs c)).1),
      (hr c _ (ref_mem main_v14_8 (by decide))).trans ((Scan.done_v14_8 m' c).trans (Scan.sums_same g (hs c)).2),
      (hr c _ (ref_mem main_arg0 (by decide))).trans (Scan.done_arg0 m' c),
      (hr c _ (ref_mem main_arg1 (by decide))).trans (Scan.done_arg1 m' c),
      (hr c _ (ref_mem main_arg2 (by decide))).trans (Scan.done_arg2 m' c),
      (hr c _ (ref_mem main_arg3 (by decide))).trans (Scan.done_arg3 m' c),
      (hr c _ (ref_mem main_arg4 (by decide))).trans (Scan.done_arg4 m' c),
      (hr c _ (ref_mem main_arg5 (by decide))).trans (Scan.done_arg5 m' c)⟩

theorem scan_frame : Cert.quiescent_Kernel := fun m g _ => by
  have h := scan_kernel (F := Bits) m g
  rw [← defs_text, ← main_text] at h
  exact h

/-! ## The calls that are one product each -/

theorem claim : Cert.Claim := ⟨Cert.Kernel.Gen.facts, Cert.KernelIdeal.Gen.facts, Cert.ReferenceIdeal.Gen.facts, FfnIn.Gen.facts, FfnInIdeal.Gen.facts, RefFfnInIdeal.Gen.facts, FfnOut.Gen.facts, FfnOutIdeal.Gen.facts, RefFfnOutIdeal.Gen.facts, FfnDa.Gen.facts, FfnDaIdeal.Gen.facts, RefFfnDaIdeal.Gen.facts, FfnDwout.Gen.facts, FfnDwoutIdeal.Gen.facts, RefFfnDwoutIdeal.Gen.facts, FfnDf.Gen.facts, FfnDfIdeal.Gen.facts, RefFfnDfIdeal.Gen.facts, FfnDwin.Gen.facts, FfnDwinIdeal.Gen.facts, RefFfnDwinIdeal.Gen.facts, Glu.Gen.facts, GluIdeal.Gen.facts, RefGluIdeal.Gen.facts, GluDz.Gen.facts, GluDzIdeal.Gen.facts, RefGluDzIdeal.Gen.facts, GluDw.Gen.facts, GluDwIdeal.Gen.facts, RefGluDwIdeal.Gen.facts, AttnKv.Gen.facts, AttnKvIdeal.Gen.facts, RefAttnKvIdeal.Gen.facts, AttnQ.Gen.facts, AttnQIdeal.Gen.facts, RefAttnQIdeal.Gen.facts, AttnKvt.Gen.facts, AttnKvtIdeal.Gen.facts, RefAttnKvtIdeal.Gen.facts, AttnO.Gen.facts, AttnOIdeal.Gen.facts, RefAttnOIdeal.Gen.facts, AttnDo.Gen.facts, AttnDoIdeal.Gen.facts, RefAttnDoIdeal.Gen.facts, AttnDwo.Gen.facts, AttnDwoIdeal.Gen.facts, RefAttnDwoIdeal.Gen.facts, AttnDqn.Gen.facts, AttnDqnIdeal.Gen.facts, RefAttnDqnIdeal.Gen.facts, AttnDwq.Gen.facts, AttnDwqIdeal.Gen.facts, RefAttnDwqIdeal.Gen.facts, AttnDkvn.Gen.facts, AttnDkvnIdeal.Gen.facts, RefAttnDkvnIdeal.Gen.facts, AttnDwk.Gen.facts, AttnDwkIdeal.Gen.facts, RefAttnDwkIdeal.Gen.facts, AdamGlu.Gen.facts, AdamGluIdeal.Gen.facts, RefAdamGluIdeal.Gen.facts, AdamQ.Gen.facts, AdamQIdeal.Gen.facts, RefAdamQIdeal.Gen.facts, AdamFfnIn.Gen.facts, AdamFfnInIdeal.Gen.facts, RefAdamFfnInIdeal.Gen.facts, AdamFfnOut.Gen.facts, AdamFfnOutIdeal.Gen.facts, RefAdamFfnOutIdeal.Gen.facts, AdamSmall.Gen.facts, AdamSmallIdeal.Gen.facts, RefAdamSmallIdeal.Gen.facts, AdamCols.Gen.facts, AdamColsIdeal.Gen.facts, RefAdamColsIdeal.Gen.facts, Norm.Gen.facts, NormIdeal.Gen.facts, RefNormIdeal.Gen.facts, NormBwd.Gen.facts, NormBwdIdeal.Gen.facts, RefNormBwdIdeal.Gen.facts, Loss.Gen.facts, LossIdeal.Gen.facts, RefLossIdeal.Gen.facts, GluGates.Gen.facts, GluGatesIdeal.Gen.facts, RefGluGatesIdeal.Gen.facts, Gelu.Gen.facts, GeluIdeal.Gen.facts, RefGeluIdeal.Gen.facts, GeluBwd.Gen.facts, GeluBwdIdeal.Gen.facts, RefGeluBwdIdeal.Gen.facts, BProd.Gen.facts, BProdIdeal.Gen.facts, RefBProdIdeal.Gen.facts, CProd.Gen.facts, CProdIdeal.Gen.facts, RefCProdIdeal.Gen.facts, CGrad.Gen.facts, CGradIdeal.Gen.facts, RefCGradIdeal.Gen.facts, BGrad.Gen.facts, BGradIdeal.Gen.facts, RefBGradIdeal.Gen.facts, Cert.Pre_finite.Gen.facts, Cert.Pre_finite_dz.Gen.facts, Cert.Pre_finite_imag.Gen.facts,
scan_frame,
fun m g _ => scan_kernel (F := Ideal) m g,
fun m g _ => scan_reference m g,
fun m g _ => FfnIn.Gen.frame m g,
fun m g _ => FfnInIdeal.Gen.frame m g,
fun m g _ => (θ_run _ _ _).mono (fun r h => ⟨fun c => (h c).2.2.2, sem_eq_zero_of_no_sems (by decide) r.2⟩)
 (RefFfnInIdeal.Value.run m g),
fun m g _ => FfnOut.Gen.frame m g,
fun m g _ => FfnOutIdeal.Gen.frame m g,
fun m g _ => (θ_run _ _ _).mono (fun r h => ⟨fun c => (h c).2, sem_eq_zero_of_no_sems (by decide) r.2⟩)
 (RefFfnOutIdeal.Value.run m g),
fun m g _ => FfnDa.Gen.frame m g,
fun m g _ => FfnDaIdeal.Gen.frame m g,
fun m g _ => FfnDaIdeal.Gen.frame m g,
fun m g _ => (θ_run _ _ _).mono (fun r h => ⟨fun c => (h c).2.2, sem_eq_zero_of_no_sems (by decide) r.2⟩)
 (RefFfnDaIdeal.Value.run m g),
fun m g _ => (θ_run _ _ _).mono (fun r h => ⟨fun c => (h c).2.2, sem_eq_zero_of_no_sems (by decide) r.2⟩)
 (RefFfnDaIdeal.Value.run m g),
fun m g _ => FfnDwout.Gen.frame m g,
fun m g _ => FfnDwoutIdeal.Gen.frame m g,
fun m g _ => (θ_run _ _ _).mono (fun r h => ⟨fun c => (h c).2, sem_eq_zero_of_no_sems (by decide) r.2⟩)
 (RefFfnDwoutIdeal.Value.run m g),
fun m g _ => FfnDf.Gen.frame m g,
fun m g _ => FfnDfIdeal.Gen.frame m g,
fun m g _ => (θ_run _ _ _).mono (fun r h => ⟨fun c => (h c).2, sem_eq_zero_of_no_sems (by decide) r.2⟩)
 (RefFfnDfIdeal.Value.run m g),
fun m g _ => FfnDwin.Gen.frame m g,
fun m g _ => FfnDwinIdeal.Gen.frame m g,
fun m g _ => (θ_run _ _ _).mono (fun r h => ⟨fun c => (h c).2, sem_eq_zero_of_no_sems (by decide) r.2⟩)
 (RefFfnDwinIdeal.Value.run m g),
fun m g _ => Glu.Gen.frame m g,
fun m g _ => GluIdeal.Gen.frame m g,
fun m g _ => (θ_run _ _ _).mono (fun r h => ⟨fun c => (h c).2.2.2, sem_eq_zero_of_no_sems (by decide) r.2⟩)
 (RefGluIdeal.Value.run m g),
fun m g _ => GluDz.Gen.frame m g,
fun m g _ => GluDzIdeal.Gen.frame m g,
fun m g _ => (θ_run _ _ _).mono (fun r h => ⟨fun c => (h c).2, sem_eq_zero_of_no_sems (by decide) r.2⟩)
 (RefGluDzIdeal.Value.run m g),
fun m g _ => GluDw.Gen.frame m g,
fun m g _ => GluDwIdeal.Gen.frame m g,
fun m g _ => (θ_run _ _ _).mono (fun r h => ⟨fun c => (h c).2, sem_eq_zero_of_no_sems (by decide) r.2⟩)
 (RefGluDwIdeal.Value.run m g),
fun m g _ => AttnKv.Gen.frame m g,
fun m g _ => AttnKvIdeal.Gen.frame m g,
fun m g _ => (θ_run _ _ _).mono (fun r h => ⟨fun c => (h c).2.2, sem_eq_zero_of_no_sems (by decide) r.2⟩)
 (RefAttnKvIdeal.Value.run m g),
fun m g _ => AttnQ.Gen.frame m g,
fun m g _ => AttnQIdeal.Gen.frame m g,
fun m g _ => (θ_run _ _ _).mono (fun r h => ⟨fun c => (h c).2, sem_eq_zero_of_no_sems (by decide) r.2⟩)
 (RefAttnQIdeal.Value.run m g),
fun m g _ => AttnKvt.Gen.frame m g,
fun m g _ => AttnKvtIdeal.Gen.frame m g,
fun m g _ => (θ_run _ _ _).mono (fun r h => ⟨fun c => (h c).2.2, sem_eq_zero_of_no_sems (by decide) r.2⟩)
 (RefAttnKvtIdeal.Value.run m g),
fun m g _ => AttnO.Gen.frame m g,
fun m g _ => AttnOIdeal.Gen.frame m g,
fun m g _ => (θ_run _ _ _).mono (fun r h => ⟨fun c => (h c).2, sem_eq_zero_of_no_sems (by decide) r.2⟩)
 (RefAttnOIdeal.Value.run m g),
fun m g _ => AttnDo.Gen.frame m g,
fun m g _ => AttnDoIdeal.Gen.frame m g,
fun m g _ => (θ_run _ _ _).mono (fun r h => ⟨fun c => (h c).2, sem_eq_zero_of_no_sems (by decide) r.2⟩)
 (RefAttnDoIdeal.Value.run m g),
fun m g _ => AttnDwo.Gen.frame m g,
fun m g _ => AttnDwoIdeal.Gen.frame m g,
fun m g _ => (θ_run _ _ _).mono (fun r h => ⟨fun c => (h c).2, sem_eq_zero_of_no_sems (by decide) r.2⟩)
 (RefAttnDwoIdeal.Value.run m g),
fun m g _ => AttnDqn.Gen.frame m g,
fun m g _ => AttnDqnIdeal.Gen.frame m g,
fun m g _ => (θ_run _ _ _).mono (fun r h => ⟨fun c => (h c).2, sem_eq_zero_of_no_sems (by decide) r.2⟩)
 (RefAttnDqnIdeal.Value.run m g),
fun m g _ => AttnDwq.Gen.frame m g,
fun m g _ => AttnDwqIdeal.Gen.frame m g,
fun m g _ => (θ_run _ _ _).mono (fun r h => ⟨fun c => (h c).2, sem_eq_zero_of_no_sems (by decide) r.2⟩)
 (RefAttnDwqIdeal.Value.run m g),
fun m g _ => AttnDkvn.Gen.frame m g,
fun m g _ => AttnDkvnIdeal.Gen.frame m g,
fun m g _ => (θ_run _ _ _).mono (fun r h => ⟨fun c => (h c).2, sem_eq_zero_of_no_sems (by decide) r.2⟩)
 (RefAttnDkvnIdeal.Value.run m g),
fun m g _ => AttnDwk.Gen.frame m g,
fun m g _ => AttnDwkIdeal.Gen.frame m g,
fun m g _ => (θ_run _ _ _).mono (fun r h => ⟨fun c => (h c).2, sem_eq_zero_of_no_sems (by decide) r.2⟩)
 (RefAttnDwkIdeal.Value.run m g),
fun m g _ => AdamGlu.Gen.frame m g,
fun m g _ => AdamGluIdeal.Gen.frame m g,
fun m g _ => (θ_run _ _ _).mono (fun r h => ⟨fun c => (h c).2.2.2.2, sem_eq_zero_of_no_sems (by decide) r.2⟩)
 (RefAdamGluIdeal.Value.run m g),
fun m g _ => AdamQ.Gen.frame m g,
fun m g _ => AdamQIdeal.Gen.frame m g,
fun m g _ => (θ_run _ _ _).mono (fun r h => ⟨fun c => (h c).2.2.2.2, sem_eq_zero_of_no_sems (by decide) r.2⟩)
 (RefAdamQIdeal.Value.run m g),
fun m g _ => AdamFfnIn.Gen.frame m g,
fun m g _ => AdamFfnInIdeal.Gen.frame m g,
fun m g _ => (θ_run _ _ _).mono (fun r h => ⟨fun c => (h c).2.2.2.2, sem_eq_zero_of_no_sems (by decide) r.2⟩)
 (RefAdamFfnInIdeal.Value.run m g),
fun m g _ => AdamFfnOut.Gen.frame m g,
fun m g _ => AdamFfnOutIdeal.Gen.frame m g,
fun m g _ => (θ_run _ _ _).mono (fun r h => ⟨fun c => (h c).2.2.2.2, sem_eq_zero_of_no_sems (by decide) r.2⟩)
 (RefAdamFfnOutIdeal.Value.run m g),
fun m g _ => AdamSmall.Gen.frame m g,
fun m g _ => AdamSmallIdeal.Gen.frame m g,
fun m g _ => (θ_run _ _ _).mono (fun r h => ⟨fun c => (h c).2.2.2.2, sem_eq_zero_of_no_sems (by decide) r.2⟩)
 (RefAdamSmallIdeal.Value.run m g),
fun m g _ => AdamCols.Gen.frame m g,
fun m g _ => AdamColsIdeal.Gen.frame m g,
fun m g _ => (θ_run _ _ _).mono (fun r h => ⟨fun c => (h c).2.2.2, sem_eq_zero_of_no_sems (by decide) r.2⟩)
 (RefAdamColsIdeal.Value.run m g),
fun m g _ => Norm.Gen.frame m g,
fun m g _ => NormIdeal.Gen.frame m g,
fun m g _ => (θ_run _ _ _).mono (fun r h => ⟨fun c => (h c).2, sem_eq_zero_of_no_sems (by decide) r.2⟩)
 (RefNormIdeal.Value.run m g),
fun m g _ => NormBwd.Gen.frame m g,
fun m g _ => NormBwdIdeal.Gen.frame m g,
fun m g _ => (θ_run _ _ _).mono (fun r h => ⟨fun c => (h c).2.2, sem_eq_zero_of_no_sems (by decide) r.2⟩)
 (RefNormBwdIdeal.Value.run m g),
fun m g _ => Loss.Gen.frame m g,
fun m g _ => LossIdeal.Gen.frame m g,
fun m g _ => (θ_run _ _ _).mono (fun r h => ⟨fun c => (h c).2.2.2, sem_eq_zero_of_no_sems (by decide) r.2⟩)
 (RefLossIdeal.Value.run m g),
fun m g _ => GluGates.Gen.frame m g,
fun m g _ => GluGatesIdeal.Gen.frame m g,
fun m g _ => (θ_run _ _ _).mono (fun r h => ⟨fun c => (h c).2.2, sem_eq_zero_of_no_sems (by decide) r.2⟩)
 (RefGluGatesIdeal.Value.run m g),
fun m g _ => Gelu.Gen.frame m g,
fun m g _ => GeluIdeal.Gen.frame m g,
fun m g _ => (θ_run _ _ _).mono (fun r h => ⟨fun c => (h c).2, sem_eq_zero_of_no_sems (by decide) r.2⟩)
 (RefGeluIdeal.Value.run m g),
fun m g _ => GeluBwd.Gen.frame m g,
fun m g _ => GeluBwdIdeal.Gen.frame m g,
fun m g _ => GeluBwdIdeal.Gen.frame m g,
fun m g _ => (θ_run _ _ _).mono (fun r h => ⟨fun c => (h c).2.2.2, sem_eq_zero_of_no_sems (by decide) r.2⟩)
 (RefGeluBwdIdeal.Value.run m g),
fun m g _ => (θ_run _ _ _).mono (fun r h => ⟨fun c => (h c).2.2.2, sem_eq_zero_of_no_sems (by decide) r.2⟩)
 (RefGeluBwdIdeal.Value.run m g),
fun m g _ => BProd.Gen.frame m g,
fun m g _ => BProdIdeal.Gen.frame m g,
fun m g _ => (θ_run _ _ _).mono (fun r h => ⟨fun c => (h c).2.2, sem_eq_zero_of_no_sems (by decide) r.2⟩)
 (RefBProdIdeal.Value.run m g),
fun m g _ => CProd.Gen.frame m g,
fun m g _ => CProdIdeal.Gen.frame m g,
fun m g _ => CProdIdeal.Gen.frame m g,
fun m g _ => (θ_run _ _ _).mono (fun r h => ⟨fun c => (h c).2, sem_eq_zero_of_no_sems (by decide) r.2⟩)
 (RefCProdIdeal.Value.run m g),
fun m g _ => (θ_run _ _ _).mono (fun r h => ⟨fun c => (h c).2, sem_eq_zero_of_no_sems (by decide) r.2⟩)
 (RefCProdIdeal.Value.run m g),
fun m g _ => CGrad.Gen.frame m g,
fun m g _ => CGradIdeal.Gen.frame m g,
fun m g _ => (θ_run _ _ _).mono (fun r h => ⟨fun c => (h c).2.2, sem_eq_zero_of_no_sems (by decide) r.2⟩)
 (RefCGradIdeal.Value.run m g),
fun m g _ => BGrad.Gen.frame m g,
fun m g _ => BGradIdeal.Gen.frame m g,
fun m g _ => (θ_run _ _ _).mono (fun r h => ⟨fun c => (h c).2, sem_eq_zero_of_no_sems (by decide) r.2⟩)
 (RefBGradIdeal.Value.run m g),
trivial,
scan_algebraic,
trivial,
FfnIn.agree,
trivial,
FfnOut.agree,
trivial,
FfnDa.agree,
trivial,
FfnDwout.agree,
trivial,
FfnDf.agree,
trivial,
FfnDwin.agree,
trivial,
Glu.agree,
trivial,
GluDz.agree,
trivial,
GluDw.agree,
trivial,
AttnKv.agree,
trivial,
AttnQ.agree,
trivial,
AttnKvt.agree,
trivial,
AttnO.agree,
trivial,
AttnDo.agree,
trivial,
AttnDwo.agree,
trivial,
AttnDqn.agree,
trivial,
AttnDwq.agree,
trivial,
AttnDkvn.agree,
trivial,
AttnDwk.agree,
trivial,
AdamGlu.agree,
trivial,
AdamQ.agree,
trivial,
AdamFfnIn.agree,
trivial,
AdamFfnOut.agree,
trivial,
AdamSmall.agree,
trivial,
AdamCols.agree,
trivial,
Norm.agree,
trivial,
NormBwd.agree,
trivial,
Loss.agree,
trivial,
GluGates.agree,
trivial,
Gelu.agree,
GeluBwd.named,
GeluBwd.agree,
trivial,
BProd.agree,
trivial,
CProd.agree,
trivial,
CGrad.agree,
trivial,
BGrad.agree⟩
end Cert.Proof
